-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S3536x2x128 Cert.KernelIdeal.S3536x1x128
  ∧ IdealRules.bf16_pair.BufferStatement Cert.KernelIdeal.S128x2x128 Cert.KernelIdeal.S128x1x128
  ∧ IdealRules.bf16_pair.Statement Cert.KernelIdeal.S8x2x128 Cert.KernelIdeal.S8x1x128
  ∧ IdealRules.bf16_pair.SelectZeroStatement Cert.KernelIdeal.S8x128
  ∧ IdealRules.bf16_pair.Statement Cert.KernelIdeal.S256x128 Cert.KernelIdeal.S128x128
  ∧ IdealRules.bf16_pair.Statement Cert.KernelIdeal.S128x2x128 Cert.KernelIdeal.S128x1x128
  ∧ IdealRules.bf16_pair.Statement Cert.KernelIdeal.S26x2x128 Cert.KernelIdeal.S26x1x128
  ∧ IdealRules.bf16_pair.Statement Cert.KernelIdeal.S52x128 Cert.KernelIdeal.S26x128

def algebraic_KernelIdeal_ReferenceIdeal_on_past_starts [hKernelIdeal : Cert.KernelIdeal.Facts] [hReferenceIdeal : Cert.ReferenceIdeal.Facts] [hOn_past_starts : Cert.On_past_starts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![32768, 3328]⟩ : Shape).Idx, (Cert.On_past_starts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v3_0) i = v0 c i)
          ∧ (∀ i : (⟨3, ![128, 1, 256]⟩ : Shape).Idx, (Cert.On_past_starts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v3_1) i = v1 c i)
          ∧ (∀ i : (⟨3, ![24, 3, 3328]⟩ : Shape).Idx, (Cert.On_past_starts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.KernelIdeal.nD Cert.KernelIdeal.τ).loc Cert.KernelIdeal.main_v6) i = v2 c i)
          ∧ (∀ i : (⟨3, ![24, 3328, 3]⟩ : Shape).Idx, (Cert.On_past_starts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 i = 1#1 → r.2.mem ((c.tc : Thread Cert.KernelIdeal.nD Cert.KernelIdeal.τ).loc Cert.KernelIdeal.main_v7) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![32768, 3328]⟩ : Shape).Idx, (Cert.On_past_starts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v1_0) i = v0 c i)
          ∧ (∀ i : (⟨3, ![128, 1, 256]⟩ : Shape).Idx, (Cert.On_past_starts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v32) i = v1 c i)
          ∧ (∀ i : (⟨3, ![24, 3, 3328]⟩ : Shape).Idx, (Cert.On_past_starts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.ReferenceIdeal.nD Cert.ReferenceIdeal.τ).loc Cert.ReferenceIdeal.main_v15) i = v2 c i)
          ∧ (∀ i : (⟨3, ![24, 3328, 3]⟩ : Shape).Idx, (Cert.On_past_starts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 i = 1#1 → r.2.mem ((c.tc : Thread Cert.ReferenceIdeal.nD Cert.ReferenceIdeal.τ).loc Cert.ReferenceIdeal.main_v31) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hOn_past_starts : Cert.On_past_starts.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_past_starts (hKernelIdeal := hKernelIdeal) (hReferenceIdeal := hReferenceIdeal) (hOn_past_starts := hOn_past_starts)
-- ==== On_past_starts.lean ====
abbrev S32768x3328 : Shape := ⟨2, ![32768, 3328]⟩
abbrev S32768x1 : Shape := ⟨2, ![32768, 1]⟩
abbrev S25 : Shape := ⟨1, ![25]⟩
abbrev S3328x4 : Shape := ⟨2, ![3328, 4]⟩
abbrev S3328 : Shape := ⟨1, ![3328]⟩
abbrev S32768 : Shape := ⟨1, ![32768]⟩
abbrev S1x25 : Shape := ⟨2, ![1, 25]⟩
abbrev S32768x25 : Shape := ⟨2, ![32768, 25]⟩
abbrev S_ : Shape := ⟨0, ![]⟩
abbrev S128x1x256 : Shape := ⟨3, ![128, 1, 256]⟩
abbrev S24x3x3328 : Shape := ⟨3, ![24, 3, 3328]⟩
abbrev S24x3328x3 : Shape := ⟨3, ![24, 3328, 3]⟩

class Facts : Prop where
  bcast_S25_S1x25_1 : S25.BroadcastsInDim S1x25 (![1] : Fin 1 → Fin S1x25.rank)
  bcast_S32768_S32768x1_0 : S32768.BroadcastsInDim S32768x1 (![0] : Fin 1 → Fin S32768x1.rank)
  bcast_S1x25_S32768x25_0_1 : S1x25.BroadcastsInDim S32768x25 (![0, 1] : Fin 2 → Fin S32768x25.rank)
  bcast_S32768x1_S32768x25_0_1 : S32768x1.BroadcastsInDim S32768x25 (![0, 1] : Fin 2 → Fin S32768x25.rank)
  bcast_S_S32768x25 : S_.BroadcastsInDim S32768x25 (![] : Fin 0 → Fin S32768x25.rank)
  bcast_S_S32768 : S_.BroadcastsInDim S32768 (![] : Fin 0 → Fin S32768.rank)
  reducesTo_S32768x25_S32768_d1 : S32768x25.ReducesTo [1] S32768
  h_S_ : 0 < S_.numel
  bcast_S32768x1_S32768x3328_0_1 : S32768x1.BroadcastsInDim S32768x3328 (![0, 1] : Fin 2 → Fin S32768x3328.rank)
  shapeCasts_S32768_S128x1x256 : S32768.ShapeCasts S128x1x256
  bcast_S_S24x3x3328 : S_.BroadcastsInDim S24x3x3328 (![] : Fin 0 → Fin S24x3x3328.rank)
  bcast_S_S24x3328x3 : S_.BroadcastsInDim S24x3328x3 (![] : Fin 0 → Fin S24x3328x3.rank)

variable [Facts]

def fn_part1 {F : FTy → Type} [FloatOps F] (main_v19 : IVec S32768x3328 1) (main_v20 : IVec S128x1x256 1) : IVec S32768x3328 1 × IVec S128x1x256 1 × IVec S24x3x3328 1 × IVec S24x3328x3 1 :=
  let main_c_2 : IVec S_ 1 := constantI S_ 1 0#1
  let main_v21 : IVec S24x3x3328 1 := broadcastInDim S24x3x3328 ![] bcast_S_S24x3x3328 main_c_2
  let main_c_3 : IVec S_ 1 := constantI S_ 1 0#1
  let main_v22 : IVec S24x3328x3 1 := broadcastInDim S24x3328x3 ![] bcast_S_S24x3328x3 main_c_3
  (main_v19, main_v20, main_v21, main_v22)

def fn {F : FTy → Type} [FloatOps F] (main_arg0 : FVec F S32768x3328 .fp8e4m3) (main_arg1 : FVec F S32768x1 .f32) (main_arg2 : IVec S25 32) (main_arg3 : FVec F S3328x4 .bf16) (main_arg4 : FVec F S3328 .bf16) : IVec S32768x3328 1 × IVec S128x1x256 1 × IVec S24x3x3328 1 × IVec S24x3328x3 1 :=
  let main_v0 : IVec S32768 32 := iotaInDim S32768 32 0
  let main_v1 : IVec S1x25 32 := broadcastInDim S1x25 ![1] bcast_S25_S1x25_1 main_arg2
  let main_v2 : IVec S32768x1 32 := broadcastInDim S32768x1 ![0] bcast_S32768_S32768x1_0 main_v0
  let main_v3 : IVec S32768x25 32 := broadcastInDim S32768x25 ![0, 1] bcast_S1x25_S32768x25_0_1 main_v1
  let main_v4 : IVec S32768x25 32 := broadcastInDim S32768x25 ![0, 1] bcast_S32768x1_S32768x25_0_1 main_v2
  let main_v5 : IVec S32768x25 1 := cmpi .sgt main_v3 main_v4
  let main_v6 : IVec S32768x1 32 := broadcastInDim S32768x1 ![0] bcast_S32768_S32768x1_0 main_v0
  let main_v7 : IVec S1x25 32 := broadcastInDim S1x25 ![1] bcast_S25_S1x25_1 main_arg2
  let main_v8 : IVec S32768x25 32 := broadcastInDim S32768x25 ![0, 1] bcast_S32768x1_S32768x25_0_1 main_v6
  let main_v9 : IVec S32768x25 32 := broadcastInDim S32768x25 ![0, 1] bcast_S1x25_S32768x25_0_1 main_v7
  let main_v10 : IVec S32768x25 32 := subi main_v8 main_v9
  let main_c : IVec S_ 32 := constantI S_ 32 3#32
  let main_v11 : IVec S32768x25 32 := broadcastInDim S32768x25 ![] bcast_S_S32768x25 main_c
  let main_v12 : IVec S32768x25 1 := cmpi .sge main_v10 main_v11
  let main_v13 : IVec S32768x25 1 := ori main_v5 main_v12
  let main_c_0 : IVec S_ 32 := constantI S_ 32 3#32
  let main_v14 : IVec S32768 32 := broadcastInDim S32768 ![] bcast_S_S32768 main_c_0
  let main_v15 : IVec S32768 1 := cmpi .sge main_v0 main_v14
  let main_c_1 : IVec S_ 1 := constantI S_ 1 1#1
  let main_v16 : IVec S32768 1 := (fun x v => Host.reduce IntOp.andi x v reducesTo_S32768x25_S32768_d1 h_S_) main_v13 main_c_1
  let main_v17 : IVec S32768 1 := andi main_v15 main_v16
  let main_v18 : IVec S32768x1 1 := broadcastInDim S32768x1 ![0] bcast_S32768_S32768x1_0 main_v17
  let main_v19 : IVec S32768x3328 1 := broadcastInDim S32768x3328 ![0, 1] bcast_S32768x1_S32768x3328_0_1 main_v18
  let main_v20 : IVec S128x1x256 1 := shapeCast S128x1x256 main_v17 shapeCasts_S32768_S128x1x256
  fn_part1 (F := F) main_v19 main_v20
-- ==== Kernel.lean ====
abbrev S32768x3328 : Shape := ⟨2, ![32768, 3328]⟩
abbrev S32768x1 : Shape := ⟨2, ![32768, 1]⟩
abbrev S25 : Shape := ⟨1, ![25]⟩
abbrev S3328x4 : Shape := ⟨2, ![3328, 4]⟩
abbrev S3328 : Shape := ⟨1, ![3328]⟩
abbrev S128x1x256 : Shape := ⟨3, ![128, 1, 256]⟩
abbrev S4x3328 : Shape := ⟨2, ![4, 3328]⟩
abbrev S1x3328 : Shape := ⟨2, ![1, 3328]⟩
abbrev S3x3x208x128 : Shape := ⟨4, ![3, 3, 208, 128]⟩
abbrev S3x24x3328 : Shape := ⟨3, ![3, 24, 3328]⟩
abbrev S256x3328 : Shape := ⟨2, ![256, 3328]⟩
abbrev S1x1x256 : Shape := ⟨3, ![1, 1, 256]⟩
abbrev S3536x128 : Shape := ⟨2, ![3536, 128]⟩
abbrev S6864x128 : Shape := ⟨2, ![6864, 128]⟩
abbrev S6656x128 : Shape := ⟨2, ![6656, 128]⟩
abbrev S256x128 : Shape := ⟨2, ![256, 128]⟩
abbrev S26x256x256 : Shape := ⟨3, ![26, 256, 256]⟩
abbrev S26x8x128 : Shape := ⟨3, ![26, 8, 128]⟩
abbrev S5x26x128 : Shape := ⟨3, ![5, 26, 128]⟩
abbrev S128x128 : Shape := ⟨2, ![128, 128]⟩
abbrev S26x256x128 : Shape := ⟨3, ![26, 256, 128]⟩
abbrev S1 : Shape := ⟨1, ![1]⟩
abbrev S1x128 : Shape := ⟨2, ![1, 128]⟩
abbrev S1x1x128 : Shape := ⟨3, ![1, 1, 128]⟩
abbrev S1x128x128 : Shape := ⟨3, ![1, 128, 128]⟩
abbrev S8x128 : Shape := ⟨2, ![8, 128]⟩
abbrev S1x8x128 : Shape := ⟨3, ![1, 8, 128]⟩
abbrev S128x256 : Shape := ⟨2, ![128, 256]⟩
abbrev S256 : Shape := ⟨1, ![256]⟩
abbrev S1x256 : Shape := ⟨2, ![1, 256]⟩
abbrev S1x1x1 : Shape := ⟨3, ![1, 1, 1]⟩
abbrev S1x256x128 : Shape := ⟨3, ![1, 256, 128]⟩
abbrev S32x128 : Shape := ⟨2, ![32, 128]⟩
abbrev S256x256 : Shape := ⟨2, ![256, 256]⟩
abbrev S1x256x256 : Shape := ⟨3, ![1, 256, 256]⟩
abbrev S1x26x128 : Shape := ⟨3, ![1, 26, 128]⟩
abbrev S26x128 : Shape := ⟨2, ![26, 128]⟩
abbrev S128 : Shape := ⟨1, ![128]⟩
abbrev S1x1x26x128 : Shape := ⟨4, ![1, 1, 26, 128]⟩
abbrev S1x1x8x128 : Shape := ⟨4, ![1, 1, 8, 128]⟩
abbrev S3x3x26x8x128 : Shape := ⟨5, ![3, 3, 26, 8, 128]⟩
abbrev S3x8x3x26x128 : Shape := ⟨5, ![3, 8, 3, 26, 128]⟩
abbrev S24x3x3328 : Shape := ⟨3, ![24, 3, 3328]⟩
abbrev S24x3328x3 : Shape := ⟨3, ![24, 3328, 3]⟩

abbrev nBuf : Space → Nat
  | .hbm => 16
  | .vmem => 23
  | .smem => 2
  | _ => 0

abbrev bufTy : (tb : Table) → Fin (tcTables nBuf tb) → BufTy
  | .hbm, ⟨0, _⟩ => ⟨S32768x3328, .fp8e4m3⟩
  | .hbm, ⟨1, _⟩ => ⟨S32768x1, .f32⟩
  | .hbm, ⟨2, _⟩ => ⟨S25, .i32⟩
  | .hbm, ⟨3, _⟩ => ⟨S3328x4, .bf16⟩
  | .hbm, ⟨4, _⟩ => ⟨S3328, .bf16⟩
  | .hbm, ⟨5, _⟩ => ⟨S128x1x256, .f32⟩
  | .hbm, ⟨6, _⟩ => ⟨S4x3328, .bf16⟩
  | .hbm, ⟨7, _⟩ => ⟨S1x3328, .bf16⟩
  | .hbm, ⟨8, _⟩ => ⟨S32768x3328, .fp8e4m3⟩
  | .hbm, ⟨9, _⟩ => ⟨S128x1x256, .f32⟩
  | .hbm, ⟨10, _⟩ => ⟨S3x3x208x128, .f32⟩
  | .hbm, ⟨11, _⟩ => ⟨S3x24x3328, .bf16⟩
  | .hbm, ⟨12, _⟩ => ⟨S3x3x26x8x128, .f32⟩
  | .hbm, ⟨13, _⟩ => ⟨S3x8x3x26x128, .f32⟩
  | .hbm, ⟨14, _⟩ => ⟨S24x3x3328, .f32⟩
  | .hbm, ⟨15, _⟩ => ⟨S24x3328x3, .bf16⟩
  | .local _ .vmem, ⟨0, _⟩ => ⟨S256x3328, .fp8e4m3⟩
  | .local _ .vmem, ⟨1, _⟩ => ⟨S256x3328, .fp8e4m3⟩
  | .local _ .vmem, ⟨2, _⟩ => ⟨S1x1x256, .f32⟩
  | .local _ .vmem, ⟨3, _⟩ => ⟨S1x1x256, .f32⟩
  | .local _ .vmem, ⟨4, _⟩ => ⟨S4x3328, .bf16⟩
  | .local _ .vmem, ⟨5, _⟩ => ⟨S1x3328, .bf16⟩
  | .local _ .vmem, ⟨6, _⟩ => ⟨S256x3328, .fp8e4m3⟩
  | .local _ .vmem, ⟨7, _⟩ => ⟨S256x3328, .fp8e4m3⟩
  | .local _ .vmem, ⟨8, _⟩ => ⟨S1x1x256, .f32⟩
  | .local _ .vmem, ⟨9, _⟩ => ⟨S1x1x256, .f32⟩
  | .local _ .vmem, ⟨10, _⟩ => ⟨S3x3x208x128, .f32⟩
  | .local _ .vmem, ⟨11, _⟩ => ⟨S3x24x3328, .bf16⟩
  | .local _ .vmem, ⟨12, _⟩ => ⟨S3536x128, .i32⟩
  | .local _ .vmem, ⟨13, _⟩ => ⟨S6864x128, .f32⟩
  | .local _ .vmem, ⟨14, _⟩ => ⟨S6656x128, .f32⟩
  | .local _ .vmem, ⟨15, _⟩ => ⟨S256x128, .f32⟩
  | .local _ .vmem, ⟨16, _⟩ => ⟨S26x256x256, .bf16⟩
  | .local _ .vmem, ⟨17, _⟩ => ⟨S26x8x128, .f32⟩
  | .local _ .vmem, ⟨18, _⟩ => ⟨S5x26x128, .f32⟩
  | .local _ .vmem, ⟨19, _⟩ => ⟨S128x128, .i32⟩
  | .local _ .vmem, ⟨20, _⟩ => ⟨S256x128, .f32⟩
  | .local _ .vmem, ⟨21, _⟩ => ⟨S26x256x128, .fp8e4m3⟩
  | .local _ .vmem, ⟨22, _⟩ => ⟨S3x3x208x128, .f32⟩
  | .local _ .smem, ⟨0, _⟩ => ⟨S25, .i32⟩
  | .local _ .smem, ⟨1, _⟩ => ⟨S1, .i32⟩
  | _, _ => ⟨S32768x3328, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_scratch9 : Ref sig .tc := ⟨.vmem, 21, rfl⟩
abbrev cc0_scratch10 : Ref sig .tc := ⟨.vmem, 22, rfl⟩
abbrev cc0_stg0_0 : Ref sig .tc := ⟨.smem, 0, rfl⟩
abbrev cc0_scratch11 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [BitOps F]

abbrev grid0 : Pipeline.Grid := ⟨1, ![129], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_1130 : BitVec 32 := 0#32
  let c26_i32 : BitVec 32 := 26#32
  let v1819 : BitVec 32 := Scalar.addi c0_i32_1130 c26_i32
  let c1_i32_1131 : BitVec 32 := 1#32
  ⟨c0_i32_1130, v1819, c1_i32_1131⟩
def k0_mult1 (k0_t1 : Fin k0_t1_loop.trips) : BitVec 32 :=
  let c0_i32_1130 : BitVec 32 := 0#32
  let c1_i32_1131 : BitVec 32 := 1#32
  let arg22 : BitVec 32 := Scf.iv c0_i32_1130 c1_i32_1131 k0_t1
  let c136_i32 : BitVec 32 := 136#32
  let v1821 : BitVec 32 := Scalar.muli arg22 c136_i32
  v1821
def k0_off1 (k0_t1 : Fin k0_t1_loop.trips) : Fin 2 → Nat :=
  let c0_i32_1130 : BitVec 32 := 0#32
  let c1_i32_1131 : BitVec 32 := 1#32
  let arg22 : BitVec 32 := Scf.iv c0_i32_1130 c1_i32_1131 k0_t1
  let c136_i32 : BitVec 32 := 136#32
  let v1821 : BitVec 32 := Scalar.muli arg22 c136_i32
  let v1822 : BitVec 32 := v1821
  let c0_i32_1134 : BitVec 32 := 0#32
  let v1823 : BitVec 32 := Scalar.addi v1822 c0_i32_1134
  let c128_i32_1135 : BitVec 32 := 128#32
  let v1824 : BitVec 32 := Scalar.addi v1823 c128_i32_1135
  let v1825 : Index := Scalar.indexCast v1824
  let c0_1136 : Index := 0#32
  ![v1825.toNat, 0]
def k0_mult2 (k0_t1 : Fin k0_t1_loop.trips) : BitVec 32 :=
  let c0_i32_1130 : BitVec 32 := 0#32
  let c1_i32_1131 : BitVec 32 := 1#32
  let arg22 : BitVec 32 := Scf.iv c0_i32_1130 c1_i32_1131 k0_t1
  let c264_i32 : BitVec 32 := 264#32
  let v1830 : BitVec 32 := Scalar.muli arg22 c264_i32
  v1830
def k0_off2 (k0_t1 : Fin k0_t1_loop.trips) : Fin 2 → Nat :=
  let c0_i32_1130 : BitVec 32 := 0#32
  let c1_i32_1131 : BitVec 32 := 1#32
  let arg22 : BitVec 32 := Scf.iv c0_i32_1130 c1_i32_1131 k0_t1
  let c264_i32 : BitVec 32 := 264#32
  let v1830 : BitVec 32 := Scalar.muli arg22 c264_i32
  let v1831 : BitVec 32 := v1830
  let c0_i32_1138 : BitVec 32 := 0#32
  let v1832 : BitVec 32 := Scalar.addi v1831 c0_i32_1138
  let c256_i32_1139 : BitVec 32 := 256#32
  let v1833 : BitVec 32 := Scalar.addi v1832 c256_i32_1139
  let v1834 : Index := Scalar.indexCast v1833
  let c0_1140 : Index := 0#32
  ![v1834.toNat, 0]
def k0_mult3 (k0_t1 : Fin k0_t1_loop.trips) : BitVec 32 :=
  let c0_i32_1130 : BitVec 32 := 0#32
  let c1_i32_1131 : BitVec 32 := 1#32
  let arg22 : BitVec 32 := Scf.iv c0_i32_1130 c1_i32_1131 k0_t1
  let c256_i32_1142 : BitVec 32 := 256#32
  let v1839 : BitVec 32 := Scalar.muli arg22 c256_i32_1142
  v1839
def k0_off3 (k0_t1 : Fin k0_t1_loop.trips) : Fin 2 → Nat :=
  let c0_i32_1130 : BitVec 32 := 0#32
  let c1_i32_1131 : BitVec 32 := 1#32
  let arg22 : BitVec 32 := Scf.iv c0_i32_1130 c1_i32_1131 k0_t1
  let c256_i32_1142 : BitVec 32 := 256#32
  let v1839 : BitVec 32 := Scalar.muli arg22 c256_i32_1142
  let v1840 : BitVec 32 := v1839
  let c0_i32_1143 : BitVec 32 := 0#32
  let v1841 : BitVec 32 := Scalar.addi v1840 c0_i32_1143
  let v1842 : Index := Scalar.indexCast v1841
  let c0_1144 : Index := 0#32
  ![v1842.toNat, 0]
@[reducible] def k0_t2_loop : Scf.Loop 32 :=
  let c0_i32_4 : BitVec 32 := 0#32
  let c246_i32 : BitVec 32 := 246#32
  let v12 : BitVec 32 := Scalar.addi c0_i32_4 c246_i32
  let c1_i32 : BitVec 32 := 1#32
  ⟨c0_i32_4, v12, c1_i32⟩
@[reducible] def k0_t3_loop : Scf.Loop 32 :=
  let c0_i32_32 : BitVec 32 := 0#32
  let c26_i32 : BitVec 32 := 26#32
  let v70 : BitVec 32 := Scalar.addi c0_i32_32 c26_i32
  let c1_i32_33 : BitVec 32 := 1#32
  ⟨c0_i32_32, v70, c1_i32_33⟩
def k0_mult4 (k0_t3 : Fin k0_t3_loop.trips) : BitVec 32 :=
  let c0_i32_32 : BitVec 32 := 0#32
  let c1_i32_33 : BitVec 32 := 1#32
  let arg22 : BitVec 32 := Scf.iv c0_i32_32 c1_i32_33 k0_t3
  let c256_i32_55 : BitVec 32 := 256#32
  let v103 : BitVec 32 := Scalar.muli arg22 c256_i32_55
  v103
def k0_off4 (k0_t3 : Fin k0_t3_loop.trips) : Fin 2 → Nat :=
  let c0_i32_32 : BitVec 32 := 0#32
  let c1_i32_33 : BitVec 32 := 1#32
  let arg22 : BitVec 32 := Scf.iv c0_i32_32 c1_i32_33 k0_t3
  let c256_i32_55 : BitVec 32 := 256#32
  let v103 : BitVec 32 := Scalar.muli arg22 c256_i32_55
  let v104 : BitVec 32 := v103
  let c0_i32_56 : BitVec 32 := 0#32
  let v105 : BitVec 32 := Scalar.addi v104 c0_i32_56
  let v106 : Index := Scalar.indexCast v105
  let c0_57 : Index := 0#32
  ![v106.toNat, 0]
@[reducible] def k0_t4_loop : Scf.Loop 32 :=
  let c0_i32_38 : BitVec 32 := 0#32
  let c246_i32_39 : BitVec 32 := 246#32
  let v78 : BitVec 32 := Scalar.addi c0_i32_38 c246_i32_39
  let c1_i32_40 : BitVec 32 := 1#32
  ⟨c0_i32_38, v78, c1_i32_40⟩
@[reducible] def k0_t5_loop : Scf.Loop 32 :=
  let c0_i32_51 : BitVec 32 := 0#32
  let c26_i32_52 : BitVec 32 := 26#32
  let v102 : BitVec 32 := Scalar.addi c0_i32_51 c26_i32_52
  let c1_i32_53 : BitVec 32 := 1#32
  ⟨c0_i32_51, v102, c1_i32_53⟩
def k0_mult5 (k0_t5 : Fin k0_t5_loop.trips) : BitVec 32 :=
  let c0_i32_51 : BitVec 32 := 0#32
  let c1_i32_53 : BitVec 32 := 1#32
  let arg22 : BitVec 32 := Scf.iv c0_i32_51 c1_i32_53 k0_t5
  let c256_i32_55 : BitVec 32 := 256#32
  let v103 : BitVec 32 := Scalar.muli arg22 c256_i32_55
  v103
def k0_off5 (k0_t5 : Fin k0_t5_loop.trips) : Fin 2 → Nat :=
  let c0_i32_51 : BitVec 32 := 0#32
  let c1_i32_53 : BitVec 32 := 1#32
  let arg22 : BitVec 32 := Scf.iv c0_i32_51 c1_i32_53 k0_t5
  let c256_i32_55 : BitVec 32 := 256#32
  let v103 : BitVec 32 := Scalar.muli arg22 c256_i32_55
  let v104 : BitVec 32 := v103
  let c0_i32_56 : BitVec 32 := 0#32
  let v105 : BitVec 32 := Scalar.addi v104 c0_i32_56
  let v106 : Index := Scalar.indexCast v105
  let c0_57 : Index := 0#32
  ![v106.toNat, 0]
def k0_off6 (k0_t5 : Fin k0_t5_loop.trips) : Fin 3 → Nat :=
  let c0_i32_51 : BitVec 32 := 0#32
  let c1_i32_53 : BitVec 32 := 1#32
  let arg22 : BitVec 32 := Scf.iv c0_i32_51 c1_i32_53 k0_t5
  let v120 : Index := Scalar.indexCast arg22
  let c0_62 : Index := 0#32
  let c0_63 : Index := 0#32
  ![v120.toNat, 0, 0]
@[reducible] def k0_t6_loop : Scf.Loop 32 :=
  let c0_i32_25 : BitVec 32 := 0#32
  let c13_i32 : BitVec 32 := 13#32
  let v60 : BitVec 32 := Scalar.addi c0_i32_25 c13_i32
  let c1_i32_26 : BitVec 32 := 1#32
  ⟨c0_i32_25, v60, c1_i32_26⟩
def k0_mult6 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c128_i32_35 : BitVec 32 := 128#32
  let v74 : BitVec 32 := Scalar.muli v72 c128_i32_35
  v74
def k0_mult7 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c256_i32_36 : BitVec 32 := 256#32
  let v76 : BitVec 32 := Scalar.muli v72 c256_i32_36
  v76
def k0_off7 (k0_t6 : Fin k0_t6_loop.trips) (c0_i32_33 : BitVec 32) (c0_i32_37 : BitVec 32) : Fin 2 → Nat :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c256_i32_36 : BitVec 32 := 256#32
  let v76 : BitVec 32 := Scalar.muli v72 c256_i32_36
  let v77 : BitVec 32 := v76
  let v78 : BitVec 32 := Scalar.addi v77 c0_i32_37
  let v79 : Index := Scalar.indexCast v78
  let c0_38 : Index := 0#32
  ![v79.toNat, 0]
def k0_off8 (k0_t6 : Fin k0_t6_loop.trips) (c0_i32_33 : BitVec 32) : Fin 2 → Nat :=
  let c0_43 : Index := 0#32
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c128_i32_35 : BitVec 32 := 128#32
  let v74 : BitVec 32 := Scalar.muli v72 c128_i32_35
  let v75 : BitVec 32 := v74
  let v90 : Index := Scalar.indexCast v75
  ![0, v90.toNat]
def k0_mult8 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c256_i32_44 : BitVec 32 := 256#32
  let v92 : BitVec 32 := Scalar.muli v72 c256_i32_44
  v92
def k0_off9 (k0_t6 : Fin k0_t6_loop.trips) (c0_i32_33 : BitVec 32) : Fin 2 → Nat :=
  let c32_49 : Index := 32#32
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c128_i32_35 : BitVec 32 := 128#32
  let v74 : BitVec 32 := Scalar.muli v72 c128_i32_35
  let v75 : BitVec 32 := v74
  let v106 : Index := Scalar.indexCast v75
  ![32, v106.toNat]
def k0_mult9 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c256_i32_50 : BitVec 32 := 256#32
  let v108 : BitVec 32 := Scalar.muli v72 c256_i32_50
  v108
def k0_off10 (k0_t6 : Fin k0_t6_loop.trips) (c0_i32_33 : BitVec 32) : Fin 2 → Nat :=
  let c64_55 : Index := 64#32
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c128_i32_35 : BitVec 32 := 128#32
  let v74 : BitVec 32 := Scalar.muli v72 c128_i32_35
  let v75 : BitVec 32 := v74
  let v122 : Index := Scalar.indexCast v75
  ![64, v122.toNat]
def k0_mult10 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c256_i32_56 : BitVec 32 := 256#32
  let v124 : BitVec 32 := Scalar.muli v72 c256_i32_56
  v124
def k0_off11 (k0_t6 : Fin k0_t6_loop.trips) (c0_i32_33 : BitVec 32) : Fin 2 → Nat :=
  let c96_61 : Index := 96#32
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c128_i32_35 : BitVec 32 := 128#32
  let v74 : BitVec 32 := Scalar.muli v72 c128_i32_35
  let v75 : BitVec 32 := v74
  let v138 : Index := Scalar.indexCast v75
  ![96, v138.toNat]
def k0_mult11 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c256_i32_62 : BitVec 32 := 256#32
  let v140 : BitVec 32 := Scalar.muli v72 c256_i32_62
  v140
def k0_off12 (k0_t6 : Fin k0_t6_loop.trips) (c0_i32_33 : BitVec 32) : Fin 2 → Nat :=
  let c128_68 : Index := 128#32
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c128_i32_35 : BitVec 32 := 128#32
  let v74 : BitVec 32 := Scalar.muli v72 c128_i32_35
  let v75 : BitVec 32 := v74
  let v154 : Index := Scalar.indexCast v75
  ![128, v154.toNat]
def k0_mult12 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c256_i32_69 : BitVec 32 := 256#32
  let v156 : BitVec 32 := Scalar.muli v72 c256_i32_69
  v156
def k0_off13 (k0_t6 : Fin k0_t6_loop.trips) (c0_i32_33 : BitVec 32) : Fin 2 → Nat :=
  let c160_74 : Index := 160#32
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c128_i32_35 : BitVec 32 := 128#32
  let v74 : BitVec 32 := Scalar.muli v72 c128_i32_35
  let v75 : BitVec 32 := v74
  let v170 : Index := Scalar.indexCast v75
  ![160, v170.toNat]
def k0_mult13 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c256_i32_75 : BitVec 32 := 256#32
  let v172 : BitVec 32 := Scalar.muli v72 c256_i32_75
  v172
def k0_off14 (k0_t6 : Fin k0_t6_loop.trips) (c0_i32_33 : BitVec 32) : Fin 2 → Nat :=
  let c192_80 : Index := 192#32
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c128_i32_35 : BitVec 32 := 128#32
  let v74 : BitVec 32 := Scalar.muli v72 c128_i32_35
  let v75 : BitVec 32 := v74
  let v186 : Index := Scalar.indexCast v75
  ![192, v186.toNat]
def k0_mult14 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c256_i32_81 : BitVec 32 := 256#32
  let v188 : BitVec 32 := Scalar.muli v72 c256_i32_81
  v188
def k0_off15 (k0_t6 : Fin k0_t6_loop.trips) (c0_i32_33 : BitVec 32) : Fin 2 → Nat :=
  let c224_86 : Index := 224#32
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c128_i32_35 : BitVec 32 := 128#32
  let v74 : BitVec 32 := Scalar.muli v72 c128_i32_35
  let v75 : BitVec 32 := v74
  let v202 : Index := Scalar.indexCast v75
  ![224, v202.toNat]
def k0_mult15 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c136_i32 : BitVec 32 := 136#32
  let v204 : BitVec 32 := Scalar.muli v72 c136_i32
  v204
def k0_mult16 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c264_i32 : BitVec 32 := 264#32
  let v207 : BitVec 32 := Scalar.muli v72 c264_i32
  v207
def k0_off16 (k0_t6 : Fin k0_t6_loop.trips) (c0_i32_33 : BitVec 32) : Fin 2 → Nat :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c136_i32 : BitVec 32 := 136#32
  let v204 : BitVec 32 := Scalar.muli v72 c136_i32
  let v205 : BitVec 32 := v204
  let c0_i32_87 : BitVec 32 := 0#32
  let v206 : BitVec 32 := Scalar.addi v205 c0_i32_87
  let c128_i32_89 : BitVec 32 := 128#32
  let v210 : BitVec 32 := Scalar.addi v206 c128_i32_89
  let v211 : Index := Scalar.indexCast v210
  let c0_90 : Index := 0#32
  ![v211.toNat, 0]
def k0_off17 (k0_t6 : Fin k0_t6_loop.trips) (c0_i32_33 : BitVec 32) : Fin 2 → Nat :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c136_i32 : BitVec 32 := 136#32
  let v204 : BitVec 32 := Scalar.muli v72 c136_i32
  let v205 : BitVec 32 := v204
  let c0_i32_87 : BitVec 32 := 0#32
  let v206 : BitVec 32 := Scalar.addi v205 c0_i32_87
  let v213 : Index := Scalar.indexCast v206
  let c0_91 : Index := 0#32
  ![v213.toNat, 0]
def k0_off18 (k0_t6 : Fin k0_t6_loop.trips) (c0_i32_33 : BitVec 32) : Fin 2 → Nat :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c264_i32 : BitVec 32 := 264#32
  let v207 : BitVec 32 := Scalar.muli v72 c264_i32
  let v208 : BitVec 32 := v207
  let c0_i32_88 : BitVec 32 := 0#32
  let v209 : BitVec 32 := Scalar.addi v208 c0_i32_88
  let c256_i32_92 : BitVec 32 := 256#32
  let v217 : BitVec 32 := Scalar.addi v209 c256_i32_92
  let v218 : Index := Scalar.indexCast v217
  let c0_93 : Index := 0#32
  ![v218.toNat, 0]
def k0_off19 (k0_t6 : Fin k0_t6_loop.trips) (c0_i32_33 : BitVec 32) : Fin 2 → Nat :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c264_i32 : BitVec 32 := 264#32
  let v207 : BitVec 32 := Scalar.muli v72 c264_i32
  let v208 : BitVec 32 := v207
  let c0_i32_88 : BitVec 32 := 0#32
  let v209 : BitVec 32 := Scalar.addi v208 c0_i32_88
  let v220 : Index := Scalar.indexCast v209
  let c0_94 : Index := 0#32
  ![v220.toNat, 0]
def k0_off20 (k0_t6 : Fin k0_t6_loop.trips) (c0_i32_33 : BitVec 32) : Fin 2 → Nat :=
  let c0_95 : Index := 0#32
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c128_i32_35 : BitVec 32 := 128#32
  let v74 : BitVec 32 := Scalar.muli v72 c128_i32_35
  let v75 : BitVec 32 := v74
  let v224 : Index := Scalar.indexCast v75
  ![0, v224.toNat]
def k0_off21 (k0_t6 : Fin k0_t6_loop.trips) (c0_i32_33 : BitVec 32) : Fin 2 → Nat :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c136_i32 : BitVec 32 := 136#32
  let v204 : BitVec 32 := Scalar.muli v72 c136_i32
  let v205 : BitVec 32 := v204
  let c0_i32_87 : BitVec 32 := 0#32
  let v206 : BitVec 32 := Scalar.addi v205 c0_i32_87
  let c8_i32 : BitVec 32 := 8#32
  let v231 : BitVec 32 := Scalar.addi v206 c8_i32
  let v232 : Index := Scalar.indexCast v231
  let c0_98 : Index := 0#32
  ![v232.toNat, 0]
def k0_off22 (k0_t6 : Fin k0_t6_loop.trips) (c0_i32_33 : BitVec 32) : Fin 2 → Nat :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c136_i32 : BitVec 32 := 136#32
  let v204 : BitVec 32 := Scalar.muli v72 c136_i32
  let v205 : BitVec 32 := v204
  let c0_i32_87 : BitVec 32 := 0#32
  let v206 : BitVec 32 := Scalar.addi v205 c0_i32_87
  let c8_i32_99 : BitVec 32 := 8#32
  let v236 : BitVec 32 := Scalar.addi v206 c8_i32_99
  let c1_i32_100 : BitVec 32 := 1#32
  let v237 : BitVec 32 := Scalar.subi v236 c1_i32_100
  let v238 : Index := Scalar.indexCast v237
  let c0_101 : Index := 0#32
  ![v238.toNat, 0]
def k0_off23 (k0_t6 : Fin k0_t6_loop.trips) (c0_i32_33 : BitVec 32) : Fin 3 → Nat :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let v242 : Index := Scalar.indexCast v72
  let c0_102 : Index := 0#32
  let c0_103 : Index := 0#32
  ![v242.toNat, 0, 0]
def k0_off24 (k0_t6 : Fin k0_t6_loop.trips) (c0_i32_33 : BitVec 32) : Fin 2 → Nat :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c264_i32 : BitVec 32 := 264#32
  let v207 : BitVec 32 := Scalar.muli v72 c264_i32
  let v208 : BitVec 32 := v207
  let c0_i32_88 : BitVec 32 := 0#32
  let v209 : BitVec 32 := Scalar.addi v208 c0_i32_88
  let c8_i32_105 : BitVec 32 := 8#32
  let v247 : BitVec 32 := Scalar.addi v209 c8_i32_105
  let v248 : Index := Scalar.indexCast v247
  let c0_106 : Index := 0#32
  ![v248.toNat, 0]
def k0_mult17 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c128_i32_107 : BitVec 32 := 128#32
  let v252 : BitVec 32 := Scalar.muli v73 c128_i32_107
  v252
def k0_mult18 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c256_i32_108 : BitVec 32 := 256#32
  let v254 : BitVec 32 := Scalar.muli v73 c256_i32_108
  v254
def k0_mult19 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c256_i32_116 : BitVec 32 := 256#32
  let v270 : BitVec 32 := Scalar.muli v73 c256_i32_116
  v270
def k0_mult20 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c256_i32_124 : BitVec 32 := 256#32
  let v286 : BitVec 32 := Scalar.muli v73 c256_i32_124
  v286
def k0_mult21 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c256_i32_132 : BitVec 32 := 256#32
  let v302 : BitVec 32 := Scalar.muli v73 c256_i32_132
  v302
def k0_mult22 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c256_i32_140 : BitVec 32 := 256#32
  let v318 : BitVec 32 := Scalar.muli v73 c256_i32_140
  v318
def k0_mult23 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c256_i32_148 : BitVec 32 := 256#32
  let v334 : BitVec 32 := Scalar.muli v73 c256_i32_148
  v334
def k0_mult24 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c256_i32_156 : BitVec 32 := 256#32
  let v350 : BitVec 32 := Scalar.muli v73 c256_i32_156
  v350
def k0_mult25 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c256_i32_164 : BitVec 32 := 256#32
  let v366 : BitVec 32 := Scalar.muli v73 c256_i32_164
  v366
def k0_mult26 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c136_i32_172 : BitVec 32 := 136#32
  let v382 : BitVec 32 := Scalar.muli v73 c136_i32_172
  v382
def k0_mult27 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c264_i32_174 : BitVec 32 := 264#32
  let v385 : BitVec 32 := Scalar.muli v73 c264_i32_174
  v385
def k0_mult28 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c264_i32_197 : BitVec 32 := 264#32
  let v431 : BitVec 32 := Scalar.muli v72 c264_i32_197
  v431
def k0_off25 (k0_t6 : Fin k0_t6_loop.trips) (c0_i32_33 : BitVec 32) (c0_i32_201 : BitVec 32) : Fin 2 → Nat :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c264_i32_197 : BitVec 32 := 264#32
  let v431 : BitVec 32 := Scalar.muli v72 c264_i32_197
  let v432 : BitVec 32 := v431
  let c0_i32_198 : BitVec 32 := 0#32
  let v433 : BitVec 32 := Scalar.addi v432 c0_i32_198
  let c8_i32_199 : BitVec 32 := 8#32
  let v434 : BitVec 32 := Scalar.addi v433 c8_i32_199
  let c1_i32_200 : BitVec 32 := 1#32
  let v435 : BitVec 32 := Scalar.subi v434 c1_i32_200
  let v436 : BitVec 32 := Scalar.addi v435 c0_i32_201
  let v437 : Index := Scalar.indexCast v436
  let c0_202 : Index := 0#32
  ![v437.toNat, 0]
def k0_off26 (k0_t6 : Fin k0_t6_loop.trips) (c0_i32_33 : BitVec 32) : Fin 3 → Nat :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let v441 : Index := Scalar.indexCast v72
  let c0_203 : Index := 0#32
  let c0_204 : Index := 0#32
  ![v441.toNat, 0, 0]
def k0_mult29 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c256_i32_205 : BitVec 32 := 256#32
  let v446 : BitVec 32 := Scalar.muli v72 c256_i32_205
  v446
def k0_mult30 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c264_i32_208 : BitVec 32 := 264#32
  let v454 : BitVec 32 := Scalar.muli v73 c264_i32_208
  v454
def k0_mult31 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c256_i32_216 : BitVec 32 := 256#32
  let v469 : BitVec 32 := Scalar.muli v73 c256_i32_216
  v469
def k0_mult32 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c264_i32_223 : BitVec 32 := 264#32
  let v481 : BitVec 32 := Scalar.muli v72 c264_i32_223
  v481
def k0_mult33 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c256_i32_231 : BitVec 32 := 256#32
  let v496 : BitVec 32 := Scalar.muli v72 c256_i32_231
  v496
def k0_mult34 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c264_i32_234 : BitVec 32 := 264#32
  let v504 : BitVec 32 := Scalar.muli v73 c264_i32_234
  v504
def k0_mult35 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c256_i32_242 : BitVec 32 := 256#32
  let v519 : BitVec 32 := Scalar.muli v73 c256_i32_242
  v519
def k0_mult36 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c264_i32_249 : BitVec 32 := 264#32
  let v531 : BitVec 32 := Scalar.muli v72 c264_i32_249
  v531
def k0_mult37 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c256_i32_257 : BitVec 32 := 256#32
  let v546 : BitVec 32 := Scalar.muli v72 c256_i32_257
  v546
def k0_mult38 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c264_i32_260 : BitVec 32 := 264#32
  let v554 : BitVec 32 := Scalar.muli v73 c264_i32_260
  v554
def k0_mult39 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c256_i32_268 : BitVec 32 := 256#32
  let v569 : BitVec 32 := Scalar.muli v73 c256_i32_268
  v569
def k0_mult40 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c264_i32_275 : BitVec 32 := 264#32
  let v581 : BitVec 32 := Scalar.muli v72 c264_i32_275
  v581
def k0_mult41 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c256_i32_283 : BitVec 32 := 256#32
  let v596 : BitVec 32 := Scalar.muli v72 c256_i32_283
  v596
def k0_mult42 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c264_i32_286 : BitVec 32 := 264#32
  let v604 : BitVec 32 := Scalar.muli v73 c264_i32_286
  v604
def k0_mult43 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c256_i32_294 : BitVec 32 := 256#32
  let v619 : BitVec 32 := Scalar.muli v73 c256_i32_294
  v619
def k0_mult44 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c264_i32_301 : BitVec 32 := 264#32
  let v631 : BitVec 32 := Scalar.muli v72 c264_i32_301
  v631
def k0_mult45 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c256_i32_309 : BitVec 32 := 256#32
  let v646 : BitVec 32 := Scalar.muli v72 c256_i32_309
  v646
def k0_mult46 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c264_i32_312 : BitVec 32 := 264#32
  let v654 : BitVec 32 := Scalar.muli v73 c264_i32_312
  v654
def k0_mult47 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c256_i32_320 : BitVec 32 := 256#32
  let v669 : BitVec 32 := Scalar.muli v73 c256_i32_320
  v669
def k0_mult48 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c264_i32_327 : BitVec 32 := 264#32
  let v681 : BitVec 32 := Scalar.muli v72 c264_i32_327
  v681
def k0_mult49 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c256_i32_335 : BitVec 32 := 256#32
  let v696 : BitVec 32 := Scalar.muli v72 c256_i32_335
  v696
def k0_mult50 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c264_i32_338 : BitVec 32 := 264#32
  let v704 : BitVec 32 := Scalar.muli v73 c264_i32_338
  v704
def k0_mult51 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c256_i32_346 : BitVec 32 := 256#32
  let v719 : BitVec 32 := Scalar.muli v73 c256_i32_346
  v719
def k0_mult52 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c264_i32_353 : BitVec 32 := 264#32
  let v731 : BitVec 32 := Scalar.muli v72 c264_i32_353
  v731
def k0_mult53 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c256_i32_361 : BitVec 32 := 256#32
  let v746 : BitVec 32 := Scalar.muli v72 c256_i32_361
  v746
def k0_mult54 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c264_i32_364 : BitVec 32 := 264#32
  let v754 : BitVec 32 := Scalar.muli v73 c264_i32_364
  v754
def k0_mult55 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c256_i32_372 : BitVec 32 := 256#32
  let v769 : BitVec 32 := Scalar.muli v73 c256_i32_372
  v769
def k0_mult56 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c264_i32_379 : BitVec 32 := 264#32
  let v781 : BitVec 32 := Scalar.muli v72 c264_i32_379
  v781
def k0_mult57 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c256_i32_387 : BitVec 32 := 256#32
  let v796 : BitVec 32 := Scalar.muli v72 c256_i32_387
  v796
def k0_mult58 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c264_i32_390 : BitVec 32 := 264#32
  let v804 : BitVec 32 := Scalar.muli v73 c264_i32_390
  v804
def k0_mult59 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c256_i32_398 : BitVec 32 := 256#32
  let v819 : BitVec 32 := Scalar.muli v73 c256_i32_398
  v819
def k0_off27 (arg22 : BitVec 32) : Fin 1 → Nat :=
  let c24_i32_32 : BitVec 32 := 24#32
  let v72 : BitVec 32 := Scalar.minsi arg22 c24_i32_32
  let v73 : Index := Scalar.indexCast v72
  ![v73.toNat]

def k0_chk1 (arg22 : BitVec 32) : Prop :=
  (∀ a, (k0_off27 arg22) a + S1.size a ≤ S25.size a)
theorem k0_off27_inb : ∀ (arg22 : BitVec 32) (k0_hw1 : k0_chk1 arg22), ∀ a, (k0_off27 arg22) a + S1.size a ≤ S25.size a := fun arg22 k0_hw1 => k0_hw1

def k0_off28 (arg22 : BitVec 32) : Fin 1 → Nat :=
  let v69 : Index := Scalar.indexCast arg22
  ![v69.toNat]

def k0_chk2 (arg22 : BitVec 32) : Prop :=
  (∀ a, (k0_off28 arg22) a + S1.size a ≤ S25.size a)
theorem k0_off28_inb : ∀ (arg22 : BitVec 32) (k0_hw2 : k0_chk2 arg22), ∀ a, (k0_off28 arg22) a + S1.size a ≤ S25.size a := fun arg22 k0_hw2 => k0_hw2

def k0_off29 (i : grid0.Coords) (v70 : BitVec 32) : Fin 2 → Nat :=
  let arg0 : BitVec 32 := BitVec.ofNat 32 (i 0).val
  let c256_i32 : BitVec 32 := 256#32
  let v63 : BitVec 32 := Scalar.muli arg0 c256_i32
  let v71 : BitVec 32 := Scalar.subi v70 v63
  let c0_i32_31 : BitVec 32 := 0#32
  let v72 : BitVec 32 := Scalar.addi v71 c0_i32_31
  let c16_i32 : BitVec 32 := 16#32
  let v132 : BitVec 32 := Scalar.addi v72 c16_i32
  let c1_i32_69 : BitVec 32 := 1#32
  let v133 : BitVec 32 := Scalar.shrsi v132 c1_i32_69
  let v134 : Index := Scalar.indexCast v133
  let c0_70 : Index := 0#32
  ![v134.toNat, 0]
def k0_cond4 (i : grid0.Coords) (arg22 : BitVec 32) (v70 : BitVec 32) : BitVec 1 :=
  let c24_i32 : BitVec 32 := 24#32
  let v73 : BitVec 1 := Scalar.cmpi .slt arg22 c24_i32
  let arg0 : BitVec 32 := BitVec.ofNat 32 (i 0).val
  let c256_i32 : BitVec 32 := 256#32
  let v63 : BitVec 32 := Scalar.muli arg0 c256_i32
  let v71 : BitVec 32 := Scalar.subi v70 v63
  let c0_i32_31 : BitVec 32 := 0#32
  let v72 : BitVec 32 := Scalar.addi v71 c0_i32_31
  let c0_i32_32 : BitVec 32 := 0#32
  let v74 : BitVec 1 := Scalar.cmpi .sge v72 c0_i32_32
  let c256_i32_33 : BitVec 32 := 256#32
  let v75 : BitVec 1 := Scalar.cmpi .slt v72 c256_i32_33
  let v76 : BitVec 1 := Scalar.andi v74 v75
  let v77 : BitVec 1 := Scalar.andi v73 v76
  let v78 : BitVec 32 := Scalar.extui v77
  let c0_i32_34 : BitVec 32 := 0#32
  let v79 : BitVec 1 := Scalar.cmpi .ne v78 c0_i32_34
  v79

def k0_off30 (i : grid0.Coords) (v70 : BitVec 32) : Fin 2 → Nat :=
  let arg0 : BitVec 32 := BitVec.ofNat 32 (i 0).val
  let c256_i32 : BitVec 32 := 256#32
  let v63 : BitVec 32 := Scalar.muli arg0 c256_i32
  let v71 : BitVec 32 := Scalar.subi v70 v63
  let c0_i32_31 : BitVec 32 := 0#32
  let v72 : BitVec 32 := Scalar.addi v71 c0_i32_31
  let v146 : Index := Scalar.indexCast v72
  let c0_74 : Index := 0#32
  ![v146.toNat, 0]
def k0_off31 (i : grid0.Coords) (v70 : BitVec 32) : Fin 2 → Nat :=
  let arg0 : BitVec 32 := BitVec.ofNat 32 (i 0).val
  let c256_i32 : BitVec 32 := 256#32
  let v63 : BitVec 32 := Scalar.muli arg0 c256_i32
  let v71 : BitVec 32 := Scalar.subi v70 v63
  let c0_i32_31 : BitVec 32 := 0#32
  let v72 : BitVec 32 := Scalar.addi v71 c0_i32_31
  let v152 : Index := Scalar.indexCast v72
  let c0_76 : Index := 0#32
  ![v152.toNat, 0]
def k0_off32 (arg22 : BitVec 32) : Fin 4 → Nat :=
  let c0_91 : Index := 0#32
  let c0_i32_79 : BitVec 32 := 0#32
  let v163 : BitVec 1 := Scalar.cmpi .sgt arg22 c0_i32_79
  let v164 : BitVec 32 := Scalar.extui v163
  let c0_i32_80 : BitVec 32 := 0#32
  let v165 : BitVec 1 := Scalar.cmpi .slt arg22 c0_i32_80
  let v166 : BitVec 32 := Scalar.extui v165
  let v167 : BitVec 32 := Scalar.subi v164 v166
  let c8_i32 : BitVec 32 := 8#32
  let c0_i32_81 : BitVec 32 := 0#32
  let v168 : BitVec 1 := Scalar.cmpi .sgt c8_i32 c0_i32_81
  let v169 : BitVec 32 := Scalar.extui v168
  let c0_i32_82 : BitVec 32 := 0#32
  let v170 : BitVec 1 := Scalar.cmpi .slt c8_i32 c0_i32_82
  let v171 : BitVec 32 := Scalar.extui v170
  let v172 : BitVec 32 := Scalar.subi v169 v171
  let v173 : BitVec 1 := Scalar.cmpi .ne v167 v172
  let v174 : BitVec 32 := Scalar.remsi arg22 c8_i32
  let c0_i32_83 : BitVec 32 := 0#32
  let v175 : BitVec 1 := Scalar.cmpi .ne v174 c0_i32_83
  let v176 : BitVec 1 := Scalar.andi v173 v175
  let v162 : BitVec 32 := Scalar.divsi arg22 c8_i32
  let c1_i32_84 : BitVec 32 := 1#32
  let v177 : BitVec 32 := Scalar.subi v162 c1_i32_84
  let v178 : BitVec 32 := Scalar.select v176 v177 v162
  let v189 : Index := Scalar.indexCast v178
  let c8_i32_85 : BitVec 32 := 8#32
  let c0_i32_86 : BitVec 32 := 0#32
  let v179 : BitVec 1 := Scalar.cmpi .eq c8_i32_85 c0_i32_86
  let c1_i32_87 : BitVec 32 := 1#32
  let v180 : BitVec 32 := Scalar.select v179 c1_i32_87 c8_i32_85
  let v181 : BitVec 32 := Scalar.remsi arg22 v180
  let c0_i32_89 : BitVec 32 := 0#32
  let v183 : BitVec 1 := Scalar.cmpi .slt v181 c0_i32_89
  let c0_i32_90 : BitVec 32 := 0#32
  let v184 : BitVec 1 := Scalar.cmpi .slt v180 c0_i32_90
  let v185 : BitVec 1 := Scalar.xori v183 v184
  let c0_i32_88 : BitVec 32 := 0#32
  let v182 : BitVec 1 := Scalar.cmpi .ne v181 c0_i32_88
  let v186 : BitVec 1 := Scalar.andi v185 v182
  let v187 : BitVec 32 := Scalar.addi v181 v180
  let v188 : BitVec 32 := Scalar.select v186 v187 v181
  let v190 : Index := Scalar.indexCast v188
  let c0_92 : Index := 0#32
  ![0, v189.toNat, v190.toNat, 0]
def k0_off33 (i : grid0.Coords) (v70 : BitVec 32) : Fin 2 → Nat :=
  let arg0 : BitVec 32 := BitVec.ofNat 32 (i 0).val
  let c256_i32 : BitVec 32 := 256#32
  let v63 : BitVec 32 := Scalar.muli arg0 c256_i32
  let v71 : BitVec 32 := Scalar.subi v70 v63
  let c1_i32_35 : BitVec 32 := 1#32
  let v80 : BitVec 32 := Scalar.addi v71 c1_i32_35
  let c16_i32 : BitVec 32 := 16#32
  let v132 : BitVec 32 := Scalar.addi v80 c16_i32
  let c1_i32_69 : BitVec 32 := 1#32
  let v133 : BitVec 32 := Scalar.shrsi v132 c1_i32_69
  let v134 : Index := Scalar.indexCast v133
  let c0_70 : Index := 0#32
  ![v134.toNat, 0]
def k0_cond5 (i : grid0.Coords) (arg22 : BitVec 32) (v70 : BitVec 32) : BitVec 1 :=
  let c24_i32_36 : BitVec 32 := 24#32
  let v81 : BitVec 1 := Scalar.cmpi .slt arg22 c24_i32_36
  let arg0 : BitVec 32 := BitVec.ofNat 32 (i 0).val
  let c256_i32 : BitVec 32 := 256#32
  let v63 : BitVec 32 := Scalar.muli arg0 c256_i32
  let v71 : BitVec 32 := Scalar.subi v70 v63
  let c1_i32_35 : BitVec 32 := 1#32
  let v80 : BitVec 32 := Scalar.addi v71 c1_i32_35
  let c0_i32_37 : BitVec 32 := 0#32
  let v82 : BitVec 1 := Scalar.cmpi .sge v80 c0_i32_37
  let c256_i32_38 : BitVec 32 := 256#32
  let v83 : BitVec 1 := Scalar.cmpi .slt v80 c256_i32_38
  let v84 : BitVec 1 := Scalar.andi v82 v83
  let v85 : BitVec 1 := Scalar.andi v81 v84
  let v86 : BitVec 32 := Scalar.extui v85
  let c0_i32_39 : BitVec 32 := 0#32
  let v87 : BitVec 1 := Scalar.cmpi .ne v86 c0_i32_39
  v87

def k0_off34 (i : grid0.Coords) (v70 : BitVec 32) : Fin 2 → Nat :=
  let arg0 : BitVec 32 := BitVec.ofNat 32 (i 0).val
  let c256_i32 : BitVec 32 := 256#32
  let v63 : BitVec 32 := Scalar.muli arg0 c256_i32
  let v71 : BitVec 32 := Scalar.subi v70 v63
  let c1_i32_35 : BitVec 32 := 1#32
  let v80 : BitVec 32 := Scalar.addi v71 c1_i32_35
  let c1_i32_76 : BitVec 32 := 1#32
  let v148 : BitVec 32 := Scalar.subi v80 c1_i32_76
  let c16_i32_77 : BitVec 32 := 16#32
  let v149 : BitVec 32 := Scalar.addi v148 c16_i32_77
  let c1_i32_78 : BitVec 32 := 1#32
  let v150 : BitVec 32 := Scalar.shrsi v149 c1_i32_78
  let v151 : Index := Scalar.indexCast v150
  let c0_79 : Index := 0#32
  ![v151.toNat, 0]
def k0_off35 (i : grid0.Coords) (v70 : BitVec 32) : Fin 2 → Nat :=
  let arg0 : BitVec 32 := BitVec.ofNat 32 (i 0).val
  let c256_i32 : BitVec 32 := 256#32
  let v63 : BitVec 32 := Scalar.muli arg0 c256_i32
  let v71 : BitVec 32 := Scalar.subi v70 v63
  let c1_i32_35 : BitVec 32 := 1#32
  let v80 : BitVec 32 := Scalar.addi v71 c1_i32_35
  let v163 : Index := Scalar.indexCast v80
  let c0_84 : Index := 0#32
  ![v163.toNat, 0]
def k0_off36 (i : grid0.Coords) (v70 : BitVec 32) : Fin 2 → Nat :=
  let arg0 : BitVec 32 := BitVec.ofNat 32 (i 0).val
  let c256_i32 : BitVec 32 := 256#32
  let v63 : BitVec 32 := Scalar.muli arg0 c256_i32
  let v71 : BitVec 32 := Scalar.subi v70 v63
  let c1_i32_35 : BitVec 32 := 1#32
  let v80 : BitVec 32 := Scalar.addi v71 c1_i32_35
  let v169 : Index := Scalar.indexCast v80
  let c0_86 : Index := 0#32
  ![v169.toNat, 0]
def k0_off37 (arg22 : BitVec 32) : Fin 4 → Nat :=
  let c1 : Index := 1#32
  let c0_i32_89 : BitVec 32 := 0#32
  let v180 : BitVec 1 := Scalar.cmpi .sgt arg22 c0_i32_89
  let v181 : BitVec 32 := Scalar.extui v180
  let c0_i32_90 : BitVec 32 := 0#32
  let v182 : BitVec 1 := Scalar.cmpi .slt arg22 c0_i32_90
  let v183 : BitVec 32 := Scalar.extui v182
  let v184 : BitVec 32 := Scalar.subi v181 v183
  let c8_i32 : BitVec 32 := 8#32
  let c0_i32_91 : BitVec 32 := 0#32
  let v185 : BitVec 1 := Scalar.cmpi .sgt c8_i32 c0_i32_91
  let v186 : BitVec 32 := Scalar.extui v185
  let c0_i32_92 : BitVec 32 := 0#32
  let v187 : BitVec 1 := Scalar.cmpi .slt c8_i32 c0_i32_92
  let v188 : BitVec 32 := Scalar.extui v187
  let v189 : BitVec 32 := Scalar.subi v186 v188
  let v190 : BitVec 1 := Scalar.cmpi .ne v184 v189
  let v191 : BitVec 32 := Scalar.remsi arg22 c8_i32
  let c0_i32_93 : BitVec 32 := 0#32
  let v192 : BitVec 1 := Scalar.cmpi .ne v191 c0_i32_93
  let v193 : BitVec 1 := Scalar.andi v190 v192
  let v179 : BitVec 32 := Scalar.divsi arg22 c8_i32
  let c1_i32_94 : BitVec 32 := 1#32
  let v194 : BitVec 32 := Scalar.subi v179 c1_i32_94
  let v195 : BitVec 32 := Scalar.select v193 v194 v179
  let v206 : Index := Scalar.indexCast v195
  let c8_i32_95 : BitVec 32 := 8#32
  let c0_i32_96 : BitVec 32 := 0#32
  let v196 : BitVec 1 := Scalar.cmpi .eq c8_i32_95 c0_i32_96
  let c1_i32_97 : BitVec 32 := 1#32
  let v197 : BitVec 32 := Scalar.select v196 c1_i32_97 c8_i32_95
  let v198 : BitVec 32 := Scalar.remsi arg22 v197
  let c0_i32_99 : BitVec 32 := 0#32
  let v200 : BitVec 1 := Scalar.cmpi .slt v198 c0_i32_99
  let c0_i32_100 : BitVec 32 := 0#32
  let v201 : BitVec 1 := Scalar.cmpi .slt v197 c0_i32_100
  let v202 : BitVec 1 := Scalar.xori v200 v201
  let c0_i32_98 : BitVec 32 := 0#32
  let v199 : BitVec 1 := Scalar.cmpi .ne v198 c0_i32_98
  let v203 : BitVec 1 := Scalar.andi v202 v199
  let v204 : BitVec 32 := Scalar.addi v198 v197
  let v205 : BitVec 32 := Scalar.select v203 v204 v198
  let v207 : Index := Scalar.indexCast v205
  let c0_101 : Index := 0#32
  ![1, v206.toNat, v207.toNat, 0]
def k0_off38 (i : grid0.Coords) (v70 : BitVec 32) : Fin 2 → Nat :=
  let arg0 : BitVec 32 := BitVec.ofNat 32 (i 0).val
  let c256_i32 : BitVec 32 := 256#32
  let v63 : BitVec 32 := Scalar.muli arg0 c256_i32
  let v71 : BitVec 32 := Scalar.subi v70 v63
  let c2_i32 : BitVec 32 := 2#32
  let v88 : BitVec 32 := Scalar.addi v71 c2_i32
  let c16_i32 : BitVec 32 := 16#32
  let v132 : BitVec 32 := Scalar.addi v88 c16_i32
  let c1_i32_69 : BitVec 32 := 1#32
  let v133 : BitVec 32 := Scalar.shrsi v132 c1_i32_69
  let v134 : Index := Scalar.indexCast v133
  let c0_70 : Index := 0#32
  ![v134.toNat, 0]
def k0_cond6 (i : grid0.Coords) (arg22 : BitVec 32) (v70 : BitVec 32) : BitVec 1 :=
  let c24_i32_40 : BitVec 32 := 24#32
  let v89 : BitVec 1 := Scalar.cmpi .slt arg22 c24_i32_40
  let arg0 : BitVec 32 := BitVec.ofNat 32 (i 0).val
  let c256_i32 : BitVec 32 := 256#32
  let v63 : BitVec 32 := Scalar.muli arg0 c256_i32
  let v71 : BitVec 32 := Scalar.subi v70 v63
  let c2_i32 : BitVec 32 := 2#32
  let v88 : BitVec 32 := Scalar.addi v71 c2_i32
  let c0_i32_41 : BitVec 32 := 0#32
  let v90 : BitVec 1 := Scalar.cmpi .sge v88 c0_i32_41
  let c256_i32_42 : BitVec 32 := 256#32
  let v91 : BitVec 1 := Scalar.cmpi .slt v88 c256_i32_42
  let v92 : BitVec 1 := Scalar.andi v90 v91
  let v93 : BitVec 1 := Scalar.andi v89 v92
  let v94 : BitVec 32 := Scalar.extui v93
  let c0_i32_43 : BitVec 32 := 0#32
  let v95 : BitVec 1 := Scalar.cmpi .ne v94 c0_i32_43
  v95

def k0_off39 (i : grid0.Coords) (v70 : BitVec 32) (c2_i32_76 : BitVec 32) : Fin 2 → Nat :=
  let arg0 : BitVec 32 := BitVec.ofNat 32 (i 0).val
  let c256_i32 : BitVec 32 := 256#32
  let v63 : BitVec 32 := Scalar.muli arg0 c256_i32
  let v71 : BitVec 32 := Scalar.subi v70 v63
  let c2_i32 : BitVec 32 := 2#32
  let v88 : BitVec 32 := Scalar.addi v71 c2_i32
  let v148 : BitVec 32 := Scalar.subi v88 c2_i32_76
  let c16_i32_77 : BitVec 32 := 16#32
  let v149 : BitVec 32 := Scalar.addi v148 c16_i32_77
  let c1_i32_78 : BitVec 32 := 1#32
  let v150 : BitVec 32 := Scalar.shrsi v149 c1_i32_78
  let v151 : Index := Scalar.indexCast v150
  let c0_79 : Index := 0#32
  ![v151.toNat, 0]
def k0_off40 (i : grid0.Coords) (v70 : BitVec 32) : Fin 2 → Nat :=
  let arg0 : BitVec 32 := BitVec.ofNat 32 (i 0).val
  let c256_i32 : BitVec 32 := 256#32
  let v63 : BitVec 32 := Scalar.muli arg0 c256_i32
  let v71 : BitVec 32 := Scalar.subi v70 v63
  let c2_i32 : BitVec 32 := 2#32
  let v88 : BitVec 32 := Scalar.addi v71 c2_i32
  let v180 : Index := Scalar.indexCast v88
  let c0_94 : Index := 0#32
  ![v180.toNat, 0]
def k0_off41 (i : grid0.Coords) (v70 : BitVec 32) : Fin 2 → Nat :=
  let arg0 : BitVec 32 := BitVec.ofNat 32 (i 0).val
  let c256_i32 : BitVec 32 := 256#32
  let v63 : BitVec 32 := Scalar.muli arg0 c256_i32
  let v71 : BitVec 32 := Scalar.subi v70 v63
  let c2_i32 : BitVec 32 := 2#32
  let v88 : BitVec 32 := Scalar.addi v71 c2_i32
  let v186 : Index := Scalar.indexCast v88
  let c0_96 : Index := 0#32
  ![v186.toNat, 0]
def k0_off42 (arg22 : BitVec 32) : Fin 4 → Nat :=
  let c2_111 : Index := 2#32
  let c0_i32_99 : BitVec 32 := 0#32
  let v197 : BitVec 1 := Scalar.cmpi .sgt arg22 c0_i32_99
  let v198 : BitVec 32 := Scalar.extui v197
  let c0_i32_100 : BitVec 32 := 0#32
  let v199 : BitVec 1 := Scalar.cmpi .slt arg22 c0_i32_100
  let v200 : BitVec 32 := Scalar.extui v199
  let v201 : BitVec 32 := Scalar.subi v198 v200
  let c8_i32 : BitVec 32 := 8#32
  let c0_i32_101 : BitVec 32 := 0#32
  let v202 : BitVec 1 := Scalar.cmpi .sgt c8_i32 c0_i32_101
  let v203 : BitVec 32 := Scalar.extui v202
  let c0_i32_102 : BitVec 32 := 0#32
  let v204 : BitVec 1 := Scalar.cmpi .slt c8_i32 c0_i32_102
  let v205 : BitVec 32 := Scalar.extui v204
  let v206 : BitVec 32 := Scalar.subi v203 v205
  let v207 : BitVec 1 := Scalar.cmpi .ne v201 v206
  let v208 : BitVec 32 := Scalar.remsi arg22 c8_i32
  let c0_i32_103 : BitVec 32 := 0#32
  let v209 : BitVec 1 := Scalar.cmpi .ne v208 c0_i32_103
  let v210 : BitVec 1 := Scalar.andi v207 v209
  let v196 : BitVec 32 := Scalar.divsi arg22 c8_i32
  let c1_i32_104 : BitVec 32 := 1#32
  let v211 : BitVec 32 := Scalar.subi v196 c1_i32_104
  let v212 : BitVec 32 := Scalar.select v210 v211 v196
  let v223 : Index := Scalar.indexCast v212
  let c8_i32_105 : BitVec 32 := 8#32
  let c0_i32_106 : BitVec 32 := 0#32
  let v213 : BitVec 1 := Scalar.cmpi .eq c8_i32_105 c0_i32_106
  let c1_i32_107 : BitVec 32 := 1#32
  let v214 : BitVec 32 := Scalar.select v213 c1_i32_107 c8_i32_105
  let v215 : BitVec 32 := Scalar.remsi arg22 v214
  let c0_i32_109 : BitVec 32 := 0#32
  let v217 : BitVec 1 := Scalar.cmpi .slt v215 c0_i32_109
  let c0_i32_110 : BitVec 32 := 0#32
  let v218 : BitVec 1 := Scalar.cmpi .slt v214 c0_i32_110
  let v219 : BitVec 1 := Scalar.xori v217 v218
  let c0_i32_108 : BitVec 32 := 0#32
  let v216 : BitVec 1 := Scalar.cmpi .ne v215 c0_i32_108
  let v220 : BitVec 1 := Scalar.andi v219 v216
  let v221 : BitVec 32 := Scalar.addi v215 v214
  let v222 : BitVec 32 := Scalar.select v220 v221 v215
  let v224 : Index := Scalar.indexCast v222
  let c0_112 : Index := 0#32
  ![2, v223.toNat, v224.toNat, 0]
def k0_off43 (i : grid0.Coords) (v70 : BitVec 32) : Fin 2 → Nat :=
  let arg0 : BitVec 32 := BitVec.ofNat 32 (i 0).val
  let c256_i32 : BitVec 32 := 256#32
  let v63 : BitVec 32 := Scalar.muli arg0 c256_i32
  let v71 : BitVec 32 := Scalar.subi v70 v63
  let c3_i32 : BitVec 32 := 3#32
  let v96 : BitVec 32 := Scalar.subi v71 c3_i32
  let c0_i32_44 : BitVec 32 := 0#32
  let v97 : BitVec 32 := Scalar.addi v96 c0_i32_44
  let c16_i32 : BitVec 32 := 16#32
  let v129 : BitVec 32 := Scalar.addi v97 c16_i32
  let c1_i32_66 : BitVec 32 := 1#32
  let v130 : BitVec 32 := Scalar.shrsi v129 c1_i32_66
  let v131 : Index := Scalar.indexCast v130
  let c0_67 : Index := 0#32
  ![v131.toNat, 0]
def k0_cond7 (i : grid0.Coords) (arg22 : BitVec 32) (v70 : BitVec 32) : BitVec 1 :=
  let c0_i32_45 : BitVec 32 := 0#32
  let v98 : BitVec 1 := Scalar.cmpi .sgt arg22 c0_i32_45
  let arg0 : BitVec 32 := BitVec.ofNat 32 (i 0).val
  let c256_i32 : BitVec 32 := 256#32
  let v63 : BitVec 32 := Scalar.muli arg0 c256_i32
  let v71 : BitVec 32 := Scalar.subi v70 v63
  let c3_i32 : BitVec 32 := 3#32
  let v96 : BitVec 32 := Scalar.subi v71 c3_i32
  let c0_i32_44 : BitVec 32 := 0#32
  let v97 : BitVec 32 := Scalar.addi v96 c0_i32_44
  let c0_i32_46 : BitVec 32 := 0#32
  let v99 : BitVec 1 := Scalar.cmpi .sge v97 c0_i32_46
  let c256_i32_47 : BitVec 32 := 256#32
  let v100 : BitVec 1 := Scalar.cmpi .slt v97 c256_i32_47
  let v101 : BitVec 1 := Scalar.andi v99 v100
  let v102 : BitVec 1 := Scalar.andi v98 v101
  let v103 : BitVec 32 := Scalar.extui v102
  let c0_i32_48 : BitVec 32 := 0#32
  let v104 : BitVec 1 := Scalar.cmpi .ne v103 c0_i32_48
  v104

def k0_off44 (arg22 : BitVec 32) : Fin 4 → Nat :=
  let c0_83 : Index := 0#32
  let c1_i32_65 : BitVec 32 := 1#32
  let v128 : BitVec 32 := Scalar.subi arg22 c1_i32_65
  let c0_i32_71 : BitVec 32 := 0#32
  let v142 : BitVec 1 := Scalar.cmpi .sgt v128 c0_i32_71
  let v143 : BitVec 32 := Scalar.extui v142
  let c0_i32_72 : BitVec 32 := 0#32
  let v144 : BitVec 1 := Scalar.cmpi .slt v128 c0_i32_72
  let v145 : BitVec 32 := Scalar.extui v144
  let v146 : BitVec 32 := Scalar.subi v143 v145
  let c8_i32 : BitVec 32 := 8#32
  let c0_i32_73 : BitVec 32 := 0#32
  let v147 : BitVec 1 := Scalar.cmpi .sgt c8_i32 c0_i32_73
  let v148 : BitVec 32 := Scalar.extui v147
  let c0_i32_74 : BitVec 32 := 0#32
  let v149 : BitVec 1 := Scalar.cmpi .slt c8_i32 c0_i32_74
  let v150 : BitVec 32 := Scalar.extui v149
  let v151 : BitVec 32 := Scalar.subi v148 v150
  let v152 : BitVec 1 := Scalar.cmpi .ne v146 v151
  let v153 : BitVec 32 := Scalar.remsi v128 c8_i32
  let c0_i32_75 : BitVec 32 := 0#32
  let v154 : BitVec 1 := Scalar.cmpi .ne v153 c0_i32_75
  let v155 : BitVec 1 := Scalar.andi v152 v154
  let v141 : BitVec 32 := Scalar.divsi v128 c8_i32
  let c1_i32_76 : BitVec 32 := 1#32
  let v156 : BitVec 32 := Scalar.subi v141 c1_i32_76
  let v157 : BitVec 32 := Scalar.select v155 v156 v141
  let v168 : Index := Scalar.indexCast v157
  let c8_i32_77 : BitVec 32 := 8#32
  let c0_i32_78 : BitVec 32 := 0#32
  let v158 : BitVec 1 := Scalar.cmpi .eq c8_i32_77 c0_i32_78
  let c1_i32_79 : BitVec 32 := 1#32
  let v159 : BitVec 32 := Scalar.select v158 c1_i32_79 c8_i32_77
  let v160 : BitVec 32 := Scalar.remsi v128 v159
  let c0_i32_81 : BitVec 32 := 0#32
  let v162 : BitVec 1 := Scalar.cmpi .slt v160 c0_i32_81
  let c0_i32_82 : BitVec 32 := 0#32
  let v163 : BitVec 1 := Scalar.cmpi .slt v159 c0_i32_82
  let v164 : BitVec 1 := Scalar.xori v162 v163
  let c0_i32_80 : BitVec 32 := 0#32
  let v161 : BitVec 1 := Scalar.cmpi .ne v160 c0_i32_80
  let v165 : BitVec 1 := Scalar.andi v164 v161
  let v166 : BitVec 32 := Scalar.addi v160 v159
  let v167 : BitVec 32 := Scalar.select v165 v166 v160
  let v169 : Index := Scalar.indexCast v167
  let c0_84 : Index := 0#32
  ![0, v168.toNat, v169.toNat, 0]
def k0_off45 (i : grid0.Coords) (v70 : BitVec 32) : Fin 2 → Nat :=
  let arg0 : BitVec 32 := BitVec.ofNat 32 (i 0).val
  let c256_i32 : BitVec 32 := 256#32
  let v63 : BitVec 32 := Scalar.muli arg0 c256_i32
  let v71 : BitVec 32 := Scalar.subi v70 v63
  let c3_i32_49 : BitVec 32 := 3#32
  let v105 : BitVec 32 := Scalar.subi v71 c3_i32_49
  let c1_i32_50 : BitVec 32 := 1#32
  let v106 : BitVec 32 := Scalar.addi v105 c1_i32_50
  let c16_i32 : BitVec 32 := 16#32
  let v129 : BitVec 32 := Scalar.addi v106 c16_i32
  let c1_i32_66 : BitVec 32 := 1#32
  let v130 : BitVec 32 := Scalar.shrsi v129 c1_i32_66
  let v131 : Index := Scalar.indexCast v130
  let c0_67 : Index := 0#32
  ![v131.toNat, 0]
def k0_cond8 (i : grid0.Coords) (arg22 : BitVec 32) (v70 : BitVec 32) : BitVec 1 :=
  let c0_i32_51 : BitVec 32 := 0#32
  let v107 : BitVec 1 := Scalar.cmpi .sgt arg22 c0_i32_51
  let arg0 : BitVec 32 := BitVec.ofNat 32 (i 0).val
  let c256_i32 : BitVec 32 := 256#32
  let v63 : BitVec 32 := Scalar.muli arg0 c256_i32
  let v71 : BitVec 32 := Scalar.subi v70 v63
  let c3_i32_49 : BitVec 32 := 3#32
  let v105 : BitVec 32 := Scalar.subi v71 c3_i32_49
  let c1_i32_50 : BitVec 32 := 1#32
  let v106 : BitVec 32 := Scalar.addi v105 c1_i32_50
  let c0_i32_52 : BitVec 32 := 0#32
  let v108 : BitVec 1 := Scalar.cmpi .sge v106 c0_i32_52
  let c256_i32_53 : BitVec 32 := 256#32
  let v109 : BitVec 1 := Scalar.cmpi .slt v106 c256_i32_53
  let v110 : BitVec 1 := Scalar.andi v108 v109
  let v111 : BitVec 1 := Scalar.andi v107 v110
  let v112 : BitVec 32 := Scalar.extui v111
  let c0_i32_54 : BitVec 32 := 0#32
  let v113 : BitVec 1 := Scalar.cmpi .ne v112 c0_i32_54
  v113

def k0_off46 (arg22 : BitVec 32) : Fin 4 → Nat :=
  let c1 : Index := 1#32
  let c1_i32_65 : BitVec 32 := 1#32
  let v128 : BitVec 32 := Scalar.subi arg22 c1_i32_65
  let c0_i32_71 : BitVec 32 := 0#32
  let v142 : BitVec 1 := Scalar.cmpi .sgt v128 c0_i32_71
  let v143 : BitVec 32 := Scalar.extui v142
  let c0_i32_72 : BitVec 32 := 0#32
  let v144 : BitVec 1 := Scalar.cmpi .slt v128 c0_i32_72
  let v145 : BitVec 32 := Scalar.extui v144
  let v146 : BitVec 32 := Scalar.subi v143 v145
  let c8_i32 : BitVec 32 := 8#32
  let c0_i32_73 : BitVec 32 := 0#32
  let v147 : BitVec 1 := Scalar.cmpi .sgt c8_i32 c0_i32_73
  let v148 : BitVec 32 := Scalar.extui v147
  let c0_i32_74 : BitVec 32 := 0#32
  let v149 : BitVec 1 := Scalar.cmpi .slt c8_i32 c0_i32_74
  let v150 : BitVec 32 := Scalar.extui v149
  let v151 : BitVec 32 := Scalar.subi v148 v150
  let v152 : BitVec 1 := Scalar.cmpi .ne v146 v151
  let v153 : BitVec 32 := Scalar.remsi v128 c8_i32
  let c0_i32_75 : BitVec 32 := 0#32
  let v154 : BitVec 1 := Scalar.cmpi .ne v153 c0_i32_75
  let v155 : BitVec 1 := Scalar.andi v152 v154
  let v141 : BitVec 32 := Scalar.divsi v128 c8_i32
  let c1_i32_76 : BitVec 32 := 1#32
  let v156 : BitVec 32 := Scalar.subi v141 c1_i32_76
  let v157 : BitVec 32 := Scalar.select v155 v156 v141
  let v168 : Index := Scalar.indexCast v157
  let c8_i32_77 : BitVec 32 := 8#32
  let c0_i32_78 : BitVec 32 := 0#32
  let v158 : BitVec 1 := Scalar.cmpi .eq c8_i32_77 c0_i32_78
  let c1_i32_79 : BitVec 32 := 1#32
  let v159 : BitVec 32 := Scalar.select v158 c1_i32_79 c8_i32_77
  let v160 : BitVec 32 := Scalar.remsi v128 v159
  let c0_i32_81 : BitVec 32 := 0#32
  let v162 : BitVec 1 := Scalar.cmpi .slt v160 c0_i32_81
  let c0_i32_82 : BitVec 32 := 0#32
  let v163 : BitVec 1 := Scalar.cmpi .slt v159 c0_i32_82
  let v164 : BitVec 1 := Scalar.xori v162 v163
  let c0_i32_80 : BitVec 32 := 0#32
  let v161 : BitVec 1 := Scalar.cmpi .ne v160 c0_i32_80
  let v165 : BitVec 1 := Scalar.andi v164 v161
  let v166 : BitVec 32 := Scalar.addi v160 v159
  let v167 : BitVec 32 := Scalar.select v165 v166 v160
  let v169 : Index := Scalar.indexCast v167
  let c0_83 : Index := 0#32
  ![1, v168.toNat, v169.toNat, 0]
def k0_off47 (i : grid0.Coords) (v70 : BitVec 32) : Fin 2 → Nat :=
  let arg0 : BitVec 32 := BitVec.ofNat 32 (i 0).val
  let c256_i32 : BitVec 32 := 256#32
  let v63 : BitVec 32 := Scalar.muli arg0 c256_i32
  let v71 : BitVec 32 := Scalar.subi v70 v63
  let c3_i32_55 : BitVec 32 := 3#32
  let v114 : BitVec 32 := Scalar.subi v71 c3_i32_55
  let c2_i32_56 : BitVec 32 := 2#32
  let v115 : BitVec 32 := Scalar.addi v114 c2_i32_56
  let c16_i32 : BitVec 32 := 16#32
  let v129 : BitVec 32 := Scalar.addi v115 c16_i32
  let c1_i32_66 : BitVec 32 := 1#32
  let v130 : BitVec 32 := Scalar.shrsi v129 c1_i32_66
  let v131 : Index := Scalar.indexCast v130
  let c0_67 : Index := 0#32
  ![v131.toNat, 0]
def k0_cond9 (i : grid0.Coords) (arg22 : BitVec 32) (v70 : BitVec 32) : BitVec 1 :=
  let c0_i32_57 : BitVec 32 := 0#32
  let v116 : BitVec 1 := Scalar.cmpi .sgt arg22 c0_i32_57
  let arg0 : BitVec 32 := BitVec.ofNat 32 (i 0).val
  let c256_i32 : BitVec 32 := 256#32
  let v63 : BitVec 32 := Scalar.muli arg0 c256_i32
  let v71 : BitVec 32 := Scalar.subi v70 v63
  let c3_i32_55 : BitVec 32 := 3#32
  let v114 : BitVec 32 := Scalar.subi v71 c3_i32_55
  let c2_i32_56 : BitVec 32 := 2#32
  let v115 : BitVec 32 := Scalar.addi v114 c2_i32_56
  let c0_i32_58 : BitVec 32 := 0#32
  let v117 : BitVec 1 := Scalar.cmpi .sge v115 c0_i32_58
  let c256_i32_59 : BitVec 32 := 256#32
  let v118 : BitVec 1 := Scalar.cmpi .slt v115 c256_i32_59
  let v119 : BitVec 1 := Scalar.andi v117 v118
  let v120 : BitVec 1 := Scalar.andi v116 v119
  let v121 : BitVec 32 := Scalar.extui v120
  let c0_i32_60 : BitVec 32 := 0#32
  let v122 : BitVec 1 := Scalar.cmpi .ne v121 c0_i32_60
  v122

def k0_off48 (arg22 : BitVec 32) : Fin 4 → Nat :=
  let c2 : Index := 2#32
  let c1_i32_65 : BitVec 32 := 1#32
  let v128 : BitVec 32 := Scalar.subi arg22 c1_i32_65
  let c0_i32_71 : BitVec 32 := 0#32
  let v142 : BitVec 1 := Scalar.cmpi .sgt v128 c0_i32_71
  let v143 : BitVec 32 := Scalar.extui v142
  let c0_i32_72 : BitVec 32 := 0#32
  let v144 : BitVec 1 := Scalar.cmpi .slt v128 c0_i32_72
  let v145 : BitVec 32 := Scalar.extui v144
  let v146 : BitVec 32 := Scalar.subi v143 v145
  let c8_i32 : BitVec 32 := 8#32
  let c0_i32_73 : BitVec 32 := 0#32
  let v147 : BitVec 1 := Scalar.cmpi .sgt c8_i32 c0_i32_73
  let v148 : BitVec 32 := Scalar.extui v147
  let c0_i32_74 : BitVec 32 := 0#32
  let v149 : BitVec 1 := Scalar.cmpi .slt c8_i32 c0_i32_74
  let v150 : BitVec 32 := Scalar.extui v149
  let v151 : BitVec 32 := Scalar.subi v148 v150
  let v152 : BitVec 1 := Scalar.cmpi .ne v146 v151
  let v153 : BitVec 32 := Scalar.remsi v128 c8_i32
  let c0_i32_75 : BitVec 32 := 0#32
  let v154 : BitVec 1 := Scalar.cmpi .ne v153 c0_i32_75
  let v155 : BitVec 1 := Scalar.andi v152 v154
  let v141 : BitVec 32 := Scalar.divsi v128 c8_i32
  let c1_i32_76 : BitVec 32 := 1#32
  let v156 : BitVec 32 := Scalar.subi v141 c1_i32_76
  let v157 : BitVec 32 := Scalar.select v155 v156 v141
  let v168 : Index := Scalar.indexCast v157
  let c8_i32_77 : BitVec 32 := 8#32
  let c0_i32_78 : BitVec 32 := 0#32
  let v158 : BitVec 1 := Scalar.cmpi .eq c8_i32_77 c0_i32_78
  let c1_i32_79 : BitVec 32 := 1#32
  let v159 : BitVec 32 := Scalar.select v158 c1_i32_79 c8_i32_77
  let v160 : BitVec 32 := Scalar.remsi v128 v159
  let c0_i32_81 : BitVec 32 := 0#32
  let v162 : BitVec 1 := Scalar.cmpi .slt v160 c0_i32_81
  let c0_i32_82 : BitVec 32 := 0#32
  let v163 : BitVec 1 := Scalar.cmpi .slt v159 c0_i32_82
  let v164 : BitVec 1 := Scalar.xori v162 v163
  let c0_i32_80 : BitVec 32 := 0#32
  let v161 : BitVec 1 := Scalar.cmpi .ne v160 c0_i32_80
  let v165 : BitVec 1 := Scalar.andi v164 v161
  let v166 : BitVec 32 := Scalar.addi v160 v159
  let v167 : BitVec 32 := Scalar.select v165 v166 v160
  let v169 : Index := Scalar.indexCast v167
  let c0_83 : Index := 0#32
  ![2, v168.toNat, v169.toNat, 0]

def k0_chk3 (i : grid0.Coords) (arg22 : BitVec 32) (v70 : BitVec 32) : Prop :=
  (∀ (k0_h4 : k0_cond4 i arg22 v70 = 1#1), ∀ a, S26x128.size a = 0 ∨ (k0_off29 i v70) a + (![136, 1] : Fin 2 → Nat) a * (S26x128.size a - 1) < S3536x128.size a) ∧
  (∀ (k0_h4 : k0_cond4 i arg22 v70 = 1#1), ∀ a, S26x128.size a = 0 ∨ (k0_off30 i v70) a + (![256, 1] : Fin 2 → Nat) a * (S26x128.size a - 1) < S6656x128.size a) ∧
  (∀ (k0_h4 : k0_cond4 i arg22 v70 = 1#1), ∀ a, (k0_off31 i v70) a + S1x128.size a ≤ S256x128.size a) ∧
  (∀ (k0_h4 : k0_cond4 i arg22 v70 = 1#1), ∀ a, S1x1x26x128.size a = 0 ∨ (k0_off32 arg22) a + (![1, 1, 8, 1] : Fin 4 → Nat) a * (S1x1x26x128.size a - 1) < S3x3x208x128.size a) ∧
  (∀ (k0_h5 : k0_cond5 i arg22 v70 = 1#1), ∀ a, S26x128.size a = 0 ∨ (k0_off33 i v70) a + (![136, 1] : Fin 2 → Nat) a * (S26x128.size a - 1) < S3536x128.size a) ∧
  (∀ (k0_h5 : k0_cond5 i arg22 v70 = 1#1), ∀ a, S26x128.size a = 0 ∨ (k0_off34 i v70) a + (![136, 1] : Fin 2 → Nat) a * (S26x128.size a - 1) < S3536x128.size a) ∧
  (∀ (k0_h5 : k0_cond5 i arg22 v70 = 1#1), ∀ a, S26x128.size a = 0 ∨ (k0_off35 i v70) a + (![256, 1] : Fin 2 → Nat) a * (S26x128.size a - 1) < S6656x128.size a) ∧
  (∀ (k0_h5 : k0_cond5 i arg22 v70 = 1#1), ∀ a, (k0_off36 i v70) a + S1x128.size a ≤ S256x128.size a) ∧
  (∀ (k0_h5 : k0_cond5 i arg22 v70 = 1#1), ∀ a, S1x1x26x128.size a = 0 ∨ (k0_off37 arg22) a + (![1, 1, 8, 1] : Fin 4 → Nat) a * (S1x1x26x128.size a - 1) < S3x3x208x128.size a) ∧
  (∀ (k0_h6 : k0_cond6 i arg22 v70 = 1#1), ∀ a, S26x128.size a = 0 ∨ (k0_off38 i v70) a + (![136, 1] : Fin 2 → Nat) a * (S26x128.size a - 1) < S3536x128.size a) ∧
  (∀ (k0_h6 : k0_cond6 i arg22 v70 = 1#1), ∀ (r : Fin 2), ∀ a, S26x128.size a = 0 ∨ (k0_off39 i v70 (BitVec.ofNat 32 (1 + r.val))) a + (![136, 1] : Fin 2 → Nat) a * (S26x128.size a - 1) < S3536x128.size a) ∧
  (∀ (k0_h6 : k0_cond6 i arg22 v70 = 1#1), ∀ a, S26x128.size a = 0 ∨ (k0_off40 i v70) a + (![256, 1] : Fin 2 → Nat) a * (S26x128.size a - 1) < S6656x128.size a) ∧
  (∀ (k0_h6 : k0_cond6 i arg22 v70 = 1#1), ∀ a, (k0_off41 i v70) a + S1x128.size a ≤ S256x128.size a) ∧
  (∀ (k0_h6 : k0_cond6 i arg22 v70 = 1#1), ∀ a, S1x1x26x128.size a = 0 ∨ (k0_off42 arg22) a + (![1, 1, 8, 1] : Fin 4 → Nat) a * (S1x1x26x128.size a - 1) < S3x3x208x128.size a) ∧
  (∀ (k0_h7 : k0_cond7 i arg22 v70 = 1#1), ∀ a, S26x128.size a = 0 ∨ (k0_off43 i v70) a + (![136, 1] : Fin 2 → Nat) a * (S26x128.size a - 1) < S3536x128.size a) ∧
  (∀ (k0_h7 : k0_cond7 i arg22 v70 = 1#1), ∀ a, S1x1x26x128.size a = 0 ∨ (k0_off44 arg22) a + (![1, 1, 8, 1] : Fin 4 → Nat) a * (S1x1x26x128.size a - 1) < S3x3x208x128.size a) ∧
  (∀ (k0_h8 : k0_cond8 i arg22 v70 = 1#1), ∀ a, S26x128.size a = 0 ∨ (k0_off45 i v70) a + (![136, 1] : Fin 2 → Nat) a * (S26x128.size a - 1) < S3536x128.size a) ∧
  (∀ (k0_h8 : k0_cond8 i arg22 v70 = 1#1), ∀ a, S1x1x26x128.size a = 0 ∨ (k0_off46 arg22) a + (![1, 1, 8, 1] : Fin 4 → Nat) a * (S1x1x26x128.size a - 1) < S3x3x208x128.size a) ∧
  (∀ (k0_h9 : k0_cond9 i arg22 v70 = 1#1), ∀ a, S26x128.size a = 0 ∨ (k0_off47 i v70) a + (![136, 1] : Fin 2 → Nat) a * (S26x128.size a - 1) < S3536x128.size a) ∧
  (∀ (k0_h9 : k0_cond9 i arg22 v70 = 1#1), ∀ a, S1x1x26x128.size a = 0 ∨ (k0_off48 arg22) a + (![1, 1, 8, 1] : Fin 4 → Nat) a * (S1x1x26x128.size a - 1) < S3x3x208x128.size a)
theorem k0_off29_inb : ∀ (i : grid0.Coords) (arg22 : BitVec 32) (v70 : BitVec 32) (k0_hw3 : k0_chk3 i arg22 v70), ∀ (k0_h4 : k0_cond4 i arg22 v70 = 1#1), ∀ a, S26x128.size a = 0 ∨ (k0_off29 i v70) a + (![136, 1] : Fin 2 → Nat) a * (S26x128.size a - 1) < S3536x128.size a := fun i arg22 v70 k0_hw3 k0_h4 => k0_hw3.1 k0_h4
theorem k0_off30_inb : ∀ (i : grid0.Coords) (arg22 : BitVec 32) (v70 : BitVec 32) (k0_hw3 : k0_chk3 i arg22 v70), ∀ (k0_h4 : k0_cond4 i arg22 v70 = 1#1), ∀ a, S26x128.size a = 0 ∨ (k0_off30 i v70) a + (![256, 1] : Fin 2 → Nat) a * (S26x128.size a - 1) < S6656x128.size a := fun i arg22 v70 k0_hw3 k0_h4 => k0_hw3.2.1 k0_h4
theorem k0_off31_inb : ∀ (i : grid0.Coords) (arg22 : BitVec 32) (v70 : BitVec 32) (k0_hw3 : k0_chk3 i arg22 v70), ∀ (k0_h4 : k0_cond4 i arg22 v70 = 1#1), ∀ a, (k0_off31 i v70) a + S1x128.size a ≤ S256x128.size a := fun i arg22 v70 k0_hw3 k0_h4 => k0_hw3.2.2.1 k0_h4
theorem k0_off32_inb : ∀ (i : grid0.Coords) (arg22 : BitVec 32) (v70 : BitVec 32) (k0_hw3 : k0_chk3 i arg22 v70), ∀ (k0_h4 : k0_cond4 i arg22 v70 = 1#1), ∀ a, S1x1x26x128.size a = 0 ∨ (k0_off32 arg22) a + (![1, 1, 8, 1] : Fin 4 → Nat) a * (S1x1x26x128.size a - 1) < S3x3x208x128.size a := fun i arg22 v70 k0_hw3 k0_h4 => k0_hw3.2.2.2.1 k0_h4
theorem k0_off33_inb : ∀ (i : grid0.Coords) (arg22 : BitVec 32) (v70 : BitVec 32) (k0_hw3 : k0_chk3 i arg22 v70), ∀ (k0_h5 : k0_cond5 i arg22 v70 = 1#1), ∀ a, S26x128.size a = 0 ∨ (k0_off33 i v70) a + (![136, 1] : Fin 2 → Nat) a * (S26x128.size a - 1) < S3536x128.size a := fun i arg22 v70 k0_hw3 k0_h5 => k0_hw3.2.2.2.2.1 k0_h5
theorem k0_off34_inb : ∀ (i : grid0.Coords) (arg22 : BitVec 32) (v70 : BitVec 32) (k0_hw3 : k0_chk3 i arg22 v70), ∀ (k0_h5 : k0_cond5 i arg22 v70 = 1#1), ∀ a, S26x128.size a = 0 ∨ (k0_off34 i v70) a + (![136, 1] : Fin 2 → Nat) a * (S26x128.size a - 1) < S3536x128.size a := fun i arg22 v70 k0_hw3 k0_h5 => k0_hw3.2.2.2.2.2.1 k0_h5
theorem k0_off35_inb : ∀ (i : grid0.Coords) (arg22 : BitVec 32) (v70 : BitVec 32) (k0_hw3 : k0_chk3 i arg22 v70), ∀ (k0_h5 : k0_cond5 i arg22 v70 = 1#1), ∀ a, S26x128.size a = 0 ∨ (k0_off35 i v70) a + (![256, 1] : Fin 2 → Nat) a * (S26x128.size a - 1) < S6656x128.size a := fun i arg22 v70 k0_hw3 k0_h5 => k0_hw3.2.2.2.2.2.2.1 k0_h5
theorem k0_off36_inb : ∀ (i : grid0.Coords) (arg22 : BitVec 32) (v70 : BitVec 32) (k0_hw3 : k0_chk3 i arg22 v70), ∀ (k0_h5 : k0_cond5 i arg22 v70 = 1#1), ∀ a, (k0_off36 i v70) a + S1x128.size a ≤ S256x128.size a := fun i arg22 v70 k0_hw3 k0_h5 => k0_hw3.2.2.2.2.2.2.2.1 k0_h5
theorem k0_off37_inb : ∀ (i : grid0.Coords) (arg22 : BitVec 32) (v70 : BitVec 32) (k0_hw3 : k0_chk3 i arg22 v70), ∀ (k0_h5 : k0_cond5 i arg22 v70 = 1#1), ∀ a, S1x1x26x128.size a = 0 ∨ (k0_off37 arg22) a + (![1, 1, 8, 1] : Fin 4 → Nat) a * (S1x1x26x128.size a - 1) < S3x3x208x128.size a := fun i arg22 v70 k0_hw3 k0_h5 => k0_hw3.2.2.2.2.2.2.2.2.1 k0_h5
theorem k0_off38_inb : ∀ (i : grid0.Coords) (arg22 : BitVec 32) (v70 : BitVec 32) (k0_hw3 : k0_chk3 i arg22 v70), ∀ (k0_h6 : k0_cond6 i arg22 v70 = 1#1), ∀ a, S26x128.size a = 0 ∨ (k0_off38 i v70) a + (![136, 1] : Fin 2 → Nat) a * (S26x128.size a - 1) < S3536x128.size a := fun i arg22 v70 k0_hw3 k0_h6 => k0_hw3.2.2.2.2.2.2.2.2.2.1 k0_h6
theorem k0_off39_inb : ∀ (i : grid0.Coords) (arg22 : BitVec 32) (v70 : BitVec 32) (k0_hw3 : k0_chk3 i arg22 v70), ∀ (k0_h6 : k0_cond6 i arg22 v70 = 1#1), ∀ (r : Fin 2), ∀ a, S26x128.size a = 0 ∨ (k0_off39 i v70 (BitVec.ofNat 32 (1 + r.val))) a + (![136, 1] : Fin 2 → Nat) a * (S26x128.size a - 1) < S3536x128.size a := fun i arg22 v70 k0_hw3 k0_h6 r => k0_hw3.2.2.2.2.2.2.2.2.2.2.1 k0_h6 r
theorem k0_off40_inb : ∀ (i : grid0.Coords) (arg22 : BitVec 32) (v70 : BitVec 32) (k0_hw3 : k0_chk3 i arg22 v70), ∀ (k0_h6 : k0_cond6 i arg22 v70 = 1#1), ∀ a, S26x128.size a = 0 ∨ (k0_off40 i v70) a + (![256, 1] : Fin 2 → Nat) a * (S26x128.size a - 1) < S6656x128.size a := fun i arg22 v70 k0_hw3 k0_h6 => k0_hw3.2.2.2.2.2.2.2.2.2.2.2.1 k0_h6
theorem k0_off41_inb : ∀ (i : grid0.Coords) (arg22 : BitVec 32) (v70 : BitVec 32) (k0_hw3 : k0_chk3 i arg22 v70), ∀ (k0_h6 : k0_cond6 i arg22 v70 = 1#1), ∀ a, (k0_off41 i v70) a + S1x128.size a ≤ S256x128.size a := fun i arg22 v70 k0_hw3 k0_h6 => k0_hw3.2.2.2.2.2.2.2.2.2.2.2.2.1 k0_h6
theorem k0_off42_inb : ∀ (i : grid0.Coords) (arg22 : BitVec 32) (v70 : BitVec 32) (k0_hw3 : k0_chk3 i arg22 v70), ∀ (k0_h6 : k0_cond6 i arg22 v70 = 1#1), ∀ a, S1x1x26x128.size a = 0 ∨ (k0_off42 arg22) a + (![1, 1, 8, 1] : Fin 4 → Nat) a * (S1x1x26x128.size a - 1) < S3x3x208x128.size a := fun i arg22 v70 k0_hw3 k0_h6 => k0_hw3.2.2.2.2.2.2.2.2.2.2.2.2.2.1 k0_h6
theorem k0_off43_inb : ∀ (i : grid0.Coords) (arg22 : BitVec 32) (v70 : BitVec 32) (k0_hw3 : k0_chk3 i arg22 v70), ∀ (k0_h7 : k0_cond7 i arg22 v70 = 1#1), ∀ a, S26x128.size a = 0 ∨ (k0_off43 i v70) a + (![136, 1] : Fin 2 → Nat) a * (S26x128.size a - 1) < S3536x128.size a := fun i arg22 v70 k0_hw3 k0_h7 => k0_hw3.2.2.2.2.2.2.2.2.2.2.2.2.2.2.1 k0_h7
theorem k0_off44_inb : ∀ (i : grid0.Coords) (arg22 : BitVec 32) (v70 : BitVec 32) (k0_hw3 : k0_chk3 i arg22 v70), ∀ (k0_h7 : k0_cond7 i arg22 v70 = 1#1), ∀ a, S1x1x26x128.size a = 0 ∨ (k0_off44 arg22) a + (![1, 1, 8, 1] : Fin 4 → Nat) a * (S1x1x26x128.size a - 1) < S3x3x208x128.size a := fun i arg22 v70 k0_hw3 k0_h7 => k0_hw3.2.2.2.2.2.2.2.2.2.2.2.2.2.2.2.1 k0_h7
theorem k0_off45_inb : ∀ (i : grid0.Coords) (arg22 : BitVec 32) (v70 : BitVec 32) (k0_hw3 : k0_chk3 i arg22 v70), ∀ (k0_h8 : k0_cond8 i arg22 v70 = 1#1), ∀ a, S26x128.size a = 0 ∨ (k0_off45 i v70) a + (![136, 1] : Fin 2 → Nat) a * (S26x128.size a - 1) < S3536x128.size a := fun i arg22 v70 k0_hw3 k0_h8 => k0_hw3.2.2.2.2.2.2.2.2.2.2.2.2.2.2.2.2.1 k0_h8
theorem k0_off46_inb : ∀ (i : grid0.Coords) (arg22 : BitVec 32) (v70 : BitVec 32) (k0_hw3 : k0_chk3 i arg22 v70), ∀ (k0_h8 : k0_cond8 i arg22 v70 = 1#1), ∀ a, S1x1x26x128.size a = 0 ∨ (k0_off46 arg22) a + (![1, 1, 8, 1] : Fin 4 → Nat) a * (S1x1x26x128.size a - 1) < S3x3x208x128.size a := fun i arg22 v70 k0_hw3 k0_h8 => k0_hw3.2.2.2.2.2.2.2.2.2.2.2.2.2.2.2.2.2.1 k0_h8
theorem k0_off47_inb : ∀ (i : grid0.Coords) (arg22 : BitVec 32) (v70 : BitVec 32) (k0_hw3 : k0_chk3 i arg22 v70), ∀ (k0_h9 : k0_cond9 i arg22 v70 = 1#1), ∀ a, S26x128.size a = 0 ∨ (k0_off47 i v70) a + (![136, 1] : Fin 2 → Nat) a * (S26x128.size a - 1) < S3536x128.size a := fun i arg22 v70 k0_hw3 k0_h9 => k0_hw3.2.2.2.2.2.2.2.2.2.2.2.2.2.2.2.2.2.2.1 k0_h9
theorem k0_off48_inb : ∀ (i : grid0.Coords) (arg22 : BitVec 32) (v70 : BitVec 32) (k0_hw3 : k0_chk3 i arg22 v70), ∀ (k0_h9 : k0_cond9 i arg22 v70 = 1#1), ∀ a, S1x1x26x128.size a = 0 ∨ (k0_off48 arg22) a + (![1, 1, 8, 1] : Fin 4 → Nat) a * (S1x1x26x128.size a - 1) < S3x3x208x128.size a := fun i arg22 v70 k0_hw3 k0_h9 => k0_hw3.2.2.2.2.2.2.2.2.2.2.2.2.2.2.2.2.2.2.2 k0_h9

def k0_cond11 (i : grid0.Coords) : BitVec 1 :=
  let arg0 : BitVec 32 := BitVec.ofNat 32 (i 0).val
  let c128_i32 : BitVec 32 := 128#32
  let v66 : BitVec 1 := Scalar.cmpi .eq arg0 c128_i32
  let v67 : BitVec 32 := Scalar.extui v66
  let c0_i32_30 : BitVec 32 := 0#32
  let v68 : BitVec 1 := Scalar.cmpi .ne v67 c0_i32_30
  v68

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .smem S25 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x3328 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x3328 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3328 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3328 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x3x208x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x24x3328 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
abbrev S32768x3328 : Shape := ⟨2, ![32768, 3328]⟩
abbrev S32768x1 : Shape := ⟨2, ![32768, 1]⟩
abbrev S25 : Shape := ⟨1, ![25]⟩
abbrev S3328x4 : Shape := ⟨2, ![3328, 4]⟩
abbrev S3328 : Shape := ⟨1, ![3328]⟩
abbrev S128x1x256 : Shape := ⟨3, ![128, 1, 256]⟩
abbrev S4x3328 : Shape := ⟨2, ![4, 3328]⟩
abbrev S1x3328 : Shape := ⟨2, ![1, 3328]⟩
abbrev S3x3x208x128 : Shape := ⟨4, ![3, 3, 208, 128]⟩
abbrev S3x24x3328 : Shape := ⟨3, ![3, 24, 3328]⟩
abbrev S256x3328 : Shape := ⟨2, ![256, 3328]⟩
abbrev S1x1x256 : Shape := ⟨3, ![1, 1, 256]⟩
abbrev S3536x128 : Shape := ⟨2, ![3536, 128]⟩
abbrev S3536x2x128 : Shape := ⟨3, ![3536, 2, 128]⟩
abbrev S3536x1x128 : Shape := ⟨3, ![3536, 1, 128]⟩
abbrev S6864x128 : Shape := ⟨2, ![6864, 128]⟩
abbrev S6656x128 : Shape := ⟨2, ![6656, 128]⟩
abbrev S256x128 : Shape := ⟨2, ![256, 128]⟩
abbrev S26x256x256 : Shape := ⟨3, ![26, 256, 256]⟩
abbrev S26x8x128 : Shape := ⟨3, ![26, 8, 128]⟩
abbrev S5x26x128 : Shape := ⟨3, ![5, 26, 128]⟩
abbrev S128x128 : Shape := ⟨2, ![128, 128]⟩
abbrev S128x2x128 : Shape := ⟨3, ![128, 2, 128]⟩
abbrev S128x1x128 : Shape := ⟨3, ![128, 1, 128]⟩
abbrev S26x256x128 : Shape := ⟨3, ![26, 256, 128]⟩
abbrev S1 : Shape := ⟨1, ![1]⟩
abbrev S1x128 : Shape := ⟨2, ![1, 128]⟩
abbrev S1x1x128 : Shape := ⟨3, ![1, 1, 128]⟩
abbrev S1x128x128 : Shape := ⟨3, ![1, 128, 128]⟩
abbrev S8x128 : Shape := ⟨2, ![8, 128]⟩
abbrev S1x8x128 : Shape := ⟨3, ![1, 8, 128]⟩
abbrev S8x2x128 : Shape := ⟨3, ![8, 2, 128]⟩
abbrev S8x1x128 : Shape := ⟨3, ![8, 1, 128]⟩
abbrev S128x256 : Shape := ⟨2, ![128, 256]⟩
abbrev S256 : Shape := ⟨1, ![256]⟩
abbrev S1x256 : Shape := ⟨2, ![1, 256]⟩
abbrev S1x1x1 : Shape := ⟨3, ![1, 1, 1]⟩
abbrev S1x256x128 : Shape := ⟨3, ![1, 256, 128]⟩
abbrev S32x128 : Shape := ⟨2, ![32, 128]⟩
abbrev S256x256 : Shape := ⟨2, ![256, 256]⟩
abbrev S1x256x256 : Shape := ⟨3, ![1, 256, 256]⟩
abbrev S1x26x128 : Shape := ⟨3, ![1, 26, 128]⟩
abbrev S26x128 : Shape := ⟨2, ![26, 128]⟩
abbrev S26x2x128 : Shape := ⟨3, ![26, 2, 128]⟩
abbrev S26x1x128 : Shape := ⟨3, ![26, 1, 128]⟩
abbrev S52x128 : Shape := ⟨2, ![52, 128]⟩
abbrev S128 : Shape := ⟨1, ![128]⟩
abbrev S1x1x26x128 : Shape := ⟨4, ![1, 1, 26, 128]⟩
abbrev S1x1x8x128 : Shape := ⟨4, ![1, 1, 8, 128]⟩
abbrev S3x3x26x8x128 : Shape := ⟨5, ![3, 3, 26, 8, 128]⟩
abbrev S3x8x3x26x128 : Shape := ⟨5, ![3, 8, 3, 26, 128]⟩
abbrev S24x3x3328 : Shape := ⟨3, ![24, 3, 3328]⟩
abbrev S24x3328x3 : Shape := ⟨3, ![24, 3328, 3]⟩

abbrev nBuf : Space → Nat
  | .hbm => 16
  | .vmem => 23
  | .smem => 2
  | _ => 0

abbrev bufTy : (tb : Table) → Fin (tcTables nBuf tb) → BufTy
  | .hbm, ⟨0, _⟩ => ⟨S32768x3328, .fp8e4m3⟩
  | .hbm, ⟨1, _⟩ => ⟨S32768x1, .f32⟩
  | .hbm, ⟨2, _⟩ => ⟨S25, .i32⟩
  | .hbm, ⟨3, _⟩ => ⟨S3328x4, .bf16⟩
  | .hbm, ⟨4, _⟩ => ⟨S3328, .bf16⟩
  | .hbm, ⟨5, _⟩ => ⟨S128x1x256, .f32⟩
  | .hbm, ⟨6, _⟩ => ⟨S4x3328, .bf16⟩
  | .hbm, ⟨7, _⟩ => ⟨S1x3328, .bf16⟩
  | .hbm, ⟨8, _⟩ => ⟨S32768x3328, .fp8e4m3⟩
  | .hbm, ⟨9, _⟩ => ⟨S128x1x256, .f32⟩
  | .hbm, ⟨10, _⟩ => ⟨S3x3x208x128, .f32⟩
  | .hbm, ⟨11, _⟩ => ⟨S3x24x3328, .bf16⟩
  | .hbm, ⟨12, _⟩ => ⟨S3x3x26x8x128, .f32⟩
  | .hbm, ⟨13, _⟩ => ⟨S3x8x3x26x128, .f32⟩
  | .hbm, ⟨14, _⟩ => ⟨S24x3x3328, .f32⟩
  | .hbm, ⟨15, _⟩ => ⟨S24x3328x3, .bf16⟩
  | .local _ .vmem, ⟨0, _⟩ => ⟨S256x3328, .fp8e4m3⟩
  | .local _ .vmem, ⟨1, _⟩ => ⟨S256x3328, .fp8e4m3⟩
  | .local _ .vmem, ⟨2, _⟩ => ⟨S1x1x256, .f32⟩
  | .local _ .vmem, ⟨3, _⟩ => ⟨S1x1x256, .f32⟩
  | .local _ .vmem, ⟨4, _⟩ => ⟨S4x3328, .bf16⟩
  | .local _ .vmem, ⟨5, _⟩ => ⟨S1x3328, .bf16⟩
  | .local _ .vmem, ⟨6, _⟩ => ⟨S256x3328, .fp8e4m3⟩
  | .local _ .vmem, ⟨7, _⟩ => ⟨S256x3328, .fp8e4m3⟩
  | .local _ .vmem, ⟨8, _⟩ => ⟨S1x1x256, .f32⟩
  | .local _ .vmem, ⟨9, _⟩ => ⟨S1x1x256, .f32⟩
  | .local _ .vmem, ⟨10, _⟩ => ⟨S3x3x208x128, .f32⟩
  | .local _ .vmem, ⟨11, _⟩ => ⟨S3x24x3328, .bf16⟩
  | .local _ .vmem, ⟨12, _⟩ => ⟨S3536x2x128, .bf16⟩
  | .local _ .vmem, ⟨13, _⟩ => ⟨S6864x128, .f32⟩
  | .local _ .vmem, ⟨14, _⟩ => ⟨S6656x128, .f32⟩
  | .local _ .vmem, ⟨15, _⟩ => ⟨S256x128, .f32⟩
  | .local _ .vmem, ⟨16, _⟩ => ⟨S26x256x256, .bf16⟩
  | .local _ .vmem, ⟨17, _⟩ => ⟨S26x8x128, .f32⟩
  | .local _ .vmem, ⟨18, _⟩ => ⟨S5x26x128, .f32⟩
  | .local _ .vmem, ⟨19, _⟩ => ⟨S128x2x128, .bf16⟩
  | .local _ .vmem, ⟨20, _⟩ => ⟨S256x128, .f32⟩
  | .local _ .vmem, ⟨21, _⟩ => ⟨S26x256x128, .fp8e4m3⟩
  | .local _ .vmem, ⟨22, _⟩ => ⟨S3x3x208x128, .f32⟩
  | .local _ .smem, ⟨0, _⟩ => ⟨S25, .i32⟩
  | .local _ .smem, ⟨1, _⟩ => ⟨S1, .i32⟩
  | _, _ => ⟨S32768x3328, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_scratch9 : Ref sig .tc := ⟨.vmem, 21, rfl⟩
abbrev cc0_scratch10 : Ref sig .tc := ⟨.vmem, 22, rfl⟩
abbrev cc0_stg0_0 : Ref sig .tc := ⟨.smem, 0, rfl⟩
abbrev cc0_scratch11 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![129], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_1130 : BitVec 32 := 0#32
  let c26_i32 : BitVec 32 := 26#32
  let v1819 : BitVec 32 := Scalar.addi c0_i32_1130 c26_i32
  let c1_i32_1131 : BitVec 32 := 1#32
  ⟨c0_i32_1130, v1819, c1_i32_1131⟩
def k0_mult1 (k0_t1 : Fin k0_t1_loop.trips) : BitVec 32 :=
  let c0_i32_1130 : BitVec 32 := 0#32
  let c1_i32_1131 : BitVec 32 := 1#32
  let arg22 : BitVec 32 := Scf.iv c0_i32_1130 c1_i32_1131 k0_t1
  let c136_i32 : BitVec 32 := 136#32
  let v1821 : BitVec 32 := Scalar.muli arg22 c136_i32
  v1821
def k0_off1 (k0_t1 : Fin k0_t1_loop.trips) : Fin 3 → Nat :=
  let c0_i32_1130 : BitVec 32 := 0#32
  let c1_i32_1131 : BitVec 32 := 1#32
  let arg22 : BitVec 32 := Scf.iv c0_i32_1130 c1_i32_1131 k0_t1
  let c136_i32 : BitVec 32 := 136#32
  let v1821 : BitVec 32 := Scalar.muli arg22 c136_i32
  let v1822 : BitVec 32 := v1821
  let c0_i32_1134 : BitVec 32 := 0#32
  let v1823 : BitVec 32 := Scalar.addi v1822 c0_i32_1134
  let c128_i32_1135 : BitVec 32 := 128#32
  let v1824 : BitVec 32 := Scalar.addi v1823 c128_i32_1135
  let v1825 : Index := Scalar.indexCast v1824
  let c0_1136 : Index := 0#32
  ![v1825.toNat, 0, 0]
def k0_mult2 (k0_t1 : Fin k0_t1_loop.trips) : BitVec 32 :=
  let c0_i32_1130 : BitVec 32 := 0#32
  let c1_i32_1131 : BitVec 32 := 1#32
  let arg22 : BitVec 32 := Scf.iv c0_i32_1130 c1_i32_1131 k0_t1
  let c264_i32 : BitVec 32 := 264#32
  let v1830 : BitVec 32 := Scalar.muli arg22 c264_i32
  v1830
def k0_off2 (k0_t1 : Fin k0_t1_loop.trips) : Fin 2 → Nat :=
  let c0_i32_1130 : BitVec 32 := 0#32
  let c1_i32_1131 : BitVec 32 := 1#32
  let arg22 : BitVec 32 := Scf.iv c0_i32_1130 c1_i32_1131 k0_t1
  let c264_i32 : BitVec 32 := 264#32
  let v1830 : BitVec 32 := Scalar.muli arg22 c264_i32
  let v1831 : BitVec 32 := v1830
  let c0_i32_1138 : BitVec 32 := 0#32
  let v1832 : BitVec 32 := Scalar.addi v1831 c0_i32_1138
  let c256_i32_1139 : BitVec 32 := 256#32
  let v1833 : BitVec 32 := Scalar.addi v1832 c256_i32_1139
  let v1834 : Index := Scalar.indexCast v1833
  let c0_1140 : Index := 0#32
  ![v1834.toNat, 0]
def k0_mult3 (k0_t1 : Fin k0_t1_loop.trips) : BitVec 32 :=
  let c0_i32_1130 : BitVec 32 := 0#32
  let c1_i32_1131 : BitVec 32 := 1#32
  let arg22 : BitVec 32 := Scf.iv c0_i32_1130 c1_i32_1131 k0_t1
  let c256_i32_1142 : BitVec 32 := 256#32
  let v1839 : BitVec 32 := Scalar.muli arg22 c256_i32_1142
  v1839
def k0_off3 (k0_t1 : Fin k0_t1_loop.trips) : Fin 2 → Nat :=
  let c0_i32_1130 : BitVec 32 := 0#32
  let c1_i32_1131 : BitVec 32 := 1#32
  let arg22 : BitVec 32 := Scf.iv c0_i32_1130 c1_i32_1131 k0_t1
  let c256_i32_1142 : BitVec 32 := 256#32
  let v1839 : BitVec 32 := Scalar.muli arg22 c256_i32_1142
  let v1840 : BitVec 32 := v1839
  let c0_i32_1143 : BitVec 32 := 0#32
  let v1841 : BitVec 32 := Scalar.addi v1840 c0_i32_1143
  let v1842 : Index := Scalar.indexCast v1841
  let c0_1144 : Index := 0#32
  ![v1842.toNat, 0]
@[reducible] def k0_t2_loop : Scf.Loop 32 :=
  let c0_i32_4 : BitVec 32 := 0#32
  let c246_i32 : BitVec 32 := 246#32
  let v12 : BitVec 32 := Scalar.addi c0_i32_4 c246_i32
  let c1_i32 : BitVec 32 := 1#32
  ⟨c0_i32_4, v12, c1_i32⟩
@[reducible] def k0_t3_loop : Scf.Loop 32 :=
  let c0_i32_32 : BitVec 32 := 0#32
  let c26_i32 : BitVec 32 := 26#32
  let v70 : BitVec 32 := Scalar.addi c0_i32_32 c26_i32
  let c1_i32_33 : BitVec 32 := 1#32
  ⟨c0_i32_32, v70, c1_i32_33⟩
def k0_mult4 (k0_t3 : Fin k0_t3_loop.trips) : BitVec 32 :=
  let c0_i32_32 : BitVec 32 := 0#32
  let c1_i32_33 : BitVec 32 := 1#32
  let arg22 : BitVec 32 := Scf.iv c0_i32_32 c1_i32_33 k0_t3
  let c256_i32_55 : BitVec 32 := 256#32
  let v103 : BitVec 32 := Scalar.muli arg22 c256_i32_55
  v103
def k0_off4 (k0_t3 : Fin k0_t3_loop.trips) : Fin 2 → Nat :=
  let c0_i32_32 : BitVec 32 := 0#32
  let c1_i32_33 : BitVec 32 := 1#32
  let arg22 : BitVec 32 := Scf.iv c0_i32_32 c1_i32_33 k0_t3
  let c256_i32_55 : BitVec 32 := 256#32
  let v103 : BitVec 32 := Scalar.muli arg22 c256_i32_55
  let v104 : BitVec 32 := v103
  let c0_i32_56 : BitVec 32 := 0#32
  let v105 : BitVec 32 := Scalar.addi v104 c0_i32_56
  let v106 : Index := Scalar.indexCast v105
  let c0_57 : Index := 0#32
  ![v106.toNat, 0]
@[reducible] def k0_t4_loop : Scf.Loop 32 :=
  let c0_i32_38 : BitVec 32 := 0#32
  let c246_i32_39 : BitVec 32 := 246#32
  let v78 : BitVec 32 := Scalar.addi c0_i32_38 c246_i32_39
  let c1_i32_40 : BitVec 32 := 1#32
  ⟨c0_i32_38, v78, c1_i32_40⟩
@[reducible] def k0_t5_loop : Scf.Loop 32 :=
  let c0_i32_51 : BitVec 32 := 0#32
  let c26_i32_52 : BitVec 32 := 26#32
  let v102 : BitVec 32 := Scalar.addi c0_i32_51 c26_i32_52
  let c1_i32_53 : BitVec 32 := 1#32
  ⟨c0_i32_51, v102, c1_i32_53⟩
def k0_mult5 (k0_t5 : Fin k0_t5_loop.trips) : BitVec 32 :=
  let c0_i32_51 : BitVec 32 := 0#32
  let c1_i32_53 : BitVec 32 := 1#32
  let arg22 : BitVec 32 := Scf.iv c0_i32_51 c1_i32_53 k0_t5
  let c256_i32_55 : BitVec 32 := 256#32
  let v103 : BitVec 32 := Scalar.muli arg22 c256_i32_55
  v103
def k0_off5 (k0_t5 : Fin k0_t5_loop.trips) : Fin 2 → Nat :=
  let c0_i32_51 : BitVec 32 := 0#32
  let c1_i32_53 : BitVec 32 := 1#32
  let arg22 : BitVec 32 := Scf.iv c0_i32_51 c1_i32_53 k0_t5
  let c256_i32_55 : BitVec 32 := 256#32
  let v103 : BitVec 32 := Scalar.muli arg22 c256_i32_55
  let v104 : BitVec 32 := v103
  let c0_i32_56 : BitVec 32 := 0#32
  let v105 : BitVec 32 := Scalar.addi v104 c0_i32_56
  let v106 : Index := Scalar.indexCast v105
  let c0_57 : Index := 0#32
  ![v106.toNat, 0]
def k0_off6 (k0_t5 : Fin k0_t5_loop.trips) : Fin 3 → Nat :=
  let c0_i32_51 : BitVec 32 := 0#32
  let c1_i32_53 : BitVec 32 := 1#32
  let arg22 : BitVec 32 := Scf.iv c0_i32_51 c1_i32_53 k0_t5
  let v120 : Index := Scalar.indexCast arg22
  let c0_62 : Index := 0#32
  let c0_63 : Index := 0#32
  ![v120.toNat, 0, 0]
@[reducible] def k0_t6_loop : Scf.Loop 32 :=
  let c0_i32_25 : BitVec 32 := 0#32
  let c13_i32 : BitVec 32 := 13#32
  let v60 : BitVec 32 := Scalar.addi c0_i32_25 c13_i32
  let c1_i32_26 : BitVec 32 := 1#32
  ⟨c0_i32_25, v60, c1_i32_26⟩
def k0_mult6 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c128_i32_35 : BitVec 32 := 128#32
  let v74 : BitVec 32 := Scalar.muli v72 c128_i32_35
  v74
def k0_mult7 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c256_i32_36 : BitVec 32 := 256#32
  let v76 : BitVec 32 := Scalar.muli v72 c256_i32_36
  v76
def k0_off7 (k0_t6 : Fin k0_t6_loop.trips) (c0_i32_33 : BitVec 32) (c0_i32_37 : BitVec 32) : Fin 2 → Nat :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c256_i32_36 : BitVec 32 := 256#32
  let v76 : BitVec 32 := Scalar.muli v72 c256_i32_36
  let v77 : BitVec 32 := v76
  let v78 : BitVec 32 := Scalar.addi v77 c0_i32_37
  let v79 : Index := Scalar.indexCast v78
  let c0_38 : Index := 0#32
  ![v79.toNat, 0]
def k0_off8 (k0_t6 : Fin k0_t6_loop.trips) (c0_i32_33 : BitVec 32) : Fin 2 → Nat :=
  let c0_43 : Index := 0#32
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c128_i32_35 : BitVec 32 := 128#32
  let v74 : BitVec 32 := Scalar.muli v72 c128_i32_35
  let v75 : BitVec 32 := v74
  let v90 : Index := Scalar.indexCast v75
  ![0, v90.toNat]
def k0_mult8 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c256_i32_44 : BitVec 32 := 256#32
  let v92 : BitVec 32 := Scalar.muli v72 c256_i32_44
  v92
def k0_off9 (k0_t6 : Fin k0_t6_loop.trips) (c0_i32_33 : BitVec 32) : Fin 2 → Nat :=
  let c32_49 : Index := 32#32
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c128_i32_35 : BitVec 32 := 128#32
  let v74 : BitVec 32 := Scalar.muli v72 c128_i32_35
  let v75 : BitVec 32 := v74
  let v106 : Index := Scalar.indexCast v75
  ![32, v106.toNat]
def k0_mult9 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c256_i32_50 : BitVec 32 := 256#32
  let v108 : BitVec 32 := Scalar.muli v72 c256_i32_50
  v108
def k0_off10 (k0_t6 : Fin k0_t6_loop.trips) (c0_i32_33 : BitVec 32) : Fin 2 → Nat :=
  let c64_55 : Index := 64#32
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c128_i32_35 : BitVec 32 := 128#32
  let v74 : BitVec 32 := Scalar.muli v72 c128_i32_35
  let v75 : BitVec 32 := v74
  let v122 : Index := Scalar.indexCast v75
  ![64, v122.toNat]
def k0_mult10 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c256_i32_56 : BitVec 32 := 256#32
  let v124 : BitVec 32 := Scalar.muli v72 c256_i32_56
  v124
def k0_off11 (k0_t6 : Fin k0_t6_loop.trips) (c0_i32_33 : BitVec 32) : Fin 2 → Nat :=
  let c96_61 : Index := 96#32
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c128_i32_35 : BitVec 32 := 128#32
  let v74 : BitVec 32 := Scalar.muli v72 c128_i32_35
  let v75 : BitVec 32 := v74
  let v138 : Index := Scalar.indexCast v75
  ![96, v138.toNat]
def k0_mult11 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c256_i32_62 : BitVec 32 := 256#32
  let v140 : BitVec 32 := Scalar.muli v72 c256_i32_62
  v140
def k0_off12 (k0_t6 : Fin k0_t6_loop.trips) (c0_i32_33 : BitVec 32) : Fin 2 → Nat :=
  let c128_68 : Index := 128#32
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c128_i32_35 : BitVec 32 := 128#32
  let v74 : BitVec 32 := Scalar.muli v72 c128_i32_35
  let v75 : BitVec 32 := v74
  let v154 : Index := Scalar.indexCast v75
  ![128, v154.toNat]
def k0_mult12 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c256_i32_69 : BitVec 32 := 256#32
  let v156 : BitVec 32 := Scalar.muli v72 c256_i32_69
  v156
def k0_off13 (k0_t6 : Fin k0_t6_loop.trips) (c0_i32_33 : BitVec 32) : Fin 2 → Nat :=
  let c160_74 : Index := 160#32
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c128_i32_35 : BitVec 32 := 128#32
  let v74 : BitVec 32 := Scalar.muli v72 c128_i32_35
  let v75 : BitVec 32 := v74
  let v170 : Index := Scalar.indexCast v75
  ![160, v170.toNat]
def k0_mult13 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c256_i32_75 : BitVec 32 := 256#32
  let v172 : BitVec 32 := Scalar.muli v72 c256_i32_75
  v172
def k0_off14 (k0_t6 : Fin k0_t6_loop.trips) (c0_i32_33 : BitVec 32) : Fin 2 → Nat :=
  let c192_80 : Index := 192#32
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c128_i32_35 : BitVec 32 := 128#32
  let v74 : BitVec 32 := Scalar.muli v72 c128_i32_35
  let v75 : BitVec 32 := v74
  let v186 : Index := Scalar.indexCast v75
  ![192, v186.toNat]
def k0_mult14 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c256_i32_81 : BitVec 32 := 256#32
  let v188 : BitVec 32 := Scalar.muli v72 c256_i32_81
  v188
def k0_off15 (k0_t6 : Fin k0_t6_loop.trips) (c0_i32_33 : BitVec 32) : Fin 2 → Nat :=
  let c224_86 : Index := 224#32
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c128_i32_35 : BitVec 32 := 128#32
  let v74 : BitVec 32 := Scalar.muli v72 c128_i32_35
  let v75 : BitVec 32 := v74
  let v202 : Index := Scalar.indexCast v75
  ![224, v202.toNat]
def k0_mult15 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c136_i32 : BitVec 32 := 136#32
  let v204 : BitVec 32 := Scalar.muli v72 c136_i32
  v204
def k0_mult16 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c264_i32 : BitVec 32 := 264#32
  let v207 : BitVec 32 := Scalar.muli v72 c264_i32
  v207
def k0_off16 (k0_t6 : Fin k0_t6_loop.trips) (c0_i32_33 : BitVec 32) : Fin 3 → Nat :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c136_i32 : BitVec 32 := 136#32
  let v204 : BitVec 32 := Scalar.muli v72 c136_i32
  let v205 : BitVec 32 := v204
  let c0_i32_87 : BitVec 32 := 0#32
  let v206 : BitVec 32 := Scalar.addi v205 c0_i32_87
  let c128_i32_89 : BitVec 32 := 128#32
  let v210 : BitVec 32 := Scalar.addi v206 c128_i32_89
  let v211 : Index := Scalar.indexCast v210
  let c0_90 : Index := 0#32
  ![v211.toNat, 0, 0]
def k0_off17 (k0_t6 : Fin k0_t6_loop.trips) (c0_i32_33 : BitVec 32) : Fin 3 → Nat :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c136_i32 : BitVec 32 := 136#32
  let v204 : BitVec 32 := Scalar.muli v72 c136_i32
  let v205 : BitVec 32 := v204
  let c0_i32_87 : BitVec 32 := 0#32
  let v206 : BitVec 32 := Scalar.addi v205 c0_i32_87
  let v213 : Index := Scalar.indexCast v206
  let c0_91 : Index := 0#32
  ![v213.toNat, 0, 0]
def k0_off18 (k0_t6 : Fin k0_t6_loop.trips) (c0_i32_33 : BitVec 32) : Fin 2 → Nat :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c264_i32 : BitVec 32 := 264#32
  let v207 : BitVec 32 := Scalar.muli v72 c264_i32
  let v208 : BitVec 32 := v207
  let c0_i32_88 : BitVec 32 := 0#32
  let v209 : BitVec 32 := Scalar.addi v208 c0_i32_88
  let c256_i32_92 : BitVec 32 := 256#32
  let v217 : BitVec 32 := Scalar.addi v209 c256_i32_92
  let v218 : Index := Scalar.indexCast v217
  let c0_93 : Index := 0#32
  ![v218.toNat, 0]
def k0_off19 (k0_t6 : Fin k0_t6_loop.trips) (c0_i32_33 : BitVec 32) : Fin 2 → Nat :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c264_i32 : BitVec 32 := 264#32
  let v207 : BitVec 32 := Scalar.muli v72 c264_i32
  let v208 : BitVec 32 := v207
  let c0_i32_88 : BitVec 32 := 0#32
  let v209 : BitVec 32 := Scalar.addi v208 c0_i32_88
  let v220 : Index := Scalar.indexCast v209
  let c0_94 : Index := 0#32
  ![v220.toNat, 0]
def k0_off20 (k0_t6 : Fin k0_t6_loop.trips) (c0_i32_33 : BitVec 32) : Fin 2 → Nat :=
  let c0_95 : Index := 0#32
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c128_i32_35 : BitVec 32 := 128#32
  let v74 : BitVec 32 := Scalar.muli v72 c128_i32_35
  let v75 : BitVec 32 := v74
  let v224 : Index := Scalar.indexCast v75
  ![0, v224.toNat]
def k0_off21 (k0_t6 : Fin k0_t6_loop.trips) (c0_i32_33 : BitVec 32) : Fin 3 → Nat :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c136_i32 : BitVec 32 := 136#32
  let v204 : BitVec 32 := Scalar.muli v72 c136_i32
  let v205 : BitVec 32 := v204
  let c0_i32_87 : BitVec 32 := 0#32
  let v206 : BitVec 32 := Scalar.addi v205 c0_i32_87
  let c8_i32 : BitVec 32 := 8#32
  let v231 : BitVec 32 := Scalar.addi v206 c8_i32
  let v232 : Index := Scalar.indexCast v231
  let c0_98 : Index := 0#32
  ![v232.toNat, 0, 0]
def k0_off22 (k0_t6 : Fin k0_t6_loop.trips) (c0_i32_33 : BitVec 32) : Fin 3 → Nat :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c136_i32 : BitVec 32 := 136#32
  let v204 : BitVec 32 := Scalar.muli v72 c136_i32
  let v205 : BitVec 32 := v204
  let c0_i32_87 : BitVec 32 := 0#32
  let v206 : BitVec 32 := Scalar.addi v205 c0_i32_87
  let c8_i32_99 : BitVec 32 := 8#32
  let v236 : BitVec 32 := Scalar.addi v206 c8_i32_99
  let c1_i32_100 : BitVec 32 := 1#32
  let v237 : BitVec 32 := Scalar.subi v236 c1_i32_100
  let v238 : Index := Scalar.indexCast v237
  let c0_101 : Index := 0#32
  ![v238.toNat, 0, 0]
def k0_off23 (k0_t6 : Fin k0_t6_loop.trips) (c0_i32_33 : BitVec 32) : Fin 3 → Nat :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let v242 : Index := Scalar.indexCast v72
  let c0_102 : Index := 0#32
  let c0_103 : Index := 0#32
  ![v242.toNat, 0, 0]
def k0_off24 (k0_t6 : Fin k0_t6_loop.trips) (c0_i32_33 : BitVec 32) : Fin 2 → Nat :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c264_i32 : BitVec 32 := 264#32
  let v207 : BitVec 32 := Scalar.muli v72 c264_i32
  let v208 : BitVec 32 := v207
  let c0_i32_88 : BitVec 32 := 0#32
  let v209 : BitVec 32 := Scalar.addi v208 c0_i32_88
  let c8_i32_105 : BitVec 32 := 8#32
  let v247 : BitVec 32 := Scalar.addi v209 c8_i32_105
  let v248 : Index := Scalar.indexCast v247
  let c0_106 : Index := 0#32
  ![v248.toNat, 0]
def k0_mult17 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c128_i32_107 : BitVec 32 := 128#32
  let v252 : BitVec 32 := Scalar.muli v73 c128_i32_107
  v252
def k0_mult18 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c256_i32_108 : BitVec 32 := 256#32
  let v254 : BitVec 32 := Scalar.muli v73 c256_i32_108
  v254
def k0_mult19 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c256_i32_116 : BitVec 32 := 256#32
  let v270 : BitVec 32 := Scalar.muli v73 c256_i32_116
  v270
def k0_mult20 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c256_i32_124 : BitVec 32 := 256#32
  let v286 : BitVec 32 := Scalar.muli v73 c256_i32_124
  v286
def k0_mult21 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c256_i32_132 : BitVec 32 := 256#32
  let v302 : BitVec 32 := Scalar.muli v73 c256_i32_132
  v302
def k0_mult22 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c256_i32_140 : BitVec 32 := 256#32
  let v318 : BitVec 32 := Scalar.muli v73 c256_i32_140
  v318
def k0_mult23 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c256_i32_148 : BitVec 32 := 256#32
  let v334 : BitVec 32 := Scalar.muli v73 c256_i32_148
  v334
def k0_mult24 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c256_i32_156 : BitVec 32 := 256#32
  let v350 : BitVec 32 := Scalar.muli v73 c256_i32_156
  v350
def k0_mult25 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c256_i32_164 : BitVec 32 := 256#32
  let v366 : BitVec 32 := Scalar.muli v73 c256_i32_164
  v366
def k0_mult26 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c136_i32_172 : BitVec 32 := 136#32
  let v382 : BitVec 32 := Scalar.muli v73 c136_i32_172
  v382
def k0_mult27 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c264_i32_174 : BitVec 32 := 264#32
  let v385 : BitVec 32 := Scalar.muli v73 c264_i32_174
  v385
def k0_mult28 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c264_i32_197 : BitVec 32 := 264#32
  let v431 : BitVec 32 := Scalar.muli v72 c264_i32_197
  v431
def k0_off25 (k0_t6 : Fin k0_t6_loop.trips) (c0_i32_33 : BitVec 32) (c0_i32_201 : BitVec 32) : Fin 2 → Nat :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let c264_i32_197 : BitVec 32 := 264#32
  let v431 : BitVec 32 := Scalar.muli v72 c264_i32_197
  let v432 : BitVec 32 := v431
  let c0_i32_198 : BitVec 32 := 0#32
  let v433 : BitVec 32 := Scalar.addi v432 c0_i32_198
  let c8_i32_199 : BitVec 32 := 8#32
  let v434 : BitVec 32 := Scalar.addi v433 c8_i32_199
  let c1_i32_200 : BitVec 32 := 1#32
  let v435 : BitVec 32 := Scalar.subi v434 c1_i32_200
  let v436 : BitVec 32 := Scalar.addi v435 c0_i32_201
  let v437 : Index := Scalar.indexCast v436
  let c0_202 : Index := 0#32
  ![v437.toNat, 0]
def k0_off26 (k0_t6 : Fin k0_t6_loop.trips) (c0_i32_33 : BitVec 32) : Fin 3 → Nat :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let v72 : BitVec 32 := Scalar.addi v71 c0_i32_33
  let v441 : Index := Scalar.indexCast v72
  let c0_203 : Index := 0#32
  let c0_204 : Index := 0#32
  ![v441.toNat, 0, 0]
def k0_mult29 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c256_i32_205 : BitVec 32 := 256#32
  let v446 : BitVec 32 := Scalar.muli v72 c256_i32_205
  v446
def k0_mult30 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c264_i32_208 : BitVec 32 := 264#32
  let v454 : BitVec 32 := Scalar.muli v73 c264_i32_208
  v454
def k0_mult31 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c256_i32_216 : BitVec 32 := 256#32
  let v469 : BitVec 32 := Scalar.muli v73 c256_i32_216
  v469
def k0_mult32 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c264_i32_223 : BitVec 32 := 264#32
  let v481 : BitVec 32 := Scalar.muli v72 c264_i32_223
  v481
def k0_mult33 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c256_i32_231 : BitVec 32 := 256#32
  let v496 : BitVec 32 := Scalar.muli v72 c256_i32_231
  v496
def k0_mult34 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c264_i32_234 : BitVec 32 := 264#32
  let v504 : BitVec 32 := Scalar.muli v73 c264_i32_234
  v504
def k0_mult35 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c256_i32_242 : BitVec 32 := 256#32
  let v519 : BitVec 32 := Scalar.muli v73 c256_i32_242
  v519
def k0_mult36 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c264_i32_249 : BitVec 32 := 264#32
  let v531 : BitVec 32 := Scalar.muli v72 c264_i32_249
  v531
def k0_mult37 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c256_i32_257 : BitVec 32 := 256#32
  let v546 : BitVec 32 := Scalar.muli v72 c256_i32_257
  v546
def k0_mult38 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c264_i32_260 : BitVec 32 := 264#32
  let v554 : BitVec 32 := Scalar.muli v73 c264_i32_260
  v554
def k0_mult39 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c256_i32_268 : BitVec 32 := 256#32
  let v569 : BitVec 32 := Scalar.muli v73 c256_i32_268
  v569
def k0_mult40 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c264_i32_275 : BitVec 32 := 264#32
  let v581 : BitVec 32 := Scalar.muli v72 c264_i32_275
  v581
def k0_mult41 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c256_i32_283 : BitVec 32 := 256#32
  let v596 : BitVec 32 := Scalar.muli v72 c256_i32_283
  v596
def k0_mult42 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c264_i32_286 : BitVec 32 := 264#32
  let v604 : BitVec 32 := Scalar.muli v73 c264_i32_286
  v604
def k0_mult43 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c256_i32_294 : BitVec 32 := 256#32
  let v619 : BitVec 32 := Scalar.muli v73 c256_i32_294
  v619
def k0_mult44 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c264_i32_301 : BitVec 32 := 264#32
  let v631 : BitVec 32 := Scalar.muli v72 c264_i32_301
  v631
def k0_mult45 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c256_i32_309 : BitVec 32 := 256#32
  let v646 : BitVec 32 := Scalar.muli v72 c256_i32_309
  v646
def k0_mult46 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c264_i32_312 : BitVec 32 := 264#32
  let v654 : BitVec 32 := Scalar.muli v73 c264_i32_312
  v654
def k0_mult47 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c256_i32_320 : BitVec 32 := 256#32
  let v669 : BitVec 32 := Scalar.muli v73 c256_i32_320
  v669
def k0_mult48 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c264_i32_327 : BitVec 32 := 264#32
  let v681 : BitVec 32 := Scalar.muli v72 c264_i32_327
  v681
def k0_mult49 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c256_i32_335 : BitVec 32 := 256#32
  let v696 : BitVec 32 := Scalar.muli v72 c256_i32_335
  v696
def k0_mult50 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c264_i32_338 : BitVec 32 := 264#32
  let v704 : BitVec 32 := Scalar.muli v73 c264_i32_338
  v704
def k0_mult51 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c256_i32_346 : BitVec 32 := 256#32
  let v719 : BitVec 32 := Scalar.muli v73 c256_i32_346
  v719
def k0_mult52 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c264_i32_353 : BitVec 32 := 264#32
  let v731 : BitVec 32 := Scalar.muli v72 c264_i32_353
  v731
def k0_mult53 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c256_i32_361 : BitVec 32 := 256#32
  let v746 : BitVec 32 := Scalar.muli v72 c256_i32_361
  v746
def k0_mult54 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c264_i32_364 : BitVec 32 := 264#32
  let v754 : BitVec 32 := Scalar.muli v73 c264_i32_364
  v754
def k0_mult55 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c256_i32_372 : BitVec 32 := 256#32
  let v769 : BitVec 32 := Scalar.muli v73 c256_i32_372
  v769
def k0_mult56 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c264_i32_379 : BitVec 32 := 264#32
  let v781 : BitVec 32 := Scalar.muli v72 c264_i32_379
  v781
def k0_mult57 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c0_i32_33 : BitVec 32 := 0#32
  let v72 : BitVec 32 := Scalar.addi v71 c0_i32_33
  let c256_i32_387 : BitVec 32 := 256#32
  let v796 : BitVec 32 := Scalar.muli v72 c256_i32_387
  v796
def k0_mult58 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c264_i32_390 : BitVec 32 := 264#32
  let v804 : BitVec 32 := Scalar.muli v73 c264_i32_390
  v804
def k0_mult59 (k0_t6 : Fin k0_t6_loop.trips) : BitVec 32 :=
  let c0_i32_25 : BitVec 32 := 0#32
  let c1_i32_26 : BitVec 32 := 1#32
  let arg22 : BitVec 32 := Scf.iv c0_i32_25 c1_i32_26 k0_t6
  let c1_i32_31 : BitVec 32 := 1#32
  let v69 : BitVec 32 := Scalar.muli arg22 c1_i32_31
  let c0_i32_32 : BitVec 32 := 0#32
  let v70 : BitVec 32 := Scalar.addi v69 c0_i32_32
  let c2_i32 : BitVec 32 := 2#32
  let v71 : BitVec 32 := Scalar.muli v70 c2_i32
  let c1_i32_34 : BitVec 32 := 1#32
  let v73 : BitVec 32 := Scalar.addi v71 c1_i32_34
  let c256_i32_398 : BitVec 32 := 256#32
  let v819 : BitVec 32 := Scalar.muli v73 c256_i32_398
  v819
def k0_off27 (arg22 : BitVec 32) : Fin 1 → Nat :=
  let c24_i32_32 : BitVec 32 := 24#32
  let v72 : BitVec 32 := Scalar.minsi arg22 c24_i32_32
  let v73 : Index := Scalar.indexCast v72
  ![v73.toNat]

def k0_chk1 (arg22 : BitVec 32) : Prop :=
  (∀ a, (k0_off27 arg22) a + S1.size a ≤ S25.size a)
theorem k0_off27_inb : ∀ (arg22 : BitVec 32) (k0_hw1 : k0_chk1 arg22), ∀ a, (k0_off27 arg22) a + S1.size a ≤ S25.size a := fun arg22 k0_hw1 => k0_hw1

def k0_off28 (arg22 : BitVec 32) : Fin 1 → Nat :=
  let v69 : Index := Scalar.indexCast arg22
  ![v69.toNat]

def k0_chk2 (arg22 : BitVec 32) : Prop :=
  (∀ a, (k0_off28 arg22) a + S1.size a ≤ S25.size a)
theorem k0_off28_inb : ∀ (arg22 : BitVec 32) (k0_hw2 : k0_chk2 arg22), ∀ a, (k0_off28 arg22) a + S1.size a ≤ S25.size a := fun arg22 k0_hw2 => k0_hw2

def k0_off29 (i : grid0.Coords) (v70 : BitVec 32) : Fin 3 → Nat :=
  let arg0 : BitVec 32 := BitVec.ofNat 32 (i 0).val
  let c256_i32 : BitVec 32 := 256#32
  let v63 : BitVec 32 := Scalar.muli arg0 c256_i32
  let v71 : BitVec 32 := Scalar.subi v70 v63
  let c0_i32_31 : BitVec 32 := 0#32
  let v72 : BitVec 32 := Scalar.addi v71 c0_i32_31
  let c16_i32 : BitVec 32 := 16#32
  let v132 : BitVec 32 := Scalar.addi v72 c16_i32
  let c1_i32_69 : BitVec 32 := 1#32
  let v133 : BitVec 32 := Scalar.shrsi v132 c1_i32_69
  let v134 : Index := Scalar.indexCast v133
  let c0_70 : Index := 0#32
  ![v134.toNat, 0, 0]
def k0_cond4 (i : grid0.Coords) (arg22 : BitVec 32) (v70 : BitVec 32) : BitVec 1 :=
  let c24_i32 : BitVec 32 := 24#32
  let v73 : BitVec 1 := Scalar.cmpi .slt arg22 c24_i32
  let arg0 : BitVec 32 := BitVec.ofNat 32 (i 0).val
  let c256_i32 : BitVec 32 := 256#32
  let v63 : BitVec 32 := Scalar.muli arg0 c256_i32
  let v71 : BitVec 32 := Scalar.subi v70 v63
  let c0_i32_31 : BitVec 32 := 0#32
  let v72 : BitVec 32 := Scalar.addi v71 c0_i32_31
  let c0_i32_32 : BitVec 32 := 0#32
  let v74 : BitVec 1 := Scalar.cmpi .sge v72 c0_i32_32
  let c256_i32_33 : BitVec 32 := 256#32
  let v75 : BitVec 1 := Scalar.cmpi .slt v72 c256_i32_33
  let v76 : BitVec 1 := Scalar.andi v74 v75
  let v77 : BitVec 1 := Scalar.andi v73 v76
  let v78 : BitVec 32 := Scalar.extui v77
  let c0_i32_34 : BitVec 32 := 0#32
  let v79 : BitVec 1 := Scalar.cmpi .ne v78 c0_i32_34
  v79

def k0_off30 (i : grid0.Coords) (v70 : BitVec 32) : Fin 2 → Nat :=
  let arg0 : BitVec 32 := BitVec.ofNat 32 (i 0).val
  let c256_i32 : BitVec 32 := 256#32
  let v63 : BitVec 32 := Scalar.muli arg0 c256_i32
  let v71 : BitVec 32 := Scalar.subi v70 v63
  let c0_i32_31 : BitVec 32 := 0#32
  let v72 : BitVec 32 := Scalar.addi v71 c0_i32_31
  let v146 : Index := Scalar.indexCast v72
  let c0_74 : Index := 0#32
  ![v146.toNat, 0]
def k0_off31 (i : grid0.Coords) (v70 : BitVec 32) : Fin 2 → Nat :=
  let arg0 : BitVec 32 := BitVec.ofNat 32 (i 0).val
  let c256_i32 : BitVec 32 := 256#32
  let v63 : BitVec 32 := Scalar.muli arg0 c256_i32
  let v71 : BitVec 32 := Scalar.subi v70 v63
  let c0_i32_31 : BitVec 32 := 0#32
  let v72 : BitVec 32 := Scalar.addi v71 c0_i32_31
  let v152 : Index := Scalar.indexCast v72
  let c0_76 : Index := 0#32
  ![v152.toNat, 0]
def k0_off32 (arg22 : BitVec 32) : Fin 4 → Nat :=
  let c0_91 : Index := 0#32
  let c0_i32_79 : BitVec 32 := 0#32
  let v163 : BitVec 1 := Scalar.cmpi .sgt arg22 c0_i32_79
  let v164 : BitVec 32 := Scalar.extui v163
  let c0_i32_80 : BitVec 32 := 0#32
  let v165 : BitVec 1 := Scalar.cmpi .slt arg22 c0_i32_80
  let v166 : BitVec 32 := Scalar.extui v165
  let v167 : BitVec 32 := Scalar.subi v164 v166
  let c8_i32 : BitVec 32 := 8#32
  let c0_i32_81 : BitVec 32 := 0#32
  let v168 : BitVec 1 := Scalar.cmpi .sgt c8_i32 c0_i32_81
  let v169 : BitVec 32 := Scalar.extui v168
  let c0_i32_82 : BitVec 32 := 0#32
  let v170 : BitVec 1 := Scalar.cmpi .slt c8_i32 c0_i32_82
  let v171 : BitVec 32 := Scalar.extui v170
  let v172 : BitVec 32 := Scalar.subi v169 v171
  let v173 : BitVec 1 := Scalar.cmpi .ne v167 v172
  let v174 : BitVec 32 := Scalar.remsi arg22 c8_i32
  let c0_i32_83 : BitVec 32 := 0#32
  let v175 : BitVec 1 := Scalar.cmpi .ne v174 c0_i32_83
  let v176 : BitVec 1 := Scalar.andi v173 v175
  let v162 : BitVec 32 := Scalar.divsi arg22 c8_i32
  let c1_i32_84 : BitVec 32 := 1#32
  let v177 : BitVec 32 := Scalar.subi v162 c1_i32_84
  let v178 : BitVec 32 := Scalar.select v176 v177 v162
  let v189 : Index := Scalar.indexCast v178
  let c8_i32_85 : BitVec 32 := 8#32
  let c0_i32_86 : BitVec 32 := 0#32
  let v179 : BitVec 1 := Scalar.cmpi .eq c8_i32_85 c0_i32_86
  let c1_i32_87 : BitVec 32 := 1#32
  let v180 : BitVec 32 := Scalar.select v179 c1_i32_87 c8_i32_85
  let v181 : BitVec 32 := Scalar.remsi arg22 v180
  let c0_i32_89 : BitVec 32 := 0#32
  let v183 : BitVec 1 := Scalar.cmpi .slt v181 c0_i32_89
  let c0_i32_90 : BitVec 32 := 0#32
  let v184 : BitVec 1 := Scalar.cmpi .slt v180 c0_i32_90
  let v185 : BitVec 1 := Scalar.xori v183 v184
  let c0_i32_88 : BitVec 32 := 0#32
  let v182 : BitVec 1 := Scalar.cmpi .ne v181 c0_i32_88
  let v186 : BitVec 1 := Scalar.andi v185 v182
  let v187 : BitVec 32 := Scalar.addi v181 v180
  let v188 : BitVec 32 := Scalar.select v186 v187 v181
  let v190 : Index := Scalar.indexCast v188
  let c0_92 : Index := 0#32
  ![0, v189.toNat, v190.toNat, 0]
def k0_off33 (i : grid0.Coords) (v70 : BitVec 32) : Fin 3 → Nat :=
  let arg0 : BitVec 32 := BitVec.ofNat 32 (i 0).val
  let c256_i32 : BitVec 32 := 256#32
  let v63 : BitVec 32 := Scalar.muli arg0 c256_i32
  let v71 : BitVec 32 := Scalar.subi v70 v63
  let c1_i32_35 : BitVec 32 := 1#32
  let v80 : BitVec 32 := Scalar.addi v71 c1_i32_35
  let c16_i32 : BitVec 32 := 16#32
  let v132 : BitVec 32 := Scalar.addi v80 c16_i32
  let c1_i32_69 : BitVec 32 := 1#32
  let v133 : BitVec 32 := Scalar.shrsi v132 c1_i32_69
  let v134 : Index := Scalar.indexCast v133
  let c0_70 : Index := 0#32
  ![v134.toNat, 0, 0]
def k0_cond5 (i : grid0.Coords) (arg22 : BitVec 32) (v70 : BitVec 32) : BitVec 1 :=
  let c24_i32_36 : BitVec 32 := 24#32
  let v81 : BitVec 1 := Scalar.cmpi .slt arg22 c24_i32_36
  let arg0 : BitVec 32 := BitVec.ofNat 32 (i 0).val
  let c256_i32 : BitVec 32 := 256#32
  let v63 : BitVec 32 := Scalar.muli arg0 c256_i32
  let v71 : BitVec 32 := Scalar.subi v70 v63
  let c1_i32_35 : BitVec 32 := 1#32
  let v80 : BitVec 32 := Scalar.addi v71 c1_i32_35
  let c0_i32_37 : BitVec 32 := 0#32
  let v82 : BitVec 1 := Scalar.cmpi .sge v80 c0_i32_37
  let c256_i32_38 : BitVec 32 := 256#32
  let v83 : BitVec 1 := Scalar.cmpi .slt v80 c256_i32_38
  let v84 : BitVec 1 := Scalar.andi v82 v83
  let v85 : BitVec 1 := Scalar.andi v81 v84
  let v86 : BitVec 32 := Scalar.extui v85
  let c0_i32_39 : BitVec 32 := 0#32
  let v87 : BitVec 1 := Scalar.cmpi .ne v86 c0_i32_39
  v87

def k0_off34 (i : grid0.Coords) (v70 : BitVec 32) : Fin 3 → Nat :=
  let arg0 : BitVec 32 := BitVec.ofNat 32 (i 0).val
  let c256_i32 : BitVec 32 := 256#32
  let v63 : BitVec 32 := Scalar.muli arg0 c256_i32
  let v71 : BitVec 32 := Scalar.subi v70 v63
  let c1_i32_35 : BitVec 32 := 1#32
  let v80 : BitVec 32 := Scalar.addi v71 c1_i32_35
  let c1_i32_76 : BitVec 32 := 1#32
  let v148 : BitVec 32 := Scalar.subi v80 c1_i32_76
  let c16_i32_77 : BitVec 32 := 16#32
  let v149 : BitVec 32 := Scalar.addi v148 c16_i32_77
  let c1_i32_78 : BitVec 32 := 1#32
  let v150 : BitVec 32 := Scalar.shrsi v149 c1_i32_78
  let v151 : Index := Scalar.indexCast v150
  let c0_79 : Index := 0#32
  ![v151.toNat, 0, 0]
def k0_off35 (i : grid0.Coords) (v70 : BitVec 32) : Fin 2 → Nat :=
  let arg0 : BitVec 32 := BitVec.ofNat 32 (i 0).val
  let c256_i32 : BitVec 32 := 256#32
  let v63 : BitVec 32 := Scalar.muli arg0 c256_i32
  let v71 : BitVec 32 := Scalar.subi v70 v63
  let c1_i32_35 : BitVec 32 := 1#32
  let v80 : BitVec 32 := Scalar.addi v71 c1_i32_35
  let v163 : Index := Scalar.indexCast v80
  let c0_84 : Index := 0#32
  ![v163.toNat, 0]
def k0_off36 (i : grid0.Coords) (v70 : BitVec 32) : Fin 2 → Nat :=
  let arg0 : BitVec 32 := BitVec.ofNat 32 (i 0).val
  let c256_i32 : BitVec 32 := 256#32
  let v63 : BitVec 32 := Scalar.muli arg0 c256_i32
  let v71 : BitVec 32 := Scalar.subi v70 v63
  let c1_i32_35 : BitVec 32 := 1#32
  let v80 : BitVec 32 := Scalar.addi v71 c1_i32_35
  let v169 : Index := Scalar.indexCast v80
  let c0_86 : Index := 0#32
  ![v169.toNat, 0]
def k0_off37 (arg22 : BitVec 32) : Fin 4 → Nat :=
  let c1 : Index := 1#32
  let c0_i32_89 : BitVec 32 := 0#32
  let v180 : BitVec 1 := Scalar.cmpi .sgt arg22 c0_i32_89
  let v181 : BitVec 32 := Scalar.extui v180
  let c0_i32_90 : BitVec 32 := 0#32
  let v182 : BitVec 1 := Scalar.cmpi .slt arg22 c0_i32_90
  let v183 : BitVec 32 := Scalar.extui v182
  let v184 : BitVec 32 := Scalar.subi v181 v183
  let c8_i32 : BitVec 32 := 8#32
  let c0_i32_91 : BitVec 32 := 0#32
  let v185 : BitVec 1 := Scalar.cmpi .sgt c8_i32 c0_i32_91
  let v186 : BitVec 32 := Scalar.extui v185
  let c0_i32_92 : BitVec 32 := 0#32
  let v187 : BitVec 1 := Scalar.cmpi .slt c8_i32 c0_i32_92
  let v188 : BitVec 32 := Scalar.extui v187
  let v189 : BitVec 32 := Scalar.subi v186 v188
  let v190 : BitVec 1 := Scalar.cmpi .ne v184 v189
  let v191 : BitVec 32 := Scalar.remsi arg22 c8_i32
  let c0_i32_93 : BitVec 32 := 0#32
  let v192 : BitVec 1 := Scalar.cmpi .ne v191 c0_i32_93
  let v193 : BitVec 1 := Scalar.andi v190 v192
  let v179 : BitVec 32 := Scalar.divsi arg22 c8_i32
  let c1_i32_94 : BitVec 32 := 1#32
  let v194 : BitVec 32 := Scalar.subi v179 c1_i32_94
  let v195 : BitVec 32 := Scalar.select v193 v194 v179
  let v206 : Index := Scalar.indexCast v195
  let c8_i32_95 : BitVec 32 := 8#32
  let c0_i32_96 : BitVec 32 := 0#32
  let v196 : BitVec 1 := Scalar.cmpi .eq c8_i32_95 c0_i32_96
  let c1_i32_97 : BitVec 32 := 1#32
  let v197 : BitVec 32 := Scalar.select v196 c1_i32_97 c8_i32_95
  let v198 : BitVec 32 := Scalar.remsi arg22 v197
  let c0_i32_99 : BitVec 32 := 0#32
  let v200 : BitVec 1 := Scalar.cmpi .slt v198 c0_i32_99
  let c0_i32_100 : BitVec 32 := 0#32
  let v201 : BitVec 1 := Scalar.cmpi .slt v197 c0_i32_100
  let v202 : BitVec 1 := Scalar.xori v200 v201
  let c0_i32_98 : BitVec 32 := 0#32
  let v199 : BitVec 1 := Scalar.cmpi .ne v198 c0_i32_98
  let v203 : BitVec 1 := Scalar.andi v202 v199
  let v204 : BitVec 32 := Scalar.addi v198 v197
  let v205 : BitVec 32 := Scalar.select v203 v204 v198
  let v207 : Index := Scalar.indexCast v205
  let c0_101 : Index := 0#32
  ![1, v206.toNat, v207.toNat, 0]
def k0_off38 (i : grid0.Coords) (v70 : BitVec 32) : Fin 3 → Nat :=
  let arg0 : BitVec 32 := BitVec.ofNat 32 (i 0).val
  let c256_i32 : BitVec 32 := 256#32
  let v63 : BitVec 32 := Scalar.muli arg0 c256_i32
  let v71 : BitVec 32 := Scalar.subi v70 v63
  let c2_i32 : BitVec 32 := 2#32
  let v88 : BitVec 32 := Scalar.addi v71 c2_i32
  let c16_i32 : BitVec 32 := 16#32
  let v132 : BitVec 32 := Scalar.addi v88 c16_i32
  let c1_i32_69 : BitVec 32 := 1#32
  let v133 : BitVec 32 := Scalar.shrsi v132 c1_i32_69
  let v134 : Index := Scalar.indexCast v133
  let c0_70 : Index := 0#32
  ![v134.toNat, 0, 0]
def k0_cond6 (i : grid0.Coords) (arg22 : BitVec 32) (v70 : BitVec 32) : BitVec 1 :=
  let c24_i32_40 : BitVec 32 := 24#32
  let v89 : BitVec 1 := Scalar.cmpi .slt arg22 c24_i32_40
  let arg0 : BitVec 32 := BitVec.ofNat 32 (i 0).val
  let c256_i32 : BitVec 32 := 256#32
  let v63 : BitVec 32 := Scalar.muli arg0 c256_i32
  let v71 : BitVec 32 := Scalar.subi v70 v63
  let c2_i32 : BitVec 32 := 2#32
  let v88 : BitVec 32 := Scalar.addi v71 c2_i32
  let c0_i32_41 : BitVec 32 := 0#32
  let v90 : BitVec 1 := Scalar.cmpi .sge v88 c0_i32_41
  let c256_i32_42 : BitVec 32 := 256#32
  let v91 : BitVec 1 := Scalar.cmpi .slt v88 c256_i32_42
  let v92 : BitVec 1 := Scalar.andi v90 v91
  let v93 : BitVec 1 := Scalar.andi v89 v92
  let v94 : BitVec 32 := Scalar.extui v93
  let c0_i32_43 : BitVec 32 := 0#32
  let v95 : BitVec 1 := Scalar.cmpi .ne v94 c0_i32_43
  v95

def k0_off39 (i : grid0.Coords) (v70 : BitVec 32) (c2_i32_76 : BitVec 32) : Fin 3 → Nat :=
  let arg0 : BitVec 32 := BitVec.ofNat 32 (i 0).val
  let c256_i32 : BitVec 32 := 256#32
  let v63 : BitVec 32 := Scalar.muli arg0 c256_i32
  let v71 : BitVec 32 := Scalar.subi v70 v63
  let c2_i32 : BitVec 32 := 2#32
  let v88 : BitVec 32 := Scalar.addi v71 c2_i32
  let v148 : BitVec 32 := Scalar.subi v88 c2_i32_76
  let c16_i32_77 : BitVec 32 := 16#32
  let v149 : BitVec 32 := Scalar.addi v148 c16_i32_77
  let c1_i32_78 : BitVec 32 := 1#32
  let v150 : BitVec 32 := Scalar.shrsi v149 c1_i32_78
  let v151 : Index := Scalar.indexCast v150
  let c0_79 : Index := 0#32
  ![v151.toNat, 0, 0]
def k0_off40 (i : grid0.Coords) (v70 : BitVec 32) : Fin 2 → Nat :=
  let arg0 : BitVec 32 := BitVec.ofNat 32 (i 0).val
  let c256_i32 : BitVec 32 := 256#32
  let v63 : BitVec 32 := Scalar.muli arg0 c256_i32
  let v71 : BitVec 32 := Scalar.subi v70 v63
  let c2_i32 : BitVec 32 := 2#32
  let v88 : BitVec 32 := Scalar.addi v71 c2_i32
  let v180 : Index := Scalar.indexCast v88
  let c0_94 : Index := 0#32
  ![v180.toNat, 0]
def k0_off41 (i : grid0.Coords) (v70 : BitVec 32) : Fin 2 → Nat :=
  let arg0 : BitVec 32 := BitVec.ofNat 32 (i 0).val
  let c256_i32 : BitVec 32 := 256#32
  let v63 : BitVec 32 := Scalar.muli arg0 c256_i32
  let v71 : BitVec 32 := Scalar.subi v70 v63
  let c2_i32 : BitVec 32 := 2#32
  let v88 : BitVec 32 := Scalar.addi v71 c2_i32
  let v186 : Index := Scalar.indexCast v88
  let c0_96 : Index := 0#32
  ![v186.toNat, 0]
def k0_off42 (arg22 : BitVec 32) : Fin 4 → Nat :=
  let c2_111 : Index := 2#32
  let c0_i32_99 : BitVec 32 := 0#32
  let v197 : BitVec 1 := Scalar.cmpi .sgt arg22 c0_i32_99
  let v198 : BitVec 32 := Scalar.extui v197
  let c0_i32_100 : BitVec 32 := 0#32
  let v199 : BitVec 1 := Scalar.cmpi .slt arg22 c0_i32_100
  let v200 : BitVec 32 := Scalar.extui v199
  let v201 : BitVec 32 := Scalar.subi v198 v200
  let c8_i32 : BitVec 32 := 8#32
  let c0_i32_101 : BitVec 32 := 0#32
  let v202 : BitVec 1 := Scalar.cmpi .sgt c8_i32 c0_i32_101
  let v203 : BitVec 32 := Scalar.extui v202
  let c0_i32_102 : BitVec 32 := 0#32
  let v204 : BitVec 1 := Scalar.cmpi .slt c8_i32 c0_i32_102
  let v205 : BitVec 32 := Scalar.extui v204
  let v206 : BitVec 32 := Scalar.subi v203 v205
  let v207 : BitVec 1 := Scalar.cmpi .ne v201 v206
  let v208 : BitVec 32 := Scalar.remsi arg22 c8_i32
  let c0_i32_103 : BitVec 32 := 0#32
  let v209 : BitVec 1 := Scalar.cmpi .ne v208 c0_i32_103
  let v210 : BitVec 1 := Scalar.andi v207 v209
  let v196 : BitVec 32 := Scalar.divsi arg22 c8_i32
  let c1_i32_104 : BitVec 32 := 1#32
  let v211 : BitVec 32 := Scalar.subi v196 c1_i32_104
  let v212 : BitVec 32 := Scalar.select v210 v211 v196
  let v223 : Index := Scalar.indexCast v212
  let c8_i32_105 : BitVec 32 := 8#32
  let c0_i32_106 : BitVec 32 := 0#32
  let v213 : BitVec 1 := Scalar.cmpi .eq c8_i32_105 c0_i32_106
  let c1_i32_107 : BitVec 32 := 1#32
  let v214 : BitVec 32 := Scalar.select v213 c1_i32_107 c8_i32_105
  let v215 : BitVec 32 := Scalar.remsi arg22 v214
  let c0_i32_109 : BitVec 32 := 0#32
  let v217 : BitVec 1 := Scalar.cmpi .slt v215 c0_i32_109
  let c0_i32_110 : BitVec 32 := 0#32
  let v218 : BitVec 1 := Scalar.cmpi .slt v214 c0_i32_110
  let v219 : BitVec 1 := Scalar.xori v217 v218
  let c0_i32_108 : BitVec 32 := 0#32
  let v216 : BitVec 1 := Scalar.cmpi .ne v215 c0_i32_108
  let v220 : BitVec 1 := Scalar.andi v219 v216
  let v221 : BitVec 32 := Scalar.addi v215 v214
  let v222 : BitVec 32 := Scalar.select v220 v221 v215
  let v224 : Index := Scalar.indexCast v222
  let c0_112 : Index := 0#32
  ![2, v223.toNat, v224.toNat, 0]
def k0_off43 (i : grid0.Coords) (v70 : BitVec 32) : Fin 3 → Nat :=
  let arg0 : BitVec 32 := BitVec.ofNat 32 (i 0).val
  let c256_i32 : BitVec 32 := 256#32
  let v63 : BitVec 32 := Scalar.muli arg0 c256_i32
  let v71 : BitVec 32 := Scalar.subi v70 v63
  let c3_i32 : BitVec 32 := 3#32
  let v96 : BitVec 32 := Scalar.subi v71 c3_i32
  let c0_i32_44 : BitVec 32 := 0#32
  let v97 : BitVec 32 := Scalar.addi v96 c0_i32_44
  let c16_i32 : BitVec 32 := 16#32
  let v129 : BitVec 32 := Scalar.addi v97 c16_i32
  let c1_i32_66 : BitVec 32 := 1#32
  let v130 : BitVec 32 := Scalar.shrsi v129 c1_i32_66
  let v131 : Index := Scalar.indexCast v130
  let c0_67 : Index := 0#32
  ![v131.toNat, 0, 0]
def k0_cond7 (i : grid0.Coords) (arg22 : BitVec 32) (v70 : BitVec 32) : BitVec 1 :=
  let c0_i32_45 : BitVec 32 := 0#32
  let v98 : BitVec 1 := Scalar.cmpi .sgt arg22 c0_i32_45
  let arg0 : BitVec 32 := BitVec.ofNat 32 (i 0).val
  let c256_i32 : BitVec 32 := 256#32
  let v63 : BitVec 32 := Scalar.muli arg0 c256_i32
  let v71 : BitVec 32 := Scalar.subi v70 v63
  let c3_i32 : BitVec 32 := 3#32
  let v96 : BitVec 32 := Scalar.subi v71 c3_i32
  let c0_i32_44 : BitVec 32 := 0#32
  let v97 : BitVec 32 := Scalar.addi v96 c0_i32_44
  let c0_i32_46 : BitVec 32 := 0#32
  let v99 : BitVec 1 := Scalar.cmpi .sge v97 c0_i32_46
  let c256_i32_47 : BitVec 32 := 256#32
  let v100 : BitVec 1 := Scalar.cmpi .slt v97 c256_i32_47
  let v101 : BitVec 1 := Scalar.andi v99 v100
  let v102 : BitVec 1 := Scalar.andi v98 v101
  let v103 : BitVec 32 := Scalar.extui v102
  let c0_i32_48 : BitVec 32 := 0#32
  let v104 : BitVec 1 := Scalar.cmpi .ne v103 c0_i32_48
  v104

def k0_off44 (arg22 : BitVec 32) : Fin 4 → Nat :=
  let c0_83 : Index := 0#32
  let c1_i32_65 : BitVec 32 := 1#32
  let v128 : BitVec 32 := Scalar.subi arg22 c1_i32_65
  let c0_i32_71 : BitVec 32 := 0#32
  let v142 : BitVec 1 := Scalar.cmpi .sgt v128 c0_i32_71
  let v143 : BitVec 32 := Scalar.extui v142
  let c0_i32_72 : BitVec 32 := 0#32
  let v144 : BitVec 1 := Scalar.cmpi .slt v128 c0_i32_72
  let v145 : BitVec 32 := Scalar.extui v144
  let v146 : BitVec 32 := Scalar.subi v143 v145
  let c8_i32 : BitVec 32 := 8#32
  let c0_i32_73 : BitVec 32 := 0#32
  let v147 : BitVec 1 := Scalar.cmpi .sgt c8_i32 c0_i32_73
  let v148 : BitVec 32 := Scalar.extui v147
  let c0_i32_74 : BitVec 32 := 0#32
  let v149 : BitVec 1 := Scalar.cmpi .slt c8_i32 c0_i32_74
  let v150 : BitVec 32 := Scalar.extui v149
  let v151 : BitVec 32 := Scalar.subi v148 v150
  let v152 : BitVec 1 := Scalar.cmpi .ne v146 v151
  let v153 : BitVec 32 := Scalar.remsi v128 c8_i32
  let c0_i32_75 : BitVec 32 := 0#32
  let v154 : BitVec 1 := Scalar.cmpi .ne v153 c0_i32_75
  let v155 : BitVec 1 := Scalar.andi v152 v154
  let v141 : BitVec 32 := Scalar.divsi v128 c8_i32
  let c1_i32_76 : BitVec 32 := 1#32
  let v156 : BitVec 32 := Scalar.subi v141 c1_i32_76
  let v157 : BitVec 32 := Scalar.select v155 v156 v141
  let v168 : Index := Scalar.indexCast v157
  let c8_i32_77 : BitVec 32 := 8#32
  let c0_i32_78 : BitVec 32 := 0#32
  let v158 : BitVec 1 := Scalar.cmpi .eq c8_i32_77 c0_i32_78
  let c1_i32_79 : BitVec 32 := 1#32
  let v159 : BitVec 32 := Scalar.select v158 c1_i32_79 c8_i32_77
  let v160 : BitVec 32 := Scalar.remsi v128 v159
  let c0_i32_81 : BitVec 32 := 0#32
  let v162 : BitVec 1 := Scalar.cmpi .slt v160 c0_i32_81
  let c0_i32_82 : BitVec 32 := 0#32
  let v163 : BitVec 1 := Scalar.cmpi .slt v159 c0_i32_82
  let v164 : BitVec 1 := Scalar.xori v162 v163
  let c0_i32_80 : BitVec 32 := 0#32
  let v161 : BitVec 1 := Scalar.cmpi .ne v160 c0_i32_80
  let v165 : BitVec 1 := Scalar.andi v164 v161
  let v166 : BitVec 32 := Scalar.addi v160 v159
  let v167 : BitVec 32 := Scalar.select v165 v166 v160
  let v169 : Index := Scalar.indexCast v167
  let c0_84 : Index := 0#32
  ![0, v168.toNat, v169.toNat, 0]
def k0_off45 (i : grid0.Coords) (v70 : BitVec 32) : Fin 3 → Nat :=
  let arg0 : BitVec 32 := BitVec.ofNat 32 (i 0).val
  let c256_i32 : BitVec 32 := 256#32
  let v63 : BitVec 32 := Scalar.muli arg0 c256_i32
  let v71 : BitVec 32 := Scalar.subi v70 v63
  let c3_i32_49 : BitVec 32 := 3#32
  let v105 : BitVec 32 := Scalar.subi v71 c3_i32_49
  let c1_i32_50 : BitVec 32 := 1#32
  let v106 : BitVec 32 := Scalar.addi v105 c1_i32_50
  let c16_i32 : BitVec 32 := 16#32
  let v129 : BitVec 32 := Scalar.addi v106 c16_i32
  let c1_i32_66 : BitVec 32 := 1#32
  let v130 : BitVec 32 := Scalar.shrsi v129 c1_i32_66
  let v131 : Index := Scalar.indexCast v130
  let c0_67 : Index := 0#32
  ![v131.toNat, 0, 0]
def k0_cond8 (i : grid0.Coords) (arg22 : BitVec 32) (v70 : BitVec 32) : BitVec 1 :=
  let c0_i32_51 : BitVec 32 := 0#32
  let v107 : BitVec 1 := Scalar.cmpi .sgt arg22 c0_i32_51
  let arg0 : BitVec 32 := BitVec.ofNat 32 (i 0).val
  let c256_i32 : BitVec 32 := 256#32
  let v63 : BitVec 32 := Scalar.muli arg0 c256_i32
  let v71 : BitVec 32 := Scalar.subi v70 v63
  let c3_i32_49 : BitVec 32 := 3#32
  let v105 : BitVec 32 := Scalar.subi v71 c3_i32_49
  let c1_i32_50 : BitVec 32 := 1#32
  let v106 : BitVec 32 := Scalar.addi v105 c1_i32_50
  let c0_i32_52 : BitVec 32 := 0#32
  let v108 : BitVec 1 := Scalar.cmpi .sge v106 c0_i32_52
  let c256_i32_53 : BitVec 32 := 256#32
  let v109 : BitVec 1 := Scalar.cmpi .slt v106 c256_i32_53
  let v110 : BitVec 1 := Scalar.andi v108 v109
  let v111 : BitVec 1 := Scalar.andi v107 v110
  let v112 : BitVec 32 := Scalar.extui v111
  let c0_i32_54 : BitVec 32 := 0#32
  let v113 : BitVec 1 := Scalar.cmpi .ne v112 c0_i32_54
  v113

def k0_off46 (arg22 : BitVec 32) : Fin 4 → Nat :=
  let c1 : Index := 1#32
  let c1_i32_65 : BitVec 32 := 1#32
  let v128 : BitVec 32 := Scalar.subi arg22 c1_i32_65
  let c0_i32_71 : BitVec 32 := 0#32
  let v142 : BitVec 1 := Scalar.cmpi .sgt v128 c0_i32_71
  let v143 : BitVec 32 := Scalar.extui v142
  let c0_i32_72 : BitVec 32 := 0#32
  let v144 : BitVec 1 := Scalar.cmpi .slt v128 c0_i32_72
  let v145 : BitVec 32 := Scalar.extui v144
  let v146 : BitVec 32 := Scalar.subi v143 v145
  let c8_i32 : BitVec 32 := 8#32
  let c0_i32_73 : BitVec 32 := 0#32
  let v147 : BitVec 1 := Scalar.cmpi .sgt c8_i32 c0_i32_73
  let v148 : BitVec 32 := Scalar.extui v147
  let c0_i32_74 : BitVec 32 := 0#32
  let v149 : BitVec 1 := Scalar.cmpi .slt c8_i32 c0_i32_74
  let v150 : BitVec 32 := Scalar.extui v149
  let v151 : BitVec 32 := Scalar.subi v148 v150
  let v152 : BitVec 1 := Scalar.cmpi .ne v146 v151
  let v153 : BitVec 32 := Scalar.remsi v128 c8_i32
  let c0_i32_75 : BitVec 32 := 0#32
  let v154 : BitVec 1 := Scalar.cmpi .ne v153 c0_i32_75
  let v155 : BitVec 1 := Scalar.andi v152 v154
  let v141 : BitVec 32 := Scalar.divsi v128 c8_i32
  let c1_i32_76 : BitVec 32 := 1#32
  let v156 : BitVec 32 := Scalar.subi v141 c1_i32_76
  let v157 : BitVec 32 := Scalar.select v155 v156 v141
  let v168 : Index := Scalar.indexCast v157
  let c8_i32_77 : BitVec 32 := 8#32
  let c0_i32_78 : BitVec 32 := 0#32
  let v158 : BitVec 1 := Scalar.cmpi .eq c8_i32_77 c0_i32_78
  let c1_i32_79 : BitVec 32 := 1#32
  let v159 : BitVec 32 := Scalar.select v158 c1_i32_79 c8_i32_77
  let v160 : BitVec 32 := Scalar.remsi v128 v159
  let c0_i32_81 : BitVec 32 := 0#32
  let v162 : BitVec 1 := Scalar.cmpi .slt v160 c0_i32_81
  let c0_i32_82 : BitVec 32 := 0#32
  let v163 : BitVec 1 := Scalar.cmpi .slt v159 c0_i32_82
  let v164 : BitVec 1 := Scalar.xori v162 v163
  let c0_i32_80 : BitVec 32 := 0#32
  let v161 : BitVec 1 := Scalar.cmpi .ne v160 c0_i32_80
  let v165 : BitVec 1 := Scalar.andi v164 v161
  let v166 : BitVec 32 := Scalar.addi v160 v159
  let v167 : BitVec 32 := Scalar.select v165 v166 v160
  let v169 : Index := Scalar.indexCast v167
  let c0_83 : Index := 0#32
  ![1, v168.toNat, v169.toNat, 0]
def k0_off47 (i : grid0.Coords) (v70 : BitVec 32) : Fin 3 → Nat :=
  let arg0 : BitVec 32 := BitVec.ofNat 32 (i 0).val
  let c256_i32 : BitVec 32 := 256#32
  let v63 : BitVec 32 := Scalar.muli arg0 c256_i32
  let v71 : BitVec 32 := Scalar.subi v70 v63
  let c3_i32_55 : BitVec 32 := 3#32
  let v114 : BitVec 32 := Scalar.subi v71 c3_i32_55
  let c2_i32_56 : BitVec 32 := 2#32
  let v115 : BitVec 32 := Scalar.addi v114 c2_i32_56
  let c16_i32 : BitVec 32 := 16#32
  let v129 : BitVec 32 := Scalar.addi v115 c16_i32
  let c1_i32_66 : BitVec 32 := 1#32
  let v130 : BitVec 32 := Scalar.shrsi v129 c1_i32_66
  let v131 : Index := Scalar.indexCast v130
  let c0_67 : Index := 0#32
  ![v131.toNat, 0, 0]
def k0_cond9 (i : grid0.Coords) (arg22 : BitVec 32) (v70 : BitVec 32) : BitVec 1 :=
  let c0_i32_57 : BitVec 32 := 0#32
  let v116 : BitVec 1 := Scalar.cmpi .sgt arg22 c0_i32_57
  let arg0 : BitVec 32 := BitVec.ofNat 32 (i 0).val
  let c256_i32 : BitVec 32 := 256#32
  let v63 : BitVec 32 := Scalar.muli arg0 c256_i32
  let v71 : BitVec 32 := Scalar.subi v70 v63
  let c3_i32_55 : BitVec 32 := 3#32
  let v114 : BitVec 32 := Scalar.subi v71 c3_i32_55
  let c2_i32_56 : BitVec 32 := 2#32
  let v115 : BitVec 32 := Scalar.addi v114 c2_i32_56
  let c0_i32_58 : BitVec 32 := 0#32
  let v117 : BitVec 1 := Scalar.cmpi .sge v115 c0_i32_58
  let c256_i32_59 : BitVec 32 := 256#32
  let v118 : BitVec 1 := Scalar.cmpi .slt v115 c256_i32_59
  let v119 : BitVec 1 := Scalar.andi v117 v118
  let v120 : BitVec 1 := Scalar.andi v116 v119
  let v121 : BitVec 32 := Scalar.extui v120
  let c0_i32_60 : BitVec 32 := 0#32
  let v122 : BitVec 1 := Scalar.cmpi .ne v121 c0_i32_60
  v122

def k0_off48 (arg22 : BitVec 32) : Fin 4 → Nat :=
  let c2 : Index := 2#32
  let c1_i32_65 : BitVec 32 := 1#32
  let v128 : BitVec 32 := Scalar.subi arg22 c1_i32_65
  let c0_i32_71 : BitVec 32 := 0#32
  let v142 : BitVec 1 := Scalar.cmpi .sgt v128 c0_i32_71
  let v143 : BitVec 32 := Scalar.extui v142
  let c0_i32_72 : BitVec 32 := 0#32
  let v144 : BitVec 1 := Scalar.cmpi .slt v128 c0_i32_72
  let v145 : BitVec 32 := Scalar.extui v144
  let v146 : BitVec 32 := Scalar.subi v143 v145
  let c8_i32 : BitVec 32 := 8#32
  let c0_i32_73 : BitVec 32 := 0#32
  let v147 : BitVec 1 := Scalar.cmpi .sgt c8_i32 c0_i32_73
  let v148 : BitVec 32 := Scalar.extui v147
  let c0_i32_74 : BitVec 32 := 0#32
  let v149 : BitVec 1 := Scalar.cmpi .slt c8_i32 c0_i32_74
  let v150 : BitVec 32 := Scalar.extui v149
  let v151 : BitVec 32 := Scalar.subi v148 v150
  let v152 : BitVec 1 := Scalar.cmpi .ne v146 v151
  let v153 : BitVec 32 := Scalar.remsi v128 c8_i32
  let c0_i32_75 : BitVec 32 := 0#32
  let v154 : BitVec 1 := Scalar.cmpi .ne v153 c0_i32_75
  let v155 : BitVec 1 := Scalar.andi v152 v154
  let v141 : BitVec 32 := Scalar.divsi v128 c8_i32
  let c1_i32_76 : BitVec 32 := 1#32
  let v156 : BitVec 32 := Scalar.subi v141 c1_i32_76
  let v157 : BitVec 32 := Scalar.select v155 v156 v141
  let v168 : Index := Scalar.indexCast v157
  let c8_i32_77 : BitVec 32 := 8#32
  let c0_i32_78 : BitVec 32 := 0#32
  let v158 : BitVec 1 := Scalar.cmpi .eq c8_i32_77 c0_i32_78
  let c1_i32_79 : BitVec 32 := 1#32
  let v159 : BitVec 32 := Scalar.select v158 c1_i32_79 c8_i32_77
  let v160 : BitVec 32 := Scalar.remsi v128 v159
  let c0_i32_81 : BitVec 32 := 0#32
  let v162 : BitVec 1 := Scalar.cmpi .slt v160 c0_i32_81
  let c0_i32_82 : BitVec 32 := 0#32
  let v163 : BitVec 1 := Scalar.cmpi .slt v159 c0_i32_82
  let v164 : BitVec 1 := Scalar.xori v162 v163
  let c0_i32_80 : BitVec 32 := 0#32
  let v161 : BitVec 1 := Scalar.cmpi .ne v160 c0_i32_80
  let v165 : BitVec 1 := Scalar.andi v164 v161
  let v166 : BitVec 32 := Scalar.addi v160 v159
  let v167 : BitVec 32 := Scalar.select v165 v166 v160
  let v169 : Index := Scalar.indexCast v167
  let c0_83 : Index := 0#32
  ![2, v168.toNat, v169.toNat, 0]

def k0_chk3 (i : grid0.Coords) (arg22 : BitVec 32) (v70 : BitVec 32) : Prop :=
  (∀ (k0_h4 : k0_cond4 i arg22 v70 = 1#1), ∀ a, S26x2x128.size a = 0 ∨ (k0_off29 i v70) a + (![136, 1, 1] : Fin 3 → Nat) a * (S26x2x128.size a - 1) < S3536x2x128.size a) ∧
  (∀ (k0_h4 : k0_cond4 i arg22 v70 = 1#1), ∀ a, S26x128.size a = 0 ∨ (k0_off30 i v70) a + (![256, 1] : Fin 2 → Nat) a * (S26x128.size a - 1) < S6656x128.size a) ∧
  (∀ (k0_h4 : k0_cond4 i arg22 v70 = 1#1), ∀ a, (k0_off31 i v70) a + S1x128.size a ≤ S256x128.size a) ∧
  (∀ (k0_h4 : k0_cond4 i arg22 v70 = 1#1), ∀ a, S1x1x26x128.size a = 0 ∨ (k0_off32 arg22) a + (![1, 1, 8, 1] : Fin 4 → Nat) a * (S1x1x26x128.size a - 1) < S3x3x208x128.size a) ∧
  (∀ (k0_h5 : k0_cond5 i arg22 v70 = 1#1), ∀ a, S26x2x128.size a = 0 ∨ (k0_off33 i v70) a + (![136, 1, 1] : Fin 3 → Nat) a * (S26x2x128.size a - 1) < S3536x2x128.size a) ∧
  (∀ (k0_h5 : k0_cond5 i arg22 v70 = 1#1), ∀ a, S26x2x128.size a = 0 ∨ (k0_off34 i v70) a + (![136, 1, 1] : Fin 3 → Nat) a * (S26x2x128.size a - 1) < S3536x2x128.size a) ∧
  (∀ (k0_h5 : k0_cond5 i arg22 v70 = 1#1), ∀ a, S26x128.size a = 0 ∨ (k0_off35 i v70) a + (![256, 1] : Fin 2 → Nat) a * (S26x128.size a - 1) < S6656x128.size a) ∧
  (∀ (k0_h5 : k0_cond5 i arg22 v70 = 1#1), ∀ a, (k0_off36 i v70) a + S1x128.size a ≤ S256x128.size a) ∧
  (∀ (k0_h5 : k0_cond5 i arg22 v70 = 1#1), ∀ a, S1x1x26x128.size a = 0 ∨ (k0_off37 arg22) a + (![1, 1, 8, 1] : Fin 4 → Nat) a * (S1x1x26x128.size a - 1) < S3x3x208x128.size a) ∧
  (∀ (k0_h6 : k0_cond6 i arg22 v70 = 1#1), ∀ a, S26x2x128.size a = 0 ∨ (k0_off38 i v70) a + (![136, 1, 1] : Fin 3 → Nat) a * (S26x2x128.size a - 1) < S3536x2x128.size a) ∧
  (∀ (k0_h6 : k0_cond6 i arg22 v70 = 1#1), ∀ (r : Fin 2), ∀ a, S26x2x128.size a = 0 ∨ (k0_off39 i v70 (BitVec.ofNat 32 (1 + r.val))) a + (![136, 1, 1] : Fin 3 → Nat) a * (S26x2x128.size a - 1) < S3536x2x128.size a) ∧
  (∀ (k0_h6 : k0_cond6 i arg22 v70 = 1#1), ∀ a, S26x128.size a = 0 ∨ (k0_off40 i v70) a + (![256, 1] : Fin 2 → Nat) a * (S26x128.size a - 1) < S6656x128.size a) ∧
  (∀ (k0_h6 : k0_cond6 i arg22 v70 = 1#1), ∀ a, (k0_off41 i v70) a + S1x128.size a ≤ S256x128.size a) ∧
  (∀ (k0_h6 : k0_cond6 i arg22 v70 = 1#1), ∀ a, S1x1x26x128.size a = 0 ∨ (k0_off42 arg22) a + (![1, 1, 8, 1] : Fin 4 → Nat) a * (S1x1x26x128.size a - 1) < S3x3x208x128.size a) ∧
  (∀ (k0_h7 : k0_cond7 i arg22 v70 = 1#1), ∀ a, S26x2x128.size a = 0 ∨ (k0_off43 i v70) a + (![136, 1, 1] : Fin 3 → Nat) a * (S26x2x128.size a - 1) < S3536x2x128.size a) ∧
  (∀ (k0_h7 : k0_cond7 i arg22 v70 = 1#1), ∀ a, S1x1x26x128.size a = 0 ∨ (k0_off44 arg22) a + (![1, 1, 8, 1] : Fin 4 → Nat) a * (S1x1x26x128.size a - 1) < S3x3x208x128.size a) ∧
  (∀ (k0_h8 : k0_cond8 i arg22 v70 = 1#1), ∀ a, S26x2x128.size a = 0 ∨ (k0_off45 i v70) a + (![136, 1, 1] : Fin 3 → Nat) a * (S26x2x128.size a - 1) < S3536x2x128.size a) ∧
  (∀ (k0_h8 : k0_cond8 i arg22 v70 = 1#1), ∀ a, S1x1x26x128.size a = 0 ∨ (k0_off46 arg22) a + (![1, 1, 8, 1] : Fin 4 → Nat) a * (S1x1x26x128.size a - 1) < S3x3x208x128.size a) ∧
  (∀ (k0_h9 : k0_cond9 i arg22 v70 = 1#1), ∀ a, S26x2x128.size a = 0 ∨ (k0_off47 i v70) a + (![136, 1, 1] : Fin 3 → Nat) a * (S26x2x128.size a - 1) < S3536x2x128.size a) ∧
  (∀ (k0_h9 : k0_cond9 i arg22 v70 = 1#1), ∀ a, S1x1x26x128.size a = 0 ∨ (k0_off48 arg22) a + (![1, 1, 8, 1] : Fin 4 → Nat) a * (S1x1x26x128.size a - 1) < S3x3x208x128.size a)
theorem k0_off29_inb : ∀ (i : grid0.Coords) (arg22 : BitVec 32) (v70 : BitVec 32) (k0_hw3 : k0_chk3 i arg22 v70), ∀ (k0_h4 : k0_cond4 i arg22 v70 = 1#1), ∀ a, S26x2x128.size a = 0 ∨ (k0_off29 i v70) a + (![136, 1, 1] : Fin 3 → Nat) a * (S26x2x128.size a - 1) < S3536x2x128.size a := fun i arg22 v70 k0_hw3 k0_h4 => k0_hw3.1 k0_h4
theorem k0_off30_inb : ∀ (i : grid0.Coords) (arg22 : BitVec 32) (v70 : BitVec 32) (k0_hw3 : k0_chk3 i arg22 v70), ∀ (k0_h4 : k0_cond4 i arg22 v70 = 1#1), ∀ a, S26x128.size a = 0 ∨ (k0_off30 i v70) a + (![256, 1] : Fin 2 → Nat) a * (S26x128.size a - 1) < S6656x128.size a := fun i arg22 v70 k0_hw3 k0_h4 => k0_hw3.2.1 k0_h4
theorem k0_off31_inb : ∀ (i : grid0.Coords) (arg22 : BitVec 32) (v70 : BitVec 32) (k0_hw3 : k0_chk3 i arg22 v70), ∀ (k0_h4 : k0_cond4 i arg22 v70 = 1#1), ∀ a, (k0_off31 i v70) a + S1x128.size a ≤ S256x128.size a := fun i arg22 v70 k0_hw3 k0_h4 => k0_hw3.2.2.1 k0_h4
theorem k0_off32_inb : ∀ (i : grid0.Coords) (arg22 : BitVec 32) (v70 : BitVec 32) (k0_hw3 : k0_chk3 i arg22 v70), ∀ (k0_h4 : k0_cond4 i arg22 v70 = 1#1), ∀ a, S1x1x26x128.size a = 0 ∨ (k0_off32 arg22) a + (![1, 1, 8, 1] : Fin 4 → Nat) a * (S1x1x26x128.size a - 1) < S3x3x208x128.size a := fun i arg22 v70 k0_hw3 k0_h4 => k0_hw3.2.2.2.1 k0_h4
theorem k0_off33_inb : ∀ (i : grid0.Coords) (arg22 : BitVec 32) (v70 : BitVec 32) (k0_hw3 : k0_chk3 i arg22 v70), ∀ (k0_h5 : k0_cond5 i arg22 v70 = 1#1), ∀ a, S26x2x128.size a = 0 ∨ (k0_off33 i v70) a + (![136, 1, 1] : Fin 3 → Nat) a * (S26x2x128.size a - 1) < S3536x2x128.size a := fun i arg22 v70 k0_hw3 k0_h5 => k0_hw3.2.2.2.2.1 k0_h5
theorem k0_off34_inb : ∀ (i : grid0.Coords) (arg22 : BitVec 32) (v70 : BitVec 32) (k0_hw3 : k0_chk3 i arg22 v70), ∀ (k0_h5 : k0_cond5 i arg22 v70 = 1#1), ∀ a, S26x2x128.size a = 0 ∨ (k0_off34 i v70) a + (![136, 1, 1] : Fin 3 → Nat) a * (S26x2x128.size a - 1) < S3536x2x128.size a := fun i arg22 v70 k0_hw3 k0_h5 => k0_hw3.2.2.2.2.2.1 k0_h5
theorem k0_off35_inb : ∀ (i : grid0.Coords) (arg22 : BitVec 32) (v70 : BitVec 32) (k0_hw3 : k0_chk3 i arg22 v70), ∀ (k0_h5 : k0_cond5 i arg22 v70 = 1#1), ∀ a, S26x128.size a = 0 ∨ (k0_off35 i v70) a + (![256, 1] : Fin 2 → Nat) a * (S26x128.size a - 1) < S6656x128.size a := fun i arg22 v70 k0_hw3 k0_h5 => k0_hw3.2.2.2.2.2.2.1 k0_h5
theorem k0_off36_inb : ∀ (i : grid0.Coords) (arg22 : BitVec 32) (v70 : BitVec 32) (k0_hw3 : k0_chk3 i arg22 v70), ∀ (k0_h5 : k0_cond5 i arg22 v70 = 1#1), ∀ a, (k0_off36 i v70) a + S1x128.size a ≤ S256x128.size a := fun i arg22 v70 k0_hw3 k0_h5 => k0_hw3.2.2.2.2.2.2.2.1 k0_h5
theorem k0_off37_inb : ∀ (i : grid0.Coords) (arg22 : BitVec 32) (v70 : BitVec 32) (k0_hw3 : k0_chk3 i arg22 v70), ∀ (k0_h5 : k0_cond5 i arg22 v70 = 1#1), ∀ a, S1x1x26x128.size a = 0 ∨ (k0_off37 arg22) a + (![1, 1, 8, 1] : Fin 4 → Nat) a * (S1x1x26x128.size a - 1) < S3x3x208x128.size a := fun i arg22 v70 k0_hw3 k0_h5 => k0_hw3.2.2.2.2.2.2.2.2.1 k0_h5
theorem k0_off38_inb : ∀ (i : grid0.Coords) (arg22 : BitVec 32) (v70 : BitVec 32) (k0_hw3 : k0_chk3 i arg22 v70), ∀ (k0_h6 : k0_cond6 i arg22 v70 = 1#1), ∀ a, S26x2x128.size a = 0 ∨ (k0_off38 i v70) a + (![136, 1, 1] : Fin 3 → Nat) a * (S26x2x128.size a - 1) < S3536x2x128.size a := fun i arg22 v70 k0_hw3 k0_h6 => k0_hw3.2.2.2.2.2.2.2.2.2.1 k0_h6
theorem k0_off39_inb : ∀ (i : grid0.Coords) (arg22 : BitVec 32) (v70 : BitVec 32) (k0_hw3 : k0_chk3 i arg22 v70), ∀ (k0_h6 : k0_cond6 i arg22 v70 = 1#1), ∀ (r : Fin 2), ∀ a, S26x2x128.size a = 0 ∨ (k0_off39 i v70 (BitVec.ofNat 32 (1 + r.val))) a + (![136, 1, 1] : Fin 3 → Nat) a * (S26x2x128.size a - 1) < S3536x2x128.size a := fun i arg22 v70 k0_hw3 k0_h6 r => k0_hw3.2.2.2.2.2.2.2.2.2.2.1 k0_h6 r
theorem k0_off40_inb : ∀ (i : grid0.Coords) (arg22 : BitVec 32) (v70 : BitVec 32) (k0_hw3 : k0_chk3 i arg22 v70), ∀ (k0_h6 : k0_cond6 i arg22 v70 = 1#1), ∀ a, S26x128.size a = 0 ∨ (k0_off40 i v70) a + (![256, 1] : Fin 2 → Nat) a * (S26x128.size a - 1) < S6656x128.size a := fun i arg22 v70 k0_hw3 k0_h6 => k0_hw3.2.2.2.2.2.2.2.2.2.2.2.1 k0_h6
theorem k0_off41_inb : ∀ (i : grid0.Coords) (arg22 : BitVec 32) (v70 : BitVec 32) (k0_hw3 : k0_chk3 i arg22 v70), ∀ (k0_h6 : k0_cond6 i arg22 v70 = 1#1), ∀ a, (k0_off41 i v70) a + S1x128.size a ≤ S256x128.size a := fun i arg22 v70 k0_hw3 k0_h6 => k0_hw3.2.2.2.2.2.2.2.2.2.2.2.2.1 k0_h6
theorem k0_off42_inb : ∀ (i : grid0.Coords) (arg22 : BitVec 32) (v70 : BitVec 32) (k0_hw3 : k0_chk3 i arg22 v70), ∀ (k0_h6 : k0_cond6 i arg22 v70 = 1#1), ∀ a, S1x1x26x128.size a = 0 ∨ (k0_off42 arg22) a + (![1, 1, 8, 1] : Fin 4 → Nat) a * (S1x1x26x128.size a - 1) < S3x3x208x128.size a := fun i arg22 v70 k0_hw3 k0_h6 => k0_hw3.2.2.2.2.2.2.2.2.2.2.2.2.2.1 k0_h6
theorem k0_off43_inb : ∀ (i : grid0.Coords) (arg22 : BitVec 32) (v70 : BitVec 32) (k0_hw3 : k0_chk3 i arg22 v70), ∀ (k0_h7 : k0_cond7 i arg22 v70 = 1#1), ∀ a, S26x2x128.size a = 0 ∨ (k0_off43 i v70) a + (![136, 1, 1] : Fin 3 → Nat) a * (S26x2x128.size a - 1) < S3536x2x128.size a := fun i arg22 v70 k0_hw3 k0_h7 => k0_hw3.2.2.2.2.2.2.2.2.2.2.2.2.2.2.1 k0_h7
theorem k0_off44_inb : ∀ (i : grid0.Coords) (arg22 : BitVec 32) (v70 : BitVec 32) (k0_hw3 : k0_chk3 i arg22 v70), ∀ (k0_h7 : k0_cond7 i arg22 v70 = 1#1), ∀ a, S1x1x26x128.size a = 0 ∨ (k0_off44 arg22) a + (![1, 1, 8, 1] : Fin 4 → Nat) a * (S1x1x26x128.size a - 1) < S3x3x208x128.size a := fun i arg22 v70 k0_hw3 k0_h7 => k0_hw3.2.2.2.2.2.2.2.2.2.2.2.2.2.2.2.1 k0_h7
theorem k0_off45_inb : ∀ (i : grid0.Coords) (arg22 : BitVec 32) (v70 : BitVec 32) (k0_hw3 : k0_chk3 i arg22 v70), ∀ (k0_h8 : k0_cond8 i arg22 v70 = 1#1), ∀ a, S26x2x128.size a = 0 ∨ (k0_off45 i v70) a + (![136, 1, 1] : Fin 3 → Nat) a * (S26x2x128.size a - 1) < S3536x2x128.size a := fun i arg22 v70 k0_hw3 k0_h8 => k0_hw3.2.2.2.2.2.2.2.2.2.2.2.2.2.2.2.2.1 k0_h8
theorem k0_off46_inb : ∀ (i : grid0.Coords) (arg22 : BitVec 32) (v70 : BitVec 32) (k0_hw3 : k0_chk3 i arg22 v70), ∀ (k0_h8 : k0_cond8 i arg22 v70 = 1#1), ∀ a, S1x1x26x128.size a = 0 ∨ (k0_off46 arg22) a + (![1, 1, 8, 1] : Fin 4 → Nat) a * (S1x1x26x128.size a - 1) < S3x3x208x128.size a := fun i arg22 v70 k0_hw3 k0_h8 => k0_hw3.2.2.2.2.2.2.2.2.2.2.2.2.2.2.2.2.2.1 k0_h8
theorem k0_off47_inb : ∀ (i : grid0.Coords) (arg22 : BitVec 32) (v70 : BitVec 32) (k0_hw3 : k0_chk3 i arg22 v70), ∀ (k0_h9 : k0_cond9 i arg22 v70 = 1#1), ∀ a, S26x2x128.size a = 0 ∨ (k0_off47 i v70) a + (![136, 1, 1] : Fin 3 → Nat) a * (S26x2x128.size a - 1) < S3536x2x128.size a := fun i arg22 v70 k0_hw3 k0_h9 => k0_hw3.2.2.2.2.2.2.2.2.2.2.2.2.2.2.2.2.2.2.1 k0_h9
theorem k0_off48_inb : ∀ (i : grid0.Coords) (arg22 : BitVec 32) (v70 : BitVec 32) (k0_hw3 : k0_chk3 i arg22 v70), ∀ (k0_h9 : k0_cond9 i arg22 v70 = 1#1), ∀ a, S1x1x26x128.size a = 0 ∨ (k0_off48 arg22) a + (![1, 1, 8, 1] : Fin 4 → Nat) a * (S1x1x26x128.size a - 1) < S3x3x208x128.size a := fun i arg22 v70 k0_hw3 k0_h9 => k0_hw3.2.2.2.2.2.2.2.2.2.2.2.2.2.2.2.2.2.2.2 k0_h9

def k0_cond11 (i : grid0.Coords) : BitVec 1 :=
  let arg0 : BitVec 32 := BitVec.ofNat 32 (i 0).val
  let c128_i32 : BitVec 32 := 128#32
  let v66 : BitVec 1 := Scalar.cmpi .eq arg0 c128_i32
  let v67 : BitVec 32 := Scalar.extui v66
  let c0_i32_30 : BitVec 32 := 0#32
  let v68 : BitVec 1 := Scalar.cmpi .ne v67 c0_i32_30
  v68

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .smem S25 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x3328 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x3328 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3328 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3328 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x3x208x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x24x3328 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S32768x3328 : Shape := ⟨2, ![32768, 3328]⟩
abbrev S32768x1 : Shape := ⟨2, ![32768, 1]⟩
abbrev S25 : Shape := ⟨1, ![25]⟩
abbrev S3328x4 : Shape := ⟨2, ![3328, 4]⟩
abbrev S3328 : Shape := ⟨1, ![3328]⟩
abbrev S1x3328 : Shape := ⟨2, ![1, 3328]⟩
abbrev S1 : Shape := ⟨1, ![1]⟩
abbrev S4x3328 : Shape := ⟨2, ![4, 3328]⟩
abbrev S3x3328 : Shape := ⟨2, ![3, 3328]⟩
abbrev S32765x3328 : Shape := ⟨2, ![32765, 3328]⟩
abbrev S2x3328 : Shape := ⟨2, ![2, 3328]⟩
abbrev S32766x3328 : Shape := ⟨2, ![32766, 3328]⟩
abbrev S32767x3328 : Shape := ⟨2, ![32767, 3328]⟩
abbrev S32768 : Shape := ⟨1, ![32768]⟩
abbrev S3 : Shape := ⟨1, ![3]⟩
abbrev S1x3 : Shape := ⟨2, ![1, 3]⟩
abbrev S24 : Shape := ⟨1, ![24]⟩
abbrev S24x1 : Shape := ⟨2, ![24, 1]⟩
abbrev S24x3 : Shape := ⟨2, ![24, 3]⟩
abbrev S_ : Shape := ⟨0, ![]⟩
abbrev S24x3x1 : Shape := ⟨3, ![24, 3, 1]⟩
abbrev S24x3x3328 : Shape := ⟨3, ![24, 3, 3328]⟩
abbrev S24x3328x3 : Shape := ⟨3, ![24, 3328, 3]⟩
abbrev S128x1x256 : Shape := ⟨3, ![128, 1, 256]⟩

abbrev nBuf : Space → Nat
  | .hbm => 46
  | .vmem => 8
  | .smem => 1
  | _ => 0

abbrev bufTy : (tb : Table) → Fin (tcTables nBuf tb) → BufTy
  | .hbm, ⟨0, _⟩ => ⟨S32768x3328, .fp8e4m3⟩
  | .hbm, ⟨1, _⟩ => ⟨S32768x1, .f32⟩
  | .hbm, ⟨2, _⟩ => ⟨S25, .i32⟩
  | .hbm, ⟨3, _⟩ => ⟨S3328x4, .bf16⟩
  | .hbm, ⟨4, _⟩ => ⟨S3328, .bf16⟩
  | .hbm, ⟨5, _⟩ => ⟨S1x3328, .bf16⟩
  | .hbm, ⟨6, _⟩ => ⟨S32768x3328, .fp8e4m3⟩
  | .hbm, ⟨7, _⟩ => ⟨S32768x1, .f32⟩
  | .hbm, ⟨8, _⟩ => ⟨S32768x3328, .f32⟩
  | .hbm, ⟨9, _⟩ => ⟨S32768x3328, .f32⟩
  | .hbm, ⟨10, _⟩ => ⟨S3, .i32⟩
  | .hbm, ⟨11, _⟩ => ⟨S1x3, .i32⟩
  | .hbm, ⟨12, _⟩ => ⟨S24, .i32⟩
  | .hbm, ⟨13, _⟩ => ⟨S24x1, .i32⟩
  | .hbm, ⟨14, _⟩ => ⟨S24x3, .i32⟩
  | .hbm, ⟨15, _⟩ => ⟨S24x3, .i32⟩
  | .hbm, ⟨16, _⟩ => ⟨S24x3, .i32⟩
  | .hbm, ⟨17, _⟩ => ⟨S_, .i32⟩
  | .hbm, ⟨18, _⟩ => ⟨S24x3, .i32⟩
  | .hbm, ⟨19, _⟩ => ⟨S24x3, .i1⟩
  | .hbm, ⟨20, _⟩ => ⟨S_, .i32⟩
  | .hbm, ⟨21, _⟩ => ⟨S24x3, .i32⟩
  | .hbm, ⟨22, _⟩ => ⟨S24x3, .i32⟩
  | .hbm, ⟨23, _⟩ => ⟨S24x3, .i32⟩
  | .hbm, ⟨24, _⟩ => ⟨S24x3x1, .i32⟩
  | .hbm, ⟨25, _⟩ => ⟨S24x3x3328, .f32⟩
  | .hbm, ⟨26, _⟩ => ⟨S24, .i32⟩
  | .hbm, ⟨27, _⟩ => ⟨S24x1, .i32⟩
  | .hbm, ⟨28, _⟩ => ⟨S_, .i32⟩
  | .hbm, ⟨29, _⟩ => ⟨S24x1, .i32⟩
  | .hbm, ⟨30, _⟩ => ⟨S24x1, .i32⟩
  | .hbm, ⟨31, _⟩ => ⟨S24x3, .i32⟩
  | .hbm, ⟨32, _⟩ => ⟨S24x3, .i32⟩
  | .hbm, ⟨33, _⟩ => ⟨S24x3, .i32⟩
  | .hbm, ⟨34, _⟩ => ⟨S_, .i32⟩
  | .hbm, ⟨35, _⟩ => ⟨S24x3, .i32⟩
  | .hbm, ⟨36, _⟩ => ⟨S24x3, .i1⟩
  | .hbm, ⟨37, _⟩ => ⟨S_, .i32⟩
  | .hbm, ⟨38, _⟩ => ⟨S24x3, .i32⟩
  | .hbm, ⟨39, _⟩ => ⟨S24x3, .i32⟩
  | .hbm, ⟨40, _⟩ => ⟨S24x3, .i32⟩
  | .hbm, ⟨41, _⟩ => ⟨S24x3x1, .i32⟩
  | .hbm, ⟨42, _⟩ => ⟨S24x3x3328, .f32⟩
  | .hbm, ⟨43, _⟩ => ⟨S24x3328x3, .f32⟩
  | .hbm, ⟨44, _⟩ => ⟨S24x3328x3, .bf16⟩
  | .hbm, ⟨45, _⟩ => ⟨S128x1x256, .f32⟩
  | .local _ .vmem, ⟨0, _⟩ => ⟨S32768x3328, .fp8e4m3⟩
  | .local _ .vmem, ⟨1, _⟩ => ⟨S32768x1, .f32⟩
  | .local _ .vmem, ⟨2, _⟩ => ⟨S3328x4, .bf16⟩
  | .local _ .vmem, ⟨3, _⟩ => ⟨S1x3328, .bf16⟩
  | .local _ .vmem, ⟨4, _⟩ => ⟨S32768x3328, .fp8e4m3⟩
  | .local _ .vmem, ⟨5, _⟩ => ⟨S32768x1, .f32⟩
  | .local _ .vmem, ⟨6, _⟩ => ⟨S32768x3328, .f32⟩
  | .local _ .vmem, ⟨7, _⟩ => ⟨S32768x3328, .f32⟩
  | .local _ .smem, ⟨0, _⟩ => ⟨S25, .i32⟩
  | _, _ => ⟨S32768x3328, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_v24 : Ref sig .tc := ⟨.hbm, 36, rfl⟩
abbrev main_c_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

@[reducible] def k0_t1_loop : Scf.Loop 32 :=
  let c0_i32_41 : BitVec 32 := 0#32
  let c246_i32 : BitVec 32 := 246#32
  let v216 : BitVec 32 := Scalar.addi c0_i32_41 c246_i32
  let c1_i32_42 : BitVec 32 := 1#32
  ⟨c0_i32_41, v216, c1_i32_42⟩
abbrev stage0_0 : Fin 1 → Memref sig .tc .vmem S32768x3328 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S25 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3328x4 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3328 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32768x3328 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32768x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32768x3328 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32768x3328 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Hoare.lean ====
/-
  Runs of a core's program over the contents of the buffers it holds. `Runs` says: from given contents the program runs
  to a result and contents that a relation holds of. One rule per effect the kernel has (load, store, check, call), the
  monad's two, the counted loop's. `Mods` is the special case that only says which buffers may have changed.
-/
module

public import Idealize.ShloMosaic.Lib.Tactic

@[expose] public section

noncomputable section

namespace Cert.Proof.Hoare

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig}
variable {Val : EltTy → Type} {U : Type} [URA U] {Λ : Labels}

local notation "𝕄" => MT nD τ sig Unit Val ℕ U ℕ

/-- What every buffer of a core holds. -/
abbrev St (sig : RefSig) (Val : EltTy → Type) := (b : Ref sig .tc) → b.ty.Contents Val

/-- The buffers of `L`, each held whole at what `σ` says. -/
def Held (c : Dev nD) (L : Finset (Ref sig .tc)) (σ : St sig Val) : sProp 𝕄 :=
  bigSep L fun b => (((c : Thread nD τ).loc b) ↦{fullShare} (σ b : Buf Val ((c : Thread nD τ).loc b)))

/-- The contents after one buffer is set. -/
def St.set (σ : St sig Val) (b : Ref sig .tc) (v : b.ty.Contents Val) : St sig Val := Function.update σ b v

@[simp] theorem St.set_self (σ : St sig Val) (b : Ref sig .tc) (v : b.ty.Contents Val) : σ.set b v b = v := by
  simp [St.set]

theorem St.set_ne (σ : St sig Val) {b b' : Ref sig .tc} (h : b' ≠ b) (v : b.ty.Contents Val) : σ.set b v b' = σ b' := by
  simp [St.set, h]

/-- One buffer of those held, and the others. -/
theorem held_split (c : Dev nD) {L : Finset (Ref sig .tc)} {b : Ref sig .tc} (hb : b ∈ L) (σ : St sig Val) :
    (Held c L σ : sProp 𝕄) = iprop((((c : Thread nD τ).loc b) ↦{fullShare} (σ b : Buf Val ((c : Thread nD τ).loc b)))
      ∗ bigSep (L.erase b) fun b => (((c : Thread nD τ).loc b) ↦{fullShare} (σ b : Buf Val ((c : Thread nD τ).loc b)))) := by
  unfold Held; rw [bigSep_erase hb]; rfl

/-- The same with the one buffer set. -/
theorem held_set (c : Dev nD) {L : Finset (Ref sig .tc)} {b : Ref sig .tc} (hb : b ∈ L) (σ : St sig Val) (v : b.ty.Contents Val) :
    (Held c L (σ.set b v) : sProp 𝕄) = iprop((((c : Thread nD τ).loc b) ↦{fullShare} (v : Buf Val ((c : Thread nD τ).loc b)))
      ∗ bigSep (L.erase b) fun b => (((c : Thread nD τ).loc b) ↦{fullShare} (σ b : Buf Val ((c : Thread nD τ).loc b)))) := by
  rw [held_split c hb, St.set_self]
  congr 1
  refine bigSep_congr fun b' h => ?_
  rw [St.set_ne _ (Finset.ne_of_mem_erase h)]

variable (U) in
/-- From `σ` the program runs to a result and contents that `Q` holds of. -/
def Runs (defs : Defs nD τ sig Val Λ) (𝒱 : Variants) (c : Dev nD) (bd : Option 𝒱.V) (L : Finset (Ref sig .tc)) (σ : St sig Val) {α : Type}
    (p : Prog (TpuEff nD τ sig Val Λ .tc) α) (Q : α → St sig Val → Prop) : Prop :=
  (Held c L σ : sProp 𝕄) ⊢ wp frame (wpE defs 𝒱 (c : Thread nD τ) bd) Set.univ p
    (fun r => iprop(∃ σ', ⌜Q r σ'⌝ ∗ Held c L σ'))

variable {defs : Defs nD τ sig Val Λ} {𝒱 : Variants} {c : Dev nD} {bd : Option 𝒱.V} {L : Finset (Ref sig .tc)} {σ : St sig Val}
variable {α β : Type} {Q : α → St sig Val → Prop}

/-- A program that only returns. -/
theorem Runs.ret {r : α} (h : Q r σ) : Runs U defs 𝒱 c bd L σ (.ret r) Q := by
  unfold Runs
  rw [wp_ret]
  iintro H
  imodintro
  iexists σ
  isplitr
  · ipureintro; exact h
  iexact H

/-- What holds after a run may be weakened. -/
theorem Runs.mono {p : Prog (TpuEff nD τ sig Val Λ .tc) α} {Q' : α → St sig Val → Prop}
    (h : Runs U defs 𝒱 c bd L σ p Q') (hQ : ∀ r σ', Q' r σ' → Q r σ') : Runs U defs 𝒱 c bd L σ p Q := by
  unfold Runs at *
  refine h.trans (wp_mono _ _ _ fun r => ?_)
  iintro ⟨%σ', %hq, H⟩
  iexists σ'
  isplitr
  · ipureintro; exact hQ r σ' hq
  iexact H

/-- One program after another. -/
theorem Runs.bind {p : Prog (TpuEff nD τ sig Val Λ .tc) β} {k : β → Prog (TpuEff nD τ sig Val Λ .tc) α} {Q' : β → St sig Val → Prop}
    (h : Runs U defs 𝒱 c bd L σ p Q') (hk : ∀ r σ', Q' r σ' → Runs U defs 𝒱 c bd L σ' (k r) Q) : Runs U defs 𝒱 c bd L σ (p >>= k) Q := by
  unfold Runs at *
  rw [wp_bind]
  refine h.trans (wp_mono _ _ _ fun r => ?_)
  iintro ⟨%σ', %hq, H⟩
  iapply (hk r σ' hq)
  iexact H

/-- A load. -/
theorem Runs.load {cs : CoreSpace} {s : Shape} {e : EltTy} {m : Memref sig .tc cs s e} {r : LoadRect s} {hl : m.view.LoadsAt r}
    {k : (r.shape.Idx → Val e) → Prog (TpuEff nD τ sig Val Λ .tc) α} (hm : m.view.ref ∈ L)
    (h : Runs U defs 𝒱 c bd L σ (k (m.view.readAt Val r (σ m.view.ref))) Q) :
    Runs U defs 𝒱 c bd L σ (Prog.lift (.load m r hl) >>= k) Q := by
  unfold Runs at *
  simp only [Prog.lift, Prog.bind_op, Prog.bind_ret]
  rw [held_split c hm] at h ⊢
  iintro ⟨H, HR⟩
  iapply (wp_load 𝒱 (c : Thread nD τ) bd Set.univ (m := m) (Finset.subset_univ _)) $$ H
  iintro H
  iapply h
  isplitl [H]
  · iexact H
  iexact HR

/-- A store. -/
theorem Runs.store {cs : CoreSpace} {s : Shape} {e : EltTy} {m : Memref sig .tc cs s e} {r : Rect s} {w : r.shape.Idx → Val e}
    {Mk : Finset r.shape.Idx} {hx : (m.access r).Stores Mk} {hu}
    {k : PUnit → Prog (TpuEff nD τ sig Val Λ .tc) α} (hm : m.view.ref ∈ L)
    (h : Runs U defs 𝒱 c bd L (σ.set m.view.ref ((m.access r).write Val (σ m.view.ref) w Mk)) (k ⟨⟩) Q) :
    Runs U defs 𝒱 c bd L σ (Prog.lift (.store m r w Mk hx hu) >>= k) Q := by
  unfold Runs at *
  simp only [Prog.lift, Prog.bind_op, Prog.bind_ret]
  rw [held_set c hm] at h
  rw [held_split c hm]
  iintro ⟨H, HR⟩
  iapply (wp_store 𝒱 (c : Thread nD τ) bd Set.univ (m := m) (r := r) (Finset.subset_univ _)) $$ H
  iintro H
  iapply h
  isplitl [H]
  · iexact H
  iexact HR

/-- A load of one word of scalar memory. -/
theorem Runs.smem {s : Shape} {e : EltTy} {m : Memref sig .tc .smem s e} {r : Rect s} {h1 : r.shape.numel = 1} {hp : e.packing = 1}
    {k : Val e → Prog (TpuEff nD τ sig Val Λ .tc) α} (hm : m.view.ref ∈ L)
    (h : Runs U defs 𝒱 c bd L σ (k (m.view.readAt Val r.toLoadRect (σ m.view.ref) (Shape.Idx.first (h1.symm ▸ Nat.one_pos)))) Q) :
    Runs U defs 𝒱 c bd L σ (smemLoad m r h1 hp >>= k) Q := by
  unfold Runs at *
  simp only [smemLoad, smemLoadElt, Prog.bind_op, Prog.bind_ret]
  rw [held_split c hm] at h ⊢
  iintro ⟨H, HR⟩
  iapply (wp_load 𝒱 (c : Thread nD τ) bd Set.univ (m := m) (Finset.subset_univ _)) $$ H
  iintro H
  iapply h
  isplitl [H]
  · iexact H
  iexact HR

/-- A check whose proposition holds. -/
theorem Runs.assume {P : Prop} {d : Decidable P} {k : PLift P → Prog (TpuEff nD τ sig Val Λ .tc) α} (hP : P)
    (h : Runs U defs 𝒱 c bd L σ (k ⟨hP⟩) Q) : Runs U defs 𝒱 c bd L σ (Prog.lift (.assume P d) >>= k) Q := by
  unfold Runs at *
  simp only [Prog.lift, Prog.bind_op, Prog.bind_ret]
  exact h.trans (wp_assume 𝒱 (c : Thread nD τ) bd Set.univ hP)

/-- A call, its body run at a lower variant. -/
theorem Runs.call {ℓ : Λ.Label} {a : Λ.Args ℓ} {k : Λ.Result ℓ → Prog (TpuEff nD τ sig Val Λ .tc) α} (v : 𝒱.V) (hv : ∀ u ∈ bd, 𝒱.lt v u)
    {Q' : Λ.Result ℓ → St sig Val → Prop}
    (h : Runs U defs 𝒱 c (some v) L σ (defs .tc ℓ a) Q') (hk : ∀ r σ', Q' r σ' → Runs U defs 𝒱 c bd L σ' (k r) Q) :
    Runs U defs 𝒱 c bd L σ (Prog.lift (.call ℓ a) >>= k) Q := by
  unfold Runs at *
  simp only [Prog.lift, Prog.bind_op, Prog.bind_ret]
  refine BIBase.Entails.trans (h.trans (wp_mono _ _ _ fun r => ?_)) (wp_call 𝒱 (c : Thread nD τ) bd Set.univ v hv)
  iintro ⟨%σ', %hq, H⟩
  iapply (hk r σ' hq)
  iexact H

/-- A counted loop, by an invariant on what is carried and what the buffers hold. -/
theorem Runs.for {w : Nat} {S : Type} {lb ub st : BitVec w} {hok : Scf.OK lb ub st} {init : S}
    {body : Fin (Scf.trips lb ub st) → S → Prog (TpuEff nD τ sig Val Λ .tc) S}
    {k : S → Prog (TpuEff nD τ sig Val Λ .tc) α} (I : ℕ → S → St sig Val → Prop)
    (h0 : I 0 init σ)
    (hs : ∀ (j : Fin (Scf.trips lb ub st)) acc σ', I j.val acc σ' → Runs U defs 𝒱 c bd L σ' (body j acc) (I (j.val + 1)))
    (hk : ∀ acc σ', I (Scf.trips lb ub st) acc σ' → Runs U defs 𝒱 c bd L σ' (k acc) Q) :
    Runs U defs 𝒱 c bd L σ (Scf.for lb ub st hok init body >>= k) Q := by
  unfold Runs at *
  rw [wp_bind]
  iintro H
  iapply (Scf.wp_for _ _ _ lb ub st hok init body (fun j acc => iprop(∃ σ', ⌜I j acc σ'⌝ ∗ Held c L σ')) (fun j acc => by
    iintro ⟨%σ', %hq, H⟩
    iapply (hs j acc σ' hq)
    iexact H))
  isplitl [H]
  · iexists σ
    isplitr
    · ipureintro; exact h0
    iexact H
  iintro %acc ⟨%σ', %hq, H⟩
  iapply (hk acc σ' hq)
  iexact H

variable (U) in
/-- The program runs, and only buffers of `W` may have changed. -/
def Mods (defs : Defs nD τ sig Val Λ) (𝒱 : Variants) (c : Dev nD) (bd : Option 𝒱.V) (L : Finset (Ref sig .tc)) (W : Set (Ref sig .tc)) {α : Type}
    (p : Prog (TpuEff nD τ sig Val Λ .tc) α) : Prop :=
  ∀ σ, Runs U defs 𝒱 c bd L σ p fun _ σ' => ∀ b, b ∉ W → σ' b = σ b

variable {W : Set (Ref sig .tc)}

theorem Mods.ret {r : α} : Mods U defs 𝒱 c bd L W (.ret r) := fun _ => Runs.ret fun _ _ => rfl

theorem Mods.pure {r : α} : Mods U defs 𝒱 c bd L W (Pure.pure r) := fun _ => Runs.ret fun _ _ => rfl

theorem Mods.bind {p : Prog (TpuEff nD τ sig Val Λ .tc) β} {k : β → Prog (TpuEff nD τ sig Val Λ .tc) α}
    (h : Mods U defs 𝒱 c bd L W p) (hk : ∀ r, Mods U defs 𝒱 c bd L W (k r)) : Mods U defs 𝒱 c bd L W (p >>= k) := fun σ =>
  Runs.bind (h σ) fun r σ' hq => Runs.mono (hk r σ') fun _ _ h2 b hb => (h2 b hb).trans (hq b hb)

theorem Mods.weaken {p : Prog (TpuEff nD τ sig Val Λ .tc) α} {W' : Set (Ref sig .tc)}
    (h : Mods U defs 𝒱 c bd L W' p) (hW : W' ⊆ W) : Mods U defs 𝒱 c bd L W p := fun σ =>
  Runs.mono (h σ) fun _ _ h2 b hb => h2 b fun hb' => hb (hW hb')

theorem Mods.load {cs : CoreSpace} {s : Shape} {e : EltTy} {m : Memref sig .tc cs s e} {r : LoadRect s} {hl : m.view.LoadsAt r}
    {k : (r.shape.Idx → Val e) → Prog (TpuEff nD τ sig Val Λ .tc) α} (hm : m.view.ref ∈ L)
    (h : ∀ v, Mods U defs 𝒱 c bd L W (k v)) : Mods U defs 𝒱 c bd L W (Prog.lift (.load m r hl) >>= k) := fun σ =>
  Runs.load hm (h _ σ)

theorem Mods.store {cs : CoreSpace} {s : Shape} {e : EltTy} {m : Memref sig .tc cs s e} {r : Rect s} {w : r.shape.Idx → Val e}
    {Mk : Finset r.shape.Idx} {hx : (m.access r).Stores Mk} {hu}
    {k : PUnit → Prog (TpuEff nD τ sig Val Λ .tc) α} (hm : m.view.ref ∈ L) (hW : m.view.ref ∈ W)
    (h : Mods U defs 𝒱 c bd L W (k ⟨⟩)) : Mods U defs 𝒱 c bd L W (Prog.lift (.store m r w Mk hx hu) >>= k) := fun σ =>
  Runs.store hm (Runs.mono (h _) fun _ _ h2 b hb => (h2 b hb).trans (St.set_ne _ (fun e => hb (by rw [e]; exact hW)) _))

theorem Mods.smem {s : Shape} {e : EltTy} {m : Memref sig .tc .smem s e} {r : Rect s} {h1 : r.shape.numel = 1} {hp : e.packing = 1}
    {k : Val e → Prog (TpuEff nD τ sig Val Λ .tc) α} (hm : m.view.ref ∈ L)
    (h : ∀ v, Mods U defs 𝒱 c bd L W (k v)) : Mods U defs 𝒱 c bd L W (smemLoad m r h1 hp >>= k) := fun σ =>
  Runs.smem hm (h _ σ)

theorem Mods.assume {P : Prop} {d : Decidable P} {k : PLift P → Prog (TpuEff nD τ sig Val Λ .tc) α} (hP : P)
    (h : Mods U defs 𝒱 c bd L W (k ⟨hP⟩)) : Mods U defs 𝒱 c bd L W (Prog.lift (.assume P d) >>= k) := fun σ =>
  Runs.assume hP (h σ)

theorem Mods.for {w : Nat} {S : Type} {lb ub st : BitVec w} {hok : Scf.OK lb ub st} {init : S}
    {body : Fin (Scf.trips lb ub st) → S → Prog (TpuEff nD τ sig Val Λ .tc) S}
    {k : S → Prog (TpuEff nD τ sig Val Λ .tc) α}
    (hs : ∀ (j : Fin (Scf.trips lb ub st)) acc, Mods U defs 𝒱 c bd L W (body j acc))
    (hk : ∀ acc, Mods U defs 𝒱 c bd L W (k acc)) :
    Mods U defs 𝒱 c bd L W (Scf.for lb ub st hok init body >>= k) := fun σ =>
  Runs.for (fun _ _ σ' => ∀ b, b ∉ W → σ' b = σ b) (fun _ _ => rfl)
    (fun j acc σ' hq => Runs.mono (hs j acc σ') fun _ _ h2 b hb => (h2 b hb).trans (hq b hb))
    (fun acc σ' hq => Runs.mono (hk acc σ') fun _ _ h2 b hb => (h2 b hb).trans (hq b hb))

theorem Mods.ite {P : Prop} {d : Decidable P} {p q : Prog (TpuEff nD τ sig Val Λ .tc) α}
    (hp : P → Mods U defs 𝒱 c bd L W p) (hq : ¬P → Mods U defs 𝒱 c bd L W q) : Mods U defs 𝒱 c bd L W (if P then p else q) := by
  split
  · exact hp ‹_›
  · exact hq ‹_›

theorem Mods.dite {P : Prop} {d : Decidable P} {p : P → Prog (TpuEff nD τ sig Val Λ .tc) α} {q : ¬P → Prog (TpuEff nD τ sig Val Λ .tc) α}
    (hp : ∀ h, Mods U defs 𝒱 c bd L W (p h)) (hq : ∀ h, Mods U defs 𝒱 c bd L W (q h)) : Mods U defs 𝒱 c bd L W (if h : P then p h else q h) := by
  split
  · exact hp ‹_›
  · exact hq ‹_›

variable (U) in
/-- The program runs, and takes contents to contents that `R` relates to them. -/
def Keeps (defs : Defs nD τ sig Val Λ) (𝒱 : Variants) (c : Dev nD) (bd : Option 𝒱.V) (L : Finset (Ref sig .tc)) (R : St sig Val → St sig Val → Prop)
    {α : Type} (p : Prog (TpuEff nD τ sig Val Λ .tc) α) : Prop :=
  ∀ σ, Runs U defs 𝒱 c bd L σ p fun _ σ' => R σ σ'

variable {R : St sig Val → St sig Val → Prop}

theorem Keeps.of_mods {p : Prog (TpuEff nD τ sig Val Λ .tc) α} (h : Mods U defs 𝒱 c bd L W p)
    (hR : ∀ σ σ', (∀ b, b ∉ W → σ' b = σ b) → R σ σ') : Keeps U defs 𝒱 c bd L R p := fun σ =>
  Runs.mono (h σ) fun _ σ' hq => hR σ σ' hq

theorem Keeps.pure (hr : ∀ σ, R σ σ) {r : α} : Keeps U defs 𝒱 c bd L R (Pure.pure r) := fun σ => Runs.ret (hr σ)

theorem Keeps.bind (ht : ∀ a b d, R a b → R b d → R a d) {p : Prog (TpuEff nD τ sig Val Λ .tc) β} {k : β → Prog (TpuEff nD τ sig Val Λ .tc) α}
    (h : Keeps U defs 𝒱 c bd L R p) (hk : ∀ r, Keeps U defs 𝒱 c bd L R (k r)) : Keeps U defs 𝒱 c bd L R (p >>= k) := fun σ =>
  Runs.bind (h σ) fun r σ' hq => Runs.mono (hk r σ') fun _ _ h2 => ht _ _ _ hq h2

theorem Keeps.load {cs : CoreSpace} {s : Shape} {e : EltTy} {m : Memref sig .tc cs s e} {r : LoadRect s} {hl : m.view.LoadsAt r}
    {k : (r.shape.Idx → Val e) → Prog (TpuEff nD τ sig Val Λ .tc) α} (hm : m.view.ref ∈ L)
    (h : ∀ v, Keeps U defs 𝒱 c bd L R (k v)) : Keeps U defs 𝒱 c bd L R (Prog.lift (.load m r hl) >>= k) := fun σ =>
  Runs.load hm (h _ σ)

theorem Keeps.smem {s : Shape} {e : EltTy} {m : Memref sig .tc .smem s e} {r : Rect s} {h1 : r.shape.numel = 1} {hp : e.packing = 1}
    {k : Val e → Prog (TpuEff nD τ sig Val Λ .tc) α} (hm : m.view.ref ∈ L)
    (h : ∀ v, Keeps U defs 𝒱 c bd L R (k v)) : Keeps U defs 𝒱 c bd L R (smemLoad m r h1 hp >>= k) := fun σ =>
  Runs.smem hm (h _ σ)

theorem Keeps.store (ht : ∀ a b d, R a b → R b d → R a d) {cs : CoreSpace} {s : Shape} {e : EltTy} {m : Memref sig .tc cs s e} {r : Rect s} {w : r.shape.Idx → Val e}
    {Mk : Finset r.shape.Idx} {hx : (m.access r).Stores Mk} {hu}
    {k : PUnit → Prog (TpuEff nD τ sig Val Λ .tc) α} (hm : m.view.ref ∈ L)
    (hW : ∀ σ, R σ (σ.set m.view.ref ((m.access r).write Val (σ m.view.ref) w Mk)))
    (h : Keeps U defs 𝒱 c bd L R (k ⟨⟩)) : Keeps U defs 𝒱 c bd L R (Prog.lift (.store m r w Mk hx hu) >>= k) := fun σ =>
  Runs.store hm (Runs.mono (h _) fun _ _ h2 => ht _ _ _ (hW σ) h2)

theorem Keeps.assume {P : Prop} {d : Decidable P} {k : PLift P → Prog (TpuEff nD τ sig Val Λ .tc) α} (hP : P)
    (h : Keeps U defs 𝒱 c bd L R (k ⟨hP⟩)) : Keeps U defs 𝒱 c bd L R (Prog.lift (.assume P d) >>= k) := fun σ =>
  Runs.assume hP (h σ)

theorem Keeps.ite {P : Prop} {d : Decidable P} {p q : Prog (TpuEff nD τ sig Val Λ .tc) α}
    (hp : P → Keeps U defs 𝒱 c bd L R p) (hq : ¬P → Keeps U defs 𝒱 c bd L R q) : Keeps U defs 𝒱 c bd L R (if P then p else q) := by
  split
  · exact hp ‹_›
  · exact hq ‹_›

theorem Keeps.dite {P : Prop} {d : Decidable P} {p : P → Prog (TpuEff nD τ sig Val Λ .tc) α} {q : ¬P → Prog (TpuEff nD τ sig Val Λ .tc) α}
    (hp : ∀ h, Keeps U defs 𝒱 c bd L R (p h)) (hq : ∀ h, Keeps U defs 𝒱 c bd L R (q h)) : Keeps U defs 𝒱 c bd L R (if h : P then p h else q h) := by
  split
  · exact hp ‹_›
  · exact hq ‹_›

/-- A call that ends the program. -/
theorem Keeps.call {ℓ : Λ.Label} {a : Λ.Args ℓ} (v : 𝒱.V) (hv : ∀ u ∈ bd, 𝒱.lt v u)
    (h : Keeps U defs 𝒱 c (some v) L R (defs .tc ℓ a)) : Keeps U defs 𝒱 c bd L R (Prog.lift (.call ℓ a)) := fun σ => by
  have := Runs.call (U := U) (k := fun r => (Prog.ret r : Prog (TpuEff nD τ sig Val Λ .tc) _)) (a := a) (bd := bd) v hv (h σ)
    (Q := fun _ σ' => R σ σ') (fun r σ' hq => Runs.ret hq)
  simpa only [Prog.lift, Prog.bind_op, Prog.bind_ret] using this

variable (U) in
/-- From contents with `P` the program runs, to contents with `P'`, and returns a value with `Q`. -/
def Trip (defs : Defs nD τ sig Val Λ) (𝒱 : Variants) (c : Dev nD) (bd : Option 𝒱.V) (L : Finset (Ref sig .tc)) (P P' : St sig Val → Prop)
    {α : Type} (Q : α → Prop) (p : Prog (TpuEff nD τ sig Val Λ .tc) α) : Prop :=
  ∀ σ, P σ → Runs U defs 𝒱 c bd L σ p fun r σ' => P' σ' ∧ Q r

variable {P P' P₁ : St sig Val → Prop} {Qr : α → Prop} {ref : Ref sig .tc}

theorem Trip.pure {r : α} (hq : Qr r) : Trip U defs 𝒱 c bd L P P Qr (Pure.pure r) := fun _ hp => Runs.ret ⟨hp, hq⟩

theorem Trip.bind {Q₁ : β → Prop} {p : Prog (TpuEff nD τ sig Val Λ .tc) β} {k : β → Prog (TpuEff nD τ sig Val Λ .tc) α}
    (h : Trip U defs 𝒱 c bd L P P₁ Q₁ p) (hk : ∀ r, Q₁ r → Trip U defs 𝒱 c bd L P₁ P' Qr (k r)) : Trip U defs 𝒱 c bd L P P' Qr (p >>= k) := fun σ hp =>
  Runs.bind (h σ hp) fun r σ' hq => hk r hq.2 σ' hq.1

/-- What changes other buffers than `ref` only keeps a property of `ref`. -/
theorem Trip.of_mods (hP : ∀ σ σ', σ' ref = σ ref → P σ → P σ') {p : Prog (TpuEff nD τ sig Val Λ .tc) α}
    (h : Mods U defs 𝒱 c bd L {b | b ≠ ref} p) : Trip U defs 𝒱 c bd L P P (fun _ => True) p := fun σ hp =>
  Runs.mono (h σ) fun _ σ' hq => ⟨hP σ σ' (hq ref (fun h => h rfl)) hp, trivial⟩

theorem Trip.mods (hP : ∀ σ σ', σ' ref = σ ref → P σ → P σ') {p : Prog (TpuEff nD τ sig Val Λ .tc) β} {k : β → Prog (TpuEff nD τ sig Val Λ .tc) α}
    (h : Mods U defs 𝒱 c bd L {b | b ≠ ref} p) (hk : ∀ r, Trip U defs 𝒱 c bd L P P' Qr (k r)) : Trip U defs 𝒱 c bd L P P' Qr (p >>= k) :=
  Trip.bind (Trip.of_mods hP h) fun r _ => hk r

theorem Trip.load {cs : CoreSpace} {s : Shape} {e : EltTy} {m : Memref sig .tc cs s e} {r : LoadRect s} {hl : m.view.LoadsAt r}
    {k : (r.shape.Idx → Val e) → Prog (TpuEff nD τ sig Val Λ .tc) α} (hm : m.view.ref ∈ L)
    (h : ∀ v, Trip U defs 𝒱 c bd L P P' Qr (k v)) : Trip U defs 𝒱 c bd L P P' Qr (Prog.lift (.load m r hl) >>= k) := fun σ hp =>
  Runs.load hm (h _ σ hp)

theorem Trip.smem {s : Shape} {e : EltTy} {m : Memref sig .tc .smem s e} {r : Rect s} {h1 : r.shape.numel = 1} {hp : e.packing = 1}
    {k : Val e → Prog (TpuEff nD τ sig Val Λ .tc) α} (hm : m.view.ref ∈ L)
    (h : ∀ v, Trip U defs 𝒱 c bd L P P' Qr (k v)) : Trip U defs 𝒱 c bd L P P' Qr (smemLoad m r h1 hp >>= k) := fun σ hp =>
  Runs.smem hm (h _ σ hp)

/-- A read whose value `P` says something about. -/
theorem Trip.smem' {s : Shape} {e : EltTy} {m : Memref sig .tc .smem s e} {r : Rect s} {h1 : r.shape.numel = 1} {hp : e.packing = 1}
    {k : Val e → Prog (TpuEff nD τ sig Val Λ .tc) α} {Q₁ : Val e → Prop} (hm : m.view.ref ∈ L)
    (hQ : ∀ σ, P σ → Q₁ (m.view.readAt Val r.toLoadRect (σ m.view.ref) (Shape.Idx.first (h1.symm ▸ Nat.one_pos))))
    (h : ∀ v, Q₁ v → Trip U defs 𝒱 c bd L P P' Qr (k v)) : Trip U defs 𝒱 c bd L P P' Qr (smemLoad m r h1 hp >>= k) := fun σ hp =>
  Runs.smem hm (h _ (hQ σ hp) σ hp)

theorem Trip.store (hP : ∀ σ σ', σ' ref = σ ref → P σ → P σ') {cs : CoreSpace} {s : Shape} {e : EltTy} {m : Memref sig .tc cs s e} {r : Rect s} {w : r.shape.Idx → Val e}
    {Mk : Finset r.shape.Idx} {hx : (m.access r).Stores Mk} {hu}
    {k : PUnit → Prog (TpuEff nD τ sig Val Λ .tc) α} (hm : m.view.ref ∈ L) (hW : m.view.ref ≠ ref)
    (h : Trip U defs 𝒱 c bd L P P' Qr (k ⟨⟩)) : Trip U defs 𝒱 c bd L P P' Qr (Prog.lift (.store m r w Mk hx hu) >>= k) := fun σ hp =>
  Runs.store hm (h _ (hP _ _ (St.set_ne _ hW.symm _) hp))

/-- The store that establishes `P`. -/
theorem Trip.store' {cs : CoreSpace} {s : Shape} {e : EltTy} {m : Memref sig .tc cs s e} {r : Rect s} {w : r.shape.Idx → Val e}
    {Mk : Finset r.shape.Idx} {hx : (m.access r).Stores Mk} {hu}
    {k : PUnit → Prog (TpuEff nD τ sig Val Λ .tc) α} (hm : m.view.ref ∈ L)
    (hP : ∀ σ, P₁ σ → P (σ.set m.view.ref ((m.access r).write Val (σ m.view.ref) w Mk)))
    (h : Trip U defs 𝒱 c bd L P P' Qr (k ⟨⟩)) : Trip U defs 𝒱 c bd L P₁ P' Qr (Prog.lift (.store m r w Mk hx hu) >>= k) := fun σ hp =>
  Runs.store hm (h _ (hP σ hp))

theorem Trip.for (hP : ∀ σ σ', σ' ref = σ ref → P σ → P σ') {w : Nat} {S : Type} {lb ub st : BitVec w} {hok : Scf.OK lb ub st} {init : S}
    {body : Fin (Scf.trips lb ub st) → S → Prog (TpuEff nD τ sig Val Λ .tc) S}
    {k : S → Prog (TpuEff nD τ sig Val Λ .tc) α}
    (hs : ∀ (j : Fin (Scf.trips lb ub st)) acc, Mods U defs 𝒱 c bd L {b | b ≠ ref} (body j acc))
    (hk : ∀ acc, Trip U defs 𝒱 c bd L P P' Qr (k acc)) :
    Trip U defs 𝒱 c bd L P P' Qr (Scf.for lb ub st hok init body >>= k) := fun σ hp =>
  Runs.for (fun _ _ σ' => P σ') hp (fun j acc σ' hq => Runs.mono (Trip.of_mods hP (hs j acc) σ' hq) fun _ _ h => h.1)
    (fun acc σ' hq => hk acc σ' hq)

theorem Trip.ite {C : Prop} {d : Decidable C} {p q : Prog (TpuEff nD τ sig Val Λ .tc) α}
    (hp : C → Trip U defs 𝒱 c bd L P P' Qr p) (hq : ¬C → Trip U defs 𝒱 c bd L P P' Qr q) : Trip U defs 𝒱 c bd L P P' Qr (if C then p else q) := by
  split
  · exact hp ‹_›
  · exact hq ‹_›

theorem Trip.dite {C : Prop} {d : Decidable C} {p : C → Prog (TpuEff nD τ sig Val Λ .tc) α} {q : ¬C → Prog (TpuEff nD τ sig Val Λ .tc) α}
    (hp : ∀ h, Trip U defs 𝒱 c bd L P P' Qr (p h)) (hq : ∀ h, Trip U defs 𝒱 c bd L P P' Qr (q h)) : Trip U defs 𝒱 c bd L P P' Qr (if h : C then p h else q h) := by
  split
  · exact hp ‹_›
  · exact hq ‹_›

theorem Trip.call {ℓ : Λ.Label} {a : Λ.Args ℓ} {k : Λ.Result ℓ → Prog (TpuEff nD τ sig Val Λ .tc) α} (v : 𝒱.V) (hv : ∀ u ∈ bd, 𝒱.lt v u)
    (h : Keeps U defs 𝒱 c (some v) L R (defs .tc ℓ a)) (hR : ∀ σ σ', R σ σ' → P σ → P σ') (hk : ∀ r, Trip U defs 𝒱 c bd L P P' Qr (k r)) :
    Trip U defs 𝒱 c bd L P P' Qr (Prog.lift (.call ℓ a) >>= k) := fun σ hp =>
  Runs.call v hv (h σ) fun r σ' hq => hk r σ' (hR _ _ hq hp)

end Cert.Proof.Hoare
-- ==== Proof.Kernel.Base.lean ====
module

public import proofs.«01_k».proof.Kernel
public import proofs.«01_k».proof.Proof.Gen.Kernel.Launch
public import proofs.«01_k».proof.Proof.Hoare

@[expose] public section

noncomputable section

namespace Cert.Proof.Kernel

open Cert.Kernel Cert.Kernel.Gen Cert.Proof.Hoare

open Idealize.ShloMosaic Idealize.SL.Sem Idealize.SL.RA

/-! The variants of the program's labels. -/
variable {F : FTy → Type} [FloatOps F] [BitOps F] {U : Type} [URA U]

/-- The variants: the trips the head loop has still to run. -/
abbrev 𝒱₀ : Variants := Variants.nat

end Cert.Proof.Kernel
-- ==== Proof.Kernel.ModsMain.lean ====
module

public import proofs.«01_k».proof.Kernel
public import proofs.«01_k».proof.Proof.Gen.Kernel.Launch
public import proofs.«01_k».proof.Proof.Hoare
public import proofs.«01_k».proof.Proof.Kernel.Base

@[expose] public section

noncomputable section

namespace Cert.Proof.Kernel

open Cert.Kernel Cert.Kernel.Gen Cert.Proof.Hoare

open Idealize.ShloMosaic Idealize.SL.Sem Idealize.SL.RA

variable {F : FTy → Type} [FloatOps F] [BitOps F] {U : Type} [URA U]

variable {c : Dev nD} {bd : Option 𝒱₀.V} {L : Finset (Ref sig .tc)} {W : Set (Ref sig .tc)}

variable {i : grid0.Coords}
variable {arg1 : Memref sig .tc .smem S25 .i32} {harg1 : arg1.IsWhole}
variable {arg2 : Memref sig .tc .vmem S256x3328 .fp8e4m3} {harg2 : arg2.IsWhole}
variable {arg3 : Memref sig .tc .vmem S1x1x256 .f32} {harg3 : arg3.IsWhole}
variable {arg4 : Memref sig .tc .vmem S4x3328 .bf16} {harg4 : arg4.IsWhole}
variable {arg5 : Memref sig .tc .vmem S1x3328 .bf16} {harg5 : arg5.IsWhole}
variable {arg6 : Memref sig .tc .vmem S256x3328 .fp8e4m3} {harg6 : arg6.IsWhole}
variable {arg7 : Memref sig .tc .vmem S1x1x256 .f32} {harg7 : arg7.IsWhole}
variable {arg8 : Memref sig .tc .vmem S3x3x208x128 .f32} {harg8 : arg8.IsWhole}
variable {arg9 : Memref sig .tc .vmem S3x24x3328 .bf16} {harg9 : arg9.IsWhole}
variable {arg10 : Memref sig .tc .vmem S3536x128 .i32} {harg10 : arg10.IsWhole}
variable {arg11 : Memref sig .tc .vmem S6864x128 .f32} {harg11 : arg11.IsWhole}
variable {arg12 : Memref sig .tc .vmem S6656x128 .f32} {harg12 : arg12.IsWhole}
variable {arg13 : Memref sig .tc .vmem S256x128 .f32} {harg13 : arg13.IsWhole}
variable {arg14 : Memref sig .tc .vmem S26x256x256 .bf16} {harg14 : arg14.IsWhole}
variable {arg15 : Memref sig .tc .vmem S26x8x128 .f32} {harg15 : arg15.IsWhole}
variable {arg16 : Memref sig .tc .vmem S5x26x128 .f32} {harg16 : arg16.IsWhole}
variable {arg17 : Memref sig .tc .vmem S128x128 .i32} {harg17 : arg17.IsWhole}
variable {arg18 : Memref sig .tc .vmem S256x128 .f32} {harg18 : arg18.IsWhole}
variable {arg19 : Memref sig .tc .vmem S26x256x128 .fp8e4m3} {harg19 : arg19.IsWhole}
variable {arg20 : Memref sig .tc .vmem S3x3x208x128 .f32} {harg20 : arg20.IsWhole}
variable {arg21 : Memref sig .tc .smem S1 .i32} {harg21 : arg21.IsWhole}

/-! One theorem per window of the kernel's body: it runs, and changes only the buffers it stores to. -/

theorem mods_k0_part54 (h7 : arg7.view.ref ∈ L) (h12 : arg12.view.ref ∈ L) (h19 : arg19.view.ref ∈ L) (w7 : arg7.view.ref ∈ W) (w19 : arg19.view.ref ∈ W) :
    Mods U (defs₀ (F := F)) 𝒱₀ c bd L W (k0_part54 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) := by
  unfold k0_part54
  refine Mods.for (fun _ _ => ?_) fun _ => ?_
  ·
    refine Mods.load h12 fun _ => ?_
    exact Mods.pure
  refine Mods.for (fun _ _ => ?_) fun _ => ?_
  ·
    exact Mods.pure
  refine Mods.load h7 fun _ => ?_
  refine Mods.store h7 w7 ?_
  refine Mods.for (fun _ _ => ?_) fun _ => ?_
  ·
    refine Mods.load h12 fun _ => ?_
    refine Mods.load h19 fun _ => ?_
    refine Mods.store h19 w19 ?_
    exact Mods.pure
  exact Mods.pure

theorem mods_k0_part55 (c0_i32_25 c1_i32_26 k0_t6) (h6 : arg6.view.ref ∈ L) (h12 : arg12.view.ref ∈ L) (h18 : arg18.view.ref ∈ L) (w6 : arg6.view.ref ∈ W) :
    Mods U (defs₀ (F := F)) 𝒱₀ c bd L W (k0_part55 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c0_i32_25 c1_i32_26 k0_t6) := by
  unfold k0_part55
  repeat with_reducible first
  | refine Mods.load (by assumption) fun _ => ?_
  | refine Mods.store (by assumption) (by assumption) ?_
  | dsimp only
  exact Mods.pure

theorem mods_k0_part56 (k0_t6 v72 v75 v105) (h6 : arg6.view.ref ∈ L) (h12 : arg12.view.ref ∈ L) (h18 : arg18.view.ref ∈ L) (w6 : arg6.view.ref ∈ W) :
    Mods U (defs₀ (F := F)) 𝒱₀ c bd L W (k0_part56 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v72 v75 v105) := by
  unfold k0_part56
  repeat with_reducible first
  | refine Mods.load (by assumption) fun _ => ?_
  | refine Mods.store (by assumption) (by assumption) ?_
  | dsimp only
  exact Mods.pure

theorem mods_k0_part57 (k0_t6 v72 v75) (h6 : arg6.view.ref ∈ L) (h12 : arg12.view.ref ∈ L) (h18 : arg18.view.ref ∈ L) (w6 : arg6.view.ref ∈ W) :
    Mods U (defs₀ (F := F)) 𝒱₀ c bd L W (k0_part57 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v72 v75) := by
  unfold k0_part57
  repeat with_reducible first
  | refine Mods.load (by assumption) fun _ => ?_
  | refine Mods.store (by assumption) (by assumption) ?_
  | dsimp only
  exact Mods.pure

theorem mods_k0_part58 (k0_t6 v72 v75 v180 cst_78 cst_79) (h6 : arg6.view.ref ∈ L) (h10 : arg10.view.ref ∈ L) (h11 : arg11.view.ref ∈ L) (h12 : arg12.view.ref ∈ L) (h18 : arg18.view.ref ∈ L) (w6 : arg6.view.ref ∈ W) (w10 : arg10.view.ref ∈ W) :
    Mods U (defs₀ (F := F)) 𝒱₀ c bd L W (k0_part58 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v72 v75 v180 cst_78 cst_79) := by
  unfold k0_part58
  repeat with_reducible first
  | refine Mods.load (by assumption) fun _ => ?_
  | refine Mods.store (by assumption) (by assumption) ?_
  | dsimp only
  exact Mods.pure

theorem mods_k0_part59 (k0_t6 v72 v73 v75 v206 v209 v219) (h2 : arg2.view.ref ∈ L) (h10 : arg10.view.ref ∈ L) (h11 : arg11.view.ref ∈ L) (h12 : arg12.view.ref ∈ L) (h14 : arg14.view.ref ∈ L) (h17 : arg17.view.ref ∈ L) (w10 : arg10.view.ref ∈ W) (w11 : arg11.view.ref ∈ W) :
    Mods U (defs₀ (F := F)) 𝒱₀ c bd L W (k0_part59 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v72 v73 v75 v206 v209 v219) := by
  unfold k0_part59
  repeat with_reducible first
  | refine Mods.load (by assumption) fun _ => ?_
  | refine Mods.store (by assumption) (by assumption) ?_
  | dsimp only
  exact Mods.pure

theorem mods_k0_part60 (k0_t6 v73 v253 v258) (h6 : arg6.view.ref ∈ L) (h12 : arg12.view.ref ∈ L) (h18 : arg18.view.ref ∈ L) (w6 : arg6.view.ref ∈ W) :
    Mods U (defs₀ (F := F)) 𝒱₀ c bd L W (k0_part60 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v73 v253 v258) := by
  unfold k0_part60
  repeat with_reducible first
  | refine Mods.load (by assumption) fun _ => ?_
  | refine Mods.store (by assumption) (by assumption) ?_
  | dsimp only
  exact Mods.pure

theorem mods_k0_part61 (k0_t6 v73 v253 cst_130 v296) (h6 : arg6.view.ref ∈ L) (h12 : arg12.view.ref ∈ L) (h18 : arg18.view.ref ∈ L) (w6 : arg6.view.ref ∈ W) :
    Mods U (defs₀ (F := F)) 𝒱₀ c bd L W (k0_part61 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v73 v253 cst_130 v296) := by
  unfold k0_part61
  repeat with_reducible first
  | refine Mods.load (by assumption) fun _ => ?_
  | refine Mods.store (by assumption) (by assumption) ?_
  | dsimp only
  exact Mods.pure

theorem mods_k0_part62 (k0_t6 v73 v253 v335) (h6 : arg6.view.ref ∈ L) (h12 : arg12.view.ref ∈ L) (h18 : arg18.view.ref ∈ L) (w6 : arg6.view.ref ∈ W) :
    Mods U (defs₀ (F := F)) 𝒱₀ c bd L W (k0_part62 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v73 v253 v335) := by
  unfold k0_part62
  repeat with_reducible first
  | refine Mods.load (by assumption) fun _ => ?_
  | refine Mods.store (by assumption) (by assumption) ?_
  | dsimp only
  exact Mods.pure

theorem mods_k0_part63 (k0_t6 v73 v253 v372 v373) (h2 : arg2.view.ref ∈ L) (h6 : arg6.view.ref ∈ L) (h10 : arg10.view.ref ∈ L) (h11 : arg11.view.ref ∈ L) (h17 : arg17.view.ref ∈ L) (w6 : arg6.view.ref ∈ W) (w10 : arg10.view.ref ∈ W) (w11 : arg11.view.ref ∈ W) :
    Mods U (defs₀ (F := F)) 𝒱₀ c bd L W (k0_part63 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v73 v253 v372 v373) := by
  unfold k0_part63
  repeat with_reducible first
  | refine Mods.load (by assumption) fun _ => ?_
  | refine Mods.store (by assumption) (by assumption) ?_
  | dsimp only
  exact Mods.pure

theorem mods_k0_part64 (k0_t6 v72 v73 v245 v384 v387 v407 v408) (h10 : arg10.view.ref ∈ L) (h11 : arg11.view.ref ∈ L) (h13 : arg13.view.ref ∈ L) (h14 : arg14.view.ref ∈ L) (h15 : arg15.view.ref ∈ L) (w10 : arg10.view.ref ∈ W) (w11 : arg11.view.ref ∈ W) :
    Mods U (defs₀ (F := F)) 𝒱₀ c bd L W (k0_part64 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v72 v73 v245 v384 v387 v407 v408) := by
  unfold k0_part64
  repeat with_reducible first
  | refine Mods.load (by assumption) fun _ => ?_
  | refine Mods.store (by assumption) (by assumption) ?_
  | dsimp only
  exact Mods.pure

theorem mods_k0_part65 (k0_t6 v72 v73 v423 v430 v445) (h11 : arg11.view.ref ∈ L) (h12 : arg12.view.ref ∈ L) (h13 : arg13.view.ref ∈ L) (h15 : arg15.view.ref ∈ L) (w12 : arg12.view.ref ∈ W) (w13 : arg13.view.ref ∈ W) :
    Mods U (defs₀ (F := F)) 𝒱₀ c bd L W (k0_part65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v72 v73 v423 v430 v445) := by
  unfold k0_part65
  repeat with_reducible first
  | refine Mods.load (by assumption) fun _ => ?_
  | refine Mods.store (by assumption) (by assumption) ?_
  | dsimp only
  exact Mods.pure

theorem mods_k0_part66 (k0_t6 v72 v73 v245 v423 v480 v486) (h11 : arg11.view.ref ∈ L) (h12 : arg12.view.ref ∈ L) (h15 : arg15.view.ref ∈ L) (w12 : arg12.view.ref ∈ W) :
    Mods U (defs₀ (F := F)) 𝒱₀ c bd L W (k0_part66 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v72 v73 v245 v423 v480 v486) := by
  unfold k0_part66
  repeat with_reducible first
  | refine Mods.load (by assumption) fun _ => ?_
  | refine Mods.store (by assumption) (by assumption) ?_
  | dsimp only
  exact Mods.pure

theorem mods_k0_part67 (k0_t6 v72 v73 v245 v423 v526) (h11 : arg11.view.ref ∈ L) (h12 : arg12.view.ref ∈ L) (h13 : arg13.view.ref ∈ L) (h15 : arg15.view.ref ∈ L) (w12 : arg12.view.ref ∈ W) (w13 : arg13.view.ref ∈ W) :
    Mods U (defs₀ (F := F)) 𝒱₀ c bd L W (k0_part67 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v72 v73 v245 v423 v526) := by
  unfold k0_part67
  repeat with_reducible first
  | refine Mods.load (by assumption) fun _ => ?_
  | refine Mods.store (by assumption) (by assumption) ?_
  | dsimp only
  exact Mods.pure

theorem mods_k0_part68 (k0_t6 v72 v73 v245 v553 v563) (h11 : arg11.view.ref ∈ L) (h12 : arg12.view.ref ∈ L) (h13 : arg13.view.ref ∈ L) (h15 : arg15.view.ref ∈ L) (w12 : arg12.view.ref ∈ W) (w13 : arg13.view.ref ∈ W) :
    Mods U (defs₀ (F := F)) 𝒱₀ c bd L W (k0_part68 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v72 v73 v245 v553 v563) := by
  unfold k0_part68
  repeat with_reducible first
  | refine Mods.load (by assumption) fun _ => ?_
  | refine Mods.store (by assumption) (by assumption) ?_
  | dsimp only
  exact Mods.pure

theorem mods_k0_part69 (k0_t6 v72 v73 v423 v580 v595 v602) (h11 : arg11.view.ref ∈ L) (h12 : arg12.view.ref ∈ L) (h13 : arg13.view.ref ∈ L) (h15 : arg15.view.ref ∈ L) (w12 : arg12.view.ref ∈ W) (w13 : arg13.view.ref ∈ W) :
    Mods U (defs₀ (F := F)) 𝒱₀ c bd L W (k0_part69 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v72 v73 v423 v580 v595 v602) := by
  unfold k0_part69
  repeat with_reducible first
  | refine Mods.load (by assumption) fun _ => ?_
  | refine Mods.store (by assumption) (by assumption) ?_
  | dsimp only
  exact Mods.pure

theorem mods_k0_part70 (k0_t6 v72 v73 v245 v423 v630 v638) (h11 : arg11.view.ref ∈ L) (h12 : arg12.view.ref ∈ L) (h13 : arg13.view.ref ∈ L) (h15 : arg15.view.ref ∈ L) (w12 : arg12.view.ref ∈ W) :
    Mods U (defs₀ (F := F)) 𝒱₀ c bd L W (k0_part70 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v72 v73 v245 v423 v630 v638) := by
  unfold k0_part70
  repeat with_reducible first
  | refine Mods.load (by assumption) fun _ => ?_
  | refine Mods.store (by assumption) (by assumption) ?_
  | dsimp only
  exact Mods.pure

theorem mods_k0_part71 (k0_t6 v72 v73 v245 v423 v676) (h11 : arg11.view.ref ∈ L) (h12 : arg12.view.ref ∈ L) (h13 : arg13.view.ref ∈ L) (h15 : arg15.view.ref ∈ L) (w12 : arg12.view.ref ∈ W) (w13 : arg13.view.ref ∈ W) :
    Mods U (defs₀ (F := F)) 𝒱₀ c bd L W (k0_part71 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v72 v73 v245 v423 v676) := by
  unfold k0_part71
  repeat with_reducible first
  | refine Mods.load (by assumption) fun _ => ?_
  | refine Mods.store (by assumption) (by assumption) ?_
  | dsimp only
  exact Mods.pure

theorem mods_k0_part72 (k0_t6 v72 v73 v245 v703 v713 v715) (h11 : arg11.view.ref ∈ L) (h12 : arg12.view.ref ∈ L) (h13 : arg13.view.ref ∈ L) (h15 : arg15.view.ref ∈ L) (w12 : arg12.view.ref ∈ W) (w13 : arg13.view.ref ∈ W) :
    Mods U (defs₀ (F := F)) 𝒱₀ c bd L W (k0_part72 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v72 v73 v245 v703 v713 v715) := by
  unfold k0_part72
  repeat with_reducible first
  | refine Mods.load (by assumption) fun _ => ?_
  | refine Mods.store (by assumption) (by assumption) ?_
  | dsimp only
  exact Mods.pure

theorem mods_k0_part73 (k0_t6 v72 v73 v245 v423 v753 c264_i32_364) (h11 : arg11.view.ref ∈ L) (h12 : arg12.view.ref ∈ L) (h13 : arg13.view.ref ∈ L) (h15 : arg15.view.ref ∈ L) (w12 : arg12.view.ref ∈ W) (w13 : arg13.view.ref ∈ W) :
    Mods U (defs₀ (F := F)) 𝒱₀ c bd L W (k0_part73 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v72 v73 v245 v423 v753 c264_i32_364) := by
  unfold k0_part73
  repeat with_reducible first
  | refine Mods.load (by assumption) fun _ => ?_
  | refine Mods.store (by assumption) (by assumption) ?_
  | dsimp only
  exact Mods.pure

theorem mods_k0_part74 (c0_i32_25 c1_i32_26 k0_t6) (h2 : arg2.view.ref ∈ L) (h6 : arg6.view.ref ∈ L) (h10 : arg10.view.ref ∈ L) (h11 : arg11.view.ref ∈ L) (h12 : arg12.view.ref ∈ L) (h13 : arg13.view.ref ∈ L) (h14 : arg14.view.ref ∈ L) (h15 : arg15.view.ref ∈ L) (h17 : arg17.view.ref ∈ L) (h18 : arg18.view.ref ∈ L) (w6 : arg6.view.ref ∈ W) (w10 : arg10.view.ref ∈ W) (w11 : arg11.view.ref ∈ W) (w12 : arg12.view.ref ∈ W) (w13 : arg13.view.ref ∈ W) :
    Mods U (defs₀ (F := F)) 𝒱₀ c bd L W (k0_part74 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c0_i32_25 c1_i32_26 k0_t6) := by
  unfold k0_part74
  refine Mods.bind (mods_k0_part55 _ _ _ h6 h12 h18 w6) fun _ => ?_
  refine Mods.bind (mods_k0_part56 _ _ _ _ h6 h12 h18 w6) fun _ => ?_
  refine Mods.bind (mods_k0_part57 _ _ _ h6 h12 h18 w6) fun _ => ?_
  refine Mods.bind (mods_k0_part58 _ _ _ _ _ _ h6 h10 h11 h12 h18 w6 w10) fun _ => ?_
  refine Mods.bind (mods_k0_part59 _ _ _ _ _ _ _ h2 h10 h11 h12 h14 h17 w10 w11) fun _ => ?_
  refine Mods.bind (mods_k0_part60 _ _ _ _ h6 h12 h18 w6) fun _ => ?_
  refine Mods.bind (mods_k0_part61 _ _ _ _ _ h6 h12 h18 w6) fun _ => ?_
  refine Mods.bind (mods_k0_part62 _ _ _ _ h6 h12 h18 w6) fun _ => ?_
  refine Mods.bind (mods_k0_part63 _ _ _ _ _ h2 h6 h10 h11 h17 w6 w10 w11) fun _ => ?_
  refine Mods.bind (mods_k0_part64 _ _ _ _ _ _ _ _ h10 h11 h13 h14 h15 w10 w11) fun _ => ?_
  refine Mods.bind (mods_k0_part65 _ _ _ _ _ _ h11 h12 h13 h15 w12 w13) fun _ => ?_
  refine Mods.bind (mods_k0_part66 _ _ _ _ _ _ _ h11 h12 h15 w12) fun _ => ?_
  refine Mods.bind (mods_k0_part67 _ _ _ _ _ _ h11 h12 h13 h15 w12 w13) fun _ => ?_
  refine Mods.bind (mods_k0_part68 _ _ _ _ _ _ h11 h12 h13 h15 w12 w13) fun _ => ?_
  refine Mods.bind (mods_k0_part69 _ _ _ _ _ _ _ h11 h12 h13 h15 w12 w13) fun _ => ?_
  refine Mods.bind (mods_k0_part70 _ _ _ _ _ _ _ h11 h12 h13 h15 w12) fun _ => ?_
  refine Mods.bind (mods_k0_part71 _ _ _ _ _ _ h11 h12 h13 h15 w12 w13) fun _ => ?_
  refine Mods.bind (mods_k0_part72 _ _ _ _ _ _ _ h11 h12 h13 h15 w12 w13) fun _ => ?_
  refine Mods.bind (mods_k0_part73 _ _ _ _ _ _ _ h11 h12 h13 h15 w12 w13) fun _ => ?_
  refine Mods.load h15 fun _ => ?_
  refine Mods.load h12 fun _ => ?_
  refine Mods.store h12 w12 ?_
  refine Mods.load h11 fun _ => ?_
  refine Mods.load h15 fun _ => ?_
  exact Mods.pure

theorem mods_k0_part75 (h6 : arg6.view.ref ∈ L) (h19 : arg19.view.ref ∈ L) (w6 : arg6.view.ref ∈ W) :
    Mods U (defs₀ (F := F)) 𝒱₀ c bd L W (k0_part75 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) := by
  unfold k0_part75
  repeat with_reducible first
  | refine Mods.load (by assumption) fun _ => ?_
  | refine Mods.store (by assumption) (by assumption) ?_
  | dsimp only
  exact Mods.pure

theorem mods_k0_part76 (v88) (h6 : arg6.view.ref ∈ L) (h19 : arg19.view.ref ∈ L) (w6 : arg6.view.ref ∈ W) :
    Mods U (defs₀ (F := F)) 𝒱₀ c bd L W (k0_part76 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v88) := by
  unfold k0_part76
  repeat with_reducible first
  | refine Mods.load (by assumption) fun _ => ?_
  | refine Mods.store (by assumption) (by assumption) ?_
  | dsimp only
  exact Mods.pure

theorem mods_k0_part77 (h6 : arg6.view.ref ∈ L) (h19 : arg19.view.ref ∈ L) (w6 : arg6.view.ref ∈ W) :
    Mods U (defs₀ (F := F)) 𝒱₀ c bd L W (k0_part77 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) := by
  unfold k0_part77
  repeat with_reducible first
  | refine Mods.load (by assumption) fun _ => ?_
  | refine Mods.store (by assumption) (by assumption) ?_
  | dsimp only
  exact Mods.pure

end Cert.Proof.Kernel
-- ==== Proof.Kernel.ModsTails.lean ====
module

public import proofs.«01_k».proof.Kernel
public import proofs.«01_k».proof.Proof.Gen.Kernel.Launch
public import proofs.«01_k».proof.Proof.Hoare
public import proofs.«01_k».proof.Proof.Kernel.Base

@[expose] public section

set_option maxHeartbeats 2000000

noncomputable section

namespace Cert.Proof.Kernel

open Cert.Kernel Cert.Kernel.Gen Cert.Proof.Hoare

open Idealize.ShloMosaic Idealize.SL.Sem Idealize.SL.RA

variable {F : FTy → Type} [FloatOps F] [BitOps F] {U : Type} [URA U]

variable {c : Dev nD} {bd : Option 𝒱₀.V} {L : Finset (Ref sig .tc)} {W : Set (Ref sig .tc)}

variable {i : grid0.Coords}
variable {arg1 : Memref sig .tc .smem S25 .i32} {harg1 : arg1.IsWhole}
variable {arg2 : Memref sig .tc .vmem S256x3328 .fp8e4m3} {harg2 : arg2.IsWhole}
variable {arg3 : Memref sig .tc .vmem S1x1x256 .f32} {harg3 : arg3.IsWhole}
variable {arg4 : Memref sig .tc .vmem S4x3328 .bf16} {harg4 : arg4.IsWhole}
variable {arg5 : Memref sig .tc .vmem S1x3328 .bf16} {harg5 : arg5.IsWhole}
variable {arg6 : Memref sig .tc .vmem S256x3328 .fp8e4m3} {harg6 : arg6.IsWhole}
variable {arg7 : Memref sig .tc .vmem S1x1x256 .f32} {harg7 : arg7.IsWhole}
variable {arg8 : Memref sig .tc .vmem S3x3x208x128 .f32} {harg8 : arg8.IsWhole}
variable {arg9 : Memref sig .tc .vmem S3x24x3328 .bf16} {harg9 : arg9.IsWhole}
variable {arg10 : Memref sig .tc .vmem S3536x128 .i32} {harg10 : arg10.IsWhole}
variable {arg11 : Memref sig .tc .vmem S6864x128 .f32} {harg11 : arg11.IsWhole}
variable {arg12 : Memref sig .tc .vmem S6656x128 .f32} {harg12 : arg12.IsWhole}
variable {arg13 : Memref sig .tc .vmem S256x128 .f32} {harg13 : arg13.IsWhole}
variable {arg14 : Memref sig .tc .vmem S26x256x256 .bf16} {harg14 : arg14.IsWhole}
variable {arg15 : Memref sig .tc .vmem S26x8x128 .f32} {harg15 : arg15.IsWhole}
variable {arg16 : Memref sig .tc .vmem S5x26x128 .f32} {harg16 : arg16.IsWhole}
variable {arg17 : Memref sig .tc .vmem S128x128 .i32} {harg17 : arg17.IsWhole}
variable {arg18 : Memref sig .tc .vmem S256x128 .f32} {harg18 : arg18.IsWhole}
variable {arg19 : Memref sig .tc .vmem S26x256x128 .fp8e4m3} {harg19 : arg19.IsWhole}
variable {arg20 : Memref sig .tc .vmem S3x3x208x128 .f32} {harg20 : arg20.IsWhole}
variable {arg21 : Memref sig .tc .smem S1 .i32} {harg21 : arg21.IsWhole}

/-- The last point's part runs, and changes only the last result's buffer. -/
theorem mods_k0_part132 (h9 : arg9.view.ref ∈ L) (h20 : arg20.view.ref ∈ L) (w9 : arg9.view.ref ∈ W) :
    Mods U (defs₀ (F := F)) 𝒱₀ c bd L W (k0_part132 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) := by
  unfold k0_part132
  refine Mods.bind ?_ fun _ => ?_; unfold k0_part78; rotate_left
  refine Mods.bind ?_ fun _ => ?_; unfold k0_part79; rotate_left
  refine Mods.bind ?_ fun _ => ?_; unfold k0_part80; rotate_left
  refine Mods.bind ?_ fun _ => ?_; unfold k0_part81; rotate_left
  refine Mods.bind ?_ fun _ => ?_; unfold k0_part82; rotate_left
  refine Mods.bind ?_ fun _ => ?_; unfold k0_part83; rotate_left
  refine Mods.bind ?_ fun _ => ?_; unfold k0_part84; rotate_left
  refine Mods.bind ?_ fun _ => ?_; unfold k0_part85; rotate_left
  refine Mods.bind ?_ fun _ => ?_; unfold k0_part86; rotate_left
  refine Mods.bind ?_ fun _ => ?_; unfold k0_part87; rotate_left
  refine Mods.bind ?_ fun _ => ?_; unfold k0_part88; rotate_left
  refine Mods.bind ?_ fun _ => ?_; unfold k0_part89; rotate_left
  refine Mods.bind ?_ fun _ => ?_; unfold k0_part90; rotate_left
  refine Mods.bind ?_ fun _ => ?_; unfold k0_part91; rotate_left
  refine Mods.bind ?_ fun _ => ?_; unfold k0_part92; rotate_left
  refine Mods.bind ?_ fun _ => ?_; unfold k0_part93; rotate_left
  refine Mods.bind ?_ fun _ => ?_; unfold k0_part94; rotate_left
  refine Mods.bind ?_ fun _ => ?_; unfold k0_part95; rotate_left
  refine Mods.bind ?_ fun _ => ?_; unfold k0_part96; rotate_left
  refine Mods.bind ?_ fun _ => ?_; unfold k0_part97; rotate_left
  refine Mods.bind ?_ fun _ => ?_; unfold k0_part98; rotate_left
  refine Mods.bind ?_ fun _ => ?_; unfold k0_part99; rotate_left
  refine Mods.bind ?_ fun _ => ?_; unfold k0_part100; rotate_left
  refine Mods.bind ?_ fun _ => ?_; unfold k0_part101; rotate_left
  refine Mods.bind ?_ fun _ => ?_; unfold k0_part102; rotate_left
  refine Mods.bind ?_ fun _ => ?_; unfold k0_part103; rotate_left
  refine Mods.bind ?_ fun _ => ?_; unfold k0_part104; rotate_left
  refine Mods.bind ?_ fun _ => ?_; unfold k0_part105; rotate_left
  refine Mods.bind ?_ fun _ => ?_; unfold k0_part106; rotate_left
  refine Mods.bind ?_ fun _ => ?_; unfold k0_part107; rotate_left
  refine Mods.bind ?_ fun _ => ?_; unfold k0_part108; rotate_left
  refine Mods.bind ?_ fun _ => ?_; unfold k0_part109; rotate_left
  refine Mods.bind ?_ fun _ => ?_; unfold k0_part110; rotate_left
  refine Mods.bind ?_ fun _ => ?_; unfold k0_part111; rotate_left
  refine Mods.bind ?_ fun _ => ?_; unfold k0_part112; rotate_left
  refine Mods.bind ?_ fun _ => ?_; unfold k0_part113; rotate_left
  refine Mods.bind ?_ fun _ => ?_; unfold k0_part114; rotate_left
  refine Mods.bind ?_ fun _ => ?_; unfold k0_part115; rotate_left
  refine Mods.bind ?_ fun _ => ?_; unfold k0_part116; rotate_left
  refine Mods.bind ?_ fun _ => ?_; unfold k0_part117; rotate_left
  refine Mods.bind ?_ fun _ => ?_; unfold k0_part118; rotate_left
  refine Mods.bind ?_ fun _ => ?_; unfold k0_part119; rotate_left
  refine Mods.bind ?_ fun _ => ?_; unfold k0_part120; rotate_left
  refine Mods.bind ?_ fun _ => ?_; unfold k0_part121; rotate_left
  refine Mods.bind ?_ fun _ => ?_; unfold k0_part122; rotate_left
  refine Mods.bind ?_ fun _ => ?_; unfold k0_part123; rotate_left
  refine Mods.bind ?_ fun _ => ?_; unfold k0_part124; rotate_left
  refine Mods.bind ?_ fun _ => ?_; unfold k0_part125; rotate_left
  refine Mods.bind ?_ fun _ => ?_; unfold k0_part126; rotate_left
  refine Mods.bind ?_ fun _ => ?_; unfold k0_part127; rotate_left
  refine Mods.bind ?_ fun _ => ?_; unfold k0_part128; rotate_left
  refine Mods.bind ?_ fun _ => ?_; unfold k0_part129; rotate_left
  refine Mods.bind ?_ fun _ => ?_; unfold k0_part130; rotate_left
  refine Mods.bind ?_ fun _ => ?_; unfold k0_part131; rotate_left
  all_goals
    repeat with_reducible first
    | refine Mods.load (by assumption) fun _ => ?_
    | refine Mods.store (by assumption) (by assumption) ?_
    | dsimp only
    exact Mods.pure

end Cert.Proof.Kernel
-- ==== Proof.Kernel.Chk.lean ====
module

public import proofs.«01_k».proof.Kernel
public import proofs.«01_k».proof.Proof.Gen.Kernel.Launch
public import proofs.«01_k».proof.Proof.Hoare
public import proofs.«01_k».proof.Proof.Kernel.Base

@[expose] public section

noncomputable section

namespace Cert.Proof.Kernel

open Cert.Kernel Cert.Kernel.Gen Cert.Proof.Hoare

open Idealize.ShloMosaic Idealize.SL.Sem Idealize.SL.RA

/-- A word below `n` is one of the first `n` words. -/
theorem word_of_lt {n : ℕ} (P : BitVec 32 → Prop) (h : ∀ k : Fin n, P (BitVec.ofNat 32 k.val)) (r : BitVec 32) (hr : r.toNat < n) : P r := by
  have := h ⟨r.toNat, hr⟩
  simpa using this

/-- What a row's condition says: the row is in the block, and the rest of the condition holds. -/
theorem row_cond (p : BitVec 1) (r : BitVec 32)
    (h : Scalar.cmpi .ne (Scalar.extui (Scalar.andi p (Scalar.andi (Scalar.cmpi .sge r 0#32) (Scalar.cmpi .slt r 256#32)))) 0#32 = 1#1) :
    p = 1#1 ∧ r.toNat < 256 := by
  have key : ∀ p q1 q2 : BitVec 1, Scalar.cmpi .ne (Scalar.extui (Scalar.andi p (Scalar.andi q1 q2)) : BitVec 32) 0#32 = 1#1 →
      p = 1#1 ∧ q1 = 1#1 ∧ q2 = 1#1 := by decide
  obtain ⟨hp, h1, h2⟩ := key _ _ _ h
  refine ⟨hp, ?_⟩
  have h1' : (0#32).sle r = true := by
    by_contra hh; rw [Bool.not_eq_true] at hh
    simp [Scalar.cmpi, IntOp.cmpi, hh] at h1
  have h2' : r.slt 256#32 = true := by
    by_contra hh; rw [Bool.not_eq_true] at hh
    simp [Scalar.cmpi, IntOp.cmpi, hh] at h2
  simp only [BitVec.sle, BitVec.slt, decide_eq_true_eq] at h1' h2'
  have e1 : (0#32).toInt = 0 := by decide
  have e2 : (256#32).toInt = 256 := by decide
  rw [e1] at h1'; rw [e2] at h2'
  rw [BitVec.toInt_eq_toNat_cond] at h1' h2'
  split at h1' <;> split at h2' <;> omega

theorem e_in (r : BitVec 32) (hr : r.toNat < 256) : ∀ a, S26x128.size a = 0 ∨ (![(Scalar.indexCast (Scalar.shrsi (Scalar.addi r 16#32) 1#32)).toNat, 0] : Fin 2 → Nat) a + (![136, 1] : Fin 2 → Nat) a * (S26x128.size a - 1) < S3536x128.size a :=
  word_of_lt (fun r => ∀ a, S26x128.size a = 0 ∨ (![(Scalar.indexCast (Scalar.shrsi (Scalar.addi r 16#32) 1#32)).toNat, 0] : Fin 2 → Nat) a + (![136, 1] : Fin 2 → Nat) a * (S26x128.size a - 1) < S3536x128.size a) (by decide +kernel) r hr

theorem e_in1 (r : BitVec 32) (hr : r.toNat < 256) : ∀ a, S26x128.size a = 0 ∨ (![(Scalar.indexCast (Scalar.shrsi (Scalar.addi (Scalar.subi r 1#32) 16#32) 1#32)).toNat, 0] : Fin 2 → Nat) a + (![136, 1] : Fin 2 → Nat) a * (S26x128.size a - 1) < S3536x128.size a :=
  word_of_lt (fun r => ∀ a, S26x128.size a = 0 ∨ (![(Scalar.indexCast (Scalar.shrsi (Scalar.addi (Scalar.subi r 1#32) 16#32) 1#32)).toNat, 0] : Fin 2 → Nat) a + (![136, 1] : Fin 2 → Nat) a * (S26x128.size a - 1) < S3536x128.size a) (by decide +kernel) r hr

theorem e_in2 (k : Fin 2) (r : BitVec 32) (hr : r.toNat < 256) : ∀ a, S26x128.size a = 0 ∨ (![(Scalar.indexCast (Scalar.shrsi (Scalar.addi (Scalar.subi r (BitVec.ofNat 32 (1 + k.val))) 16#32) 1#32)).toNat, 0] : Fin 2 → Nat) a + (![136, 1] : Fin 2 → Nat) a * (S26x128.size a - 1) < S3536x128.size a :=
  word_of_lt (fun r => ∀ k : Fin 2, ∀ a, S26x128.size a = 0 ∨ (![(Scalar.indexCast (Scalar.shrsi (Scalar.addi (Scalar.subi r (BitVec.ofNat 32 (1 + k.val))) 16#32) 1#32)).toNat, 0] : Fin 2 → Nat) a + (![136, 1] : Fin 2 → Nat) a * (S26x128.size a - 1) < S3536x128.size a) (by decide +kernel) r hr k

theorem z_in (r : BitVec 32) (hr : r.toNat < 256) : ∀ a, S26x128.size a = 0 ∨ (![(Scalar.indexCast r).toNat, 0] : Fin 2 → Nat) a + (![256, 1] : Fin 2 → Nat) a * (S26x128.size a - 1) < S6656x128.size a :=
  word_of_lt (fun r => ∀ a, S26x128.size a = 0 ∨ (![(Scalar.indexCast r).toNat, 0] : Fin 2 → Nat) a + (![256, 1] : Fin 2 → Nat) a * (S26x128.size a - 1) < S6656x128.size a) (by decide +kernel) r hr

theorem zm_in (r : BitVec 32) (hr : r.toNat < 256) : ∀ a, (![(Scalar.indexCast r).toNat, 0] : Fin 2 → Nat) a + S1x128.size a ≤ S256x128.size a :=
  word_of_lt (fun r => ∀ a, (![(Scalar.indexCast r).toNat, 0] : Fin 2 → Nat) a + S1x128.size a ≤ S256x128.size a) (by decide +kernel) r hr

theorem head_in32 (b : BitVec 32) (hb : b.toNat < 25) (h : Scalar.cmpi .slt b 24#32 = 1#1) : ∀ a, S1x1x26x128.size a = 0 ∨ (k0_off32 b) a + (![1, 1, 8, 1] : Fin 4 → Nat) a * (S1x1x26x128.size a - 1) < S3x3x208x128.size a :=
  word_of_lt (fun b => Scalar.cmpi .slt b 24#32 = 1#1 → ∀ a, S1x1x26x128.size a = 0 ∨ (k0_off32 b) a + (![1, 1, 8, 1] : Fin 4 → Nat) a * (S1x1x26x128.size a - 1) < S3x3x208x128.size a) (by decide +kernel) b hb h

theorem head_in37 (b : BitVec 32) (hb : b.toNat < 25) (h : Scalar.cmpi .slt b 24#32 = 1#1) : ∀ a, S1x1x26x128.size a = 0 ∨ (k0_off37 b) a + (![1, 1, 8, 1] : Fin 4 → Nat) a * (S1x1x26x128.size a - 1) < S3x3x208x128.size a :=
  word_of_lt (fun b => Scalar.cmpi .slt b 24#32 = 1#1 → ∀ a, S1x1x26x128.size a = 0 ∨ (k0_off37 b) a + (![1, 1, 8, 1] : Fin 4 → Nat) a * (S1x1x26x128.size a - 1) < S3x3x208x128.size a) (by decide +kernel) b hb h

theorem head_in42 (b : BitVec 32) (hb : b.toNat < 25) (h : Scalar.cmpi .slt b 24#32 = 1#1) : ∀ a, S1x1x26x128.size a = 0 ∨ (k0_off42 b) a + (![1, 1, 8, 1] : Fin 4 → Nat) a * (S1x1x26x128.size a - 1) < S3x3x208x128.size a :=
  word_of_lt (fun b => Scalar.cmpi .slt b 24#32 = 1#1 → ∀ a, S1x1x26x128.size a = 0 ∨ (k0_off42 b) a + (![1, 1, 8, 1] : Fin 4 → Nat) a * (S1x1x26x128.size a - 1) < S3x3x208x128.size a) (by decide +kernel) b hb h

theorem tail_in44 (b : BitVec 32) (hb : b.toNat < 25) (h : Scalar.cmpi .sgt b 0#32 = 1#1) : ∀ a, S1x1x26x128.size a = 0 ∨ (k0_off44 b) a + (![1, 1, 8, 1] : Fin 4 → Nat) a * (S1x1x26x128.size a - 1) < S3x3x208x128.size a :=
  word_of_lt (fun b => Scalar.cmpi .sgt b 0#32 = 1#1 → ∀ a, S1x1x26x128.size a = 0 ∨ (k0_off44 b) a + (![1, 1, 8, 1] : Fin 4 → Nat) a * (S1x1x26x128.size a - 1) < S3x3x208x128.size a) (by decide +kernel) b hb h

theorem tail_in46 (b : BitVec 32) (hb : b.toNat < 25) (h : Scalar.cmpi .sgt b 0#32 = 1#1) : ∀ a, S1x1x26x128.size a = 0 ∨ (k0_off46 b) a + (![1, 1, 8, 1] : Fin 4 → Nat) a * (S1x1x26x128.size a - 1) < S3x3x208x128.size a :=
  word_of_lt (fun b => Scalar.cmpi .sgt b 0#32 = 1#1 → ∀ a, S1x1x26x128.size a = 0 ∨ (k0_off46 b) a + (![1, 1, 8, 1] : Fin 4 → Nat) a * (S1x1x26x128.size a - 1) < S3x3x208x128.size a) (by decide +kernel) b hb h

theorem tail_in48 (b : BitVec 32) (hb : b.toNat < 25) (h : Scalar.cmpi .sgt b 0#32 = 1#1) : ∀ a, S1x1x26x128.size a = 0 ∨ (k0_off48 b) a + (![1, 1, 8, 1] : Fin 4 → Nat) a * (S1x1x26x128.size a - 1) < S3x3x208x128.size a :=
  word_of_lt (fun b => Scalar.cmpi .sgt b 0#32 = 1#1 → ∀ a, S1x1x26x128.size a = 0 ∨ (k0_off48 b) a + (![1, 1, 8, 1] : Fin 4 → Nat) a * (S1x1x26x128.size a - 1) < S3x3x208x128.size a) (by decide +kernel) b hb h

/-- The clamped load of a boundary is in bounds. -/
theorem chk1_of (b : BitVec 32) (hb : b.toNat < 26) : k0_chk1 b :=
  word_of_lt (fun b => k0_chk1 b) (by unfold k0_chk1; decide +kernel) b hb

/-- The unclamped load is, below the last sequence's end. -/
theorem chk2_of (b : BitVec 32) (hb : b.toNat < 25) : k0_chk2 b :=
  word_of_lt (fun b => k0_chk2 b) (by unfold k0_chk2; decide +kernel) b hb

/-- Every rectangle the head loop addresses is in bounds, whatever the boundary read. -/
theorem chk3_of (i : grid0.Coords) (b v : BitVec 32) (hb : b.toNat < 25) : k0_chk3 i b v := by
  unfold k0_chk3
  exact ⟨fun h => e_in _ (row_cond _ _ h).2, fun h => z_in _ (row_cond _ _ h).2, fun h => zm_in _ (row_cond _ _ h).2, fun h => head_in32 b hb (row_cond _ _ h).1,
    fun h => e_in _ (row_cond _ _ h).2, fun h => e_in1 _ (row_cond _ _ h).2, fun h => z_in _ (row_cond _ _ h).2, fun h => zm_in _ (row_cond _ _ h).2, fun h => head_in37 b hb (row_cond _ _ h).1,
    fun h => e_in _ (row_cond _ _ h).2, fun h k => e_in2 k _ (row_cond _ _ h).2, fun h => z_in _ (row_cond _ _ h).2, fun h => zm_in _ (row_cond _ _ h).2, fun h => head_in42 b hb (row_cond _ _ h).1,
    fun h => e_in _ (row_cond _ _ h).2, fun h => tail_in44 b hb (row_cond _ _ h).1,
    fun h => e_in _ (row_cond _ _ h).2, fun h => tail_in46 b hb (row_cond _ _ h).1,
    fun h => e_in _ (row_cond _ _ h).2, fun h => tail_in48 b hb (row_cond _ _ h).1⟩

end Cert.Proof.Kernel
-- ==== Proof.Kernel.While.lean ====
module

public import proofs.«01_k».proof.Kernel
public import proofs.«01_k».proof.Proof.Gen.Kernel.Launch
public import proofs.«01_k».proof.Proof.Hoare
public import proofs.«01_k».proof.Proof.Kernel.Base
public import proofs.«01_k».proof.Proof.Kernel.Chk

@[expose] public section

noncomputable section

namespace Cert.Proof.Kernel

open Cert.Kernel Cert.Kernel.Gen Cert.Proof.Hoare

open Idealize.ShloMosaic Idealize.SL.Sem Idealize.SL.RA

variable {F : FTy → Type} [FloatOps F] [BitOps F] {U : Type} [URA U]

variable {c : Dev nD} {bd : Option 𝒱₀.V} {L : Finset (Ref sig .tc)} {W : Set (Ref sig .tc)}

variable {i : grid0.Coords}
variable {arg1 : Memref sig .tc .smem S25 .i32} {harg1 : arg1.IsWhole}
variable {arg2 : Memref sig .tc .vmem S256x3328 .fp8e4m3} {harg2 : arg2.IsWhole}
variable {arg3 : Memref sig .tc .vmem S1x1x256 .f32} {harg3 : arg3.IsWhole}
variable {arg4 : Memref sig .tc .vmem S4x3328 .bf16} {harg4 : arg4.IsWhole}
variable {arg5 : Memref sig .tc .vmem S1x3328 .bf16} {harg5 : arg5.IsWhole}
variable {arg6 : Memref sig .tc .vmem S256x3328 .fp8e4m3} {harg6 : arg6.IsWhole}
variable {arg7 : Memref sig .tc .vmem S1x1x256 .f32} {harg7 : arg7.IsWhole}
variable {arg8 : Memref sig .tc .vmem S3x3x208x128 .f32} {harg8 : arg8.IsWhole}
variable {arg9 : Memref sig .tc .vmem S3x24x3328 .bf16} {harg9 : arg9.IsWhole}
variable {arg10 : Memref sig .tc .vmem S3536x128 .i32} {harg10 : arg10.IsWhole}
variable {arg11 : Memref sig .tc .vmem S6864x128 .f32} {harg11 : arg11.IsWhole}
variable {arg12 : Memref sig .tc .vmem S6656x128 .f32} {harg12 : arg12.IsWhole}
variable {arg13 : Memref sig .tc .vmem S256x128 .f32} {harg13 : arg13.IsWhole}
variable {arg14 : Memref sig .tc .vmem S26x256x256 .bf16} {harg14 : arg14.IsWhole}
variable {arg15 : Memref sig .tc .vmem S26x8x128 .f32} {harg15 : arg15.IsWhole}
variable {arg16 : Memref sig .tc .vmem S5x26x128 .f32} {harg16 : arg16.IsWhole}
variable {arg17 : Memref sig .tc .vmem S128x128 .i32} {harg17 : arg17.IsWhole}
variable {arg18 : Memref sig .tc .vmem S256x128 .f32} {harg18 : arg18.IsWhole}
variable {arg19 : Memref sig .tc .vmem S26x256x128 .fp8e4m3} {harg19 : arg19.IsWhole}
variable {arg20 : Memref sig .tc .vmem S3x3x208x128 .f32} {harg20 : arg20.IsWhole}
variable {arg21 : Memref sig .tc .smem S1 .i32} {harg21 : arg21.IsWhole}

/-! One theorem per window of the kernel's body: it runs, and changes only the buffers it stores to. -/

theorem mods_k0_part135 (v43 : BitVec 1) (arg22 : BitVec 32) (v70 : Elt F .i32) (k0_hw3 : k0_chk3 i arg22 v70) (v72 : BitVec 32) (k0_h4 : k0_cond4 i arg22 v70 = 1#1) (h10 : arg10.view.ref ∈ L) (h12 : arg12.view.ref ∈ L) (h13 : arg13.view.ref ∈ L) (h16 : arg16.view.ref ∈ L) (w12 : arg12.view.ref ∈ W) (w13 : arg13.view.ref ∈ W) :
    Mods U (defs₀ (F := F)) 𝒱₀ c bd L W (k0_part135 i v43 arg1 harg1 arg16 harg16 arg10 harg10 arg12 harg12 arg13 harg13 arg8 harg8 arg20 harg20 arg21 harg21 arg22 v70 k0_hw3 v72 k0_h4) := by
  unfold k0_part135
  refine Mods.load h16 fun _ => ?_
  refine Mods.load h16 fun _ => ?_
  refine Mods.load h10 fun _ => ?_
  refine Mods.load h12 fun _ => ?_
  refine Mods.store h12 w12 ?_
  refine Mods.load h13 fun _ => ?_
  refine Mods.store h13 w13 ?_
  exact Mods.pure

theorem mods_k0_part136 (v43 : BitVec 1) (arg22 : BitVec 32) (v70 : Elt F .i32) (k0_hw3 : k0_chk3 i arg22 v70) (v80 : BitVec 32) (k0_h5 : k0_cond5 i arg22 v70 = 1#1) (h10 : arg10.view.ref ∈ L) (h16 : arg16.view.ref ∈ L) :
    Mods U (defs₀ (F := F)) 𝒱₀ c bd L W (k0_part136 i v43 arg1 harg1 arg16 harg16 arg10 harg10 arg12 harg12 arg13 harg13 arg8 harg8 arg20 harg20 arg21 harg21 arg22 v70 k0_hw3 v80 k0_h5) := by
  unfold k0_part136
  refine Mods.load h16 fun _ => ?_
  refine Mods.load h16 fun _ => ?_
  refine Mods.load h10 fun _ => ?_
  refine Mods.load h16 fun _ => ?_
  refine Mods.load h10 fun _ => ?_
  exact Mods.pure

theorem mods_k0_part137 (v43 : BitVec 1) (arg22 : BitVec 32) (v70 : Elt F .i32) (k0_hw3 : k0_chk3 i arg22 v70) (v80 : BitVec 32) (k0_h5 : k0_cond5 i arg22 v70 = 1#1) (v162 : FVec F S26x128 .f32) (h12 : arg12.view.ref ∈ L) (h13 : arg13.view.ref ∈ L) (w12 : arg12.view.ref ∈ W) (w13 : arg13.view.ref ∈ W) :
    Mods U (defs₀ (F := F)) 𝒱₀ c bd L W (k0_part137 i v43 arg1 harg1 arg16 harg16 arg10 harg10 arg12 harg12 arg13 harg13 arg8 harg8 arg20 harg20 arg21 harg21 arg22 v70 k0_hw3 v80 k0_h5 v162) := by
  unfold k0_part137
  refine Mods.load h12 fun _ => ?_
  refine Mods.store h12 w12 ?_
  refine Mods.load h13 fun _ => ?_
  refine Mods.store h13 w13 ?_
  exact Mods.pure

theorem mods_k0_part138 (v43 : BitVec 1) (arg22 : BitVec 32) (v70 : Elt F .i32) (k0_hw3 : k0_chk3 i arg22 v70) (v88 : BitVec 32) (k0_h6 : k0_cond6 i arg22 v70 = 1#1) (h10 : arg10.view.ref ∈ L) (h16 : arg16.view.ref ∈ L) :
    Mods U (defs₀ (F := F)) 𝒱₀ c bd L W (k0_part138 i v43 arg1 harg1 arg16 harg16 arg10 harg10 arg12 harg12 arg13 harg13 arg8 harg8 arg20 harg20 arg21 harg21 arg22 v70 k0_hw3 v88 k0_h6) := by
  unfold k0_part138
  refine Mods.load h16 fun _ => ?_
  refine Mods.load h16 fun _ => ?_
  refine Mods.load h10 fun _ => ?_
  refine Mods.load h16 fun _ => ?_
  refine Mods.load h10 fun _ => ?_
  exact Mods.pure

theorem mods_k0_part139 (v43 : BitVec 1) (arg22 : BitVec 32) (v70 : Elt F .i32) (k0_hw3 : k0_chk3 i arg22 v70) (v88 : BitVec 32) (k0_h6 : k0_cond6 i arg22 v70 = 1#1) (v162 : FVec F S26x128 .f32) (h10 : arg10.view.ref ∈ L) (h12 : arg12.view.ref ∈ L) (h13 : arg13.view.ref ∈ L) (h16 : arg16.view.ref ∈ L) (w12 : arg12.view.ref ∈ W) (w13 : arg13.view.ref ∈ W) :
    Mods U (defs₀ (F := F)) 𝒱₀ c bd L W (k0_part139 i v43 arg1 harg1 arg16 harg16 arg10 harg10 arg12 harg12 arg13 harg13 arg8 harg8 arg20 harg20 arg21 harg21 arg22 v70 k0_hw3 v88 k0_h6 v162) := by
  unfold k0_part139
  refine Mods.load h16 fun _ => ?_
  refine Mods.load h10 fun _ => ?_
  refine Mods.load h12 fun _ => ?_
  refine Mods.store h12 w12 ?_
  refine Mods.load h13 fun _ => ?_
  refine Mods.store h13 w13 ?_
  exact Mods.pure

theorem mods_k0_part140 (v43 : BitVec 1) (arg22 : BitVec 32) (v70 : Elt F .i32) (k0_hw3 : k0_chk3 i arg22 v70) (v97 : BitVec 32) (k0_h7 : k0_cond7 i arg22 v70 = 1#1) (h10 : arg10.view.ref ∈ L) :
    Mods U (defs₀ (F := F)) 𝒱₀ c bd L W (k0_part140 i v43 arg1 harg1 arg16 harg16 arg10 harg10 arg12 harg12 arg13 harg13 arg8 harg8 arg20 harg20 arg21 harg21 arg22 v70 k0_hw3 v97 k0_h7) := by
  unfold k0_part140
  refine Mods.load h10 fun _ => ?_
  exact Mods.pure

theorem mods_k0_part141 (v43 : BitVec 1) (arg22 : BitVec 32) (v70 : Elt F .i32) (k0_hw3 : k0_chk3 i arg22 v70) (v106 : BitVec 32) (k0_h8 : k0_cond8 i arg22 v70 = 1#1) (h10 : arg10.view.ref ∈ L) :
    Mods U (defs₀ (F := F)) 𝒱₀ c bd L W (k0_part141 i v43 arg1 harg1 arg16 harg16 arg10 harg10 arg12 harg12 arg13 harg13 arg8 harg8 arg20 harg20 arg21 harg21 arg22 v70 k0_hw3 v106 k0_h8) := by
  unfold k0_part141
  refine Mods.load h10 fun _ => ?_
  exact Mods.pure

theorem mods_k0_part142 (v43 : BitVec 1) (arg22 : BitVec 32) (v70 : Elt F .i32) (k0_hw3 : k0_chk3 i arg22 v70) (v115 : BitVec 32) (k0_h9 : k0_cond9 i arg22 v70 = 1#1) (h10 : arg10.view.ref ∈ L) :
    Mods U (defs₀ (F := F)) 𝒱₀ c bd L W (k0_part142 i v43 arg1 harg1 arg16 harg16 arg10 harg10 arg12 harg12 arg13 harg13 arg8 harg8 arg20 harg20 arg21 harg21 arg22 v70 k0_hw3 v115 k0_h9) := by
  unfold k0_part142
  refine Mods.load h10 fun _ => ?_
  exact Mods.pure

theorem mods_k0_part143 (v43 : BitVec 1) (arg22 : BitVec 32) (v63 : BitVec 32) (h1 : arg1.view.ref ∈ L) (h8 : arg8.view.ref ∈ L) (h10 : arg10.view.ref ∈ L) (h12 : arg12.view.ref ∈ L) (h13 : arg13.view.ref ∈ L) (h16 : arg16.view.ref ∈ L) (w8 : arg8.view.ref ∈ W) (w12 : arg12.view.ref ∈ W) (w13 : arg13.view.ref ∈ W) (hb : arg22.toNat < 25) :
    Mods U (defs₀ (F := F)) 𝒱₀ c bd L W (k0_part143 i v43 arg1 harg1 arg16 harg16 arg10 harg10 arg12 harg12 arg13 harg13 arg8 harg8 arg20 harg20 arg21 harg21 arg22 v63) := by
  unfold k0_part143
  refine Mods.assume (chk2_of _ hb) ?_
  refine Mods.smem h1 fun _ => ?_
  refine Mods.assume (chk3_of _ _ _ hb) ?_
  refine Mods.dite (fun _ => ?_) fun _ => ?_
  ·
    refine Mods.bind (mods_k0_part135 _ _ _ _ _ _ h10 h12 h13 h16 w12 w13) fun _ => ?_
    refine Mods.load h8 fun _ => ?_
    refine Mods.store h8 w8 ?_
    refine Mods.dite (fun _ => ?_) fun _ => ?_
    ·
      refine Mods.bind (mods_k0_part136 _ _ _ _ _ _ h10 h16) fun _ => ?_
      refine Mods.bind (mods_k0_part137 _ _ _ _ _ _ _ h12 h13 w12 w13) fun _ => ?_
      refine Mods.load h8 fun _ => ?_
      refine Mods.store h8 w8 ?_
      refine Mods.dite (fun _ => ?_) fun _ => ?_
      ·
        refine Mods.bind (mods_k0_part138 _ _ _ _ _ _ h10 h16) fun _ => ?_
        refine Mods.bind (mods_k0_part139 _ _ _ _ _ _ _ h10 h12 h13 h16 w12 w13) fun _ => ?_
        refine Mods.load h8 fun _ => ?_
        refine Mods.store h8 w8 ?_
        exact Mods.pure
      ·
        exact Mods.pure
    ·
      refine Mods.dite (fun _ => ?_) fun _ => ?_
      ·
        refine Mods.bind (mods_k0_part138 _ _ _ _ _ _ h10 h16) fun _ => ?_
        refine Mods.bind (mods_k0_part139 _ _ _ _ _ _ _ h10 h12 h13 h16 w12 w13) fun _ => ?_
        refine Mods.load h8 fun _ => ?_
        refine Mods.store h8 w8 ?_
        exact Mods.pure
      ·
        exact Mods.pure
  ·
    refine Mods.dite (fun _ => ?_) fun _ => ?_
    ·
      refine Mods.bind (mods_k0_part136 _ _ _ _ _ _ h10 h16) fun _ => ?_
      refine Mods.bind (mods_k0_part137 _ _ _ _ _ _ _ h12 h13 w12 w13) fun _ => ?_
      refine Mods.load h8 fun _ => ?_
      refine Mods.store h8 w8 ?_
      refine Mods.dite (fun _ => ?_) fun _ => ?_
      ·
        refine Mods.bind (mods_k0_part138 _ _ _ _ _ _ h10 h16) fun _ => ?_
        refine Mods.bind (mods_k0_part139 _ _ _ _ _ _ _ h10 h12 h13 h16 w12 w13) fun _ => ?_
        refine Mods.load h8 fun _ => ?_
        refine Mods.store h8 w8 ?_
        exact Mods.pure
      ·
        exact Mods.pure
    ·
      refine Mods.dite (fun _ => ?_) fun _ => ?_
      ·
        refine Mods.bind (mods_k0_part138 _ _ _ _ _ _ h10 h16) fun _ => ?_
        refine Mods.bind (mods_k0_part139 _ _ _ _ _ _ _ h10 h12 h13 h16 w12 w13) fun _ => ?_
        refine Mods.load h8 fun _ => ?_
        refine Mods.store h8 w8 ?_
        exact Mods.pure
      ·
        exact Mods.pure

variable {P : St sig (Elt F) → Prop}

/-- What a run of the head loop may do: change the buffers of `W` and the pointer, and the pointer only so that `P` still holds. -/
def Loops (W : Set (Ref sig .tc)) (p : Ref sig .tc) (P : St sig (Elt F) → Prop) (σ σ' : St sig (Elt F)) : Prop :=
  (∀ b, b ∉ W → b ≠ p → σ' b = σ b) ∧ (P σ → P σ')

theorem store_keeps {p r : Ref sig .tc} (hP1 : ∀ σ σ' : St sig (Elt F), σ' p = σ p → P σ → P σ') (hp : p ∉ W) (hr : r ∈ W)
    (σ : St sig (Elt F)) (x : r.ty.Contents (Elt F)) : Loops W p P σ (σ.set r x) :=
  ⟨fun _ hb _ => St.set_ne _ (by rintro rfl; exact hb hr) _, hP1 _ _ (St.set_ne _ (by rintro rfl; exact hp hr) _)⟩

theorem store_ptr {r : Ref sig .tc} (σ : St sig (Elt F)) (x : r.ty.Contents (Elt F)) (hx : P σ → P (σ.set r x)) : Loops W r P σ (σ.set r x) :=
  ⟨fun _ _ hb => St.set_ne _ hb _, hx⟩

/-- The loop's own test bounds its counter. -/
theorem lt_of_more {b : BitVec 32} {p q : BitVec 1} (hv : b.toNat ≤ 25)
    (h : Scalar.andi (Scalar.andi p (Scalar.cmpi .sle b 24#32)) q = 1#1) : b.toNat < 25 := by
  have key : ∀ p q r : BitVec 1, Scalar.andi (Scalar.andi p r) q = 1#1 → r = 1#1 := by decide
  have h1 := key _ _ _ h
  exact word_of_lt (n := 26) (fun b => Scalar.cmpi .sle b 24#32 = 1#1 → b.toNat < 25) (by decide +kernel) b (by omega) h1

/-- The counter's successor. -/
theorem succ_toNat {b : BitVec 32} (hb : b.toNat < 25) : (Scalar.addi b 1#32).toNat = b.toNat + 1 :=
  word_of_lt (n := 25) (fun b => (Scalar.addi b 1#32).toNat = b.toNat + 1) (by decide +kernel) b hb

/-- The head loop: it runs, in at most `25 - arg22` trips, and keeps the pointer in its range. -/
theorem keeps_while (hr : ∀ σ : St sig (Elt F), Loops W arg21.view.ref P σ σ) (ht : ∀ a b d : St sig (Elt F), Loops W arg21.view.ref P a b → Loops W arg21.view.ref P b d → Loops W arg21.view.ref P a d)
    (hm : ∀ σ σ' : St sig (Elt F), (∀ b, b ∉ W → σ' b = σ b) → Loops W arg21.view.ref P σ σ')
    (hP1 : ∀ σ σ' : St sig (Elt F), σ' arg21.view.ref = σ arg21.view.ref → P σ → P σ') (hp : arg21.view.ref ∉ W)
    (hP2 : ∀ (σ : St sig (Elt F)) (v : BitVec 32), v.toNat ≤ 25 → P σ → P (σ.set arg21.view.ref ((arg21.access (Rect.unit (s := S1) ![0] S1.size inb_S1_S1_0)).write (Elt F) (σ arg21.view.ref) (fun _ => v) Finset.univ)))
    (h1 : arg1.view.ref ∈ L) (h8 : arg8.view.ref ∈ L) (h10 : arg10.view.ref ∈ L) (h12 : arg12.view.ref ∈ L) (h13 : arg13.view.ref ∈ L) (h16 : arg16.view.ref ∈ L) (h20 : arg20.view.ref ∈ L) (h21 : arg21.view.ref ∈ L) (w8 : arg8.view.ref ∈ W) (w12 : arg12.view.ref ∈ W) (w13 : arg13.view.ref ∈ W) (w20 : arg20.view.ref ∈ W) (v43 : BitVec 1) :
    ∀ (k : ℕ) (arg22 : BitVec 32), arg22.toNat + k = 25 → Keeps U (defs₀ (F := F)) 𝒱₀ c (some k) L (Loops W arg21.view.ref P) (cc0_while1 i v43 arg1 harg1 arg16 harg16 arg10 harg10 arg12 harg12 arg13 harg13 arg8 harg8 arg20 harg20 arg21 harg21 arg22)
  | k, arg22, hk => by
    have hv : arg22.toNat ≤ 25 := by omega
    have IH : ∀ hb : arg22.toNat < 25, Keeps U (defs₀ (F := F)) 𝒱₀ c (some (k - 1)) L (Loops W arg21.view.ref P) (cc0_while1 i v43 arg1 harg1 arg16 harg16 arg10 harg10 arg12 harg12 arg13 harg13 arg8 harg8 arg20 harg20 arg21 harg21 (Scalar.addi arg22 1#32)) := fun hb =>
      keeps_while hr ht hm hP1 hp hP2 h1 h8 h10 h12 h13 h16 h20 h21 w8 w12 w13 w20 v43 (k - 1) _ (by rw [succ_toNat hb]; omega)
    unfold cc0_while1
    refine Keeps.assume (chk1_of _ (Nat.lt_succ_of_le hv)) ?_
    refine Keeps.smem h1 fun _ => ?_
    refine Keeps.ite (fun hif => ?_) fun _ => ?_
    · have hb := lt_of_more hv hif
      refine Keeps.bind ht (Keeps.of_mods (mods_k0_part143 _ _ _ h1 h8 h10 h12 h13 h16 w8 w12 w13 hb) hm) fun _ => ?_
      refine Keeps.dite (fun _ => ?_) fun _ => ?_
      ·
        refine Keeps.bind ht (Keeps.of_mods (mods_k0_part140 _ _ _ _ _ _ h10) hm) fun _ => ?_
        refine Keeps.load h20 fun _ => ?_
        refine Keeps.store ht h20 (fun σ => store_keeps hP1 hp w20 σ _) ?_
        refine Keeps.dite (fun _ => ?_) fun _ => ?_
        ·
          refine Keeps.bind ht (Keeps.of_mods (mods_k0_part141 _ _ _ _ _ _ h10) hm) fun _ => ?_
          refine Keeps.load h20 fun _ => ?_
          refine Keeps.store ht h20 (fun σ => store_keeps hP1 hp w20 σ _) ?_
          refine Keeps.dite (fun _ => ?_) fun _ => ?_
          ·
            refine Keeps.bind ht (Keeps.of_mods (mods_k0_part142 _ _ _ _ _ _ h10) hm) fun _ => ?_
            refine Keeps.load h20 fun _ => ?_
            refine Keeps.store ht h20 (fun σ => store_keeps hP1 hp w20 σ _) ?_
            refine Keeps.ite (fun _ => ?_) fun _ => ?_
            ·
              refine Keeps.smem h21 fun _ => ?_
              refine Keeps.store ht h21 (fun σ => store_ptr σ _ (hP2 σ _ (by rw [succ_toNat hb]; omega))) ?_
              refine Keeps.call (k - 1) (fun u hu => by cases hu; exact (by omega : k - 1 < k)) ?_
              exact IH hb
            ·
              refine Keeps.call (k - 1) (fun u hu => by cases hu; exact (by omega : k - 1 < k)) ?_
              exact IH hb
          ·
            refine Keeps.ite (fun _ => ?_) fun _ => ?_
            ·
              refine Keeps.smem h21 fun _ => ?_
              refine Keeps.store ht h21 (fun σ => store_ptr σ _ (hP2 σ _ (by rw [succ_toNat hb]; omega))) ?_
              refine Keeps.call (k - 1) (fun u hu => by cases hu; exact (by omega : k - 1 < k)) ?_
              exact IH hb
            ·
              refine Keeps.call (k - 1) (fun u hu => by cases hu; exact (by omega : k - 1 < k)) ?_
              exact IH hb
        ·
          refine Keeps.dite (fun _ => ?_) fun _ => ?_
          ·
            refine Keeps.bind ht (Keeps.of_mods (mods_k0_part142 _ _ _ _ _ _ h10) hm) fun _ => ?_
            refine Keeps.load h20 fun _ => ?_
            refine Keeps.store ht h20 (fun σ => store_keeps hP1 hp w20 σ _) ?_
            refine Keeps.ite (fun _ => ?_) fun _ => ?_
            ·
              refine Keeps.smem h21 fun _ => ?_
              refine Keeps.store ht h21 (fun σ => store_ptr σ _ (hP2 σ _ (by rw [succ_toNat hb]; omega))) ?_
              refine Keeps.call (k - 1) (fun u hu => by cases hu; exact (by omega : k - 1 < k)) ?_
              exact IH hb
            ·
              refine Keeps.call (k - 1) (fun u hu => by cases hu; exact (by omega : k - 1 < k)) ?_
              exact IH hb
          ·
            refine Keeps.ite (fun _ => ?_) fun _ => ?_
            ·
              refine Keeps.smem h21 fun _ => ?_
              refine Keeps.store ht h21 (fun σ => store_ptr σ _ (hP2 σ _ (by rw [succ_toNat hb]; omega))) ?_
              refine Keeps.call (k - 1) (fun u hu => by cases hu; exact (by omega : k - 1 < k)) ?_
              exact IH hb
            ·
              refine Keeps.call (k - 1) (fun u hu => by cases hu; exact (by omega : k - 1 < k)) ?_
              exact IH hb
      ·
        refine Keeps.dite (fun _ => ?_) fun _ => ?_
        ·
          refine Keeps.bind ht (Keeps.of_mods (mods_k0_part141 _ _ _ _ _ _ h10) hm) fun _ => ?_
          refine Keeps.load h20 fun _ => ?_
          refine Keeps.store ht h20 (fun σ => store_keeps hP1 hp w20 σ _) ?_
          refine Keeps.dite (fun _ => ?_) fun _ => ?_
          ·
            refine Keeps.bind ht (Keeps.of_mods (mods_k0_part142 _ _ _ _ _ _ h10) hm) fun _ => ?_
            refine Keeps.load h20 fun _ => ?_
            refine Keeps.store ht h20 (fun σ => store_keeps hP1 hp w20 σ _) ?_
            refine Keeps.ite (fun _ => ?_) fun _ => ?_
            ·
              refine Keeps.smem h21 fun _ => ?_
              refine Keeps.store ht h21 (fun σ => store_ptr σ _ (hP2 σ _ (by rw [succ_toNat hb]; omega))) ?_
              refine Keeps.call (k - 1) (fun u hu => by cases hu; exact (by omega : k - 1 < k)) ?_
              exact IH hb
            ·
              refine Keeps.call (k - 1) (fun u hu => by cases hu; exact (by omega : k - 1 < k)) ?_
              exact IH hb
          ·
            refine Keeps.ite (fun _ => ?_) fun _ => ?_
            ·
              refine Keeps.smem h21 fun _ => ?_
              refine Keeps.store ht h21 (fun σ => store_ptr σ _ (hP2 σ _ (by rw [succ_toNat hb]; omega))) ?_
              refine Keeps.call (k - 1) (fun u hu => by cases hu; exact (by omega : k - 1 < k)) ?_
              exact IH hb
            ·
              refine Keeps.call (k - 1) (fun u hu => by cases hu; exact (by omega : k - 1 < k)) ?_
              exact IH hb
        ·
          refine Keeps.dite (fun _ => ?_) fun _ => ?_
          ·
            refine Keeps.bind ht (Keeps.of_mods (mods_k0_part142 _ _ _ _ _ _ h10) hm) fun _ => ?_
            refine Keeps.load h20 fun _ => ?_
            refine Keeps.store ht h20 (fun σ => store_keeps hP1 hp w20 σ _) ?_
            refine Keeps.ite (fun _ => ?_) fun _ => ?_
            ·
              refine Keeps.smem h21 fun _ => ?_
              refine Keeps.store ht h21 (fun σ => store_ptr σ _ (hP2 σ _ (by rw [succ_toNat hb]; omega))) ?_
              refine Keeps.call (k - 1) (fun u hu => by cases hu; exact (by omega : k - 1 < k)) ?_
              exact IH hb
            ·
              refine Keeps.call (k - 1) (fun u hu => by cases hu; exact (by omega : k - 1 < k)) ?_
              exact IH hb
          ·
            refine Keeps.ite (fun _ => ?_) fun _ => ?_
            ·
              refine Keeps.smem h21 fun _ => ?_
              refine Keeps.store ht h21 (fun σ => store_ptr σ _ (hP2 σ _ (by rw [succ_toNat hb]; omega))) ?_
              refine Keeps.call (k - 1) (fun u hu => by cases hu; exact (by omega : k - 1 < k)) ?_
              exact IH hb
            ·
              refine Keeps.call (k - 1) (fun u hu => by cases hu; exact (by omega : k - 1 < k)) ?_
              exact IH hb
    ·
      exact Keeps.pure hr
termination_by k => k
decreasing_by omega

end Cert.Proof.Kernel
-- ==== Proof.Kernel.Body.lean ====
module

public import proofs.«01_k».proof.Kernel
public import proofs.«01_k».proof.Proof.Gen.Kernel.Launch
public import proofs.«01_k».proof.Proof.Hoare
public import proofs.«01_k».proof.Proof.Kernel.Base
public import proofs.«01_k».proof.Proof.Kernel.ModsMain
public import proofs.«01_k».proof.Proof.Kernel.ModsTails
public import proofs.«01_k».proof.Proof.Kernel.While

@[expose] public section

noncomputable section

namespace Cert.Proof.Kernel

open Cert.Kernel Cert.Kernel.Gen Cert.Proof.Hoare

open Idealize.ShloMosaic Idealize.SL.Sem Idealize.SL.RA

variable {F : FTy → Type} [FloatOps F] [BitOps F] {U : Type} [URA U]

variable {c : Dev nD} {bd : Option 𝒱₀.V} {L : Finset (Ref sig .tc)} {W : Set (Ref sig .tc)}

variable {i : grid0.Coords}
variable {arg1 : Memref sig .tc .smem S25 .i32} {harg1 : arg1.IsWhole}
variable {arg2 : Memref sig .tc .vmem S256x3328 .fp8e4m3} {harg2 : arg2.IsWhole}
variable {arg3 : Memref sig .tc .vmem S1x1x256 .f32} {harg3 : arg3.IsWhole}
variable {arg4 : Memref sig .tc .vmem S4x3328 .bf16} {harg4 : arg4.IsWhole}
variable {arg5 : Memref sig .tc .vmem S1x3328 .bf16} {harg5 : arg5.IsWhole}
variable {arg6 : Memref sig .tc .vmem S256x3328 .fp8e4m3} {harg6 : arg6.IsWhole}
variable {arg7 : Memref sig .tc .vmem S1x1x256 .f32} {harg7 : arg7.IsWhole}
variable {arg8 : Memref sig .tc .vmem S3x3x208x128 .f32} {harg8 : arg8.IsWhole}
variable {arg9 : Memref sig .tc .vmem S3x24x3328 .bf16} {harg9 : arg9.IsWhole}
variable {arg10 : Memref sig .tc .vmem S3536x128 .i32} {harg10 : arg10.IsWhole}
variable {arg11 : Memref sig .tc .vmem S6864x128 .f32} {harg11 : arg11.IsWhole}
variable {arg12 : Memref sig .tc .vmem S6656x128 .f32} {harg12 : arg12.IsWhole}
variable {arg13 : Memref sig .tc .vmem S256x128 .f32} {harg13 : arg13.IsWhole}
variable {arg14 : Memref sig .tc .vmem S26x256x256 .bf16} {harg14 : arg14.IsWhole}
variable {arg15 : Memref sig .tc .vmem S26x8x128 .f32} {harg15 : arg15.IsWhole}
variable {arg16 : Memref sig .tc .vmem S5x26x128 .f32} {harg16 : arg16.IsWhole}
variable {arg17 : Memref sig .tc .vmem S128x128 .i32} {harg17 : arg17.IsWhole}
variable {arg18 : Memref sig .tc .vmem S256x128 .f32} {harg18 : arg18.IsWhole}
variable {arg19 : Memref sig .tc .vmem S26x256x128 .fp8e4m3} {harg19 : arg19.IsWhole}
variable {arg20 : Memref sig .tc .vmem S3x3x208x128 .f32} {harg20 : arg20.IsWhole}
variable {arg21 : Memref sig .tc .smem S1 .i32} {harg21 : arg21.IsWhole}

/-! One theorem per window of the kernel's body: it runs, and changes only the buffers it stores to. -/

variable {P : St sig (Elt F) → Prop}

theorem trip_or {α : Type} {Q : α → Prop} {C : Prop} (hc : ¬C) {p : Prog (TpuEff nD τ sig (Elt F) (Λ₀ F) .tc) α} (h : Trip U (defs₀ (F := F)) 𝒱₀ c bd L P P Q p) :
    Trip U (defs₀ (F := F)) 𝒱₀ c bd L (fun σ => C ∨ P σ) P Q p := fun σ hp => h σ (hp.resolve_left hc)

theorem trip_any {α : Type} {Q : α → Prop} {P₁ : St sig (Elt F) → Prop} {p : Prog (TpuEff nD τ sig (Elt F) (Λ₀ F) .tc) α} (h : Trip U (defs₀ (F := F)) 𝒱₀ c bd L (fun _ => True) P Q p) :
    Trip U (defs₀ (F := F)) 𝒱₀ c bd L P₁ P Q p := fun σ _ => h σ trivial

theorem loops_refl {p : Ref sig .tc} (σ : St sig (Elt F)) : Loops W p P σ σ := ⟨fun _ _ _ => rfl, id⟩

theorem loops_trans {p : Ref sig .tc} (a b d : St sig (Elt F)) (h : Loops W p P a b) (h' : Loops W p P b d) : Loops W p P a d :=
  ⟨fun x hx hp => (h'.1 x hx hp).trans (h.1 x hx hp), h'.2 ∘ h.2⟩

theorem loops_of_mods {p : Ref sig .tc} (hP1 : ∀ σ σ' : St sig (Elt F), σ' p = σ p → P σ → P σ') (σ σ' : St sig (Elt F))
    (h : ∀ b, b ∉ {b : Ref sig .tc | b ≠ p} → σ' b = σ b) : Loops {b | b ≠ p} p P σ σ' :=
  ⟨fun b hb _ => h b hb, hP1 _ _ (h p fun h => h rfl)⟩

/-- The first window of the initialisation sets the pointer. -/
theorem trip_k0_part1 (h4 : arg4.view.ref ∈ L) (h5 : arg5.view.ref ∈ L) (h13 : arg13.view.ref ∈ L) (h14 : arg14.view.ref ∈ L) (h16 : arg16.view.ref ∈ L) (h21 : arg21.view.ref ∈ L) (w13 : arg13.view.ref ≠ arg21.view.ref) (w14 : arg14.view.ref ≠ arg21.view.ref) (w16 : arg16.view.ref ≠ arg21.view.ref) (hP1 : ∀ σ σ' : St sig (Elt F), σ' arg21.view.ref = σ arg21.view.ref → P σ → P σ') (hP0 : ∀ σ : St sig (Elt F), P (σ.set arg21.view.ref ((arg21.access (Rect.unit (s := S1) ![0] S1.size inb_S1_S1_0)).write (Elt F) (σ arg21.view.ref) (fun _ => (0#32 : BitVec 32)) Finset.univ))) :
    Trip U (defs₀ (F := F)) 𝒱₀ c bd L (fun _ => True) P (fun _ => True) (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) := by
  unfold k0_part1
  refine Trip.smem h21 fun _ => ?_
  refine Trip.store' (P := P) h21 (fun σ _ => hP0 σ) ?_
  refine Trip.load h13 fun _ => ?_
  refine Trip.store hP1 h13 w13 ?_
  refine Trip.load h4 fun _ => ?_
  refine Trip.load h4 fun _ => ?_
  refine Trip.load h4 fun _ => ?_
  refine Trip.load h4 fun _ => ?_
  refine Trip.load h5 fun _ => ?_
  refine Trip.load h16 fun _ => ?_
  refine Trip.store hP1 h16 w16 ?_
  refine Trip.load h14 fun _ => ?_
  refine Trip.store hP1 h14 w14 ?_
  exact Trip.pure trivial

set_option maxHeartbeats 2000000 in
/-- The initialisation sets the pointer. -/
theorem trip_k0_part53 (h4 : arg4.view.ref ∈ L) (h5 : arg5.view.ref ∈ L) (h13 : arg13.view.ref ∈ L) (h14 : arg14.view.ref ∈ L) (h15 : arg15.view.ref ∈ L) (h16 : arg16.view.ref ∈ L) (h21 : arg21.view.ref ∈ L) (w13 : arg13.view.ref ≠ arg21.view.ref) (w14 : arg14.view.ref ≠ arg21.view.ref) (w15 : arg15.view.ref ≠ arg21.view.ref) (w16 : arg16.view.ref ≠ arg21.view.ref) (hP1 : ∀ σ σ' : St sig (Elt F), σ' arg21.view.ref = σ arg21.view.ref → P σ → P σ') (hP0 : ∀ σ : St sig (Elt F), P (σ.set arg21.view.ref ((arg21.access (Rect.unit (s := S1) ![0] S1.size inb_S1_S1_0)).write (Elt F) (σ arg21.view.ref) (fun _ => (0#32 : BitVec 32)) Finset.univ))) :
    Trip U (defs₀ (F := F)) 𝒱₀ c bd L (fun _ => True) P (fun _ => True) (k0_part53 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) := by
  unfold k0_part53
  have w14 : arg14.view.ref ∈ {b : Ref sig .tc | b ≠ arg21.view.ref} := w14
  have w15 : arg15.view.ref ∈ {b : Ref sig .tc | b ≠ arg21.view.ref} := w15
  have w16 : arg16.view.ref ∈ {b : Ref sig .tc | b ≠ arg21.view.ref} := w16
  refine Trip.bind (trip_k0_part1 h4 h5 h13 h14 h16 h21 w13 w14 w16 hP1 hP0) fun r hr => ?_
  refine Trip.mods hP1 ?_ fun _ => ?_; unfold k0_part2; rotate_left
  refine Trip.mods hP1 ?_ fun _ => ?_; unfold k0_part3; rotate_left
  refine Trip.mods hP1 ?_ fun _ => ?_; unfold k0_part4; rotate_left
  refine Trip.mods hP1 ?_ fun _ => ?_; unfold k0_part5; rotate_left
  refine Trip.mods hP1 ?_ fun _ => ?_; unfold k0_part6; rotate_left
  refine Trip.mods hP1 ?_ fun _ => ?_; unfold k0_part7; rotate_left
  refine Trip.mods hP1 ?_ fun _ => ?_; unfold k0_part8; rotate_left
  refine Trip.mods hP1 ?_ fun _ => ?_; unfold k0_part9; rotate_left
  refine Trip.mods hP1 ?_ fun _ => ?_; unfold k0_part10; rotate_left
  refine Trip.mods hP1 ?_ fun _ => ?_; unfold k0_part11; rotate_left
  refine Trip.mods hP1 ?_ fun _ => ?_; unfold k0_part12; rotate_left
  refine Trip.mods hP1 ?_ fun _ => ?_; unfold k0_part13; rotate_left
  refine Trip.mods hP1 ?_ fun _ => ?_; unfold k0_part14; rotate_left
  refine Trip.mods hP1 ?_ fun _ => ?_; unfold k0_part15; rotate_left
  refine Trip.mods hP1 ?_ fun _ => ?_; unfold k0_part16; rotate_left
  refine Trip.mods hP1 ?_ fun _ => ?_; unfold k0_part17; rotate_left
  refine Trip.mods hP1 ?_ fun _ => ?_; unfold k0_part18; rotate_left
  refine Trip.mods hP1 ?_ fun _ => ?_; unfold k0_part19; rotate_left
  refine Trip.mods hP1 ?_ fun _ => ?_; unfold k0_part20; rotate_left
  refine Trip.mods hP1 ?_ fun _ => ?_; unfold k0_part21; rotate_left
  refine Trip.mods hP1 ?_ fun _ => ?_; unfold k0_part22; rotate_left
  refine Trip.mods hP1 ?_ fun _ => ?_; unfold k0_part23; rotate_left
  refine Trip.mods hP1 ?_ fun _ => ?_; unfold k0_part24; rotate_left
  refine Trip.mods hP1 ?_ fun _ => ?_; unfold k0_part25; rotate_left
  refine Trip.mods hP1 ?_ fun _ => ?_; unfold k0_part26; rotate_left
  refine Trip.mods hP1 ?_ fun _ => ?_; unfold k0_part27; rotate_left
  refine Trip.mods hP1 ?_ fun _ => ?_; unfold k0_part28; rotate_left
  refine Trip.mods hP1 ?_ fun _ => ?_; unfold k0_part29; rotate_left
  refine Trip.mods hP1 ?_ fun _ => ?_; unfold k0_part30; rotate_left
  refine Trip.mods hP1 ?_ fun _ => ?_; unfold k0_part31; rotate_left
  refine Trip.mods hP1 ?_ fun _ => ?_; unfold k0_part32; rotate_left
  refine Trip.mods hP1 ?_ fun _ => ?_; unfold k0_part33; rotate_left
  refine Trip.mods hP1 ?_ fun _ => ?_; unfold k0_part34; rotate_left
  refine Trip.mods hP1 ?_ fun _ => ?_; unfold k0_part35; rotate_left
  refine Trip.mods hP1 ?_ fun _ => ?_; unfold k0_part36; rotate_left
  refine Trip.mods hP1 ?_ fun _ => ?_; unfold k0_part37; rotate_left
  refine Trip.mods hP1 ?_ fun _ => ?_; unfold k0_part38; rotate_left
  refine Trip.mods hP1 ?_ fun _ => ?_; unfold k0_part39; rotate_left
  refine Trip.mods hP1 ?_ fun _ => ?_; unfold k0_part40; rotate_left
  refine Trip.mods hP1 ?_ fun _ => ?_; unfold k0_part41; rotate_left
  refine Trip.mods hP1 ?_ fun _ => ?_; unfold k0_part42; rotate_left
  refine Trip.mods hP1 ?_ fun _ => ?_; unfold k0_part43; rotate_left
  refine Trip.mods hP1 ?_ fun _ => ?_; unfold k0_part44; rotate_left
  refine Trip.mods hP1 ?_ fun _ => ?_; unfold k0_part45; rotate_left
  refine Trip.mods hP1 ?_ fun _ => ?_; unfold k0_part46; rotate_left
  refine Trip.mods hP1 ?_ fun _ => ?_; unfold k0_part47; rotate_left
  refine Trip.mods hP1 ?_ fun _ => ?_; unfold k0_part48; rotate_left
  refine Trip.mods hP1 ?_ fun _ => ?_; unfold k0_part49; rotate_left
  refine Trip.mods hP1 ?_ fun _ => ?_; unfold k0_part50; rotate_left
  refine Trip.mods hP1 ?_ fun _ => ?_; unfold k0_part51; rotate_left
  refine Trip.mods hP1 ?_ fun _ => ?_; unfold k0_part52; rotate_left
  refine Trip.load h14 fun _ => ?_
  refine Trip.store hP1 h14 w14 ?_
  exact Trip.pure trivial
  all_goals
    repeat with_reducible first
    | refine Mods.load (by assumption) fun _ => ?_
    | refine Mods.store (by assumption) (by assumption) ?_
    | dsimp only
    first | exact Mods.pure | exact Mods.load (by assumption) fun _ => Mods.pure

/-- The first half of the body: at the first point it sets the pointer, elsewhere it keeps it. -/
theorem trip_k0_part133 (h4 : arg4.view.ref ∈ L) (h5 : arg5.view.ref ∈ L) (h7 : arg7.view.ref ∈ L) (h10 : arg10.view.ref ∈ L) (h11 : arg11.view.ref ∈ L) (h12 : arg12.view.ref ∈ L) (h13 : arg13.view.ref ∈ L) (h14 : arg14.view.ref ∈ L) (h15 : arg15.view.ref ∈ L) (h16 : arg16.view.ref ∈ L) (h21 : arg21.view.ref ∈ L) (w7 : arg7.view.ref ≠ arg21.view.ref) (w10 : arg10.view.ref ≠ arg21.view.ref) (w11 : arg11.view.ref ≠ arg21.view.ref) (w12 : arg12.view.ref ≠ arg21.view.ref) (w13 : arg13.view.ref ≠ arg21.view.ref) (w14 : arg14.view.ref ≠ arg21.view.ref) (w15 : arg15.view.ref ≠ arg21.view.ref) (w16 : arg16.view.ref ≠ arg21.view.ref) (hP1 : ∀ σ σ' : St sig (Elt F), σ' arg21.view.ref = σ arg21.view.ref → P σ → P σ') (hP0 : ∀ σ : St sig (Elt F), P (σ.set arg21.view.ref ((arg21.access (Rect.unit (s := S1) ![0] S1.size inb_S1_S1_0)).write (Elt F) (σ arg21.view.ref) (fun _ => (0#32 : BitVec 32)) Finset.univ))) :
    Trip U (defs₀ (F := F)) 𝒱₀ c bd L (fun σ => k0_cond1 i = 1#1 ∨ P σ) P (fun _ => True) (k0_part133 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) := by
  unfold k0_part133
  refine Trip.dite (fun hc => ?_) fun hc => ?_
  ·
    refine trip_any ?_
    refine Trip.bind (trip_k0_part53 h4 h5 h13 h14 h15 h16 h21 w13 w14 w15 w16 hP1 hP0) fun r hr => ?_
    refine Trip.load h16 fun _ => ?_
    refine Trip.store hP1 h16 w16 ?_
    refine Trip.load h14 fun _ => ?_
    refine Trip.store hP1 h14 w14 ?_
    refine Trip.load h16 fun _ => ?_
    refine Trip.store hP1 h16 w16 ?_
    refine Trip.load h15 fun _ => ?_
    refine Trip.store hP1 h15 w15 ?_
    refine Trip.for hP1 (fun _ _ => ?_) fun _ => ?_
    ·
      refine Mods.load h10 fun _ => ?_
      refine Mods.store h10 w10 ?_
      refine Mods.load h11 fun _ => ?_
      refine Mods.store h11 w11 ?_
      refine Mods.load h12 fun _ => ?_
      refine Mods.store h12 w12 ?_
      exact Mods.pure
    refine Trip.load h13 fun _ => ?_
    refine Trip.for hP1 (fun _ _ => ?_) fun _ => ?_
    ·
      exact Mods.pure
    refine Trip.load h7 fun _ => ?_
    refine Trip.store hP1 h7 w7 ?_
    exact Trip.pure trivial
  ·
    refine trip_or hc ?_
    refine Trip.load h13 fun _ => ?_
    refine Trip.for hP1 (fun _ _ => ?_) fun _ => ?_
    ·
      exact Mods.pure
    refine Trip.load h7 fun _ => ?_
    refine Trip.store hP1 h7 w7 ?_
    exact Trip.pure trivial

/-- The second half of the body returns the pointer. -/
theorem trip_k0_part134 (arg0 : BitVec 32) (v6 : FVec F S1x256 .f32) (v35 : FVec F S256x128 .f32) (h1 : arg1.view.ref ∈ L) (h2 : arg2.view.ref ∈ L) (h3 : arg3.view.ref ∈ L) (h6 : arg6.view.ref ∈ L) (h7 : arg7.view.ref ∈ L) (h8 : arg8.view.ref ∈ L) (h10 : arg10.view.ref ∈ L) (h11 : arg11.view.ref ∈ L) (h12 : arg12.view.ref ∈ L) (h13 : arg13.view.ref ∈ L) (h14 : arg14.view.ref ∈ L) (h15 : arg15.view.ref ∈ L) (h16 : arg16.view.ref ∈ L) (h17 : arg17.view.ref ∈ L) (h18 : arg18.view.ref ∈ L) (h19 : arg19.view.ref ∈ L) (h20 : arg20.view.ref ∈ L) (h21 : arg21.view.ref ∈ L) (w6 : arg6.view.ref ≠ arg21.view.ref) (w7 : arg7.view.ref ≠ arg21.view.ref) (w8 : arg8.view.ref ≠ arg21.view.ref) (w10 : arg10.view.ref ≠ arg21.view.ref) (w11 : arg11.view.ref ≠ arg21.view.ref) (w12 : arg12.view.ref ≠ arg21.view.ref) (w13 : arg13.view.ref ≠ arg21.view.ref) (w17 : arg17.view.ref ≠ arg21.view.ref) (w18 : arg18.view.ref ≠ arg21.view.ref) (w19 : arg19.view.ref ≠ arg21.view.ref) (w20 : arg20.view.ref ≠ arg21.view.ref) (hP1 : ∀ σ σ' : St sig (Elt F), σ' arg21.view.ref = σ arg21.view.ref → P σ → P σ') (hPr : ∀ σ : St sig (Elt F), P σ → (arg21.view.readAt (Elt F) (Rect.unit (s := S1) ![0] S1.size inb_S1_S1_0).toLoadRect (σ arg21.view.ref) (Shape.Idx.first (numel1_S1.symm ▸ Nat.one_pos)) : BitVec 32).toNat ≤ 25) (hP2 : ∀ (σ : St sig (Elt F)) (v : BitVec 32), v.toNat ≤ 25 → P σ → P (σ.set arg21.view.ref ((arg21.access (Rect.unit (s := S1) ![0] S1.size inb_S1_S1_0)).write (Elt F) (σ arg21.view.ref) (fun _ => v) Finset.univ))) :
    Trip U (defs₀ (F := F)) 𝒱₀ c none L (P) P (fun _ => True) (k0_part134 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v6 v35) := by
  unfold k0_part134
  refine Trip.load h18 fun _ => ?_
  refine Trip.store hP1 h18 w18 ?_
  refine Trip.ite (fun hc => ?_) fun hc => ?_
  ·
    refine Trip.mods hP1 (mods_k0_part54 h7 h12 h19 w7 w19) fun _ => ?_
    refine Trip.load h3 fun _ => ?_
    refine Trip.load h17 fun _ => ?_
    refine Trip.store hP1 h17 w17 ?_
    refine Trip.load h13 fun _ => ?_
    refine Trip.store hP1 h13 w13 ?_
    refine Trip.for hP1 (fun _ _ => ?_) fun _ => ?_
    ·
      refine Mods.bind (mods_k0_part74 _ _ _ h2 h6 h10 h11 h12 h13 h14 h15 h17 h18 w6 w10 w11 w12 w13) fun _ => ?_
      refine Mods.load h12 fun _ => ?_
      refine Mods.store h12 w12 ?_
      refine Mods.load h13 fun _ => ?_
      refine Mods.store h13 w13 ?_
      exact Mods.pure
    refine Trip.ite (fun hc => ?_) fun hc => ?_
    ·
      refine Trip.mods hP1 (mods_k0_part75 h6 h19 w6) fun _ => ?_
      refine Trip.mods hP1 (mods_k0_part76 _ h6 h19 w6) fun _ => ?_
      refine Trip.mods hP1 (mods_k0_part77 h6 h19 w6) fun _ => ?_
      refine Trip.load h19 fun _ => ?_
      refine Trip.load h6 fun _ => ?_
      refine Trip.store hP1 h6 w6 ?_
      refine Trip.load h19 fun _ => ?_
      refine Trip.load h6 fun _ => ?_
      refine Trip.store hP1 h6 w6 ?_
      refine Trip.load h19 fun _ => ?_
      refine Trip.load h6 fun _ => ?_
      refine Trip.store hP1 h6 w6 ?_
      refine Trip.load h19 fun _ => ?_
      refine Trip.load h6 fun _ => ?_
      refine Trip.store hP1 h6 w6 ?_
      refine Trip.load h19 fun _ => ?_
      refine Trip.load h6 fun _ => ?_
      refine Trip.store hP1 h6 w6 ?_
      refine Trip.load h19 fun _ => ?_
      refine Trip.load h6 fun _ => ?_
      refine Trip.store hP1 h6 w6 ?_
      refine Trip.smem' (Q₁ := fun v : BitVec 32 => v.toNat ≤ 25) h21 hPr fun v hv => ?_
      refine Trip.call (25 - (v : BitVec 32).toNat) (fun u hu => by cases hu) (keeps_while (W := {b | b ≠ arg21.view.ref}) (P := P) loops_refl loops_trans (loops_of_mods hP1) hP1 (fun h => h rfl) hP2 h1 h8 h10 h12 h13 h16 h20 h21 w8 w12 w13 w20 _ _ _ (Nat.add_sub_cancel' hv)) (fun _ _ h => h.2) fun _ => ?_
      exact Trip.pure trivial
    ·
      refine Trip.smem' (Q₁ := fun v : BitVec 32 => v.toNat ≤ 25) h21 hPr fun v hv => ?_
      refine Trip.call (25 - (v : BitVec 32).toNat) (fun u hu => by cases hu) (keeps_while (W := {b | b ≠ arg21.view.ref}) (P := P) loops_refl loops_trans (loops_of_mods hP1) hP1 (fun h => h rfl) hP2 h1 h8 h10 h12 h13 h16 h20 h21 w8 w12 w13 w20 _ _ _ (Nat.add_sub_cancel' hv)) (fun _ _ h => h.2) fun _ => ?_
      exact Trip.pure trivial
  ·
    refine Trip.load h3 fun _ => ?_
    refine Trip.load h17 fun _ => ?_
    refine Trip.store hP1 h17 w17 ?_
    refine Trip.load h13 fun _ => ?_
    refine Trip.store hP1 h13 w13 ?_
    refine Trip.for hP1 (fun _ _ => ?_) fun _ => ?_
    ·
      refine Mods.bind (mods_k0_part74 _ _ _ h2 h6 h10 h11 h12 h13 h14 h15 h17 h18 w6 w10 w11 w12 w13) fun _ => ?_
      refine Mods.load h12 fun _ => ?_
      refine Mods.store h12 w12 ?_
      refine Mods.load h13 fun _ => ?_
      refine Mods.store h13 w13 ?_
      exact Mods.pure
    refine Trip.ite (fun hc => ?_) fun hc => ?_
    ·
      refine Trip.mods hP1 (mods_k0_part75 h6 h19 w6) fun _ => ?_
      refine Trip.mods hP1 (mods_k0_part76 _ h6 h19 w6) fun _ => ?_
      refine Trip.mods hP1 (mods_k0_part77 h6 h19 w6) fun _ => ?_
      refine Trip.load h19 fun _ => ?_
      refine Trip.load h6 fun _ => ?_
      refine Trip.store hP1 h6 w6 ?_
      refine Trip.load h19 fun _ => ?_
      refine Trip.load h6 fun _ => ?_
      refine Trip.store hP1 h6 w6 ?_
      refine Trip.load h19 fun _ => ?_
      refine Trip.load h6 fun _ => ?_
      refine Trip.store hP1 h6 w6 ?_
      refine Trip.load h19 fun _ => ?_
      refine Trip.load h6 fun _ => ?_
      refine Trip.store hP1 h6 w6 ?_
      refine Trip.load h19 fun _ => ?_
      refine Trip.load h6 fun _ => ?_
      refine Trip.store hP1 h6 w6 ?_
      refine Trip.load h19 fun _ => ?_
      refine Trip.load h6 fun _ => ?_
      refine Trip.store hP1 h6 w6 ?_
      refine Trip.smem' (Q₁ := fun v : BitVec 32 => v.toNat ≤ 25) h21 hPr fun v hv => ?_
      refine Trip.call (25 - (v : BitVec 32).toNat) (fun u hu => by cases hu) (keeps_while (W := {b | b ≠ arg21.view.ref}) (P := P) loops_refl loops_trans (loops_of_mods hP1) hP1 (fun h => h rfl) hP2 h1 h8 h10 h12 h13 h16 h20 h21 w8 w12 w13 w20 _ _ _ (Nat.add_sub_cancel' hv)) (fun _ _ h => h.2) fun _ => ?_
      exact Trip.pure trivial
    ·
      refine Trip.smem' (Q₁ := fun v : BitVec 32 => v.toNat ≤ 25) h21 hPr fun v hv => ?_
      refine Trip.call (25 - (v : BitVec 32).toNat) (fun u hu => by cases hu) (keeps_while (W := {b | b ≠ arg21.view.ref}) (P := P) loops_refl loops_trans (loops_of_mods hP1) hP1 (fun h => h rfl) hP2 h1 h8 h10 h12 h13 h16 h20 h21 w8 w12 w13 w20 _ _ _ (Nat.add_sub_cancel' hv)) (fun _ _ h => h.2) fun _ => ?_
      exact Trip.pure trivial

/-- The kernel's body runs at every point, and leaves the pointer in its range. -/
theorem trip_cc0_conv_silu_quant (h1 : arg1.view.ref ∈ L) (h2 : arg2.view.ref ∈ L) (h3 : arg3.view.ref ∈ L) (h4 : arg4.view.ref ∈ L) (h5 : arg5.view.ref ∈ L) (h6 : arg6.view.ref ∈ L) (h7 : arg7.view.ref ∈ L) (h8 : arg8.view.ref ∈ L) (h9 : arg9.view.ref ∈ L) (h10 : arg10.view.ref ∈ L) (h11 : arg11.view.ref ∈ L) (h12 : arg12.view.ref ∈ L) (h13 : arg13.view.ref ∈ L) (h14 : arg14.view.ref ∈ L) (h15 : arg15.view.ref ∈ L) (h16 : arg16.view.ref ∈ L) (h17 : arg17.view.ref ∈ L) (h18 : arg18.view.ref ∈ L) (h19 : arg19.view.ref ∈ L) (h20 : arg20.view.ref ∈ L) (h21 : arg21.view.ref ∈ L) (w6 : arg6.view.ref ≠ arg21.view.ref) (w7 : arg7.view.ref ≠ arg21.view.ref) (w8 : arg8.view.ref ≠ arg21.view.ref) (w9 : arg9.view.ref ≠ arg21.view.ref) (w10 : arg10.view.ref ≠ arg21.view.ref) (w11 : arg11.view.ref ≠ arg21.view.ref) (w12 : arg12.view.ref ≠ arg21.view.ref) (w13 : arg13.view.ref ≠ arg21.view.ref) (w14 : arg14.view.ref ≠ arg21.view.ref) (w15 : arg15.view.ref ≠ arg21.view.ref) (w16 : arg16.view.ref ≠ arg21.view.ref) (w17 : arg17.view.ref ≠ arg21.view.ref) (w18 : arg18.view.ref ≠ arg21.view.ref) (w19 : arg19.view.ref ≠ arg21.view.ref) (w20 : arg20.view.ref ≠ arg21.view.ref) (hP1 : ∀ σ σ' : St sig (Elt F), σ' arg21.view.ref = σ arg21.view.ref → P σ → P σ') (hP0 : ∀ σ : St sig (Elt F), P (σ.set arg21.view.ref ((arg21.access (Rect.unit (s := S1) ![0] S1.size inb_S1_S1_0)).write (Elt F) (σ arg21.view.ref) (fun _ => (0#32 : BitVec 32)) Finset.univ))) (hPr : ∀ σ : St sig (Elt F), P σ → (arg21.view.readAt (Elt F) (Rect.unit (s := S1) ![0] S1.size inb_S1_S1_0).toLoadRect (σ arg21.view.ref) (Shape.Idx.first (numel1_S1.symm ▸ Nat.one_pos)) : BitVec 32).toNat ≤ 25) (hP2 : ∀ (σ : St sig (Elt F)) (v : BitVec 32), v.toNat ≤ 25 → P σ → P (σ.set arg21.view.ref ((arg21.access (Rect.unit (s := S1) ![0] S1.size inb_S1_S1_0)).write (Elt F) (σ arg21.view.ref) (fun _ => v) Finset.univ))) :
    Trip U (defs₀ (F := F)) 𝒱₀ c none L (fun σ => k0_cond1 i = 1#1 ∨ P σ) P (fun _ => True) (cc0_conv_silu_quant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) := by
  unfold cc0_conv_silu_quant
  refine Trip.bind (trip_k0_part133 h4 h5 h7 h10 h11 h12 h13 h14 h15 h16 h21 w7 w10 w11 w12 w13 w14 w15 w16 hP1 hP0) fun r hr => ?_
  refine Trip.bind (trip_k0_part134 _ _ _ h1 h2 h3 h6 h7 h8 h10 h11 h12 h13 h14 h15 h16 h17 h18 h19 h20 h21 w6 w7 w8 w10 w11 w12 w13 w17 w18 w19 w20 hP1 hPr hP2) fun r hr => ?_
  refine Trip.dite (fun hc => ?_) fun hc => ?_
  ·
    refine Trip.mods hP1 (mods_k0_part132 h9 h20 w9) fun _ => ?_
    refine Trip.store hP1 h9 w9 ?_
    refine Trip.load h20 fun _ => ?_
    refine Trip.load h9 fun _ => ?_
    refine Trip.store hP1 h9 w9 ?_
    refine Trip.load h20 fun _ => ?_
    refine Trip.load h9 fun _ => ?_
    refine Trip.store hP1 h9 w9 ?_
    exact Trip.pure trivial
  ·
    exact Trip.pure trivial

end Cert.Proof.Kernel
-- ==== Proof.Kernel.Launch.lean ====
/-
  The launch of the kernel: from what the body does at one grid point (a run over the contents of the buffers it holds,
  with an invariant of the scratch buffers and a relation between what a staging buffer held and holds) to the run of the
  whole program.
-/
module

public import proofs.«01_k».proof.Kernel
public import proofs.«01_k».proof.Proof.Gen.Kernel.Launch
public import proofs.«01_k».proof.Proof.Gen.Kernel.Points
public import proofs.«01_k».proof.Proof.Hoare
public import proofs.«01_k».proof.Proof.Kernel.Base
public import Idealize.ShloMosaic.Lib.Pipeline.FrameSuffix

@[expose] public section

noncomputable section

namespace Cert.Proof.Kernel

open Cert.Kernel Cert.Kernel.Gen Cert.Proof.Hoare

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F] [BitOps F]

local notation "𝕄" => MT nD τ sig Unit (Elt F) ℕ (UR sig nD τ) ℕ

/-- The kernel's scratch buffers. -/
def scratchL : Finset (Ref sig .tc) :=
  {cc0_scratch0, cc0_scratch1, cc0_scratch2, cc0_scratch3, cc0_scratch4, cc0_scratch5, cc0_scratch6, cc0_scratch7, cc0_scratch8, cc0_scratch9, cc0_scratch10, cc0_scratch11}

/-- The buffer window `w` is staged in at point `t`. -/
abbrev stR (w : Fin 9) (t : Fin (cfg0 (F := F)).N) : Ref sig .tc := (((cfg0 (F := F)).win w).stage ((cfg0 (F := F)).slots t w)).view.ref

/-- The buffers the body holds at point `t`: each window's staging buffer, and the scratch. -/
def heldL (t : Fin (cfg0 (F := F)).N) : Finset (Ref sig .tc) := Finset.univ.image (fun w => stR w t) ∪ scratchL

/-- What window `w`'s block reads at contents `σ`. -/
abbrev rdW (w : Fin 9) (t : Fin (cfg0 (F := F)).N) (σ : St sig (Elt F)) : ((cfg0 (F := F)).win w).block.Idx → Elt F ((cfg0 (F := F)).win w).elt :=
  (((cfg0 (F := F)).win w).stage ((cfg0 (F := F)).slots t w)).view.read (Elt F) (σ (stR w t))

/-- The proof's data for the pipeline: what the arrays hold at entry, an invariant of the scratch, what may become of a
    staging buffer. -/
def rdat (V : (c : Dev nD) → (b : Ref sig .tc) → Buf (Elt F) ((c : Thread nD τ).loc b)) (I : ℕ → St sig (Elt F) → Prop)
    (after : (c : Dev nD) → (w : Fin 9) → Fin (cfg0 (F := F)).N → (Y X : ((cfg0 (F := F)).win w).block.Idx → Elt F ((cfg0 (F := F)).win w).elt) → Prop) (c : Dev nD) :
    RDat τ (Elt F) Unit ℕ (UR sig nD τ) ℕ (cfg0 (F := F)) c where
  A w := V c (Pipeline.arrRef spec0 w)
  after w t Y X := after c w t Y X
  Φ t := iprop((∃ σ : St sig (Elt F), ⌜I t.val σ⌝ ∗ Held c scratchL σ) ∗ ∃ r, prngReg c r)
  q _ := fullShare
  owed _ := 0

theorem stR_ne (t : Fin (cfg0 (F := F)).N) (w w' : Fin 9) (h : w ≠ w') : stR w t ≠ stR w' t := by
  have key : ∀ (w w' : Fin 9) (s : Fin (spec0 w).nbuf) (s' : Fin (spec0 w').nbuf), w ≠ w' → ((spec0 w).stage s).view.ref ≠ ((spec0 w').stage s').view.ref := by decide
  exact key w w' _ _ h

theorem stR_notin (t : Fin (cfg0 (F := F)).N) (w : Fin 9) : stR w t ∉ scratchL := by
  have key : ∀ (w : Fin 9) (s : Fin (spec0 w).nbuf), ((spec0 w).stage s).view.ref ∉ scratchL := by decide
  exact key w _

/-- What the body holds at a point: the staging buffers, one for each window, and the scratch. -/
theorem held_heldL (c : Dev nD) (t : Fin (cfg0 (F := F)).N) (σ : St sig (Elt F)) :
    (Held c (heldL t) σ : sProp 𝕄) = iprop((bigSep Finset.univ fun w : Fin 9 => (((c : Thread nD τ).loc (stR w t)) ↦{fullShare} (σ (stR w t) : Buf (Elt F) ((c : Thread nD τ).loc (stR w t)))))
      ∗ Held c scratchL σ) := by
  unfold Held heldL
  rw [bigSep_union (by
    rw [Finset.disjoint_left]
    intro b hb
    obtain ⟨w, -, rfl⟩ := Finset.mem_image.1 hb
    exact stR_notin t w)]
  rw [bigSep_image_of_injOn (fun w _ w' _ h => by_contra fun hne => stR_ne t w w' hne h)]
  rfl

theorem held_congr (c : Dev nD) {L : Finset (Ref sig .tc)} {σ σ' : St sig (Elt F)} (h : ∀ b ∈ L, σ b = σ' b) : (Held c L σ : sProp 𝕄) = Held c L σ' := by
  unfold Held
  exact bigSep_congr fun b hb => by rw [h b hb]

/-- Contents of the staging buffers and of the scratch, as contents of all. -/
theorem glue (t : Fin (cfg0 (F := F)).N) (f : (w : Fin 9) → (stR (F := F) w t).ty.Contents (Elt F)) (σ : St sig (Elt F)) :
    ∃ σ' : St sig (Elt F), (∀ w, σ' (stR w t) = f w) ∧ ∀ b ∈ scratchL, σ' b = σ b := by
  classical
  refine ⟨fun b => if h : ∃ w, stR w t = b then h.choose_spec ▸ f h.choose else σ b, fun w => ?_, fun b hb => ?_⟩
  · have h : ∃ w', stR (F := F) w' t = stR w t := ⟨w, rfl⟩
    have hw : h.choose = w := by_contra fun hne => stR_ne t _ _ hne h.choose_spec
    simp only [dif_pos h]
    have key : ∀ (w' : Fin 9) (e : stR (F := F) w' t = stR w t), w' = w → e ▸ f w' = f w := by
      intro w' e hh; subst hh; rfl
    exact key _ _ hw
  · exact dif_neg fun ⟨w, hw⟩ => stR_notin t w (hw ▸ hb)

variable {V : (c : Dev nD) → (b : Ref sig .tc) → Buf (Elt F) ((c : Thread nD τ).loc b)} {I : ℕ → St sig (Elt F) → Prop}
  {after : (c : Dev nD) → (w : Fin 9) → Fin (cfg0 (F := F)).N → (Y X : ((cfg0 (F := F)).win w).block.Idx → Elt F ((cfg0 (F := F)).win w).elt) → Prop}

/-- A staging buffer owned at what its block reads, as the buffer itself. -/
theorem owns_stage (c : Dev nD) (t : Fin (cfg0 (F := F)).N) (w : Fin 9) (X : ((cfg0 (F := F)).win w).block.Idx → Elt F ((cfg0 (F := F)).win w).elt) :
    (ownsTc c (((cfg0 (F := F)).win w).stage ((cfg0 (F := F)).slots t w)) fullShare X : sProp 𝕄)
      = iprop(∃ f : (stR (F := F) w t).ty.Contents (Elt F), ⌜(((cfg0 (F := F)).win w).stage ((cfg0 (F := F)).slots t w)).view.read (Elt F) f = X⌝
          ∗ (((c : Thread nD τ).loc (stR w t)) ↦{fullShare} (f : Buf (Elt F) ((c : Thread nD τ).loc (stR w t))))) := by
  unfold ownsTc owns
  rw [Memref.IsWhole.set_eq_univ (stage_whole0 w _)]

/-- The body's obligation, from a run at each point. -/
theorem body_ob (hloc : ∀ k σ σ', (∀ b ∈ scratchL, σ' b = σ b) → I k σ → I k σ')
    (h : ∀ (c : Dev nD) (t : Fin (cfg0 (F := F)).N) (σ : St sig (Elt F)), I t.val σ →
      (∀ w, (rdat V I after c).Finds w t (rdW w t σ)) →
      Runs (UR sig nD τ) (defs₀ (F := F)) 𝒱₀ c none (heldL t) σ (bodyAt0 t) fun _ σ' => I (t.val + 1) σ' ∧ ∀ w, after c w t (rdW w t σ) (rdW w t σ'))
    (c : Dev nD) : (rdat V I after c).BodyObligation (defs₀ (F := F)) 𝒱₀ () Set.univ := fun t Y hY => by
  show iprop((rdat V I after c).Φ t.castSucc ∗ (rdat V I after c).owesAt () t.castSucc
      ∗ bigSep Finset.univ fun w : Fin 9 => ownsTc c (((cfg0 (F := F)).win w).stage ((cfg0 (F := F)).slots t w)) fullShare (Y w))
    ⊢ wp frame (wpE (defs₀ (F := F)) 𝒱₀ c none) Set.univ (bodyAt0 t) (fun _ => iprop((rdat V I after c).Φ t.succ ∗ (rdat V I after c).owesAt () t.succ
      ∗ bigSep Finset.univ fun w : Fin 9 => iprop(∃ X, ⌜after c w t (Y w) X⌝ ∗ ownsTc c (((cfg0 (F := F)).win w).stage ((cfg0 (F := F)).slots t w)) fullShare X)))
  rw [bigSep_congr fun w _ => owns_stage c t w (Y w), show (rdat V I after c).Φ t.castSucc = iprop((∃ σ : St sig (Elt F), ⌜I t.val σ⌝ ∗ Held c scratchL σ) ∗ ∃ r, prngReg c r) from rfl,
    show (rdat V I after c).Φ t.succ = iprop((∃ σ : St sig (Elt F), ⌜I (t.val + 1) σ⌝ ∗ Held c scratchL σ) ∗ ∃ r, prngReg c r) from rfl,
    show (rdat V I after c).owesAt () t.succ = (rdat V I after c).owesAt () t.castSucc from rfl]
  iintro ⟨⟨⟨%σ0, %hI, Hs⟩, Hg⟩, Ho, Hf⟩
  ihave Hf := (bigSep_exists_pi Finset.univ _) $$ Hf
  icases Hf with ⟨%f, Hf⟩
  ihave Hf := (bigSep_pure_sep Finset.univ _ _) $$ Hf
  icases Hf with ⟨%hf, Hf⟩
  obtain ⟨σ, hσw, hσs⟩ := glue t f σ0
  have hIσ : I t.val σ := hloc _ _ _ hσs hI
  have hYσ : ∀ w, rdW w t σ = Y w := fun w => by
    show View.read _ _ (σ (stR w t)) = _
    rw [hσw]; exact hf w (Finset.mem_univ w)
  have hrun := h c t σ hIσ (fun w => by rw [hYσ]; exact hY w)
  unfold Runs at hrun
  rw [held_heldL, held_congr c hσs, bigSep_congr fun w _ => by rw [hσw w]] at hrun
  ihave Hw := hrun $$ [Hf Hs]
  · isplitl [Hf] <;> iassumption
  iapply (wp_wand _ _ _) $$ Hw
  iintro %_ ⟨%σ', ⟨%hI', %ha⟩, H⟩
  ihave H := (show (Held c (heldL t) σ' : sProp 𝕄) ⊢ iprop((bigSep Finset.univ fun w : Fin 9 => (((c : Thread nD τ).loc (stR w t)) ↦{fullShare} (σ' (stR w t) : Buf (Elt F) ((c : Thread nD τ).loc (stR w t)))))
      ∗ Held c scratchL σ') from by rw [held_heldL]) $$ H
  icases H with ⟨Hf, Hs⟩
  isplitl [Hs Hg]
  · isplitl [Hs]
    · iexists σ'
      isplitr
      · ipureintro; exact hI'
      iexact Hs
    iexact Hg
  isplitl [Ho]
  · iexact Ho
  have hback : (bigSep Finset.univ fun w : Fin 9 => (((c : Thread nD τ).loc (stR w t)) ↦{fullShare} (σ' (stR w t) : Buf (Elt F) ((c : Thread nD τ).loc (stR w t)))) : sProp 𝕄)
      ⊢ bigSep Finset.univ fun w : Fin 9 => iprop(∃ X, ⌜after c w t (Y w) X⌝ ∗ ownsTc c (((cfg0 (F := F)).win w).stage ((cfg0 (F := F)).slots t w)) fullShare X) := by
    refine bigSep_mono fun w _ => ?_
    show iprop((((c : Thread nD τ).loc (stR w t)) ↦{fullShare} (σ' (stR w t) : Buf (Elt F) ((c : Thread nD τ).loc (stR w t))))) ⊢
      iprop(∃ X, ⌜after c w t (Y w) X⌝ ∗ ownsTc c (((cfg0 (F := F)).win w).stage ((cfg0 (F := F)).slots t w)) fullShare X)
    iintro H
    iexists rdW w t σ'
    isplitr
    · ipureintro
      have := ha w
      rwa [hYσ] at this
    rw [owns_stage]
    iexists σ' (stR w t)
    isplitr
    · ipureintro; rfl
    iexact H
  iapply hback
  iexact Hf

/-- The buffers the host's lines after the kernel write. -/
def tailT : Finset (Ref sig .tc) := {main_v4, main_v5, main_v6, main_v7}

/-- What a core's buffers hold when the kernel starts: the host's lines before it have run. -/
def V₀ (m : (ℓ : Loc nD τ sig) → Buf (Elt F) ℓ) (c : Dev nD) : Valuation τ sig (Elt F) :=
  StableHlo.after (hostOps0 : List (HloOp τ sig (Elt F))) (fun b => m (c, b))

theorem scoped_eq : (Finset.univ.filter fun b : Ref sig .tc => b.isScoped) \ Finset.univ.image (Pipeline.stageRef spec0) = scratchL := by decide

theorem hostOps0_fresh : (hostOps0 : List (HloOp τ sig (Elt F))).Forall fun op => op.fresh = ∅ := by
  simp only [hostOps0, List.Forall]; exact ⟨rfl, rfl, rfl⟩

theorem hostOps1_fresh : (hostOps1 : List (HloOp τ sig (Elt F))).Forall fun op => op.fresh = ∅ := by
  simp only [hostOps1, List.Forall]; exact ⟨rfl, rfl, rfl, rfl⟩

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 winFacts0.arr_unscoped]
  intro ops hops op hop
  simp only [List.mem_cons, List.mem_nil_iff, or_false] at hops
  subst hops
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  rcases hop with rfl | rfl | rfl | rfl
  all_goals intro w; fin_cases w <;> simp only [StableHlo.reshape_writes, StableHlo.unary_writes, Finset.mem_singleton] <;> exact StableHlo.devRef_ne_of_ne (by decide)

theorem sfx_writes : ∀ ops ∈ ([hostOps1] : List (List (HloOp τ sig (Elt F)))), ∀ op ∈ ops,
    ∀ b : Ref sig .tc, Proc.devRef .tc b ∈ op.writes → b ∈ tailT := by
  intro ops hops op hop
  simp only [List.mem_cons, List.mem_nil_iff, or_false] at hops
  subst hops
  simp only [hostOps1, List.mem_cons, List.mem_nil_iff, or_false] at hop
  rcases hop with rfl | rfl | rfl | rfl
  all_goals intro b hb; simp only [StableHlo.reshape_writes, StableHlo.unary_writes, Finset.mem_singleton] at hb; cases Proc.devRef_injective _ hb; decide

/-- No line before the kernel writes a buffer but its own result. -/
theorem V₀_of_ne (m : (ℓ : Loc nD τ sig) → Buf (Elt F) ℓ) (c : Dev nD) (b : Ref sig .tc) (h0 : b ≠ main_v0) (h1 : b ≠ main_v1) (h2 : b ≠ main_v2) :
    V₀ m c (Proc.devRef .tc b) = m ((c : Thread nD τ).loc b) :=
  StableHlo.after_of_forall_not_mem (b := Proc.devRef .tc b) _ _ (List.forall_iff_forall_mem.mp (by
    simp only [hostOps0, List.Forall, StableHlo.reshape_writes, StableHlo.unary_writes, Finset.mem_singleton]
    exact ⟨StableHlo.devRef_ne_of_ne h0, StableHlo.devRef_ne_of_ne h1, StableHlo.devRef_ne_of_ne h2⟩))

theorem scoped_in (c : Dev nD) : (Pipeline.scopedRest (Ix := Unit) (Name := ℕ) (U := UR sig nD τ) (Lvl := ℕ) (Val := Elt F) spec0 c : sProp 𝕄) ⊢ iprop(∃ σ : St sig (Elt F), Held c scratchL σ) := by
  unfold Pipeline.scopedRest Held
  rw [scoped_eq]
  exact bigSep_exists_pi (Y := fun b : Ref sig .tc => b.ty.Contents (Elt F)) scratchL fun b f => (((c : Thread nD τ).loc b) ↦{fullShare} (f : Buf (Elt F) ((c : Thread nD τ).loc b)))

theorem scoped_out (c : Dev nD) (σ : St sig (Elt F)) : (Held c scratchL σ : sProp 𝕄) ⊢ Pipeline.scopedRest (Ix := Unit) (Name := ℕ) (U := UR sig nD τ) (Lvl := ℕ) (Val := Elt F) spec0 c := by
  unfold Pipeline.scopedRest Held
  rw [scoped_eq]
  refine bigSep_mono fun b _ => ?_
  · show iprop((((c : Thread nD τ).loc b) ↦{fullShare} (σ b : Buf (Elt F) ((c : Thread nD τ).loc b)))) ⊢ iprop(∃ f : Buf (Elt F) ((c : Thread nD τ).loc b), ((c : Thread nD τ).loc b) ↦{fullShare} f)
    iintro H
    iexists σ b
    iexact H

/-- The run of the whole program: every array of the pipeline ends at contents the relation allows, every other buffer that
    no line after the kernel writes ends as it was, and every semaphore at zero. -/
theorem run_main (I : ℕ → St sig (Elt F) → Prop)
    (after : ((ℓ : Loc nD τ sig) → Buf (Elt F) ℓ) → (c : Dev nD) → (w : Fin 9) → Fin (cfg0 (F := F)).N → (Y X : ((cfg0 (F := F)).win w).block.Idx → Elt F ((cfg0 (F := F)).win w).elt) → Prop)
    (m : (ℓ : Loc nD τ sig) → Buf (Elt F) ℓ) (g : Dev nD → PrngReg)
    (hloc : ∀ k σ σ', (∀ b ∈ scratchL, σ' b = σ b) → I k σ → I k σ') (h0 : ∀ σ, I 0 σ)
    (h : ∀ (c : Dev nD) (t : Fin (cfg0 (F := F)).N) (σ : St sig (Elt F)), I t.val σ →
      (∀ w, (rdat (fun c b => V₀ m c (Proc.devRef .tc b)) I (after m) c).Finds w t (rdW w t σ)) →
      Runs (UR sig nD τ) (defs₀ (F := F)) 𝒱₀ c none (heldL t) σ (bodyAt0 t) fun _ σ' => I (t.val + 1) σ' ∧ ∀ w, after m c w t (rdW w t σ) (rdW w t σ')) :
    θ_run (defs (F := F)) (onTc (τ := τ) (main (F := F))) ⟨m, fun _ => 0, g⟩ fun r =>
      RDat.FramePostR (cfg0 (F := F)) (rdat (fun c b => V₀ m c (Proc.devRef .tc b)) I (after m)) tailT (fun c b => V₀ m c (Proc.devRef .tc b)) r
        ∧ r.2.sem = fun _ => 0 :=
  RDat.θ_run_frame_around_T_track (cfgs (F := F)) 0 launch0 defs₀ 𝒱₀ (rdat (fun c b => V₀ m c (Proc.devRef .tc b)) I (after m)) tailT m g main
    (fun c => body_ob hloc h c)
    (fun c w => by unfold RDat.share; split <;> rfl) (fun _ _ => rfl) (V₀ m) [hostOps1]
    sfx_sub sfx_fresh sfx_keeps sfx_writes
    (Pipeline.hmain_around cfgs 0 defs₀ 𝒱₀ m main [hostOps0] [hostOps1] (by simp only [List.Forall]; exact hostOps0_sub) (by simp only [List.Forall]; exact hostOps0_fresh) main_chain)
    (fun _ _ => rfl)
    (fun c => by
      show iprop(Pipeline.scopedRest spec0 c ∗ ∃ r, prngReg c r) ⊢ iprop((∃ σ : St sig (Elt F), ⌜I 0 σ⌝ ∗ Held c scratchL σ) ∗ ∃ r, prngReg c r)
      iintro ⟨H, Hg⟩
      isplitl [H]
      · ihave H := (scoped_in c) $$ H
        icases H with ⟨%σ, H⟩
        iexists σ
        isplitr
        · ipureintro; exact h0 σ
        iexact H
      iexact Hg)
    (fun c => by
      show iprop((∃ σ : St sig (Elt F), ⌜I (Fin.last (cfg0 (F := F)).N).val σ⌝ ∗ Held c scratchL σ) ∗ ∃ r, prngReg c r) ⊢ iprop(Pipeline.scopedRest spec0 c ∗ ∃ r, prngReg c r)
      iintro ⟨⟨%σ, -, H⟩, Hg⟩
      isplitl [H]
      · iapply (scoped_out c σ); iexact H
      iexact Hg) _ (fun _ h => h)

end Cert.Proof.Kernel
-- ==== Proof.Kernel.Frame.lean ====
/-
  The frame of the program: from any memory it runs to its end, no check fails, its arguments end as they began and every
  semaphore ends at zero. The invariant: from the second grid point on, the pointer is at most 25.
-/
module

public import proofs.«01_k».proof.Proof.Kernel.Body
public import proofs.«01_k».proof.Proof.Kernel.Launch

@[expose] public section

noncomputable section

namespace Cert.Proof.Kernel

open Cert.Kernel Cert.Kernel.Gen Cert.Proof.Hoare

open Idealize.ShloMosaic Idealize.ShloMosaic.TcCoe
open Idealize.SL Idealize.SL.RA Idealize.SL.Sem
open Idealize.ShloMosaic.Rounds
open Idealize.ShloMosaic.Pipeline (RDat Cfg Window)

variable {F : FTy → Type} [FloatOps F] [BitOps F]

/-- The pointer is in its range. -/
def PtrOk (σ : St sig (Elt F)) : Prop := ∀ x : S1.Idx, ((σ cc0_scratch11 : S1.Idx → BitVec 32) x).toNat ≤ 25

theorem ptrOk_congr (σ σ' : St sig (Elt F)) (h : σ' cc0_scratch11 = σ cc0_scratch11) (hp : PtrOk σ) : PtrOk σ' := by
  unfold PtrOk at *; rw [h]; exact hp

theorem ptr_read (f : S1.Idx → BitVec 32) (x) :
    ((Memref.whole cc0_scratch11).view.readAt (Elt F) (Rect.unit (s := S1) ![0] S1.size inb_S1_S1_0).toLoadRect f x : BitVec 32) = f x := by
  have : ∀ x y : S1.Idx, x = y := by decide
  exact congrArg f (this _ _)

theorem ptr_write (f : S1.Idx → BitVec 32) (v : BitVec 32) (x : S1.Idx) :
    (((Memref.whole cc0_scratch11).access (Rect.unit (s := S1) ![0] S1.size inb_S1_S1_0)).write (Elt F) f (fun _ => v) Finset.univ : S1.Idx → BitVec 32) x = v := by
  have key : ∀ x y : S1.Idx, x = y := by decide
  have h := View.read_write_univ (Val := Elt F) (v := (Memref.whole cc0_scratch11).access (Rect.unit (s := S1) ![0] S1.size inb_S1_S1_0)) f (fun _ => v)
  have h1 := congrFun h x
  refine Eq.trans ?_ h1
  exact congrArg _ (key _ _)

theorem ptrOk_set (σ : St sig (Elt F)) (v : BitVec 32) (hv : v.toNat ≤ 25) (_ : PtrOk σ) :
    PtrOk (σ.set cc0_scratch11 (((Memref.whole cc0_scratch11).access (Rect.unit (s := S1) ![0] S1.size inb_S1_S1_0)).write (Elt F) (σ cc0_scratch11) (fun _ => v) Finset.univ)) := by
  intro x
  rw [St.set_self]
  exact (congrArg BitVec.toNat (ptr_write (F := F) (σ cc0_scratch11) v x)).trans_le hv

theorem ptrOk_zero (σ : St sig (Elt F)) :
    PtrOk (σ.set cc0_scratch11 (((Memref.whole cc0_scratch11).access (Rect.unit (s := S1) ![0] S1.size inb_S1_S1_0)).write (Elt F) (σ cc0_scratch11) (fun _ => (0#32 : BitVec 32)) Finset.univ)) := by
  intro x
  rw [St.set_self]
  exact (congrArg BitVec.toNat (ptr_write (F := F) (σ cc0_scratch11) 0#32 x)).trans_le (by decide)

theorem ptrOk_read (σ : St sig (Elt F)) (h : PtrOk σ) :
    ((Memref.whole cc0_scratch11).view.readAt (Elt F) (Rect.unit (s := S1) ![0] S1.size inb_S1_S1_0).toLoadRect (σ cc0_scratch11) (Shape.Idx.first (numel1_S1.symm ▸ Nat.one_pos)) : BitVec 32).toNat ≤ 25 :=
  (congrArg BitVec.toNat (ptr_read (F := F) (σ cc0_scratch11) _)).trans_le (h _)

theorem mem_stage (t : Fin (cfg0 (F := F)).N) (w : Fin 9) : stR w t ∈ heldL t := Finset.mem_union_left _ (Finset.mem_image_of_mem _ (Finset.mem_univ w))

theorem mem_scratch (t : Fin (cfg0 (F := F)).N) {b : Ref sig .tc} (h : b ∈ scratchL) : b ∈ heldL t := Finset.mem_union_right _ h

theorem stage_ne (t : Fin (cfg0 (F := F)).N) (w : Fin 9) : stR w t ≠ cc0_scratch11 := fun h => stR_notin t w (h ▸ by decide)

theorem cond1_zero (t : Fin (cfg0 (F := F)).N) (h : t.val = 0) : k0_cond1 (grid0.coords t) = 1#1 := by
  have key : ∀ t : Fin grid0.N, t.val = 0 → k0_cond1 (grid0.coords t) = 1#1 := by
    intro t h
    have : t = ⟨0, by decide⟩ := Fin.ext h
    subst this
    decide
  exact key t h

/-- The kernel's body at any point. -/
theorem body_trip (c : Dev nD) (t : Fin (cfg0 (F := F)).N) :
    Trip (UR sig nD τ) (defs₀ (F := F)) 𝒱₀ c none (heldL t) (fun σ => k0_cond1 (grid0.coords t) = 1#1 ∨ PtrOk σ) PtrOk (fun _ => True) (bodyAt0 t) :=
  trip_cc0_conv_silu_quant (mem_stage t 0) (mem_stage t 1) (mem_stage t 2) (mem_stage t 3) (mem_stage t 4) (mem_stage t 5) (mem_stage t 6) (mem_stage t 7) (mem_stage t 8) (mem_scratch t (by decide)) (mem_scratch t (by decide)) (mem_scratch t (by decide)) (mem_scratch t (by decide)) (mem_scratch t (by decide)) (mem_scratch t (by decide)) (mem_scratch t (by decide)) (mem_scratch t (by decide)) (mem_scratch t (by decide)) (mem_scratch t (by decide)) (mem_scratch t (by decide)) (mem_scratch t (by decide)) (stage_ne t 5) (stage_ne t 6) (stage_ne t 7) (stage_ne t 8) (by decide) (by decide) (by decide) (by decide) (by decide) (by decide) (by decide) (by decide) (by decide) (by decide) (by decide) ptrOk_congr ptrOk_zero ptrOk_read ptrOk_set

/-- The run of the program, of whose results nothing is said. -/
theorem run_frame (m : (ℓ : Loc nD τ sig) → Buf (Elt F) ℓ) (g : Dev nD → PrngReg) :
    θ_run (defs (F := F)) (onTc (τ := τ) (main (F := F))) ⟨m, fun _ => 0, g⟩ fun r =>
      RDat.FramePostR (cfg0 (F := F)) (rdat (fun c b => V₀ m c (Proc.devRef .tc b)) (fun k σ => k = 0 ∨ PtrOk σ) (fun _ _ _ _ _ => True)) tailT (fun c b => V₀ m c (Proc.devRef .tc b)) r
        ∧ r.2.sem = fun _ => 0 :=
  run_main (fun k σ => k = 0 ∨ PtrOk σ) (fun _ _ _ _ _ _ => True) m g
    (fun k σ σ' h hi => hi.imp id (ptrOk_congr σ σ' (h _ (by decide)))) (fun _ => .inl rfl)
    (fun c t σ hI _ => Runs.mono (body_trip c t σ (hI.imp (cond1_zero t) id)) fun _ σ' h => ⟨.inr h.1, fun _ => trivial⟩)

theorem rest_mem (b : Ref sig .tc) (h : b = main_arg1 ∨ b = main_arg3 ∨ b = main_arg4) : b ∈ Pipeline.restRefs sig spec0 \ tailT := by
  rcases h with rfl | rfl | rfl <;> decide

/-- What a run that keeps its input arrays says of the arguments. -/
theorem args_of {m : (ℓ : Loc nD τ sig) → Buf (Elt F) ℓ} {r : PUnit × MemSt nD τ sig (Elt F)}
    {I : ℕ → St sig (Elt F) → Prop} {after : (c : Dev nD) → (w : Fin 9) → Fin (cfg0 (F := F)).N → (Y X : ((cfg0 (F := F)).win w).block.Idx → Elt F ((cfg0 (F := F)).win w).elt) → Prop}
    (h : RDat.FramePostR (cfg0 (F := F)) (rdat (fun c b => V₀ m c (Proc.devRef .tc b)) I after) tailT (fun c b => V₀ m c (Proc.devRef .tc b)) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  ⟨(h.arr_in c 1 rfl).trans (V₀_of_ne m c main_arg0 (by decide) (by decide) (by decide)),
   ((h c).2 _ (rest_mem _ (.inl rfl))).trans (V₀_of_ne m c main_arg1 (by decide) (by decide) (by decide)),
   (h.arr_in c 0 rfl).trans (V₀_of_ne m c main_arg2 (by decide) (by decide) (by decide)),
   ((h c).2 _ (rest_mem _ (.inr (.inl rfl)))).trans (V₀_of_ne m c main_arg3 (by decide) (by decide) (by decide)),
   ((h c).2 _ (rest_mem _ (.inr (.inr rfl)))).trans (V₀_of_ne m c main_arg4 (by decide) (by decide) (by decide))⟩

/-- From any memory the program runs to its end, leaves its arguments as they were and every semaphore at zero. -/
theorem frame (m : (ℓ : Loc nD τ sig) → Buf (Elt F) ℓ) (g : Dev nD → PrngReg) :
    θ_run (defs (F := F)) (onTc (τ := τ) (main (F := F))) ⟨m, fun _ => 0, g⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0 :=
  (θ_run (defs (F := F)) _ _).mono (fun r h => ⟨args_of h.1, h.2⟩) (run_frame m g)

end Cert.Proof.Kernel
-- ==== Proof.KernelIdeal.Base.lean ====
module

public import proofs.«01_k».proof.KernelIdeal
public import proofs.«01_k».proof.Proof.Gen.KernelIdeal.Launch
public import proofs.«01_k».proof.Proof.Hoare

@[expose] public section

noncomputable section

namespace Cert.Proof.KernelIdeal

open Cert.KernelIdeal Cert.KernelIdeal.Gen Cert.Proof.Hoare

open Idealize.ShloMosaic Idealize.SL.Sem Idealize.SL.RA

/-! The variants of the program's labels. -/
variable {F : FTy → Type} [FloatOps F] {U : Type} [URA U]

/-- The variants: the trips the head loop has still to run. -/
abbrev 𝒱₀ : Variants := Variants.nat

end Cert.Proof.KernelIdeal
-- ==== Proof.KernelIdeal.ModsMain.lean ====
module

public import proofs.«01_k».proof.KernelIdeal
public import proofs.«01_k».proof.Proof.Gen.KernelIdeal.Launch
public import proofs.«01_k».proof.Proof.Hoare
public import proofs.«01_k».proof.Proof.KernelIdeal.Base

@[expose] public section

noncomputable section

namespace Cert.Proof.KernelIdeal

open Cert.KernelIdeal Cert.KernelIdeal.Gen Cert.Proof.Hoare

open Idealize.ShloMosaic Idealize.SL.Sem Idealize.SL.RA

variable {F : FTy → Type} [FloatOps F] {U : Type} [URA U]

variable {c : Dev nD} {bd : Option 𝒱₀.V} {L : Finset (Ref sig .tc)} {W : Set (Ref sig .tc)}

variable {i : grid0.Coords}
variable {arg1 : Memref sig .tc .smem S25 .i32} {harg1 : arg1.IsWhole}
variable {arg2 : Memref sig .tc .vmem S256x3328 .fp8e4m3} {harg2 : arg2.IsWhole}
variable {arg3 : Memref sig .tc .vmem S1x1x256 .f32} {harg3 : arg3.IsWhole}
variable {arg4 : Memref sig .tc .vmem S4x3328 .bf16} {harg4 : arg4.IsWhole}
variable {arg5 : Memref sig .tc .vmem S1x3328 .bf16} {harg5 : arg5.IsWhole}
variable {arg6 : Memref sig .tc .vmem S256x3328 .fp8e4m3} {harg6 : arg6.IsWhole}
variable {arg7 : Memref sig .tc .vmem S1x1x256 .f32} {harg7 : arg7.IsWhole}
variable {arg8 : Memref sig .tc .vmem S3x3x208x128 .f32} {harg8 : arg8.IsWhole}
variable {arg9 : Memref sig .tc .vmem S3x24x3328 .bf16} {harg9 : arg9.IsWhole}
variable {arg10 : Memref sig .tc .vmem S3536x2x128 .bf16} {harg10 : arg10.IsWhole}
variable {arg11 : Memref sig .tc .vmem S6864x128 .f32} {harg11 : arg11.IsWhole}
variable {arg12 : Memref sig .tc .vmem S6656x128 .f32} {harg12 : arg12.IsWhole}
variable {arg13 : Memref sig .tc .vmem S256x128 .f32} {harg13 : arg13.IsWhole}
variable {arg14 : Memref sig .tc .vmem S26x256x256 .bf16} {harg14 : arg14.IsWhole}
variable {arg15 : Memref sig .tc .vmem S26x8x128 .f32} {harg15 : arg15.IsWhole}
variable {arg16 : Memref sig .tc .vmem S5x26x128 .f32} {harg16 : arg16.IsWhole}
variable {arg17 : Memref sig .tc .vmem S128x2x128 .bf16} {harg17 : arg17.IsWhole}
variable {arg18 : Memref sig .tc .vmem S256x128 .f32} {harg18 : arg18.IsWhole}
variable {arg19 : Memref sig .tc .vmem S26x256x128 .fp8e4m3} {harg19 : arg19.IsWhole}
variable {arg20 : Memref sig .tc .vmem S3x3x208x128 .f32} {harg20 : arg20.IsWhole}
variable {arg21 : Memref sig .tc .smem S1 .i32} {harg21 : arg21.IsWhole}

/-! One theorem per window of the kernel's body: it runs, and changes only the buffers it stores to. -/

theorem mods_k0_part54 (h7 : arg7.view.ref ∈ L) (h12 : arg12.view.ref ∈ L) (h19 : arg19.view.ref ∈ L) (w7 : arg7.view.ref ∈ W) (w19 : arg19.view.ref ∈ W) :
    Mods U (defs₀ (F := F)) 𝒱₀ c bd L W (k0_part54 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) := by
  unfold k0_part54
  refine Mods.for (fun _ _ => ?_) fun _ => ?_
  ·
    refine Mods.load h12 fun _ => ?_
    exact Mods.pure
  refine Mods.for (fun _ _ => ?_) fun _ => ?_
  ·
    exact Mods.pure
  refine Mods.load h7 fun _ => ?_
  refine Mods.store h7 w7 ?_
  refine Mods.for (fun _ _ => ?_) fun _ => ?_
  ·
    refine Mods.load h12 fun _ => ?_
    refine Mods.load h19 fun _ => ?_
    refine Mods.store h19 w19 ?_
    exact Mods.pure
  exact Mods.pure

theorem mods_k0_part55 (c0_i32_25 c1_i32_26 k0_t6) (h6 : arg6.view.ref ∈ L) (h12 : arg12.view.ref ∈ L) (h18 : arg18.view.ref ∈ L) (w6 : arg6.view.ref ∈ W) :
    Mods U (defs₀ (F := F)) 𝒱₀ c bd L W (k0_part55 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c0_i32_25 c1_i32_26 k0_t6) := by
  unfold k0_part55
  repeat with_reducible first
  | refine Mods.load (by assumption) fun _ => ?_
  | refine Mods.store (by assumption) (by assumption) ?_
  | dsimp only
  exact Mods.pure

theorem mods_k0_part56 (k0_t6 v72 v75 v105) (h6 : arg6.view.ref ∈ L) (h12 : arg12.view.ref ∈ L) (h18 : arg18.view.ref ∈ L) (w6 : arg6.view.ref ∈ W) :
    Mods U (defs₀ (F := F)) 𝒱₀ c bd L W (k0_part56 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v72 v75 v105) := by
  unfold k0_part56
  repeat with_reducible first
  | refine Mods.load (by assumption) fun _ => ?_
  | refine Mods.store (by assumption) (by assumption) ?_
  | dsimp only
  exact Mods.pure

theorem mods_k0_part57 (k0_t6 v72 v75) (h6 : arg6.view.ref ∈ L) (h12 : arg12.view.ref ∈ L) (h18 : arg18.view.ref ∈ L) (w6 : arg6.view.ref ∈ W) :
    Mods U (defs₀ (F := F)) 𝒱₀ c bd L W (k0_part57 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v72 v75) := by
  unfold k0_part57
  repeat with_reducible first
  | refine Mods.load (by assumption) fun _ => ?_
  | refine Mods.store (by assumption) (by assumption) ?_
  | dsimp only
  exact Mods.pure

theorem mods_k0_part58 (k0_t6 v72 v75 v180 cst_78 cst_79) (h6 : arg6.view.ref ∈ L) (h10 : arg10.view.ref ∈ L) (h12 : arg12.view.ref ∈ L) (h18 : arg18.view.ref ∈ L) (w6 : arg6.view.ref ∈ W) :
    Mods U (defs₀ (F := F)) 𝒱₀ c bd L W (k0_part58 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v72 v75 v180 cst_78 cst_79) := by
  unfold k0_part58
  repeat with_reducible first
  | refine Mods.load (by assumption) fun _ => ?_
  | refine Mods.store (by assumption) (by assumption) ?_
  | dsimp only
  exact Mods.pure

theorem mods_k0_part59 (k0_t6 v72 v75 v206 v209 v216_lo v216_hi) (h2 : arg2.view.ref ∈ L) (h10 : arg10.view.ref ∈ L) (h11 : arg11.view.ref ∈ L) (h14 : arg14.view.ref ∈ L) (h17 : arg17.view.ref ∈ L) (w10 : arg10.view.ref ∈ W) (w11 : arg11.view.ref ∈ W) :
    Mods U (defs₀ (F := F)) 𝒱₀ c bd L W (k0_part59 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v72 v75 v206 v209 v216_lo v216_hi) := by
  unfold k0_part59
  repeat with_reducible first
  | refine Mods.load (by assumption) fun _ => ?_
  | refine Mods.store (by assumption) (by assumption) ?_
  | dsimp only
  exact Mods.pure

theorem mods_k0_part60 (k0_t6 v73 v246 v247) (h6 : arg6.view.ref ∈ L) (h11 : arg11.view.ref ∈ L) (h12 : arg12.view.ref ∈ L) (h18 : arg18.view.ref ∈ L) (w6 : arg6.view.ref ∈ W) (w11 : arg11.view.ref ∈ W) :
    Mods U (defs₀ (F := F)) 𝒱₀ c bd L W (k0_part60 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v73 v246 v247) := by
  unfold k0_part60
  repeat with_reducible first
  | refine Mods.load (by assumption) fun _ => ?_
  | refine Mods.store (by assumption) (by assumption) ?_
  | dsimp only
  exact Mods.pure

theorem mods_k0_part61 (k0_t6 v73 v253 c256_i32_124) (h6 : arg6.view.ref ∈ L) (h12 : arg12.view.ref ∈ L) (h18 : arg18.view.ref ∈ L) (w6 : arg6.view.ref ∈ W) :
    Mods U (defs₀ (F := F)) 𝒱₀ c bd L W (k0_part61 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v73 v253 c256_i32_124) := by
  unfold k0_part61
  repeat with_reducible first
  | refine Mods.load (by assumption) fun _ => ?_
  | refine Mods.store (by assumption) (by assumption) ?_
  | dsimp only
  exact Mods.pure

theorem mods_k0_part62 (k0_t6 v73 v253 v324) (h6 : arg6.view.ref ∈ L) (h12 : arg12.view.ref ∈ L) (h18 : arg18.view.ref ∈ L) (w6 : arg6.view.ref ∈ W) :
    Mods U (defs₀ (F := F)) 𝒱₀ c bd L W (k0_part62 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v73 v253 v324) := by
  unfold k0_part62
  repeat with_reducible first
  | refine Mods.load (by assumption) fun _ => ?_
  | refine Mods.store (by assumption) (by assumption) ?_
  | dsimp only
  exact Mods.pure

theorem mods_k0_part63 (k0_t6 v73 v253 v363) (h6 : arg6.view.ref ∈ L) (h10 : arg10.view.ref ∈ L) (h12 : arg12.view.ref ∈ L) (h18 : arg18.view.ref ∈ L) (w6 : arg6.view.ref ∈ W) (w10 : arg10.view.ref ∈ W) :
    Mods U (defs₀ (F := F)) 𝒱₀ c bd L W (k0_part63 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v73 v253 v363) := by
  unfold k0_part63
  repeat with_reducible first
  | refine Mods.load (by assumption) fun _ => ?_
  | refine Mods.store (by assumption) (by assumption) ?_
  | dsimp only
  exact Mods.pure

theorem mods_k0_part64 (k0_t6 v73 v253 v384 v387) (h2 : arg2.view.ref ∈ L) (h10 : arg10.view.ref ∈ L) (h11 : arg11.view.ref ∈ L) (h14 : arg14.view.ref ∈ L) (h17 : arg17.view.ref ∈ L) (w10 : arg10.view.ref ∈ W) (w11 : arg11.view.ref ∈ W) :
    Mods U (defs₀ (F := F)) 𝒱₀ c bd L W (k0_part64 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v73 v253 v384 v387) := by
  unfold k0_part64
  repeat with_reducible first
  | refine Mods.load (by assumption) fun _ => ?_
  | refine Mods.store (by assumption) (by assumption) ?_
  | dsimp only
  exact Mods.pure

theorem mods_k0_part65 (k0_t6 v72 v73 v245 v423 v429) (h11 : arg11.view.ref ∈ L) (h12 : arg12.view.ref ∈ L) (h13 : arg13.view.ref ∈ L) (h15 : arg15.view.ref ∈ L) (w11 : arg11.view.ref ∈ W) (w12 : arg12.view.ref ∈ W) :
    Mods U (defs₀ (F := F)) 𝒱₀ c bd L W (k0_part65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v72 v73 v245 v423 v429) := by
  unfold k0_part65
  repeat with_reducible first
  | refine Mods.load (by assumption) fun _ => ?_
  | refine Mods.store (by assumption) (by assumption) ?_
  | dsimp only
  exact Mods.pure

theorem mods_k0_part66 (k0_t6 v72 v73 v245 v453 v463 v466) (h11 : arg11.view.ref ∈ L) (h12 : arg12.view.ref ∈ L) (h13 : arg13.view.ref ∈ L) (h15 : arg15.view.ref ∈ L) (w12 : arg12.view.ref ∈ W) (w13 : arg13.view.ref ∈ W) :
    Mods U (defs₀ (F := F)) 𝒱₀ c bd L W (k0_part66 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v72 v73 v245 v453 v463 v466) := by
  unfold k0_part66
  repeat with_reducible first
  | refine Mods.load (by assumption) fun _ => ?_
  | refine Mods.store (by assumption) (by assumption) ?_
  | dsimp only
  exact Mods.pure

theorem mods_k0_part67 (k0_t6 v72 v73 v245 v423 v503 v504) (h11 : arg11.view.ref ∈ L) (h12 : arg12.view.ref ∈ L) (h13 : arg13.view.ref ∈ L) (h15 : arg15.view.ref ∈ L) (w12 : arg12.view.ref ∈ W) (w13 : arg13.view.ref ∈ W) :
    Mods U (defs₀ (F := F)) 𝒱₀ c bd L W (k0_part67 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v72 v73 v245 v423 v503 v504) := by
  unfold k0_part67
  repeat with_reducible first
  | refine Mods.load (by assumption) fun _ => ?_
  | refine Mods.store (by assumption) (by assumption) ?_
  | dsimp only
  exact Mods.pure

theorem mods_k0_part68 (k0_t6 v72 v73 v423 v530 v540) (h11 : arg11.view.ref ∈ L) (h12 : arg12.view.ref ∈ L) (h13 : arg13.view.ref ∈ L) (h15 : arg15.view.ref ∈ L) (w12 : arg12.view.ref ∈ W) (w13 : arg13.view.ref ∈ W) :
    Mods U (defs₀ (F := F)) 𝒱₀ c bd L W (k0_part68 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v72 v73 v423 v530 v540) := by
  unfold k0_part68
  repeat with_reducible first
  | refine Mods.load (by assumption) fun _ => ?_
  | refine Mods.store (by assumption) (by assumption) ?_
  | dsimp only
  exact Mods.pure

theorem mods_k0_part69 (k0_t6 v72 v73 v245 v423) (h11 : arg11.view.ref ∈ L) (h12 : arg12.view.ref ∈ L) (h13 : arg13.view.ref ∈ L) (h15 : arg15.view.ref ∈ L) (w12 : arg12.view.ref ∈ W) :
    Mods U (defs₀ (F := F)) 𝒱₀ c bd L W (k0_part69 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v72 v73 v245 v423) := by
  unfold k0_part69
  repeat with_reducible first
  | refine Mods.load (by assumption) fun _ => ?_
  | refine Mods.store (by assumption) (by assumption) ?_
  | dsimp only
  exact Mods.pure

theorem mods_k0_part70 (k0_t6 v72 v73 v245 v603 v618 c256_i32_294) (h11 : arg11.view.ref ∈ L) (h12 : arg12.view.ref ∈ L) (h13 : arg13.view.ref ∈ L) (h15 : arg15.view.ref ∈ L) (w12 : arg12.view.ref ∈ W) (w13 : arg13.view.ref ∈ W) :
    Mods U (defs₀ (F := F)) 𝒱₀ c bd L W (k0_part70 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v72 v73 v245 v603 v618 c256_i32_294) := by
  unfold k0_part70
  repeat with_reducible first
  | refine Mods.load (by assumption) fun _ => ?_
  | refine Mods.store (by assumption) (by assumption) ?_
  | dsimp only
  exact Mods.pure

theorem mods_k0_part71 (k0_t6 v72 v73 v245 v423 v653 v656) (h11 : arg11.view.ref ∈ L) (h12 : arg12.view.ref ∈ L) (h13 : arg13.view.ref ∈ L) (h15 : arg15.view.ref ∈ L) (w12 : arg12.view.ref ∈ W) (w13 : arg13.view.ref ∈ W) :
    Mods U (defs₀ (F := F)) 𝒱₀ c bd L W (k0_part71 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v72 v73 v245 v423 v653 v656) := by
  unfold k0_part71
  repeat with_reducible first
  | refine Mods.load (by assumption) fun _ => ?_
  | refine Mods.store (by assumption) (by assumption) ?_
  | dsimp only
  exact Mods.pure

theorem mods_k0_part72 (k0_t6 v72 v73 v423 v680 v690 v693) (h11 : arg11.view.ref ∈ L) (h12 : arg12.view.ref ∈ L) (h13 : arg13.view.ref ∈ L) (h15 : arg15.view.ref ∈ L) (w12 : arg12.view.ref ∈ W) (w13 : arg13.view.ref ∈ W) :
    Mods U (defs₀ (F := F)) 𝒱₀ c bd L W (k0_part72 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v72 v73 v423 v680 v690 v693) := by
  unfold k0_part72
  repeat with_reducible first
  | refine Mods.load (by assumption) fun _ => ?_
  | refine Mods.store (by assumption) (by assumption) ?_
  | dsimp only
  exact Mods.pure

theorem mods_k0_part73 (k0_t6 v72 v73 v245 v423 v730 v731) (h11 : arg11.view.ref ∈ L) (h12 : arg12.view.ref ∈ L) (h15 : arg15.view.ref ∈ L) (w12 : arg12.view.ref ∈ W) :
    Mods U (defs₀ (F := F)) 𝒱₀ c bd L W (k0_part73 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v72 v73 v245 v423 v730 v731) := by
  unfold k0_part73
  repeat with_reducible first
  | refine Mods.load (by assumption) fun _ => ?_
  | refine Mods.store (by assumption) (by assumption) ?_
  | dsimp only
  exact Mods.pure

theorem mods_k0_part74 (k0_t6 v72 v73 v245 v753 v768 v770 c192_i32_373) (h11 : arg11.view.ref ∈ L) (h12 : arg12.view.ref ∈ L) (h13 : arg13.view.ref ∈ L) (h15 : arg15.view.ref ∈ L) (w12 : arg12.view.ref ∈ W) (w13 : arg13.view.ref ∈ W) :
    Mods U (defs₀ (F := F)) 𝒱₀ c bd L W (k0_part74 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t6 v72 v73 v245 v753 v768 v770 c192_i32_373) := by
  unfold k0_part74
  repeat with_reducible first
  | refine Mods.load (by assumption) fun _ => ?_
  | refine Mods.store (by assumption) (by assumption) ?_
  | dsimp only
  exact Mods.pure

theorem mods_k0_part75 (h6 : arg6.view.ref ∈ L) (h19 : arg19.view.ref ∈ L) (w6 : arg6.view.ref ∈ W) :
    Mods U (defs₀ (F := F)) 𝒱₀ c bd L W (k0_part75 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) := by
  unfold k0_part75
  repeat with_reducible first
  | refine Mods.load (by assumption) fun _ => ?_
  | refine Mods.store (by assumption) (by assumption) ?_
  | dsimp only
  exact Mods.pure

theorem mods_k0_part76 (v88) (h6 : arg6.view.ref ∈ L) (h19 : arg19.view.ref ∈ L) (w6 : arg6.view.ref ∈ W) :
    Mods U (defs₀ (F := F)) 𝒱₀ c bd L W (k0_part76 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v88) := by
  unfold k0_part76
  repeat with_reducible first
  | refine Mods.load (by assumption) fun _ => ?_
  | refine Mods.store (by assumption) (by assumption) ?_
  | dsimp only
  exact Mods.pure

theorem mods_k0_part77 (h6 : arg6.view.ref ∈ L) (h19 : arg19.view.ref ∈ L) (w6 : arg6.view.ref ∈ W) :
    Mods U (defs₀ (F := F)) 𝒱₀ c bd L W (k0_part77 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) := by
  unfold k0_part77
  repeat with_reducible first
  | refine Mods.load (by assumption) fun _ => ?_
  | refine Mods.store (by assumption) (by assumption) ?_
  | dsimp only
  exact Mods.pure

end Cert.Proof.KernelIdeal
-- ==== Proof.KernelIdeal.ModsTails.lean ====
module

public import proofs.«01_k».proof.KernelIdeal
public import proofs.«01_k».proof.Proof.Gen.KernelIdeal.Launch
public import proofs.«01_k».proof.Proof.Hoare
public import proofs.«01_k».proof.Proof.KernelIdeal.Base

@[expose] public section

set_option maxHeartbeats 2000000

noncomputable section

namespace Cert.Proof.KernelIdeal

open Cert.KernelIdeal Cert.KernelIdeal.Gen Cert.Proof.Hoare

open Idealize.ShloMosaic Idealize.SL.Sem Idealize.SL.RA

variable {F : FTy → Type} [FloatOps F] {U : Type} [URA U]

variable {c : Dev nD} {bd : Option 𝒱₀.V} {L : Finset (Ref sig .tc)} {W : Set (Ref sig .tc)}

variable {i : grid0.Coords}
variable {arg1 : Memref sig .tc .smem S25 .i32} {harg1 : arg1.IsWhole}
variable {arg2 : Memref sig .tc .vmem S256x3328 .fp8e4m3} {harg2 : arg2.IsWhole}
variable {arg3 : Memref sig .tc .vmem S1x1x256 .f32} {harg3 : arg3.IsWhole}
variable {arg4 : Memref sig .tc .vmem S4x3328 .bf16} {harg4 : arg4.IsWhole}
variable {arg5 : Memref sig .tc .vmem S1x3328 .bf16} {harg5 : arg5.IsWhole}
variable {arg6 : Memref sig .tc .vmem S256x3328 .fp8e4m3} {harg6 : arg6.IsWhole}
variable {arg7 : Memref sig .tc .vmem S1x1x256 .f32} {harg7 : arg7.IsWhole}
variable {arg8 : Memref sig .tc .vmem S3x3x208x128 .f32} {harg8 : arg8.IsWhole}
variable {arg9 : Memref sig .tc .vmem S3x24x3328 .bf16} {harg9 : arg9.IsWhole}
variable {arg10 : Memref sig .tc .vmem S3536x2x128 .bf16} {harg10 : arg10.IsWhole}
variable {arg11 : Memref sig .tc .vmem S6864x128 .f32} {harg11 : arg11.IsWhole}
variable {arg12 : Memref sig .tc .vmem S6656x128 .f32} {harg12 : arg12.IsWhole}
variable {arg13 : Memref sig .tc .vmem S256x128 .f32} {harg13 : arg13.IsWhole}
variable {arg14 : Memref sig .tc .vmem S26x256x256 .bf16} {harg14 : arg14.IsWhole}
variable {arg15 : Memref sig .tc .vmem S26x8x128 .f32} {harg15 : arg15.IsWhole}
variable {arg16 : Memref sig .tc .vmem S5x26x128 .f32} {harg16 : arg16.IsWhole}
variable {arg17 : Memref sig .tc .vmem S128x2x128 .bf16} {harg17 : arg17.IsWhole}
variable {arg18 : Memref sig .tc .vmem S256x128 .f32} {harg18 : arg18.IsWhole}
variable {arg19 : Memref sig .tc .vmem S26x256x128 .fp8e4m3} {harg19 : arg19.IsWhole}
variable {arg20 : Memref sig .tc .vmem S3x3x208x128 .f32} {harg20 : arg20.IsWhole}
variable {arg21 : Memref sig .tc .smem S1 .i32} {harg21 : arg21.IsWhole}

/-- The last point's part runs, and changes only the last result's buffer. -/
theorem mods_k0_part132 (h9 : arg9.view.ref ∈ L) (h20 : arg20.view.ref ∈ L) (w9 : arg9.view.ref ∈ W) :
    Mods U (defs₀ (F := F)) 𝒱₀ c bd L W (k0_part132 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) := by
  unfold k0_part132
  refine Mods.bind ?_ fun _ => ?_; unfold k0_part78; rotate_left
  refine Mods.bind ?_ fun _ => ?_; unfold k0_part79; rotate_left
  refine Mods.bind ?_ fun _ => ?_; unfold k0_part80; rotate_left
  refine Mods.bind ?_ fun _ => ?_; unfold k0_part81; rotate_left
  refine Mods.bind ?_ fun _ => ?_; unfold k0_part82; rotate_left
  refine Mods.bind ?_ fun _ => ?_; unfold k0_part83; rotate_left
  refine Mods.bind ?_ fun _ => ?_; unfold k0_part84; rotate_left
  refine Mods.bind ?_ fun _ => ?_; unfold k0_part85; rotate_left
  refine Mods.bind ?_ fun _ => ?_; unfold k0_part86; rotate_left
  refine Mods.bind ?_ fun _ => ?_; unfold k0_part87; rotate_left
  refine Mods.bind ?_ fun _ => ?_; unfold k0_part88; rotate_left
  refine Mods.bind ?_ fun _ => ?_; unfold k0_part89; rotate_left
  refine Mods.bind ?_ fun _ => ?_; unfold k0_part90; rotate_left
  refine Mods.bind ?_ fun _ => ?_; unfold k0_part91; rotate_left
  refine Mods.bind ?_ fun _ => ?_; unfold k0_part92; rotate_left
  refine Mods.bind ?_ fun _ => ?_; unfold k0_part93; rotate_left
  refine Mods.bind ?_ fun _ => ?_; unfold k0_part94; rotate_left
  refine Mods.bind ?_ fun _ => ?_; unfold k0_part95; rotate_left
  refine Mods.bind ?_ fun _ => ?_; unfold k0_part96; rotate_left
  refine Mods.bind ?_ fun _ => ?_; unfold k0_part97; rotate_left
  refine Mods.bind ?_ fun _ => ?_; unfold k0_part98; rotate_left
  refine Mods.bind ?_ fun _ => ?_; unfold k0_part99; rotate_left
  refine Mods.bind ?_ fun _ => ?_; unfold k0_part100; rotate_left
  refine Mods.bind ?_ fun _ => ?_; unfold k0_part101; rotate_left
  refine Mods.bind ?_ fun _ => ?_; unfold k0_part102; rotate_left
  refine Mods.bind ?_ fun _ => ?_; unfold k0_part103; rotate_left
  refine Mods.bind ?_ fun _ => ?_; unfold k0_part104; rotate_left
  refine Mods.bind ?_ fun _ => ?_; unfold k0_part105; rotate_left
  refine Mods.bind ?_ fun _ => ?_; unfold k0_part106; rotate_left
  refine Mods.bind ?_ fun _ => ?_; unfold k0_part107; rotate_left
  refine Mods.bind ?_ fun _ => ?_; unfold k0_part108; rotate_left
  refine Mods.bind ?_ fun _ => ?_; unfold k0_part109; rotate_left
  refine Mods.bind ?_ fun _ => ?_; unfold k0_part110; rotate_left
  refine Mods.bind ?_ fun _ => ?_; unfold k0_part111; rotate_left
  refine Mods.bind ?_ fun _ => ?_; unfold k0_part112; rotate_left
  refine Mods.bind ?_ fun _ => ?_; unfold k0_part113; rotate_left
  refine Mods.bind ?_ fun _ => ?_; unfold k0_part114; rotate_left
  refine Mods.bind ?_ fun _ => ?_; unfold k0_part115; rotate_left
  refine Mods.bind ?_ fun _ => ?_; unfold k0_part116; rotate_left
  refine Mods.bind ?_ fun _ => ?_; unfold k0_part117; rotate_left
  refine Mods.bind ?_ fun _ => ?_; unfold k0_part118; rotate_left
  refine Mods.bind ?_ fun _ => ?_; unfold k0_part119; rotate_left
  refine Mods.bind ?_ fun _ => ?_; unfold k0_part120; rotate_left
  refine Mods.bind ?_ fun _ => ?_; unfold k0_part121; rotate_left
  refine Mods.bind ?_ fun _ => ?_; unfold k0_part122; rotate_left
  refine Mods.bind ?_ fun _ => ?_; unfold k0_part123; rotate_left
  refine Mods.bind ?_ fun _ => ?_; unfold k0_part124; rotate_left
  refine Mods.bind ?_ fun _ => ?_; unfold k0_part125; rotate_left
  refine Mods.bind ?_ fun _ => ?_; unfold k0_part126; rotate_left
  refine Mods.bind ?_ fun _ => ?_; unfold k0_part127; rotate_left
  refine Mods.bind ?_ fun _ => ?_; unfold k0_part128; rotate_left
  refine Mods.bind ?_ fun _ => ?_; unfold k0_part129; rotate_left
  refine Mods.bind ?_ fun _ => ?_; unfold k0_part130; rotate_left
  refine Mods.bind ?_ fun _ => ?_; unfold k0_part131; rotate_left
  all_goals
    repeat with_reducible first
    | refine Mods.load (by assumption) fun _ => ?_
    | refine Mods.store (by assumption) (by assumption) ?_
    | dsimp only
    exact Mods.pure

end Cert.Proof.KernelIdeal
-- ==== Proof.KernelIdeal.Chk.lean ====
module

public import proofs.«01_k».proof.KernelIdeal
public import proofs.«01_k».proof.Proof.Gen.KernelIdeal.Launch
public import proofs.«01_k».proof.Proof.Hoare
public import proofs.«01_k».proof.Proof.KernelIdeal.Base

@[expose] public section

noncomputable section

namespace Cert.Proof.KernelIdeal

open Cert.KernelIdeal Cert.KernelIdeal.Gen Cert.Proof.Hoare

open Idealize.ShloMosaic Idealize.SL.Sem Idealize.SL.RA

/-- A word below `n` is one of the first `n` words. -/
theorem word_of_lt {n : ℕ} (P : BitVec 32 → Prop) (h : ∀ k : Fin n, P (BitVec.ofNat 32 k.val)) (r : BitVec 32) (hr : r.toNat < n) : P r := by
  have := h ⟨r.toNat, hr⟩
  simpa using this

/-- What a row's condition says: the row is in the block, and the rest of the condition holds. -/
theorem row_cond (p : BitVec 1) (r : BitVec 32)
    (h : Scalar.cmpi .ne (Scalar.extui (Scalar.andi p (Scalar.andi (Scalar.cmpi .sge r 0#32) (Scalar.cmpi .slt r 256#32)))) 0#32 = 1#1) :
    p = 1#1 ∧ r.toNat < 256 := by
  have key : ∀ p q1 q2 : BitVec 1, Scalar.cmpi .ne (Scalar.extui (Scalar.andi p (Scalar.andi q1 q2)) : BitVec 32) 0#32 = 1#1 →
      p = 1#1 ∧ q1 = 1#1 ∧ q2 = 1#1 := by decide
  obtain ⟨hp, h1, h2⟩ := key _ _ _ h
  refine ⟨hp, ?_⟩
  have h1' : (0#32).sle r = true := by
    by_contra hh; rw [Bool.not_eq_true] at hh
    simp [Scalar.cmpi, IntOp.cmpi, hh] at h1
  have h2' : r.slt 256#32 = true := by
    by_contra hh; rw [Bool.not_eq_true] at hh
    simp [Scalar.cmpi, IntOp.cmpi, hh] at h2
  simp only [BitVec.sle, BitVec.slt, decide_eq_true_eq] at h1' h2'
  have e1 : (0#32).toInt = 0 := by decide
  have e2 : (256#32).toInt = 256 := by decide
  rw [e1] at h1'; rw [e2] at h2'
  rw [BitVec.toInt_eq_toNat_cond] at h1' h2'
  split at h1' <;> split at h2' <;> omega

theorem e_in (r : BitVec 32) (hr : r.toNat < 256) : ∀ a, S26x2x128.size a = 0 ∨ (![(Scalar.indexCast (Scalar.shrsi (Scalar.addi r 16#32) 1#32)).toNat, 0, 0] : Fin 3 → Nat) a + (![136, 1, 1] : Fin 3 → Nat) a * (S26x2x128.size a - 1) < S3536x2x128.size a :=
  word_of_lt (fun r => ∀ a, S26x2x128.size a = 0 ∨ (![(Scalar.indexCast (Scalar.shrsi (Scalar.addi r 16#32) 1#32)).toNat, 0, 0] : Fin 3 → Nat) a + (![136, 1, 1] : Fin 3 → Nat) a * (S26x2x128.size a - 1) < S3536x2x128.size a) (by decide +kernel) r hr

theorem e_in1 (r : BitVec 32) (hr : r.toNat < 256) : ∀ a, S26x2x128.size a = 0 ∨ (![(Scalar.indexCast (Scalar.shrsi (Scalar.addi (Scalar.subi r 1#32) 16#32) 1#32)).toNat, 0, 0] : Fin 3 → Nat) a + (![136, 1, 1] : Fin 3 → Nat) a * (S26x2x128.size a - 1) < S3536x2x128.size a :=
  word_of_lt (fun r => ∀ a, S26x2x128.size a = 0 ∨ (![(Scalar.indexCast (Scalar.shrsi (Scalar.addi (Scalar.subi r 1#32) 16#32) 1#32)).toNat, 0, 0] : Fin 3 → Nat) a + (![136, 1, 1] : Fin 3 → Nat) a * (S26x2x128.size a - 1) < S3536x2x128.size a) (by decide +kernel) r hr

theorem e_in2 (k : Fin 2) (r : BitVec 32) (hr : r.toNat < 256) : ∀ a, S26x2x128.size a = 0 ∨ (![(Scalar.indexCast (Scalar.shrsi (Scalar.addi (Scalar.subi r (BitVec.ofNat 32 (1 + k.val))) 16#32) 1#32)).toNat, 0, 0] : Fin 3 → Nat) a + (![136, 1, 1] : Fin 3 → Nat) a * (S26x2x128.size a - 1) < S3536x2x128.size a :=
  word_of_lt (fun r => ∀ k : Fin 2, ∀ a, S26x2x128.size a = 0 ∨ (![(Scalar.indexCast (Scalar.shrsi (Scalar.addi (Scalar.subi r (BitVec.ofNat 32 (1 + k.val))) 16#32) 1#32)).toNat, 0, 0] : Fin 3 → Nat) a + (![136, 1, 1] : Fin 3 → Nat) a * (S26x2x128.size a - 1) < S3536x2x128.size a) (by decide +kernel) r hr k

theorem z_in (r : BitVec 32) (hr : r.toNat < 256) : ∀ a, S26x128.size a = 0 ∨ (![(Scalar.indexCast r).toNat, 0] : Fin 2 → Nat) a + (![256, 1] : Fin 2 → Nat) a * (S26x128.size a - 1) < S6656x128.size a :=
  word_of_lt (fun r => ∀ a, S26x128.size a = 0 ∨ (![(Scalar.indexCast r).toNat, 0] : Fin 2 → Nat) a + (![256, 1] : Fin 2 → Nat) a * (S26x128.size a - 1) < S6656x128.size a) (by decide +kernel) r hr

theorem zm_in (r : BitVec 32) (hr : r.toNat < 256) : ∀ a, (![(Scalar.indexCast r).toNat, 0] : Fin 2 → Nat) a + S1x128.size a ≤ S256x128.size a :=
  word_of_lt (fun r => ∀ a, (![(Scalar.indexCast r).toNat, 0] : Fin 2 → Nat) a + S1x128.size a ≤ S256x128.size a) (by decide +kernel) r hr

theorem head_in32 (b : BitVec 32) (hb : b.toNat < 25) (h : Scalar.cmpi .slt b 24#32 = 1#1) : ∀ a, S1x1x26x128.size a = 0 ∨ (k0_off32 b) a + (![1, 1, 8, 1] : Fin 4 → Nat) a * (S1x1x26x128.size a - 1) < S3x3x208x128.size a :=
  word_of_lt (fun b => Scalar.cmpi .slt b 24#32 = 1#1 → ∀ a, S1x1x26x128.size a = 0 ∨ (k0_off32 b) a + (![1, 1, 8, 1] : Fin 4 → Nat) a * (S1x1x26x128.size a - 1) < S3x3x208x128.size a) (by decide +kernel) b hb h

theorem head_in37 (b : BitVec 32) (hb : b.toNat < 25) (h : Scalar.cmpi .slt b 24#32 = 1#1) : ∀ a, S1x1x26x128.size a = 0 ∨ (k0_off37 b) a + (![1, 1, 8, 1] : Fin 4 → Nat) a * (S1x1x26x128.size a - 1) < S3x3x208x128.size a :=
  word_of_lt (fun b => Scalar.cmpi .slt b 24#32 = 1#1 → ∀ a, S1x1x26x128.size a = 0 ∨ (k0_off37 b) a + (![1, 1, 8, 1] : Fin 4 → Nat) a * (S1x1x26x128.size a - 1) < S3x3x208x128.size a) (by decide +kernel) b hb h

theorem head_in42 (b : BitVec 32) (hb : b.toNat < 25) (h : Scalar.cmpi .slt b 24#32 = 1#1) : ∀ a, S1x1x26x128.size a = 0 ∨ (k0_off42 b) a + (![1, 1, 8, 1] : Fin 4 → Nat) a * (S1x1x26x128.size a - 1) < S3x3x208x128.size a :=
  word_of_lt (fun b => Scalar.cmpi .slt b 24#32 = 1#1 → ∀ a, S1x1x26x128.size a = 0 ∨ (k0_off42 b) a + (![1, 1, 8, 1] : Fin 4 → Nat) a * (S1x1x26x128.size a - 1) < S3x3x208x128.size a) (by decide +kernel) b hb h

theorem tail_in44 (b : BitVec 32) (hb : b.toNat < 25) (h : Scalar.cmpi .sgt b 0#32 = 1#1) : ∀ a, S1x1x26x128.size a = 0 ∨ (k0_off44 b) a + (![1, 1, 8, 1] : Fin 4 → Nat) a * (S1x1x26x128.size a - 1) < S3x3x208x128.size a :=
  word_of_lt (fun b => Scalar.cmpi .sgt b 0#32 = 1#1 → ∀ a, S1x1x26x128.size a = 0 ∨ (k0_off44 b) a + (![1, 1, 8, 1] : Fin 4 → Nat) a * (S1x1x26x128.size a - 1) < S3x3x208x128.size a) (by decide +kernel) b hb h

theorem tail_in46 (b : BitVec 32) (hb : b.toNat < 25) (h : Scalar.cmpi .sgt b 0#32 = 1#1) : ∀ a, S1x1x26x128.size a = 0 ∨ (k0_off46 b) a + (![1, 1, 8, 1] : Fin 4 → Nat) a * (S1x1x26x128.size a - 1) < S3x3x208x128.size a :=
  word_of_lt (fun b => Scalar.cmpi .sgt b 0#32 = 1#1 → ∀ a, S1x1x26x128.size a = 0 ∨ (k0_off46 b) a + (![1, 1, 8, 1] : Fin 4 → Nat) a * (S1x1x26x128.size a - 1) < S3x3x208x128.size a) (by decide +kernel) b hb h

theorem tail_in48 (b : BitVec 32) (hb : b.toNat < 25) (h : Scalar.cmpi .sgt b 0#32 = 1#1) : ∀ a, S1x1x26x128.size a = 0 ∨ (k0_off48 b) a + (![1, 1, 8, 1] : Fin 4 → Nat) a * (S1x1x26x128.size a - 1) < S3x3x208x128.size a :=
  word_of_lt (fun b => Scalar.cmpi .sgt b 0#32 = 1#1 → ∀ a, S1x1x26x128.size a = 0 ∨ (k0_off48 b) a + (![1, 1, 8, 1] : Fin 4 → Nat) a * (S1x1x26x128.size a - 1) < S3x3x208x128.size a) (by decide +kernel) b hb h

/-- The clamped load of a boundary is in bounds. -/
theorem chk1_of (b : BitVec 32) (hb : b.toNat < 26) : k0_chk1 b :=
  word_of_lt (fun b => k0_chk1 b) (by unfold k0_chk1; decide +kernel) b hb

/-- The unclamped load is, below the last sequence's end. -/
theorem chk2_of (b : BitVec 32) (hb : b.toNat < 25) : k0_chk2 b :=
  word_of_lt (fun b => k0_chk2 b) (by unfold k0_chk2; decide +kernel) b hb

/-- Every rectangle the head loop addresses is in bounds, whatever the boundary read. -/
theorem chk3_of (i : grid0.Coords) (b v : BitVec 32) (hb : b.toNat < 25) : k0_chk3 i b v := by
  unfold k0_chk3
  exact ⟨fun h => e_in _ (row_cond _ _ h).2, fun h => z_in _ (row_cond _ _ h).2, fun h => zm_in _ (row_cond _ _ h).2, fun h => head_in32 b hb (row_cond _ _ h).1,
    fun h => e_in _ (row_cond _ _ h).2, fun h => e_in1 _ (row_cond _ _ h).2, fun h => z_in _ (row_cond _ _ h).2, fun h => zm_in _ (row_cond _ _ h).2, fun h => head_in37 b hb (row_cond _ _ h).1,
    fun h => e_in _ (row_cond _ _ h).2, fun h k => e_in2 k _ (row_cond _ _ h).2, fun h => z_in _ (row_cond _ _ h).2, fun h => zm_in _ (row_cond _ _ h).2, fun h => head_in42 b hb (row_cond _ _ h).1,
    fun h => e_in _ (row_cond _ _ h).2, fun h => tail_in44 b hb (row_cond _ _ h).1,
    fun h => e_in _ (row_cond _ _ h).2, fun h => tail_in46 b hb (row_cond _ _ h).1,
    fun h => e_in _ (row_cond _ _ h).2, fun h => tail_in48 b hb (row_cond _ _ h).1⟩

end Cert.Proof.KernelIdeal
-- ==== Proof.KernelIdeal.While.lean ====
module

public import proofs.«01_k».proof.KernelIdeal
public import proofs.«01_k».proof.Proof.Gen.KernelIdeal.Launch
public import proofs.«01_k».proof.Proof.Hoare
public import proofs.«01_k».proof.Proof.KernelIdeal.Base
public import proofs.«01_k».proof.Proof.KernelIdeal.Chk

@[expose] public section

noncomputable section

namespace Cert.Proof.KernelIdeal

open Cert.KernelIdeal Cert.KernelIdeal.Gen Cert.Proof.Hoare

open Idealize.ShloMosaic Idealize.SL.Sem Idealize.SL.RA

variable {F : FTy → Type} [FloatOps F] {U : Type} [URA U]

variable {c : Dev nD} {bd : Option 𝒱₀.V} {L : Finset (Ref sig .tc)} {W : Set (Ref sig .tc)}

variable {i : grid0.Coords}
variable {arg1 : Memref sig .tc .smem S25 .i32} {harg1 : arg1.IsWhole}
variable {arg2 : Memref sig .tc .vmem S256x3328 .fp8e4m3} {harg2 : arg2.IsWhole}
variable {arg3 : Memref sig .tc .vmem S1x1x256 .f32} {harg3 : arg3.IsWhole}
variable {arg4 : Memref sig .tc .vmem S4x3328 .bf16} {harg4 : arg4.IsWhole}
variable {arg5 : Memref sig .tc .vmem S1x3328 .bf16} {harg5 : arg5.IsWhole}
variable {arg6 : Memref sig .tc .vmem S256x3328 .fp8e4m3} {harg6 : arg6.IsWhole}
variable {arg7 : Memref sig .tc .vmem S1x1x256 .f32} {harg7 : arg7.IsWhole}
variable {arg8 : Memref sig .tc .vmem S3x3x208x128 .f32} {harg8 : arg8.IsWhole}
variable {arg9 : Memref sig .tc .vmem S3x24x3328 .bf16} {harg9 : arg9.IsWhole}
variable {arg10 : Memref sig .tc .vmem S3536x2x128 .bf16} {harg10 : arg10.IsWhole}
variable {arg11 : Memref sig .tc .vmem S6864x128 .f32} {harg11 : arg11.IsWhole}
variable {arg12 : Memref sig .tc .vmem S6656x128 .f32} {harg12 : arg12.IsWhole}
variable {arg13 : Memref sig .tc .vmem S256x128 .f32} {harg13 : arg13.IsWhole}
variable {arg14 : Memref sig .tc .vmem S26x256x256 .bf16} {harg14 : arg14.IsWhole}
variable {arg15 : Memref sig .tc .vmem S26x8x128 .f32} {harg15 : arg15.IsWhole}
variable {arg16 : Memref sig .tc .vmem S5x26x128 .f32} {harg16 : arg16.IsWhole}
variable {arg17 : Memref sig .tc .vmem S128x2x128 .bf16} {harg17 : arg17.IsWhole}
variable {arg18 : Memref sig .tc .vmem S256x128 .f32} {harg18 : arg18.IsWhole}
variable {arg19 : Memref sig .tc .vmem S26x256x128 .fp8e4m3} {harg19 : arg19.IsWhole}
variable {arg20 : Memref sig .tc .vmem S3x3x208x128 .f32} {harg20 : arg20.IsWhole}
variable {arg21 : Memref sig .tc .smem S1 .i32} {harg21 : arg21.IsWhole}

/-! One theorem per window of the kernel's body: it runs, and changes only the buffers it stores to. -/

theorem mods_k0_part135 (v43 : BitVec 1) (arg22 : BitVec 32) (v70 : Elt F .i32) (k0_hw3 : k0_chk3 i arg22 v70) (v72 : BitVec 32) (k0_h4 : k0_cond4 i arg22 v70 = 1#1) (h10 : arg10.view.ref ∈ L) (h12 : arg12.view.ref ∈ L) (h13 : arg13.view.ref ∈ L) (h16 : arg16.view.ref ∈ L) (w12 : arg12.view.ref ∈ W) (w13 : arg13.view.ref ∈ W) :
    Mods U (defs₀ (F := F)) 𝒱₀ c bd L W (k0_part135 i v43 arg1 harg1 arg16 harg16 arg10 harg10 arg12 harg12 arg13 harg13 arg8 harg8 arg20 harg20 arg21 harg21 arg22 v70 k0_hw3 v72 k0_h4) := by
  unfold k0_part135
  refine Mods.load h16 fun _ => ?_
  refine Mods.load h16 fun _ => ?_
  refine Mods.load h10 fun _ => ?_
  refine Mods.load h12 fun _ => ?_
  refine Mods.store h12 w12 ?_
  refine Mods.load h13 fun _ => ?_
  refine Mods.store h13 w13 ?_
  exact Mods.pure

theorem mods_k0_part136 (v43 : BitVec 1) (arg22 : BitVec 32) (v70 : Elt F .i32) (k0_hw3 : k0_chk3 i arg22 v70) (v80 : BitVec 32) (k0_h5 : k0_cond5 i arg22 v70 = 1#1) (h10 : arg10.view.ref ∈ L) (h16 : arg16.view.ref ∈ L) :
    Mods U (defs₀ (F := F)) 𝒱₀ c bd L W (k0_part136 i v43 arg1 harg1 arg16 harg16 arg10 harg10 arg12 harg12 arg13 harg13 arg8 harg8 arg20 harg20 arg21 harg21 arg22 v70 k0_hw3 v80 k0_h5) := by
  unfold k0_part136
  refine Mods.load h16 fun _ => ?_
  refine Mods.load h16 fun _ => ?_
  refine Mods.load h10 fun _ => ?_
  refine Mods.load h16 fun _ => ?_
  refine Mods.load h10 fun _ => ?_
  exact Mods.pure

theorem mods_k0_part137 (v43 : BitVec 1) (arg22 : BitVec 32) (v70 : Elt F .i32) (k0_hw3 : k0_chk3 i arg22 v70) (v80 : BitVec 32) (k0_h5 : k0_cond5 i arg22 v70 = 1#1) (v162 : FVec F S26x128 .f32) (h12 : arg12.view.ref ∈ L) (h13 : arg13.view.ref ∈ L) (w12 : arg12.view.ref ∈ W) (w13 : arg13.view.ref ∈ W) :
    Mods U (defs₀ (F := F)) 𝒱₀ c bd L W (k0_part137 i v43 arg1 harg1 arg16 harg16 arg10 harg10 arg12 harg12 arg13 harg13 arg8 harg8 arg20 harg20 arg21 harg21 arg22 v70 k0_hw3 v80 k0_h5 v162) := by
  unfold k0_part137
  refine Mods.load h12 fun _ => ?_
  refine Mods.store h12 w12 ?_
  refine Mods.load h13 fun _ => ?_
  refine Mods.store h13 w13 ?_
  exact Mods.pure

theorem mods_k0_part138 (v43 : BitVec 1) (arg22 : BitVec 32) (v70 : Elt F .i32) (k0_hw3 : k0_chk3 i arg22 v70) (v88 : BitVec 32) (k0_h6 : k0_cond6 i arg22 v70 = 1#1) (h10 : arg10.view.ref ∈ L) (h16 : arg16.view.ref ∈ L) :
    Mods U (defs₀ (F := F)) 𝒱₀ c bd L W (k0_part138 i v43 arg1 harg1 arg16 harg16 arg10 harg10 arg12 harg12 arg13 harg13 arg8 harg8 arg20 harg20 arg21 harg21 arg22 v70 k0_hw3 v88 k0_h6) := by
  unfold k0_part138
  refine Mods.load h16 fun _ => ?_
  refine Mods.load h16 fun _ => ?_
  refine Mods.load h10 fun _ => ?_
  refine Mods.load h16 fun _ => ?_
  refine Mods.load h10 fun _ => ?_
  exact Mods.pure

theorem mods_k0_part139 (v43 : BitVec 1) (arg22 : BitVec 32) (v70 : Elt F .i32) (k0_hw3 : k0_chk3 i arg22 v70) (v88 : BitVec 32) (k0_h6 : k0_cond6 i arg22 v70 = 1#1) (v162 : FVec F S26x128 .f32) (h10 : arg10.view.ref ∈ L) (h12 : arg12.view.ref ∈ L) (h13 : arg13.view.ref ∈ L) (h16 : arg16.view.ref ∈ L) (w12 : arg12.view.ref ∈ W) (w13 : arg13.view.ref ∈ W) :
    Mods U (defs₀ (F := F)) 𝒱₀ c bd L W (k0_part139 i v43 arg1 harg1 arg16 harg16 arg10 harg10 arg12 harg12 arg13 harg13 arg8 harg8 arg20 harg20 arg21 harg21 arg22 v70 k0_hw3 v88 k0_h6 v162) := by
  unfold k0_part139
  refine Mods.load h16 fun _ => ?_
  refine Mods.load h10 fun _ => ?_
  refine Mods.load h12 fun _ => ?_
  refine Mods.store h12 w12 ?_
  refine Mods.load h13 fun _ => ?_
  refine Mods.store h13 w13 ?_
  exact Mods.pure

theorem mods_k0_part140 (v43 : BitVec 1) (arg22 : BitVec 32) (v70 : Elt F .i32) (k0_hw3 : k0_chk3 i arg22 v70) (v97 : BitVec 32) (k0_h7 : k0_cond7 i arg22 v70 = 1#1) (h10 : arg10.view.ref ∈ L) :
    Mods U (defs₀ (F := F)) 𝒱₀ c bd L W (k0_part140 i v43 arg1 harg1 arg16 harg16 arg10 harg10 arg12 harg12 arg13 harg13 arg8 harg8 arg20 harg20 arg21 harg21 arg22 v70 k0_hw3 v97 k0_h7) := by
  unfold k0_part140
  refine Mods.load h10 fun _ => ?_
  exact Mods.pure

theorem mods_k0_part141 (v43 : BitVec 1) (arg22 : BitVec 32) (v70 : Elt F .i32) (k0_hw3 : k0_chk3 i arg22 v70) (v106 : BitVec 32) (k0_h8 : k0_cond8 i arg22 v70 = 1#1) (h10 : arg10.view.ref ∈ L) :
    Mods U (defs₀ (F := F)) 𝒱₀ c bd L W (k0_part141 i v43 arg1 harg1 arg16 harg16 arg10 harg10 arg12 harg12 arg13 harg13 arg8 harg8 arg20 harg20 arg21 harg21 arg22 v70 k0_hw3 v106 k0_h8) := by
  unfold k0_part141
  refine Mods.load h10 fun _ => ?_
  exact Mods.pure

theorem mods_k0_part142 (v43 : BitVec 1) (arg22 : BitVec 32) (v70 : Elt F .i32) (k0_hw3 : k0_chk3 i arg22 v70) (v115 : BitVec 32) (k0_h9 : k0_cond9 i arg22 v70 = 1#1) (h10 : arg10.view.ref ∈ L) :
    Mods U (defs₀ (F := F)) 𝒱₀ c bd L W (k0_part142 i v43 arg1 harg1 arg16 harg16 arg10 harg10 arg12 harg12 arg13 harg13 arg8 harg8 arg20 harg20 arg21 harg21 arg22 v70 k0_hw3 v115 k0_h9) := by
  unfold k0_part142
  refine Mods.load h10 fun _ => ?_
  exact Mods.pure

theorem mods_k0_part143 (v43 : BitVec 1) (arg22 : BitVec 32) (v63 : BitVec 32) (h1 : arg1.view.ref ∈ L) (h8 : arg8.view.ref ∈ L) (h10 : arg10.view.ref ∈ L) (h12 : arg12.view.ref ∈ L) (h13 : arg13.view.ref ∈ L) (h16 : arg16.view.ref ∈ L) (w8 : arg8.view.ref ∈ W) (w12 : arg12.view.ref ∈ W) (w13 : arg13.view.ref ∈ W) (hb : arg22.toNat < 25) :
    Mods U (defs₀ (F := F)) 𝒱₀ c bd L W (k0_part143 i v43 arg1 harg1 arg16 harg16 arg10 harg10 arg12 harg12 arg13 harg13 arg8 harg8 arg20 harg20 arg21 harg21 arg22 v63) := by
  unfold k0_part143
  refine Mods.assume (chk2_of _ hb) ?_
  refine Mods.smem h1 fun _ => ?_
  refine Mods.assume (chk3_of _ _ _ hb) ?_
  refine Mods.dite (fun _ => ?_) fun _ => ?_
  ·
    refine Mods.bind (mods_k0_part135 _ _ _ _ _ _ h10 h12 h13 h16 w12 w13) fun _ => ?_
    refine Mods.load h8 fun _ => ?_
    refine Mods.store h8 w8 ?_
    refine Mods.dite (fun _ => ?_) fun _ => ?_
    ·
      refine Mods.bind (mods_k0_part136 _ _ _ _ _ _ h10 h16) fun _ => ?_
      refine Mods.bind (mods_k0_part137 _ _ _ _ _ _ _ h12 h13 w12 w13) fun _ => ?_
      refine Mods.load h8 fun _ => ?_
      refine Mods.store h8 w8 ?_
      refine Mods.dite (fun _ => ?_) fun _ => ?_
      ·
        refine Mods.bind (mods_k0_part138 _ _ _ _ _ _ h10 h16) fun _ => ?_
        refine Mods.bind (mods_k0_part139 _ _ _ _ _ _ _ h10 h12 h13 h16 w12 w13) fun _ => ?_
        refine Mods.load h8 fun _ => ?_
        refine Mods.store h8 w8 ?_
        exact Mods.pure
      ·
        exact Mods.pure
    ·
      refine Mods.dite (fun _ => ?_) fun _ => ?_
      ·
        refine Mods.bind (mods_k0_part138 _ _ _ _ _ _ h10 h16) fun _ => ?_
        refine Mods.bind (mods_k0_part139 _ _ _ _ _ _ _ h10 h12 h13 h16 w12 w13) fun _ => ?_
        refine Mods.load h8 fun _ => ?_
        refine Mods.store h8 w8 ?_
        exact Mods.pure
      ·
        exact Mods.pure
  ·
    refine Mods.dite (fun _ => ?_) fun _ => ?_
    ·
      refine Mods.bind (mods_k0_part136 _ _ _ _ _ _ h10 h16) fun _ => ?_
      refine Mods.bind (mods_k0_part137 _ _ _ _ _ _ _ h12 h13 w12 w13) fun _ => ?_
      refine Mods.load h8 fun _ => ?_
      refine Mods.store h8 w8 ?_
      refine Mods.dite (fun _ => ?_) fun _ => ?_
      ·
        refine Mods.bind (mods_k0_part138 _ _ _ _ _ _ h10 h16) fun _ => ?_
        refine Mods.bind (mods_k0_part139 _ _ _ _ _ _ _ h10 h12 h13 h16 w12 w13) fun _ => ?_
        refine Mods.load h8 fun _ => ?_
        refine Mods.store h8 w8 ?_
        exact Mods.pure
      ·
        exact Mods.pure
    ·
      refine Mods.dite (fun _ => ?_) fun _ => ?_
      ·
        refine Mods.bind (mods_k0_part138 _ _ _ _ _ _ h10 h16) fun _ => ?_
        refine Mods.bind (mods_k0_part139 _ _ _ _ _ _ _ h10 h12 h13 h16 w12 w13) fun _ => ?_
        refine Mods.load h8 fun _ => ?_
        refine Mods.store h8 w8 ?_
        exact Mods.pure
      ·
        exact Mods.pure

variable {P : St sig (Elt F) → Prop}

/-- What a run of the head loop may do: change the buffers of `W` and the pointer, and the pointer only so that `P` still holds. -/
def Loops (W : Set (Ref sig .tc)) (p : Ref sig .tc) (P : St sig (Elt F) → Prop) (σ σ' : St sig (Elt F)) : Prop :=
  (∀ b, b ∉ W → b ≠ p → σ' b = σ b) ∧ (P σ → P σ')

theorem store_keeps {p r : Ref sig .tc} (hP1 : ∀ σ σ' : St sig (Elt F), σ' p = σ p → P σ → P σ') (hp : p ∉ W) (hr : r ∈ W)
    (σ : St sig (Elt F)) (x : r.ty.Contents (Elt F)) : Loops W p P σ (σ.set r x) :=
  ⟨fun _ hb _ => St.set_ne _ (by rintro rfl; exact hb hr) _, hP1 _ _ (St.set_ne _ (by rintro rfl; exact hp hr) _)⟩

theorem store_ptr {r : Ref sig .tc} (σ : St sig (Elt F)) (x : r.ty.Contents (Elt F)) (hx : P σ → P (σ.set r x)) : Loops W r P σ (σ.set r x) :=
  ⟨fun _ _ hb => St.set_ne _ hb _, hx⟩

/-- The loop's own test bounds its counter. -/
theorem lt_of_more {b : BitVec 32} {p q : BitVec 1} (hv : b.toNat ≤ 25)
    (h : Scalar.andi (Scalar.andi p (Scalar.cmpi .sle b 24#32)) q = 1#1) : b.toNat < 25 := by
  have key : ∀ p q r : BitVec 1, Scalar.andi (Scalar.andi p r) q = 1#1 → r = 1#1 := by decide
  have h1 := key _ _ _ h
  exact word_of_lt (n := 26) (fun b => Scalar.cmpi .sle b 24#32 = 1#1 → b.toNat < 25) (by decide +kernel) b (by omega) h1

/-- The counter's successor. -/
theorem succ_toNat {b : BitVec 32} (hb : b.toNat < 25) : (Scalar.addi b 1#32).toNat = b.toNat + 1 :=
  word_of_lt (n := 25) (fun b => (Scalar.addi b 1#32).toNat = b.toNat + 1) (by decide +kernel) b hb

/-- The head loop: it runs, in at most `25 - arg22` trips, and keeps the pointer in its range. -/
theorem keeps_while (hr : ∀ σ : St sig (Elt F), Loops W arg21.view.ref P σ σ) (ht : ∀ a b d : St sig (Elt F), Loops W arg21.view.ref P a b → Loops W arg21.view.ref P b d → Loops W arg21.view.ref P a d)
    (hm : ∀ σ σ' : St sig (Elt F), (∀ b, b ∉ W → σ' b = σ b) → Loops W arg21.view.ref P σ σ')
    (hP1 : ∀ σ σ' : St sig (Elt F), σ' arg21.view.ref = σ arg21.view.ref → P σ → P σ') (hp : arg21.view.ref ∉ W)
    (hP2 : ∀ (σ : St sig (Elt F)) (v : BitVec 32), v.toNat ≤ 25 → P σ → P (σ.set arg21.view.ref ((arg21.access (Rect.unit (s := S1) ![0] S1.size inb_S1_S1_0)).write (Elt F) (σ arg21.view.ref) (fun _ => v) Finset.univ)))
    (h1 : arg1.view.ref ∈ L) (h8 : arg8.view.ref ∈ L) (h10 : arg10.view.ref ∈ L) (h12 : arg12.view.ref ∈ L) (h13 : arg13.view.ref ∈ L) (h16 : arg16.view.ref ∈ L) (h20 : arg20.view.ref ∈ L) (h21 : arg21.view.ref ∈ L) (w8 : arg8.view.ref ∈ W) (w12 : arg12.view.ref ∈ W) (w13 : arg13.view.ref ∈ W) (w20 : arg20.view.ref ∈ W) (v43 : BitVec 1) :
    ∀ (k : ℕ) (arg22 : BitVec 32), arg22.toNat + k = 25 → Keeps U (defs₀ (F := F)) 𝒱₀ c (some k) L (Loops W arg21.view.ref P) (cc0_while1 i v43 arg1 harg1 arg16 harg16 arg10 harg10 arg12 harg12 arg13 harg13 arg8 harg8 arg20 harg20 arg21 harg21 arg22)
  | k, arg22, hk => by
    have hv : arg22.toNat ≤ 25 := by omega
    have IH : ∀ hb : arg22.toNat < 25, Keeps U (defs₀ (F := F)) 𝒱₀ c (some (k - 1)) L (Loops W arg21.view.ref P) (cc0_while1 i v43 arg1 harg1 arg16 harg16 arg10 harg10 arg12 harg12 arg13 harg13 arg8 harg8 arg20 harg20 arg21 harg21 (Scalar.addi arg22 1#32)) := fun hb =>
      keeps_while hr ht hm hP1 hp hP2 h1 h8 h10 h12 h13 h16 h20 h21 w8 w12 w13 w20 v43 (k - 1) _ (by rw [succ_toNat hb]; omega)
    unfold cc0_while1
    refine Keeps.assume (chk1_of _ (Nat.lt_succ_of_le hv)) ?_
    refine Keeps.smem h1 fun _ => ?_
    refine Keeps.ite (fun hif => ?_) fun _ => ?_
    · have hb := lt_of_more hv hif
      refine Keeps.bind ht (Keeps.of_mods (mods_k0_part143 _ _ _ h1 h8 h10 h12 h13 h16 w8 w12 w13 hb) hm) fun _ => ?_
      refine Keeps.dite (fun _ => ?_) fun _ => ?_
      ·
        refine Keeps.bind ht (Keeps.of_mods (mods_k0_part140 _ _ _ _ _ _ h10) hm) fun _ => ?_
        refine Keeps.load h20 fun _ => ?_
        refine Keeps.store ht h20 (fun σ => store_keeps hP1 hp w20 σ _) ?_
        refine Keeps.dite (fun _ => ?_) fun _ => ?_
        ·
          refine Keeps.bind ht (Keeps.of_mods (mods_k0_part141 _ _ _ _ _ _ h10) hm) fun _ => ?_
          refine Keeps.load h20 fun _ => ?_
          refine Keeps.store ht h20 (fun σ => store_keeps hP1 hp w20 σ _) ?_
          refine Keeps.dite (fun _ => ?_) fun _ => ?_
          ·
            refine Keeps.bind ht (Keeps.of_mods (mods_k0_part142 _ _ _ _ _ _ h10) hm) fun _ => ?_
            refine Keeps.load h20 fun _ => ?_
            refine Keeps.store ht h20 (fun σ => store_keeps hP1 hp w20 σ _) ?_
            refine Keeps.ite (fun _ => ?_) fun _ => ?_
            ·
              refine Keeps.smem h21 fun _ => ?_
              refine Keeps.store ht h21 (fun σ => store_ptr σ _ (hP2 σ _ (by rw [succ_toNat hb]; omega))) ?_
              refine Keeps.call (k - 1) (fun u hu => by cases hu; exact (by omega : k - 1 < k)) ?_
              exact IH hb
            ·
              refine Keeps.call (k - 1) (fun u hu => by cases hu; exact (by omega : k - 1 < k)) ?_
              exact IH hb
          ·
            refine Keeps.ite (fun _ => ?_) fun _ => ?_
            ·
              refine Keeps.smem h21 fun _ => ?_
              refine Keeps.store ht h21 (fun σ => store_ptr σ _ (hP2 σ _ (by rw [succ_toNat hb]; omega))) ?_
              refine Keeps.call (k - 1) (fun u hu => by cases hu; exact (by omega : k - 1 < k)) ?_
              exact IH hb
            ·
              refine Keeps.call (k - 1) (fun u hu => by cases hu; exact (by omega : k - 1 < k)) ?_
              exact IH hb
        ·
          refine Keeps.dite (fun _ => ?_) fun _ => ?_
          ·
            refine Keeps.bind ht (Keeps.of_mods (mods_k0_part142 _ _ _ _ _ _ h10) hm) fun _ => ?_
            refine Keeps.load h20 fun _ => ?_
            refine Keeps.store ht h20 (fun σ => store_keeps hP1 hp w20 σ _) ?_
            refine Keeps.ite (fun _ => ?_) fun _ => ?_
            ·
              refine Keeps.smem h21 fun _ => ?_
              refine Keeps.store ht h21 (fun σ => store_ptr σ _ (hP2 σ _ (by rw [succ_toNat hb]; omega))) ?_
              refine Keeps.call (k - 1) (fun u hu => by cases hu; exact (by omega : k - 1 < k)) ?_
              exact IH hb
            ·
              refine Keeps.call (k - 1) (fun u hu => by cases hu; exact (by omega : k - 1 < k)) ?_
              exact IH hb
          ·
            refine Keeps.ite (fun _ => ?_) fun _ => ?_
            ·
              refine Keeps.smem h21 fun _ => ?_
              refine Keeps.store ht h21 (fun σ => store_ptr σ _ (hP2 σ _ (by rw [succ_toNat hb]; omega))) ?_
              refine Keeps.call (k - 1) (fun u hu => by cases hu; exact (by omega : k - 1 < k)) ?_
              exact IH hb
            ·
              refine Keeps.call (k - 1) (fun u hu => by cases hu; exact (by omega : k - 1 < k)) ?_
              exact IH hb
      ·
        refine Keeps.dite (fun _ => ?_) fun _ => ?_
        ·
          refine Keeps.bind ht (Keeps.of_mods (mods_k0_part141 _ _ _ _ _ _ h10) hm) fun _ => ?_
          refine Keeps.load h20 fun _ => ?_
          refine Keeps.store ht h20 (fun σ => store_keeps hP1 hp w20 σ _) ?_
          refine Keeps.dite (fun _ => ?_) fun _ => ?_
          ·
            refine Keeps.bind ht (Keeps.of_mods (mods_k0_part142 _ _ _ _ _ _ h10) hm) fun _ => ?_
            refine Keeps.load h20 fun _ => ?_
            refine Keeps.store ht h20 (fun σ => store_keeps hP1 hp w20 σ _) ?_
            refine Keeps.ite (fun _ => ?_) fun _ => ?_
            ·
              refine Keeps.smem h21 fun _ => ?_
              refine Keeps.store ht h21 (fun σ => store_ptr σ _ (hP2 σ _ (by rw [succ_toNat hb]; omega))) ?_
              refine Keeps.call (k - 1) (fun u hu => by cases hu; exact (by omega : k - 1 < k)) ?_
              exact IH hb
            ·
              refine Keeps.call (k - 1) (fun u hu => by cases hu; exact (by omega : k - 1 < k)) ?_
              exact IH hb
          ·
            refine Keeps.ite (fun _ => ?_) fun _ => ?_
            ·
              refine Keeps.smem h21 fun _ => ?_
              refine Keeps.store ht h21 (fun σ => store_ptr σ _ (hP2 σ _ (by rw [succ_toNat hb]; omega))) ?_
              refine Keeps.call (k - 1) (fun u hu => by cases hu; exact (by omega : k - 1 < k)) ?_
              exact IH hb
            ·
              refine Keeps.call (k - 1) (fun u hu => by cases hu; exact (by omega : k - 1 < k)) ?_
              exact IH hb
        ·
          refine Keeps.dite (fun _ => ?_) fun _ => ?_
          ·
            refine Keeps.bind ht (Keeps.of_mods (mods_k0_part142 _ _ _ _ _ _ h10) hm) fun _ => ?_
            refine Keeps.load h20 fun _ => ?_
            refine Keeps.store ht h20 (fun σ => store_keeps hP1 hp w20 σ _) ?_
            refine Keeps.ite (fun _ => ?_) fun _ => ?_
            ·
              refine Keeps.smem h21 fun _ => ?_
              refine Keeps.store ht h21 (fun σ => store_ptr σ _ (hP2 σ _ (by rw [succ_toNat hb]; omega))) ?_
              refine Keeps.call (k - 1) (fun u hu => by cases hu; exact (by omega : k - 1 < k)) ?_
              exact IH hb
            ·
              refine Keeps.call (k - 1) (fun u hu => by cases hu; exact (by omega : k - 1 < k)) ?_
              exact IH hb
          ·
            refine Keeps.ite (fun _ => ?_) fun _ => ?_
            ·
              refine Keeps.smem h21 fun _ => ?_
              refine Keeps.store ht h21 (fun σ => store_ptr σ _ (hP2 σ _ (by rw [succ_toNat hb]; omega))) ?_
              refine Keeps.call (k - 1) (fun u hu => by cases hu; exact (by omega : k - 1 < k)) ?_
              exact IH hb
            ·
              refine Keeps.call (k - 1) (fun u hu => by cases hu; exact (by omega : k - 1 < k)) ?_
              exact IH hb
    ·
      exact Keeps.pure hr
termination_by k => k
decreasing_by omega

end Cert.Proof.KernelIdeal
-- ==== Proof.KernelIdeal.Body.lean ====
module

public import proofs.«01_k».proof.KernelIdeal
public import proofs.«01_k».proof.Proof.Gen.KernelIdeal.Launch
public import proofs.«01_k».proof.Proof.Hoare
public import proofs.«01_k».proof.Proof.KernelIdeal.Base
public import proofs.«01_k».proof.Proof.KernelIdeal.ModsMain
public import proofs.«01_k».proof.Proof.KernelIdeal.ModsTails
public import proofs.«01_k».proof.Proof.KernelIdeal.While

@[expose] public section

noncomputable section

namespace Cert.Proof.KernelIdeal

open Cert.KernelIdeal Cert.KernelIdeal.Gen Cert.Proof.Hoare

open Idealize.ShloMosaic Idealize.SL.Sem Idealize.SL.RA

variable {F : FTy → Type} [FloatOps F] {U : Type} [URA U]

variable {c : Dev nD} {bd : Option 𝒱₀.V} {L : Finset (Ref sig .tc)} {W : Set (Ref sig .tc)}

variable {i : grid0.Coords}
variable {arg1 : Memref sig .tc .smem S25 .i32} {harg1 : arg1.IsWhole}
variable {arg2 : Memref sig .tc .vmem S256x3328 .fp8e4m3} {harg2 : arg2.IsWhole}
variable {arg3 : Memref sig .tc .vmem S1x1x256 .f32} {harg3 : arg3.IsWhole}
variable {arg4 : Memref sig .tc .vmem S4x3328 .bf16} {harg4 : arg4.IsWhole}
variable {arg5 : Memref sig .tc .vmem S1x3328 .bf16} {harg5 : arg5.IsWhole}
variable {arg6 : Memref sig .tc .vmem S256x3328 .fp8e4m3} {harg6 : arg6.IsWhole}
variable {arg7 : Memref sig .tc .vmem S1x1x256 .f32} {harg7 : arg7.IsWhole}
variable {arg8 : Memref sig .tc .vmem S3x3x208x128 .f32} {harg8 : arg8.IsWhole}
variable {arg9 : Memref sig .tc .vmem S3x24x3328 .bf16} {harg9 : arg9.IsWhole}
variable {arg10 : Memref sig .tc .vmem S3536x2x128 .bf16} {harg10 : arg10.IsWhole}
variable {arg11 : Memref sig .tc .vmem S6864x128 .f32} {harg11 : arg11.IsWhole}
variable {arg12 : Memref sig .tc .vmem S6656x128 .f32} {harg12 : arg12.IsWhole}
variable {arg13 : Memref sig .tc .vmem S256x128 .f32} {harg13 : arg13.IsWhole}
variable {arg14 : Memref sig .tc .vmem S26x256x256 .bf16} {harg14 : arg14.IsWhole}
variable {arg15 : Memref sig .tc .vmem S26x8x128 .f32} {harg15 : arg15.IsWhole}
variable {arg16 : Memref sig .tc .vmem S5x26x128 .f32} {harg16 : arg16.IsWhole}
variable {arg17 : Memref sig .tc .vmem S128x2x128 .bf16} {harg17 : arg17.IsWhole}
variable {arg18 : Memref sig .tc .vmem S256x128 .f32} {harg18 : arg18.IsWhole}
variable {arg19 : Memref sig .tc .vmem S26x256x128 .fp8e4m3} {harg19 : arg19.IsWhole}
variable {arg20 : Memref sig .tc .vmem S3x3x208x128 .f32} {harg20 : arg20.IsWhole}
variable {arg21 : Memref sig .tc .smem S1 .i32} {harg21 : arg21.IsWhole}

/-! One theorem per window of the kernel's body: it runs, and changes only the buffers it stores to. -/

variable {P : St sig (Elt F) → Prop}

theorem trip_or {α : Type} {Q : α → Prop} {C : Prop} (hc : ¬C) {p : Prog (TpuEff nD τ sig (Elt F) (Λ₀ F) .tc) α} (h : Trip U (defs₀ (F := F)) 𝒱₀ c bd L P P Q p) :
    Trip U (defs₀ (F := F)) 𝒱₀ c bd L (fun σ => C ∨ P σ) P Q p := fun σ hp => h σ (hp.resolve_left hc)

theorem trip_any {α : Type} {Q : α → Prop} {P₁ : St sig (Elt F) → Prop} {p : Prog (TpuEff nD τ sig (Elt F) (Λ₀ F) .tc) α} (h : Trip U (defs₀ (F := F)) 𝒱₀ c bd L (fun _ => True) P Q p) :
    Trip U (defs₀ (F := F)) 𝒱₀ c bd L P₁ P Q p := fun σ _ => h σ trivial

theorem loops_refl {p : Ref sig .tc} (σ : St sig (Elt F)) : Loops W p P σ σ := ⟨fun _ _ _ => rfl, id⟩

theorem loops_trans {p : Ref sig .tc} (a b d : St sig (Elt F)) (h : Loops W p P a b) (h' : Loops W p P b d) : Loops W p P a d :=
  ⟨fun x hx hp => (h'.1 x hx hp).trans (h.1 x hx hp), h'.2 ∘ h.2⟩

theorem loops_of_mods {p : Ref sig .tc} (hP1 : ∀ σ σ' : St sig (Elt F), σ' p = σ p → P σ → P σ') (σ σ' : St sig (Elt F))
    (h : ∀ b, b ∉ {b : Ref sig .tc | b ≠ p} → σ' b = σ b) : Loops {b | b ≠ p} p P σ σ' :=
  ⟨fun b hb _ => h b hb, hP1 _ _ (h p fun h => h rfl)⟩

/-- The first window of the initialisation sets the pointer. -/
theorem trip_k0_part1 (h4 : arg4.view.ref ∈ L) (h5 : arg5.view.ref ∈ L) (h13 : arg13.view.ref ∈ L) (h14 : arg14.view.ref ∈ L) (h16 : arg16.view.ref ∈ L) (h21 : arg21.view.ref ∈ L) (w13 : arg13.view.ref ≠ arg21.view.ref) (w14 : arg14.view.ref ≠ arg21.view.ref) (w16 : arg16.view.ref ≠ arg21.view.ref) (hP1 : ∀ σ σ' : St sig (Elt F), σ' arg21.view.ref = σ arg21.view.ref → P σ → P σ') (hP0 : ∀ σ : St sig (Elt F), P (σ.set arg21.view.ref ((arg21.access (Rect.unit (s := S1) ![0] S1.size inb_S1_S1_0)).write (Elt F) (σ arg21.view.ref) (fun _ => (0#32 : BitVec 32)) Finset.univ))) :
    Trip U (defs₀ (F := F)) 𝒱₀ c bd L (fun _ => True) P (fun _ => True) (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) := by
  unfold k0_part1
  refine Trip.smem h21 fun _ => ?_
  refine Trip.store' (P := P) h21 (fun σ _ => hP0 σ) ?_
  refine Trip.load h13 fun _ => ?_
  refine Trip.store hP1 h13 w13 ?_
  refine Trip.load h4 fun _ => ?_
  refine Trip.load h4 fun _ => ?_
  refine Trip.load h4 fun _ => ?_
  refine Trip.load h4 fun _ => ?_
  refine Trip.load h5 fun _ => ?_
  refine Trip.load h16 fun _ => ?_
  refine Trip.store hP1 h16 w16 ?_
  refine Trip.load h14 fun _ => ?_
  refine Trip.store hP1 h14 w14 ?_
  exact Trip.pure trivial

set_option maxHeartbeats 2000000 in
/-- The initialisation sets the pointer. -/
theorem trip_k0_part53 (h4 : arg4.view.ref ∈ L) (h5 : arg5.view.ref ∈ L) (h13 : arg13.view.ref ∈ L) (h14 : arg14.view.ref ∈ L) (h15 : arg15.view.ref ∈ L) (h16 : arg16.view.ref ∈ L) (h21 : arg21.view.ref ∈ L) (w13 : arg13.view.ref ≠ arg21.view.ref) (w14 : arg14.view.ref ≠ arg21.view.ref) (w15 : arg15.view.ref ≠ arg21.view.ref) (w16 : arg16.view.ref ≠ arg21.view.ref) (hP1 : ∀ σ σ' : St sig (Elt F), σ' arg21.view.ref = σ arg21.view.ref → P σ → P σ') (hP0 : ∀ σ : St sig (Elt F), P (σ.set arg21.view.ref ((arg21.access (Rect.unit (s := S1) ![0] S1.size inb_S1_S1_0)).write (Elt F) (σ arg21.view.ref) (fun _ => (0#32 : BitVec 32)) Finset.univ))) :
    Trip U (defs₀ (F := F)) 𝒱₀ c bd L (fun _ => True) P (fun _ => True) (k0_part53 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) := by
  unfold k0_part53
  have w14 : arg14.view.ref ∈ {b : Ref sig .tc | b ≠ arg21.view.ref} := w14
  have w15 : arg15.view.ref ∈ {b : Ref sig .tc | b ≠ arg21.view.ref} := w15
  have w16 : arg16.view.ref ∈ {b : Ref sig .tc | b ≠ arg21.view.ref} := w16
  refine Trip.bind (trip_k0_part1 h4 h5 h13 h14 h16 h21 w13 w14 w16 hP1 hP0) fun r hr => ?_
  refine Trip.mods hP1 ?_ fun _ => ?_; unfold k0_part2; rotate_left
  refine Trip.mods hP1 ?_ fun _ => ?_; unfold k0_part3; rotate_left
  refine Trip.mods hP1 ?_ fun _ => ?_; unfold k0_part4; rotate_left
  refine Trip.mods hP1 ?_ fun _ => ?_; unfold k0_part5; rotate_left
  refine Trip.mods hP1 ?_ fun _ => ?_; unfold k0_part6; rotate_left
  refine Trip.mods hP1 ?_ fun _ => ?_; unfold k0_part7; rotate_left
  refine Trip.mods hP1 ?_ fun _ => ?_; unfold k0_part8; rotate_left
  refine Trip.mods hP1 ?_ fun _ => ?_; unfold k0_part9; rotate_left
  refine Trip.mods hP1 ?_ fun _ => ?_; unfold k0_part10; rotate_left
  refine Trip.mods hP1 ?_ fun _ => ?_; unfold k0_part11; rotate_left
  refine Trip.mods hP1 ?_ fun _ => ?_; unfold k0_part12; rotate_left
  refine Trip.mods hP1 ?_ fun _ => ?_; unfold k0_part13; rotate_left
  refine Trip.mods hP1 ?_ fun _ => ?_; unfold k0_part14; rotate_left
  refine Trip.mods hP1 ?_ fun _ => ?_; unfold k0_part15; rotate_left
  refine Trip.mods hP1 ?_ fun _ => ?_; unfold k0_part16; rotate_left
  refine Trip.mods hP1 ?_ fun _ => ?_; unfold k0_part17; rotate_left
  refine Trip.mods hP1 ?_ fun _ => ?_; unfold k0_part18; rotate_left
  refine Trip.mods hP1 ?_ fun _ => ?_; unfold k0_part19; rotate_left
  refine Trip.mods hP1 ?_ fun _ => ?_; unfold k0_part20; rotate_left
  refine Trip.mods hP1 ?_ fun _ => ?_; unfold k0_part21; rotate_left
  refine Trip.mods hP1 ?_ fun _ => ?_; unfold k0_part22; rotate_left
  refine Trip.mods hP1 ?_ fun _ => ?_; unfold k0_part23; rotate_left
  refine Trip.mods hP1 ?_ fun _ => ?_; unfold k0_part24; rotate_left
  refine Trip.mods hP1 ?_ fun _ => ?_; unfold k0_part25; rotate_left
  refine Trip.mods hP1 ?_ fun _ => ?_; unfold k0_part26; rotate_left
  refine Trip.mods hP1 ?_ fun _ => ?_; unfold k0_part27; rotate_left
  refine Trip.mods hP1 ?_ fun _ => ?_; unfold k0_part28; rotate_left
  refine Trip.mods hP1 ?_ fun _ => ?_; unfold k0_part29; rotate_left
  refine Trip.mods hP1 ?_ fun _ => ?_; unfold k0_part30; rotate_left
  refine Trip.mods hP1 ?_ fun _ => ?_; unfold k0_part31; rotate_left
  refine Trip.mods hP1 ?_ fun _ => ?_; unfold k0_part32; rotate_left
  refine Trip.mods hP1 ?_ fun _ => ?_; unfold k0_part33; rotate_left
  refine Trip.mods hP1 ?_ fun _ => ?_; unfold k0_part34; rotate_left
  refine Trip.mods hP1 ?_ fun _ => ?_; unfold k0_part35; rotate_left
  refine Trip.mods hP1 ?_ fun _ => ?_; unfold k0_part36; rotate_left
  refine Trip.mods hP1 ?_ fun _ => ?_; unfold k0_part37; rotate_left
  refine Trip.mods hP1 ?_ fun _ => ?_; unfold k0_part38; rotate_left
  refine Trip.mods hP1 ?_ fun _ => ?_; unfold k0_part39; rotate_left
  refine Trip.mods hP1 ?_ fun _ => ?_; unfold k0_part40; rotate_left
  refine Trip.mods hP1 ?_ fun _ => ?_; unfold k0_part41; rotate_left
  refine Trip.mods hP1 ?_ fun _ => ?_; unfold k0_part42; rotate_left
  refine Trip.mods hP1 ?_ fun _ => ?_; unfold k0_part43; rotate_left
  refine Trip.mods hP1 ?_ fun _ => ?_; unfold k0_part44; rotate_left
  refine Trip.mods hP1 ?_ fun _ => ?_; unfold k0_part45; rotate_left
  refine Trip.mods hP1 ?_ fun _ => ?_; unfold k0_part46; rotate_left
  refine Trip.mods hP1 ?_ fun _ => ?_; unfold k0_part47; rotate_left
  refine Trip.mods hP1 ?_ fun _ => ?_; unfold k0_part48; rotate_left
  refine Trip.mods hP1 ?_ fun _ => ?_; unfold k0_part49; rotate_left
  refine Trip.mods hP1 ?_ fun _ => ?_; unfold k0_part50; rotate_left
  refine Trip.mods hP1 ?_ fun _ => ?_; unfold k0_part51; rotate_left
  refine Trip.mods hP1 ?_ fun _ => ?_; unfold k0_part52; rotate_left
  refine Trip.load h14 fun _ => ?_
  refine Trip.store hP1 h14 w14 ?_
  exact Trip.pure trivial
  all_goals
    repeat with_reducible first
    | refine Mods.load (by assumption) fun _ => ?_
    | refine Mods.store (by assumption) (by assumption) ?_
    | dsimp only
    first | exact Mods.pure | exact Mods.load (by assumption) fun _ => Mods.pure

/-- The first half of the body: at the first point it sets the pointer, elsewhere it keeps it. -/
theorem trip_k0_part133 (h4 : arg4.view.ref ∈ L) (h5 : arg5.view.ref ∈ L) (h7 : arg7.view.ref ∈ L) (h10 : arg10.view.ref ∈ L) (h11 : arg11.view.ref ∈ L) (h12 : arg12.view.ref ∈ L) (h13 : arg13.view.ref ∈ L) (h14 : arg14.view.ref ∈ L) (h15 : arg15.view.ref ∈ L) (h16 : arg16.view.ref ∈ L) (h21 : arg21.view.ref ∈ L) (w7 : arg7.view.ref ≠ arg21.view.ref) (w10 : arg10.view.ref ≠ arg21.view.ref) (w11 : arg11.view.ref ≠ arg21.view.ref) (w12 : arg12.view.ref ≠ arg21.view.ref) (w13 : arg13.view.ref ≠ arg21.view.ref) (w14 : arg14.view.ref ≠ arg21.view.ref) (w15 : arg15.view.ref ≠ arg21.view.ref) (w16 : arg16.view.ref ≠ arg21.view.ref) (hP1 : ∀ σ σ' : St sig (Elt F), σ' arg21.view.ref = σ arg21.view.ref → P σ → P σ') (hP0 : ∀ σ : St sig (Elt F), P (σ.set arg21.view.ref ((arg21.access (Rect.unit (s := S1) ![0] S1.size inb_S1_S1_0)).write (Elt F) (σ arg21.view.ref) (fun _ => (0#32 : BitVec 32)) Finset.univ))) :
    Trip U (defs₀ (F := F)) 𝒱₀ c bd L (fun σ => k0_cond1 i = 1#1 ∨ P σ) P (fun _ => True) (k0_part133 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) := by
  unfold k0_part133
  refine Trip.dite (fun hc => ?_) fun hc => ?_
  ·
    refine trip_any ?_
    refine Trip.bind (trip_k0_part53 h4 h5 h13 h14 h15 h16 h21 w13 w14 w15 w16 hP1 hP0) fun r hr => ?_
    refine Trip.load h16 fun _ => ?_
    refine Trip.store hP1 h16 w16 ?_
    refine Trip.load h14 fun _ => ?_
    refine Trip.store hP1 h14 w14 ?_
    refine Trip.load h16 fun _ => ?_
    refine Trip.store hP1 h16 w16 ?_
    refine Trip.load h15 fun _ => ?_
    refine Trip.store hP1 h15 w15 ?_
    refine Trip.for hP1 (fun _ _ => ?_) fun _ => ?_
    ·
      refine Mods.load h10 fun _ => ?_
      refine Mods.store h10 w10 ?_
      refine Mods.load h11 fun _ => ?_
      refine Mods.store h11 w11 ?_
      refine Mods.load h12 fun _ => ?_
      refine Mods.store h12 w12 ?_
      exact Mods.pure
    refine Trip.load h13 fun _ => ?_
    refine Trip.for hP1 (fun _ _ => ?_) fun _ => ?_
    ·
      exact Mods.pure
    refine Trip.load h7 fun _ => ?_
    refine Trip.store hP1 h7 w7 ?_
    exact Trip.pure trivial
  ·
    refine trip_or hc ?_
    refine Trip.load h13 fun _ => ?_
    refine Trip.for hP1 (fun _ _ => ?_) fun _ => ?_
    ·
      exact Mods.pure
    refine Trip.load h7 fun _ => ?_
    refine Trip.store hP1 h7 w7 ?_
    exact Trip.pure trivial

/-- The second half of the body returns the pointer. -/
theorem trip_k0_part134 (arg0 : BitVec 32) (v6 : FVec F S1x256 .f32) (v35 : FVec F S256x128 .f32) (h2 : arg2.view.ref ∈ L) (h3 : arg3.view.ref ∈ L) (h6 : arg6.view.ref ∈ L) (h7 : arg7.view.ref ∈ L) (h10 : arg10.view.ref ∈ L) (h11 : arg11.view.ref ∈ L) (h12 : arg12.view.ref ∈ L) (h13 : arg13.view.ref ∈ L) (h14 : arg14.view.ref ∈ L) (h15 : arg15.view.ref ∈ L) (h17 : arg17.view.ref ∈ L) (h18 : arg18.view.ref ∈ L) (h19 : arg19.view.ref ∈ L) (h21 : arg21.view.ref ∈ L) (w6 : arg6.view.ref ≠ arg21.view.ref) (w7 : arg7.view.ref ≠ arg21.view.ref) (w10 : arg10.view.ref ≠ arg21.view.ref) (w11 : arg11.view.ref ≠ arg21.view.ref) (w12 : arg12.view.ref ≠ arg21.view.ref) (w13 : arg13.view.ref ≠ arg21.view.ref) (w17 : arg17.view.ref ≠ arg21.view.ref) (w18 : arg18.view.ref ≠ arg21.view.ref) (w19 : arg19.view.ref ≠ arg21.view.ref) (hP1 : ∀ σ σ' : St sig (Elt F), σ' arg21.view.ref = σ arg21.view.ref → P σ → P σ') (hPr : ∀ σ : St sig (Elt F), P σ → (arg21.view.readAt (Elt F) (Rect.unit (s := S1) ![0] S1.size inb_S1_S1_0).toLoadRect (σ arg21.view.ref) (Shape.Idx.first (numel1_S1.symm ▸ Nat.one_pos)) : BitVec 32).toNat ≤ 25) :
    Trip U (defs₀ (F := F)) 𝒱₀ c bd L (P) P (fun r => (r.2 : BitVec 32).toNat ≤ 25) (k0_part134 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v6 v35) := by
  unfold k0_part134
  refine Trip.load h18 fun _ => ?_
  refine Trip.store hP1 h18 w18 ?_
  refine Trip.ite (fun hc => ?_) fun hc => ?_
  ·
    refine Trip.mods hP1 (mods_k0_part54 h7 h12 h19 w7 w19) fun _ => ?_
    refine Trip.load h3 fun _ => ?_
    refine Trip.load h17 fun _ => ?_
    refine Trip.store hP1 h17 w17 ?_
    refine Trip.load h13 fun _ => ?_
    refine Trip.store hP1 h13 w13 ?_
    refine Trip.for hP1 (fun _ _ => ?_) fun _ => ?_
    ·
      refine Mods.bind (mods_k0_part55 _ _ _ h6 h12 h18 w6) fun _ => ?_
      refine Mods.bind (mods_k0_part56 _ _ _ _ h6 h12 h18 w6) fun _ => ?_
      refine Mods.bind (mods_k0_part57 _ _ _ h6 h12 h18 w6) fun _ => ?_
      refine Mods.bind (mods_k0_part58 _ _ _ _ _ _ h6 h10 h12 h18 w6) fun _ => ?_
      refine Mods.bind (mods_k0_part59 _ _ _ _ _ _ _ h2 h10 h11 h14 h17 w10 w11) fun _ => ?_
      refine Mods.bind (mods_k0_part60 _ _ _ _ h6 h11 h12 h18 w6 w11) fun _ => ?_
      refine Mods.bind (mods_k0_part61 _ _ _ _ h6 h12 h18 w6) fun _ => ?_
      refine Mods.bind (mods_k0_part62 _ _ _ _ h6 h12 h18 w6) fun _ => ?_
      refine Mods.bind (mods_k0_part63 _ _ _ _ h6 h10 h12 h18 w6 w10) fun _ => ?_
      refine Mods.bind (mods_k0_part64 _ _ _ _ _ h2 h10 h11 h14 h17 w10 w11) fun _ => ?_
      refine Mods.bind (mods_k0_part65 _ _ _ _ _ _ h11 h12 h13 h15 w11 w12) fun _ => ?_
      refine Mods.bind (mods_k0_part66 _ _ _ _ _ _ _ h11 h12 h13 h15 w12 w13) fun _ => ?_
      refine Mods.bind (mods_k0_part67 _ _ _ _ _ _ _ h11 h12 h13 h15 w12 w13) fun _ => ?_
      refine Mods.bind (mods_k0_part68 _ _ _ _ _ _ h11 h12 h13 h15 w12 w13) fun _ => ?_
      refine Mods.bind (mods_k0_part69 _ _ _ _ _ h11 h12 h13 h15 w12) fun _ => ?_
      refine Mods.bind (mods_k0_part70 _ _ _ _ _ _ _ h11 h12 h13 h15 w12 w13) fun _ => ?_
      refine Mods.bind (mods_k0_part71 _ _ _ _ _ _ _ h11 h12 h13 h15 w12 w13) fun _ => ?_
      refine Mods.bind (mods_k0_part72 _ _ _ _ _ _ _ h11 h12 h13 h15 w12 w13) fun _ => ?_
      refine Mods.bind (mods_k0_part73 _ _ _ _ _ _ _ h11 h12 h15 w12) fun _ => ?_
      refine Mods.bind (mods_k0_part74 _ _ _ _ _ _ _ _ h11 h12 h13 h15 w12 w13) fun _ => ?_
      refine Mods.load h11 fun _ => ?_
      refine Mods.load h15 fun _ => ?_
      refine Mods.load h12 fun _ => ?_
      refine Mods.store h12 w12 ?_
      refine Mods.load h13 fun _ => ?_
      refine Mods.store h13 w13 ?_
      exact Mods.pure
    refine Trip.ite (fun hc => ?_) fun hc => ?_
    ·
      refine Trip.mods hP1 (mods_k0_part75 h6 h19 w6) fun _ => ?_
      refine Trip.mods hP1 (mods_k0_part76 _ h6 h19 w6) fun _ => ?_
      refine Trip.mods hP1 (mods_k0_part77 h6 h19 w6) fun _ => ?_
      refine Trip.load h19 fun _ => ?_
      refine Trip.load h6 fun _ => ?_
      refine Trip.store hP1 h6 w6 ?_
      refine Trip.load h19 fun _ => ?_
      refine Trip.load h6 fun _ => ?_
      refine Trip.store hP1 h6 w6 ?_
      refine Trip.load h19 fun _ => ?_
      refine Trip.load h6 fun _ => ?_
      refine Trip.store hP1 h6 w6 ?_
      refine Trip.load h19 fun _ => ?_
      refine Trip.load h6 fun _ => ?_
      refine Trip.store hP1 h6 w6 ?_
      refine Trip.load h19 fun _ => ?_
      refine Trip.load h6 fun _ => ?_
      refine Trip.store hP1 h6 w6 ?_
      refine Trip.load h19 fun _ => ?_
      refine Trip.load h6 fun _ => ?_
      refine Trip.store hP1 h6 w6 ?_
      refine Trip.smem' (Q₁ := fun v : BitVec 32 => v.toNat ≤ 25) h21 hPr fun _ hv => ?_
      exact Trip.pure hv
    ·
      refine Trip.smem' (Q₁ := fun v : BitVec 32 => v.toNat ≤ 25) h21 hPr fun _ hv => ?_
      exact Trip.pure hv
  ·
    refine Trip.load h3 fun _ => ?_
    refine Trip.load h17 fun _ => ?_
    refine Trip.store hP1 h17 w17 ?_
    refine Trip.load h13 fun _ => ?_
    refine Trip.store hP1 h13 w13 ?_
    refine Trip.for hP1 (fun _ _ => ?_) fun _ => ?_
    ·
      refine Mods.bind (mods_k0_part55 _ _ _ h6 h12 h18 w6) fun _ => ?_
      refine Mods.bind (mods_k0_part56 _ _ _ _ h6 h12 h18 w6) fun _ => ?_
      refine Mods.bind (mods_k0_part57 _ _ _ h6 h12 h18 w6) fun _ => ?_
      refine Mods.bind (mods_k0_part58 _ _ _ _ _ _ h6 h10 h12 h18 w6) fun _ => ?_
      refine Mods.bind (mods_k0_part59 _ _ _ _ _ _ _ h2 h10 h11 h14 h17 w10 w11) fun _ => ?_
      refine Mods.bind (mods_k0_part60 _ _ _ _ h6 h11 h12 h18 w6 w11) fun _ => ?_
      refine Mods.bind (mods_k0_part61 _ _ _ _ h6 h12 h18 w6) fun _ => ?_
      refine Mods.bind (mods_k0_part62 _ _ _ _ h6 h12 h18 w6) fun _ => ?_
      refine Mods.bind (mods_k0_part63 _ _ _ _ h6 h10 h12 h18 w6 w10) fun _ => ?_
      refine Mods.bind (mods_k0_part64 _ _ _ _ _ h2 h10 h11 h14 h17 w10 w11) fun _ => ?_
      refine Mods.bind (mods_k0_part65 _ _ _ _ _ _ h11 h12 h13 h15 w11 w12) fun _ => ?_
      refine Mods.bind (mods_k0_part66 _ _ _ _ _ _ _ h11 h12 h13 h15 w12 w13) fun _ => ?_
      refine Mods.bind (mods_k0_part67 _ _ _ _ _ _ _ h11 h12 h13 h15 w12 w13) fun _ => ?_
      refine Mods.bind (mods_k0_part68 _ _ _ _ _ _ h11 h12 h13 h15 w12 w13) fun _ => ?_
      refine Mods.bind (mods_k0_part69 _ _ _ _ _ h11 h12 h13 h15 w12) fun _ => ?_
      refine Mods.bind (mods_k0_part70 _ _ _ _ _ _ _ h11 h12 h13 h15 w12 w13) fun _ => ?_
      refine Mods.bind (mods_k0_part71 _ _ _ _ _ _ _ h11 h12 h13 h15 w12 w13) fun _ => ?_
      refine Mods.bind (mods_k0_part72 _ _ _ _ _ _ _ h11 h12 h13 h15 w12 w13) fun _ => ?_
      refine Mods.bind (mods_k0_part73 _ _ _ _ _ _ _ h11 h12 h15 w12) fun _ => ?_
      refine Mods.bind (mods_k0_part74 _ _ _ _ _ _ _ _ h11 h12 h13 h15 w12 w13) fun _ => ?_
      refine Mods.load h11 fun _ => ?_
      refine Mods.load h15 fun _ => ?_
      refine Mods.load h12 fun _ => ?_
      refine Mods.store h12 w12 ?_
      refine Mods.load h13 fun _ => ?_
      refine Mods.store h13 w13 ?_
      exact Mods.pure
    refine Trip.ite (fun hc => ?_) fun hc => ?_
    ·
      refine Trip.mods hP1 (mods_k0_part75 h6 h19 w6) fun _ => ?_
      refine Trip.mods hP1 (mods_k0_part76 _ h6 h19 w6) fun _ => ?_
      refine Trip.mods hP1 (mods_k0_part77 h6 h19 w6) fun _ => ?_
      refine Trip.load h19 fun _ => ?_
      refine Trip.load h6 fun _ => ?_
      refine Trip.store hP1 h6 w6 ?_
      refine Trip.load h19 fun _ => ?_
      refine Trip.load h6 fun _ => ?_
      refine Trip.store hP1 h6 w6 ?_
      refine Trip.load h19 fun _ => ?_
      refine Trip.load h6 fun _ => ?_
      refine Trip.store hP1 h6 w6 ?_
      refine Trip.load h19 fun _ => ?_
      refine Trip.load h6 fun _ => ?_
      refine Trip.store hP1 h6 w6 ?_
      refine Trip.load h19 fun _ => ?_
      refine Trip.load h6 fun _ => ?_
      refine Trip.store hP1 h6 w6 ?_
      refine Trip.load h19 fun _ => ?_
      refine Trip.load h6 fun _ => ?_
      refine Trip.store hP1 h6 w6 ?_
      refine Trip.smem' (Q₁ := fun v : BitVec 32 => v.toNat ≤ 25) h21 hPr fun _ hv => ?_
      exact Trip.pure hv
    ·
      refine Trip.smem' (Q₁ := fun v : BitVec 32 => v.toNat ≤ 25) h21 hPr fun _ hv => ?_
      exact Trip.pure hv

/-- The kernel's body runs at every point, and leaves the pointer in its range. -/
theorem trip_cc0_conv_silu_quant (h1 : arg1.view.ref ∈ L) (h2 : arg2.view.ref ∈ L) (h3 : arg3.view.ref ∈ L) (h4 : arg4.view.ref ∈ L) (h5 : arg5.view.ref ∈ L) (h6 : arg6.view.ref ∈ L) (h7 : arg7.view.ref ∈ L) (h8 : arg8.view.ref ∈ L) (h9 : arg9.view.ref ∈ L) (h10 : arg10.view.ref ∈ L) (h11 : arg11.view.ref ∈ L) (h12 : arg12.view.ref ∈ L) (h13 : arg13.view.ref ∈ L) (h14 : arg14.view.ref ∈ L) (h15 : arg15.view.ref ∈ L) (h16 : arg16.view.ref ∈ L) (h17 : arg17.view.ref ∈ L) (h18 : arg18.view.ref ∈ L) (h19 : arg19.view.ref ∈ L) (h20 : arg20.view.ref ∈ L) (h21 : arg21.view.ref ∈ L) (w6 : arg6.view.ref ≠ arg21.view.ref) (w7 : arg7.view.ref ≠ arg21.view.ref) (w8 : arg8.view.ref ≠ arg21.view.ref) (w9 : arg9.view.ref ≠ arg21.view.ref) (w10 : arg10.view.ref ≠ arg21.view.ref) (w11 : arg11.view.ref ≠ arg21.view.ref) (w12 : arg12.view.ref ≠ arg21.view.ref) (w13 : arg13.view.ref ≠ arg21.view.ref) (w14 : arg14.view.ref ≠ arg21.view.ref) (w15 : arg15.view.ref ≠ arg21.view.ref) (w16 : arg16.view.ref ≠ arg21.view.ref) (w17 : arg17.view.ref ≠ arg21.view.ref) (w18 : arg18.view.ref ≠ arg21.view.ref) (w19 : arg19.view.ref ≠ arg21.view.ref) (w20 : arg20.view.ref ≠ arg21.view.ref) (hP1 : ∀ σ σ' : St sig (Elt F), σ' arg21.view.ref = σ arg21.view.ref → P σ → P σ') (hP0 : ∀ σ : St sig (Elt F), P (σ.set arg21.view.ref ((arg21.access (Rect.unit (s := S1) ![0] S1.size inb_S1_S1_0)).write (Elt F) (σ arg21.view.ref) (fun _ => (0#32 : BitVec 32)) Finset.univ))) (hPr : ∀ σ : St sig (Elt F), P σ → (arg21.view.readAt (Elt F) (Rect.unit (s := S1) ![0] S1.size inb_S1_S1_0).toLoadRect (σ arg21.view.ref) (Shape.Idx.first (numel1_S1.symm ▸ Nat.one_pos)) : BitVec 32).toNat ≤ 25) (hP2 : ∀ (σ : St sig (Elt F)) (v : BitVec 32), v.toNat ≤ 25 → P σ → P (σ.set arg21.view.ref ((arg21.access (Rect.unit (s := S1) ![0] S1.size inb_S1_S1_0)).write (Elt F) (σ arg21.view.ref) (fun _ => v) Finset.univ))) :
    Trip U (defs₀ (F := F)) 𝒱₀ c none L (fun σ => k0_cond1 i = 1#1 ∨ P σ) P (fun _ => True) (cc0_conv_silu_quant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) := by
  unfold cc0_conv_silu_quant
  refine Trip.bind (trip_k0_part133 h4 h5 h7 h10 h11 h12 h13 h14 h15 h16 h21 w7 w10 w11 w12 w13 w14 w15 w16 hP1 hP0) fun r hr => ?_
  refine Trip.bind (trip_k0_part134 _ _ _ h2 h3 h6 h7 h10 h11 h12 h13 h14 h15 h17 h18 h19 h21 w6 w7 w10 w11 w12 w13 w17 w18 w19 hP1 hPr) fun r hr => ?_
  refine Trip.call (25 - (r.2 : BitVec 32).toNat) (fun u hu => by cases hu) (keeps_while (W := {b | b ≠ arg21.view.ref}) (P := P) loops_refl loops_trans (loops_of_mods hP1) hP1 (fun h => h rfl) hP2 h1 h8 h10 h12 h13 h16 h20 h21 w8 w12 w13 w20 _ _ _ (Nat.add_sub_cancel' hr)) (fun _ _ h => h.2) fun _ => ?_
  refine Trip.dite (fun hc => ?_) fun hc => ?_
  ·
    refine Trip.mods hP1 (mods_k0_part132 h9 h20 w9) fun _ => ?_
    refine Trip.store hP1 h9 w9 ?_
    refine Trip.load h20 fun _ => ?_
    refine Trip.load h9 fun _ => ?_
    refine Trip.store hP1 h9 w9 ?_
    refine Trip.load h20 fun _ => ?_
    refine Trip.load h9 fun _ => ?_
    refine Trip.store hP1 h9 w9 ?_
    exact Trip.pure trivial
  ·
    exact Trip.pure trivial

end Cert.Proof.KernelIdeal
-- ==== Proof.KernelIdeal.Launch.lean ====
/-
  The launch of the kernel: from what the body does at one grid point (a run over the contents of the buffers it holds,
  with an invariant of the scratch buffers and a relation between what a staging buffer held and holds) to the run of the
  whole program.
-/
module

public import proofs.«01_k».proof.KernelIdeal
public import proofs.«01_k».proof.Proof.Gen.KernelIdeal.Launch
public import proofs.«01_k».proof.Proof.Gen.KernelIdeal.Points
public import proofs.«01_k».proof.Proof.Hoare
public import proofs.«01_k».proof.Proof.KernelIdeal.Base
public import Idealize.ShloMosaic.Lib.Pipeline.FrameSuffix

@[expose] public section

noncomputable section

namespace Cert.Proof.KernelIdeal

open Cert.KernelIdeal Cert.KernelIdeal.Gen Cert.Proof.Hoare

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig Unit (Elt F) ℕ (UR sig nD τ) ℕ

/-- The kernel's scratch buffers. -/
def scratchL : Finset (Ref sig .tc) :=
  {cc0_scratch0, cc0_scratch1, cc0_scratch2, cc0_scratch3, cc0_scratch4, cc0_scratch5, cc0_scratch6, cc0_scratch7, cc0_scratch8, cc0_scratch9, cc0_scratch10, cc0_scratch11}

/-- The buffer window `w` is staged in at point `t`. -/
abbrev stR (w : Fin 9) (t : Fin (cfg0 (F := F)).N) : Ref sig .tc := (((cfg0 (F := F)).win w).stage ((cfg0 (F := F)).slots t w)).view.ref

/-- The buffers the body holds at point `t`: each window's staging buffer, and the scratch. -/
def heldL (t : Fin (cfg0 (F := F)).N) : Finset (Ref sig .tc) := Finset.univ.image (fun w => stR w t) ∪ scratchL

/-- What window `w`'s block reads at contents `σ`. -/
abbrev rdW (w : Fin 9) (t : Fin (cfg0 (F := F)).N) (σ : St sig (Elt F)) : ((cfg0 (F := F)).win w).block.Idx → Elt F ((cfg0 (F := F)).win w).elt :=
  (((cfg0 (F := F)).win w).stage ((cfg0 (F := F)).slots t w)).view.read (Elt F) (σ (stR w t))

/-- The proof's data for the pipeline: what the arrays hold at entry, an invariant of the scratch, what may become of a
    staging buffer. -/
def rdat (V : (c : Dev nD) → (b : Ref sig .tc) → Buf (Elt F) ((c : Thread nD τ).loc b)) (I : ℕ → St sig (Elt F) → Prop)
    (after : (c : Dev nD) → (w : Fin 9) → Fin (cfg0 (F := F)).N → (Y X : ((cfg0 (F := F)).win w).block.Idx → Elt F ((cfg0 (F := F)).win w).elt) → Prop) (c : Dev nD) :
    RDat τ (Elt F) Unit ℕ (UR sig nD τ) ℕ (cfg0 (F := F)) c where
  A w := V c (Pipeline.arrRef spec0 w)
  after w t Y X := after c w t Y X
  Φ t := iprop((∃ σ : St sig (Elt F), ⌜I t.val σ⌝ ∗ Held c scratchL σ) ∗ ∃ r, prngReg c r)
  q _ := fullShare
  owed _ := 0

theorem stR_ne (t : Fin (cfg0 (F := F)).N) (w w' : Fin 9) (h : w ≠ w') : stR w t ≠ stR w' t := by
  have key : ∀ (w w' : Fin 9) (s : Fin (spec0 w).nbuf) (s' : Fin (spec0 w').nbuf), w ≠ w' → ((spec0 w).stage s).view.ref ≠ ((spec0 w').stage s').view.ref := by decide
  exact key w w' _ _ h

theorem stR_notin (t : Fin (cfg0 (F := F)).N) (w : Fin 9) : stR w t ∉ scratchL := by
  have key : ∀ (w : Fin 9) (s : Fin (spec0 w).nbuf), ((spec0 w).stage s).view.ref ∉ scratchL := by decide
  exact key w _

/-- What the body holds at a point: the staging buffers, one for each window, and the scratch. -/
theorem held_heldL (c : Dev nD) (t : Fin (cfg0 (F := F)).N) (σ : St sig (Elt F)) :
    (Held c (heldL t) σ : sProp 𝕄) = iprop((bigSep Finset.univ fun w : Fin 9 => (((c : Thread nD τ).loc (stR w t)) ↦{fullShare} (σ (stR w t) : Buf (Elt F) ((c : Thread nD τ).loc (stR w t)))))
      ∗ Held c scratchL σ) := by
  unfold Held heldL
  rw [bigSep_union (by
    rw [Finset.disjoint_left]
    intro b hb
    obtain ⟨w, -, rfl⟩ := Finset.mem_image.1 hb
    exact stR_notin t w)]
  rw [bigSep_image_of_injOn (fun w _ w' _ h => by_contra fun hne => stR_ne t w w' hne h)]
  rfl

theorem held_congr (c : Dev nD) {L : Finset (Ref sig .tc)} {σ σ' : St sig (Elt F)} (h : ∀ b ∈ L, σ b = σ' b) : (Held c L σ : sProp 𝕄) = Held c L σ' := by
  unfold Held
  exact bigSep_congr fun b hb => by rw [h b hb]

/-- Contents of the staging buffers and of the scratch, as contents of all. -/
theorem glue (t : Fin (cfg0 (F := F)).N) (f : (w : Fin 9) → (stR (F := F) w t).ty.Contents (Elt F)) (σ : St sig (Elt F)) :
    ∃ σ' : St sig (Elt F), (∀ w, σ' (stR w t) = f w) ∧ ∀ b ∈ scratchL, σ' b = σ b := by
  classical
  refine ⟨fun b => if h : ∃ w, stR w t = b then h.choose_spec ▸ f h.choose else σ b, fun w => ?_, fun b hb => ?_⟩
  · have h : ∃ w', stR (F := F) w' t = stR w t := ⟨w, rfl⟩
    have hw : h.choose = w := by_contra fun hne => stR_ne t _ _ hne h.choose_spec
    simp only [dif_pos h]
    have key : ∀ (w' : Fin 9) (e : stR (F := F) w' t = stR w t), w' = w → e ▸ f w' = f w := by
      intro w' e hh; subst hh; rfl
    exact key _ _ hw
  · exact dif_neg fun ⟨w, hw⟩ => stR_notin t w (hw ▸ hb)

variable {V : (c : Dev nD) → (b : Ref sig .tc) → Buf (Elt F) ((c : Thread nD τ).loc b)} {I : ℕ → St sig (Elt F) → Prop}
  {after : (c : Dev nD) → (w : Fin 9) → Fin (cfg0 (F := F)).N → (Y X : ((cfg0 (F := F)).win w).block.Idx → Elt F ((cfg0 (F := F)).win w).elt) → Prop}

/-- A staging buffer owned at what its block reads, as the buffer itself. -/
theorem owns_stage (c : Dev nD) (t : Fin (cfg0 (F := F)).N) (w : Fin 9) (X : ((cfg0 (F := F)).win w).block.Idx → Elt F ((cfg0 (F := F)).win w).elt) :
    (ownsTc c (((cfg0 (F := F)).win w).stage ((cfg0 (F := F)).slots t w)) fullShare X : sProp 𝕄)
      = iprop(∃ f : (stR (F := F) w t).ty.Contents (Elt F), ⌜(((cfg0 (F := F)).win w).stage ((cfg0 (F := F)).slots t w)).view.read (Elt F) f = X⌝
          ∗ (((c : Thread nD τ).loc (stR w t)) ↦{fullShare} (f : Buf (Elt F) ((c : Thread nD τ).loc (stR w t))))) := by
  unfold ownsTc owns
  rw [Memref.IsWhole.set_eq_univ (stage_whole0 w _)]

/-- The body's obligation, from a run at each point. -/
theorem body_ob (hloc : ∀ k σ σ', (∀ b ∈ scratchL, σ' b = σ b) → I k σ → I k σ')
    (h : ∀ (c : Dev nD) (t : Fin (cfg0 (F := F)).N) (σ : St sig (Elt F)), I t.val σ →
      (∀ w, (rdat V I after c).Finds w t (rdW w t σ)) →
      Runs (UR sig nD τ) (defs₀ (F := F)) 𝒱₀ c none (heldL t) σ (bodyAt0 t) fun _ σ' => I (t.val + 1) σ' ∧ ∀ w, after c w t (rdW w t σ) (rdW w t σ'))
    (c : Dev nD) : (rdat V I after c).BodyObligation (defs₀ (F := F)) 𝒱₀ () Set.univ := fun t Y hY => by
  show iprop((rdat V I after c).Φ t.castSucc ∗ (rdat V I after c).owesAt () t.castSucc
      ∗ bigSep Finset.univ fun w : Fin 9 => ownsTc c (((cfg0 (F := F)).win w).stage ((cfg0 (F := F)).slots t w)) fullShare (Y w))
    ⊢ wp frame (wpE (defs₀ (F := F)) 𝒱₀ c none) Set.univ (bodyAt0 t) (fun _ => iprop((rdat V I after c).Φ t.succ ∗ (rdat V I after c).owesAt () t.succ
      ∗ bigSep Finset.univ fun w : Fin 9 => iprop(∃ X, ⌜after c w t (Y w) X⌝ ∗ ownsTc c (((cfg0 (F := F)).win w).stage ((cfg0 (F := F)).slots t w)) fullShare X)))
  rw [bigSep_congr fun w _ => owns_stage c t w (Y w), show (rdat V I after c).Φ t.castSucc = iprop((∃ σ : St sig (Elt F), ⌜I t.val σ⌝ ∗ Held c scratchL σ) ∗ ∃ r, prngReg c r) from rfl,
    show (rdat V I after c).Φ t.succ = iprop((∃ σ : St sig (Elt F), ⌜I (t.val + 1) σ⌝ ∗ Held c scratchL σ) ∗ ∃ r, prngReg c r) from rfl,
    show (rdat V I after c).owesAt () t.succ = (rdat V I after c).owesAt () t.castSucc from rfl]
  iintro ⟨⟨⟨%σ0, %hI, Hs⟩, Hg⟩, Ho, Hf⟩
  ihave Hf := (bigSep_exists_pi Finset.univ _) $$ Hf
  icases Hf with ⟨%f, Hf⟩
  ihave Hf := (bigSep_pure_sep Finset.univ _ _) $$ Hf
  icases Hf with ⟨%hf, Hf⟩
  obtain ⟨σ, hσw, hσs⟩ := glue t f σ0
  have hIσ : I t.val σ := hloc _ _ _ hσs hI
  have hYσ : ∀ w, rdW w t σ = Y w := fun w => by
    show View.read _ _ (σ (stR w t)) = _
    rw [hσw]; exact hf w (Finset.mem_univ w)
  have hrun := h c t σ hIσ (fun w => by rw [hYσ]; exact hY w)
  unfold Runs at hrun
  rw [held_heldL, held_congr c hσs, bigSep_congr fun w _ => by rw [hσw w]] at hrun
  ihave Hw := hrun $$ [Hf Hs]
  · isplitl [Hf] <;> iassumption
  iapply (wp_wand _ _ _) $$ Hw
  iintro %_ ⟨%σ', ⟨%hI', %ha⟩, H⟩
  ihave H := (show (Held c (heldL t) σ' : sProp 𝕄) ⊢ iprop((bigSep Finset.univ fun w : Fin 9 => (((c : Thread nD τ).loc (stR w t)) ↦{fullShare} (σ' (stR w t) : Buf (Elt F) ((c : Thread nD τ).loc (stR w t)))))
      ∗ Held c scratchL σ') from by rw [held_heldL]) $$ H
  icases H with ⟨Hf, Hs⟩
  isplitl [Hs Hg]
  · isplitl [Hs]
    · iexists σ'
      isplitr
      · ipureintro; exact hI'
      iexact Hs
    iexact Hg
  isplitl [Ho]
  · iexact Ho
  have hback : (bigSep Finset.univ fun w : Fin 9 => (((c : Thread nD τ).loc (stR w t)) ↦{fullShare} (σ' (stR w t) : Buf (Elt F) ((c : Thread nD τ).loc (stR w t)))) : sProp 𝕄)
      ⊢ bigSep Finset.univ fun w : Fin 9 => iprop(∃ X, ⌜after c w t (Y w) X⌝ ∗ ownsTc c (((cfg0 (F := F)).win w).stage ((cfg0 (F := F)).slots t w)) fullShare X) := by
    refine bigSep_mono fun w _ => ?_
    show iprop((((c : Thread nD τ).loc (stR w t)) ↦{fullShare} (σ' (stR w t) : Buf (Elt F) ((c : Thread nD τ).loc (stR w t))))) ⊢
      iprop(∃ X, ⌜after c w t (Y w) X⌝ ∗ ownsTc c (((cfg0 (F := F)).win w).stage ((cfg0 (F := F)).slots t w)) fullShare X)
    iintro H
    iexists rdW w t σ'
    isplitr
    · ipureintro
      have := ha w
      rwa [hYσ] at this
    rw [owns_stage]
    iexists σ' (stR w t)
    isplitr
    · ipureintro; rfl
    iexact H
  iapply hback
  iexact Hf

/-- The buffers the host's lines after the kernel write. -/
def tailT : Finset (Ref sig .tc) := {main_v4, main_v5, main_v6, main_v7}

/-- What a core's buffers hold when the kernel starts: the host's lines before it have run. -/
def V₀ (m : (ℓ : Loc nD τ sig) → Buf (Elt F) ℓ) (c : Dev nD) : Valuation τ sig (Elt F) :=
  StableHlo.after (hostOps0 : List (HloOp τ sig (Elt F))) (fun b => m (c, b))

theorem scoped_eq : (Finset.univ.filter fun b : Ref sig .tc => b.isScoped) \ Finset.univ.image (Pipeline.stageRef spec0) = scratchL := by decide

theorem hostOps0_fresh : (hostOps0 : List (HloOp τ sig (Elt F))).Forall fun op => op.fresh = ∅ := by
  simp only [hostOps0, List.Forall]; exact ⟨rfl, rfl, rfl⟩

theorem hostOps1_fresh : (hostOps1 : List (HloOp τ sig (Elt F))).Forall fun op => op.fresh = ∅ := by
  simp only [hostOps1, List.Forall]; exact ⟨rfl, rfl, rfl, rfl⟩

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 winFacts0.arr_unscoped]
  intro ops hops op hop
  simp only [List.mem_cons, List.mem_nil_iff, or_false] at hops
  subst hops
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  rcases hop with rfl | rfl | rfl | rfl
  all_goals intro w; fin_cases w <;> simp only [StableHlo.reshape_writes, StableHlo.unary_writes, Finset.mem_singleton] <;> exact StableHlo.devRef_ne_of_ne (by decide)

theorem sfx_writes : ∀ ops ∈ ([hostOps1] : List (List (HloOp τ sig (Elt F)))), ∀ op ∈ ops,
    ∀ b : Ref sig .tc, Proc.devRef .tc b ∈ op.writes → b ∈ tailT := by
  intro ops hops op hop
  simp only [List.mem_cons, List.mem_nil_iff, or_false] at hops
  subst hops
  simp only [hostOps1, List.mem_cons, List.mem_nil_iff, or_false] at hop
  rcases hop with rfl | rfl | rfl | rfl
  all_goals intro b hb; simp only [StableHlo.reshape_writes, StableHlo.unary_writes, Finset.mem_singleton] at hb; cases Proc.devRef_injective _ hb; decide

/-- No line before the kernel writes a buffer but its own result. -/
theorem V₀_of_ne (m : (ℓ : Loc nD τ sig) → Buf (Elt F) ℓ) (c : Dev nD) (b : Ref sig .tc) (h0 : b ≠ main_v0) (h1 : b ≠ main_v1) (h2 : b ≠ main_v2) :
    V₀ m c (Proc.devRef .tc b) = m ((c : Thread nD τ).loc b) :=
  StableHlo.after_of_forall_not_mem (b := Proc.devRef .tc b) _ _ (List.forall_iff_forall_mem.mp (by
    simp only [hostOps0, List.Forall, StableHlo.reshape_writes, StableHlo.unary_writes, Finset.mem_singleton]
    exact ⟨StableHlo.devRef_ne_of_ne h0, StableHlo.devRef_ne_of_ne h1, StableHlo.devRef_ne_of_ne h2⟩))

theorem scoped_in (c : Dev nD) : (Pipeline.scopedRest (Ix := Unit) (Name := ℕ) (U := UR sig nD τ) (Lvl := ℕ) (Val := Elt F) spec0 c : sProp 𝕄) ⊢ iprop(∃ σ : St sig (Elt F), Held c scratchL σ) := by
  unfold Pipeline.scopedRest Held
  rw [scoped_eq]
  exact bigSep_exists_pi (Y := fun b : Ref sig .tc => b.ty.Contents (Elt F)) scratchL fun b f => (((c : Thread nD τ).loc b) ↦{fullShare} (f : Buf (Elt F) ((c : Thread nD τ).loc b)))

theorem scoped_out (c : Dev nD) (σ : St sig (Elt F)) : (Held c scratchL σ : sProp 𝕄) ⊢ Pipeline.scopedRest (Ix := Unit) (Name := ℕ) (U := UR sig nD τ) (Lvl := ℕ) (Val := Elt F) spec0 c := by
  unfold Pipeline.scopedRest Held
  rw [scoped_eq]
  refine bigSep_mono fun b _ => ?_
  · show iprop((((c : Thread nD τ).loc b) ↦{fullShare} (σ b : Buf (Elt F) ((c : Thread nD τ).loc b)))) ⊢ iprop(∃ f : Buf (Elt F) ((c : Thread nD τ).loc b), ((c : Thread nD τ).loc b) ↦{fullShare} f)
    iintro H
    iexists σ b
    iexact H

/-- The run of the whole program: every array of the pipeline ends at contents the relation allows, every other buffer that
    no line after the kernel writes ends as it was, and every semaphore at zero. -/
theorem run_main (I : ℕ → St sig (Elt F) → Prop)
    (after : ((ℓ : Loc nD τ sig) → Buf (Elt F) ℓ) → (c : Dev nD) → (w : Fin 9) → Fin (cfg0 (F := F)).N → (Y X : ((cfg0 (F := F)).win w).block.Idx → Elt F ((cfg0 (F := F)).win w).elt) → Prop)
    (m : (ℓ : Loc nD τ sig) → Buf (Elt F) ℓ) (g : Dev nD → PrngReg)
    (hloc : ∀ k σ σ', (∀ b ∈ scratchL, σ' b = σ b) → I k σ → I k σ') (h0 : ∀ σ, I 0 σ)
    (h : ∀ (c : Dev nD) (t : Fin (cfg0 (F := F)).N) (σ : St sig (Elt F)), I t.val σ →
      (∀ w, (rdat (fun c b => V₀ m c (Proc.devRef .tc b)) I (after m) c).Finds w t (rdW w t σ)) →
      Runs (UR sig nD τ) (defs₀ (F := F)) 𝒱₀ c none (heldL t) σ (bodyAt0 t) fun _ σ' => I (t.val + 1) σ' ∧ ∀ w, after m c w t (rdW w t σ) (rdW w t σ')) :
    θ_run (defs (F := F)) (onTc (τ := τ) (main (F := F))) ⟨m, fun _ => 0, g⟩ fun r =>
      RDat.FramePostR (cfg0 (F := F)) (rdat (fun c b => V₀ m c (Proc.devRef .tc b)) I (after m)) tailT (fun c b => V₀ m c (Proc.devRef .tc b)) r
        ∧ r.2.sem = fun _ => 0 :=
  RDat.θ_run_frame_around_T_track (cfgs (F := F)) 0 launch0 defs₀ 𝒱₀ (rdat (fun c b => V₀ m c (Proc.devRef .tc b)) I (after m)) tailT m g main
    (fun c => body_ob hloc h c)
    (fun c w => by unfold RDat.share; split <;> rfl) (fun _ _ => rfl) (V₀ m) [hostOps1]
    sfx_sub sfx_fresh sfx_keeps sfx_writes
    (Pipeline.hmain_around cfgs 0 defs₀ 𝒱₀ m main [hostOps0] [hostOps1] (by simp only [List.Forall]; exact hostOps0_sub) (by simp only [List.Forall]; exact hostOps0_fresh) main_chain)
    (fun _ _ => rfl)
    (fun c => by
      show iprop(Pipeline.scopedRest spec0 c ∗ ∃ r, prngReg c r) ⊢ iprop((∃ σ : St sig (Elt F), ⌜I 0 σ⌝ ∗ Held c scratchL σ) ∗ ∃ r, prngReg c r)
      iintro ⟨H, Hg⟩
      isplitl [H]
      · ihave H := (scoped_in c) $$ H
        icases H with ⟨%σ, H⟩
        iexists σ
        isplitr
        · ipureintro; exact h0 σ
        iexact H
      iexact Hg)
    (fun c => by
      show iprop((∃ σ : St sig (Elt F), ⌜I (Fin.last (cfg0 (F := F)).N).val σ⌝ ∗ Held c scratchL σ) ∗ ∃ r, prngReg c r) ⊢ iprop(Pipeline.scopedRest spec0 c ∗ ∃ r, prngReg c r)
      iintro ⟨⟨%σ, -, H⟩, Hg⟩
      isplitl [H]
      · iapply (scoped_out c σ); iexact H
      iexact Hg) _ (fun _ h => h)

end Cert.Proof.KernelIdeal
-- ==== Proof.KernelIdeal.Frame.lean ====
/-
  The frame of the program: from any memory it runs to its end, no check fails, its arguments end as they began and every
  semaphore ends at zero. The invariant: from the second grid point on, the pointer is at most 25.
-/
module

public import proofs.«01_k».proof.Proof.KernelIdeal.Body
public import proofs.«01_k».proof.Proof.KernelIdeal.Launch

@[expose] public section

noncomputable section

namespace Cert.Proof.KernelIdeal

open Cert.KernelIdeal Cert.KernelIdeal.Gen Cert.Proof.Hoare

open Idealize.ShloMosaic Idealize.ShloMosaic.TcCoe
open Idealize.SL Idealize.SL.RA Idealize.SL.Sem
open Idealize.ShloMosaic.Rounds
open Idealize.ShloMosaic.Pipeline (RDat Cfg Window)

variable {F : FTy → Type} [FloatOps F]

/-- The pointer is in its range. -/
def PtrOk (σ : St sig (Elt F)) : Prop := ∀ x : S1.Idx, ((σ cc0_scratch11 : S1.Idx → BitVec 32) x).toNat ≤ 25

theorem ptrOk_congr (σ σ' : St sig (Elt F)) (h : σ' cc0_scratch11 = σ cc0_scratch11) (hp : PtrOk σ) : PtrOk σ' := by
  unfold PtrOk at *; rw [h]; exact hp

theorem ptr_read (f : S1.Idx → BitVec 32) (x) :
    ((Memref.whole cc0_scratch11).view.readAt (Elt F) (Rect.unit (s := S1) ![0] S1.size inb_S1_S1_0).toLoadRect f x : BitVec 32) = f x := by
  have : ∀ x y : S1.Idx, x = y := by decide
  exact congrArg f (this _ _)

theorem ptr_write (f : S1.Idx → BitVec 32) (v : BitVec 32) (x : S1.Idx) :
    (((Memref.whole cc0_scratch11).access (Rect.unit (s := S1) ![0] S1.size inb_S1_S1_0)).write (Elt F) f (fun _ => v) Finset.univ : S1.Idx → BitVec 32) x = v := by
  have key : ∀ x y : S1.Idx, x = y := by decide
  have h := View.read_write_univ (Val := Elt F) (v := (Memref.whole cc0_scratch11).access (Rect.unit (s := S1) ![0] S1.size inb_S1_S1_0)) f (fun _ => v)
  have h1 := congrFun h x
  refine Eq.trans ?_ h1
  exact congrArg _ (key _ _)

theorem ptrOk_set (σ : St sig (Elt F)) (v : BitVec 32) (hv : v.toNat ≤ 25) (_ : PtrOk σ) :
    PtrOk (σ.set cc0_scratch11 (((Memref.whole cc0_scratch11).access (Rect.unit (s := S1) ![0] S1.size inb_S1_S1_0)).write (Elt F) (σ cc0_scratch11) (fun _ => v) Finset.univ)) := by
  intro x
  rw [St.set_self]
  exact (congrArg BitVec.toNat (ptr_write (F := F) (σ cc0_scratch11) v x)).trans_le hv

theorem ptrOk_zero (σ : St sig (Elt F)) :
    PtrOk (σ.set cc0_scratch11 (((Memref.whole cc0_scratch11).access (Rect.unit (s := S1) ![0] S1.size inb_S1_S1_0)).write (Elt F) (σ cc0_scratch11) (fun _ => (0#32 : BitVec 32)) Finset.univ)) := by
  intro x
  rw [St.set_self]
  exact (congrArg BitVec.toNat (ptr_write (F := F) (σ cc0_scratch11) 0#32 x)).trans_le (by decide)

theorem ptrOk_read (σ : St sig (Elt F)) (h : PtrOk σ) :
    ((Memref.whole cc0_scratch11).view.readAt (Elt F) (Rect.unit (s := S1) ![0] S1.size inb_S1_S1_0).toLoadRect (σ cc0_scratch11) (Shape.Idx.first (numel1_S1.symm ▸ Nat.one_pos)) : BitVec 32).toNat ≤ 25 :=
  (congrArg BitVec.toNat (ptr_read (F := F) (σ cc0_scratch11) _)).trans_le (h _)

theorem mem_stage (t : Fin (cfg0 (F := F)).N) (w : Fin 9) : stR w t ∈ heldL t := Finset.mem_union_left _ (Finset.mem_image_of_mem _ (Finset.mem_univ w))

theorem mem_scratch (t : Fin (cfg0 (F := F)).N) {b : Ref sig .tc} (h : b ∈ scratchL) : b ∈ heldL t := Finset.mem_union_right _ h

theorem stage_ne (t : Fin (cfg0 (F := F)).N) (w : Fin 9) : stR w t ≠ cc0_scratch11 := fun h => stR_notin t w (h ▸ by decide)

theorem cond1_zero (t : Fin (cfg0 (F := F)).N) (h : t.val = 0) : k0_cond1 (grid0.coords t) = 1#1 := by
  have key : ∀ t : Fin grid0.N, t.val = 0 → k0_cond1 (grid0.coords t) = 1#1 := by
    intro t h
    have : t = ⟨0, by decide⟩ := Fin.ext h
    subst this
    decide
  exact key t h

/-- The kernel's body at any point. -/
theorem body_trip (c : Dev nD) (t : Fin (cfg0 (F := F)).N) :
    Trip (UR sig nD τ) (defs₀ (F := F)) 𝒱₀ c none (heldL t) (fun σ => k0_cond1 (grid0.coords t) = 1#1 ∨ PtrOk σ) PtrOk (fun _ => True) (bodyAt0 t) :=
  trip_cc0_conv_silu_quant (mem_stage t 0) (mem_stage t 1) (mem_stage t 2) (mem_stage t 3) (mem_stage t 4) (mem_stage t 5) (mem_stage t 6) (mem_stage t 7) (mem_stage t 8) (mem_scratch t (by decide)) (mem_scratch t (by decide)) (mem_scratch t (by decide)) (mem_scratch t (by decide)) (mem_scratch t (by decide)) (mem_scratch t (by decide)) (mem_scratch t (by decide)) (mem_scratch t (by decide)) (mem_scratch t (by decide)) (mem_scratch t (by decide)) (mem_scratch t (by decide)) (mem_scratch t (by decide)) (stage_ne t 5) (stage_ne t 6) (stage_ne t 7) (stage_ne t 8) (by decide) (by decide) (by decide) (by decide) (by decide) (by decide) (by decide) (by decide) (by decide) (by decide) (by decide) ptrOk_congr ptrOk_zero ptrOk_read ptrOk_set

/-- The run of the program, of whose results nothing is said. -/
theorem run_frame (m : (ℓ : Loc nD τ sig) → Buf (Elt F) ℓ) (g : Dev nD → PrngReg) :
    θ_run (defs (F := F)) (onTc (τ := τ) (main (F := F))) ⟨m, fun _ => 0, g⟩ fun r =>
      RDat.FramePostR (cfg0 (F := F)) (rdat (fun c b => V₀ m c (Proc.devRef .tc b)) (fun k σ => k = 0 ∨ PtrOk σ) (fun _ _ _ _ _ => True)) tailT (fun c b => V₀ m c (Proc.devRef .tc b)) r
        ∧ r.2.sem = fun _ => 0 :=
  run_main (fun k σ => k = 0 ∨ PtrOk σ) (fun _ _ _ _ _ _ => True) m g
    (fun k σ σ' h hi => hi.imp id (ptrOk_congr σ σ' (h _ (by decide)))) (fun _ => .inl rfl)
    (fun c t σ hI _ => Runs.mono (body_trip c t σ (hI.imp (cond1_zero t) id)) fun _ σ' h => ⟨.inr h.1, fun _ => trivial⟩)

theorem rest_mem (b : Ref sig .tc) (h : b = main_arg1 ∨ b = main_arg3 ∨ b = main_arg4) : b ∈ Pipeline.restRefs sig spec0 \ tailT := by
  rcases h with rfl | rfl | rfl <;> decide

/-- What a run that keeps its input arrays says of the arguments. -/
theorem args_of {m : (ℓ : Loc nD τ sig) → Buf (Elt F) ℓ} {r : PUnit × MemSt nD τ sig (Elt F)}
    {I : ℕ → St sig (Elt F) → Prop} {after : (c : Dev nD) → (w : Fin 9) → Fin (cfg0 (F := F)).N → (Y X : ((cfg0 (F := F)).win w).block.Idx → Elt F ((cfg0 (F := F)).win w).elt) → Prop}
    (h : RDat.FramePostR (cfg0 (F := F)) (rdat (fun c b => V₀ m c (Proc.devRef .tc b)) I after) tailT (fun c b => V₀ m c (Proc.devRef .tc b)) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  ⟨(h.arr_in c 1 rfl).trans (V₀_of_ne m c main_arg0 (by decide) (by decide) (by decide)),
   ((h c).2 _ (rest_mem _ (.inl rfl))).trans (V₀_of_ne m c main_arg1 (by decide) (by decide) (by decide)),
   (h.arr_in c 0 rfl).trans (V₀_of_ne m c main_arg2 (by decide) (by decide) (by decide)),
   ((h c).2 _ (rest_mem _ (.inr (.inl rfl)))).trans (V₀_of_ne m c main_arg3 (by decide) (by decide) (by decide)),
   ((h c).2 _ (rest_mem _ (.inr (.inr rfl)))).trans (V₀_of_ne m c main_arg4 (by decide) (by decide) (by decide))⟩

/-- From any memory the program runs to its end, leaves its arguments as they were and every semaphore at zero. -/
theorem frame (m : (ℓ : Loc nD τ sig) → Buf (Elt F) ℓ) (g : Dev nD → PrngReg) :
    θ_run (defs (F := F)) (onTc (τ := τ) (main (F := F))) ⟨m, fun _ => 0, g⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0 :=
  (θ_run (defs (F := F)) _ _).mono (fun r h => ⟨args_of h.1, h.2⟩) (run_frame m g)

end Cert.Proof.KernelIdeal
-- ==== Proof.KernelIdeal.Bufs.lean ====
/-
  The kernel's twenty-one buffers as one bundle: each is held, and no two are the same buffer. What a buffer holds is read
  through its view (`rd`), and a load or a store of a window is a rule about what is read.
-/
module

public import Idealize.ShloMosaic.Lib.VecWindow
public import Idealize.ShloMosaic.Lib.Pointwise.Tactic
public import Idealize.ShloMosaic.Lib.Pointwise.Contract
public import proofs.«01_k».proof.Proof.KernelIdeal.Base

@[expose] public section

noncomputable section

namespace Cert.Proof.KernelIdeal

open Cert.KernelIdeal Cert.KernelIdeal.Gen Cert.Proof.Hoare

open Idealize.ShloMosaic Idealize.SL.Sem Idealize.SL.RA

/-- The buffers of the kernel's body, in the order of its arguments. -/
structure Bufs (L : Finset (Ref sig .tc)) where
  arg1 : Memref sig .tc .smem S25 .i32
  harg1 : arg1.IsWhole
  h1 : arg1.view.ref ∈ L
  arg2 : Memref sig .tc .vmem S256x3328 .fp8e4m3
  harg2 : arg2.IsWhole
  h2 : arg2.view.ref ∈ L
  arg3 : Memref sig .tc .vmem S1x1x256 .f32
  harg3 : arg3.IsWhole
  h3 : arg3.view.ref ∈ L
  arg4 : Memref sig .tc .vmem S4x3328 .bf16
  harg4 : arg4.IsWhole
  h4 : arg4.view.ref ∈ L
  arg5 : Memref sig .tc .vmem S1x3328 .bf16
  harg5 : arg5.IsWhole
  h5 : arg5.view.ref ∈ L
  arg6 : Memref sig .tc .vmem S256x3328 .fp8e4m3
  harg6 : arg6.IsWhole
  h6 : arg6.view.ref ∈ L
  arg7 : Memref sig .tc .vmem S1x1x256 .f32
  harg7 : arg7.IsWhole
  h7 : arg7.view.ref ∈ L
  arg8 : Memref sig .tc .vmem S3x3x208x128 .f32
  harg8 : arg8.IsWhole
  h8 : arg8.view.ref ∈ L
  arg9 : Memref sig .tc .vmem S3x24x3328 .bf16
  harg9 : arg9.IsWhole
  h9 : arg9.view.ref ∈ L
  arg10 : Memref sig .tc .vmem S3536x2x128 .bf16
  harg10 : arg10.IsWhole
  h10 : arg10.view.ref ∈ L
  arg11 : Memref sig .tc .vmem S6864x128 .f32
  harg11 : arg11.IsWhole
  h11 : arg11.view.ref ∈ L
  arg12 : Memref sig .tc .vmem S6656x128 .f32
  harg12 : arg12.IsWhole
  h12 : arg12.view.ref ∈ L
  arg13 : Memref sig .tc .vmem S256x128 .f32
  harg13 : arg13.IsWhole
  h13 : arg13.view.ref ∈ L
  arg14 : Memref sig .tc .vmem S26x256x256 .bf16
  harg14 : arg14.IsWhole
  h14 : arg14.view.ref ∈ L
  arg15 : Memref sig .tc .vmem S26x8x128 .f32
  harg15 : arg15.IsWhole
  h15 : arg15.view.ref ∈ L
  arg16 : Memref sig .tc .vmem S5x26x128 .f32
  harg16 : arg16.IsWhole
  h16 : arg16.view.ref ∈ L
  arg17 : Memref sig .tc .vmem S128x2x128 .bf16
  harg17 : arg17.IsWhole
  h17 : arg17.view.ref ∈ L
  arg18 : Memref sig .tc .vmem S256x128 .f32
  harg18 : arg18.IsWhole
  h18 : arg18.view.ref ∈ L
  arg19 : Memref sig .tc .vmem S26x256x128 .fp8e4m3
  harg19 : arg19.IsWhole
  h19 : arg19.view.ref ∈ L
  arg20 : Memref sig .tc .vmem S3x3x208x128 .f32
  harg20 : arg20.IsWhole
  h20 : arg20.view.ref ∈ L
  arg21 : Memref sig .tc .smem S1 .i32
  harg21 : arg21.IsWhole
  h21 : arg21.view.ref ∈ L
  inj : Function.Injective ![arg1.view.ref, arg2.view.ref, arg3.view.ref, arg4.view.ref, arg5.view.ref, arg6.view.ref, arg7.view.ref, arg8.view.ref, arg9.view.ref, arg10.view.ref, arg11.view.ref, arg12.view.ref, arg13.view.ref, arg14.view.ref, arg15.view.ref, arg16.view.ref, arg17.view.ref, arg18.view.ref, arg19.view.ref, arg20.view.ref, arg21.view.ref]

variable {U : Type} [URA U] {c : Dev nD} {bd : Option 𝒱₀.V} {L : Finset (Ref sig .tc)} {σ : St sig (Elt Ideal)}

/-- What a memory reference reads. -/
def rd {cs : CoreSpace} {s : Shape} {e : EltTy} (m : Memref sig .tc cs s e) (σ : St sig (Elt Ideal)) : s.Idx → Elt Ideal e :=
  m.view.read (Elt Ideal) (σ m.view.ref)

theorem rd_congr {cs : CoreSpace} {s : Shape} {e : EltTy} (m : Memref sig .tc cs s e) {σ σ' : St sig (Elt Ideal)}
    (h : σ' m.view.ref = σ m.view.ref) : rd m σ' = rd m σ := by unfold rd; rw [h]

variable {α : Type} {Q : α → St sig (Elt Ideal) → Prop}

/-- A load of a window. -/
theorem Runs.loadw {cs : CoreSpace} {s : Shape} {e : EltTy} {m : Memref sig .tc cs s e} {off size : Fin s.rank → ℕ}
    {inb : ∀ a, off a + size a ≤ s.size a} {hl : m.view.LoadsAt (Rect.unit off size inb).toLoadRect}
    {k : ((Rect.unit off size inb).shape.Idx → Elt Ideal e) → Prog (TpuEff nD τ sig (Elt Ideal) (Λ₀ Ideal) .tc) α} (hm : m.view.ref ∈ L)
    (h : ∀ v : (Rect.unit off size inb).shape.Idx → Elt Ideal e,
      (∀ j : (Rect.unit off size inb).shape.Idx, v j = rd m σ ((Rect.unit off size inb).emb j)) → Runs U defs₀ 𝒱₀ c bd L σ (k v) Q) :
    Runs U defs₀ 𝒱₀ c bd L σ (Prog.lift (.load m (Rect.unit off size inb).toLoadRect hl) >>= k) Q := by
  refine Runs.load hm (h _ fun j => ?_)
  rw [View.readAt_unit m.view (σ m.view.ref) inb rfl inb]
  rfl

/-- A load whose value is not looked at. -/
theorem Runs.loada {cs : CoreSpace} {s : Shape} {e : EltTy} {m : Memref sig .tc cs s e} {r : LoadRect s} {hl : m.view.LoadsAt r}
    {k : (r.shape.Idx → Elt Ideal e) → Prog (TpuEff nD τ sig (Elt Ideal) (Λ₀ Ideal) .tc) α} (hm : m.view.ref ∈ L)
    (h : ∀ v, Runs U defs₀ 𝒱₀ c bd L σ (k v) Q) : Runs U defs₀ 𝒱₀ c bd L σ (Prog.lift (.load m r hl) >>= k) Q := Runs.load hm (h _)

/-- A store of a window. -/
theorem Runs.storew {cs : CoreSpace} {s : Shape} {e : EltTy} {m : Memref sig .tc cs s e} {off size : Fin s.rank → ℕ}
    {inb : ∀ a, off a + size a ≤ s.size a} {w : (Rect.unit off size inb).shape.Idx → Elt Ideal e}
    {hx : (m.access (Rect.unit off size inb)).Stores Finset.univ} {hu}
    {k : PUnit → Prog (TpuEff nD τ sig (Elt Ideal) (Λ₀ Ideal) .tc) α} (hm : m.view.ref ∈ L)
    (h : ∀ σ', (∀ b, b ≠ m.view.ref → σ' b = σ b) → rd m σ' = VecWindow.put (rd m σ) off size w → Runs U defs₀ 𝒱₀ c bd L σ' (k ⟨⟩) Q) :
    Runs U defs₀ 𝒱₀ c bd L σ (Prog.lift (.store m (Rect.unit off size inb) w Finset.univ hx hu) >>= k) Q := by
  refine Runs.store hm (h _ (fun b hb => St.set_ne _ hb _) ?_)
  unfold rd
  rw [St.set_self]
  exact View.read_writes_cons_put m.view (σ m.view.ref) inb w [] rfl

theorem Runs.bind' {β : Type} {p : Prog (TpuEff nD τ sig (Elt Ideal) (Λ₀ Ideal) .tc) β} {k : β → Prog (TpuEff nD τ sig (Elt Ideal) (Λ₀ Ideal) .tc) α}
    (h : Runs U defs₀ 𝒱₀ c bd L σ p (fun r σ' => Runs U defs₀ 𝒱₀ c bd L σ' (k r) Q)) : Runs U defs₀ 𝒱₀ c bd L σ (p >>= k) Q :=
  Runs.bind h fun _ _ h => h

end Cert.Proof.KernelIdeal
-- ==== Proof.KernelIdeal.Vecs.lean ====
/-
  The vectors one trip of the tile loop stores, as functions of the vectors it loads, and each of them at an index.
-/
module

public import Idealize.ShloMosaic.Lib.Pointwise.Tactic
public import Idealize.ShloMosaic.Lib.Pointwise.Contract
public import Idealize.ShloMosaic.Lib.Pointwise.Reshape
public import Idealize.ShloMosaic.Lib.Pointwise.Select
public import proofs.«01_k».proof.Proof.KernelIdeal.Base

@[expose] public section

noncomputable section

namespace Cert.Proof.KernelIdeal

open Cert.KernelIdeal Cert.KernelIdeal.Gen
open Idealize.ShloMosaic

/-- One quantised element: `z * sigmoid z` times the inverse scale, clipped to the format's range. -/
def encE (z c : EReal) : EReal :=
  min (Ideal.ofBits .f32 0x43E00000#32) (max (Ideal.ofBits .f32 0xC3E00000#32) (z * Ideal.logistic z * c))

/-- A chunk of quantised elements. -/
def encV (v w : FVec Ideal S32x128 .f32) : FVec Ideal S32x128 .fp8e4m3 :=
  truncf .fp8e4m3 (minimumf (broadcast S32x128 (Scalar.ofBits .f32 0x43E00000#32)) (maximumf (broadcast S32x128 (Scalar.ofBits .f32 0xC3E00000#32))
    (mulf (mulf v (logistic v)) w))) bitsLt_fp8e4m3_f32

theorem encV_apply (v w : FVec Ideal S32x128 .f32) (j : S32x128.Idx) : encV v w j = encE (v j) (w j) := rfl

/-- Eight row pairs taken apart and put together again. -/
def repack8 (x : FVec Ideal S8x2x128 .bf16) : FVec Ideal S8x2x128 .bf16 :=
  interleaveRows S8x2x128
    (shapeCast S8x1x128 (shapeCast S8x128 (rowsOfParity 0 S8x1x128 x bitcasts_S8x2x128_w16_S8x1x128_w32) shapeCasts_S8x1x128_S8x128) shapeCasts_S8x128_S8x1x128)
    (shapeCast S8x1x128 (shapeCast S8x128 (rowsOfParity 1 S8x1x128 x bitcasts_S8x2x128_w16_S8x1x128_w32) shapeCasts_S8x1x128_S8x128) shapeCasts_S8x128_S8x1x128)
    bitcasts_S8x2x128_w16_S8x1x128_w32

/-- Row pairs read as rows. -/
def unpack (x : FVec Ideal S128x2x128 .bf16) : FVec Ideal S256x128 .bf16 :=
  interleaveRows S256x128
    (shapeCast S128x128 (rowsOfParity 0 S128x1x128 x bitcasts_S128x2x128_w16_S128x1x128_w32) shapeCasts_S128x1x128_S128x128)
    (shapeCast S128x128 (rowsOfParity 1 S128x1x128 x bitcasts_S128x2x128_w16_S128x1x128_w32) shapeCasts_S128x1x128_S128x128)
    bitcasts_S256x128_w16_S128x128_w32

/-- Rows written as row pairs. -/
def pack (x : FVec Ideal S256x128 .bf16) : FVec Ideal S128x2x128 .bf16 :=
  interleaveRows S128x2x128
    (shapeCast S128x1x128 (rowsOfParity 0 S128x128 x bitcasts_S256x128_w16_S128x128_w32) shapeCasts_S128x128_S128x1x128)
    (shapeCast S128x1x128 (rowsOfParity 1 S128x128 x bitcasts_S256x128_w16_S128x128_w32) shapeCasts_S128x128_S128x1x128)
    bitcasts_S128x2x128_w16_S128x1x128_w32

/-- The dequantised rows. -/
def xV (x : FVec Ideal S256x128 .fp8e4m3) (s : FVec Ideal S128x2x128 .bf16) : FVec Ideal S256x128 .bf16 :=
  mulf (extf .bf16 x bitsLt_fp8e4m3_bf16) (unpack s)

/-- The two products of a tile side by side. -/
def abV (x0 x2 : FVec Ideal S256x128 .bf16) (r : FVec Ideal S1x256x256 .bf16) : FVec Ideal S256x256 .f32 :=
  matmul dot_S256x256_S256x256_S256x256_1_0_0_1_n_n none
    (concatenate S256x256 1 [⟨S256x128, x0⟩, ⟨S256x128, x2⟩] concatenates_S256x128_S256x128_S256x256_d1)
    (shapeCast S256x256 r shapeCasts_S1x256x256_S256x256) (constant S256x256 .f32 0x00000000#32)

/-- The second product. -/
def bV (ab : FVec Ideal S256x256 .f32) : FVec Ideal S256x128 .f32 :=
  shapeCast S256x128 (extractStridedSlice S256x128 ![0, 128] ab slices_S256x256_o0_128_S256x128) shapeCasts_S256x128_S256x128

/-- One chunk of outputs before the activation. -/
def zV (off : Fin 2 → ℕ) (h : S256x256.Slices off S32x128) (ab : FVec Ideal S256x256 .f32) (b : FVec Ideal S32x128 .f32)
    (bias : FVec Ideal S1x8x128 .f32) : FVec Ideal S32x128 .f32 :=
  addf (addf (extractStridedSlice S32x128 off ab h) b)
    (concatenate S32x128 0 [⟨S8x128, shapeCast S8x128 bias shapeCasts_S1x8x128_S8x128⟩, ⟨S8x128, shapeCast S8x128 bias shapeCasts_S1x8x128_S8x128⟩,
      ⟨S8x128, shapeCast S8x128 bias shapeCasts_S1x8x128_S8x128⟩, ⟨S8x128, shapeCast S8x128 bias shapeCasts_S1x8x128_S8x128⟩]
      concatenates_S8x128_S8x128_S8x128_S8x128_S32x128_d0)

theorem repack8_apply (x : FVec Ideal S8x2x128 .bf16) (j : S8x2x128.Idx) : repack8 x j = x j := by
  obtain ⟨a, b, d, rfl⟩ : ∃ a b d, j = ix3 a b d := ⟨_, _, _, eq_ix3 j⟩
  unfold repack8
  pointwise
  split
  · exact congrArg x ((ix3_inj ..).2 ⟨rfl, Fin.ext (by simp only []; omega), rfl⟩)
  · exact congrArg x ((ix3_inj ..).2 ⟨rfl, Fin.ext (by simp only []; omega), rfl⟩)

theorem unpack_apply (x : FVec Ideal S128x2x128 .bf16) (a : Fin 256) (l : Fin 128) :
    unpack x (ix2 a l) = x (ix3 ⟨a.val / 2, by omega⟩ ⟨a.val % 2, by omega⟩ l) := by
  unfold unpack
  pointwise
  split
  · exact congrArg x ((ix3_inj ..).2 ⟨rfl, Fin.ext (by simp only [Fin.val_zero]; omega), rfl⟩)
  · exact congrArg x ((ix3_inj ..).2 ⟨rfl, Fin.ext (by simp only [Fin.val_one]; omega), rfl⟩)

theorem pack_apply (x : FVec Ideal S256x128 .bf16) (a : Fin 128) (b : Fin 2) (l : Fin 128) :
    pack x (ix3 a b l) = x (ix2 ⟨2 * a.val + b.val, by omega⟩ l) := by
  unfold pack
  pointwise
  split
  · exact congrArg x ((ix2_inj ..).2 ⟨Fin.ext (by simp only []; omega), rfl⟩)
  · exact congrArg x ((ix2_inj ..).2 ⟨Fin.ext (by simp only []; omega), rfl⟩)

theorem bV_apply (ab : FVec Ideal S256x256 .f32) (a : Fin 256) (l : Fin 128) :
    bV ab (ix2 a l) = ab (ix2 a ⟨128 + l.val, by omega⟩) := by
  unfold bV
  pointwise

theorem zV_apply (n : ℕ) (h : S256x256.Slices ![n, 0] S32x128) (hn : n + 32 ≤ 256) (ab : FVec Ideal S256x256 .f32) (b : FVec Ideal S32x128 .f32)
    (bias : FVec Ideal S1x8x128 .f32) (a : Fin 32) (l : Fin 128) :
    zV ![n, 0] h ab b bias (ix2 a l) = ab (ix2 ⟨n + a.val, by omega⟩ ⟨l.val, by omega⟩) + b (ix2 a l) + bias (ix3 0 ⟨a.val % 8, by omega⟩ l) := by
  unfold zV
  pointwise
  congr 1
  split_ifs
  all_goals exact congrArg bias ((ix3_inj ..).2 ⟨rfl, Fin.ext (by simp only []; omega), rfl⟩)

theorem abV_apply (x0 x2 : FVec Ideal S256x128 .bf16) (r : FVec Ideal S1x256x256 .bf16) (a : Fin 256) (n : Fin 256) :
    abV x0 x2 r (ix2 a n) = ∑ k : Fin 256, (if h : k.val < 128 then x0 (ix2 a ⟨k.val, h⟩) else x2 (ix2 a ⟨k.val - 128, by omega⟩)) * r (ix3 0 k n) := by
  unfold abV
  pointwise

theorem xV_apply (x : FVec Ideal S256x128 .fp8e4m3) (s : FVec Ideal S128x2x128 .bf16) (a : Fin 256) (l : Fin 128) :
    xV x s (ix2 a l) = x (ix2 a l) * s (ix3 ⟨a.val / 2, by omega⟩ ⟨a.val % 2, by omega⟩ l) := by
  unfold xV
  pointwise
  rw [unpack_apply]

/-- A product with a matrix whose blocks are diagonal has two terms. -/
theorem sum_diag (g W : Fin 256 → EReal) (n : Fin 128) :
    (∑ k : Fin 256, g k * (if k.val % 128 = n.val then W k else 0))
      = g ⟨n.val, by omega⟩ * W ⟨n.val, by omega⟩ + g ⟨128 + n.val, by omega⟩ * W ⟨128 + n.val, by omega⟩ := by
  rw [Finset.sum_eq_add (⟨n.val, by omega⟩ : Fin 256) ⟨128 + n.val, by omega⟩ (fun h => by have := congrArg Fin.val h; simp only [] at this; omega)
    (fun k _ hk => ?_) (fun h => absurd (Finset.mem_univ _) h) (fun h => absurd (Finset.mem_univ _) h)]
  · rw [if_pos (by simp only []; omega), if_pos (by simp only []; omega)]
  · rw [if_neg, mul_zero]
    intro h
    rcases Nat.lt_or_ge k.val 128 with h' | h'
    · exact hk.1 (Fin.ext (by simp only []; omega))
    · exact hk.2 (Fin.ext (by simp only []; omega))

end Cert.Proof.KernelIdeal
-- ==== Proof.KernelIdeal.Quant.lean ====
/-
  The quantiser's scalar mathematics: the scale a row is divided by is a power of two, found by counting (the kernel's
  integers, `cnt`) or by doubling (the plain loop); and the greatest magnitude of a row's activations is the activation of
  the row's greatest entry whenever that entry is at least three quarters.
-/
module

public import Idealize.ShloMosaic.PureOps.Ideal
public import Idealize.ShloMosaic.Lib.Tactic

@[expose] public section

noncomputable section

namespace Cert.Proof.Quant

open Idealize.ShloMosaic

/-- The activation. -/
def silu (z : EReal) : EReal := z * Ideal.logistic z

/-- The power of two whose exponent field is `n + 1`. -/
def pw (n : ℕ) : EReal := (((2 : ℝ) ^ ((n : ℤ) - 126) : ℝ) : EReal)

/-- Its inverse. -/
def pwi (n : ℕ) : EReal := (((2 : ℝ) ^ (126 - (n : ℤ)) : ℝ) : EReal)

/-- The exponent field of `v`, by counting. -/
def fld (v : EReal) : ℕ → ℕ
  | 0 => 0
  | k + 1 => if pw (fld v k) ≤ v then fld v k + 1 else fld v k

theorem fld_le (v : EReal) (k : ℕ) : fld v k ≤ k := by
  induction k with
  | zero => exact le_rfl
  | succ k ih => unfold fld; split <;> omega

theorem pw_succ (n : ℕ) : pw (n + 1) = pw n * ((2 : ℝ) : EReal) := by
  unfold pw
  rw [← EReal.coe_mul]
  congr 1
  rw [show ((n + 1 : ℕ) : ℤ) - 126 = ((n : ℤ) - 126) + 1 by push_cast; ring, zpow_add_one₀ (by norm_num)]

theorem pw_inv (n : ℕ) : (pw n)⁻¹ = pwi n := by
  unfold pw pwi
  rw [← EReal.coe_inv, ← zpow_neg]
  congr 2
  ring

theorem pw_ne (n : ℕ) : pw n ≠ 0 := by
  unfold pw
  have : (0 : ℝ) < (2 : ℝ) ^ ((n : ℤ) - 126) := by positivity
  exact_mod_cast this.ne'

/-- A word by its fields. -/
theorem word_zpow (b : BitVec 32) (n : ℕ) (h0 : 0 < n) (h : n < 255) (h1 : (b.extractLsb' 23 8).toNat = n) (h2 : (b.extractLsb' 0 23).toNat = 0)
    (h3 : (b.extractLsb' 31 1 == 1#1) = false) : Ideal.ofBits .f32 b = (((2 : ℝ) ^ ((n : ℤ) - 127) : ℝ) : EReal) := by
  show Ideal.ieee 8 23 b = _
  unfold Ideal.ieee
  simp only [Nat.reduceAdd, h1, h2, h3]
  rw [if_neg (by omega), if_neg (by omega)]
  congr 1
  simp only [Bool.false_eq_true, if_false, one_mul]
  rw [show ((n : ℤ) - (2 ^ (8 - 1) - 1) - ((23 : ℕ) : ℤ)) = ((n : ℤ) - 127) - 23 by norm_num, zpow_sub₀ (by norm_num)]
  norm_num
  ring

/-- The fields of the words whose only bits are the exponent's. -/
theorem word_fields : ∀ n : Fin 255, (((BitVec.ofNat 32 n.val <<< 23).extractLsb' 23 8).toNat = n.val)
    ∧ (((BitVec.ofNat 32 n.val <<< 23).extractLsb' 0 23).toNat = 0)
    ∧ (((BitVec.ofNat 32 n.val <<< 23).extractLsb' 31 1 == 1#1) = false) := by decide +kernel

/-- The word whose exponent field is `n` and whose other bits are clear. -/
theorem bits_zpow (n : ℕ) (h0 : 0 < n) (h : n < 255) : Ideal.ofBits .f32 (BitVec.ofNat 32 n <<< 23) = (((2 : ℝ) ^ ((n : ℤ) - 127) : ℝ) : EReal) :=
  word_zpow _ n h0 h (word_fields ⟨n, h⟩).1 (word_fields ⟨n, h⟩).2.1 (word_fields ⟨n, h⟩).2.2

theorem bits_pw (n : ℕ) (h : n < 254) : Ideal.ofBits .f32 (BitVec.ofNat 32 (n + 1) <<< 23) = pw n := by
  rw [bits_zpow _ (by omega) (by omega)]
  unfold pw
  congr 2
  push_cast; ring

/-- The kernel's count, in its words. -/
def cnt (v : EReal) : ℕ → BitVec 32
  | 0 => 0#32
  | k + 1 => cnt v k + (if Ideal.cmp .oge v (Ideal.ofBits .f32 ((cnt v k + 1#32) <<< 23)) = 1#1 then 1#32 else 0#32)

theorem cmp_oge (x y : EReal) : (Ideal.cmp .oge x y = 1#1) ↔ y ≤ x := by
  unfold Ideal.cmp
  by_cases h : y ≤ x <;> simp [h]

theorem cmp_oeq (x y : EReal) : (Ideal.cmp .oeq x y = 1#1) ↔ x = y := by
  unfold Ideal.cmp
  by_cases h : x = y <;> simp [h]

theorem cmp_olt (x y : EReal) : (Ideal.cmp .olt x y = 1#1) ↔ x < y := by
  unfold Ideal.cmp
  by_cases h : x < y <;> simp [h]

theorem cnt_eq (v : EReal) (k : ℕ) (hk : k ≤ 246) : cnt v k = BitVec.ofNat 32 (fld v k) := by
  induction k with
  | zero => rfl
  | succ k ih =>
    have h := fld_le v k
    unfold cnt fld
    rw [ih (by omega), show BitVec.ofNat 32 (fld v k) + 1#32 = BitVec.ofNat 32 (fld v k + 1) from (BitVec.ofNat_add ..).symm, bits_pw _ (by omega)]
    by_cases hc : pw (fld v k) ≤ v
    · rw [if_pos ((cmp_oge _ _).2 hc), if_pos hc]; exact (BitVec.ofNat_add ..).symm
    · rw [if_neg (fun e => hc ((cmp_oge _ _).1 e)), if_neg hc]; simp

/-- The plain loop's scale after `k` doublings. -/
def dbl (v : EReal) : ℕ → EReal
  | 0 => pw 0
  | k + 1 => if dbl v k ≤ v then dbl v k * ((2 : ℝ) : EReal) else dbl v k

theorem dbl_eq (v : EReal) (k : ℕ) : dbl v k = pw (fld v k) := by
  induction k with
  | zero => rfl
  | succ k ih =>
    show (if dbl v k ≤ v then dbl v k * ((2 : ℝ) : EReal) else dbl v k) = pw (if pw (fld v k) ≤ v then fld v k + 1 else fld v k)
    rw [ih]
    by_cases hc : pw (fld v k) ≤ v
    · rw [if_pos hc, if_pos hc, pw_succ]
    · rw [if_neg hc, if_neg hc]

/-- The reciprocal of the greatest code, as the constant the programs hold. -/
def cq : EReal := Ideal.ofBits .f32 0x3B124925#32

/-- The scale of a row whose greatest magnitude is `a`. -/
def scE (a : EReal) : EReal := if a = 0 then 1 else pw (fld (a * cq) 246)

/-- Its inverse. -/
def invE (a : EReal) : EReal := if a = 0 then 1 else pwi (fld (a * cq) 246)

/-- The exponent the kernel builds its two words from. -/
def expo (a : EReal) : BitVec 32 := if Ideal.cmp .oeq a 0 = 1#1 then 0#32 else cnt (a * cq) 246 - 126#32

theorem sc_bits (a : EReal) : Ideal.ofBits .f32 ((127#32 + expo a) <<< 23) = scE a := by
  unfold expo scE
  by_cases h : a = 0
  · rw [if_pos ((cmp_oeq _ _).2 h), if_pos h]
    exact (bits_pw 126 (by norm_num)).trans (by unfold pw; norm_num)
  · rw [if_neg (fun e => h ((cmp_oeq _ _).1 e)), if_neg h, cnt_eq _ _ le_rfl]
    have h1 := fld_le (a * cq) 246
    rw [show 127#32 + (BitVec.ofNat 32 (fld (a * cq) 246) - 126#32) = BitVec.ofNat 32 (fld (a * cq) 246 + 1) by
      apply BitVec.eq_of_toNat_eq; simp only [BitVec.toNat_add, BitVec.toNat_sub, BitVec.toNat_ofNat]; omega]
    exact bits_pw _ (by omega)

theorem inv_bits (a : EReal) : Ideal.ofBits .f32 ((127#32 - expo a) <<< 23) = invE a := by
  unfold expo invE
  by_cases h : a = 0
  · rw [if_pos ((cmp_oeq _ _).2 h), if_pos h]
    exact (bits_pw 126 (by norm_num)).trans (by unfold pw; norm_num)
  · rw [if_neg (fun e => h ((cmp_oeq _ _).1 e)), if_neg h, cnt_eq _ _ le_rfl]
    have h1 := fld_le (a * cq) 246
    rw [show 127#32 - (BitVec.ofNat 32 (fld (a * cq) 246) - 126#32) = BitVec.ofNat 32 (253 - fld (a * cq) 246) by
      apply BitVec.eq_of_toNat_eq; simp only [BitVec.toNat_add, BitVec.toNat_sub, BitVec.toNat_ofNat]; omega]
    rw [bits_zpow _ (by omega) (by omega)]
    unfold pwi
    congr 2
    omega

/-- Dividing by the scale is multiplying by its inverse. -/
theorem div_sc (x a : EReal) : Ideal.div x (scE a) = x * invE a := by
  unfold scE invE
  by_cases h : a = 0
  · rw [if_pos h, if_pos h, Ideal.div, if_neg one_ne_zero, ← EReal.coe_one, ← EReal.coe_inv, inv_one]
  · rw [if_neg h, if_neg h, Ideal.div, if_neg (pw_ne _), pw_inv]

/-- The activation as a quotient. -/
theorem silu_div (z : EReal) : Ideal.div z (1 + Ideal.exp (0 - z)) = silu z := by
  have hne : (1 + Ideal.exp (-z)) ≠ 0 := by
    induction z with
    | bot => rw [EReal.neg_bot, Ideal.exp_top, EReal.add_top_of_ne_bot (show (1 : EReal) ≠ ⊥ from EReal.coe_ne_bot 1)]; exact EReal.top_ne_zero
    | top => rw [EReal.neg_top, Ideal.exp_bot, add_zero]; exact one_ne_zero
    | coe r =>
      rw [← EReal.coe_neg, Ideal.exp_coe, ← EReal.coe_one, ← EReal.coe_add]
      have : (0 : ℝ) < 1 + Real.exp (-r) := by positivity
      exact_mod_cast this.ne'
  rw [zero_sub]
  unfold silu Ideal.logistic Ideal.div
  rw [if_neg hne, if_neg hne, one_mul]

theorem silu_coe (r : ℝ) : silu r = ((r * (1 + Real.exp (-r))⁻¹ : ℝ) : EReal) := by
  unfold silu; rw [Ideal.logistic_coe, ← EReal.coe_mul]

theorem silu_top : silu ⊤ = ⊤ := by unfold silu; rw [Ideal.logistic_top, mul_one]
theorem silu_bot : silu ⊥ = 0 := by unfold silu; rw [Ideal.logistic_bot, mul_zero]

theorem real_le {r x : ℝ} (h : r ≤ x) (hx : 3 / 4 ≤ x) : |r * (1 + Real.exp (-r))⁻¹| ≤ x * (1 + Real.exp (-x))⁻¹ := by
  have hpos : ∀ t : ℝ, 0 < 1 + Real.exp t := fun t => by positivity
  by_cases h0 : 0 ≤ r
  · rw [abs_of_nonneg (mul_nonneg h0 (inv_nonneg.2 (hpos _).le))]
    exact mul_le_mul h (inv_anti₀ (hpos _) (by gcongr)) (inv_nonneg.2 (hpos _).le) (by linarith)
  · have h0' : 0 < -r := by linarith
    have lhs : |r * (1 + Real.exp (-r))⁻¹| ≤ 3 / 8 := by
      rw [abs_of_nonpos (mul_nonpos_of_nonpos_of_nonneg (by linarith) (inv_nonneg.2 (hpos _).le)), ← neg_mul, ← div_eq_mul_inv, div_le_iff₀ (hpos _)]
      have := Real.quadratic_le_exp_of_nonneg h0'.le
      nlinarith [sq_nonneg (-r - 5 / 3)]
    have rhs : 3 / 8 ≤ x * (1 + Real.exp (-x))⁻¹ := by
      rw [← div_eq_mul_inv, le_div_iff₀ (hpos _)]
      have : Real.exp (-x) ≤ 1 := Real.exp_le_one_iff.2 (by linarith)
      nlinarith
    exact lhs.trans rhs

/-- No entry below the greatest has an activation of greater magnitude, if the greatest is at least three quarters. -/
theorem abs_silu_le {z x : EReal} (h : z ≤ x) (hx : ((3 / 4 : ℝ) : EReal) ≤ x) : max (silu z) (-silu z) ≤ silu x := by
  induction x with
  | bot => exact absurd hx (by simp)
  | top => rw [silu_top]; exact le_top
  | coe x =>
    have hx' : (3 / 4 : ℝ) ≤ x := by exact_mod_cast hx
    induction z with
    | top => exact absurd h (by simp)
    | bot =>
      rw [silu_bot, silu_coe, neg_zero, max_self]
      have : 0 ≤ x * (1 + Real.exp (-x))⁻¹ := mul_nonneg (by linarith) (by positivity)
      exact_mod_cast this
    | coe r =>
      have h' : r ≤ x := by exact_mod_cast h
      rw [silu_coe, silu_coe, ← EReal.coe_neg, max_le_iff]
      have := abs_le.1 (real_le h' hx')
      exact ⟨by exact_mod_cast this.2, by exact_mod_cast (by linarith [this.1] : -(r * (1 + Real.exp (-r))⁻¹) ≤ x * (1 + Real.exp (-x))⁻¹)⟩

/-- The magnitude. -/
def mag (x : EReal) : EReal := max x (-x)

theorem mag_nonneg (x : EReal) : 0 ≤ mag x := by
  unfold mag
  rcases le_total 0 x with h | h
  · exact le_max_of_le_left h
  · exact le_max_of_le_right (by rw [← neg_zero]; exact EReal.neg_le_neg_iff.2 h)

/-- The greatest magnitude of a row's activations. -/
theorem sup_fast {ι : Type} [Fintype ι] [Nonempty ι] (Z : ι → EReal) (h : ((3 / 4 : ℝ) : EReal) ≤ Finset.univ.sup Z) :
    (Finset.univ.sup fun i => mag (silu (Z i))) = silu (Finset.univ.sup Z) := by
  apply le_antisymm
  · exact Finset.sup_le fun i _ => abs_silu_le (Finset.le_sup (f := Z) (Finset.mem_univ i)) h
  · obtain ⟨i, -, hi⟩ := Finset.exists_mem_eq_sup Finset.univ Finset.univ_nonempty Z
    rw [hi]
    exact (le_max_left _ _).trans (Finset.le_sup (f := fun i => mag (silu (Z i))) (Finset.mem_univ i))

theorem three_quarters : Ideal.ofBits .f32 0x3F400000#32 = ((3 / 4 : ℝ) : EReal) := by
  simp [Ideal.ofBits, Ideal.ieee, -EReal.coe_mul]; norm_num

theorem two_bits : Ideal.ofBits .f32 0x40000000#32 = ((2 : ℝ) : EReal) := by
  simp [Ideal.ofBits, Ideal.ieee, -EReal.coe_mul]; norm_num

theorem neg_inf : Ideal.ofBits .f32 0xFF800000#32 = ⊥ := by simp [Ideal.ofBits, Ideal.ieee]

theorem pos_inf : Ideal.ofBits .f32 0x7F800000#32 = ⊤ := by simp [Ideal.ofBits, Ideal.ieee]

end Cert.Proof.Quant
-- ==== Proof.KernelIdeal.Scale.lean ====
/-
  The vectors of the scale: a row's greatest entry, the count that finds the exponent, the scale and its inverse, each read
  at an index.
-/
module

public import proofs.«01_k».proof.Proof.KernelIdeal.Vecs
public import proofs.«01_k».proof.Proof.KernelIdeal.Quant

@[expose] public section

noncomputable section

namespace Cert.Proof.KernelIdeal

open Cert.KernelIdeal Cert.KernelIdeal.Gen Cert.Proof.Quant
open Idealize.ShloMosaic

/-- One step of the count. -/
def cntV (v10 : FVec Ideal S1x256 .f32) (acc : IVec S1x256 32) : IVec S1x256 32 :=
  addi acc (select (cmpf .oge v10 (bitcastToFloat .f32 (shli (addi acc (broadcast S1x256 1#32)) (broadcast S1x256 23#32))))
    (broadcast S1x256 1#32) (broadcast S1x256 0#32))

/-- The product the count looks at. -/
def qV (v8 : FVec Ideal S1x256 .f32) : FVec Ideal S1x256 .f32 := mulf v8 (broadcast S1x256 (Scalar.ofBits .f32 0x3B124925#32))

/-- The exponents. -/
def expoV (v8 : FVec Ideal S1x256 .f32) (v13 : IVec S1x256 32) : IVec S1x256 32 :=
  select (cmpf .oeq v8 (broadcast S1x256 (Scalar.ofBits .f32 0x00000000#32))) (broadcast S1x256 0#32) (subi v13 (broadcast S1x256 126#32))

/-- The scales. -/
def scV (v8 : FVec Ideal S1x256 .f32) (v13 : IVec S1x256 32) : FVec Ideal S1x256 .f32 :=
  bitcastToFloat .f32 (shli (addi (broadcast S1x256 127#32) (expoV v8 v13)) (broadcast S1x256 23#32))

/-- The inverse scales. -/
def invV (v8 : FVec Ideal S1x256 .f32) (v13 : IVec S1x256 32) : FVec Ideal S1x256 .f32 :=
  bitcastToFloat .f32 (shli (subi (broadcast S1x256 127#32) (expoV v8 v13)) (broadcast S1x256 23#32))

/-- A row of scales stood upright, over all lanes. -/
def rowsV (v : FVec Ideal S1x256 .f32) : FVec Ideal S256x128 .f32 :=
  transpose S256x128 [1, 0] (broadcastTo S128x256 (shapeCast S1x256 v shapeCasts_S1x256_S1x256) broadcasts_S1x256_S128x256) transposes_S128x256_p1_0_S256x128

/-- The greatest entry of each row. -/
def maxV (v : FVec Ideal S256x128 .f32) : FVec Ideal S1x256 .f32 :=
  shapeCast S1x256 (multiReduction .maximumf [0] S256 (transpose S128x256 [1, 0] v transposes_S256x128_p1_0_S128x256) 0xFF800000#32 reduces_S128x256_S256 (.inl rfl) rfl)
    shapeCasts_S256_S1x256

/-- The least entry of a row. -/
def minV (v6 : FVec Ideal S1x256 .f32) : Ideal .f32 :=
  extractAt ![0, 0, 0] (shapeCast S1x1x1 (multiReduction .minimumf [1, 2] S1 (shapeCast S1x1x256 v6 shapeCasts_S1x256_S1x1x256) 0x7F800000#32 reduces_S1x1x256_S1 (.inl rfl) rfl)
    shapeCasts_S1_S1x1x1) inpos_S1x1x1_p0_0_0

/-- The activation, its quotient written out. -/
def actV (z : FVec Ideal S256x128 .f32) : FVec Ideal S256x128 .f32 :=
  divf z (addf (broadcast S256x128 (Scalar.ofBits .f32 0x3F800000#32)) (exp (subf (broadcast S256x128 (Scalar.ofBits .f32 0x00000000#32)) z)))

/-- A tile of quantised outputs on the slow path. -/
def slowV (z inv : FVec Ideal S256x128 .f32) : FVec Ideal S256x128 .fp8e4m3 :=
  truncf .fp8e4m3 (minimumf (broadcast S256x128 (Scalar.ofBits .f32 0x43E00000#32)) (maximumf (broadcast S256x128 (Scalar.ofBits .f32 0xC3E00000#32))
    (mulf (actV z) inv))) bitsLt_fp8e4m3_f32

theorem zero_bits : Ideal.ofBits .f32 0x00000000#32 = 0 := by simp [Ideal.ofBits, Ideal.ieee]
theorem one_bits : Ideal.ofBits .f32 0x3F800000#32 = 1 := by
  simp [Ideal.ofBits, Ideal.ieee, -EReal.coe_mul]; norm_num

theorem shl_word (x : BitVec 32) : IntOp.shli .vector x 23#32 = x <<< 23 := rfl

theorem cntV_apply (v10 : FVec Ideal S1x256 .f32) (acc : IVec S1x256 32) (k : ℕ) (a : Fin 256) (h : acc (ix2 0 a) = cnt (v10 (ix2 0 a)) k) :
    cntV v10 acc (ix2 0 a) = cnt (v10 (ix2 0 a)) (k + 1) := by
  show acc (ix2 0 a) + (if Ideal.cmp .oge (v10 (ix2 0 a)) (Ideal.ofBits .f32 (IntOp.shli .vector (acc (ix2 0 a) + 1#32) 23#32)) = 1#1 then 1#32 else 0#32) = _
  rw [h]
  rfl

theorem expoV_apply (v8 : FVec Ideal S1x256 .f32) (v13 : IVec S1x256 32) (a : Fin 256) (h : v13 (ix2 0 a) = cnt (qV v8 (ix2 0 a)) 246) :
    expoV v8 v13 (ix2 0 a) = expo (v8 (ix2 0 a)) := by
  show (if Ideal.cmp .oeq (v8 (ix2 0 a)) (Ideal.ofBits .f32 0x00000000#32) = 1#1 then 0#32 else v13 (ix2 0 a) - 126#32) = _
  rw [h, zero_bits]
  rfl

theorem scV_apply (v8 : FVec Ideal S1x256 .f32) (v13 : IVec S1x256 32) (a : Fin 256) (h : v13 (ix2 0 a) = cnt (qV v8 (ix2 0 a)) 246) :
    scV v8 v13 (ix2 0 a) = scE (v8 (ix2 0 a)) := by
  rw [← sc_bits, ← expoV_apply v8 v13 a h]
  rfl

theorem invV_apply (v8 : FVec Ideal S1x256 .f32) (v13 : IVec S1x256 32) (a : Fin 256) (h : v13 (ix2 0 a) = cnt (qV v8 (ix2 0 a)) 246) :
    invV v8 v13 (ix2 0 a) = invE (v8 (ix2 0 a)) := by
  rw [← inv_bits, ← expoV_apply v8 v13 a h]
  rfl

/-- The activation of the greatest entries. -/
def silV (v : FVec Ideal S1x256 .f32) : FVec Ideal S1x256 .f32 := mulf v (logistic v)

theorem silV_apply (v : FVec Ideal S1x256 .f32) (a : Fin 256) : silV v (ix2 0 a) = silu (v (ix2 0 a)) := rfl

theorem rowsV_apply (v : FVec Ideal S1x256 .f32) (a : Fin 256) (l : Fin 128) : rowsV v (ix2 a l) = v (ix2 0 a) := by
  unfold rowsV
  pointwise

theorem fold_max {ι : Type} (s : Finset ι) (f : ι → EReal) : s.fold max ⊥ f = s.sup f := rfl

theorem maxV_apply (v : FVec Ideal S256x128 .f32) (a : Fin 256) : maxV v (ix2 0 a) = Finset.univ.sup fun l : Fin 128 => v (ix2 a l) := by
  unfold maxV
  pointwise
  refine (Ideal.multiReduction_maximumf_single _ _ reduces_S128x256_S256 _ _ _).trans ?_
  show (Finset.univ : Finset (Fin 128)).fold max (Ideal.ofBits .f32 0xFF800000#32) _ = _
  rw [neg_inf]
  refine (fold_max _ _).trans (Finset.sup_congr rfl fun l _ => ?_)
  have e : reduces_S128x256_S256.lift (ix1 a) l = ix2 l a := by
    funext i
    fin_cases i <;> rfl
  show transpose S128x256 [1, 0] v transposes_S256x128_p1_0_S128x256 (reduces_S128x256_S256.lift (ix1 a) l) = _
  rw [e]
  pointwise

theorem minV_le (v6 : FVec Ideal S1x256 .f32) (a : Fin 256) : minV v6 ≤ v6 (ix2 0 a) := by
  unfold minV
  pointwise
  refine (multiReduction_minimumf_eq_fold _ _ reduces_S1x1x256_S1 _ _ _).trans_le ?_
  have e : ∀ i j : S1.Idx, i = j := by decide
  have key : ∀ s : Finset S1x1x256.Idx, ix3 0 0 a ∈ s → s.fold min (Ideal.ofBits .f32 0x7F800000#32) (shapeCast S1x1x256 v6 shapeCasts_S1x256_S1x1x256) ≤ v6 (ix2 0 a) :=
    fun s hs => (Finset.fold_min_le _).2 (.inr ⟨_, hs, le_of_eq (by pointwise)⟩)
  exact key _ (Finset.mem_filter.2 ⟨Finset.mem_univ _, e _ _⟩)

theorem actV_apply (z : FVec Ideal S256x128 .f32) (a : Fin 256) (l : Fin 128) : actV z (ix2 a l) = silu (z (ix2 a l)) := by
  rw [← silu_div]
  show Ideal.div (z (ix2 a l)) (Ideal.ofBits .f32 0x3F800000#32 + Ideal.exp (Ideal.ofBits .f32 0x00000000#32 - z (ix2 a l))) = _
  rw [one_bits, zero_bits]

theorem slowV_apply (z inv : FVec Ideal S256x128 .f32) (a : Fin 256) (l : Fin 128) : slowV z inv (ix2 a l) = encE (z (ix2 a l)) (inv (ix2 a l)) := by
  show min (Ideal.ofBits .f32 0x43E00000#32) (max (Ideal.ofBits .f32 0xC3E00000#32) (actV z (ix2 a l) * inv (ix2 a l))) = _
  rw [actV_apply]
  rfl

end Cert.Proof.KernelIdeal
-- ==== Proof.KernelIdeal.Offs.lean ====
/-
  Where the windows of one trip of the tile loop start, in closed form: trip `t` handles the tiles `2 t` and `2 t + 1`.
-/
module

public import proofs.«01_k».proof.Proof.KernelIdeal.Base

@[expose] public section

namespace Cert.Proof.KernelIdeal

open Cert.KernelIdeal Cert.KernelIdeal.Gen
open Idealize.ShloMosaic

theorem off7_0_0 (t : Fin k0_t6_loop.trips) : k0_off7 t 0#32 0#32 = ![(2 * t.val + 0) * 256 + 0, 0] := by revert t; decide +kernel
theorem off8_0 (t : Fin k0_t6_loop.trips) : k0_off8 t 0#32 = ![0, (2 * t.val + 0) * 128] := by revert t; decide +kernel
theorem off25_0_0 (t : Fin k0_t6_loop.trips) : k0_off25 t 0#32 0#32 = ![(2 * t.val + 0) * 264 + 7 + 0, 0] := by revert t; decide +kernel
theorem off7_0_1 (t : Fin k0_t6_loop.trips) : k0_off7 t 0#32 32#32 = ![(2 * t.val + 0) * 256 + 32, 0] := by revert t; decide +kernel
theorem off9_0 (t : Fin k0_t6_loop.trips) : k0_off9 t 0#32 = ![32, (2 * t.val + 0) * 128] := by revert t; decide +kernel
theorem off25_0_1 (t : Fin k0_t6_loop.trips) : k0_off25 t 0#32 32#32 = ![(2 * t.val + 0) * 264 + 7 + 32, 0] := by revert t; decide +kernel
theorem off7_0_2 (t : Fin k0_t6_loop.trips) : k0_off7 t 0#32 64#32 = ![(2 * t.val + 0) * 256 + 64, 0] := by revert t; decide +kernel
theorem off10_0 (t : Fin k0_t6_loop.trips) : k0_off10 t 0#32 = ![64, (2 * t.val + 0) * 128] := by revert t; decide +kernel
theorem off25_0_2 (t : Fin k0_t6_loop.trips) : k0_off25 t 0#32 64#32 = ![(2 * t.val + 0) * 264 + 7 + 64, 0] := by revert t; decide +kernel
theorem off7_0_3 (t : Fin k0_t6_loop.trips) : k0_off7 t 0#32 96#32 = ![(2 * t.val + 0) * 256 + 96, 0] := by revert t; decide +kernel
theorem off11_0 (t : Fin k0_t6_loop.trips) : k0_off11 t 0#32 = ![96, (2 * t.val + 0) * 128] := by revert t; decide +kernel
theorem off25_0_3 (t : Fin k0_t6_loop.trips) : k0_off25 t 0#32 96#32 = ![(2 * t.val + 0) * 264 + 7 + 96, 0] := by revert t; decide +kernel
theorem off7_0_4 (t : Fin k0_t6_loop.trips) : k0_off7 t 0#32 128#32 = ![(2 * t.val + 0) * 256 + 128, 0] := by revert t; decide +kernel
theorem off12_0 (t : Fin k0_t6_loop.trips) : k0_off12 t 0#32 = ![128, (2 * t.val + 0) * 128] := by revert t; decide +kernel
theorem off25_0_4 (t : Fin k0_t6_loop.trips) : k0_off25 t 0#32 128#32 = ![(2 * t.val + 0) * 264 + 7 + 128, 0] := by revert t; decide +kernel
theorem off7_0_5 (t : Fin k0_t6_loop.trips) : k0_off7 t 0#32 160#32 = ![(2 * t.val + 0) * 256 + 160, 0] := by revert t; decide +kernel
theorem off13_0 (t : Fin k0_t6_loop.trips) : k0_off13 t 0#32 = ![160, (2 * t.val + 0) * 128] := by revert t; decide +kernel
theorem off25_0_5 (t : Fin k0_t6_loop.trips) : k0_off25 t 0#32 160#32 = ![(2 * t.val + 0) * 264 + 7 + 160, 0] := by revert t; decide +kernel
theorem off7_0_6 (t : Fin k0_t6_loop.trips) : k0_off7 t 0#32 192#32 = ![(2 * t.val + 0) * 256 + 192, 0] := by revert t; decide +kernel
theorem off14_0 (t : Fin k0_t6_loop.trips) : k0_off14 t 0#32 = ![192, (2 * t.val + 0) * 128] := by revert t; decide +kernel
theorem off25_0_6 (t : Fin k0_t6_loop.trips) : k0_off25 t 0#32 192#32 = ![(2 * t.val + 0) * 264 + 7 + 192, 0] := by revert t; decide +kernel
theorem off7_0_7 (t : Fin k0_t6_loop.trips) : k0_off7 t 0#32 224#32 = ![(2 * t.val + 0) * 256 + 224, 0] := by revert t; decide +kernel
theorem off15_0 (t : Fin k0_t6_loop.trips) : k0_off15 t 0#32 = ![224, (2 * t.val + 0) * 128] := by revert t; decide +kernel
theorem off25_0_7 (t : Fin k0_t6_loop.trips) : k0_off25 t 0#32 224#32 = ![(2 * t.val + 0) * 264 + 7 + 224, 0] := by revert t; decide +kernel
theorem off16_0 (t : Fin k0_t6_loop.trips) : k0_off16 t 0#32 = ![(2 * t.val + 0) * 136 + 128, 0, 0] := by revert t; decide +kernel
theorem off17_0 (t : Fin k0_t6_loop.trips) : k0_off17 t 0#32 = ![(2 * t.val + 0) * 136, 0, 0] := by revert t; decide +kernel
theorem off18_0 (t : Fin k0_t6_loop.trips) : k0_off18 t 0#32 = ![(2 * t.val + 0) * 264 + 256, 0] := by revert t; decide +kernel
theorem off19_0 (t : Fin k0_t6_loop.trips) : k0_off19 t 0#32 = ![(2 * t.val + 0) * 264, 0] := by revert t; decide +kernel
theorem off20_0 (t : Fin k0_t6_loop.trips) : k0_off20 t 0#32 = ![0, (2 * t.val + 0) * 128] := by revert t; decide +kernel
theorem off21_0 (t : Fin k0_t6_loop.trips) : k0_off21 t 0#32 = ![(2 * t.val + 0) * 136 + 8, 0, 0] := by revert t; decide +kernel
theorem off22_0 (t : Fin k0_t6_loop.trips) : k0_off22 t 0#32 = ![(2 * t.val + 0) * 136 + 7, 0, 0] := by revert t; decide +kernel
theorem off23_0 (t : Fin k0_t6_loop.trips) : k0_off23 t 0#32 = ![(2 * t.val + 0), 0, 0] := by revert t; decide +kernel
theorem off24_0 (t : Fin k0_t6_loop.trips) : k0_off24 t 0#32 = ![(2 * t.val + 0) * 264 + 8, 0] := by revert t; decide +kernel
theorem off26_0 (t : Fin k0_t6_loop.trips) : k0_off26 t 0#32 = ![(2 * t.val + 0), 0, 0] := by revert t; decide +kernel
theorem off7_1_0 (t : Fin k0_t6_loop.trips) : k0_off7 t 1#32 0#32 = ![(2 * t.val + 1) * 256 + 0, 0] := by revert t; decide +kernel
theorem off8_1 (t : Fin k0_t6_loop.trips) : k0_off8 t 1#32 = ![0, (2 * t.val + 1) * 128] := by revert t; decide +kernel
theorem off25_1_0 (t : Fin k0_t6_loop.trips) : k0_off25 t 1#32 0#32 = ![(2 * t.val + 1) * 264 + 7 + 0, 0] := by revert t; decide +kernel
theorem off7_1_1 (t : Fin k0_t6_loop.trips) : k0_off7 t 1#32 32#32 = ![(2 * t.val + 1) * 256 + 32, 0] := by revert t; decide +kernel
theorem off9_1 (t : Fin k0_t6_loop.trips) : k0_off9 t 1#32 = ![32, (2 * t.val + 1) * 128] := by revert t; decide +kernel
theorem off25_1_1 (t : Fin k0_t6_loop.trips) : k0_off25 t 1#32 32#32 = ![(2 * t.val + 1) * 264 + 7 + 32, 0] := by revert t; decide +kernel
theorem off7_1_2 (t : Fin k0_t6_loop.trips) : k0_off7 t 1#32 64#32 = ![(2 * t.val + 1) * 256 + 64, 0] := by revert t; decide +kernel
theorem off10_1 (t : Fin k0_t6_loop.trips) : k0_off10 t 1#32 = ![64, (2 * t.val + 1) * 128] := by revert t; decide +kernel
theorem off25_1_2 (t : Fin k0_t6_loop.trips) : k0_off25 t 1#32 64#32 = ![(2 * t.val + 1) * 264 + 7 + 64, 0] := by revert t; decide +kernel
theorem off7_1_3 (t : Fin k0_t6_loop.trips) : k0_off7 t 1#32 96#32 = ![(2 * t.val + 1) * 256 + 96, 0] := by revert t; decide +kernel
theorem off11_1 (t : Fin k0_t6_loop.trips) : k0_off11 t 1#32 = ![96, (2 * t.val + 1) * 128] := by revert t; decide +kernel
theorem off25_1_3 (t : Fin k0_t6_loop.trips) : k0_off25 t 1#32 96#32 = ![(2 * t.val + 1) * 264 + 7 + 96, 0] := by revert t; decide +kernel
theorem off7_1_4 (t : Fin k0_t6_loop.trips) : k0_off7 t 1#32 128#32 = ![(2 * t.val + 1) * 256 + 128, 0] := by revert t; decide +kernel
theorem off12_1 (t : Fin k0_t6_loop.trips) : k0_off12 t 1#32 = ![128, (2 * t.val + 1) * 128] := by revert t; decide +kernel
theorem off25_1_4 (t : Fin k0_t6_loop.trips) : k0_off25 t 1#32 128#32 = ![(2 * t.val + 1) * 264 + 7 + 128, 0] := by revert t; decide +kernel
theorem off7_1_5 (t : Fin k0_t6_loop.trips) : k0_off7 t 1#32 160#32 = ![(2 * t.val + 1) * 256 + 160, 0] := by revert t; decide +kernel
theorem off13_1 (t : Fin k0_t6_loop.trips) : k0_off13 t 1#32 = ![160, (2 * t.val + 1) * 128] := by revert t; decide +kernel
theorem off25_1_5 (t : Fin k0_t6_loop.trips) : k0_off25 t 1#32 160#32 = ![(2 * t.val + 1) * 264 + 7 + 160, 0] := by revert t; decide +kernel
theorem off7_1_6 (t : Fin k0_t6_loop.trips) : k0_off7 t 1#32 192#32 = ![(2 * t.val + 1) * 256 + 192, 0] := by revert t; decide +kernel
theorem off14_1 (t : Fin k0_t6_loop.trips) : k0_off14 t 1#32 = ![192, (2 * t.val + 1) * 128] := by revert t; decide +kernel
theorem off25_1_6 (t : Fin k0_t6_loop.trips) : k0_off25 t 1#32 192#32 = ![(2 * t.val + 1) * 264 + 7 + 192, 0] := by revert t; decide +kernel
theorem off7_1_7 (t : Fin k0_t6_loop.trips) : k0_off7 t 1#32 224#32 = ![(2 * t.val + 1) * 256 + 224, 0] := by revert t; decide +kernel
theorem off15_1 (t : Fin k0_t6_loop.trips) : k0_off15 t 1#32 = ![224, (2 * t.val + 1) * 128] := by revert t; decide +kernel
theorem off25_1_7 (t : Fin k0_t6_loop.trips) : k0_off25 t 1#32 224#32 = ![(2 * t.val + 1) * 264 + 7 + 224, 0] := by revert t; decide +kernel
theorem off16_1 (t : Fin k0_t6_loop.trips) : k0_off16 t 1#32 = ![(2 * t.val + 1) * 136 + 128, 0, 0] := by revert t; decide +kernel
theorem off17_1 (t : Fin k0_t6_loop.trips) : k0_off17 t 1#32 = ![(2 * t.val + 1) * 136, 0, 0] := by revert t; decide +kernel
theorem off18_1 (t : Fin k0_t6_loop.trips) : k0_off18 t 1#32 = ![(2 * t.val + 1) * 264 + 256, 0] := by revert t; decide +kernel
theorem off19_1 (t : Fin k0_t6_loop.trips) : k0_off19 t 1#32 = ![(2 * t.val + 1) * 264, 0] := by revert t; decide +kernel
theorem off20_1 (t : Fin k0_t6_loop.trips) : k0_off20 t 1#32 = ![0, (2 * t.val + 1) * 128] := by revert t; decide +kernel
theorem off21_1 (t : Fin k0_t6_loop.trips) : k0_off21 t 1#32 = ![(2 * t.val + 1) * 136 + 8, 0, 0] := by revert t; decide +kernel
theorem off22_1 (t : Fin k0_t6_loop.trips) : k0_off22 t 1#32 = ![(2 * t.val + 1) * 136 + 7, 0, 0] := by revert t; decide +kernel
theorem off23_1 (t : Fin k0_t6_loop.trips) : k0_off23 t 1#32 = ![(2 * t.val + 1), 0, 0] := by revert t; decide +kernel
theorem off24_1 (t : Fin k0_t6_loop.trips) : k0_off24 t 1#32 = ![(2 * t.val + 1) * 264 + 8, 0] := by revert t; decide +kernel
theorem off26_1 (t : Fin k0_t6_loop.trips) : k0_off26 t 1#32 = ![(2 * t.val + 1), 0, 0] := by revert t; decide +kernel

end Cert.Proof.KernelIdeal
-- ==== Proof.KernelIdeal.Tile.lean ====
/-
  What the tile loop computes. `Par` is what is known when the loop starts: the outputs of the block before (`z0`) with the
  inverse scales (`inv`), the last rows of that block (`e0`, `b0`), and the new block (`x`, `sc`) with the filter. `J` says
  how far the loop has come: which chunks hold new values, the others holding what they held before.
-/
module

public import proofs.«01_k».proof.Proof.KernelIdeal.Bufs
public import proofs.«01_k».proof.Proof.KernelIdeal.Offs
public import proofs.«01_k».proof.Proof.KernelIdeal.Vecs

@[expose] public section

noncomputable section

namespace Cert.Proof.KernelIdeal

open Cert.KernelIdeal Cert.KernelIdeal.Gen Cert.Proof.Hoare

open Idealize.ShloMosaic Idealize.SL.Sem Idealize.SL.RA

/-- What the tile loop starts from, by row and column. -/
structure Par where
  z0 : ℕ → ℕ → EReal
  inv : ℕ → EReal
  e0 : ℕ → ℕ → EReal
  b0 : ℕ → ℕ → EReal
  x : ℕ → ℕ → EReal
  sc : ℕ → EReal
  w : ℕ → ℕ → EReal
  bias : ℕ → EReal

namespace Par
variable (P : Par)

/-- The dequantised rows: sixteen of the block before, then the block's. -/
def ex (q col : ℕ) : EReal := if q < 16 then P.e0 q col else P.x (q - 16) col * P.sc (q - 16)
/-- The two taps that are added at the row itself. -/
def af (r col : ℕ) : EReal := P.ex (r + 16) col * P.w 3 col + P.ex (r + 14) col * P.w 1 col
/-- The two taps that are added one row later. -/
def bf (r col : ℕ) : EReal := P.ex (r + 16) col * P.w 2 col + P.ex (r + 14) col * P.w 0 col
/-- The second pair of taps: eight rows of the block before, then the block's. -/
def bx (q col : ℕ) : EReal := if q < 8 then P.b0 q col else P.bf (q - 8) col
/-- The new outputs before the activation. -/
def zn (r col : ℕ) : EReal := P.af r col + P.bx (r + 7) col + P.bias col
/-- The greatest new output of a row's lane in the first tiles. -/
def mx (r l : ℕ) : ℕ → EReal
  | 0 => ⊥
  | n + 1 => max (mx r l n) (P.zn r (n * 128 + l))

end Par

variable {U : Type} [URA U] {c : Dev nD} {bd : Option 𝒱₀.V} {L : Finset (Ref sig .tc)} {σ : St sig (Elt Ideal)}

/-- What the buffers the loop only reads hold. -/
structure K (A : Bufs L) (P : Par) (σ : St sig (Elt Ideal)) : Prop where
  x : ∀ (a : Fin 256) (b : Fin 3328), rd A.arg2 σ (ix2 a b) = P.x a b
  rhs : ∀ (t : Fin 26) (k n : Fin 256), rd A.arg14 σ (ix3 t k n)
    = if k.val % 128 = n.val % 128 then P.w (3 - 2 * (k.val / 128) - n.val / 128) (t.val * 128 + n.val % 128) else 0
  bias : ∀ (t : Fin 26) (s : Fin 8) (l : Fin 128), rd A.arg15 σ (ix3 t s l) = P.bias (t.val * 128 + l.val)
  sc : ∀ (a : Fin 128) (b : Fin 2) (l : Fin 128), rd A.arg17 σ (ix3 a b l) = P.sc (2 * a.val + b.val)
  inv : ∀ (a : Fin 256) (l : Fin 128), rd A.arg18 σ (ix2 a l) = P.inv a

theorem K.congr {A : Bufs L} {P : Par} {σ σ' : St sig (Elt Ideal)} (h : K A P σ)
    (hf : ∀ b, b ≠ A.arg6.view.ref → b ≠ A.arg10.view.ref → b ≠ A.arg11.view.ref → b ≠ A.arg12.view.ref → b ≠ A.arg13.view.ref → σ' b = σ b) : K A P σ' := by
  have ne : ∀ {i j : Fin 21}, i ≠ j → _ := fun {i j} hij => A.inj.ne hij
  have e2 := rd_congr A.arg2 (hf _ (ne (i := 1) (j := 5) (by decide)) (ne (i := 1) (j := 9) (by decide)) (ne (i := 1) (j := 10) (by decide)) (ne (i := 1) (j := 11) (by decide)) (ne (i := 1) (j := 12) (by decide)))
  have e14 := rd_congr A.arg14 (hf _ (ne (i := 13) (j := 5) (by decide)) (ne (i := 13) (j := 9) (by decide)) (ne (i := 13) (j := 10) (by decide)) (ne (i := 13) (j := 11) (by decide)) (ne (i := 13) (j := 12) (by decide)))
  have e15 := rd_congr A.arg15 (hf _ (ne (i := 14) (j := 5) (by decide)) (ne (i := 14) (j := 9) (by decide)) (ne (i := 14) (j := 10) (by decide)) (ne (i := 14) (j := 11) (by decide)) (ne (i := 14) (j := 12) (by decide)))
  have e17 := rd_congr A.arg17 (hf _ (ne (i := 16) (j := 5) (by decide)) (ne (i := 16) (j := 9) (by decide)) (ne (i := 16) (j := 10) (by decide)) (ne (i := 16) (j := 11) (by decide)) (ne (i := 16) (j := 12) (by decide)))
  have e18 := rd_congr A.arg18 (hf _ (ne (i := 17) (j := 5) (by decide)) (ne (i := 17) (j := 9) (by decide)) (ne (i := 17) (j := 10) (by decide)) (ne (i := 17) (j := 11) (by decide)) (ne (i := 17) (j := 12) (by decide)))
  exact ⟨fun a b => (congrFun e2 _).trans (h.x a b), fun t k n => (congrFun e14 _).trans (h.rhs t k n),
    fun t k n => (congrFun e15 _).trans (h.bias t k n), fun t k n => (congrFun e17 _).trans (h.sc t k n), fun t k => (congrFun e18 _).trans (h.inv t k)⟩

/-- How far the loop has come: the chunks of quantised outputs written, the tiles whose last rows have moved and whose new
    rows are in (twice), the chunks of the trip's two tiles written, the chunks of maxima written. -/
structure Cnt where
  ny : ℕ
  nes : ℕ
  ned : ℕ
  nbs : ℕ
  nbd : ℕ
  n0 : ℕ
  n1 : ℕ
  nm : ℕ

/-- The state of the loop in trip `g`. -/
structure J (A : Bufs L) (P : Par) (σ0 : St sig (Elt Ideal)) (g : ℕ) (k : Cnt) (σ : St sig (Elt Ideal)) : Prop where
  y : ∀ (a : Fin 256) (b : Fin 3328), b.val / 128 * 8 + a.val / 32 < k.ny → rd A.arg6 σ (ix2 a b) = encE (P.z0 a b) (P.inv a)
  z : ∀ (a : Fin 6656) (l : Fin 128), rd A.arg12 σ (ix2 a l)
    = if a.val < 512 * g ∨ (a.val / 256 = 2 * g ∧ a.val % 256 < 32 * k.n0) ∨ (a.val / 256 = 2 * g + 1 ∧ a.val % 256 < 32 * k.n1)
      then P.zn (a.val % 256) (a.val / 256 * 128 + l) else P.z0 (a.val % 256) (a.val / 256 * 128 + l)
  e1 : ∀ (a : Fin 3536) (b : Fin 2) (l : Fin 128), a.val / 136 < k.ned → rd A.arg10 σ (ix3 a b l) = P.ex (2 * (a.val % 136) + b) (a.val / 136 * 128 + l)
  e2 : ∀ (a : Fin 3536) (b : Fin 2) (l : Fin 128), a.val / 136 < k.nes → a.val % 136 < 8 →
    rd A.arg10 σ (ix3 a b l) = P.ex (2 * (a.val % 136) + b) (a.val / 136 * 128 + l)
  e3 : ∀ (a : Fin 3536) (b : Fin 2) (l : Fin 128), k.nes ≤ a.val / 136 → k.ned ≤ a.val / 136 → 128 ≤ a.val % 136 →
    rd A.arg10 σ (ix3 a b l) = P.e0 (2 * (a.val % 136 - 128) + b) (a.val / 136 * 128 + l)
  b1 : ∀ (a : Fin 6864) (l : Fin 128), a.val / 264 < k.nbd → rd A.arg11 σ (ix2 a l) = P.bx (a.val % 264) (a.val / 264 * 128 + l)
  b2 : ∀ (a : Fin 6864) (l : Fin 128), a.val / 264 < k.nbs → a.val % 264 < 8 →
    rd A.arg11 σ (ix2 a l) = P.bx (a.val % 264) (a.val / 264 * 128 + l)
  b3 : ∀ (a : Fin 6864) (l : Fin 128), k.nbs ≤ a.val / 264 → k.nbd ≤ a.val / 264 → 256 ≤ a.val % 264 →
    rd A.arg11 σ (ix2 a l) = P.b0 (a.val % 264 - 256) (a.val / 264 * 128 + l)
  m : ∀ (a : Fin 256) (l : Fin 128), rd A.arg13 σ (ix2 a l) = P.mx a l (if a.val < 32 * k.nm then 2 * g + 2 else 2 * g)
  k : K A P σ
  fr : ∀ b, b ≠ A.arg6.view.ref → b ≠ A.arg10.view.ref → b ≠ A.arg11.view.ref → b ≠ A.arg12.view.ref → b ≠ A.arg13.view.ref → σ b = σ0 b

theorem fr_step {A : Bufs L} {σ σ' : St sig (Elt Ideal)} {r : Ref sig .tc}
    (hr : r = A.arg6.view.ref ∨ r = A.arg10.view.ref ∨ r = A.arg11.view.ref ∨ r = A.arg12.view.ref ∨ r = A.arg13.view.ref)
    (h : ∀ b, b ≠ r → σ' b = σ b) (b : Ref sig .tc) (h6 : b ≠ A.arg6.view.ref) (h10 : b ≠ A.arg10.view.ref) (h11 : b ≠ A.arg11.view.ref)
    (h12 : b ≠ A.arg12.view.ref) (h13 : b ≠ A.arg13.view.ref) : σ' b = σ b := by
  refine h b ?_
  rcases hr with rfl | rfl | rfl | rfl | rfl <;> assumption

/-- A window put into a two-axis buffer, at an index. -/
theorem put2 {α : Type} {m n p q o o' : ℕ} (x : (⟨2, ![m, n]⟩ : Shape).Idx → α) (w : (⟨2, ![p, q]⟩ : Shape).Idx → α) (a : Fin m) (b : Fin n) :
    VecWindow.put (s := ⟨2, ![m, n]⟩) x ![o, o'] ![p, q] w (ix2 a b)
      = if h : (o ≤ a.val ∧ a.val < o + p) ∧ (o' ≤ b.val ∧ b.val < o' + q) then
          w (ix2 ⟨a.val - o, by omega⟩ ⟨b.val - o', by omega⟩) else x (ix2 a b) := by
  unfold VecWindow.put
  by_cases h : (o ≤ a.val ∧ a.val < o + p) ∧ (o' ≤ b.val ∧ b.val < o' + q)
  · rw [dif_pos h, dif_pos (by intro i; fin_cases i <;> simpa [ix2] using by first | exact h.1 | exact h.2)]
    refine congrArg w (funext fun i => ?_)
    fin_cases i <;> exact Fin.ext rfl
  · rw [dif_neg h, dif_neg (fun hh => h ⟨hh 0, hh 1⟩)]

/-- A window put into a three-axis buffer, at an index. -/
theorem put3 {α : Type} {m n k p q r o o' o'' : ℕ} (x : (⟨3, ![m, n, k]⟩ : Shape).Idx → α) (w : (⟨3, ![p, q, r]⟩ : Shape).Idx → α)
    (a : Fin m) (b : Fin n) (d : Fin k) :
    VecWindow.put (s := ⟨3, ![m, n, k]⟩) x ![o, o', o''] ![p, q, r] w (ix3 a b d)
      = if h : (o ≤ a.val ∧ a.val < o + p) ∧ (o' ≤ b.val ∧ b.val < o' + q) ∧ (o'' ≤ d.val ∧ d.val < o'' + r) then
          w (ix3 ⟨a.val - o, by omega⟩ ⟨b.val - o', by omega⟩ ⟨d.val - o'', by omega⟩) else x (ix3 a b d) := by
  unfold VecWindow.put
  by_cases h : (o ≤ a.val ∧ a.val < o + p) ∧ (o' ≤ b.val ∧ b.val < o' + q) ∧ (o'' ≤ d.val ∧ d.val < o'' + r)
  · rw [dif_pos h, dif_pos (by intro i; fin_cases i <;> simpa [ix3] using by first | exact h.1 | exact h.2.1 | exact h.2.2)]
    refine congrArg w (funext fun i => ?_)
    fin_cases i <;> exact Fin.ext rfl
  · rw [dif_neg h, dif_neg (fun hh => h ⟨hh 0, hh 1, hh 2⟩)]

/-- The index a window's index stands for. -/
theorem emb2 {m n p q o o' : ℕ} (inb : ∀ a, ![o, o'] a + ![p, q] a ≤ (⟨2, ![m, n]⟩ : Shape).size a) (a : Fin p) (b : Fin q) :
    (Rect.unit (s := ⟨2, ![m, n]⟩) ![o, o'] ![p, q] inb).emb (ix2 a b)
      = ix2 ⟨o + a.val, by have := inb 0; simp at this; omega⟩ ⟨o' + b.val, by have := inb 1; simp at this; omega⟩ := by
  funext i
  fin_cases i <;> exact Fin.ext (by simp [Rect.emb, Rect.unit, ix2])

theorem emb3 {m n k p q r o o' o'' : ℕ} (inb : ∀ a, ![o, o', o''] a + ![p, q, r] a ≤ (⟨3, ![m, n, k]⟩ : Shape).size a) (a : Fin p) (b : Fin q) (d : Fin r) :
    (Rect.unit (s := ⟨3, ![m, n, k]⟩) ![o, o', o''] ![p, q, r] inb).emb (ix3 a b d)
      = ix3 ⟨o + a.val, by have := inb 0; simp at this; omega⟩ ⟨o' + b.val, by have := inb 1; simp at this; omega⟩
          ⟨o'' + d.val, by have := inb 2; simp at this; omega⟩ := by
  funext i
  fin_cases i <;> exact Fin.ext (by simp [Rect.emb, Rect.unit, ix3])

end Cert.Proof.KernelIdeal
-- ==== Proof.KernelIdeal.Head.lean ====
/-
  The scale of the block before, from its rows' greatest entries.
-/
module

public import proofs.«01_k».proof.Proof.KernelIdeal.Bufs
public import proofs.«01_k».proof.Proof.KernelIdeal.Scale
public import proofs.«01_k».proof.Proof.KernelIdeal.Tile

@[expose] public section

set_option maxRecDepth 8000
set_option maxHeartbeats 400000

noncomputable section

namespace Cert.Proof.KernelIdeal

open Cert.KernelIdeal Cert.KernelIdeal.Gen Cert.Proof.Hoare Cert.Proof.Quant

open Idealize.ShloMosaic Idealize.SL.Sem Idealize.SL.RA

variable {U : Type} [URA U] {c : Dev nD} {bd : Option 𝒱₀.V} {L : Finset (Ref sig .tc)} {σ : St sig (Elt Ideal)}

/-- The first half of the body after the first point's part. -/
def head (A : Bufs L) (i : grid0.Coords) : Prog (TpuEff nD τ sig (Elt Ideal) (Λ₀ Ideal) .tc) (Σ' (arg0 : BitVec 32) (v6 : FVec Ideal S1x256 .f32), FVec Ideal S256x128 .f32) := do
  let arg0 : BitVec 32 := BitVec.ofNat 32 (i 0).val
  let v3 : Vec Ideal S256x128 .f32 ← Prog.lift (.load A.arg13 (Rect.unit (s := S256x128) ![0, 0] S256x128.size inb_S256x128_S256x128_0_0).toLoadRect (View.loadsAt_vmem h_S256x128))
  have v4 : FVec Ideal S128x256 .f32 := transpose S128x256 [1, 0] v3 transposes_S256x128_p1_0_S128x256
  have cst : FVec Ideal S256 .f32 := constant S256 .f32 0xFF800000#32
  have v5 : FVec Ideal S256 .f32 := multiReduction .maximumf [0] S256 v4 0xFF800000#32 reduces_S128x256_S256 (.inl rfl) rfl
  have v6 : FVec Ideal S1x256 .f32 := shapeCast S1x256 v5 shapeCasts_S256_S1x256
  have v7 : FVec Ideal S1x256 .f32 := logistic v6
  have v8 : FVec Ideal S1x256 .f32 := mulf v6 v7
  have cst_2 : Ideal .f32 := Scalar.ofBits .f32 0x3B124925#32
  have v9 : FVec Ideal S1x256 .f32 := broadcast S1x256 cst_2
  have v10 : FVec Ideal S1x256 .f32 := mulf v8 v9
  let c0_i32_3 : BitVec 32 := 0#32
  have v11 : IVec S1x256 32 := broadcast S1x256 c0_i32_3
  let c0_i32_4 : BitVec 32 := 0#32
  let c246_i32 : BitVec 32 := 246#32
  let v12 : BitVec 32 := Scalar.addi c0_i32_4 c246_i32
  let c1_i32 : BitVec 32 := 1#32
  let v13 : IVec S1x256 32 ← Scf.Loop.for k0_t2_loop k0_t2_ok v11 fun k0_t2 arg23 => do
    let arg22 : BitVec 32 := Scf.iv c0_i32_4 c1_i32 k0_t2
    let c1_i32_31 : BitVec 32 := 1#32
    have v69 : IVec S1x256 32 := broadcast S1x256 c1_i32_31
    have v70 : IVec S1x256 32 := addi arg23 v69
    let c23_i32_32 : BitVec 32 := 23#32
    have v71 : IVec S1x256 32 := broadcast S1x256 c23_i32_32
    have v72 : IVec S1x256 32 := shli v70 v71
    have v73 : FVec Ideal S1x256 .f32 := bitcastToFloat .f32 v72
    have v74 : IVec S1x256 1 := cmpf .oge v10 v73
    let c1_i32_33 : BitVec 32 := 1#32
    let c0_i32_34 : BitVec 32 := 0#32
    have v75 : IVec S1x256 32 := broadcast S1x256 c1_i32_33
    have v76 : IVec S1x256 32 := broadcast S1x256 c0_i32_34
    have v77 : IVec S1x256 32 := select v74 v75 v76
    have v78 : IVec S1x256 32 := addi arg23 v77
    pure v78
  let c126_i32 : BitVec 32 := 126#32
  have v14 : IVec S1x256 32 := broadcast S1x256 c126_i32
  have v15 : IVec S1x256 32 := subi v13 v14
  have cst_5 : Ideal .f32 := Scalar.ofBits .f32 0x00000000#32
  have v16 : FVec Ideal S1x256 .f32 := broadcast S1x256 cst_5
  have v17 : IVec S1x256 1 := cmpf .oeq v8 v16
  let c0_i32_6 : BitVec 32 := 0#32
  have v18 : IVec S1x256 32 := broadcast S1x256 c0_i32_6
  have v19 : IVec S1x256 32 := select v17 v18 v15
  let c127_i32 : BitVec 32 := 127#32
  have v20 : IVec S1x256 32 := broadcast S1x256 c127_i32
  have v21 : IVec S1x256 32 := addi v20 v19
  let c23_i32 : BitVec 32 := 23#32
  have v22 : IVec S1x256 32 := broadcast S1x256 c23_i32
  have v23 : IVec S1x256 32 := shli v21 v22
  have v24 : FVec Ideal S1x256 .f32 := bitcastToFloat .f32 v23
  let c127_i32_7 : BitVec 32 := 127#32
  have v25 : IVec S1x256 32 := broadcast S1x256 c127_i32_7
  have v26 : IVec S1x256 32 := subi v25 v19
  let c23_i32_8 : BitVec 32 := 23#32
  have v27 : IVec S1x256 32 := broadcast S1x256 c23_i32_8
  have v28 : IVec S1x256 32 := shli v26 v27
  have v29 : FVec Ideal S1x256 .f32 := bitcastToFloat .f32 v28
  let c0_9 : Index := 0#32
  let c0_10 : Index := 0#32
  let c0_11 : Index := 0#32
  let v30 : Vec Ideal S1x1x256 .f32 ← Prog.lift (.load A.arg7 (Rect.unit (s := S1x1x256) ![0, 0, 0] S1x1x256.size inb_S1x1x256_S1x1x256_0_0_0).toLoadRect (View.loadsAt_vmem h_S1x1x256))
  have v31 : FVec Ideal S1x256 .f32 := shapeCast S1x256 v30 shapeCasts_S1x1x256_S1x256
  have v32 : FVec Ideal S1x1x256 .f32 := shapeCast S1x1x256 v24 shapeCasts_S1x256_S1x1x256
  Prog.lift (.store A.arg7 (Rect.unit (s := S1x1x256) ![0, 0, 0] S1x1x256.size inb_S1x1x256_S1x1x256_0_0_0) v32 Finset.univ (View.stores_vmem_bits_univ h_S1x1x256 rfl) (.inl rfl))
  have v33 : FVec Ideal S1x256 .f32 := shapeCast S1x256 v29 shapeCasts_S1x256_S1x256
  have v34 : FVec Ideal S128x256 .f32 := broadcastTo S128x256 v33 broadcasts_S1x256_S128x256
  have v35 : FVec Ideal S256x128 .f32 := transpose S256x128 [1, 0] v34 transposes_S128x256_p1_0_S256x128
  let c0_12 : Index := 0#32
  pure ⟨arg0, v6, v35⟩

theorem emb2_full {m n : ℕ} (inb : ∀ a, ![0, 0] a + ![m, n] a ≤ (⟨2, ![m, n]⟩ : Shape).size a) (a : Fin m) (b : Fin n) :
    (Rect.unit (s := ⟨2, ![m, n]⟩) ![0, 0] ![m, n] inb).emb (ix2 a b) = ix2 a b := by
  rw [emb2]; exact (ix2_inj ..).2 ⟨Fin.ext (Nat.zero_add _), Fin.ext (Nat.zero_add _)⟩

theorem emb3_full {m n k : ℕ} (inb : ∀ a, ![0, 0, 0] a + ![m, n, k] a ≤ (⟨3, ![m, n, k]⟩ : Shape).size a) (a : Fin m) (b : Fin n) (d : Fin k) :
    (Rect.unit (s := ⟨3, ![m, n, k]⟩) ![0, 0, 0] ![m, n, k] inb).emb (ix3 a b d) = ix3 a b d := by
  rw [emb3]; exact (ix3_inj ..).2 ⟨Fin.ext (Nat.zero_add _), Fin.ext (Nat.zero_add _), Fin.ext (Nat.zero_add _)⟩

theorem put2_full {α : Type} {m n : ℕ} (x w : (⟨2, ![m, n]⟩ : Shape).Idx → α) : VecWindow.put (s := ⟨2, ![m, n]⟩) x ![0, 0] ![m, n] w = w := by
  funext j
  obtain ⟨a, b, rfl⟩ : ∃ a b, j = ix2 a b := ⟨_, _, eq_ix2 j⟩
  rw [put2, dif_pos ⟨⟨Nat.zero_le _, by omega⟩, Nat.zero_le _, by omega⟩]
  rfl

theorem put3_full {α : Type} {m n k : ℕ} (x w : (⟨3, ![m, n, k]⟩ : Shape).Idx → α) : VecWindow.put (s := ⟨3, ![m, n, k]⟩) x ![0, 0, 0] ![m, n, k] w = w := by
  funext j
  obtain ⟨a, b, d, rfl⟩ : ∃ a b d, j = ix3 a b d := ⟨_, _, _, eq_ix3 j⟩
  rw [put3, dif_pos ⟨⟨Nat.zero_le _, by omega⟩, ⟨Nat.zero_le _, by omega⟩, Nat.zero_le _, by omega⟩]
  rfl

/-- The scales as the three-axis vector that is stored. -/
def outV (v : FVec Ideal S1x256 .f32) : FVec Ideal S1x1x256 .f32 := shapeCast S1x1x256 v shapeCasts_S1x256_S1x1x256

theorem outV_apply (v : FVec Ideal S1x256 .f32) (a : Fin 256) : outV v (ix3 0 0 a) = v (ix2 0 a) := by
  unfold outV
  pointwise

/-- The greatest entry of a row of the maxima. -/
def rmax (A : Bufs L) (σ : St sig (Elt Ideal)) (a : Fin 256) : EReal := Finset.univ.sup fun l : Fin 128 => rd A.arg13 σ (ix2 a l)

/-- It returns the rows' greatest entries and the inverse scales, and stores the scales. -/
theorem head_runs (A : Bufs L) (i : grid0.Coords) :
    Runs U defs₀ 𝒱₀ c bd L σ (head A i) (fun r σ' => (∀ a l, r.2.2 (ix2 a l) = invE (silu (rmax A σ a))) ∧ (∀ a, r.2.1 (ix2 0 a) = rmax A σ a)
      ∧ (∀ a, rd A.arg7 σ' (ix3 0 0 a) = scE (silu (rmax A σ a))) ∧ ∀ b, b ≠ A.arg7.view.ref → σ' b = σ b) := by
  unfold head
  refine Runs.loadw A.h13 fun (v : Vec Ideal S256x128 .f32) hv => ?_
  have hm : ∀ a : Fin 256, maxV v (ix2 0 a) = rmax A σ a := by
    intro a
    rw [maxV_apply]
    refine Finset.sup_congr rfl fun l _ => ?_
    refine (hv (ix2 a l)).trans ?_
    exact congrArg (rd A.arg13 σ) (emb2_full _ a l)
  have h8 : ∀ a : Fin 256, silV (maxV v) (ix2 0 a) = silu (rmax A σ a) := by
    intro a
    rw [silV_apply, hm]
  refine Runs.for (fun k (acc : IVec S1x256 32) σ' => σ' = σ ∧ ∀ a : Fin 256, acc (ix2 0 a) = cnt (qV (silV (maxV v)) (ix2 0 a)) k)
    ⟨rfl, fun _ => rfl⟩ (fun j acc σ' h => ?_) (fun acc σ' h => ?_)
  · refine Runs.ret ⟨h.1, fun a => cntV_apply _ _ _ _ (h.2 a)⟩
  obtain ⟨rfl, h⟩ := h
  refine Runs.loada A.h7 fun _ => ?_
  refine Runs.storew A.h7 fun σ' hf h7 => ?_
  refine Runs.ret ⟨fun a l => ?_, fun a => ?_, fun a => ?_, hf⟩
  · refine (rowsV_apply (invV (silV (maxV v)) acc) a l).trans ((invV_apply _ acc a (h a)).trans ?_)
    rw [h8]
  · dsimp only
    exact hm a
  · have e : rd A.arg7 σ' = outV (scV (silV (maxV v)) acc) := h7.trans (put3_full _ _)
    rw [e, outV_apply, scV_apply _ acc a (h a), h8]

end Cert.Proof.KernelIdeal
-- ==== Proof.KernelIdeal.Slow.lean ====
/-
  The slow path: the scale from the activations themselves, the codes put aside, and their copy into the result.
-/
module

public import proofs.«01_k».proof.Proof.KernelIdeal.Head

@[expose] public section

set_option maxRecDepth 8000
set_option maxHeartbeats 400000

noncomputable section

namespace Cert.Proof.KernelIdeal

open Cert.KernelIdeal Cert.KernelIdeal.Gen Cert.Proof.Hoare Cert.Proof.Quant

open Idealize.ShloMosaic Idealize.SL.Sem Idealize.SL.RA

variable {U : Type} [URA U] {c : Dev nD} {bd : Option 𝒱₀.V} {L : Finset (Ref sig .tc)} {σ : St sig (Elt Ideal)}

/-- The greatest of a start and what a lane holds in the first tiles. -/
def tiles (c0 : EReal) (g : ℕ → EReal) (l : ℕ) : ℕ → EReal
  | 0 => c0
  | n + 1 => max (tiles c0 g l n) (g (n * 128 + l))

theorem tiles_le {c0 : EReal} {g : ℕ → EReal} {l n : ℕ} {B : EReal} (h0 : c0 ≤ B) (h : ∀ k, k < n → g (k * 128 + l) ≤ B) : tiles c0 g l n ≤ B := by
  induction n with
  | zero => exact h0
  | succ n ih => exact max_le (ih fun k hk => h k (by omega)) (h n (by omega))

theorem le_tiles {c0 : EReal} {g : ℕ → EReal} {l n k : ℕ} (h : k < n) : g (k * 128 + l) ≤ tiles c0 g l n := by
  induction n with
  | zero => omega
  | succ n ih =>
    by_cases e : k = n
    · subst e; exact le_max_right _ _
    · exact (ih (by omega)).trans (le_max_left _ _)

/-- Over all lanes that is the greatest entry of the row. -/
theorem sup_tiles {c0 : EReal} {g : ℕ → EReal} (h0 : ∀ b, c0 ≤ g b) :
    (Finset.univ.sup fun l : Fin 128 => tiles c0 g l 26) = Finset.univ.sup fun b : Fin 3328 => g b := by
  apply le_antisymm
  · refine Finset.sup_le fun l _ => tiles_le ((h0 0).trans (Finset.le_sup (f := fun b : Fin 3328 => g b) (Finset.mem_univ 0))) fun k hk => ?_
    exact Finset.le_sup (f := fun b : Fin 3328 => g b) (Finset.mem_univ ⟨k * 128 + l.val, by omega⟩)
  · refine Finset.sup_le fun b _ => ?_
    refine le_trans ?_ (Finset.le_sup (f := fun l : Fin 128 => tiles c0 g l 26) (Finset.mem_univ ⟨b.val % 128, by omega⟩))
    have := le_tiles (c0 := c0) (g := g) (l := b.val % 128) (n := 26) (k := b.val / 128) (by omega)
    rwa [show b.val / 128 * 128 + b.val % 128 = b.val by omega] at this

/-- A row's greatest magnitude after the activation. -/
def amax (z : ℕ → ℕ → EReal) (r : ℕ) : EReal := Finset.univ.sup fun b : Fin 3328 => mag (silu (z r b))

theorem off4 (t : Fin k0_t3_loop.trips) : k0_off4 t = ![t.val * 256, 0] := by
  revert t; decide +kernel
theorem off5 (t : Fin k0_t5_loop.trips) : k0_off5 t = ![t.val * 256, 0] := by
  revert t; decide +kernel
theorem off6 (t : Fin k0_t5_loop.trips) : k0_off6 t = ![t.val, 0, 0] := by
  revert t; decide +kernel

variable {A : Bufs L} {z : ℕ → ℕ → EReal} {α : Type} {Q : α → St sig (Elt Ideal) → Prop}

/-- One tile of outputs. -/
theorem zload (hz : ∀ (a : Fin 6656) (l : Fin 128), rd A.arg12 σ (ix2 a l) = z (a.val % 256) (a.val / 256 * 128 + l)) {off : Fin 2 → ℕ} (lt : ℕ) (hlt : lt < 26) (hoff : off = ![lt * 256, 0])
    {inb : ∀ a, off a + S256x128.size a ≤ S6656x128.size a} {hl} {kk : ((Rect.unit (s := S6656x128) off S256x128.size inb).shape.Idx → Elt Ideal .f32) → Prog (TpuEff nD τ sig (Elt Ideal) (Λ₀ Ideal) .tc) α}
    (h : ∀ v : Vec Ideal S256x128 .f32, (∀ (a : Fin 256) (l : Fin 128), v (ix2 a l) = z a (lt * 128 + l)) → Runs U defs₀ 𝒱₀ c bd L σ (kk v) Q) :
    Runs U defs₀ 𝒱₀ c bd L σ (Prog.lift (.load A.arg12 (Rect.unit (s := S6656x128) off S256x128.size inb).toLoadRect hl) >>= kk) Q := by
  subst hoff
  refine Runs.loadw A.h12 fun v hv => h v ?_
  intro a l
  refine (hv (ix2 a l)).trans ?_
  rw [emb2, hz]
  exact congrArg₂ z (by simp only []; omega) (by simp only []; omega)

/-- A tile of codes as the three-axis vector that is stored. -/
def boxV (w : FVec Ideal S256x128 .fp8e4m3) : FVec Ideal S1x256x128 .fp8e4m3 := shapeCast S1x256x128 w shapeCasts_S256x128_S1x256x128

theorem boxV_apply (w : FVec Ideal S256x128 .fp8e4m3) (a : Fin 256) (l : Fin 128) : boxV w (ix3 0 a l) = w (ix2 a l) := by
  unfold boxV
  pointwise

/-- A tile of codes put aside. -/
theorem store19 {off : Fin 3 → ℕ} (lt : ℕ) (hlt : lt < 26) (hoff : off = ![lt, 0, 0]) {Y : ℕ → ℕ → EReal}
    {w : FVec Ideal S1x256x128 .fp8e4m3} (hw : ∀ (a : Fin 256) (l : Fin 128), w (ix3 0 a l) = Y a (lt * 128 + l))
    {inb : ∀ a, off a + S1x256x128.size a ≤ S26x256x128.size a}
    {hx : (A.arg19.access (Rect.unit (s := S26x256x128) off S1x256x128.size inb)).Stores Finset.univ} {hu}
    {kk : PUnit → Prog (TpuEff nD τ sig (Elt Ideal) (Λ₀ Ideal) .tc) α}
    (h : ∀ σ', (∀ b, b ≠ A.arg19.view.ref → σ' b = σ b) → (∀ (t : Fin 26) (a : Fin 256) (l : Fin 128), rd A.arg19 σ' (ix3 t a l) = if t.val = lt then Y a (t.val * 128 + l) else rd A.arg19 σ (ix3 t a l)) →
      Runs U defs₀ 𝒱₀ c bd L σ' (kk ⟨⟩) Q) :
    Runs U defs₀ 𝒱₀ c bd L σ (Prog.lift (.store A.arg19 (Rect.unit (s := S26x256x128) off S1x256x128.size inb) w Finset.univ hx hu) >>= kk) Q := by
  subst hoff
  refine Runs.storew A.h19 fun σ' hf he => h σ' hf fun t a l => ?_
  rw [he, put3]
  by_cases e : t.val = lt
  · rw [dif_pos ⟨⟨e.ge, by omega⟩, ⟨Nat.zero_le _, by omega⟩, Nat.zero_le _, by omega⟩, if_pos e]
    subst e
    refine Eq.trans (congrArg w ((ix3_inj ..).2 ⟨Fin.ext (Nat.sub_self _), rfl, rfl⟩)) (hw a l)
  · rw [dif_neg (by omega), if_neg e]

/-- The exact scale and the codes under it. -/
theorem slow_runs (A : Bufs L) (i : grid0.Coords) (z : ℕ → ℕ → EReal)
    (hz : ∀ (a : Fin 6656) (l : Fin 128), rd A.arg12 σ (ix2 a l) = z (a.val % 256) (a.val / 256 * 128 + l)) :
    Runs U defs₀ 𝒱₀ c bd L σ (k0_part54 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21)
      (fun _ σ' => (∀ a, rd A.arg7 σ' (ix3 0 0 a) = scE (amax z a)) ∧ (∀ (t : Fin 26) (a : Fin 256) (l : Fin 128), rd A.arg19 σ' (ix3 t a l) = encE (z a (t.val * 128 + l)) (invE (amax z a)))
        ∧ ∀ b, b ≠ A.arg7.view.ref → b ≠ A.arg19.view.ref → σ' b = σ b) := by
  unfold k0_part54
  refine Runs.for (fun k (acc : FVec Ideal S256x128 .f32) σ' => σ' = σ ∧ ∀ (a : Fin 256) (l : Fin 128), acc (ix2 a l) = tiles 0 (fun b => mag (silu (z a b))) l k)
    ⟨rfl, fun _ _ => zero_bits⟩ (fun j acc σ' h => ?_) (fun acc σ' h => ?_)
  · obtain ⟨rfl, h⟩ := h
    have hj : j.val < 26 := lt_of_lt_of_le j.isLt (by decide)
    refine zload hz j.val hj (off4 j) fun v hv => ?_
    refine Runs.ret ⟨rfl, fun a l => ?_⟩
    show max (acc (ix2 a l)) (mag (actV v (ix2 a l))) = _
    rw [h, actV_apply, hv]
    rfl
  obtain ⟨rfl, hacc⟩ := h
  have hm : ∀ a : Fin 256, maxV acc (ix2 0 a) = amax z a := by
    intro a
    rw [maxV_apply]
    refine Eq.trans ?_ (sup_tiles (c0 := 0) (g := fun b => mag (silu (z a b))) fun b => mag_nonneg _)
    exact Finset.sup_congr rfl fun l _ => hacc a l
  refine Runs.for (fun k (ac : IVec S1x256 32) σ'' => σ'' = σ' ∧ ∀ a : Fin 256, ac (ix2 0 a) = cnt (qV (maxV acc) (ix2 0 a)) k)
    ⟨rfl, fun _ => rfl⟩ (fun j acc σ' h => ?_) (fun ac σ'' h => ?_)
  · refine Runs.ret ⟨h.1, fun a => cntV_apply _ _ _ _ (h.2 a)⟩
  obtain ⟨rfl, h⟩ := h
  refine Runs.loada A.h7 fun _ => ?_
  refine Runs.storew A.h7 fun σ1 hf h7 => ?_
  have hz1 : ∀ (a : Fin 6656) (l : Fin 128), rd A.arg12 σ1 (ix2 a l) = z (a.val % 256) (a.val / 256 * 128 + l) := by
    rw [rd_congr A.arg12 (hf _ (A.inj.ne (a₁ := 11) (a₂ := 6) (by decide)))]; exact hz
  have hs : ∀ a : Fin 256, rd A.arg7 σ1 (ix3 0 0 a) = scE (amax z a) := by
    intro a
    have e : rd A.arg7 σ1 = outV (scV (maxV acc) ac) := h7.trans (put3_full _ _)
    rw [e, outV_apply, scV_apply _ ac a (h a), hm]
  have hi : ∀ (a : Fin 256) (l : Fin 128), rowsV (invV (maxV acc) ac) (ix2 a l) = invE (amax z a) := by
    intro a l
    refine (rowsV_apply _ a l).trans ((invV_apply _ ac a (h a)).trans ?_)
    rw [hm]
  refine Runs.for (fun k (_ : PUnit) σ2 => (∀ b, b ≠ A.arg19.view.ref → σ2 b = σ1 b) ∧ ∀ (t : Fin 26) (a : Fin 256) (l : Fin 128), t.val < k → rd A.arg19 σ2 (ix3 t a l) = encE (z a (t.val * 128 + l)) (invE (amax z a)))
    ⟨fun _ _ => rfl, fun _ _ _ hk => absurd hk (Nat.not_lt_zero _)⟩ (fun j _ σ2 h => ?_) (fun _ σ2 h => ?_)
  · have hj : j.val < 26 := lt_of_lt_of_le j.isLt (by decide)
    refine zload (by rw [rd_congr A.arg12 (h.1 _ (A.inj.ne (a₁ := 11) (a₂ := 18) (by decide)))]; exact hz1) j.val hj (off5 j) fun v hv => ?_
    refine Runs.loada A.h19 fun _ => ?_
    refine store19 (Y := fun a b => encE (z a b) (invE (amax z a))) j.val hj (off6 j) (fun a l => ?_) fun σ3 hf3 h3 => ?_
    · refine (boxV_apply (slowV v (rowsV (invV (maxV acc) ac))) a l).trans ?_
      rw [slowV_apply, hv, hi]
    refine Runs.ret ⟨fun b hb => (hf3 b hb).trans (h.1 b hb), fun t a l hk => ?_⟩
    rw [h3]
    by_cases e : t.val = j.val
    · rw [if_pos e]
    · rw [if_neg e]; exact h.2 t a l (by omega)
  refine Runs.ret ⟨fun a => ?_, fun t a l => h.2 t a l (lt_of_lt_of_le t.isLt (by decide)), fun b hb hb' => (h.1 b hb').trans (hf b hb)⟩
  rw [rd_congr A.arg7 (h.1 _ (A.inj.ne (a₁ := 6) (a₂ := 18) (by decide)))]
  exact hs a

end Cert.Proof.KernelIdeal
-- ==== Proof.KernelIdeal.Steps.lean ====
/-
  One rule per load and per store of the tile loop: what is loaded, and how far the loop has come after the store.
-/
module

public import proofs.«01_k».proof.Proof.KernelIdeal.Tile

@[expose] public section

noncomputable section

namespace Cert.Proof.KernelIdeal

open Cert.KernelIdeal Cert.KernelIdeal.Gen Cert.Proof.Hoare

open Idealize.ShloMosaic Idealize.SL.Sem Idealize.SL.RA

variable {U : Type} [URA U] {c : Dev nD} {bd : Option 𝒱₀.V} {L : Finset (Ref sig .tc)} {σ : St sig (Elt Ideal)}
variable {A : Bufs L} {P : Par} {σ0 : St sig (Elt Ideal)} {g : ℕ} {k : Cnt} {α : Type} {Q : α → St sig (Elt Ideal) → Prop}

/-- The vectors' values in terms of what is known at the start. -/
theorem xV_ex (P : Par) (lt : ℕ) {x : FVec Ideal S256x128 .fp8e4m3} {s : FVec Ideal S128x2x128 .bf16}
    (hx : ∀ (a : Fin 256) (l : Fin 128), x (ix2 a l) = P.x a (lt * 128 + l))
    (hs : ∀ (a : Fin 128) (b : Fin 2) (l : Fin 128), s (ix3 a b l) = P.sc (2 * a + b)) (a : Fin 256) (l : Fin 128) :
    xV x s (ix2 a l) = P.ex (a + 16) (lt * 128 + l) := by
  rw [xV_apply, hx, hs, Par.ex, if_neg (by omega)]
  have h1 : a.val + 16 - 16 = a.val := by omega
  have h2 : 2 * (a.val / 2) + a.val % 2 = a.val := by omega
  simp only [h1, h2]

/-- Rows read two rows earlier. -/
theorem unpack_ex (P : Par) (lt : ℕ) {s : FVec Ideal S128x2x128 .bf16}
    (hs : ∀ (a : Fin 128) (b : Fin 2) (l : Fin 128), s (ix3 a b l) = P.ex (14 + (2 * a + b)) (lt * 128 + l)) (a : Fin 256) (l : Fin 128) :
    unpack s (ix2 a l) = P.ex (a + 14) (lt * 128 + l) := by
  rw [unpack_apply, hs]
  have h2 : 14 + (2 * (a.val / 2) + a.val % 2) = a.val + 14 := by omega
  simp only [h2]

/-- The first product is the first pair of taps. -/
theorem abV_af (P : Par) (lt : ℕ) {x0 x2 : FVec Ideal S256x128 .bf16} {r : FVec Ideal S1x256x256 .bf16}
    (h0 : ∀ (a : Fin 256) (l : Fin 128), x0 (ix2 a l) = P.ex (a + 16) (lt * 128 + l))
    (h2 : ∀ (a : Fin 256) (l : Fin 128), x2 (ix2 a l) = P.ex (a + 14) (lt * 128 + l))
    (hr : ∀ (k n : Fin 256), r (ix3 0 k n) = if k.val % 128 = n.val % 128 then P.w (3 - 2 * (k.val / 128) - n.val / 128) (lt * 128 + n.val % 128) else 0)
    (a : Fin 256) (n : Fin 128) : abV x0 x2 r (ix2 a ⟨n.val, by omega⟩) = P.af a (lt * 128 + n) := by
  rw [abV_apply]
  simp only [hr]
  have hn : n.val % 128 = n.val := by omega
  have hd : n.val / 128 = 0 := by omega
  simp only [hn, hd]
  rw [sum_diag, dif_pos (show n.val < 128 by omega), dif_neg (show ¬128 + n.val < 128 by omega), h0, h2]
  have e1 : (128 + n.val) / 128 = 1 := by omega
  have e2 : 128 + n.val - 128 = n.val := by omega
  simp only [hd, e1, e2]
  rfl

/-- The second product is the second pair of taps. -/
theorem abV_bf (P : Par) (lt : ℕ) {x0 x2 : FVec Ideal S256x128 .bf16} {r : FVec Ideal S1x256x256 .bf16}
    (h0 : ∀ (a : Fin 256) (l : Fin 128), x0 (ix2 a l) = P.ex (a + 16) (lt * 128 + l))
    (h2 : ∀ (a : Fin 256) (l : Fin 128), x2 (ix2 a l) = P.ex (a + 14) (lt * 128 + l))
    (hr : ∀ (k n : Fin 256), r (ix3 0 k n) = if k.val % 128 = n.val % 128 then P.w (3 - 2 * (k.val / 128) - n.val / 128) (lt * 128 + n.val % 128) else 0)
    (a : Fin 256) (n : Fin 128) : abV x0 x2 r (ix2 a ⟨128 + n.val, by omega⟩) = P.bf a (lt * 128 + n) := by
  rw [abV_apply]
  simp only [hr]
  have hn : (128 + n.val) % 128 = n.val := by omega
  have hd : (128 + n.val) / 128 = 1 := by omega
  simp only [hn, hd]
  rw [sum_diag, dif_pos (show n.val < 128 by omega), dif_neg (show ¬128 + n.val < 128 by omega), h0, h2]
  have e1 : n.val / 128 = 0 := by omega
  have e2 : 128 + n.val - 128 = n.val := by omega
  simp only [hd, e1, e2]
  rfl

/-- A chunk of new outputs. -/
theorem zV_zn (P : Par) (lt cc : ℕ) (hc : cc < 8) (h : S256x256.Slices ![32 * cc, 0] S32x128) {ab : FVec Ideal S256x256 .f32} {b : FVec Ideal S32x128 .f32}
    {bias : FVec Ideal S1x8x128 .f32} (hab : ∀ (a : Fin 256) (n : Fin 128), ab (ix2 a ⟨n.val, by omega⟩) = P.af a (lt * 128 + n))
    (hb : ∀ (a : Fin 32) (l : Fin 128), b (ix2 a l) = P.bx (7 + 32 * cc + a) (lt * 128 + l))
    (hbias : ∀ (s : Fin 8) (l : Fin 128), bias (ix3 0 s l) = P.bias (lt * 128 + l)) (a : Fin 32) (l : Fin 128) :
    zV ![32 * cc, 0] h ab b bias (ix2 a l) = P.zn (32 * cc + a) (lt * 128 + l) := by
  rw [zV_apply _ _ (by omega), hab ⟨32 * cc + a.val, by omega⟩, hb, hbias, Par.zn]
  have : 7 + 32 * cc + a.val = 32 * cc + a.val + 7 := by omega
  rw [this]

/-- Outputs of the block before. -/
theorem J.zload (hJ : J A P σ0 g k σ) {off : Fin 2 → ℕ} (lt cc : ℕ) (hlt : 2 * g ≤ lt) (hlt' : lt < 26) (hc : cc < 8) (h0 : k.n0 = 0) (h1 : k.n1 = 0) (hoff : off = ![lt * 256 + 32 * cc, 0])
    {inb : ∀ a, off a + S32x128.size a ≤ S6656x128.size a} {hl} {kk : ((Rect.unit (s := S6656x128) off S32x128.size inb).shape.Idx → Elt Ideal .f32) → Prog (TpuEff nD τ sig (Elt Ideal) (Λ₀ Ideal) .tc) α}
    (h : ∀ v : Vec Ideal S32x128 .f32, (∀ (a : Fin 32) (l : Fin 128), v (ix2 a l) = P.z0 (32 * cc + a) (lt * 128 + l)) → Runs U defs₀ 𝒱₀ c bd L σ (kk v) Q) :
    Runs U defs₀ 𝒱₀ c bd L σ (Prog.lift (.load A.arg12 (Rect.unit (s := S6656x128) off S32x128.size inb).toLoadRect hl) >>= kk) Q := by
  subst hoff
  refine Runs.loadw A.h12 fun v hv => h v ?_
  intro a l
  refine (hv (ix2 a l)).trans ?_
  rw [emb2, hJ.z, if_neg (by simp only [h0, h1]; omega)]
  exact congrArg₂ P.z0 (by simp only []; omega) (by simp only []; omega)

/-- Inverse scales. -/
theorem J.iload (hJ : J A P σ0 g k σ) {off : Fin 2 → ℕ} (cc : ℕ) (hc : cc < 8) (hoff : off = ![32 * cc, 0])
    {inb : ∀ a, off a + S32x128.size a ≤ S256x128.size a} {hl} {kk : ((Rect.unit (s := S256x128) off S32x128.size inb).shape.Idx → Elt Ideal .f32) → Prog (TpuEff nD τ sig (Elt Ideal) (Λ₀ Ideal) .tc) α}
    (h : ∀ v : Vec Ideal S32x128 .f32, (∀ (a : Fin 32) (l : Fin 128), v (ix2 a l) = P.inv (32 * cc + a)) → Runs U defs₀ 𝒱₀ c bd L σ (kk v) Q) :
    Runs U defs₀ 𝒱₀ c bd L σ (Prog.lift (.load A.arg18 (Rect.unit (s := S256x128) off S32x128.size inb).toLoadRect hl) >>= kk) Q := by
  subst hoff
  refine Runs.loadw A.h18 fun v hv => h v ?_
  intro a l
  refine (hv (ix2 a l)).trans ?_
  rw [emb2, hJ.k.inv]

/-- The last rows of the block before. -/
theorem J.esload (hJ : J A P σ0 g k σ) {off : Fin 3 → ℕ} (lt : ℕ) (hlt : lt < 26) (hs : k.nes ≤ lt) (hd : k.ned ≤ lt) (hoff : off = ![lt * 136 + 128, 0, 0])
    {inb : ∀ a, off a + S8x2x128.size a ≤ S3536x2x128.size a} {hl} {kk : ((Rect.unit (s := S3536x2x128) off S8x2x128.size inb).shape.Idx → Elt Ideal .bf16) → Prog (TpuEff nD τ sig (Elt Ideal) (Λ₀ Ideal) .tc) α}
    (h : ∀ v : Vec Ideal S8x2x128 .bf16, (∀ (a : Fin 8) (b : Fin 2) (l : Fin 128), v (ix3 a b l) = P.e0 (2 * a + b) (lt * 128 + l)) → Runs U defs₀ 𝒱₀ c bd L σ (kk v) Q) :
    Runs U defs₀ 𝒱₀ c bd L σ (Prog.lift (.load A.arg10 (Rect.unit (s := S3536x2x128) off S8x2x128.size inb).toLoadRect hl) >>= kk) Q := by
  subst hoff
  refine Runs.loadw A.h10 fun v hv => h v ?_
  intro a b l
  refine (hv (ix3 a b l)).trans ?_
  rw [emb3, hJ.e3 _ _ _ (by simp only []; omega) (by simp only []; omega) (by simp only []; omega)]
  exact congrArg₂ P.e0 (by simp only []; omega) (by simp only []; omega)

/-- The last rows of the block before, second taps. -/
theorem J.bsload (hJ : J A P σ0 g k σ) {off : Fin 2 → ℕ} (lt : ℕ) (hlt : lt < 26) (hs : k.nbs ≤ lt) (hd : k.nbd ≤ lt) (hoff : off = ![lt * 264 + 256, 0])
    {inb : ∀ a, off a + S8x128.size a ≤ S6864x128.size a} {hl} {kk : ((Rect.unit (s := S6864x128) off S8x128.size inb).shape.Idx → Elt Ideal .f32) → Prog (TpuEff nD τ sig (Elt Ideal) (Λ₀ Ideal) .tc) α}
    (h : ∀ v : Vec Ideal S8x128 .f32, (∀ (a : Fin 8) (l : Fin 128), v (ix2 a l) = P.b0 a (lt * 128 + l)) → Runs U defs₀ 𝒱₀ c bd L σ (kk v) Q) :
    Runs U defs₀ 𝒱₀ c bd L σ (Prog.lift (.load A.arg11 (Rect.unit (s := S6864x128) off S8x128.size inb).toLoadRect hl) >>= kk) Q := by
  subst hoff
  refine Runs.loadw A.h11 fun v hv => h v ?_
  intro a l
  refine (hv (ix2 a l)).trans ?_
  rw [emb2, hJ.b3 _ _ (by simp only []; omega) (by simp only []; omega) (by simp only []; omega)]
  exact congrArg₂ P.b0 (by simp only []; omega) (by simp only []; omega)

/-- The block's codes. -/
theorem J.xload (hJ : J A P σ0 g k σ) {off : Fin 2 → ℕ} (lt : ℕ) (hlt : lt < 26) (hoff : off = ![0, lt * 128])
    {inb : ∀ a, off a + S256x128.size a ≤ S256x3328.size a} {hl} {kk : ((Rect.unit (s := S256x3328) off S256x128.size inb).shape.Idx → Elt Ideal .fp8e4m3) → Prog (TpuEff nD τ sig (Elt Ideal) (Λ₀ Ideal) .tc) α}
    (h : ∀ v : Vec Ideal S256x128 .fp8e4m3, (∀ (a : Fin 256) (l : Fin 128), v (ix2 a l) = P.x a (lt * 128 + l)) → Runs U defs₀ 𝒱₀ c bd L σ (kk v) Q) :
    Runs U defs₀ 𝒱₀ c bd L σ (Prog.lift (.load A.arg2 (Rect.unit (s := S256x3328) off S256x128.size inb).toLoadRect hl) >>= kk) Q := by
  subst hoff
  refine Runs.loadw A.h2 fun v hv => h v ?_
  intro a l
  refine (hv (ix2 a l)).trans ?_
  rw [emb2, hJ.k.x]
  exact congrArg₂ P.x (by simp only []; omega) (by simp only []; try omega)

/-- The block's scales. -/
theorem J.sload (hJ : J A P σ0 g k σ) {off : Fin 3 → ℕ}  (hoff : off = ![0, 0, 0])
    {inb : ∀ a, off a + S128x2x128.size a ≤ S128x2x128.size a} {hl} {kk : ((Rect.unit (s := S128x2x128) off S128x2x128.size inb).shape.Idx → Elt Ideal .bf16) → Prog (TpuEff nD τ sig (Elt Ideal) (Λ₀ Ideal) .tc) α}
    (h : ∀ v : Vec Ideal S128x2x128 .bf16, (∀ (a : Fin 128) (b : Fin 2) (l : Fin 128), v (ix3 a b l) = P.sc (2 * a + b)) → Runs U defs₀ 𝒱₀ c bd L σ (kk v) Q) :
    Runs U defs₀ 𝒱₀ c bd L σ (Prog.lift (.load A.arg17 (Rect.unit (s := S128x2x128) off S128x2x128.size inb).toLoadRect hl) >>= kk) Q := by
  subst hoff
  refine Runs.loadw A.h17 fun v hv => h v ?_
  intro a b l
  refine (hv (ix3 a b l)).trans ?_
  rw [emb3, hJ.k.sc]
  exact congrArg P.sc (by simp only []; omega)

/-- The rows two earlier. -/
theorem J.x2load (hJ : J A P σ0 g k σ) {off : Fin 3 → ℕ} (lt : ℕ) (hlt : lt < 26) (hd : lt < k.ned) (hoff : off = ![lt * 136 + 7, 0, 0])
    {inb : ∀ a, off a + S128x2x128.size a ≤ S3536x2x128.size a} {hl} {kk : ((Rect.unit (s := S3536x2x128) off S128x2x128.size inb).shape.Idx → Elt Ideal .bf16) → Prog (TpuEff nD τ sig (Elt Ideal) (Λ₀ Ideal) .tc) α}
    (h : ∀ v : Vec Ideal S128x2x128 .bf16, (∀ (a : Fin 128) (b : Fin 2) (l : Fin 128), v (ix3 a b l) = P.ex (14 + (2 * a + b)) (lt * 128 + l)) → Runs U defs₀ 𝒱₀ c bd L σ (kk v) Q) :
    Runs U defs₀ 𝒱₀ c bd L σ (Prog.lift (.load A.arg10 (Rect.unit (s := S3536x2x128) off S128x2x128.size inb).toLoadRect hl) >>= kk) Q := by
  subst hoff
  refine Runs.loadw A.h10 fun v hv => h v ?_
  intro a b l
  refine (hv (ix3 a b l)).trans ?_
  rw [emb3, hJ.e1 _ _ _ (by simp only []; omega)]
  exact congrArg₂ P.ex (by simp only []; omega) (by simp only []; omega)

/-- The filter's matrix. -/
theorem J.rload (hJ : J A P σ0 g k σ) {off : Fin 3 → ℕ} (lt : ℕ) (hlt : lt < 26) (hoff : off = ![lt, 0, 0])
    {inb : ∀ a, off a + S1x256x256.size a ≤ S26x256x256.size a} {hl} {kk : ((Rect.unit (s := S26x256x256) off S1x256x256.size inb).shape.Idx → Elt Ideal .bf16) → Prog (TpuEff nD τ sig (Elt Ideal) (Λ₀ Ideal) .tc) α}
    (h : ∀ v : Vec Ideal S1x256x256 .bf16, (∀ (p n : Fin 256), v (ix3 0 p n) = if p.val % 128 = n.val % 128 then P.w (3 - 2 * (p.val / 128) - n.val / 128) (lt * 128 + n.val % 128) else 0) → Runs U defs₀ 𝒱₀ c bd L σ (kk v) Q) :
    Runs U defs₀ 𝒱₀ c bd L σ (Prog.lift (.load A.arg14 (Rect.unit (s := S26x256x256) off S1x256x256.size inb).toLoadRect hl) >>= kk) Q := by
  subst hoff
  refine Runs.loadw A.h14 fun v hv => h v ?_
  intro p n
  refine (hv (ix3 (0 : Fin 1) p n)).trans ?_
  rw [emb3, hJ.k.rhs]
  simp only [Fin.val_zero, Nat.zero_add, Nat.add_zero, Nat.reduceAdd]

/-- The second taps one row earlier. -/
theorem J.bload (hJ : J A P σ0 g k σ) {off : Fin 2 → ℕ} (lt cc : ℕ) (hlt : lt < 26) (hc : cc < 8) (hd : lt < k.nbd) (hoff : off = ![lt * 264 + 7 + 32 * cc, 0])
    {inb : ∀ a, off a + S32x128.size a ≤ S6864x128.size a} {hl} {kk : ((Rect.unit (s := S6864x128) off S32x128.size inb).shape.Idx → Elt Ideal .f32) → Prog (TpuEff nD τ sig (Elt Ideal) (Λ₀ Ideal) .tc) α}
    (h : ∀ v : Vec Ideal S32x128 .f32, (∀ (a : Fin 32) (l : Fin 128), v (ix2 a l) = P.bx (7 + 32 * cc + a) (lt * 128 + l)) → Runs U defs₀ 𝒱₀ c bd L σ (kk v) Q) :
    Runs U defs₀ 𝒱₀ c bd L σ (Prog.lift (.load A.arg11 (Rect.unit (s := S6864x128) off S32x128.size inb).toLoadRect hl) >>= kk) Q := by
  subst hoff
  refine Runs.loadw A.h11 fun v hv => h v ?_
  intro a l
  refine (hv (ix2 a l)).trans ?_
  rw [emb2, hJ.b1 _ _ (by simp only []; omega)]
  exact congrArg₂ P.bx (by simp only []; omega) (by simp only []; omega)

/-- The bias. -/
theorem J.cload (hJ : J A P σ0 g k σ) {off : Fin 3 → ℕ} (lt : ℕ) (hlt : lt < 26) (hoff : off = ![lt, 0, 0])
    {inb : ∀ a, off a + S1x8x128.size a ≤ S26x8x128.size a} {hl} {kk : ((Rect.unit (s := S26x8x128) off S1x8x128.size inb).shape.Idx → Elt Ideal .f32) → Prog (TpuEff nD τ sig (Elt Ideal) (Λ₀ Ideal) .tc) α}
    (h : ∀ v : Vec Ideal S1x8x128 .f32, (∀ (s : Fin 8) (l : Fin 128), v (ix3 0 s l) = P.bias (lt * 128 + l)) → Runs U defs₀ 𝒱₀ c bd L σ (kk v) Q) :
    Runs U defs₀ 𝒱₀ c bd L σ (Prog.lift (.load A.arg15 (Rect.unit (s := S26x8x128) off S1x8x128.size inb).toLoadRect hl) >>= kk) Q := by
  subst hoff
  refine Runs.loadw A.h15 fun v hv => h v ?_
  intro s l
  refine (hv (ix3 (0 : Fin 1) s l)).trans ?_
  rw [emb3, hJ.k.bias]
  simp only [Fin.val_zero, Nat.zero_add, Nat.add_zero]

/-- The greatest outputs so far. -/
theorem J.mload (hJ : J A P σ0 g k σ) {off : Fin 2 → ℕ} (cc : ℕ) (hc : cc < 8) (hm : k.nm ≤ cc) (hoff : off = ![32 * cc, 0])
    {inb : ∀ a, off a + S32x128.size a ≤ S256x128.size a} {hl} {kk : ((Rect.unit (s := S256x128) off S32x128.size inb).shape.Idx → Elt Ideal .f32) → Prog (TpuEff nD τ sig (Elt Ideal) (Λ₀ Ideal) .tc) α}
    (h : ∀ v : Vec Ideal S32x128 .f32, (∀ (a : Fin 32) (l : Fin 128), v (ix2 a l) = P.mx (32 * cc + a) l (2 * g)) → Runs U defs₀ 𝒱₀ c bd L σ (kk v) Q) :
    Runs U defs₀ 𝒱₀ c bd L σ (Prog.lift (.load A.arg13 (Rect.unit (s := S256x128) off S32x128.size inb).toLoadRect hl) >>= kk) Q := by
  subst hoff
  refine Runs.loadw A.h13 fun v hv => h v ?_
  intro a l
  refine (hv (ix2 a l)).trans ?_
  rw [emb2, hJ.m, if_neg (by simp only []; omega)]
  exact congrFun (congrArg₂ P.mx (by simp only []) (by simp only []; omega)) _

/-- A chunk of quantised outputs is stored. -/
theorem J.ystore (hJ : J A P σ0 g k σ) {off : Fin 2 → ℕ} (lt cc : ℕ) (hlt : lt < 26) (hc : cc < 8) (hn : k.ny = lt * 8 + cc) {v w : FVec Ideal S32x128 .f32} (hv : ∀ (a : Fin 32) (l : Fin 128), v (ix2 a l) = P.z0 (32 * cc + a) (lt * 128 + l)) (hi : ∀ (a : Fin 32) (l : Fin 128), w (ix2 a l) = P.inv (32 * cc + a)) (hoff : off = ![32 * cc, lt * 128])
    (k' : Cnt) (hk : k' = { k with ny := lt * 8 + cc + 1 })
    {inb : ∀ a, off a + S32x128.size a ≤ S256x3328.size a} {hx hu} {kk : PUnit → Prog (TpuEff nD τ sig (Elt Ideal) (Λ₀ Ideal) .tc) α}
    (h : ∀ σ', J A P σ0 g k' σ' → Runs U defs₀ 𝒱₀ c bd L σ' (kk ⟨⟩) Q) :
    Runs U defs₀ 𝒱₀ c bd L σ (Prog.lift (.store A.arg6 (Rect.unit (s := S256x3328) off S32x128.size inb) (encV v w : Vec Ideal S32x128 .fp8e4m3) Finset.univ hx hu) >>= kk) Q := by
  subst hoff hk
  refine Runs.storew A.h6 fun σ' hf hw => h σ' ?_
  have hfr := fr_step (A := A) (.inl rfl) hf
  have q10 : rd A.arg10 σ' = rd A.arg10 σ := rd_congr _ (hf _ (A.inj.ne (a₁ := 9) (a₂ := 5) (by decide)))
  have q11 : rd A.arg11 σ' = rd A.arg11 σ := rd_congr _ (hf _ (A.inj.ne (a₁ := 10) (a₂ := 5) (by decide)))
  have q12 : rd A.arg12 σ' = rd A.arg12 σ := rd_congr _ (hf _ (A.inj.ne (a₁ := 11) (a₂ := 5) (by decide)))
  have q13 : rd A.arg13 σ' = rd A.arg13 σ := rd_congr _ (hf _ (A.inj.ne (a₁ := 12) (a₂ := 5) (by decide)))
  refine ⟨?_, by rw [q12]; exact hJ.z, by rw [q10]; exact hJ.e1, by rw [q10]; exact hJ.e2, by rw [q10]; exact hJ.e3, by rw [q11]; exact hJ.b1, by rw [q11]; exact hJ.b2, by rw [q11]; exact hJ.b3, by rw [q13]; exact hJ.m, hJ.k.congr hfr, fun b h6 h10 h11 h12 h13 => (hfr b h6 h10 h11 h12 h13).trans (hJ.fr b h6 h10 h11 h12 h13)⟩
  · intro a b hn'
    simp only [] at hn'
    rw [hw, put2]
    split
    · rename_i hh
      rw [encV_apply, hv, hi]
      exact congrArg₂ encE (congrArg₂ P.z0 (by simp only []; omega) (by simp only []; omega)) (congrArg P.inv (by simp only []; omega))
    · rename_i hh
      exact hJ.y a b (by omega)

/-- The last rows of the block before are moved to the front. -/
theorem J.esstore (hJ : J A P σ0 g k σ) {off : Fin 3 → ℕ} (lt : ℕ) (hlt : lt < 26) (hs : k.nes = lt) (hd : k.ned = lt) {v : FVec Ideal S8x2x128 .bf16} (hv : ∀ (a : Fin 8) (b : Fin 2) (l : Fin 128), v (ix3 a b l) = P.e0 (2 * a + b) (lt * 128 + l)) (hoff : off = ![lt * 136, 0, 0])
    (k' : Cnt) (hk : k' = { k with nes := lt + 1 })
    {inb : ∀ a, off a + S8x2x128.size a ≤ S3536x2x128.size a} {hx hu} {kk : PUnit → Prog (TpuEff nD τ sig (Elt Ideal) (Λ₀ Ideal) .tc) α}
    (h : ∀ σ', J A P σ0 g k' σ' → Runs U defs₀ 𝒱₀ c bd L σ' (kk ⟨⟩) Q) :
    Runs U defs₀ 𝒱₀ c bd L σ (Prog.lift (.store A.arg10 (Rect.unit (s := S3536x2x128) off S8x2x128.size inb) (repack8 v : Vec Ideal S8x2x128 .bf16) Finset.univ hx hu) >>= kk) Q := by
  subst hoff hk
  refine Runs.storew A.h10 fun σ' hf hw => h σ' ?_
  have hfr := fr_step (A := A) (.inr (.inl rfl)) hf
  have q6 : rd A.arg6 σ' = rd A.arg6 σ := rd_congr _ (hf _ (A.inj.ne (a₁ := 5) (a₂ := 9) (by decide)))
  have q11 : rd A.arg11 σ' = rd A.arg11 σ := rd_congr _ (hf _ (A.inj.ne (a₁ := 10) (a₂ := 9) (by decide)))
  have q12 : rd A.arg12 σ' = rd A.arg12 σ := rd_congr _ (hf _ (A.inj.ne (a₁ := 11) (a₂ := 9) (by decide)))
  have q13 : rd A.arg13 σ' = rd A.arg13 σ := rd_congr _ (hf _ (A.inj.ne (a₁ := 12) (a₂ := 9) (by decide)))
  refine ⟨by rw [q6]; exact hJ.y, by rw [q12]; exact hJ.z, ?_, ?_, ?_, by rw [q11]; exact hJ.b1, by rw [q11]; exact hJ.b2, by rw [q11]; exact hJ.b3, by rw [q13]; exact hJ.m, hJ.k.congr hfr, fun b h6 h10 h11 h12 h13 => (hfr b h6 h10 h11 h12 h13).trans (hJ.fr b h6 h10 h11 h12 h13)⟩
  · intro a b l hn
    simp only [] at hn
    rw [hw, put3, dif_neg (by omega)]
    exact hJ.e1 a b l hn
  · intro a b l hn hn'
    simp only [] at hn
    rw [hw, put3]
    split
    · rename_i hh
      rw [repack8_apply, hv, Par.ex, if_pos (by omega)]
      exact congrArg₂ P.e0 (by simp only []; omega) (by simp only []; omega)
    · rename_i hh
      exact hJ.e2 a b l (by omega) hn'
  · intro a b l hn hn' hn''
    simp only [] at hn hn'
    rw [hw, put3, dif_neg (by omega)]
    exact hJ.e3 a b l (by omega) (by omega) hn''

/-- The same for the second taps. -/
theorem J.bsstore (hJ : J A P σ0 g k σ) {off : Fin 2 → ℕ} (lt : ℕ) (hlt : lt < 26) (hs : k.nbs = lt) (hd : k.nbd = lt) {v : FVec Ideal S8x128 .f32} (hv : ∀ (a : Fin 8) (l : Fin 128), v (ix2 a l) = P.b0 a (lt * 128 + l)) (hoff : off = ![lt * 264, 0])
    (k' : Cnt) (hk : k' = { k with nbs := lt + 1 })
    {inb : ∀ a, off a + S8x128.size a ≤ S6864x128.size a} {hx hu} {kk : PUnit → Prog (TpuEff nD τ sig (Elt Ideal) (Λ₀ Ideal) .tc) α}
    (h : ∀ σ', J A P σ0 g k' σ' → Runs U defs₀ 𝒱₀ c bd L σ' (kk ⟨⟩) Q) :
    Runs U defs₀ 𝒱₀ c bd L σ (Prog.lift (.store A.arg11 (Rect.unit (s := S6864x128) off S8x128.size inb) (shapeCast S8x128 v shapeCasts_S8x128_S8x128 : Vec Ideal S8x128 .f32) Finset.univ hx hu) >>= kk) Q := by
  subst hoff hk
  refine Runs.storew A.h11 fun σ' hf hw => h σ' ?_
  have hfr := fr_step (A := A) (.inr (.inr (.inl rfl))) hf
  have q6 : rd A.arg6 σ' = rd A.arg6 σ := rd_congr _ (hf _ (A.inj.ne (a₁ := 5) (a₂ := 10) (by decide)))
  have q10 : rd A.arg10 σ' = rd A.arg10 σ := rd_congr _ (hf _ (A.inj.ne (a₁ := 9) (a₂ := 10) (by decide)))
  have q12 : rd A.arg12 σ' = rd A.arg12 σ := rd_congr _ (hf _ (A.inj.ne (a₁ := 11) (a₂ := 10) (by decide)))
  have q13 : rd A.arg13 σ' = rd A.arg13 σ := rd_congr _ (hf _ (A.inj.ne (a₁ := 12) (a₂ := 10) (by decide)))
  refine ⟨by rw [q6]; exact hJ.y, by rw [q12]; exact hJ.z, by rw [q10]; exact hJ.e1, by rw [q10]; exact hJ.e2, by rw [q10]; exact hJ.e3, ?_, ?_, ?_, by rw [q13]; exact hJ.m, hJ.k.congr hfr, fun b h6 h10 h11 h12 h13 => (hfr b h6 h10 h11 h12 h13).trans (hJ.fr b h6 h10 h11 h12 h13)⟩
  · intro a l hn
    simp only [] at hn
    rw [hw, put2, dif_neg (by omega)]
    exact hJ.b1 a l hn
  · intro a l hn hn'
    simp only [] at hn
    rw [hw, put2]
    split
    · rename_i hh
      rw [shapeCast_id, hv, Par.bx, if_pos (by omega)]
      exact congrArg₂ P.b0 (by simp only []; omega) (by simp only []; omega)
    · rename_i hh
      exact hJ.b2 a l (by omega) hn'
  · intro a l hn hn' hn''
    simp only [] at hn hn'
    rw [hw, put2, dif_neg (by omega)]
    exact hJ.b3 a l (by omega) (by omega) hn''

/-- The block's dequantised rows are stored. -/
theorem J.edstore (hJ : J A P σ0 g k σ) {off : Fin 3 → ℕ} (lt : ℕ) (hlt : lt < 26) (hs : k.nes = lt + 1) (hd : k.ned = lt) {v : FVec Ideal S256x128 .bf16} (hv : ∀ (a : Fin 256) (l : Fin 128), v (ix2 a l) = P.ex (a + 16) (lt * 128 + l)) (hoff : off = ![lt * 136 + 8, 0, 0])
    (k' : Cnt) (hk : k' = { k with ned := lt + 1 })
    {inb : ∀ a, off a + S128x2x128.size a ≤ S3536x2x128.size a} {hx hu} {kk : PUnit → Prog (TpuEff nD τ sig (Elt Ideal) (Λ₀ Ideal) .tc) α}
    (h : ∀ σ', J A P σ0 g k' σ' → Runs U defs₀ 𝒱₀ c bd L σ' (kk ⟨⟩) Q) :
    Runs U defs₀ 𝒱₀ c bd L σ (Prog.lift (.store A.arg10 (Rect.unit (s := S3536x2x128) off S128x2x128.size inb) (pack v : Vec Ideal S128x2x128 .bf16) Finset.univ hx hu) >>= kk) Q := by
  subst hoff hk
  refine Runs.storew A.h10 fun σ' hf hw => h σ' ?_
  have hfr := fr_step (A := A) (.inr (.inl rfl)) hf
  have q6 : rd A.arg6 σ' = rd A.arg6 σ := rd_congr _ (hf _ (A.inj.ne (a₁ := 5) (a₂ := 9) (by decide)))
  have q11 : rd A.arg11 σ' = rd A.arg11 σ := rd_congr _ (hf _ (A.inj.ne (a₁ := 10) (a₂ := 9) (by decide)))
  have q12 : rd A.arg12 σ' = rd A.arg12 σ := rd_congr _ (hf _ (A.inj.ne (a₁ := 11) (a₂ := 9) (by decide)))
  have q13 : rd A.arg13 σ' = rd A.arg13 σ := rd_congr _ (hf _ (A.inj.ne (a₁ := 12) (a₂ := 9) (by decide)))
  refine ⟨by rw [q6]; exact hJ.y, by rw [q12]; exact hJ.z, ?_, ?_, ?_, by rw [q11]; exact hJ.b1, by rw [q11]; exact hJ.b2, by rw [q11]; exact hJ.b3, by rw [q13]; exact hJ.m, hJ.k.congr hfr, fun b h6 h10 h11 h12 h13 => (hfr b h6 h10 h11 h12 h13).trans (hJ.fr b h6 h10 h11 h12 h13)⟩
  · intro a b l hn
    simp only [] at hn
    rw [hw, put3]
    split
    · rename_i hh
      rw [pack_apply, hv]
      exact congrArg₂ P.ex (by simp only []; omega) (by simp only []; omega)
    · rename_i hh
      rcases Nat.lt_or_ge (a.val / 136) lt with h1 | h1
      · exact hJ.e1 a b l (by omega)
      · exact hJ.e2 a b l (by omega) (by omega)
  · intro a b l hn hn'
    simp only [] at hn
    rw [hw, put3, dif_neg (by omega)]
    exact hJ.e2 a b l (by omega) hn'
  · intro a b l hn hn' hn''
    simp only [] at hn hn'
    rw [hw, put3, dif_neg (by omega)]
    exact hJ.e3 a b l (by omega) (by omega) hn''

/-- The block's second taps are stored. -/
theorem J.bdstore (hJ : J A P σ0 g k σ) {off : Fin 2 → ℕ} (lt : ℕ) (hlt : lt < 26) (hs : k.nbs = lt + 1) (hd : k.nbd = lt) {ab : FVec Ideal S256x256 .f32} (hv : ∀ (a : Fin 256) (l : Fin 128), ab (ix2 a ⟨128 + l.val, by omega⟩) = P.bf a (lt * 128 + l)) (hoff : off = ![lt * 264 + 8, 0])
    (k' : Cnt) (hk : k' = { k with nbd := lt + 1 })
    {inb : ∀ a, off a + S256x128.size a ≤ S6864x128.size a} {hx hu} {kk : PUnit → Prog (TpuEff nD τ sig (Elt Ideal) (Λ₀ Ideal) .tc) α}
    (h : ∀ σ', J A P σ0 g k' σ' → Runs U defs₀ 𝒱₀ c bd L σ' (kk ⟨⟩) Q) :
    Runs U defs₀ 𝒱₀ c bd L σ (Prog.lift (.store A.arg11 (Rect.unit (s := S6864x128) off S256x128.size inb) (bV ab : Vec Ideal S256x128 .f32) Finset.univ hx hu) >>= kk) Q := by
  subst hoff hk
  refine Runs.storew A.h11 fun σ' hf hw => h σ' ?_
  have hfr := fr_step (A := A) (.inr (.inr (.inl rfl))) hf
  have q6 : rd A.arg6 σ' = rd A.arg6 σ := rd_congr _ (hf _ (A.inj.ne (a₁ := 5) (a₂ := 10) (by decide)))
  have q10 : rd A.arg10 σ' = rd A.arg10 σ := rd_congr _ (hf _ (A.inj.ne (a₁ := 9) (a₂ := 10) (by decide)))
  have q12 : rd A.arg12 σ' = rd A.arg12 σ := rd_congr _ (hf _ (A.inj.ne (a₁ := 11) (a₂ := 10) (by decide)))
  have q13 : rd A.arg13 σ' = rd A.arg13 σ := rd_congr _ (hf _ (A.inj.ne (a₁ := 12) (a₂ := 10) (by decide)))
  refine ⟨by rw [q6]; exact hJ.y, by rw [q12]; exact hJ.z, by rw [q10]; exact hJ.e1, by rw [q10]; exact hJ.e2, by rw [q10]; exact hJ.e3, ?_, ?_, ?_, by rw [q13]; exact hJ.m, hJ.k.congr hfr, fun b h6 h10 h11 h12 h13 => (hfr b h6 h10 h11 h12 h13).trans (hJ.fr b h6 h10 h11 h12 h13)⟩
  · intro a l hn
    simp only [] at hn
    rw [hw, put2]
    split
    · rename_i hh
      rw [bV_apply, hv, Par.bx, if_neg (by omega)]
      exact congrArg₂ P.bf (by simp only []; omega) (by simp only []; omega)
    · rename_i hh
      rcases Nat.lt_or_ge (a.val / 264) lt with h1 | h1
      · exact hJ.b1 a l (by omega)
      · exact hJ.b2 a l (by omega) (by omega)
  · intro a l hn hn'
    simp only [] at hn
    rw [hw, put2, dif_neg (by omega)]
    exact hJ.b2 a l (by omega) hn'
  · intro a l hn hn' hn''
    simp only [] at hn hn'
    rw [hw, put2, dif_neg (by omega)]
    exact hJ.b3 a l (by omega) (by omega) hn''

/-- A chunk of new outputs is stored. -/
theorem J.zstore0 (hJ : J A P σ0 g k σ) {off : Fin 2 → ℕ} (cc : ℕ) (hg : g < 13) (hc : cc < 8) (hn : k.n0 = cc) {v : FVec Ideal S32x128 .f32} (hv : ∀ (a : Fin 32) (l : Fin 128), v (ix2 a l) = P.zn (32 * cc + a) ((2 * g + 0) * 128 + l)) (hoff : off = ![(2 * g + 0) * 256 + 32 * cc, 0])
    (k' : Cnt) (hk : k' = { k with n0 := cc + 1 })
    {inb : ∀ a, off a + S32x128.size a ≤ S6656x128.size a} {hx hu} {kk : PUnit → Prog (TpuEff nD τ sig (Elt Ideal) (Λ₀ Ideal) .tc) α}
    (h : ∀ σ', J A P σ0 g k' σ' → Runs U defs₀ 𝒱₀ c bd L σ' (kk ⟨⟩) Q) :
    Runs U defs₀ 𝒱₀ c bd L σ (Prog.lift (.store A.arg12 (Rect.unit (s := S6656x128) off S32x128.size inb) (shapeCast S32x128 v shapeCasts_S32x128_S32x128 : Vec Ideal S32x128 .f32) Finset.univ hx hu) >>= kk) Q := by
  subst hoff hk
  refine Runs.storew A.h12 fun σ' hf hw => h σ' ?_
  have hfr := fr_step (A := A) (.inr (.inr (.inr (.inl rfl)))) hf
  have q6 : rd A.arg6 σ' = rd A.arg6 σ := rd_congr _ (hf _ (A.inj.ne (a₁ := 5) (a₂ := 11) (by decide)))
  have q10 : rd A.arg10 σ' = rd A.arg10 σ := rd_congr _ (hf _ (A.inj.ne (a₁ := 9) (a₂ := 11) (by decide)))
  have q11 : rd A.arg11 σ' = rd A.arg11 σ := rd_congr _ (hf _ (A.inj.ne (a₁ := 10) (a₂ := 11) (by decide)))
  have q13 : rd A.arg13 σ' = rd A.arg13 σ := rd_congr _ (hf _ (A.inj.ne (a₁ := 12) (a₂ := 11) (by decide)))
  refine ⟨by rw [q6]; exact hJ.y, ?_, by rw [q10]; exact hJ.e1, by rw [q10]; exact hJ.e2, by rw [q10]; exact hJ.e3, by rw [q11]; exact hJ.b1, by rw [q11]; exact hJ.b2, by rw [q11]; exact hJ.b3, by rw [q13]; exact hJ.m, hJ.k.congr hfr, fun b h6 h10 h11 h12 h13 => (hfr b h6 h10 h11 h12 h13).trans (hJ.fr b h6 h10 h11 h12 h13)⟩
  · intro a l
    rw [hw, put2]
    split
    · rename_i hh
      rw [shapeCast_id, hv, if_pos (by simp only []; omega)]
      exact congrArg₂ P.zn (by simp only []; omega) (by simp only []; omega)
    · rename_i hh
      rw [hJ.z]
      refine if_congr ?_ rfl rfl
      simp only []
      omega

/-- A chunk of new outputs is stored. -/
theorem J.zstore1 (hJ : J A P σ0 g k σ) {off : Fin 2 → ℕ} (cc : ℕ) (hg : g < 13) (hc : cc < 8) (hn : k.n1 = cc) {v : FVec Ideal S32x128 .f32} (hv : ∀ (a : Fin 32) (l : Fin 128), v (ix2 a l) = P.zn (32 * cc + a) ((2 * g + 1) * 128 + l)) (hoff : off = ![(2 * g + 1) * 256 + 32 * cc, 0])
    (k' : Cnt) (hk : k' = { k with n1 := cc + 1 })
    {inb : ∀ a, off a + S32x128.size a ≤ S6656x128.size a} {hx hu} {kk : PUnit → Prog (TpuEff nD τ sig (Elt Ideal) (Λ₀ Ideal) .tc) α}
    (h : ∀ σ', J A P σ0 g k' σ' → Runs U defs₀ 𝒱₀ c bd L σ' (kk ⟨⟩) Q) :
    Runs U defs₀ 𝒱₀ c bd L σ (Prog.lift (.store A.arg12 (Rect.unit (s := S6656x128) off S32x128.size inb) (shapeCast S32x128 v shapeCasts_S32x128_S32x128 : Vec Ideal S32x128 .f32) Finset.univ hx hu) >>= kk) Q := by
  subst hoff hk
  refine Runs.storew A.h12 fun σ' hf hw => h σ' ?_
  have hfr := fr_step (A := A) (.inr (.inr (.inr (.inl rfl)))) hf
  have q6 : rd A.arg6 σ' = rd A.arg6 σ := rd_congr _ (hf _ (A.inj.ne (a₁ := 5) (a₂ := 11) (by decide)))
  have q10 : rd A.arg10 σ' = rd A.arg10 σ := rd_congr _ (hf _ (A.inj.ne (a₁ := 9) (a₂ := 11) (by decide)))
  have q11 : rd A.arg11 σ' = rd A.arg11 σ := rd_congr _ (hf _ (A.inj.ne (a₁ := 10) (a₂ := 11) (by decide)))
  have q13 : rd A.arg13 σ' = rd A.arg13 σ := rd_congr _ (hf _ (A.inj.ne (a₁ := 12) (a₂ := 11) (by decide)))
  refine ⟨by rw [q6]; exact hJ.y, ?_, by rw [q10]; exact hJ.e1, by rw [q10]; exact hJ.e2, by rw [q10]; exact hJ.e3, by rw [q11]; exact hJ.b1, by rw [q11]; exact hJ.b2, by rw [q11]; exact hJ.b3, by rw [q13]; exact hJ.m, hJ.k.congr hfr, fun b h6 h10 h11 h12 h13 => (hfr b h6 h10 h11 h12 h13).trans (hJ.fr b h6 h10 h11 h12 h13)⟩
  · intro a l
    rw [hw, put2]
    split
    · rename_i hh
      rw [shapeCast_id, hv, if_pos (by simp only []; omega)]
      exact congrArg₂ P.zn (by simp only []; omega) (by simp only []; omega)
    · rename_i hh
      rw [hJ.z]
      refine if_congr ?_ rfl rfl
      simp only []
      omega

/-- A chunk of maxima is stored. -/
theorem J.mstore (hJ : J A P σ0 g k σ) {off : Fin 2 → ℕ} (cc : ℕ) (hg : g < 13) (hc : cc < 8) (hn : k.nm = cc) {v z z' : FVec Ideal S32x128 .f32} (hv : ∀ (a : Fin 32) (l : Fin 128), v (ix2 a l) = P.mx (32 * cc + a) l (2 * g)) (hz : ∀ (a : Fin 32) (l : Fin 128), z (ix2 a l) = P.zn (32 * cc + a) ((2 * g + 0) * 128 + l)) (hz' : ∀ (a : Fin 32) (l : Fin 128), z' (ix2 a l) = P.zn (32 * cc + a) ((2 * g + 1) * 128 + l)) (hoff : off = ![32 * cc, 0])
    (k' : Cnt) (hk : k' = { k with nm := cc + 1 })
    {inb : ∀ a, off a + S32x128.size a ≤ S256x128.size a} {hx hu} {kk : PUnit → Prog (TpuEff nD τ sig (Elt Ideal) (Λ₀ Ideal) .tc) α}
    (h : ∀ σ', J A P σ0 g k' σ' → Runs U defs₀ 𝒱₀ c bd L σ' (kk ⟨⟩) Q) :
    Runs U defs₀ 𝒱₀ c bd L σ (Prog.lift (.store A.arg13 (Rect.unit (s := S256x128) off S32x128.size inb) (shapeCast S32x128 (maximumf (maximumf v z) z') shapeCasts_S32x128_S32x128 : Vec Ideal S32x128 .f32) Finset.univ hx hu) >>= kk) Q := by
  subst hoff hk
  refine Runs.storew A.h13 fun σ' hf hw => h σ' ?_
  have hfr := fr_step (A := A) (.inr (.inr (.inr (.inr rfl)))) hf
  have q6 : rd A.arg6 σ' = rd A.arg6 σ := rd_congr _ (hf _ (A.inj.ne (a₁ := 5) (a₂ := 12) (by decide)))
  have q10 : rd A.arg10 σ' = rd A.arg10 σ := rd_congr _ (hf _ (A.inj.ne (a₁ := 9) (a₂ := 12) (by decide)))
  have q11 : rd A.arg11 σ' = rd A.arg11 σ := rd_congr _ (hf _ (A.inj.ne (a₁ := 10) (a₂ := 12) (by decide)))
  have q12 : rd A.arg12 σ' = rd A.arg12 σ := rd_congr _ (hf _ (A.inj.ne (a₁ := 11) (a₂ := 12) (by decide)))
  refine ⟨by rw [q6]; exact hJ.y, by rw [q12]; exact hJ.z, by rw [q10]; exact hJ.e1, by rw [q10]; exact hJ.e2, by rw [q10]; exact hJ.e3, by rw [q11]; exact hJ.b1, by rw [q11]; exact hJ.b2, by rw [q11]; exact hJ.b3, ?_, hJ.k.congr hfr, fun b h6 h10 h11 h12 h13 => (hfr b h6 h10 h11 h12 h13).trans (hJ.fr b h6 h10 h11 h12 h13)⟩
  · intro a l
    rw [hw, put2]
    split
    · rename_i hh
      rw [if_pos (by simp only []; omega)]
      rw [shapeCast_id]
      show max (max (v _) (z _)) (z' _) = _
      rw [hv, hz, hz']
      have e1 : 32 * cc + (a.val - 32 * cc) = a.val := by omega
      have e2 : l.val - 0 = l.val := by omega
      simp only [e1, e2]
      rfl
    · rename_i hh
      rw [hJ.m]
      refine congrArg _ (if_congr ?_ rfl rfl)
      simp only []
      omega

end Cert.Proof.KernelIdeal
-- ==== Proof.KernelIdeal.Trip.lean ====
/-
  One trip of the tile loop.
-/
module

public import proofs.«01_k».proof.Proof.KernelIdeal.Steps

@[expose] public section

noncomputable section

namespace Cert.Proof.KernelIdeal

open Cert.KernelIdeal Cert.KernelIdeal.Gen Cert.Proof.Hoare

open Idealize.ShloMosaic Idealize.SL.Sem Idealize.SL.RA

variable {U : Type} [URA U] {c : Dev nD} {bd : Option 𝒱₀.V} {L : Finset (Ref sig .tc)} {σ : St sig (Elt Ideal)}
variable {P : Par} {σ0 : St sig (Elt Ideal)}

/-- The body of the tile loop. -/
def tileBody (A : Bufs L) (i : grid0.Coords) (k0_t6 : Fin k0_t6_loop.trips) : Prog (TpuEff nD τ sig (Elt Ideal) (Λ₀ Ideal) .tc) PUnit := do
    let ⟨v72, v73, v75, v105⟩ : Σ' (v72 : BitVec 32) (v73 : BitVec 32) (v75 : BitVec 32), FVec Ideal S32x128 .fp8e4m3 ← k0_part55 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 0#32 1#32 k0_t6
    k0_part56 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 k0_t6 v72 v75 v105
    let ⟨v180, cst_78, cst_79⟩ : Σ' (v180 : FVec Ideal S32x128 .f32) (cst_78 : Ideal .f32), Ideal .f32 ← k0_part57 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 k0_t6 v72 v75
    let ⟨v206, v209, v216_lo, v216_hi⟩ : Σ' (v206 : BitVec 32) (v209 : BitVec 32) (v216_lo : FVec Ideal S8x128 .bf16), FVec Ideal S8x128 .bf16 ← k0_part58 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 k0_t6 v72 v75 v180 cst_78 cst_79
    let ⟨v245, v246, v247⟩ : Σ' (v245 : FVec Ideal S256x256 .f32) (v246 : FVec Ideal S256x128 .f32), BitVec 32 ← k0_part59 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 k0_t6 v72 v75 v206 v209 v216_lo v216_hi
    let ⟨v253, c256_i32_124⟩ : Σ' (v253 : BitVec 32), BitVec 32 ← k0_part60 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 k0_t6 v73 v246 v247
    let v324 : FVec Ideal S32x128 .f32 ← k0_part61 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 k0_t6 v73 v253 c256_i32_124
    let v363 : FVec Ideal S32x128 .fp8e4m3 ← k0_part62 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 k0_t6 v73 v253 v324
    let ⟨v384, v387⟩ : Σ' (v384 : BitVec 32), BitVec 32 ← k0_part63 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 k0_t6 v73 v253 v363
    let ⟨v423, v429⟩ : Σ' (v423 : FVec Ideal S256x256 .f32), FVec Ideal S256x128 .f32 ← k0_part64 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 k0_t6 v73 v253 v384 v387
    let ⟨v453, v463, v466⟩ : Σ' (v453 : FVec Ideal S32x128 .f32) (v463 : FVec Ideal S32x128 .f32), FVec Ideal S8x128 .f32 ← k0_part65 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 k0_t6 v72 v73 v245 v423 v429
    let ⟨v503, v504⟩ : Σ' (v503 : FVec Ideal S32x128 .f32), BitVec 32 ← k0_part66 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 k0_t6 v72 v73 v245 v453 v463 v466
    let ⟨v530, v540⟩ : Σ' (v530 : Vec Ideal S32x128 .f32), FVec Ideal S32x128 .f32 ← k0_part67 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 k0_t6 v72 v73 v245 v423 v503 v504
    k0_part68 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 k0_t6 v72 v73 v423 v530 v540
    let ⟨v603, v618, c256_i32_294⟩ : Σ' (v603 : FVec Ideal S32x128 .f32) (v618 : FVec Ideal S32x128 .f32), BitVec 32 ← k0_part69 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 k0_t6 v72 v73 v245 v423
    let ⟨v653, v656⟩ : Σ' (v653 : FVec Ideal S32x128 .f32), BitVec 32 ← k0_part70 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 k0_t6 v72 v73 v245 v603 v618 c256_i32_294
    let ⟨v680, v690, v693⟩ : Σ' (v680 : Vec Ideal S32x128 .f32) (v690 : FVec Ideal S32x128 .f32), FVec Ideal S8x128 .f32 ← k0_part71 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 k0_t6 v72 v73 v245 v423 v653 v656
    let ⟨v730, v731⟩ : Σ' (v730 : Vec Ideal S32x128 .f32), BitVec 32 ← k0_part72 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 k0_t6 v72 v73 v423 v680 v690 v693
    let ⟨v753, v768, v770, c192_i32_373⟩ : Σ' (v753 : FVec Ideal S32x128 .f32) (v768 : FVec Ideal S32x128 .f32) (v770 : BitVec 32), BitVec 32 ← k0_part73 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 k0_t6 v72 v73 v245 v423 v730 v731
    let ⟨v803, v807, c1_i32_393⟩ : Σ' (v803 : FVec Ideal S32x128 .f32) (v807 : BitVec 32), BitVec 32 ← k0_part74 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 k0_t6 v72 v73 v245 v753 v768 v770 c192_i32_373
    let v808 : BitVec 32 := Scalar.subi v807 c1_i32_393
    let c224_i32_394 : BitVec 32 := 224#32
    let v809 : BitVec 32 := Scalar.addi v808 c224_i32_394
    let v810 : Index := Scalar.indexCast v809
    let c0_395 : Index := 0#32
    let v811 : Vec Ideal S32x128 .f32 ← Prog.lift (.load A.arg11 (Rect.unit (s := S6864x128) (k0_off25 k0_t6 1#32 224#32) S32x128.size (k0_off25_inb k0_t6 1 7)).toLoadRect (View.loadsAt_vmem h_S32x128))
    have v812 : FVec Ideal S32x128 .f32 := extractStridedSlice S32x128 ![224, 0] v423 slices_S256x256_o224_0_S32x128
    have v813 : FVec Ideal S32x128 .f32 := addf v812 v811
    let v814 : Index := Scalar.indexCast v73
    let c0_396 : Index := 0#32
    let c0_397 : Index := 0#32
    let v815 : Vec Ideal S1x8x128 .f32 ← Prog.lift (.load A.arg15 (Rect.unit (s := S26x8x128) (k0_off26 k0_t6 1#32) S1x8x128.size (k0_off26_inb k0_t6 1)).toLoadRect (View.loadsAt_vmem h_S1x8x128))
    have v816 : FVec Ideal S8x128 .f32 := shapeCast S8x128 v815 shapeCasts_S1x8x128_S8x128
    have v817 : FVec Ideal S32x128 .f32 := concatenate S32x128 0 [⟨S8x128, v816⟩, ⟨S8x128, v816⟩, ⟨S8x128, v816⟩, ⟨S8x128, v816⟩] concatenates_S8x128_S8x128_S8x128_S8x128_S32x128_d0
    have v818 : FVec Ideal S32x128 .f32 := addf v813 v817
    let c256_i32_398 : BitVec 32 := 256#32
    let v819 : BitVec 32 := Scalar.muli v73 c256_i32_398
    let v820 : BitVec 32 := v819
    let c224_i32_399 : BitVec 32 := 224#32
    let v821 : BitVec 32 := Scalar.addi v820 c224_i32_399
    let v822 : Index := Scalar.indexCast v821
    let c0_400 : Index := 0#32
    let v823 : Vec Ideal S32x128 .f32 ← Prog.lift (.load A.arg12 (Rect.unit (s := S6656x128) (k0_off7 k0_t6 1#32 224#32) S32x128.size (k0_off7_inb k0_t6 1 7)).toLoadRect (View.loadsAt_vmem h_S32x128))
    have v824 : FVec Ideal S32x128 .f32 := shapeCast S32x128 v823 shapeCasts_S32x128_S32x128
    have v825 : FVec Ideal S32x128 .f32 := shapeCast S32x128 v818 shapeCasts_S32x128_S32x128
    Prog.lift (.store A.arg12 (Rect.unit (s := S6656x128) (k0_off7 k0_t6 1#32 224#32) S32x128.size (k0_off7_inb k0_t6 1 7)) v825 Finset.univ (View.stores_vmem_bits_univ h_S32x128 rfl) (.inl rfl))
    have v826 : FVec Ideal S32x128 .f32 := maximumf v803 v818
    let c224_401 : Index := 224#32
    let c0_402 : Index := 0#32
    let v827 : Vec Ideal S32x128 .f32 ← Prog.lift (.load A.arg13 (Rect.unit (s := S256x128) ![224, 0] S32x128.size inb_S256x128_S32x128_224_0).toLoadRect (View.loadsAt_vmem h_S32x128))
    have v828 : FVec Ideal S32x128 .f32 := shapeCast S32x128 v827 shapeCasts_S32x128_S32x128
    have v829 : FVec Ideal S32x128 .f32 := shapeCast S32x128 v826 shapeCasts_S32x128_S32x128
    Prog.lift (.store A.arg13 (Rect.unit (s := S256x128) ![224, 0] S32x128.size inb_S256x128_S32x128_224_0) v829 Finset.univ (View.stores_vmem_bits_univ h_S32x128 rfl) (.inl rfl))
    pure ⟨⟩

/-- The counts between two trips. -/
def Cnt.at (g : ℕ) : Cnt := ⟨2 * g * 8, 2 * g, 2 * g, 2 * g, 2 * g, 0, 0, 0⟩

/-- After a trip the counts are those of the next. -/
theorem J.next {A : Bufs L} {g : ℕ} (hJ : J A P σ0 g ⟨(2 * g + 1) * 8 + 7 + 1, 2 * g + 1 + 1, 2 * g + 1 + 1, 2 * g + 1 + 1, 2 * g + 1 + 1, 7 + 1, 7 + 1, 7 + 1⟩ σ) :
    J A P σ0 (g + 1) (Cnt.at (g + 1)) σ := by
  unfold Cnt.at
  refine ⟨fun a b hn => hJ.y a b (by simp only [] at hn ⊢; omega), fun a l => ?_, fun a b l hn => hJ.e1 a b l (by simp only [] at hn ⊢; omega),
    fun a b l hn => hJ.e2 a b l (by simp only [] at hn ⊢; omega), fun a b l hn hn' => hJ.e3 a b l (by simp only [] at hn ⊢; omega) (by simp only [] at hn ⊢; omega),
    fun a l hn => hJ.b1 a l (by simp only [] at hn ⊢; omega),
    fun a l hn => hJ.b2 a l (by simp only [] at hn ⊢; omega), fun a l hn hn' => hJ.b3 a l (by simp only [] at hn ⊢; omega) (by simp only [] at hn ⊢; omega),
    fun a l => ?_, hJ.k, hJ.fr⟩
  · rw [hJ.z]
    refine if_congr ?_ rfl rfl
    simp only []
    omega
  · rw [hJ.m, if_pos (by simp only []; try omega), if_neg (by simp only []; try omega)]
    rfl

theorem tile_trip (A : Bufs L) (i : grid0.Coords) (t : Fin k0_t6_loop.trips) (hJ : J A P σ0 t.val (Cnt.at t.val) σ) :
    Runs U defs₀ 𝒱₀ c bd L σ (tileBody A i t) (fun _ σ' => J A P σ0 (t.val + 1) (Cnt.at (t.val + 1)) σ') := by
  have ht : t.val < 13 := lt_of_lt_of_le t.isLt (by decide)
  unfold Cnt.at at hJ
  unfold tileBody
  refine Runs.bind' ?_
  unfold k0_part55
  refine J.zload hJ (2 * t.val + 0) 0 (by omega) (by omega) (by decide) rfl rfl (off7_0_0 t) fun v1 h1 => ?_
  refine J.iload hJ 0 (by decide) rfl fun v2 h2 => ?_
  refine Runs.loada A.h6 fun _ => ?_
  refine J.ystore hJ (2 * t.val + 0) 0 (by omega) (by decide) (by simp only []; try omega) h1 h2 (off8_0 t) ⟨(2 * t.val + 0) * 8 + 0 + 1, 2 * t.val, 2 * t.val, 2 * t.val, 2 * t.val, 0, 0, 0⟩ rfl fun σ' hJ => ?_
  refine J.zload hJ (2 * t.val + 0) 1 (by omega) (by omega) (by decide) rfl rfl (off7_0_1 t) fun v5 h5 => ?_
  refine J.iload hJ 1 (by decide) rfl fun v6 h6 => ?_
  refine Runs.ret ?_
  refine Runs.bind' ?_
  unfold k0_part56
  refine Runs.loada A.h6 fun _ => ?_
  refine J.ystore hJ (2 * t.val + 0) 1 (by omega) (by decide) (by simp only []; try omega) h5 h6 (off9_0 t) ⟨(2 * t.val + 0) * 8 + 1 + 1, 2 * t.val, 2 * t.val, 2 * t.val, 2 * t.val, 0, 0, 0⟩ rfl fun σ' hJ => ?_
  refine J.zload hJ (2 * t.val + 0) 2 (by omega) (by omega) (by decide) rfl rfl (off7_0_2 t) fun v9 h9 => ?_
  refine J.iload hJ 2 (by decide) rfl fun v10 h10 => ?_
  refine Runs.loada A.h6 fun _ => ?_
  refine J.ystore hJ (2 * t.val + 0) 2 (by omega) (by decide) (by simp only []; try omega) h9 h10 (off10_0 t) ⟨(2 * t.val + 0) * 8 + 2 + 1, 2 * t.val, 2 * t.val, 2 * t.val, 2 * t.val, 0, 0, 0⟩ rfl fun σ' hJ => ?_
  refine J.zload hJ (2 * t.val + 0) 3 (by omega) (by omega) (by decide) rfl rfl (off7_0_3 t) fun v13 h13 => ?_
  refine J.iload hJ 3 (by decide) rfl fun v14 h14 => ?_
  refine Runs.loada A.h6 fun _ => ?_
  refine J.ystore hJ (2 * t.val + 0) 3 (by omega) (by decide) (by simp only []; try omega) h13 h14 (off11_0 t) ⟨(2 * t.val + 0) * 8 + 3 + 1, 2 * t.val, 2 * t.val, 2 * t.val, 2 * t.val, 0, 0, 0⟩ rfl fun σ' hJ => ?_
  refine Runs.ret ?_
  refine Runs.bind' ?_
  unfold k0_part57
  refine J.zload hJ (2 * t.val + 0) 4 (by omega) (by omega) (by decide) rfl rfl (off7_0_4 t) fun v17 h17 => ?_
  refine J.iload hJ 4 (by decide) rfl fun v18 h18 => ?_
  refine Runs.loada A.h6 fun _ => ?_
  refine J.ystore hJ (2 * t.val + 0) 4 (by omega) (by decide) (by simp only []; try omega) h17 h18 (off12_0 t) ⟨(2 * t.val + 0) * 8 + 4 + 1, 2 * t.val, 2 * t.val, 2 * t.val, 2 * t.val, 0, 0, 0⟩ rfl fun σ' hJ => ?_
  refine J.zload hJ (2 * t.val + 0) 5 (by omega) (by omega) (by decide) rfl rfl (off7_0_5 t) fun v21 h21 => ?_
  refine J.iload hJ 5 (by decide) rfl fun v22 h22 => ?_
  refine Runs.loada A.h6 fun _ => ?_
  refine J.ystore hJ (2 * t.val + 0) 5 (by omega) (by decide) (by simp only []; try omega) h21 h22 (off13_0 t) ⟨(2 * t.val + 0) * 8 + 5 + 1, 2 * t.val, 2 * t.val, 2 * t.val, 2 * t.val, 0, 0, 0⟩ rfl fun σ' hJ => ?_
  refine J.zload hJ (2 * t.val + 0) 6 (by omega) (by omega) (by decide) rfl rfl (off7_0_6 t) fun v25 h25 => ?_
  refine J.iload hJ 6 (by decide) rfl fun v26 h26 => ?_
  refine Runs.ret ?_
  refine Runs.bind' ?_
  unfold k0_part58
  refine Runs.loada A.h6 fun _ => ?_
  refine J.ystore hJ (2 * t.val + 0) 6 (by omega) (by decide) (by simp only []; try omega) h25 h26 (off14_0 t) ⟨(2 * t.val + 0) * 8 + 6 + 1, 2 * t.val, 2 * t.val, 2 * t.val, 2 * t.val, 0, 0, 0⟩ rfl fun σ' hJ => ?_
  refine J.zload hJ (2 * t.val + 0) 7 (by omega) (by omega) (by decide) rfl rfl (off7_0_7 t) fun v29 h29 => ?_
  refine J.iload hJ 7 (by decide) rfl fun v30 h30 => ?_
  refine Runs.loada A.h6 fun _ => ?_
  refine J.ystore hJ (2 * t.val + 0) 7 (by omega) (by decide) (by simp only []; try omega) h29 h30 (off15_0 t) ⟨(2 * t.val + 0) * 8 + 7 + 1, 2 * t.val, 2 * t.val, 2 * t.val, 2 * t.val, 0, 0, 0⟩ rfl fun σ' hJ => ?_
  refine J.esload hJ (2 * t.val + 0) (by omega) (by simp only []; try omega) (by simp only []; try omega) (off16_0 t) fun v33 h33 => ?_
  refine Runs.loada A.h10 fun _ => ?_
  refine Runs.ret ?_
  refine Runs.bind' ?_
  unfold k0_part59
  refine J.esstore hJ (2 * t.val + 0) (by omega) (by simp only []; try omega) (by simp only []; try omega) h33 (off17_0 t) ⟨(2 * t.val + 0) * 8 + 7 + 1, (2 * t.val + 0) + 1, 2 * t.val, 2 * t.val, 2 * t.val, 0, 0, 0⟩ rfl fun σ' hJ => ?_
  refine J.bsload hJ (2 * t.val + 0) (by omega) (by simp only []; try omega) (by simp only []; try omega) (off18_0 t) fun v36 h36 => ?_
  refine Runs.loada A.h11 fun _ => ?_
  refine J.bsstore hJ (2 * t.val + 0) (by omega) (by simp only []; try omega) (by simp only []; try omega) h36 (off19_0 t) ⟨(2 * t.val + 0) * 8 + 7 + 1, (2 * t.val + 0) + 1, 2 * t.val, (2 * t.val + 0) + 1, 2 * t.val, 0, 0, 0⟩ rfl fun σ' hJ => ?_
  refine J.xload hJ (2 * t.val + 0) (by omega) (off20_0 t) fun v39 h39 => ?_
  refine J.sload hJ rfl fun v40 h40 => ?_
  refine Runs.loada A.h10 fun _ => ?_
  refine J.edstore hJ (2 * t.val + 0) (by omega) rfl (by simp only []; try omega) (xV_ex P (2 * t.val + 0) h39 h40) (off21_0 t) ⟨(2 * t.val + 0) * 8 + 7 + 1, (2 * t.val + 0) + 1, (2 * t.val + 0) + 1, (2 * t.val + 0) + 1, 2 * t.val, 0, 0, 0⟩ rfl fun σ' hJ => ?_
  refine J.x2load hJ (2 * t.val + 0) (by omega) (by simp only []; try omega) (off22_0 t) fun v43 h43 => ?_
  refine J.rload hJ (2 * t.val + 0) (by omega) (off23_0 t) fun v44 h44 => ?_
  refine Runs.ret ?_
  refine Runs.bind' ?_
  unfold k0_part60
  refine Runs.loada A.h11 fun _ => ?_
  have hab0 := abV_af P (2 * t.val + 0) (xV_ex P (2 * t.val + 0) h39 h40) (unpack_ex P (2 * t.val + 0) h43) h44
  have hbb0 := abV_bf P (2 * t.val + 0) (xV_ex P (2 * t.val + 0) h39 h40) (unpack_ex P (2 * t.val + 0) h43) h44
  refine J.bdstore hJ (2 * t.val + 0) (by omega) rfl (by simp only []; try omega) hbb0 (off24_0 t) ⟨(2 * t.val + 0) * 8 + 7 + 1, (2 * t.val + 0) + 1, (2 * t.val + 0) + 1, (2 * t.val + 0) + 1, (2 * t.val + 0) + 1, 0, 0, 0⟩ rfl fun σ' hJ => ?_
  refine J.zload hJ (2 * t.val + 1) 0 (by omega) (by omega) (by decide) rfl rfl (off7_1_0 t) fun v47 h47 => ?_
  refine J.iload hJ 0 (by decide) rfl fun v48 h48 => ?_
  refine Runs.loada A.h6 fun _ => ?_
  refine J.ystore hJ (2 * t.val + 1) 0 (by omega) (by decide) (by simp only []; try omega) h47 h48 (off8_1 t) ⟨(2 * t.val + 1) * 8 + 0 + 1, (2 * t.val + 0) + 1, (2 * t.val + 0) + 1, (2 * t.val + 0) + 1, (2 * t.val + 0) + 1, 0, 0, 0⟩ rfl fun σ' hJ => ?_
  refine J.zload hJ (2 * t.val + 1) 1 (by omega) (by omega) (by decide) rfl rfl (off7_1_1 t) fun v51 h51 => ?_
  refine J.iload hJ 1 (by decide) rfl fun v52 h52 => ?_
  refine Runs.loada A.h6 fun _ => ?_
  refine J.ystore hJ (2 * t.val + 1) 1 (by omega) (by decide) (by simp only []; try omega) h51 h52 (off9_1 t) ⟨(2 * t.val + 1) * 8 + 1 + 1, (2 * t.val + 0) + 1, (2 * t.val + 0) + 1, (2 * t.val + 0) + 1, (2 * t.val + 0) + 1, 0, 0, 0⟩ rfl fun σ' hJ => ?_
  refine Runs.ret ?_
  refine Runs.bind' ?_
  unfold k0_part61
  refine J.zload hJ (2 * t.val + 1) 2 (by omega) (by omega) (by decide) rfl rfl (off7_1_2 t) fun v55 h55 => ?_
  refine J.iload hJ 2 (by decide) rfl fun v56 h56 => ?_
  refine Runs.loada A.h6 fun _ => ?_
  refine J.ystore hJ (2 * t.val + 1) 2 (by omega) (by decide) (by simp only []; try omega) h55 h56 (off10_1 t) ⟨(2 * t.val + 1) * 8 + 2 + 1, (2 * t.val + 0) + 1, (2 * t.val + 0) + 1, (2 * t.val + 0) + 1, (2 * t.val + 0) + 1, 0, 0, 0⟩ rfl fun σ' hJ => ?_
  refine J.zload hJ (2 * t.val + 1) 3 (by omega) (by omega) (by decide) rfl rfl (off7_1_3 t) fun v59 h59 => ?_
  refine J.iload hJ 3 (by decide) rfl fun v60 h60 => ?_
  refine Runs.loada A.h6 fun _ => ?_
  refine J.ystore hJ (2 * t.val + 1) 3 (by omega) (by decide) (by simp only []; try omega) h59 h60 (off11_1 t) ⟨(2 * t.val + 1) * 8 + 3 + 1, (2 * t.val + 0) + 1, (2 * t.val + 0) + 1, (2 * t.val + 0) + 1, (2 * t.val + 0) + 1, 0, 0, 0⟩ rfl fun σ' hJ => ?_
  refine J.zload hJ (2 * t.val + 1) 4 (by omega) (by omega) (by decide) rfl rfl (off7_1_4 t) fun v63 h63 => ?_
  refine Runs.ret ?_
  refine Runs.bind' ?_
  unfold k0_part62
  refine J.iload hJ 4 (by decide) rfl fun v64 h64 => ?_
  refine Runs.loada A.h6 fun _ => ?_
  refine J.ystore hJ (2 * t.val + 1) 4 (by omega) (by decide) (by simp only []; try omega) h63 h64 (off12_1 t) ⟨(2 * t.val + 1) * 8 + 4 + 1, (2 * t.val + 0) + 1, (2 * t.val + 0) + 1, (2 * t.val + 0) + 1, (2 * t.val + 0) + 1, 0, 0, 0⟩ rfl fun σ' hJ => ?_
  refine J.zload hJ (2 * t.val + 1) 5 (by omega) (by omega) (by decide) rfl rfl (off7_1_5 t) fun v67 h67 => ?_
  refine J.iload hJ 5 (by decide) rfl fun v68 h68 => ?_
  refine Runs.loada A.h6 fun _ => ?_
  refine J.ystore hJ (2 * t.val + 1) 5 (by omega) (by decide) (by simp only []; try omega) h67 h68 (off13_1 t) ⟨(2 * t.val + 1) * 8 + 5 + 1, (2 * t.val + 0) + 1, (2 * t.val + 0) + 1, (2 * t.val + 0) + 1, (2 * t.val + 0) + 1, 0, 0, 0⟩ rfl fun σ' hJ => ?_
  refine J.zload hJ (2 * t.val + 1) 6 (by omega) (by omega) (by decide) rfl rfl (off7_1_6 t) fun v71 h71 => ?_
  refine J.iload hJ 6 (by decide) rfl fun v72 h72 => ?_
  refine Runs.ret ?_
  refine Runs.bind' ?_
  unfold k0_part63
  refine Runs.loada A.h6 fun _ => ?_
  refine J.ystore hJ (2 * t.val + 1) 6 (by omega) (by decide) (by simp only []; try omega) h71 h72 (off14_1 t) ⟨(2 * t.val + 1) * 8 + 6 + 1, (2 * t.val + 0) + 1, (2 * t.val + 0) + 1, (2 * t.val + 0) + 1, (2 * t.val + 0) + 1, 0, 0, 0⟩ rfl fun σ' hJ => ?_
  refine J.zload hJ (2 * t.val + 1) 7 (by omega) (by omega) (by decide) rfl rfl (off7_1_7 t) fun v75 h75 => ?_
  refine J.iload hJ 7 (by decide) rfl fun v76 h76 => ?_
  refine Runs.loada A.h6 fun _ => ?_
  refine J.ystore hJ (2 * t.val + 1) 7 (by omega) (by decide) (by simp only []; try omega) h75 h76 (off15_1 t) ⟨(2 * t.val + 1) * 8 + 7 + 1, (2 * t.val + 0) + 1, (2 * t.val + 0) + 1, (2 * t.val + 0) + 1, (2 * t.val + 0) + 1, 0, 0, 0⟩ rfl fun σ' hJ => ?_
  refine J.esload hJ (2 * t.val + 1) (by omega) (by simp only []; try omega) (by simp only []; try omega) (off16_1 t) fun v79 h79 => ?_
  refine Runs.loada A.h10 fun _ => ?_
  refine J.esstore hJ (2 * t.val + 1) (by omega) (by simp only []; try omega) (by simp only []; try omega) h79 (off17_1 t) ⟨(2 * t.val + 1) * 8 + 7 + 1, (2 * t.val + 1) + 1, (2 * t.val + 0) + 1, (2 * t.val + 0) + 1, (2 * t.val + 0) + 1, 0, 0, 0⟩ rfl fun σ' hJ => ?_
  refine Runs.ret ?_
  refine Runs.bind' ?_
  unfold k0_part64
  refine J.bsload hJ (2 * t.val + 1) (by omega) (by simp only []; try omega) (by simp only []; try omega) (off18_1 t) fun v82 h82 => ?_
  refine Runs.loada A.h11 fun _ => ?_
  refine J.bsstore hJ (2 * t.val + 1) (by omega) (by simp only []; try omega) (by simp only []; try omega) h82 (off19_1 t) ⟨(2 * t.val + 1) * 8 + 7 + 1, (2 * t.val + 1) + 1, (2 * t.val + 0) + 1, (2 * t.val + 1) + 1, (2 * t.val + 0) + 1, 0, 0, 0⟩ rfl fun σ' hJ => ?_
  refine J.xload hJ (2 * t.val + 1) (by omega) (off20_1 t) fun v85 h85 => ?_
  refine J.sload hJ rfl fun v86 h86 => ?_
  refine Runs.loada A.h10 fun _ => ?_
  refine J.edstore hJ (2 * t.val + 1) (by omega) rfl (by simp only []; try omega) (xV_ex P (2 * t.val + 1) h85 h86) (off21_1 t) ⟨(2 * t.val + 1) * 8 + 7 + 1, (2 * t.val + 1) + 1, (2 * t.val + 1) + 1, (2 * t.val + 1) + 1, (2 * t.val + 0) + 1, 0, 0, 0⟩ rfl fun σ' hJ => ?_
  refine J.x2load hJ (2 * t.val + 1) (by omega) (by simp only []; try omega) (off22_1 t) fun v89 h89 => ?_
  refine J.rload hJ (2 * t.val + 1) (by omega) (off23_1 t) fun v90 h90 => ?_
  refine Runs.loada A.h11 fun _ => ?_
  refine Runs.ret ?_
  refine Runs.bind' ?_
  unfold k0_part65
  have hab1 := abV_af P (2 * t.val + 1) (xV_ex P (2 * t.val + 1) h85 h86) (unpack_ex P (2 * t.val + 1) h89) h90
  have hbb1 := abV_bf P (2 * t.val + 1) (xV_ex P (2 * t.val + 1) h85 h86) (unpack_ex P (2 * t.val + 1) h89) h90
  refine J.bdstore hJ (2 * t.val + 1) (by omega) rfl (by simp only []; try omega) hbb1 (off24_1 t) ⟨(2 * t.val + 1) * 8 + 7 + 1, (2 * t.val + 1) + 1, (2 * t.val + 1) + 1, (2 * t.val + 1) + 1, (2 * t.val + 1) + 1, 0, 0, 0⟩ rfl fun σ' hJ => ?_
  refine J.mload hJ 0 (by decide) (by simp only []; try omega) rfl fun v93 h93 => ?_
  refine J.bload hJ (2 * t.val + 0) 0 (by omega) (by decide) (by simp only []; try omega) (off25_0_0 t) fun v94 h94 => ?_
  refine J.cload hJ (2 * t.val + 0) (by omega) (off26_0 t) fun v95 h95 => ?_
  refine Runs.loada A.h12 fun _ => ?_
  have hz0_0 := zV_zn P (2 * t.val + 0) 0 (by decide) slices_S256x256_o0_0_S32x128 hab0 h94 h95
  refine J.zstore0 hJ 0 ht (by decide) rfl hz0_0 (off7_0_0 t) ⟨(2 * t.val + 1) * 8 + 7 + 1, (2 * t.val + 1) + 1, (2 * t.val + 1) + 1, (2 * t.val + 1) + 1, (2 * t.val + 1) + 1, 0 + 1, 0, 0⟩ rfl fun σ' hJ => ?_
  refine J.bload hJ (2 * t.val + 1) 0 (by omega) (by decide) (by simp only []; try omega) (off25_1_0 t) fun v98 h98 => ?_
  refine J.cload hJ (2 * t.val + 1) (by omega) (off26_1 t) fun v99 h99 => ?_
  refine Runs.ret ?_
  refine Runs.bind' ?_
  unfold k0_part66
  refine Runs.loada A.h12 fun _ => ?_
  have hz1_0 := zV_zn P (2 * t.val + 1) 0 (by decide) slices_S256x256_o0_0_S32x128 hab1 h98 h99
  refine J.zstore1 hJ 0 ht (by decide) rfl hz1_0 (off7_1_0 t) ⟨(2 * t.val + 1) * 8 + 7 + 1, (2 * t.val + 1) + 1, (2 * t.val + 1) + 1, (2 * t.val + 1) + 1, (2 * t.val + 1) + 1, 0 + 1, 0 + 1, 0⟩ rfl fun σ' hJ => ?_
  refine Runs.loada A.h13 fun _ => ?_
  refine J.mstore hJ 0 ht (by decide) rfl h93 hz0_0 hz1_0 rfl ⟨(2 * t.val + 1) * 8 + 7 + 1, (2 * t.val + 1) + 1, (2 * t.val + 1) + 1, (2 * t.val + 1) + 1, (2 * t.val + 1) + 1, 0 + 1, 0 + 1, 0 + 1⟩ rfl fun σ' hJ => ?_
  refine J.mload hJ 1 (by decide) (by simp only []; try omega) rfl fun v104 h104 => ?_
  refine J.bload hJ (2 * t.val + 0) 1 (by omega) (by decide) (by simp only []; try omega) (off25_0_1 t) fun v105 h105 => ?_
  refine J.cload hJ (2 * t.val + 0) (by omega) (off26_0 t) fun v106 h106 => ?_
  refine Runs.loada A.h12 fun _ => ?_
  have hz0_1 := zV_zn P (2 * t.val + 0) 1 (by decide) slices_S256x256_o32_0_S32x128 hab0 h105 h106
  refine J.zstore0 hJ 1 ht (by decide) rfl hz0_1 (off7_0_1 t) ⟨(2 * t.val + 1) * 8 + 7 + 1, (2 * t.val + 1) + 1, (2 * t.val + 1) + 1, (2 * t.val + 1) + 1, (2 * t.val + 1) + 1, 1 + 1, 0 + 1, 0 + 1⟩ rfl fun σ' hJ => ?_
  refine Runs.ret ?_
  refine Runs.bind' ?_
  unfold k0_part67
  refine J.bload hJ (2 * t.val + 1) 1 (by omega) (by decide) (by simp only []; try omega) (off25_1_1 t) fun v109 h109 => ?_
  refine J.cload hJ (2 * t.val + 1) (by omega) (off26_1 t) fun v110 h110 => ?_
  refine Runs.loada A.h12 fun _ => ?_
  have hz1_1 := zV_zn P (2 * t.val + 1) 1 (by decide) slices_S256x256_o32_0_S32x128 hab1 h109 h110
  refine J.zstore1 hJ 1 ht (by decide) rfl hz1_1 (off7_1_1 t) ⟨(2 * t.val + 1) * 8 + 7 + 1, (2 * t.val + 1) + 1, (2 * t.val + 1) + 1, (2 * t.val + 1) + 1, (2 * t.val + 1) + 1, 1 + 1, 1 + 1, 0 + 1⟩ rfl fun σ' hJ => ?_
  refine Runs.loada A.h13 fun _ => ?_
  refine J.mstore hJ 1 ht (by decide) rfl h104 hz0_1 hz1_1 rfl ⟨(2 * t.val + 1) * 8 + 7 + 1, (2 * t.val + 1) + 1, (2 * t.val + 1) + 1, (2 * t.val + 1) + 1, (2 * t.val + 1) + 1, 1 + 1, 1 + 1, 1 + 1⟩ rfl fun σ' hJ => ?_
  refine J.mload hJ 2 (by decide) (by simp only []; try omega) rfl fun v115 h115 => ?_
  refine J.bload hJ (2 * t.val + 0) 2 (by omega) (by decide) (by simp only []; try omega) (off25_0_2 t) fun v116 h116 => ?_
  refine Runs.ret ?_
  refine Runs.bind' ?_
  unfold k0_part68
  refine J.cload hJ (2 * t.val + 0) (by omega) (off26_0 t) fun v117 h117 => ?_
  refine Runs.loada A.h12 fun _ => ?_
  have hz0_2 := zV_zn P (2 * t.val + 0) 2 (by decide) slices_S256x256_o64_0_S32x128 hab0 h116 h117
  refine J.zstore0 hJ 2 ht (by decide) rfl hz0_2 (off7_0_2 t) ⟨(2 * t.val + 1) * 8 + 7 + 1, (2 * t.val + 1) + 1, (2 * t.val + 1) + 1, (2 * t.val + 1) + 1, (2 * t.val + 1) + 1, 2 + 1, 1 + 1, 1 + 1⟩ rfl fun σ' hJ => ?_
  refine J.bload hJ (2 * t.val + 1) 2 (by omega) (by decide) (by simp only []; try omega) (off25_1_2 t) fun v120 h120 => ?_
  refine J.cload hJ (2 * t.val + 1) (by omega) (off26_1 t) fun v121 h121 => ?_
  refine Runs.loada A.h12 fun _ => ?_
  have hz1_2 := zV_zn P (2 * t.val + 1) 2 (by decide) slices_S256x256_o64_0_S32x128 hab1 h120 h121
  refine J.zstore1 hJ 2 ht (by decide) rfl hz1_2 (off7_1_2 t) ⟨(2 * t.val + 1) * 8 + 7 + 1, (2 * t.val + 1) + 1, (2 * t.val + 1) + 1, (2 * t.val + 1) + 1, (2 * t.val + 1) + 1, 2 + 1, 2 + 1, 1 + 1⟩ rfl fun σ' hJ => ?_
  refine Runs.loada A.h13 fun _ => ?_
  refine J.mstore hJ 2 ht (by decide) rfl h115 hz0_2 hz1_2 rfl ⟨(2 * t.val + 1) * 8 + 7 + 1, (2 * t.val + 1) + 1, (2 * t.val + 1) + 1, (2 * t.val + 1) + 1, (2 * t.val + 1) + 1, 2 + 1, 2 + 1, 2 + 1⟩ rfl fun σ' hJ => ?_
  refine Runs.ret ?_
  refine Runs.bind' ?_
  unfold k0_part69
  refine J.mload hJ 3 (by decide) (by simp only []; try omega) rfl fun v126 h126 => ?_
  refine J.bload hJ (2 * t.val + 0) 3 (by omega) (by decide) (by simp only []; try omega) (off25_0_3 t) fun v127 h127 => ?_
  refine J.cload hJ (2 * t.val + 0) (by omega) (off26_0 t) fun v128 h128 => ?_
  refine Runs.loada A.h12 fun _ => ?_
  have hz0_3 := zV_zn P (2 * t.val + 0) 3 (by decide) slices_S256x256_o96_0_S32x128 hab0 h127 h128
  refine J.zstore0 hJ 3 ht (by decide) rfl hz0_3 (off7_0_3 t) ⟨(2 * t.val + 1) * 8 + 7 + 1, (2 * t.val + 1) + 1, (2 * t.val + 1) + 1, (2 * t.val + 1) + 1, (2 * t.val + 1) + 1, 3 + 1, 2 + 1, 2 + 1⟩ rfl fun σ' hJ => ?_
  refine J.bload hJ (2 * t.val + 1) 3 (by omega) (by decide) (by simp only []; try omega) (off25_1_3 t) fun v131 h131 => ?_
  refine J.cload hJ (2 * t.val + 1) (by omega) (off26_1 t) fun v132 h132 => ?_
  refine Runs.ret ?_
  refine Runs.bind' ?_
  unfold k0_part70
  refine Runs.loada A.h12 fun _ => ?_
  have hz1_3 := zV_zn P (2 * t.val + 1) 3 (by decide) slices_S256x256_o96_0_S32x128 hab1 h131 h132
  refine J.zstore1 hJ 3 ht (by decide) rfl hz1_3 (off7_1_3 t) ⟨(2 * t.val + 1) * 8 + 7 + 1, (2 * t.val + 1) + 1, (2 * t.val + 1) + 1, (2 * t.val + 1) + 1, (2 * t.val + 1) + 1, 3 + 1, 3 + 1, 2 + 1⟩ rfl fun σ' hJ => ?_
  refine Runs.loada A.h13 fun _ => ?_
  refine J.mstore hJ 3 ht (by decide) rfl h126 hz0_3 hz1_3 rfl ⟨(2 * t.val + 1) * 8 + 7 + 1, (2 * t.val + 1) + 1, (2 * t.val + 1) + 1, (2 * t.val + 1) + 1, (2 * t.val + 1) + 1, 3 + 1, 3 + 1, 3 + 1⟩ rfl fun σ' hJ => ?_
  refine J.mload hJ 4 (by decide) (by simp only []; try omega) rfl fun v137 h137 => ?_
  refine J.bload hJ (2 * t.val + 0) 4 (by omega) (by decide) (by simp only []; try omega) (off25_0_4 t) fun v138 h138 => ?_
  refine J.cload hJ (2 * t.val + 0) (by omega) (off26_0 t) fun v139 h139 => ?_
  refine Runs.loada A.h12 fun _ => ?_
  have hz0_4 := zV_zn P (2 * t.val + 0) 4 (by decide) slices_S256x256_o128_0_S32x128 hab0 h138 h139
  refine J.zstore0 hJ 4 ht (by decide) rfl hz0_4 (off7_0_4 t) ⟨(2 * t.val + 1) * 8 + 7 + 1, (2 * t.val + 1) + 1, (2 * t.val + 1) + 1, (2 * t.val + 1) + 1, (2 * t.val + 1) + 1, 4 + 1, 3 + 1, 3 + 1⟩ rfl fun σ' hJ => ?_
  refine Runs.ret ?_
  refine Runs.bind' ?_
  unfold k0_part71
  refine J.bload hJ (2 * t.val + 1) 4 (by omega) (by decide) (by simp only []; try omega) (off25_1_4 t) fun v142 h142 => ?_
  refine J.cload hJ (2 * t.val + 1) (by omega) (off26_1 t) fun v143 h143 => ?_
  refine Runs.loada A.h12 fun _ => ?_
  have hz1_4 := zV_zn P (2 * t.val + 1) 4 (by decide) slices_S256x256_o128_0_S32x128 hab1 h142 h143
  refine J.zstore1 hJ 4 ht (by decide) rfl hz1_4 (off7_1_4 t) ⟨(2 * t.val + 1) * 8 + 7 + 1, (2 * t.val + 1) + 1, (2 * t.val + 1) + 1, (2 * t.val + 1) + 1, (2 * t.val + 1) + 1, 4 + 1, 4 + 1, 3 + 1⟩ rfl fun σ' hJ => ?_
  refine Runs.loada A.h13 fun _ => ?_
  refine J.mstore hJ 4 ht (by decide) rfl h137 hz0_4 hz1_4 rfl ⟨(2 * t.val + 1) * 8 + 7 + 1, (2 * t.val + 1) + 1, (2 * t.val + 1) + 1, (2 * t.val + 1) + 1, (2 * t.val + 1) + 1, 4 + 1, 4 + 1, 4 + 1⟩ rfl fun σ' hJ => ?_
  refine J.mload hJ 5 (by decide) (by simp only []; try omega) rfl fun v148 h148 => ?_
  refine J.bload hJ (2 * t.val + 0) 5 (by omega) (by decide) (by simp only []; try omega) (off25_0_5 t) fun v149 h149 => ?_
  refine J.cload hJ (2 * t.val + 0) (by omega) (off26_0 t) fun v150 h150 => ?_
  refine Runs.ret ?_
  refine Runs.bind' ?_
  unfold k0_part72
  refine Runs.loada A.h12 fun _ => ?_
  have hz0_5 := zV_zn P (2 * t.val + 0) 5 (by decide) slices_S256x256_o160_0_S32x128 hab0 h149 h150
  refine J.zstore0 hJ 5 ht (by decide) rfl hz0_5 (off7_0_5 t) ⟨(2 * t.val + 1) * 8 + 7 + 1, (2 * t.val + 1) + 1, (2 * t.val + 1) + 1, (2 * t.val + 1) + 1, (2 * t.val + 1) + 1, 5 + 1, 4 + 1, 4 + 1⟩ rfl fun σ' hJ => ?_
  refine J.bload hJ (2 * t.val + 1) 5 (by omega) (by decide) (by simp only []; try omega) (off25_1_5 t) fun v153 h153 => ?_
  refine J.cload hJ (2 * t.val + 1) (by omega) (off26_1 t) fun v154 h154 => ?_
  refine Runs.loada A.h12 fun _ => ?_
  have hz1_5 := zV_zn P (2 * t.val + 1) 5 (by decide) slices_S256x256_o160_0_S32x128 hab1 h153 h154
  refine J.zstore1 hJ 5 ht (by decide) rfl hz1_5 (off7_1_5 t) ⟨(2 * t.val + 1) * 8 + 7 + 1, (2 * t.val + 1) + 1, (2 * t.val + 1) + 1, (2 * t.val + 1) + 1, (2 * t.val + 1) + 1, 5 + 1, 5 + 1, 4 + 1⟩ rfl fun σ' hJ => ?_
  refine Runs.loada A.h13 fun _ => ?_
  refine J.mstore hJ 5 ht (by decide) rfl h148 hz0_5 hz1_5 rfl ⟨(2 * t.val + 1) * 8 + 7 + 1, (2 * t.val + 1) + 1, (2 * t.val + 1) + 1, (2 * t.val + 1) + 1, (2 * t.val + 1) + 1, 5 + 1, 5 + 1, 5 + 1⟩ rfl fun σ' hJ => ?_
  refine J.mload hJ 6 (by decide) (by simp only []; try omega) rfl fun v159 h159 => ?_
  refine Runs.ret ?_
  refine Runs.bind' ?_
  unfold k0_part73
  refine J.bload hJ (2 * t.val + 0) 6 (by omega) (by decide) (by simp only []; try omega) (off25_0_6 t) fun v160 h160 => ?_
  refine J.cload hJ (2 * t.val + 0) (by omega) (off26_0 t) fun v161 h161 => ?_
  refine Runs.loada A.h12 fun _ => ?_
  have hz0_6 := zV_zn P (2 * t.val + 0) 6 (by decide) slices_S256x256_o192_0_S32x128 hab0 h160 h161
  refine J.zstore0 hJ 6 ht (by decide) rfl hz0_6 (off7_0_6 t) ⟨(2 * t.val + 1) * 8 + 7 + 1, (2 * t.val + 1) + 1, (2 * t.val + 1) + 1, (2 * t.val + 1) + 1, (2 * t.val + 1) + 1, 6 + 1, 5 + 1, 5 + 1⟩ rfl fun σ' hJ => ?_
  refine J.bload hJ (2 * t.val + 1) 6 (by omega) (by decide) (by simp only []; try omega) (off25_1_6 t) fun v164 h164 => ?_
  refine J.cload hJ (2 * t.val + 1) (by omega) (off26_1 t) fun v165 h165 => ?_
  refine Runs.ret ?_
  refine Runs.bind' ?_
  unfold k0_part74
  refine Runs.loada A.h12 fun _ => ?_
  have hz1_6 := zV_zn P (2 * t.val + 1) 6 (by decide) slices_S256x256_o192_0_S32x128 hab1 h164 h165
  refine J.zstore1 hJ 6 ht (by decide) rfl hz1_6 (off7_1_6 t) ⟨(2 * t.val + 1) * 8 + 7 + 1, (2 * t.val + 1) + 1, (2 * t.val + 1) + 1, (2 * t.val + 1) + 1, (2 * t.val + 1) + 1, 6 + 1, 6 + 1, 5 + 1⟩ rfl fun σ' hJ => ?_
  refine Runs.loada A.h13 fun _ => ?_
  refine J.mstore hJ 6 ht (by decide) rfl h159 hz0_6 hz1_6 rfl ⟨(2 * t.val + 1) * 8 + 7 + 1, (2 * t.val + 1) + 1, (2 * t.val + 1) + 1, (2 * t.val + 1) + 1, (2 * t.val + 1) + 1, 6 + 1, 6 + 1, 6 + 1⟩ rfl fun σ' hJ => ?_
  refine J.mload hJ 7 (by decide) (by simp only []; try omega) rfl fun v170 h170 => ?_
  refine J.bload hJ (2 * t.val + 0) 7 (by omega) (by decide) (by simp only []; try omega) (off25_0_7 t) fun v171 h171 => ?_
  refine J.cload hJ (2 * t.val + 0) (by omega) (off26_0 t) fun v172 h172 => ?_
  refine Runs.loada A.h12 fun _ => ?_
  have hz0_7 := zV_zn P (2 * t.val + 0) 7 (by decide) slices_S256x256_o224_0_S32x128 hab0 h171 h172
  refine J.zstore0 hJ 7 ht (by decide) rfl hz0_7 (off7_0_7 t) ⟨(2 * t.val + 1) * 8 + 7 + 1, (2 * t.val + 1) + 1, (2 * t.val + 1) + 1, (2 * t.val + 1) + 1, (2 * t.val + 1) + 1, 7 + 1, 6 + 1, 6 + 1⟩ rfl fun σ' hJ => ?_
  refine Runs.ret ?_
  refine J.bload hJ (2 * t.val + 1) 7 (by omega) (by decide) (by simp only []; try omega) (off25_1_7 t) fun v175 h175 => ?_
  refine J.cload hJ (2 * t.val + 1) (by omega) (off26_1 t) fun v176 h176 => ?_
  refine Runs.loada A.h12 fun _ => ?_
  have hz1_7 := zV_zn P (2 * t.val + 1) 7 (by decide) slices_S256x256_o224_0_S32x128 hab1 h175 h176
  refine J.zstore1 hJ 7 ht (by decide) rfl hz1_7 (off7_1_7 t) ⟨(2 * t.val + 1) * 8 + 7 + 1, (2 * t.val + 1) + 1, (2 * t.val + 1) + 1, (2 * t.val + 1) + 1, (2 * t.val + 1) + 1, 7 + 1, 7 + 1, 6 + 1⟩ rfl fun σ' hJ => ?_
  refine Runs.loada A.h13 fun _ => ?_
  refine J.mstore hJ 7 ht (by decide) rfl h170 hz0_7 hz1_7 rfl ⟨(2 * t.val + 1) * 8 + 7 + 1, (2 * t.val + 1) + 1, (2 * t.val + 1) + 1, (2 * t.val + 1) + 1, (2 * t.val + 1) + 1, 7 + 1, 7 + 1, 7 + 1⟩ rfl fun σ' hJ => ?_
  refine Runs.ret ?_
  exact hJ.next

end Cert.Proof.KernelIdeal
-- ==== Proof.KernelIdeal.Second.lean ====
/-
  The second half of the body: from the outputs of the block before to those of the new block.
-/
module

public import proofs.«01_k».proof.Proof.KernelIdeal.Slow
public import proofs.«01_k».proof.Proof.KernelIdeal.Trip

@[expose] public section

set_option maxRecDepth 8000
set_option maxHeartbeats 400000

noncomputable section

namespace Cert.Proof.KernelIdeal

open Cert.KernelIdeal Cert.KernelIdeal.Gen Cert.Proof.Hoare Cert.Proof.Quant

open Idealize.ShloMosaic Idealize.SL.Sem Idealize.SL.RA

variable {U : Type} [URA U] {c : Dev nD} {bd : Option 𝒱₀.V} {L : Finset (Ref sig .tc)} {σ : St sig (Elt Ideal)}

variable {α : Type} {Q : α → St sig (Elt Ideal) → Prop}

/-- The codes are put aside and the first tiles of them copied. -/
structure Cp (A : Bufs L) (Y : ℕ → ℕ → EReal) (σ0 : St sig (Elt Ideal)) (n : ℕ) (σ : St sig (Elt Ideal)) : Prop where
  y : ∀ (a : Fin 256) (b : Fin 3328), b.val / 128 < n → rd A.arg6 σ (ix2 a b) = Y a b
  src : ∀ (t : Fin 26) (a : Fin 256) (l : Fin 128), rd A.arg19 σ (ix3 t a l) = Y a (t.val * 128 + l)
  fr : ∀ b, b ≠ A.arg6.view.ref → σ b = σ0 b

variable {A : Bufs L} {Y : ℕ → ℕ → EReal} {σ0 : St sig (Elt Ideal)}

theorem Runs.ite {C : Prop} {d : Decidable C} {p q : Prog (TpuEff nD τ sig (Elt Ideal) (Λ₀ Ideal) .tc) α}
    (h : C → Runs U defs₀ 𝒱₀ c bd L σ p Q) (h' : ¬C → Runs U defs₀ 𝒱₀ c bd L σ q Q) : Runs U defs₀ 𝒱₀ c bd L σ (@ite _ C d p q) Q := by
  by_cases e : C
  · rw [if_pos e]; exact h e
  · rw [if_neg e]; exact h' e

theorem Runs.dite {C : Prop} {d : Decidable C} {p : C → Prog (TpuEff nD τ sig (Elt Ideal) (Λ₀ Ideal) .tc) α} {q : ¬C → Prog (TpuEff nD τ sig (Elt Ideal) (Λ₀ Ideal) .tc) α}
    (h : ∀ e : C, Runs U defs₀ 𝒱₀ c bd L σ (p e) Q) (h' : ∀ e : ¬C, Runs U defs₀ 𝒱₀ c bd L σ (q e) Q) : Runs U defs₀ 𝒱₀ c bd L σ (@dite _ C d p q) Q := by
  by_cases e : C
  · rw [dif_pos e]; exact h e
  · rw [dif_neg e]; exact h' e

/-- A tile of codes as two axes. -/
def flatV (w : FVec Ideal S1x256x128 .fp8e4m3) : FVec Ideal S256x128 .fp8e4m3 := shapeCast S256x128 w shapeCasts_S1x256x128_S256x128

theorem flatV_apply (w : FVec Ideal S1x256x128 .fp8e4m3) (a : Fin 256) (l : Fin 128) : flatV w (ix2 a l) = w (ix3 0 a l) := by
  unfold flatV
  pointwise

theorem Cp.load {n : ℕ} (hC : Cp A Y σ0 n σ) (t : ℕ) (ht : t < 26)
    {inb : ∀ a, ![t, 0, 0] a + S1x256x128.size a ≤ S26x256x128.size a} {hl} {kk : ((Rect.unit (s := S26x256x128) ![t, 0, 0] S1x256x128.size inb).shape.Idx → Elt Ideal .fp8e4m3) → Prog (TpuEff nD τ sig (Elt Ideal) (Λ₀ Ideal) .tc) α}
    (h : ∀ v : Vec Ideal S1x256x128 .fp8e4m3, (∀ (a : Fin 256) (l : Fin 128), flatV v (ix2 a l) = Y a (t * 128 + l)) → Runs U defs₀ 𝒱₀ c bd L σ (kk v) Q) :
    Runs U defs₀ 𝒱₀ c bd L σ (Prog.lift (.load A.arg19 (Rect.unit (s := S26x256x128) ![t, 0, 0] S1x256x128.size inb).toLoadRect hl) >>= kk) Q := by
  refine Runs.loadw A.h19 fun v hv => h v fun a l => ?_
  rw [flatV_apply]
  refine (hv (ix3 0 a l)).trans ?_
  rw [emb3]
  refine Eq.trans (congrArg (rd A.arg19 σ) ((ix3_inj ..).2 ⟨rfl, Fin.ext (Nat.zero_add _), Fin.ext (Nat.zero_add _)⟩)) (hC.src ⟨t, ht⟩ a l)

theorem Cp.store (t : ℕ) (hC : Cp A Y σ0 t σ) {o : ℕ} (ho : o = t * 128) (ht : t < 26) {w : FVec Ideal S256x128 .fp8e4m3}
    (hw : ∀ (a : Fin 256) (l : Fin 128), w (ix2 a l) = Y a (t * 128 + l))
    {inb : ∀ a, ![0, o] a + S256x128.size a ≤ S256x3328.size a}
    {hx : (A.arg6.access (Rect.unit (s := S256x3328) ![0, o] S256x128.size inb)).Stores Finset.univ} {hu}
    {kk : PUnit → Prog (TpuEff nD τ sig (Elt Ideal) (Λ₀ Ideal) .tc) α}
    (h : ∀ σ', Cp A Y σ0 (t + 1) σ' → Runs U defs₀ 𝒱₀ c bd L σ' (kk ⟨⟩) Q) :
    Runs U defs₀ 𝒱₀ c bd L σ (Prog.lift (.store A.arg6 (Rect.unit (s := S256x3328) ![0, o] S256x128.size inb) w Finset.univ hx hu) >>= kk) Q := by
  subst ho
  refine Runs.storew A.h6 fun σ' hf he => h σ' ⟨fun a b hb => ?_, ?_, fun b hb => (hf b hb).trans (hC.fr b hb)⟩
  · rw [he, put2]
    by_cases e : b.val / 128 = t
    · rw [dif_pos ⟨⟨Nat.zero_le _, by omega⟩, by omega, by omega⟩]
      refine (hw ⟨a.val - 0, by omega⟩ ⟨b.val - t * 128, by omega⟩).trans (congrArg₂ Y (by simp only []; omega) (by simp only []; omega))
    · rw [dif_neg (by omega)]
      exact hC.y a b (by omega)
  · rw [rd_congr A.arg19 (hf _ (A.inj.ne (a₁ := 18) (a₂ := 5) (by decide)))]
    exact hC.src

/-- What the second half of the body starts from. -/
structure Pre (A : Bufs L) (P : Par) (σ : St sig (Elt Ideal)) : Prop where
  z : ∀ (a : Fin 6656) (l : Fin 128), rd A.arg12 σ (ix2 a l) = P.z0 (a.val % 256) (a.val / 256 * 128 + l)
  e : ∀ (a : Fin 3536) (b : Fin 2) (l : Fin 128), 128 ≤ a.val % 136 → rd A.arg10 σ (ix3 a b l) = P.e0 (2 * (a.val % 136 - 128) + b) (a.val / 136 * 128 + l)
  b : ∀ (a : Fin 6864) (l : Fin 128), 256 ≤ a.val % 264 → rd A.arg11 σ (ix2 a l) = P.b0 (a.val % 264 - 256) (a.val / 264 * 128 + l)
  x : ∀ (a : Fin 256) (b : Fin 3328), rd A.arg2 σ (ix2 a b) = P.x a b
  rhs : ∀ (t : Fin 26) (k n : Fin 256), rd A.arg14 σ (ix3 t k n)
    = if k.val % 128 = n.val % 128 then P.w (3 - 2 * (k.val / 128) - n.val / 128) (t.val * 128 + n.val % 128) else 0
  bias : ∀ (t : Fin 26) (s : Fin 8) (l : Fin 128), rd A.arg15 σ (ix3 t s l) = P.bias (t.val * 128 + l.val)
  sc : ∀ a : Fin 256, rd A.arg3 σ (ix3 0 0 a) = P.sc a

/-- What it leaves of the buffers that are carried on. -/
structure Nxt (A : Bufs L) (P : Par) (σ : St sig (Elt Ideal)) : Prop where
  z : ∀ (a : Fin 6656) (l : Fin 128), rd A.arg12 σ (ix2 a l) = P.zn (a.val % 256) (a.val / 256 * 128 + l)
  e : ∀ (a : Fin 3536) (b : Fin 2) (l : Fin 128), 128 ≤ a.val % 136 → rd A.arg10 σ (ix3 a b l) = P.ex (256 + (2 * (a.val % 136 - 128) + b)) (a.val / 136 * 128 + l)
  b : ∀ (a : Fin 6864) (l : Fin 128), 256 ≤ a.val % 264 → rd A.arg11 σ (ix2 a l) = P.bx (256 + (a.val % 264 - 256)) (a.val / 264 * 128 + l)
  m : ∀ (a : Fin 256) (l : Fin 128), rd A.arg13 σ (ix2 a l) = P.mx a l 26

theorem Nxt.congr {P : Par} {σ' : St sig (Elt Ideal)} (h : Nxt A P σ) (hf : ∀ b, b ≠ A.arg6.view.ref → σ' b = σ b) : Nxt A P σ' := by
  have ne : ∀ {i j : Fin 21}, i ≠ j → _ := fun {i j} hij => A.inj.ne hij
  refine ⟨?_, ?_, ?_, ?_⟩
  · rw [rd_congr A.arg12 (hf _ (ne (i := 11) (j := 5) (by decide)))]; exact h.z
  · rw [rd_congr A.arg10 (hf _ (ne (i := 9) (j := 5) (by decide)))]; exact h.e
  · rw [rd_congr A.arg11 (hf _ (ne (i := 10) (j := 5) (by decide)))]; exact h.b
  · rw [rd_congr A.arg13 (hf _ (ne (i := 12) (j := 5) (by decide)))]; exact h.m

/-- The second half after its slow path's scale. -/
def tail (A : Bufs L) (i : grid0.Coords) (arg0 : BitVec 32) (v43 : BitVec 1) : Prog (TpuEff nD τ sig (Elt Ideal) (Λ₀ Ideal) .tc) (Σ' (v43 : BitVec 1), Elt Ideal .i32) := do
  let v46 : Vec Ideal S1x1x256 .f32 ← Prog.lift (.load A.arg3 (Rect.unit (s := S1x1x256) ![0, 0, 0] S1x1x256.size inb_S1x1x256_S1x1x256_0_0_0).toLoadRect (View.loadsAt_vmem h_S1x1x256))
  have v47 : FVec Ideal S1x256 .f32 := shapeCast S1x256 v46 shapeCasts_S1x1x256_S1x256
  have v48 : FVec Ideal S1x256 .f32 := shapeCast S1x256 v47 shapeCasts_S1x256_S1x256
  have v49 : FVec Ideal S128x256 .f32 := broadcastTo S128x256 v48 broadcasts_S1x256_S128x256
  have v50 : FVec Ideal S256x128 .f32 := transpose S256x128 [1, 0] v49 transposes_S128x256_p1_0_S256x128
  have v51 : FVec Ideal S256x128 .bf16 := truncf .bf16 v50 bitsLt_bf16_f32
  have v52_lo : FVec Ideal S128x128 .bf16 := rowsOfParity 0 S128x128 v51 bitcasts_S256x128_w16_S128x128_w32
  have v52_hi : FVec Ideal S128x128 .bf16 := rowsOfParity 1 S128x128 v51 bitcasts_S256x128_w16_S128x128_w32
  let c0_20 : Index := 0#32
  let c0_21 : Index := 0#32
  let v53_raw : Vec Ideal S128x2x128 .bf16 ← Prog.lift (.load A.arg17 (Rect.unit (s := S128x2x128) ![0, 0, 0] S128x2x128.size inb_S128x2x128_S128x2x128_0_0_0).toLoadRect (View.loadsAt_vmem h_S128x2x128))
  have v53_lo : FVec Ideal S128x128 .bf16 := shapeCast S128x128 (rowsOfParity 0 S128x1x128 v53_raw bitcasts_S128x2x128_w16_S128x1x128_w32) shapeCasts_S128x1x128_S128x128
  have v53_hi : FVec Ideal S128x128 .bf16 := shapeCast S128x128 (rowsOfParity 1 S128x1x128 v53_raw bitcasts_S128x2x128_w16_S128x1x128_w32) shapeCasts_S128x1x128_S128x128
  have v54_lo : FVec Ideal S128x128 .bf16 := v53_lo
  have v54_hi : FVec Ideal S128x128 .bf16 := v53_hi
  have v55_lo : FVec Ideal S128x128 .bf16 := v52_lo
  have v55_hi : FVec Ideal S128x128 .bf16 := v52_hi
  have k0_w2 : Vec Ideal S128x2x128 .bf16 := interleaveRows S128x2x128 (shapeCast S128x1x128 v55_lo shapeCasts_S128x128_S128x1x128) (shapeCast S128x1x128 v55_hi shapeCasts_S128x128_S128x1x128) bitcasts_S128x2x128_w16_S128x1x128_w32
  Prog.lift (.store A.arg17 (Rect.unit (s := S128x2x128) ![0, 0, 0] S128x2x128.size inb_S128x2x128_S128x2x128_0_0_0) k0_w2 Finset.univ (View.stores_vmem h_S128x2x128 ((A.harg17.pairWhole rank2_S128x2x128).storeExact_slice rfl _ (Rect.wholeRows_unit rank2_S128x2x128 rfl rfl) pairs_S128x2x128_bf16) (fun _ => rfl)) (.inl rfl))
  have cst_22 : Ideal .f32 := Scalar.ofBits .f32 0xFF800000#32
  have v56 : FVec Ideal S256x128 .f32 := broadcast S256x128 cst_22
  let c0_23 : Index := 0#32
  let c0_24 : Index := 0#32
  let v57 : Vec Ideal S256x128 .f32 ← Prog.lift (.load A.arg13 (Rect.unit (s := S256x128) ![0, 0] S256x128.size inb_S256x128_S256x128_0_0).toLoadRect (View.loadsAt_vmem h_S256x128))
  have v58 : FVec Ideal S256x128 .f32 := shapeCast S256x128 v57 shapeCasts_S256x128_S256x128
  have v59 : FVec Ideal S256x128 .f32 := shapeCast S256x128 v56 shapeCasts_S256x128_S256x128
  Prog.lift (.store A.arg13 (Rect.unit (s := S256x128) ![0, 0] S256x128.size inb_S256x128_S256x128_0_0) v59 Finset.univ (View.stores_vmem_bits_univ h_S256x128 rfl) (.inl rfl))
  let c0_i32_25 : BitVec 32 := 0#32
  let c13_i32 : BitVec 32 := 13#32
  let v60 : BitVec 32 := Scalar.addi c0_i32_25 c13_i32
  let c1_i32_26 : BitVec 32 := 1#32
  Scf.Loop.for k0_t6_loop k0_t6_ok ⟨⟩ fun k0_t6 _ => tileBody A i k0_t6
  let v61 : BitVec 32 := Scalar.extui v43
  let c0_i32_28 : BitVec 32 := 0#32
  let v62 : BitVec 1 := Scalar.cmpi .ne v61 c0_i32_28
  if v62 = 1#1 then do
    let v88 : FVec Ideal S256x128 .fp8e4m3 ← k0_part75 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21
    k0_part76 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 v88
    k0_part77 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21
    let c20 : Index := 20#32
    let c0_93 : Index := 0#32
    let c0_94 : Index := 0#32
    let v129 : Vec Ideal S1x256x128 .fp8e4m3 ← Prog.lift (.load A.arg19 (Rect.unit (s := S26x256x128) ![20, 0, 0] S1x256x128.size inb_S26x256x128_S1x256x128_20_0_0).toLoadRect (View.loadsAt_vmem h_S1x256x128))
    have v130 : FVec Ideal S256x128 .fp8e4m3 := shapeCast S256x128 v129 shapeCasts_S1x256x128_S256x128
    let c0_95 : Index := 0#32
    let c2560 : Index := 2560#32
    let v131 : Vec Ideal S256x128 .fp8e4m3 ← Prog.lift (.load A.arg6 (Rect.unit (s := S256x3328) ![0, 2560] S256x128.size inb_S256x3328_S256x128_0_2560).toLoadRect (View.loadsAt_vmem h_S256x128))
    Prog.lift (.store A.arg6 (Rect.unit (s := S256x3328) ![0, 2560] S256x128.size inb_S256x3328_S256x128_0_2560) v130 Finset.univ (View.stores_vmem h_S256x128 (A.harg6.storeExact_slice rfl _ packedfp8e4m3_S256x3328_S256x128_0_2560) (fun _ => rfl)) (.inl rfl))
    let c21 : Index := 21#32
    let c0_96 : Index := 0#32
    let c0_97 : Index := 0#32
    let v132 : Vec Ideal S1x256x128 .fp8e4m3 ← Prog.lift (.load A.arg19 (Rect.unit (s := S26x256x128) ![21, 0, 0] S1x256x128.size inb_S26x256x128_S1x256x128_21_0_0).toLoadRect (View.loadsAt_vmem h_S1x256x128))
    have v133 : FVec Ideal S256x128 .fp8e4m3 := shapeCast S256x128 v132 shapeCasts_S1x256x128_S256x128
    let c0_98 : Index := 0#32
    let c2688 : Index := 2688#32
    let v134 : Vec Ideal S256x128 .fp8e4m3 ← Prog.lift (.load A.arg6 (Rect.unit (s := S256x3328) ![0, 2688] S256x128.size inb_S256x3328_S256x128_0_2688).toLoadRect (View.loadsAt_vmem h_S256x128))
    Prog.lift (.store A.arg6 (Rect.unit (s := S256x3328) ![0, 2688] S256x128.size inb_S256x3328_S256x128_0_2688) v133 Finset.univ (View.stores_vmem h_S256x128 (A.harg6.storeExact_slice rfl _ packedfp8e4m3_S256x3328_S256x128_0_2688) (fun _ => rfl)) (.inl rfl))
    let c22 : Index := 22#32
    let c0_99 : Index := 0#32
    let c0_100 : Index := 0#32
    let v135 : Vec Ideal S1x256x128 .fp8e4m3 ← Prog.lift (.load A.arg19 (Rect.unit (s := S26x256x128) ![22, 0, 0] S1x256x128.size inb_S26x256x128_S1x256x128_22_0_0).toLoadRect (View.loadsAt_vmem h_S1x256x128))
    have v136 : FVec Ideal S256x128 .fp8e4m3 := shapeCast S256x128 v135 shapeCasts_S1x256x128_S256x128
    let c0_101 : Index := 0#32
    let c2816 : Index := 2816#32
    let v137 : Vec Ideal S256x128 .fp8e4m3 ← Prog.lift (.load A.arg6 (Rect.unit (s := S256x3328) ![0, 2816] S256x128.size inb_S256x3328_S256x128_0_2816).toLoadRect (View.loadsAt_vmem h_S256x128))
    Prog.lift (.store A.arg6 (Rect.unit (s := S256x3328) ![0, 2816] S256x128.size inb_S256x3328_S256x128_0_2816) v136 Finset.univ (View.stores_vmem h_S256x128 (A.harg6.storeExact_slice rfl _ packedfp8e4m3_S256x3328_S256x128_0_2816) (fun _ => rfl)) (.inl rfl))
    let c23 : Index := 23#32
    let c0_102 : Index := 0#32
    let c0_103 : Index := 0#32
    let v138 : Vec Ideal S1x256x128 .fp8e4m3 ← Prog.lift (.load A.arg19 (Rect.unit (s := S26x256x128) ![23, 0, 0] S1x256x128.size inb_S26x256x128_S1x256x128_23_0_0).toLoadRect (View.loadsAt_vmem h_S1x256x128))
    have v139 : FVec Ideal S256x128 .fp8e4m3 := shapeCast S256x128 v138 shapeCasts_S1x256x128_S256x128
    let c0_104 : Index := 0#32
    let c2944 : Index := 2944#32
    let v140 : Vec Ideal S256x128 .fp8e4m3 ← Prog.lift (.load A.arg6 (Rect.unit (s := S256x3328) ![0, 2944] S256x128.size inb_S256x3328_S256x128_0_2944).toLoadRect (View.loadsAt_vmem h_S256x128))
    Prog.lift (.store A.arg6 (Rect.unit (s := S256x3328) ![0, 2944] S256x128.size inb_S256x3328_S256x128_0_2944) v139 Finset.univ (View.stores_vmem h_S256x128 (A.harg6.storeExact_slice rfl _ packedfp8e4m3_S256x3328_S256x128_0_2944) (fun _ => rfl)) (.inl rfl))
    let c24 : Index := 24#32
    let c0_105 : Index := 0#32
    let c0_106 : Index := 0#32
    let v141 : Vec Ideal S1x256x128 .fp8e4m3 ← Prog.lift (.load A.arg19 (Rect.unit (s := S26x256x128) ![24, 0, 0] S1x256x128.size inb_S26x256x128_S1x256x128_24_0_0).toLoadRect (View.loadsAt_vmem h_S1x256x128))
    have v142 : FVec Ideal S256x128 .fp8e4m3 := shapeCast S256x128 v141 shapeCasts_S1x256x128_S256x128
    let c0_107 : Index := 0#32
    let c3072 : Index := 3072#32
    let v143 : Vec Ideal S256x128 .fp8e4m3 ← Prog.lift (.load A.arg6 (Rect.unit (s := S256x3328) ![0, 3072] S256x128.size inb_S256x3328_S256x128_0_3072).toLoadRect (View.loadsAt_vmem h_S256x128))
    Prog.lift (.store A.arg6 (Rect.unit (s := S256x3328) ![0, 3072] S256x128.size inb_S256x3328_S256x128_0_3072) v142 Finset.univ (View.stores_vmem h_S256x128 (A.harg6.storeExact_slice rfl _ packedfp8e4m3_S256x3328_S256x128_0_3072) (fun _ => rfl)) (.inl rfl))
    let c25 : Index := 25#32
    let c0_108 : Index := 0#32
    let c0_109 : Index := 0#32
    let v144 : Vec Ideal S1x256x128 .fp8e4m3 ← Prog.lift (.load A.arg19 (Rect.unit (s := S26x256x128) ![25, 0, 0] S1x256x128.size inb_S26x256x128_S1x256x128_25_0_0).toLoadRect (View.loadsAt_vmem h_S1x256x128))
    have v145 : FVec Ideal S256x128 .fp8e4m3 := shapeCast S256x128 v144 shapeCasts_S1x256x128_S256x128
    let c0_110 : Index := 0#32
    let c3200 : Index := 3200#32
    let v146 : Vec Ideal S256x128 .fp8e4m3 ← Prog.lift (.load A.arg6 (Rect.unit (s := S256x3328) ![0, 3200] S256x128.size inb_S256x3328_S256x128_0_3200).toLoadRect (View.loadsAt_vmem h_S256x128))
    Prog.lift (.store A.arg6 (Rect.unit (s := S256x3328) ![0, 3200] S256x128.size inb_S256x3328_S256x128_0_3200) v145 Finset.univ (View.stores_vmem h_S256x128 (A.harg6.storeExact_slice rfl _ packedfp8e4m3_S256x3328_S256x128_0_3200) (fun _ => rfl)) (.inl rfl))
    pure ⟨⟩
  else do
    pure ⟨⟩
  let c256_i32 : BitVec 32 := 256#32
  let v63 : BitVec 32 := Scalar.muli arg0 c256_i32
  let c0_29 : Index := 0#32
  let v64 : Elt Ideal .i32 ← smemLoad A.arg21 (Rect.unit (s := S1) ![0] S1.size inb_S1_S1_0) numel1_S1 rfl
  pure ⟨v43, v64⟩

/-- The scales as row pairs over all lanes. -/
def scalesV (v : FVec Ideal S1x1x256 .f32) : FVec Ideal S128x2x128 .bf16 :=
  pack (truncf .bf16 (rowsV (shapeCast S1x256 v shapeCasts_S1x1x256_S1x256)) bitsLt_bf16_f32)

theorem trunc_apply (v : FVec Ideal S256x128 .f32) (j : S256x128.Idx) : truncf .bf16 v bitsLt_bf16_f32 j = v j := rfl

theorem scalesV_apply (v : FVec Ideal S1x1x256 .f32) (a : Fin 128) (b : Fin 2) (l : Fin 128) :
    scalesV v (ix3 a b l) = v (ix3 0 0 ⟨2 * a.val + b.val, by omega⟩) := by
  unfold scalesV
  rw [pack_apply]
  rw [trunc_apply, rowsV_apply]
  pointwise

/-- The copied tail: it moves to the next block, and on the slow path it copies the codes put aside. -/
theorem tail_runs (A : Bufs L) (i : grid0.Coords) (P : Par) (arg0 : BitVec 32) (v43 : BitVec 1) (h : Pre A P σ)
    (hinv : ∀ (a : Fin 256) (l : Fin 128), rd A.arg18 σ (ix2 a l) = P.inv a) (hY : Scalar.cmpi .ne (Scalar.extui v43) (0#32 : BitVec 32) = 1#1 →
      ∀ (t : Fin 26) (a : Fin 256) (l : Fin 128), rd A.arg19 σ (ix3 t a l) = Y a (t.val * 128 + l)) :
    Runs U defs₀ 𝒱₀ c bd L σ (tail A i arg0 v43) (fun r σ' => Nxt A P σ'
      ∧ (∀ b, b ≠ A.arg6.view.ref → b ≠ A.arg10.view.ref → b ≠ A.arg11.view.ref → b ≠ A.arg12.view.ref → b ≠ A.arg13.view.ref → b ≠ A.arg17.view.ref → σ' b = σ b)
      ∧ r.2 = A.arg21.view.readAt (Elt Ideal) (Rect.unit (s := S1) ![0] S1.size inb_S1_S1_0).toLoadRect (σ A.arg21.view.ref) (Shape.Idx.first (numel1_S1.symm ▸ Nat.one_pos))
      ∧ (∀ (a : Fin 256) (b : Fin 3328), rd A.arg6 σ' (ix2 a b) = if Scalar.cmpi .ne (Scalar.extui v43) (0#32 : BitVec 32) = 1#1 then Y a b else encE (P.z0 a b) (P.inv a))) := by
  have ne : ∀ {i j : Fin 21}, i ≠ j → _ := fun {i j} hij => A.inj.ne hij
  unfold tail
  refine Runs.loadw A.h3 fun (v46 : Vec Ideal S1x1x256 .f32) h46 => ?_
  refine Runs.loada A.h17 fun _ => ?_
  refine Runs.storew A.h17 fun σ1 hf1 h17 => ?_
  refine Runs.loada A.h13 fun _ => ?_
  refine Runs.storew A.h13 fun σ2 hf2 h13 => ?_
  have e17 : rd A.arg17 σ1 = scalesV v46 := h17.trans (put3_full _ _)
  have e13 : rd A.arg13 σ2 = broadcast S256x128 (Ideal.ofBits .f32 0xFF800000#32) := h13.trans (put2_full _ _)
  have hf : ∀ b, b ≠ A.arg13.view.ref → b ≠ A.arg17.view.ref → σ2 b = σ b := fun b h h' => (hf2 b h).trans (hf1 b h')
  have hJ : J A P σ2 0 (Cnt.at 0) σ2 := by
    unfold Cnt.at
    refine ⟨fun a b hb => absurd hb (Nat.not_lt_zero _), fun a l => ?_, fun a b l hb => absurd hb (Nat.not_lt_zero _), fun a b l hb => absurd hb (Nat.not_lt_zero _), fun a b l _ _ => ?_,
      fun a l hb => absurd hb (Nat.not_lt_zero _), fun a l hb => absurd hb (Nat.not_lt_zero _), fun a l _ _ => ?_, fun a l => ?_, ⟨?_, ?_, ?_, ?_, ?_⟩, fun _ _ _ _ _ _ => rfl⟩
    · rw [rd_congr A.arg12 (hf _ (ne (i := 11) (j := 12) (by decide)) (ne (i := 11) (j := 16) (by decide))), if_neg (by simp only []; omega)]; exact h.z a l
    · rw [rd_congr A.arg10 (hf _ (ne (i := 9) (j := 12) (by decide)) (ne (i := 9) (j := 16) (by decide)))]; exact h.e a b l
    · rw [rd_congr A.arg11 (hf _ (ne (i := 10) (j := 12) (by decide)) (ne (i := 10) (j := 16) (by decide)))]; exact h.b a l
    · rw [e13, if_neg (by simp)]; exact neg_inf
    · rw [rd_congr A.arg2 (hf _ (ne (i := 1) (j := 12) (by decide)) (ne (i := 1) (j := 16) (by decide)))]; exact h.x
    · rw [rd_congr A.arg14 (hf _ (ne (i := 13) (j := 12) (by decide)) (ne (i := 13) (j := 16) (by decide)))]; exact h.rhs
    · rw [rd_congr A.arg15 (hf _ (ne (i := 14) (j := 12) (by decide)) (ne (i := 14) (j := 16) (by decide)))]; exact h.bias
    · intro a b l
      rw [rd_congr A.arg17 (hf2 _ (ne (i := 16) (j := 12) (by decide))), e17, scalesV_apply]
      refine (h46 (ix3 0 0 _)).trans ?_
      exact (congrArg (rd A.arg3 σ) (emb3_full _ _ _ _)).trans (h.sc _)
    · rw [rd_congr A.arg18 (hf _ (ne (i := 17) (j := 12) (by decide)) (ne (i := 17) (j := 16) (by decide)))]; exact hinv
  refine Runs.for (fun k (_ : PUnit) σ' => J A P σ2 k (Cnt.at k) σ') hJ (fun j _ σ' hJ => tile_trip A i j hJ) (fun _ σ3 hJ3 => ?_)
  have hJ3 : J A P σ2 13 (Cnt.at 13) σ3 := hJ3
  have hN : Nxt A P σ3 := by
    unfold Cnt.at at hJ3
    refine ⟨fun a l => ?_, fun a b l hm => ?_, fun a l hm => ?_, fun a l => ?_⟩
    · rw [hJ3.z, if_pos (by omega)]
    · rw [hJ3.e1 _ _ _ (by simp only []; omega)]; exact congrArg₂ P.ex (by omega) rfl
    · rw [hJ3.b1 _ _ (by simp only []; omega)]; exact congrArg₂ P.bx (by omega) rfl
    · rw [hJ3.m, if_neg (by simp)]
  have hfr : ∀ b, b ≠ A.arg6.view.ref → b ≠ A.arg10.view.ref → b ≠ A.arg11.view.ref → b ≠ A.arg12.view.ref → b ≠ A.arg13.view.ref → b ≠ A.arg17.view.ref → σ3 b = σ b :=
    fun b h6 h10 h11 h12 h13 h17 => (hJ3.fr b h6 h10 h11 h12 h13).trans (hf b h13 h17)
  refine Runs.ite (fun hc => ?_) fun hc => ?_
  · have h19 := rd_congr A.arg19 (hfr _ (ne (i := 18) (j := 5) (by decide)) (ne (i := 18) (j := 9) (by decide)) (ne (i := 18) (j := 10) (by decide)) (ne (i := 18) (j := 11) (by decide)) (ne (i := 18) (j := 12) (by decide)) (ne (i := 18) (j := 16) (by decide)))
    have hC : Cp A Y σ3 0 σ3 := ⟨fun _ _ hb => absurd hb (Nat.not_lt_zero _), by rw [h19]; exact hY hc, fun _ _ => rfl⟩
    refine Runs.bind' ?_
    unfold k0_part75
    refine Cp.load hC 0 (by decide) fun v0 h0 => ?_
    refine Runs.loada A.h6 fun _ => ?_
    refine Cp.store 0 hC rfl (by decide) h0 fun σ' hC => ?_
    refine Cp.load hC 1 (by decide) fun v1 h1 => ?_
    refine Runs.loada A.h6 fun _ => ?_
    refine Cp.store 1 hC rfl (by decide) h1 fun σ' hC => ?_
    refine Cp.load hC 2 (by decide) fun v2 h2 => ?_
    refine Runs.loada A.h6 fun _ => ?_
    refine Cp.store 2 hC rfl (by decide) h2 fun σ' hC => ?_
    refine Cp.load hC 3 (by decide) fun v3 h3 => ?_
    refine Runs.loada A.h6 fun _ => ?_
    refine Cp.store 3 hC rfl (by decide) h3 fun σ' hC => ?_
    refine Cp.load hC 4 (by decide) fun v4 h4 => ?_
    refine Runs.loada A.h6 fun _ => ?_
    refine Cp.store 4 hC rfl (by decide) h4 fun σ' hC => ?_
    refine Cp.load hC 5 (by decide) fun v5 h5 => ?_
    refine Runs.loada A.h6 fun _ => ?_
    refine Cp.store 5 hC rfl (by decide) h5 fun σ' hC => ?_
    refine Cp.load hC 6 (by decide) fun v6 h6 => ?_
    refine Runs.ret ?_
    refine Runs.bind' ?_
    unfold k0_part76
    refine Runs.loada A.h6 fun _ => ?_
    refine Cp.store 6 hC rfl (by decide) h6 fun σ' hC => ?_
    refine Cp.load hC 7 (by decide) fun v7 h7 => ?_
    refine Runs.loada A.h6 fun _ => ?_
    refine Cp.store 7 hC rfl (by decide) h7 fun σ' hC => ?_
    refine Cp.load hC 8 (by decide) fun v8 h8 => ?_
    refine Runs.loada A.h6 fun _ => ?_
    refine Cp.store 8 hC rfl (by decide) h8 fun σ' hC => ?_
    refine Cp.load hC 9 (by decide) fun v9 h9 => ?_
    refine Runs.loada A.h6 fun _ => ?_
    refine Cp.store 9 hC rfl (by decide) h9 fun σ' hC => ?_
    refine Cp.load hC 10 (by decide) fun v10 h10 => ?_
    refine Runs.loada A.h6 fun _ => ?_
    refine Cp.store 10 hC rfl (by decide) h10 fun σ' hC => ?_
    refine Cp.load hC 11 (by decide) fun v11 h11 => ?_
    refine Runs.loada A.h6 fun _ => ?_
    refine Cp.store 11 hC rfl (by decide) h11 fun σ' hC => ?_
    refine Cp.load hC 12 (by decide) fun v12 h12 => ?_
    refine Runs.loada A.h6 fun _ => ?_
    refine Cp.store 12 hC rfl (by decide) h12 fun σ' hC => ?_
    refine Runs.ret ?_
    refine Runs.bind' ?_
    unfold k0_part77
    refine Cp.load hC 13 (by decide) fun v13 h13 => ?_
    refine Runs.loada A.h6 fun _ => ?_
    refine Cp.store 13 hC rfl (by decide) h13 fun σ' hC => ?_
    refine Cp.load hC 14 (by decide) fun v14 h14 => ?_
    refine Runs.loada A.h6 fun _ => ?_
    refine Cp.store 14 hC rfl (by decide) h14 fun σ' hC => ?_
    refine Cp.load hC 15 (by decide) fun v15 h15 => ?_
    refine Runs.loada A.h6 fun _ => ?_
    refine Cp.store 15 hC rfl (by decide) h15 fun σ' hC => ?_
    refine Cp.load hC 16 (by decide) fun v16 h16 => ?_
    refine Runs.loada A.h6 fun _ => ?_
    refine Cp.store 16 hC rfl (by decide) h16 fun σ' hC => ?_
    refine Cp.load hC 17 (by decide) fun v17 h17 => ?_
    refine Runs.loada A.h6 fun _ => ?_
    refine Cp.store 17 hC rfl (by decide) h17 fun σ' hC => ?_
    refine Cp.load hC 18 (by decide) fun v18 h18 => ?_
    refine Runs.loada A.h6 fun _ => ?_
    refine Cp.store 18 hC rfl (by decide) h18 fun σ' hC => ?_
    refine Cp.load hC 19 (by decide) fun v19 h19 => ?_
    refine Runs.loada A.h6 fun _ => ?_
    refine Cp.store 19 hC rfl (by decide) h19 fun σ' hC => ?_
    refine Runs.ret ?_
    refine Cp.load hC 20 (by decide) fun v20 h20 => ?_
    refine Runs.loada A.h6 fun _ => ?_
    refine Cp.store 20 hC rfl (by decide) h20 fun σ' hC => ?_
    refine Cp.load hC 21 (by decide) fun v21 h21 => ?_
    refine Runs.loada A.h6 fun _ => ?_
    refine Cp.store 21 hC rfl (by decide) h21 fun σ' hC => ?_
    refine Cp.load hC 22 (by decide) fun v22 h22 => ?_
    refine Runs.loada A.h6 fun _ => ?_
    refine Cp.store 22 hC rfl (by decide) h22 fun σ' hC => ?_
    refine Cp.load hC 23 (by decide) fun v23 h23 => ?_
    refine Runs.loada A.h6 fun _ => ?_
    refine Cp.store 23 hC rfl (by decide) h23 fun σ' hC => ?_
    refine Cp.load hC 24 (by decide) fun v24 h24 => ?_
    refine Runs.loada A.h6 fun _ => ?_
    refine Cp.store 24 hC rfl (by decide) h24 fun σ' hC => ?_
    refine Cp.load hC 25 (by decide) fun v25 h25 => ?_
    refine Runs.loada A.h6 fun _ => ?_
    refine Cp.store 25 hC rfl (by decide) h25 fun σ' hC => ?_
    refine Runs.smem A.h21 ?_
    refine Runs.ret ⟨hN.congr hC.fr, fun b h6 h10 h11 h12 h13 h17 => (hC.fr b h6).trans (hfr b h6 h10 h11 h12 h13 h17), ?_, fun a b => ?_⟩
    · rw [hC.fr A.arg21.view.ref (ne (i := 20) (j := 5) (by decide)), hfr A.arg21.view.ref (ne (i := 20) (j := 5) (by decide)) (ne (i := 20) (j := 9) (by decide)) (ne (i := 20) (j := 10) (by decide)) (ne (i := 20) (j := 11) (by decide)) (ne (i := 20) (j := 12) (by decide)) (ne (i := 20) (j := 16) (by decide))]
    · rw [if_pos hc]
      exact hC.y a b (by omega)
  · refine Runs.smem A.h21 ?_
    refine Runs.ret ⟨hN, hfr, ?_, fun a b => ?_⟩
    · rw [hfr A.arg21.view.ref (ne (i := 20) (j := 5) (by decide)) (ne (i := 20) (j := 9) (by decide)) (ne (i := 20) (j := 10) (by decide)) (ne (i := 20) (j := 11) (by decide)) (ne (i := 20) (j := 12) (by decide)) (ne (i := 20) (j := 16) (by decide))]
    · rw [if_neg hc]
      exact hJ3.y a b (by simp only [Cnt.at]; omega)

theorem slow_word : ∀ v : BitVec 1, Scalar.cmpi .ne (Scalar.extui v) (0#32 : BitVec 32) = 1#1 ↔ v = 1#1 := by decide

theorem Pre.congr {P : Par} {σ' : St sig (Elt Ideal)} (h : Pre A P σ) (hf : ∀ b, b ≠ A.arg7.view.ref → b ≠ A.arg18.view.ref → b ≠ A.arg19.view.ref → σ' b = σ b) : Pre A P σ' := by
  have ne : ∀ {i j : Fin 21}, i ≠ j → _ := fun {i j} hij => A.inj.ne hij
  refine ⟨?_, ?_, ?_, ?_, ?_, ?_, ?_⟩
  · rw [rd_congr A.arg12 (hf _ (ne (i := 11) (j := 6) (by decide)) (ne (i := 11) (j := 17) (by decide)) (ne (i := 11) (j := 18) (by decide)))]; exact h.z
  · rw [rd_congr A.arg10 (hf _ (ne (i := 9) (j := 6) (by decide)) (ne (i := 9) (j := 17) (by decide)) (ne (i := 9) (j := 18) (by decide)))]; exact h.e
  · rw [rd_congr A.arg11 (hf _ (ne (i := 10) (j := 6) (by decide)) (ne (i := 10) (j := 17) (by decide)) (ne (i := 10) (j := 18) (by decide)))]; exact h.b
  · rw [rd_congr A.arg2 (hf _ (ne (i := 1) (j := 6) (by decide)) (ne (i := 1) (j := 17) (by decide)) (ne (i := 1) (j := 18) (by decide)))]; exact h.x
  · rw [rd_congr A.arg14 (hf _ (ne (i := 13) (j := 6) (by decide)) (ne (i := 13) (j := 17) (by decide)) (ne (i := 13) (j := 18) (by decide)))]; exact h.rhs
  · rw [rd_congr A.arg15 (hf _ (ne (i := 14) (j := 6) (by decide)) (ne (i := 14) (j := 17) (by decide)) (ne (i := 14) (j := 18) (by decide)))]; exact h.bias
  · rw [rd_congr A.arg3 (hf _ (ne (i := 2) (j := 6) (by decide)) (ne (i := 2) (j := 17) (by decide)) (ne (i := 2) (j := 18) (by decide)))]; exact h.sc

/-- The second half of the body: the block before is quantised, by its exact scale if some row's greatest output is below
    three quarters and by the scale found before if none is, and the new block's outputs take its place. -/
theorem part134_runs (A : Bufs L) (i : grid0.Coords) (P : Par) (arg0 : BitVec 32) (v6 : FVec Ideal S1x256 .f32) (v35 : FVec Ideal S256x128 .f32) (h : Pre A P σ)
    (hinv : ∀ (a : Fin 256) (l : Fin 128), v35 (ix2 a l) = P.inv a) :
    Runs U defs₀ 𝒱₀ c bd L σ (k0_part134 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 arg0 v6 v35) (fun r σ' => Nxt A P σ'
      ∧ (∀ b, b ≠ A.arg6.view.ref → b ≠ A.arg7.view.ref → b ≠ A.arg10.view.ref → b ≠ A.arg11.view.ref → b ≠ A.arg12.view.ref → b ≠ A.arg13.view.ref → b ≠ A.arg17.view.ref → b ≠ A.arg18.view.ref → b ≠ A.arg19.view.ref → σ' b = σ b)
      ∧ r.2 = A.arg21.view.readAt (Elt Ideal) (Rect.unit (s := S1) ![0] S1.size inb_S1_S1_0).toLoadRect (σ A.arg21.view.ref) (Shape.Idx.first (numel1_S1.symm ▸ Nat.one_pos))
      ∧ (((∀ a, rd A.arg7 σ' (ix3 0 0 a) = scE (amax P.z0 a)) ∧ ∀ (a : Fin 256) (b : Fin 3328), rd A.arg6 σ' (ix2 a b) = encE (P.z0 a b) (invE (amax P.z0 a)))
        ∨ ((∀ a, ((3 / 4 : ℝ) : EReal) ≤ v6 (ix2 0 a)) ∧ rd A.arg7 σ' = rd A.arg7 σ ∧ ∀ (a : Fin 256) (b : Fin 3328), rd A.arg6 σ' (ix2 a b) = encE (P.z0 a b) (P.inv a)))) := by
  have ne : ∀ {i j : Fin 21}, i ≠ j → _ := fun {i j} hij => A.inj.ne hij
  unfold k0_part134
  refine Runs.loada A.h18 fun _ => ?_
  refine Runs.storew A.h18 fun σ1 hf1 h18 => ?_
  have e18 : rd A.arg18 σ1 = v35 := h18.trans ((put2_full _ _).trans (shapeCast_id _ _))
  have h1 : Pre A P σ1 := h.congr fun b _ h' _ => hf1 b h'
  have hi1 : ∀ (a : Fin 256) (l : Fin 128), rd A.arg18 σ1 (ix2 a l) = P.inv a := by rw [e18]; exact hinv
  refine Runs.ite (fun hc => ?_) fun hc => ?_
  · refine Runs.bind (slow_runs A i P.z0 h1.z) fun _ σ2 hs => ?_
    refine Runs.mono (tail_runs (Y := fun a b => encE (P.z0 a b) (invE (amax P.z0 a))) A i P arg0 (Scalar.cmpf .olt (minV v6) (Scalar.ofBits .f32 0x3F400000#32))
      (h1.congr fun b h7 _ h19 => hs.2.2 b h7 h19)
      (by rw [rd_congr A.arg18 (hs.2.2 _ (ne (i := 17) (j := 6) (by decide)) (ne (i := 17) (j := 18) (by decide)))]; exact hi1) (fun _ => hs.2.1)) fun r σ3 h3 => ?_
    have h7 := rd_congr A.arg7 (h3.2.1 _ (ne (i := 6) (j := 5) (by decide)) (ne (i := 6) (j := 9) (by decide)) (ne (i := 6) (j := 10) (by decide)) (ne (i := 6) (j := 11) (by decide)) (ne (i := 6) (j := 12) (by decide)) (ne (i := 6) (j := 16) (by decide)))
    refine ⟨h3.1, fun b b6 b7 b10 b11 b12 b13 b17 b18 b19 => (h3.2.1 b b6 b10 b11 b12 b13 b17).trans ((hs.2.2 b b7 b19).trans (hf1 b b18)), ?_, .inl ⟨?_, fun a b => ?_⟩⟩
    · rw [h3.2.2.1, hs.2.2 A.arg21.view.ref (ne (i := 20) (j := 6) (by decide)) (ne (i := 20) (j := 18) (by decide)), hf1 A.arg21.view.ref (ne (i := 20) (j := 17) (by decide))]
    · rw [h7]; exact hs.1
    · exact (h3.2.2.2 a b).trans (if_pos hc)
  · refine Runs.mono (tail_runs (Y := fun a b => 0) A i P arg0 (Scalar.cmpf .olt (minV v6) (Scalar.ofBits .f32 0x3F400000#32)) h1 hi1 (fun e => absurd e hc)) fun r σ3 h3 => ?_
    have h7 := rd_congr A.arg7 (h3.2.1 _ (ne (i := 6) (j := 5) (by decide)) (ne (i := 6) (j := 9) (by decide)) (ne (i := 6) (j := 10) (by decide)) (ne (i := 6) (j := 11) (by decide)) (ne (i := 6) (j := 12) (by decide)) (ne (i := 6) (j := 16) (by decide)))
    refine ⟨h3.1, fun b b6 b7 b10 b11 b12 b13 b17 b18 b19 => (h3.2.1 b b6 b10 b11 b12 b13 b17).trans (hf1 b b18), ?_, .inr ⟨fun a => ?_, ?_, fun a b => ?_⟩⟩
    · rw [h3.2.2.1, hf1 A.arg21.view.ref (ne (i := 20) (j := 17) (by decide))]
    · rw [← three_quarters]
      refine le_trans (not_lt.1 fun hl => ?_) (minV_le v6 a)
      exact hc ((slow_word _).2 ((cmp_olt _ _).2 hl))
    · rw [h7, rd_congr A.arg7 (hf1 _ (ne (i := 6) (j := 17) (by decide)))]
    · exact (h3.2.2.2 a b).trans (if_neg hc)

end Cert.Proof.KernelIdeal
-- ==== Proof.KernelIdeal.Init.lean ====
/-
  The first point's part: the filter's taps laid out on the diagonals of the tiles' matrices, the bias, the pointer.
-/
module

public import proofs.«01_k».proof.Proof.KernelIdeal.Second

@[expose] public section

set_option maxRecDepth 8000
set_option maxHeartbeats 400000

noncomputable section

namespace Cert.Proof.KernelIdeal

open Cert.KernelIdeal Cert.KernelIdeal.Gen Cert.Proof.Hoare Cert.Proof.Quant

open Idealize.ShloMosaic Idealize.SL.Sem Idealize.SL.RA

variable {U : Type} [URA U] {c : Dev nD} {bd : Option 𝒱₀.V} {L : Finset (Ref sig .tc)} {σ : St sig (Elt Ideal)}

variable {α : Type} {Q : α → St sig (Elt Ideal) → Prop}

/-- The filter and the bias as the two arrays hold them. -/
structure Src (A : Bufs L) (w : ℕ → ℕ → EReal) (bias : ℕ → EReal) (σ : St sig (Elt Ideal)) : Prop where
  w : ∀ (k : Fin 4) (b : Fin 3328), rd A.arg4 σ (ix2 k b) = w k b
  bias : ∀ b : Fin 3328, rd A.arg5 σ (ix2 0 b) = bias b

/-- How far the layout has come. -/
structure T (A : Bufs L) (w : ℕ → ℕ → EReal) (bias : ℕ → EReal) (σ0 : St sig (Elt Ideal)) (n m : ℕ) (σ : St sig (Elt Ideal)) : Prop where
  src : Src A w bias σ
  rhs : ∀ (t : Fin 26) (k n' : Fin 256), 4 * t.val + (3 - 2 * (k.val / 128) - n'.val / 128) < n → rd A.arg14 σ (ix3 t k n')
    = if k.val % 128 = n'.val % 128 then w (3 - 2 * (k.val / 128) - n'.val / 128) (t.val * 128 + n'.val % 128) else 0
  bias : ∀ (t : Fin 26) (s : Fin 8) (l : Fin 128), t.val < m → rd A.arg15 σ (ix3 t s l) = bias (t.val * 128 + l.val)
  ptr : ∀ x, rd A.arg21 σ x = 0#32
  fr : ∀ b, b ≠ A.arg13.view.ref → b ≠ A.arg14.view.ref → b ≠ A.arg15.view.ref → b ≠ A.arg16.view.ref → b ≠ A.arg21.view.ref → σ b = σ0 b

variable {A : Bufs L} {w : ℕ → ℕ → EReal} {bias : ℕ → EReal} {σ0 : St sig (Elt Ideal)} {n m : ℕ}

theorem Src.congr {σ' : St sig (Elt Ideal)} (h : Src A w bias σ) (h4 : σ' A.arg4.view.ref = σ A.arg4.view.ref) (h5 : σ' A.arg5.view.ref = σ A.arg5.view.ref) : Src A w bias σ' :=
  ⟨by rw [rd_congr A.arg4 h4]; exact h.w, by rw [rd_congr A.arg5 h5]; exact h.bias⟩

/-- One row of the filter or the bias. -/
def rowV (v : FVec Ideal S1x128 .bf16) : FVec Ideal S1x128 .f32 := extf .f32 (shapeCast S1x128 v shapeCasts_S1x128_S1x128) bitsLt_bf16_f32

theorem rowV_apply (v : FVec Ideal S1x128 .bf16) (j : S1x128.Idx) : rowV v j = v j := by
  unfold rowV
  rw [shapeCast_id]
  rfl

theorem T.wload (hT : T A w bias σ0 n m σ) (t : ℕ) (ht : t < 26) (k : ℕ) (hk : k < 4) {o : ℕ} (ho : o = t * 128)
    {inb : ∀ a, ![k, o] a + S1x128.size a ≤ S4x3328.size a} {hl} {kk : ((Rect.unit (s := S4x3328) ![k, o] S1x128.size inb).shape.Idx → Elt Ideal .bf16) → Prog (TpuEff nD τ sig (Elt Ideal) (Λ₀ Ideal) .tc) α}
    (h : ∀ v : Vec Ideal S1x128 .bf16, (∀ l : Fin 128, rowV v (ix2 0 l) = w k (t * 128 + l)) → Runs U defs₀ 𝒱₀ c bd L σ (kk v) Q) :
    Runs U defs₀ 𝒱₀ c bd L σ (Prog.lift (.load A.arg4 (Rect.unit (s := S4x3328) ![k, o] S1x128.size inb).toLoadRect hl) >>= kk) Q := by
  subst ho
  refine Runs.loadw A.h4 fun v hv => h v fun l => ?_
  rw [rowV_apply]
  refine (hv (ix2 0 l)).trans ?_
  rw [emb2]
  exact hT.src.w ⟨k, hk⟩ ⟨t * 128 + l.val, by omega⟩

theorem T.bload (hT : T A w bias σ0 n m σ) (t : ℕ) (ht : t < 26) {o : ℕ} (ho : o = t * 128)
    {inb : ∀ a, ![0, o] a + S1x128.size a ≤ S1x3328.size a} {hl} {kk : ((Rect.unit (s := S1x3328) ![0, o] S1x128.size inb).shape.Idx → Elt Ideal .bf16) → Prog (TpuEff nD τ sig (Elt Ideal) (Λ₀ Ideal) .tc) α}
    (h : ∀ v : Vec Ideal S1x128 .bf16, (∀ l : Fin 128, rowV v (ix2 0 l) = bias (t * 128 + l)) → Runs U defs₀ 𝒱₀ c bd L σ (kk v) Q) :
    Runs U defs₀ 𝒱₀ c bd L σ (Prog.lift (.load A.arg5 (Rect.unit (s := S1x3328) ![0, o] S1x128.size inb).toLoadRect hl) >>= kk) Q := by
  subst ho
  refine Runs.loadw A.h5 fun v hv => h v fun l => ?_
  rw [rowV_apply]
  refine (hv (ix2 0 l)).trans ?_
  rw [emb2]
  exact hT.src.bias ⟨t * 128 + l.val, by omega⟩

/-- A row laid out on a diagonal. -/
def diagV (x : FVec Ideal S1x128 .f32) : FVec Ideal S1x128x128 .bf16 :=
  shapeCast S1x128x128 (truncf .bf16 (select (cmpi .eq (iota .tc S128x128 32 [0] iota_S128x128_d0_w32) (iota .tc S128x128 32 [1] iota_S128x128_d1_w32))
    (broadcastTo S128x128 (shapeCast S1x128 x shapeCasts_S1x128_S1x128) broadcasts_S1x128_S128x128) (broadcast S128x128 (Scalar.ofBits .f32 0x00000000#32))) bitsLt_bf16_f32)
    shapeCasts_S128x128_S1x128x128

theorem diagV_apply (x : FVec Ideal S1x128 .f32) (k l : Fin 128) : diagV x (ix3 0 k l) = if k = l then x (ix2 0 l) else 0 := by
  unfold diagV
  pointwise
  have key : ∀ k l : Fin 128, IntOp.cmpi CmpIPredicate.eq (BitVec.ofNat 32 k.val) (BitVec.ofNat 32 l.val) = if k = l then 1#1 else 0#1 := by decide +kernel
  rw [key]
  split
  · exact if_pos rfl
  · exact if_neg (by decide)

/-- A row over eight rows. -/
def eightV (x : FVec Ideal S1x128 .f32) : FVec Ideal S1x8x128 .f32 :=
  shapeCast S1x8x128 (broadcastTo S8x128 (shapeCast S1x128 x shapeCasts_S1x128_S1x128) broadcasts_S1x128_S8x128) shapeCasts_S8x128_S1x8x128

theorem eightV_apply (x : FVec Ideal S1x128 .f32) (s : Fin 8) (l : Fin 128) : eightV x (ix3 0 s l) = x (ix2 0 l) := by
  unfold eightV
  pointwise

theorem T.rstore (hT : T A w bias σ0 n m σ) (t q : ℕ) (ht : t < 26) (hq : q < 4) (hn : n = 4 * t + q) {p p' : ℕ} (hp : p = 128 * ((3 - q) / 2)) (hp' : p' = 128 * ((3 - q) % 2))
    {x : FVec Ideal S1x128 .f32} (hx : ∀ l : Fin 128, x (ix2 0 l) = w q (t * 128 + l))
    {inb : ∀ a, ![t, p, p'] a + S1x128x128.size a ≤ S26x256x256.size a}
    {hx' : (A.arg14.access (Rect.unit (s := S26x256x256) ![t, p, p'] S1x128x128.size inb)).Stores Finset.univ} {hu}
    {kk : PUnit → Prog (TpuEff nD τ sig (Elt Ideal) (Λ₀ Ideal) .tc) α}
    (h : ∀ σ', T A w bias σ0 (4 * t + q + 1) m σ' → Runs U defs₀ 𝒱₀ c bd L σ' (kk ⟨⟩) Q) :
    Runs U defs₀ 𝒱₀ c bd L σ (Prog.lift (.store A.arg14 (Rect.unit (s := S26x256x256) ![t, p, p'] S1x128x128.size inb) (diagV x) Finset.univ hx' hu) >>= kk) Q := by
  subst hp hp' hn
  have ne : ∀ {i j : Fin 21}, i ≠ j → _ := fun {i j} hij => A.inj.ne hij
  refine Runs.storew A.h14 fun σ' hf he => h σ' ⟨hT.src.congr (hf _ (ne (i := 3) (j := 13) (by decide))) (hf _ (ne (i := 4) (j := 13) (by decide))), fun t' k n' hn => ?_, ?_, ?_,
    fun b h13 h14 h15 h16 h21 => (hf b h14).trans (hT.fr b h13 h14 h15 h16 h21)⟩
  · rw [he, put3]
    by_cases e : 4 * t'.val + (3 - 2 * (k.val / 128) - n'.val / 128) = 4 * t + q
    · have et : t'.val = t := by omega
      rw [dif_pos ⟨⟨by omega, by omega⟩, ⟨by omega, by omega⟩, by omega, by omega⟩]
      refine (congrArg (diagV x) ((ix3_inj ..).2 ⟨Fin.ext (by simp only [Fin.val_zero]; omega), rfl, rfl⟩)).trans ((diagV_apply x ⟨k.val - 128 * ((3 - q) / 2), by omega⟩ ⟨n'.val - 128 * ((3 - q) % 2), by omega⟩).trans ?_)
      rw [hx]
      refine if_congr ⟨fun e => ?_, fun e => Fin.ext ?_⟩ (congrArg₂ w (by omega) (by simp only []; omega)) rfl
      · have := congrArg Fin.val e
        simp only [] at this
        omega
      · simp only []; omega
    · rw [dif_neg (by omega)]
      exact hT.rhs t' k n' (by omega)
  · rw [rd_congr A.arg15 (hf _ (ne (i := 14) (j := 13) (by decide)))]; exact hT.bias
  · rw [rd_congr A.arg21 (hf _ (ne (i := 20) (j := 13) (by decide)))]; exact hT.ptr

theorem T.bstore (hT : T A w bias σ0 n m σ) (t : ℕ) (ht : t < 26) (hm : m = t)
    {x : FVec Ideal S1x128 .f32} (hx : ∀ l : Fin 128, x (ix2 0 l) = bias (t * 128 + l))
    {inb : ∀ a, ![t, 0, 0] a + S1x8x128.size a ≤ S26x8x128.size a}
    {hx' : (A.arg15.access (Rect.unit (s := S26x8x128) ![t, 0, 0] S1x8x128.size inb)).Stores Finset.univ} {hu}
    {kk : PUnit → Prog (TpuEff nD τ sig (Elt Ideal) (Λ₀ Ideal) .tc) α}
    (h : ∀ σ', T A w bias σ0 n (t + 1) σ' → Runs U defs₀ 𝒱₀ c bd L σ' (kk ⟨⟩) Q) :
    Runs U defs₀ 𝒱₀ c bd L σ (Prog.lift (.store A.arg15 (Rect.unit (s := S26x8x128) ![t, 0, 0] S1x8x128.size inb) (eightV x) Finset.univ hx' hu) >>= kk) Q := by
  subst hm
  have ne : ∀ {i j : Fin 21}, i ≠ j → _ := fun {i j} hij => A.inj.ne hij
  refine Runs.storew A.h15 fun σ' hf he => h σ' ⟨hT.src.congr (hf _ (ne (i := 3) (j := 14) (by decide))) (hf _ (ne (i := 4) (j := 14) (by decide))), ?_, fun t' s l hn => ?_, ?_,
    fun b h13 h14 h15 h16 h21 => (hf b h15).trans (hT.fr b h13 h14 h15 h16 h21)⟩
  · rw [rd_congr A.arg14 (hf _ (ne (i := 13) (j := 14) (by decide)))]; exact hT.rhs
  · rw [he, put3]
    by_cases e : t'.val = m
    · rw [dif_pos ⟨⟨by omega, by omega⟩, ⟨by omega, by omega⟩, by omega, by omega⟩]
      refine (congrArg (eightV x) ((ix3_inj ..).2 ⟨Fin.ext (by simp only [Fin.val_zero]; omega), rfl, rfl⟩)).trans ((eightV_apply x ⟨s.val - 0, by omega⟩ ⟨l.val - 0, by omega⟩).trans ?_)
      rw [hx]
      exact congrArg bias (by simp only []; omega)
    · rw [dif_neg (by omega)]
      exact hT.bias t' s l (by omega)
  · rw [rd_congr A.arg21 (hf _ (ne (i := 20) (j := 14) (by decide)))]; exact hT.ptr

/-- A store into a buffer nothing is said of here. -/
theorem T.nstore (hT : T A w bias σ0 n m σ) {off : Fin 3 → ℕ}
    {inb : ∀ a, off a + S1x1x128.size a ≤ S5x26x128.size a} {v : (Rect.unit (s := S5x26x128) off S1x1x128.size inb).shape.Idx → Elt Ideal .f32}
    {hx' : (A.arg16.access (Rect.unit (s := S5x26x128) off S1x1x128.size inb)).Stores Finset.univ} {hu}
    {kk : PUnit → Prog (TpuEff nD τ sig (Elt Ideal) (Λ₀ Ideal) .tc) α}
    (h : ∀ σ', T A w bias σ0 n m σ' → Runs U defs₀ 𝒱₀ c bd L σ' (kk ⟨⟩) Q) :
    Runs U defs₀ 𝒱₀ c bd L σ (Prog.lift (.store A.arg16 (Rect.unit (s := S5x26x128) off S1x1x128.size inb) v Finset.univ hx' hu) >>= kk) Q := by
  have ne : ∀ {i j : Fin 21}, i ≠ j → _ := fun {i j} hij => A.inj.ne hij
  refine Runs.storew A.h16 fun σ' hf he => h σ' ⟨hT.src.congr (hf _ (ne (i := 3) (j := 15) (by decide))) (hf _ (ne (i := 4) (j := 15) (by decide))), ?_, ?_, ?_,
    fun b h13 h14 h15 h16 h21 => (hf b h16).trans (hT.fr b h13 h14 h15 h16 h21)⟩
  · rw [rd_congr A.arg14 (hf _ (ne (i := 13) (j := 15) (by decide)))]; exact hT.rhs
  · rw [rd_congr A.arg15 (hf _ (ne (i := 14) (j := 15) (by decide)))]; exact hT.bias
  · rw [rd_congr A.arg21 (hf _ (ne (i := 20) (j := 15) (by decide)))]; exact hT.ptr

theorem put1_full {α : Type} {m : ℕ} (x w : (⟨1, ![m]⟩ : Shape).Idx → α) : VecWindow.put (s := ⟨1, ![m]⟩) x ![0] ![m] w = w := by
  funext j
  unfold VecWindow.put
  rw [dif_pos (fun i => by fin_cases i; exact ⟨Nat.zero_le _, by have := (j 0).isLt; simp at this ⊢; omega⟩)]
  exact congrArg w (funext fun i => by fin_cases i; exact Fin.ext (Nat.sub_zero _))

theorem T.start {σ1 σ2 : St sig (Elt Ideal)} (h : Src A w bias σ) (hf1 : ∀ b, b ≠ A.arg21.view.ref → σ1 b = σ b)
    (h21 : rd A.arg21 σ1 = VecWindow.put (rd A.arg21 σ) ![0] S1.size fun _ => 0#32) (hf2 : ∀ b, b ≠ A.arg13.view.ref → σ2 b = σ1 b) : T A w bias σ 0 0 σ2 := by
  have ne : ∀ {i j : Fin 21}, i ≠ j → _ := fun {i j} hij => A.inj.ne hij
  refine ⟨(h.congr (hf1 _ (ne (i := 3) (j := 20) (by decide))) (hf1 _ (ne (i := 4) (j := 20) (by decide)))).congr (hf2 _ (ne (i := 3) (j := 12) (by decide))) (hf2 _ (ne (i := 4) (j := 12) (by decide))),
    fun _ _ _ hn => absurd hn (Nat.not_lt_zero _), fun _ _ _ hn => absurd hn (Nat.not_lt_zero _), fun x => ?_, fun b h13 _ _ _ h21 => (hf2 b h13).trans (hf1 b h21)⟩
  rw [rd_congr A.arg21 (hf2 _ (ne (i := 20) (j := 12) (by decide))), h21]
  exact congrFun (put1_full (m := 1) (rd A.arg21 σ) fun _ => 0#32) x

/-- What the first point's part leaves. -/
structure Ini (A : Bufs L) (w : ℕ → ℕ → EReal) (bias : ℕ → EReal) (σ0 σ : St sig (Elt Ideal)) : Prop where
  rhs : ∀ (t : Fin 26) (k n : Fin 256), rd A.arg14 σ (ix3 t k n)
    = if k.val % 128 = n.val % 128 then w (3 - 2 * (k.val / 128) - n.val / 128) (t.val * 128 + n.val % 128) else 0
  bias : ∀ (t : Fin 26) (s : Fin 8) (l : Fin 128), rd A.arg15 σ (ix3 t s l) = bias (t.val * 128 + l.val)
  ptr : ∀ x, rd A.arg21 σ x = 0#32
  fr : ∀ b, b ≠ A.arg10.view.ref → b ≠ A.arg11.view.ref → b ≠ A.arg12.view.ref → b ≠ A.arg13.view.ref → b ≠ A.arg14.view.ref → b ≠ A.arg15.view.ref → b ≠ A.arg16.view.ref → b ≠ A.arg21.view.ref → σ b = σ0 b

theorem Ini.of {σ1 : St sig (Elt Ideal)} (hT : T A w bias σ 104 26 σ1) {σ2 : St sig (Elt Ideal)}
    (hf : ∀ b, b ∉ ({A.arg10.view.ref, A.arg11.view.ref, A.arg12.view.ref} : Set (Ref sig .tc)) → σ2 b = σ1 b) : Ini A w bias σ σ2 := by
  have ne : ∀ {i j : Fin 21}, i ≠ j → _ := fun {i j} hij => A.inj.ne hij
  have hf' : ∀ b, b ≠ A.arg10.view.ref → b ≠ A.arg11.view.ref → b ≠ A.arg12.view.ref → σ2 b = σ1 b := fun b h h' h'' => hf b (by
    rintro (e | e | e)
    · exact h e
    · exact h' e
    · exact h'' e)
  refine ⟨fun t k n => ?_, fun t s l => ?_, ?_, fun b h10 h11 h12 h13 h14 h15 h16 h21 => (hf' b h10 h11 h12).trans (hT.fr b h13 h14 h15 h16 h21)⟩
  · rw [rd_congr A.arg14 (hf' _ (ne (i := 13) (j := 9) (by decide)) (ne (i := 13) (j := 10) (by decide)) (ne (i := 13) (j := 11) (by decide)))]; exact hT.rhs t k n (by omega)
  · rw [rd_congr A.arg15 (hf' _ (ne (i := 14) (j := 9) (by decide)) (ne (i := 14) (j := 10) (by decide)) (ne (i := 14) (j := 11) (by decide)))]; exact hT.bias t s l (by omega)
  · rw [rd_congr A.arg21 (hf' _ (ne (i := 20) (j := 9) (by decide)) (ne (i := 20) (j := 10) (by decide)) (ne (i := 20) (j := 11) (by decide)))]; exact hT.ptr

set_option maxHeartbeats 4000000 in
/-- The first half of the body: at the first point it lays out the filter, and everywhere it finds the scale of the block before. -/
theorem part133_zero (A : Bufs L) (i : grid0.Coords) (hi : k0_cond1 i = 1#1) (h : Src A w bias σ) :
    Runs U defs₀ 𝒱₀ c bd L σ (k0_part133 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21) (fun r σ' => ∃ σ1, Ini A w bias σ σ1 ∧ (∀ a l, r.2.2 (ix2 a l) = invE (silu (rmax A σ1 a)))
      ∧ (∀ b, b ≠ A.arg7.view.ref → σ' b = σ1 b)) := by
  unfold k0_part133
  refine Runs.dite (fun hc => ?_) fun hc => absurd hi hc
  refine Runs.bind' ?_
  unfold k0_part53
  refine Runs.bind' ?_
  unfold k0_part1
  refine Runs.smem A.h21 ?_
  refine Runs.storew A.h21 fun σ1 hf1 h21 => ?_
  refine Runs.loada A.h13 fun _ => ?_
  refine Runs.storew A.h13 fun σ2 hf2 _ => ?_
  have hT := T.start h hf1 h21 hf2
  refine T.wload hT 0 (by decide) 0 (by decide) rfl fun v0_0 h0_0 => ?_
  refine T.wload hT 0 (by decide) 1 (by decide) rfl fun v1_0 h1_0 => ?_
  refine T.wload hT 0 (by decide) 2 (by decide) rfl fun v2_0 h2_0 => ?_
  refine T.wload hT 0 (by decide) 3 (by decide) rfl fun v3_0 h3_0 => ?_
  refine T.bload hT 0 (by decide) rfl fun v4_0 h4_0 => ?_
  refine Runs.loada A.h16 fun _ => ?_
  refine T.nstore hT fun σ' hT => ?_
  refine Runs.loada A.h14 fun _ => ?_
  refine T.rstore hT 0 0 (by decide) (by decide) rfl rfl rfl h0_0 fun σ' hT => ?_
  refine Runs.ret ?_
  refine Runs.bind' ?_
  unfold k0_part2
  refine Runs.loada A.h16 fun _ => ?_
  refine T.nstore hT fun σ' hT => ?_
  refine Runs.loada A.h14 fun _ => ?_
  refine T.rstore hT 0 1 (by decide) (by decide) rfl rfl rfl h1_0 fun σ' hT => ?_
  refine Runs.loada A.h16 fun _ => ?_
  refine T.nstore hT fun σ' hT => ?_
  refine Runs.loada A.h14 fun _ => ?_
  refine T.rstore hT 0 2 (by decide) (by decide) rfl rfl rfl h2_0 fun σ' hT => ?_
  refine Runs.loada A.h16 fun _ => ?_
  refine T.nstore hT fun σ' hT => ?_
  refine Runs.loada A.h14 fun _ => ?_
  refine T.rstore hT 0 3 (by decide) (by decide) rfl rfl rfl h3_0 fun σ' hT => ?_
  refine Runs.ret ?_
  refine Runs.bind' ?_
  unfold k0_part3
  refine Runs.loada A.h16 fun _ => ?_
  refine T.nstore hT fun σ' hT => ?_
  refine Runs.loada A.h15 fun _ => ?_
  refine T.bstore hT 0 (by decide) rfl h4_0 fun σ' hT => ?_
  refine T.wload hT 1 (by decide) 0 (by decide) rfl fun v0_1 h0_1 => ?_
  refine T.wload hT 1 (by decide) 1 (by decide) rfl fun v1_1 h1_1 => ?_
  refine T.wload hT 1 (by decide) 2 (by decide) rfl fun v2_1 h2_1 => ?_
  refine T.wload hT 1 (by decide) 3 (by decide) rfl fun v3_1 h3_1 => ?_
  refine T.bload hT 1 (by decide) rfl fun v4_1 h4_1 => ?_
  refine Runs.loada A.h16 fun _ => ?_
  refine T.nstore hT fun σ' hT => ?_
  refine Runs.loada A.h14 fun _ => ?_
  refine Runs.ret ?_
  refine Runs.bind' ?_
  unfold k0_part4
  refine T.rstore hT 1 0 (by decide) (by decide) rfl rfl rfl h0_1 fun σ' hT => ?_
  refine Runs.loada A.h16 fun _ => ?_
  refine T.nstore hT fun σ' hT => ?_
  refine Runs.loada A.h14 fun _ => ?_
  refine T.rstore hT 1 1 (by decide) (by decide) rfl rfl rfl h1_1 fun σ' hT => ?_
  refine Runs.loada A.h16 fun _ => ?_
  refine T.nstore hT fun σ' hT => ?_
  refine Runs.loada A.h14 fun _ => ?_
  refine T.rstore hT 1 2 (by decide) (by decide) rfl rfl rfl h2_1 fun σ' hT => ?_
  refine Runs.loada A.h16 fun _ => ?_
  refine T.nstore hT fun σ' hT => ?_
  refine Runs.loada A.h14 fun _ => ?_
  refine Runs.ret ?_
  refine Runs.bind' ?_
  unfold k0_part5
  refine T.rstore hT 1 3 (by decide) (by decide) rfl rfl rfl h3_1 fun σ' hT => ?_
  refine Runs.loada A.h16 fun _ => ?_
  refine T.nstore hT fun σ' hT => ?_
  refine Runs.loada A.h15 fun _ => ?_
  refine T.bstore hT 1 (by decide) rfl h4_1 fun σ' hT => ?_
  refine T.wload hT 2 (by decide) 0 (by decide) rfl fun v0_2 h0_2 => ?_
  refine T.wload hT 2 (by decide) 1 (by decide) rfl fun v1_2 h1_2 => ?_
  refine T.wload hT 2 (by decide) 2 (by decide) rfl fun v2_2 h2_2 => ?_
  refine T.wload hT 2 (by decide) 3 (by decide) rfl fun v3_2 h3_2 => ?_
  refine T.bload hT 2 (by decide) rfl fun v4_2 h4_2 => ?_
  refine Runs.loada A.h16 fun _ => ?_
  refine T.nstore hT fun σ' hT => ?_
  refine Runs.loada A.h14 fun _ => ?_
  refine Runs.ret ?_
  refine Runs.bind' ?_
  unfold k0_part6
  refine T.rstore hT 2 0 (by decide) (by decide) rfl rfl rfl h0_2 fun σ' hT => ?_
  refine Runs.loada A.h16 fun _ => ?_
  refine T.nstore hT fun σ' hT => ?_
  refine Runs.loada A.h14 fun _ => ?_
  refine T.rstore hT 2 1 (by decide) (by decide) rfl rfl rfl h1_2 fun σ' hT => ?_
  refine Runs.loada A.h16 fun _ => ?_
  refine T.nstore hT fun σ' hT => ?_
  refine Runs.loada A.h14 fun _ => ?_
  refine T.rstore hT 2 2 (by decide) (by decide) rfl rfl rfl h2_2 fun σ' hT => ?_
  refine Runs.loada A.h16 fun _ => ?_
  refine T.nstore hT fun σ' hT => ?_
  refine Runs.loada A.h14 fun _ => ?_
  refine Runs.ret ?_
  refine Runs.bind' ?_
  unfold k0_part7
  refine T.rstore hT 2 3 (by decide) (by decide) rfl rfl rfl h3_2 fun σ' hT => ?_
  refine Runs.loada A.h16 fun _ => ?_
  refine T.nstore hT fun σ' hT => ?_
  refine Runs.loada A.h15 fun _ => ?_
  refine T.bstore hT 2 (by decide) rfl h4_2 fun σ' hT => ?_
  refine T.wload hT 3 (by decide) 0 (by decide) rfl fun v0_3 h0_3 => ?_
  refine T.wload hT 3 (by decide) 1 (by decide) rfl fun v1_3 h1_3 => ?_
  refine T.wload hT 3 (by decide) 2 (by decide) rfl fun v2_3 h2_3 => ?_
  refine T.wload hT 3 (by decide) 3 (by decide) rfl fun v3_3 h3_3 => ?_
  refine T.bload hT 3 (by decide) rfl fun v4_3 h4_3 => ?_
  refine Runs.loada A.h16 fun _ => ?_
  refine T.nstore hT fun σ' hT => ?_
  refine Runs.loada A.h14 fun _ => ?_
  refine Runs.ret ?_
  refine Runs.bind' ?_
  unfold k0_part8
  refine T.rstore hT 3 0 (by decide) (by decide) rfl rfl rfl h0_3 fun σ' hT => ?_
  refine Runs.loada A.h16 fun _ => ?_
  refine T.nstore hT fun σ' hT => ?_
  refine Runs.loada A.h14 fun _ => ?_
  refine T.rstore hT 3 1 (by decide) (by decide) rfl rfl rfl h1_3 fun σ' hT => ?_
  refine Runs.loada A.h16 fun _ => ?_
  refine T.nstore hT fun σ' hT => ?_
  refine Runs.loada A.h14 fun _ => ?_
  refine T.rstore hT 3 2 (by decide) (by decide) rfl rfl rfl h2_3 fun σ' hT => ?_
  refine Runs.loada A.h16 fun _ => ?_
  refine T.nstore hT fun σ' hT => ?_
  refine Runs.loada A.h14 fun _ => ?_
  refine Runs.ret ?_
  refine Runs.bind' ?_
  unfold k0_part9
  refine T.rstore hT 3 3 (by decide) (by decide) rfl rfl rfl h3_3 fun σ' hT => ?_
  refine Runs.loada A.h16 fun _ => ?_
  refine T.nstore hT fun σ' hT => ?_
  refine Runs.loada A.h15 fun _ => ?_
  refine T.bstore hT 3 (by decide) rfl h4_3 fun σ' hT => ?_
  refine T.wload hT 4 (by decide) 0 (by decide) rfl fun v0_4 h0_4 => ?_
  refine T.wload hT 4 (by decide) 1 (by decide) rfl fun v1_4 h1_4 => ?_
  refine T.wload hT 4 (by decide) 2 (by decide) rfl fun v2_4 h2_4 => ?_
  refine T.wload hT 4 (by decide) 3 (by decide) rfl fun v3_4 h3_4 => ?_
  refine T.bload hT 4 (by decide) rfl fun v4_4 h4_4 => ?_
  refine Runs.loada A.h16 fun _ => ?_
  refine T.nstore hT fun σ' hT => ?_
  refine Runs.ret ?_
  refine Runs.bind' ?_
  unfold k0_part10
  refine Runs.loada A.h14 fun _ => ?_
  refine T.rstore hT 4 0 (by decide) (by decide) rfl rfl rfl h0_4 fun σ' hT => ?_
  refine Runs.loada A.h16 fun _ => ?_
  refine T.nstore hT fun σ' hT => ?_
  refine Runs.loada A.h14 fun _ => ?_
  refine T.rstore hT 4 1 (by decide) (by decide) rfl rfl rfl h1_4 fun σ' hT => ?_
  refine Runs.loada A.h16 fun _ => ?_
  refine T.nstore hT fun σ' hT => ?_
  refine Runs.loada A.h14 fun _ => ?_
  refine T.rstore hT 4 2 (by decide) (by decide) rfl rfl rfl h2_4 fun σ' hT => ?_
  refine Runs.loada A.h16 fun _ => ?_
  refine T.nstore hT fun σ' hT => ?_
  refine Runs.ret ?_
  refine Runs.bind' ?_
  unfold k0_part11
  refine Runs.loada A.h14 fun _ => ?_
  refine T.rstore hT 4 3 (by decide) (by decide) rfl rfl rfl h3_4 fun σ' hT => ?_
  refine Runs.loada A.h16 fun _ => ?_
  refine T.nstore hT fun σ' hT => ?_
  refine Runs.loada A.h15 fun _ => ?_
  refine T.bstore hT 4 (by decide) rfl h4_4 fun σ' hT => ?_
  refine T.wload hT 5 (by decide) 0 (by decide) rfl fun v0_5 h0_5 => ?_
  refine T.wload hT 5 (by decide) 1 (by decide) rfl fun v1_5 h1_5 => ?_
  refine T.wload hT 5 (by decide) 2 (by decide) rfl fun v2_5 h2_5 => ?_
  refine T.wload hT 5 (by decide) 3 (by decide) rfl fun v3_5 h3_5 => ?_
  refine T.bload hT 5 (by decide) rfl fun v4_5 h4_5 => ?_
  refine Runs.loada A.h16 fun _ => ?_
  refine T.nstore hT fun σ' hT => ?_
  refine Runs.ret ?_
  refine Runs.bind' ?_
  unfold k0_part12
  refine Runs.loada A.h14 fun _ => ?_
  refine T.rstore hT 5 0 (by decide) (by decide) rfl rfl rfl h0_5 fun σ' hT => ?_
  refine Runs.loada A.h16 fun _ => ?_
  refine T.nstore hT fun σ' hT => ?_
  refine Runs.loada A.h14 fun _ => ?_
  refine T.rstore hT 5 1 (by decide) (by decide) rfl rfl rfl h1_5 fun σ' hT => ?_
  refine Runs.loada A.h16 fun _ => ?_
  refine T.nstore hT fun σ' hT => ?_
  refine Runs.loada A.h14 fun _ => ?_
  refine T.rstore hT 5 2 (by decide) (by decide) rfl rfl rfl h2_5 fun σ' hT => ?_
  refine Runs.loada A.h16 fun _ => ?_
  refine T.nstore hT fun σ' hT => ?_
  refine Runs.ret ?_
  refine Runs.bind' ?_
  unfold k0_part13
  refine Runs.loada A.h14 fun _ => ?_
  refine T.rstore hT 5 3 (by decide) (by decide) rfl rfl rfl h3_5 fun σ' hT => ?_
  refine Runs.loada A.h16 fun _ => ?_
  refine T.nstore hT fun σ' hT => ?_
  refine Runs.loada A.h15 fun _ => ?_
  refine T.bstore hT 5 (by decide) rfl h4_5 fun σ' hT => ?_
  refine T.wload hT 6 (by decide) 0 (by decide) rfl fun v0_6 h0_6 => ?_
  refine T.wload hT 6 (by decide) 1 (by decide) rfl fun v1_6 h1_6 => ?_
  refine T.wload hT 6 (by decide) 2 (by decide) rfl fun v2_6 h2_6 => ?_
  refine T.wload hT 6 (by decide) 3 (by decide) rfl fun v3_6 h3_6 => ?_
  refine T.bload hT 6 (by decide) rfl fun v4_6 h4_6 => ?_
  refine Runs.loada A.h16 fun _ => ?_
  refine T.nstore hT fun σ' hT => ?_
  refine Runs.ret ?_
  refine Runs.bind' ?_
  unfold k0_part14
  refine Runs.loada A.h14 fun _ => ?_
  refine T.rstore hT 6 0 (by decide) (by decide) rfl rfl rfl h0_6 fun σ' hT => ?_
  refine Runs.loada A.h16 fun _ => ?_
  refine T.nstore hT fun σ' hT => ?_
  refine Runs.loada A.h14 fun _ => ?_
  refine T.rstore hT 6 1 (by decide) (by decide) rfl rfl rfl h1_6 fun σ' hT => ?_
  refine Runs.loada A.h16 fun _ => ?_
  refine T.nstore hT fun σ' hT => ?_
  refine Runs.loada A.h14 fun _ => ?_
  refine T.rstore hT 6 2 (by decide) (by decide) rfl rfl rfl h2_6 fun σ' hT => ?_
  refine Runs.loada A.h16 fun _ => ?_
  refine T.nstore hT fun σ' hT => ?_
  refine Runs.ret ?_
  refine Runs.bind' ?_
  unfold k0_part15
  refine Runs.loada A.h14 fun _ => ?_
  refine T.rstore hT 6 3 (by decide) (by decide) rfl rfl rfl h3_6 fun σ' hT => ?_
  refine Runs.loada A.h16 fun _ => ?_
  refine T.nstore hT fun σ' hT => ?_
  refine Runs.loada A.h15 fun _ => ?_
  refine T.bstore hT 6 (by decide) rfl h4_6 fun σ' hT => ?_
  refine T.wload hT 7 (by decide) 0 (by decide) rfl fun v0_7 h0_7 => ?_
  refine T.wload hT 7 (by decide) 1 (by decide) rfl fun v1_7 h1_7 => ?_
  refine T.wload hT 7 (by decide) 2 (by decide) rfl fun v2_7 h2_7 => ?_
  refine T.wload hT 7 (by decide) 3 (by decide) rfl fun v3_7 h3_7 => ?_
  refine T.bload hT 7 (by decide) rfl fun v4_7 h4_7 => ?_
  refine Runs.loada A.h16 fun _ => ?_
  refine T.nstore hT fun σ' hT => ?_
  refine Runs.ret ?_
  refine Runs.bind' ?_
  unfold k0_part16
  refine Runs.loada A.h14 fun _ => ?_
  refine T.rstore hT 7 0 (by decide) (by decide) rfl rfl rfl h0_7 fun σ' hT => ?_
  refine Runs.loada A.h16 fun _ => ?_
  refine T.nstore hT fun σ' hT => ?_
  refine Runs.loada A.h14 fun _ => ?_
  refine T.rstore hT 7 1 (by decide) (by decide) rfl rfl rfl h1_7 fun σ' hT => ?_
  refine Runs.loada A.h16 fun _ => ?_
  refine T.nstore hT fun σ' hT => ?_
  refine Runs.loada A.h14 fun _ => ?_
  refine T.rstore hT 7 2 (by decide) (by decide) rfl rfl rfl h2_7 fun σ' hT => ?_
  refine Runs.loada A.h16 fun _ => ?_
  refine T.nstore hT fun σ' hT => ?_
  refine Runs.ret ?_
  refine Runs.bind' ?_
  unfold k0_part17
  refine Runs.loada A.h14 fun _ => ?_
  refine T.rstore hT 7 3 (by decide) (by decide) rfl rfl rfl h3_7 fun σ' hT => ?_
  refine Runs.loada A.h16 fun _ => ?_
  refine T.nstore hT fun σ' hT => ?_
  refine Runs.loada A.h15 fun _ => ?_
  refine T.bstore hT 7 (by decide) rfl h4_7 fun σ' hT => ?_
  refine T.wload hT 8 (by decide) 0 (by decide) rfl fun v0_8 h0_8 => ?_
  refine T.wload hT 8 (by decide) 1 (by decide) rfl fun v1_8 h1_8 => ?_
  refine T.wload hT 8 (by decide) 2 (by decide) rfl fun v2_8 h2_8 => ?_
  refine T.wload hT 8 (by decide) 3 (by decide) rfl fun v3_8 h3_8 => ?_
  refine T.bload hT 8 (by decide) rfl fun v4_8 h4_8 => ?_
  refine Runs.loada A.h16 fun _ => ?_
  refine T.nstore hT fun σ' hT => ?_
  refine Runs.ret ?_
  refine Runs.bind' ?_
  unfold k0_part18
  refine Runs.loada A.h14 fun _ => ?_
  refine T.rstore hT 8 0 (by decide) (by decide) rfl rfl rfl h0_8 fun σ' hT => ?_
  refine Runs.loada A.h16 fun _ => ?_
  refine T.nstore hT fun σ' hT => ?_
  refine Runs.loada A.h14 fun _ => ?_
  refine T.rstore hT 8 1 (by decide) (by decide) rfl rfl rfl h1_8 fun σ' hT => ?_
  refine Runs.loada A.h16 fun _ => ?_
  refine T.nstore hT fun σ' hT => ?_
  refine Runs.loada A.h14 fun _ => ?_
  refine T.rstore hT 8 2 (by decide) (by decide) rfl rfl rfl h2_8 fun σ' hT => ?_
  refine Runs.loada A.h16 fun _ => ?_
  refine T.nstore hT fun σ' hT => ?_
  refine Runs.ret ?_
  refine Runs.bind' ?_
  unfold k0_part19
  refine Runs.loada A.h14 fun _ => ?_
  refine T.rstore hT 8 3 (by decide) (by decide) rfl rfl rfl h3_8 fun σ' hT => ?_
  refine Runs.loada A.h16 fun _ => ?_
  refine T.nstore hT fun σ' hT => ?_
  refine Runs.loada A.h15 fun _ => ?_
  refine T.bstore hT 8 (by decide) rfl h4_8 fun σ' hT => ?_
  refine T.wload hT 9 (by decide) 0 (by decide) rfl fun v0_9 h0_9 => ?_
  refine T.wload hT 9 (by decide) 1 (by decide) rfl fun v1_9 h1_9 => ?_
  refine T.wload hT 9 (by decide) 2 (by decide) rfl fun v2_9 h2_9 => ?_
  refine T.wload hT 9 (by decide) 3 (by decide) rfl fun v3_9 h3_9 => ?_
  refine T.bload hT 9 (by decide) rfl fun v4_9 h4_9 => ?_
  refine Runs.loada A.h16 fun _ => ?_
  refine T.nstore hT fun σ' hT => ?_
  refine Runs.ret ?_
  refine Runs.bind' ?_
  unfold k0_part20
  refine Runs.loada A.h14 fun _ => ?_
  refine T.rstore hT 9 0 (by decide) (by decide) rfl rfl rfl h0_9 fun σ' hT => ?_
  refine Runs.loada A.h16 fun _ => ?_
  refine T.nstore hT fun σ' hT => ?_
  refine Runs.loada A.h14 fun _ => ?_
  refine T.rstore hT 9 1 (by decide) (by decide) rfl rfl rfl h1_9 fun σ' hT => ?_
  refine Runs.loada A.h16 fun _ => ?_
  refine T.nstore hT fun σ' hT => ?_
  refine Runs.loada A.h14 fun _ => ?_
  refine T.rstore hT 9 2 (by decide) (by decide) rfl rfl rfl h2_9 fun σ' hT => ?_
  refine Runs.loada A.h16 fun _ => ?_
  refine T.nstore hT fun σ' hT => ?_
  refine Runs.ret ?_
  refine Runs.bind' ?_
  unfold k0_part21
  refine Runs.loada A.h14 fun _ => ?_
  refine T.rstore hT 9 3 (by decide) (by decide) rfl rfl rfl h3_9 fun σ' hT => ?_
  refine Runs.loada A.h16 fun _ => ?_
  refine T.nstore hT fun σ' hT => ?_
  refine Runs.loada A.h15 fun _ => ?_
  refine T.bstore hT 9 (by decide) rfl h4_9 fun σ' hT => ?_
  refine T.wload hT 10 (by decide) 0 (by decide) rfl fun v0_10 h0_10 => ?_
  refine T.wload hT 10 (by decide) 1 (by decide) rfl fun v1_10 h1_10 => ?_
  refine T.wload hT 10 (by decide) 2 (by decide) rfl fun v2_10 h2_10 => ?_
  refine T.wload hT 10 (by decide) 3 (by decide) rfl fun v3_10 h3_10 => ?_
  refine T.bload hT 10 (by decide) rfl fun v4_10 h4_10 => ?_
  refine Runs.loada A.h16 fun _ => ?_
  refine T.nstore hT fun σ' hT => ?_
  refine Runs.ret ?_
  refine Runs.bind' ?_
  unfold k0_part22
  refine Runs.loada A.h14 fun _ => ?_
  refine T.rstore hT 10 0 (by decide) (by decide) rfl rfl rfl h0_10 fun σ' hT => ?_
  refine Runs.loada A.h16 fun _ => ?_
  refine T.nstore hT fun σ' hT => ?_
  refine Runs.loada A.h14 fun _ => ?_
  refine T.rstore hT 10 1 (by decide) (by decide) rfl rfl rfl h1_10 fun σ' hT => ?_
  refine Runs.loada A.h16 fun _ => ?_
  refine T.nstore hT fun σ' hT => ?_
  refine Runs.loada A.h14 fun _ => ?_
  refine T.rstore hT 10 2 (by decide) (by decide) rfl rfl rfl h2_10 fun σ' hT => ?_
  refine Runs.loada A.h16 fun _ => ?_
  refine T.nstore hT fun σ' hT => ?_
  refine Runs.ret ?_
  refine Runs.bind' ?_
  unfold k0_part23
  refine Runs.loada A.h14 fun _ => ?_
  refine T.rstore hT 10 3 (by decide) (by decide) rfl rfl rfl h3_10 fun σ' hT => ?_
  refine Runs.loada A.h16 fun _ => ?_
  refine T.nstore hT fun σ' hT => ?_
  refine Runs.loada A.h15 fun _ => ?_
  refine T.bstore hT 10 (by decide) rfl h4_10 fun σ' hT => ?_
  refine T.wload hT 11 (by decide) 0 (by decide) rfl fun v0_11 h0_11 => ?_
  refine T.wload hT 11 (by decide) 1 (by decide) rfl fun v1_11 h1_11 => ?_
  refine T.wload hT 11 (by decide) 2 (by decide) rfl fun v2_11 h2_11 => ?_
  refine T.wload hT 11 (by decide) 3 (by decide) rfl fun v3_11 h3_11 => ?_
  refine T.bload hT 11 (by decide) rfl fun v4_11 h4_11 => ?_
  refine Runs.loada A.h16 fun _ => ?_
  refine T.nstore hT fun σ' hT => ?_
  refine Runs.ret ?_
  refine Runs.bind' ?_
  unfold k0_part24
  refine Runs.loada A.h14 fun _ => ?_
  refine T.rstore hT 11 0 (by decide) (by decide) rfl rfl rfl h0_11 fun σ' hT => ?_
  refine Runs.loada A.h16 fun _ => ?_
  refine T.nstore hT fun σ' hT => ?_
  refine Runs.loada A.h14 fun _ => ?_
  refine T.rstore hT 11 1 (by decide) (by decide) rfl rfl rfl h1_11 fun σ' hT => ?_
  refine Runs.loada A.h16 fun _ => ?_
  refine T.nstore hT fun σ' hT => ?_
  refine Runs.loada A.h14 fun _ => ?_
  refine T.rstore hT 11 2 (by decide) (by decide) rfl rfl rfl h2_11 fun σ' hT => ?_
  refine Runs.loada A.h16 fun _ => ?_
  refine T.nstore hT fun σ' hT => ?_
  refine Runs.ret ?_
  refine Runs.bind' ?_
  unfold k0_part25
  refine Runs.loada A.h14 fun _ => ?_
  refine T.rstore hT 11 3 (by decide) (by decide) rfl rfl rfl h3_11 fun σ' hT => ?_
  refine Runs.loada A.h16 fun _ => ?_
  refine T.nstore hT fun σ' hT => ?_
  refine Runs.loada A.h15 fun _ => ?_
  refine T.bstore hT 11 (by decide) rfl h4_11 fun σ' hT => ?_
  refine T.wload hT 12 (by decide) 0 (by decide) rfl fun v0_12 h0_12 => ?_
  refine T.wload hT 12 (by decide) 1 (by decide) rfl fun v1_12 h1_12 => ?_
  refine T.wload hT 12 (by decide) 2 (by decide) rfl fun v2_12 h2_12 => ?_
  refine T.wload hT 12 (by decide) 3 (by decide) rfl fun v3_12 h3_12 => ?_
  refine T.bload hT 12 (by decide) rfl fun v4_12 h4_12 => ?_
  refine Runs.loada A.h16 fun _ => ?_
  refine T.nstore hT fun σ' hT => ?_
  refine Runs.ret ?_
  refine Runs.bind' ?_
  unfold k0_part26
  refine Runs.loada A.h14 fun _ => ?_
  refine T.rstore hT 12 0 (by decide) (by decide) rfl rfl rfl h0_12 fun σ' hT => ?_
  refine Runs.loada A.h16 fun _ => ?_
  refine T.nstore hT fun σ' hT => ?_
  refine Runs.loada A.h14 fun _ => ?_
  refine T.rstore hT 12 1 (by decide) (by decide) rfl rfl rfl h1_12 fun σ' hT => ?_
  refine Runs.loada A.h16 fun _ => ?_
  refine T.nstore hT fun σ' hT => ?_
  refine Runs.loada A.h14 fun _ => ?_
  refine T.rstore hT 12 2 (by decide) (by decide) rfl rfl rfl h2_12 fun σ' hT => ?_
  refine Runs.loada A.h16 fun _ => ?_
  refine T.nstore hT fun σ' hT => ?_
  refine Runs.ret ?_
  refine Runs.bind' ?_
  unfold k0_part27
  refine Runs.loada A.h14 fun _ => ?_
  refine T.rstore hT 12 3 (by decide) (by decide) rfl rfl rfl h3_12 fun σ' hT => ?_
  refine Runs.loada A.h16 fun _ => ?_
  refine T.nstore hT fun σ' hT => ?_
  refine Runs.loada A.h15 fun _ => ?_
  refine T.bstore hT 12 (by decide) rfl h4_12 fun σ' hT => ?_
  refine T.wload hT 13 (by decide) 0 (by decide) rfl fun v0_13 h0_13 => ?_
  refine T.wload hT 13 (by decide) 1 (by decide) rfl fun v1_13 h1_13 => ?_
  refine T.wload hT 13 (by decide) 2 (by decide) rfl fun v2_13 h2_13 => ?_
  refine T.wload hT 13 (by decide) 3 (by decide) rfl fun v3_13 h3_13 => ?_
  refine T.bload hT 13 (by decide) rfl fun v4_13 h4_13 => ?_
  refine Runs.loada A.h16 fun _ => ?_
  refine T.nstore hT fun σ' hT => ?_
  refine Runs.ret ?_
  refine Runs.bind' ?_
  unfold k0_part28
  refine Runs.loada A.h14 fun _ => ?_
  refine T.rstore hT 13 0 (by decide) (by decide) rfl rfl rfl h0_13 fun σ' hT => ?_
  refine Runs.loada A.h16 fun _ => ?_
  refine T.nstore hT fun σ' hT => ?_
  refine Runs.loada A.h14 fun _ => ?_
  refine T.rstore hT 13 1 (by decide) (by decide) rfl rfl rfl h1_13 fun σ' hT => ?_
  refine Runs.loada A.h16 fun _ => ?_
  refine T.nstore hT fun σ' hT => ?_
  refine Runs.loada A.h14 fun _ => ?_
  refine T.rstore hT 13 2 (by decide) (by decide) rfl rfl rfl h2_13 fun σ' hT => ?_
  refine Runs.loada A.h16 fun _ => ?_
  refine T.nstore hT fun σ' hT => ?_
  refine Runs.ret ?_
  refine Runs.bind' ?_
  unfold k0_part29
  refine Runs.loada A.h14 fun _ => ?_
  refine T.rstore hT 13 3 (by decide) (by decide) rfl rfl rfl h3_13 fun σ' hT => ?_
  refine Runs.loada A.h16 fun _ => ?_
  refine T.nstore hT fun σ' hT => ?_
  refine Runs.loada A.h15 fun _ => ?_
  refine T.bstore hT 13 (by decide) rfl h4_13 fun σ' hT => ?_
  refine T.wload hT 14 (by decide) 0 (by decide) rfl fun v0_14 h0_14 => ?_
  refine T.wload hT 14 (by decide) 1 (by decide) rfl fun v1_14 h1_14 => ?_
  refine T.wload hT 14 (by decide) 2 (by decide) rfl fun v2_14 h2_14 => ?_
  refine T.wload hT 14 (by decide) 3 (by decide) rfl fun v3_14 h3_14 => ?_
  refine T.bload hT 14 (by decide) rfl fun v4_14 h4_14 => ?_
  refine Runs.loada A.h16 fun _ => ?_
  refine Runs.ret ?_
  refine Runs.bind' ?_
  unfold k0_part30
  refine T.nstore hT fun σ' hT => ?_
  refine Runs.loada A.h14 fun _ => ?_
  refine T.rstore hT 14 0 (by decide) (by decide) rfl rfl rfl h0_14 fun σ' hT => ?_
  refine Runs.loada A.h16 fun _ => ?_
  refine T.nstore hT fun σ' hT => ?_
  refine Runs.loada A.h14 fun _ => ?_
  refine T.rstore hT 14 1 (by decide) (by decide) rfl rfl rfl h1_14 fun σ' hT => ?_
  refine Runs.loada A.h16 fun _ => ?_
  refine T.nstore hT fun σ' hT => ?_
  refine Runs.loada A.h14 fun _ => ?_
  refine T.rstore hT 14 2 (by decide) (by decide) rfl rfl rfl h2_14 fun σ' hT => ?_
  refine Runs.loada A.h16 fun _ => ?_
  refine Runs.ret ?_
  refine Runs.bind' ?_
  unfold k0_part31
  refine T.nstore hT fun σ' hT => ?_
  refine Runs.loada A.h14 fun _ => ?_
  refine T.rstore hT 14 3 (by decide) (by decide) rfl rfl rfl h3_14 fun σ' hT => ?_
  refine Runs.loada A.h16 fun _ => ?_
  refine T.nstore hT fun σ' hT => ?_
  refine Runs.loada A.h15 fun _ => ?_
  refine T.bstore hT 14 (by decide) rfl h4_14 fun σ' hT => ?_
  refine T.wload hT 15 (by decide) 0 (by decide) rfl fun v0_15 h0_15 => ?_
  refine T.wload hT 15 (by decide) 1 (by decide) rfl fun v1_15 h1_15 => ?_
  refine T.wload hT 15 (by decide) 2 (by decide) rfl fun v2_15 h2_15 => ?_
  refine T.wload hT 15 (by decide) 3 (by decide) rfl fun v3_15 h3_15 => ?_
  refine T.bload hT 15 (by decide) rfl fun v4_15 h4_15 => ?_
  refine Runs.loada A.h16 fun _ => ?_
  refine Runs.ret ?_
  refine Runs.bind' ?_
  unfold k0_part32
  refine T.nstore hT fun σ' hT => ?_
  refine Runs.loada A.h14 fun _ => ?_
  refine T.rstore hT 15 0 (by decide) (by decide) rfl rfl rfl h0_15 fun σ' hT => ?_
  refine Runs.loada A.h16 fun _ => ?_
  refine T.nstore hT fun σ' hT => ?_
  refine Runs.loada A.h14 fun _ => ?_
  refine T.rstore hT 15 1 (by decide) (by decide) rfl rfl rfl h1_15 fun σ' hT => ?_
  refine Runs.loada A.h16 fun _ => ?_
  refine T.nstore hT fun σ' hT => ?_
  refine Runs.loada A.h14 fun _ => ?_
  refine T.rstore hT 15 2 (by decide) (by decide) rfl rfl rfl h2_15 fun σ' hT => ?_
  refine Runs.loada A.h16 fun _ => ?_
  refine Runs.ret ?_
  refine Runs.bind' ?_
  unfold k0_part33
  refine T.nstore hT fun σ' hT => ?_
  refine Runs.loada A.h14 fun _ => ?_
  refine T.rstore hT 15 3 (by decide) (by decide) rfl rfl rfl h3_15 fun σ' hT => ?_
  refine Runs.loada A.h16 fun _ => ?_
  refine T.nstore hT fun σ' hT => ?_
  refine Runs.loada A.h15 fun _ => ?_
  refine T.bstore hT 15 (by decide) rfl h4_15 fun σ' hT => ?_
  refine T.wload hT 16 (by decide) 0 (by decide) rfl fun v0_16 h0_16 => ?_
  refine T.wload hT 16 (by decide) 1 (by decide) rfl fun v1_16 h1_16 => ?_
  refine T.wload hT 16 (by decide) 2 (by decide) rfl fun v2_16 h2_16 => ?_
  refine T.wload hT 16 (by decide) 3 (by decide) rfl fun v3_16 h3_16 => ?_
  refine T.bload hT 16 (by decide) rfl fun v4_16 h4_16 => ?_
  refine Runs.loada A.h16 fun _ => ?_
  refine Runs.ret ?_
  refine Runs.bind' ?_
  unfold k0_part34
  refine T.nstore hT fun σ' hT => ?_
  refine Runs.loada A.h14 fun _ => ?_
  refine T.rstore hT 16 0 (by decide) (by decide) rfl rfl rfl h0_16 fun σ' hT => ?_
  refine Runs.loada A.h16 fun _ => ?_
  refine T.nstore hT fun σ' hT => ?_
  refine Runs.loada A.h14 fun _ => ?_
  refine T.rstore hT 16 1 (by decide) (by decide) rfl rfl rfl h1_16 fun σ' hT => ?_
  refine Runs.loada A.h16 fun _ => ?_
  refine T.nstore hT fun σ' hT => ?_
  refine Runs.loada A.h14 fun _ => ?_
  refine T.rstore hT 16 2 (by decide) (by decide) rfl rfl rfl h2_16 fun σ' hT => ?_
  refine Runs.loada A.h16 fun _ => ?_
  refine Runs.ret ?_
  refine Runs.bind' ?_
  unfold k0_part35
  refine T.nstore hT fun σ' hT => ?_
  refine Runs.loada A.h14 fun _ => ?_
  refine T.rstore hT 16 3 (by decide) (by decide) rfl rfl rfl h3_16 fun σ' hT => ?_
  refine Runs.loada A.h16 fun _ => ?_
  refine T.nstore hT fun σ' hT => ?_
  refine Runs.loada A.h15 fun _ => ?_
  refine T.bstore hT 16 (by decide) rfl h4_16 fun σ' hT => ?_
  refine T.wload hT 17 (by decide) 0 (by decide) rfl fun v0_17 h0_17 => ?_
  refine T.wload hT 17 (by decide) 1 (by decide) rfl fun v1_17 h1_17 => ?_
  refine T.wload hT 17 (by decide) 2 (by decide) rfl fun v2_17 h2_17 => ?_
  refine T.wload hT 17 (by decide) 3 (by decide) rfl fun v3_17 h3_17 => ?_
  refine T.bload hT 17 (by decide) rfl fun v4_17 h4_17 => ?_
  refine Runs.ret ?_
  refine Runs.bind' ?_
  unfold k0_part36
  refine Runs.loada A.h16 fun _ => ?_
  refine T.nstore hT fun σ' hT => ?_
  refine Runs.loada A.h14 fun _ => ?_
  refine T.rstore hT 17 0 (by decide) (by decide) rfl rfl rfl h0_17 fun σ' hT => ?_
  refine Runs.loada A.h16 fun _ => ?_
  refine T.nstore hT fun σ' hT => ?_
  refine Runs.loada A.h14 fun _ => ?_
  refine T.rstore hT 17 1 (by decide) (by decide) rfl rfl rfl h1_17 fun σ' hT => ?_
  refine Runs.loada A.h16 fun _ => ?_
  refine T.nstore hT fun σ' hT => ?_
  refine Runs.loada A.h14 fun _ => ?_
  refine T.rstore hT 17 2 (by decide) (by decide) rfl rfl rfl h2_17 fun σ' hT => ?_
  refine Runs.ret ?_
  refine Runs.bind' ?_
  unfold k0_part37
  refine Runs.loada A.h16 fun _ => ?_
  refine T.nstore hT fun σ' hT => ?_
  refine Runs.loada A.h14 fun _ => ?_
  refine T.rstore hT 17 3 (by decide) (by decide) rfl rfl rfl h3_17 fun σ' hT => ?_
  refine Runs.loada A.h16 fun _ => ?_
  refine T.nstore hT fun σ' hT => ?_
  refine Runs.loada A.h15 fun _ => ?_
  refine T.bstore hT 17 (by decide) rfl h4_17 fun σ' hT => ?_
  refine T.wload hT 18 (by decide) 0 (by decide) rfl fun v0_18 h0_18 => ?_
  refine T.wload hT 18 (by decide) 1 (by decide) rfl fun v1_18 h1_18 => ?_
  refine T.wload hT 18 (by decide) 2 (by decide) rfl fun v2_18 h2_18 => ?_
  refine T.wload hT 18 (by decide) 3 (by decide) rfl fun v3_18 h3_18 => ?_
  refine T.bload hT 18 (by decide) rfl fun v4_18 h4_18 => ?_
  refine Runs.ret ?_
  refine Runs.bind' ?_
  unfold k0_part38
  refine Runs.loada A.h16 fun _ => ?_
  refine T.nstore hT fun σ' hT => ?_
  refine Runs.loada A.h14 fun _ => ?_
  refine T.rstore hT 18 0 (by decide) (by decide) rfl rfl rfl h0_18 fun σ' hT => ?_
  refine Runs.loada A.h16 fun _ => ?_
  refine T.nstore hT fun σ' hT => ?_
  refine Runs.loada A.h14 fun _ => ?_
  refine T.rstore hT 18 1 (by decide) (by decide) rfl rfl rfl h1_18 fun σ' hT => ?_
  refine Runs.loada A.h16 fun _ => ?_
  refine T.nstore hT fun σ' hT => ?_
  refine Runs.loada A.h14 fun _ => ?_
  refine T.rstore hT 18 2 (by decide) (by decide) rfl rfl rfl h2_18 fun σ' hT => ?_
  refine Runs.ret ?_
  refine Runs.bind' ?_
  unfold k0_part39
  refine Runs.loada A.h16 fun _ => ?_
  refine T.nstore hT fun σ' hT => ?_
  refine Runs.loada A.h14 fun _ => ?_
  refine T.rstore hT 18 3 (by decide) (by decide) rfl rfl rfl h3_18 fun σ' hT => ?_
  refine Runs.loada A.h16 fun _ => ?_
  refine T.nstore hT fun σ' hT => ?_
  refine Runs.loada A.h15 fun _ => ?_
  refine T.bstore hT 18 (by decide) rfl h4_18 fun σ' hT => ?_
  refine T.wload hT 19 (by decide) 0 (by decide) rfl fun v0_19 h0_19 => ?_
  refine T.wload hT 19 (by decide) 1 (by decide) rfl fun v1_19 h1_19 => ?_
  refine T.wload hT 19 (by decide) 2 (by decide) rfl fun v2_19 h2_19 => ?_
  refine T.wload hT 19 (by decide) 3 (by decide) rfl fun v3_19 h3_19 => ?_
  refine T.bload hT 19 (by decide) rfl fun v4_19 h4_19 => ?_
  refine Runs.ret ?_
  refine Runs.bind' ?_
  unfold k0_part40
  refine Runs.loada A.h16 fun _ => ?_
  refine T.nstore hT fun σ' hT => ?_
  refine Runs.loada A.h14 fun _ => ?_
  refine T.rstore hT 19 0 (by decide) (by decide) rfl rfl rfl h0_19 fun σ' hT => ?_
  refine Runs.loada A.h16 fun _ => ?_
  refine T.nstore hT fun σ' hT => ?_
  refine Runs.loada A.h14 fun _ => ?_
  refine T.rstore hT 19 1 (by decide) (by decide) rfl rfl rfl h1_19 fun σ' hT => ?_
  refine Runs.loada A.h16 fun _ => ?_
  refine T.nstore hT fun σ' hT => ?_
  refine Runs.loada A.h14 fun _ => ?_
  refine T.rstore hT 19 2 (by decide) (by decide) rfl rfl rfl h2_19 fun σ' hT => ?_
  refine Runs.ret ?_
  refine Runs.bind' ?_
  unfold k0_part41
  refine Runs.loada A.h16 fun _ => ?_
  refine T.nstore hT fun σ' hT => ?_
  refine Runs.loada A.h14 fun _ => ?_
  refine T.rstore hT 19 3 (by decide) (by decide) rfl rfl rfl h3_19 fun σ' hT => ?_
  refine Runs.loada A.h16 fun _ => ?_
  refine T.nstore hT fun σ' hT => ?_
  refine Runs.loada A.h15 fun _ => ?_
  refine T.bstore hT 19 (by decide) rfl h4_19 fun σ' hT => ?_
  refine T.wload hT 20 (by decide) 0 (by decide) rfl fun v0_20 h0_20 => ?_
  refine T.wload hT 20 (by decide) 1 (by decide) rfl fun v1_20 h1_20 => ?_
  refine T.wload hT 20 (by decide) 2 (by decide) rfl fun v2_20 h2_20 => ?_
  refine T.wload hT 20 (by decide) 3 (by decide) rfl fun v3_20 h3_20 => ?_
  refine T.bload hT 20 (by decide) rfl fun v4_20 h4_20 => ?_
  refine Runs.ret ?_
  refine Runs.bind' ?_
  unfold k0_part42
  refine Runs.loada A.h16 fun _ => ?_
  refine T.nstore hT fun σ' hT => ?_
  refine Runs.loada A.h14 fun _ => ?_
  refine T.rstore hT 20 0 (by decide) (by decide) rfl rfl rfl h0_20 fun σ' hT => ?_
  refine Runs.loada A.h16 fun _ => ?_
  refine T.nstore hT fun σ' hT => ?_
  refine Runs.loada A.h14 fun _ => ?_
  refine T.rstore hT 20 1 (by decide) (by decide) rfl rfl rfl h1_20 fun σ' hT => ?_
  refine Runs.loada A.h16 fun _ => ?_
  refine T.nstore hT fun σ' hT => ?_
  refine Runs.loada A.h14 fun _ => ?_
  refine T.rstore hT 20 2 (by decide) (by decide) rfl rfl rfl h2_20 fun σ' hT => ?_
  refine Runs.ret ?_
  refine Runs.bind' ?_
  unfold k0_part43
  refine Runs.loada A.h16 fun _ => ?_
  refine T.nstore hT fun σ' hT => ?_
  refine Runs.loada A.h14 fun _ => ?_
  refine T.rstore hT 20 3 (by decide) (by decide) rfl rfl rfl h3_20 fun σ' hT => ?_
  refine Runs.loada A.h16 fun _ => ?_
  refine T.nstore hT fun σ' hT => ?_
  refine Runs.loada A.h15 fun _ => ?_
  refine T.bstore hT 20 (by decide) rfl h4_20 fun σ' hT => ?_
  refine T.wload hT 21 (by decide) 0 (by decide) rfl fun v0_21 h0_21 => ?_
  refine T.wload hT 21 (by decide) 1 (by decide) rfl fun v1_21 h1_21 => ?_
  refine T.wload hT 21 (by decide) 2 (by decide) rfl fun v2_21 h2_21 => ?_
  refine T.wload hT 21 (by decide) 3 (by decide) rfl fun v3_21 h3_21 => ?_
  refine T.bload hT 21 (by decide) rfl fun v4_21 h4_21 => ?_
  refine Runs.ret ?_
  refine Runs.bind' ?_
  unfold k0_part44
  refine Runs.loada A.h16 fun _ => ?_
  refine T.nstore hT fun σ' hT => ?_
  refine Runs.loada A.h14 fun _ => ?_
  refine T.rstore hT 21 0 (by decide) (by decide) rfl rfl rfl h0_21 fun σ' hT => ?_
  refine Runs.loada A.h16 fun _ => ?_
  refine T.nstore hT fun σ' hT => ?_
  refine Runs.loada A.h14 fun _ => ?_
  refine T.rstore hT 21 1 (by decide) (by decide) rfl rfl rfl h1_21 fun σ' hT => ?_
  refine Runs.loada A.h16 fun _ => ?_
  refine T.nstore hT fun σ' hT => ?_
  refine Runs.loada A.h14 fun _ => ?_
  refine Runs.ret ?_
  refine Runs.bind' ?_
  unfold k0_part45
  refine T.rstore hT 21 2 (by decide) (by decide) rfl rfl rfl h2_21 fun σ' hT => ?_
  refine Runs.loada A.h16 fun _ => ?_
  refine T.nstore hT fun σ' hT => ?_
  refine Runs.loada A.h14 fun _ => ?_
  refine T.rstore hT 21 3 (by decide) (by decide) rfl rfl rfl h3_21 fun σ' hT => ?_
  refine Runs.loada A.h16 fun _ => ?_
  refine T.nstore hT fun σ' hT => ?_
  refine Runs.loada A.h15 fun _ => ?_
  refine T.bstore hT 21 (by decide) rfl h4_21 fun σ' hT => ?_
  refine T.wload hT 22 (by decide) 0 (by decide) rfl fun v0_22 h0_22 => ?_
  refine T.wload hT 22 (by decide) 1 (by decide) rfl fun v1_22 h1_22 => ?_
  refine T.wload hT 22 (by decide) 2 (by decide) rfl fun v2_22 h2_22 => ?_
  refine T.wload hT 22 (by decide) 3 (by decide) rfl fun v3_22 h3_22 => ?_
  refine T.bload hT 22 (by decide) rfl fun v4_22 h4_22 => ?_
  refine Runs.ret ?_
  refine Runs.bind' ?_
  unfold k0_part46
  refine Runs.loada A.h16 fun _ => ?_
  refine T.nstore hT fun σ' hT => ?_
  refine Runs.loada A.h14 fun _ => ?_
  refine T.rstore hT 22 0 (by decide) (by decide) rfl rfl rfl h0_22 fun σ' hT => ?_
  refine Runs.loada A.h16 fun _ => ?_
  refine T.nstore hT fun σ' hT => ?_
  refine Runs.loada A.h14 fun _ => ?_
  refine T.rstore hT 22 1 (by decide) (by decide) rfl rfl rfl h1_22 fun σ' hT => ?_
  refine Runs.loada A.h16 fun _ => ?_
  refine T.nstore hT fun σ' hT => ?_
  refine Runs.loada A.h14 fun _ => ?_
  refine Runs.ret ?_
  refine Runs.bind' ?_
  unfold k0_part47
  refine T.rstore hT 22 2 (by decide) (by decide) rfl rfl rfl h2_22 fun σ' hT => ?_
  refine Runs.loada A.h16 fun _ => ?_
  refine T.nstore hT fun σ' hT => ?_
  refine Runs.loada A.h14 fun _ => ?_
  refine T.rstore hT 22 3 (by decide) (by decide) rfl rfl rfl h3_22 fun σ' hT => ?_
  refine Runs.loada A.h16 fun _ => ?_
  refine T.nstore hT fun σ' hT => ?_
  refine Runs.loada A.h15 fun _ => ?_
  refine T.bstore hT 22 (by decide) rfl h4_22 fun σ' hT => ?_
  refine T.wload hT 23 (by decide) 0 (by decide) rfl fun v0_23 h0_23 => ?_
  refine T.wload hT 23 (by decide) 1 (by decide) rfl fun v1_23 h1_23 => ?_
  refine T.wload hT 23 (by decide) 2 (by decide) rfl fun v2_23 h2_23 => ?_
  refine T.wload hT 23 (by decide) 3 (by decide) rfl fun v3_23 h3_23 => ?_
  refine Runs.ret ?_
  refine Runs.bind' ?_
  unfold k0_part48
  refine T.bload hT 23 (by decide) rfl fun v4_23 h4_23 => ?_
  refine Runs.loada A.h16 fun _ => ?_
  refine T.nstore hT fun σ' hT => ?_
  refine Runs.loada A.h14 fun _ => ?_
  refine T.rstore hT 23 0 (by decide) (by decide) rfl rfl rfl h0_23 fun σ' hT => ?_
  refine Runs.loada A.h16 fun _ => ?_
  refine T.nstore hT fun σ' hT => ?_
  refine Runs.loada A.h14 fun _ => ?_
  refine T.rstore hT 23 1 (by decide) (by decide) rfl rfl rfl h1_23 fun σ' hT => ?_
  refine Runs.loada A.h16 fun _ => ?_
  refine T.nstore hT fun σ' hT => ?_
  refine Runs.loada A.h14 fun _ => ?_
  refine Runs.ret ?_
  refine Runs.bind' ?_
  unfold k0_part49
  refine T.rstore hT 23 2 (by decide) (by decide) rfl rfl rfl h2_23 fun σ' hT => ?_
  refine Runs.loada A.h16 fun _ => ?_
  refine T.nstore hT fun σ' hT => ?_
  refine Runs.loada A.h14 fun _ => ?_
  refine T.rstore hT 23 3 (by decide) (by decide) rfl rfl rfl h3_23 fun σ' hT => ?_
  refine Runs.loada A.h16 fun _ => ?_
  refine T.nstore hT fun σ' hT => ?_
  refine Runs.loada A.h15 fun _ => ?_
  refine T.bstore hT 23 (by decide) rfl h4_23 fun σ' hT => ?_
  refine T.wload hT 24 (by decide) 0 (by decide) rfl fun v0_24 h0_24 => ?_
  refine T.wload hT 24 (by decide) 1 (by decide) rfl fun v1_24 h1_24 => ?_
  refine T.wload hT 24 (by decide) 2 (by decide) rfl fun v2_24 h2_24 => ?_
  refine T.wload hT 24 (by decide) 3 (by decide) rfl fun v3_24 h3_24 => ?_
  refine Runs.ret ?_
  refine Runs.bind' ?_
  unfold k0_part50
  refine T.bload hT 24 (by decide) rfl fun v4_24 h4_24 => ?_
  refine Runs.loada A.h16 fun _ => ?_
  refine T.nstore hT fun σ' hT => ?_
  refine Runs.loada A.h14 fun _ => ?_
  refine T.rstore hT 24 0 (by decide) (by decide) rfl rfl rfl h0_24 fun σ' hT => ?_
  refine Runs.loada A.h16 fun _ => ?_
  refine T.nstore hT fun σ' hT => ?_
  refine Runs.loada A.h14 fun _ => ?_
  refine T.rstore hT 24 1 (by decide) (by decide) rfl rfl rfl h1_24 fun σ' hT => ?_
  refine Runs.loada A.h16 fun _ => ?_
  refine T.nstore hT fun σ' hT => ?_
  refine Runs.ret ?_
  refine Runs.bind' ?_
  unfold k0_part51
  refine Runs.loada A.h14 fun _ => ?_
  refine T.rstore hT 24 2 (by decide) (by decide) rfl rfl rfl h2_24 fun σ' hT => ?_
  refine Runs.loada A.h16 fun _ => ?_
  refine T.nstore hT fun σ' hT => ?_
  refine Runs.loada A.h14 fun _ => ?_
  refine T.rstore hT 24 3 (by decide) (by decide) rfl rfl rfl h3_24 fun σ' hT => ?_
  refine Runs.loada A.h16 fun _ => ?_
  refine T.nstore hT fun σ' hT => ?_
  refine Runs.loada A.h15 fun _ => ?_
  refine T.bstore hT 24 (by decide) rfl h4_24 fun σ' hT => ?_
  refine T.wload hT 25 (by decide) 0 (by decide) rfl fun v0_25 h0_25 => ?_
  refine T.wload hT 25 (by decide) 1 (by decide) rfl fun v1_25 h1_25 => ?_
  refine T.wload hT 25 (by decide) 2 (by decide) rfl fun v2_25 h2_25 => ?_
  refine T.wload hT 25 (by decide) 3 (by decide) rfl fun v3_25 h3_25 => ?_
  refine Runs.ret ?_
  refine Runs.bind' ?_
  unfold k0_part52
  refine T.bload hT 25 (by decide) rfl fun v4_25 h4_25 => ?_
  refine Runs.loada A.h16 fun _ => ?_
  refine T.nstore hT fun σ' hT => ?_
  refine Runs.loada A.h14 fun _ => ?_
  refine T.rstore hT 25 0 (by decide) (by decide) rfl rfl rfl h0_25 fun σ' hT => ?_
  refine Runs.loada A.h16 fun _ => ?_
  refine T.nstore hT fun σ' hT => ?_
  refine Runs.loada A.h14 fun _ => ?_
  refine T.rstore hT 25 1 (by decide) (by decide) rfl rfl rfl h1_25 fun σ' hT => ?_
  refine Runs.loada A.h16 fun _ => ?_
  refine T.nstore hT fun σ' hT => ?_
  refine Runs.ret ?_
  refine Runs.loada A.h14 fun _ => ?_
  refine T.rstore hT 25 2 (by decide) (by decide) rfl rfl rfl h2_25 fun σ' hT => ?_
  refine Runs.ret ?_
  refine Runs.loada A.h16 fun _ => ?_
  refine T.nstore hT fun σ' hT => ?_
  refine Runs.loada A.h14 fun _ => ?_
  refine T.rstore hT 25 3 (by decide) (by decide) rfl rfl rfl h3_25 fun σ' hT => ?_
  refine Runs.loada A.h16 fun _ => ?_
  refine T.nstore hT fun σ' hT => ?_
  refine Runs.loada A.h15 fun _ => ?_
  refine T.bstore hT 25 (by decide) rfl h4_25 fun σ' hT => ?_
  refine Runs.for (fun _ _ σ'' => ∀ b, b ∉ ({A.arg10.view.ref, A.arg11.view.ref, A.arg12.view.ref} : Set (Ref sig .tc)) → σ'' b = σ' b) (fun _ _ => rfl) (fun j acc σ3 h3 => ?_) (fun acc σ3 h3 => ?_)
  · refine Runs.mono (show Runs U defs₀ 𝒱₀ c bd L σ3 _ (fun _ σ4 => ∀ b, b ∉ ({A.arg10.view.ref, A.arg11.view.ref, A.arg12.view.ref} : Set (Ref sig .tc)) → σ4 b = σ3 b) from ?_) fun _ σ4 h4 b hb => (h4 b hb).trans (h3 b hb)
    refine (show Mods U defs₀ 𝒱₀ c bd L ({A.arg10.view.ref, A.arg11.view.ref, A.arg12.view.ref} : Set (Ref sig .tc)) _ from ?_) σ3
    refine Mods.load A.h10 fun _ => ?_
    refine Mods.store A.h10 (by simp) ?_
    refine Mods.load A.h11 fun _ => ?_
    refine Mods.store A.h11 (by simp) ?_
    refine Mods.load A.h12 fun _ => ?_
    refine Mods.store A.h12 (by simp) ?_
    exact Mods.pure
  refine Runs.mono (head_runs A i) fun r σ4 h4 => ⟨σ3, Ini.of hT h3, h4.1, h4.2.2.2⟩

theorem part133_next (A : Bufs L) (i : grid0.Coords) (hi : ¬k0_cond1 i = 1#1) :
    Runs U defs₀ 𝒱₀ c bd L σ (k0_part133 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21) (fun r σ' => (∀ a l, r.2.2 (ix2 a l) = invE (silu (rmax A σ a))) ∧ (∀ a, r.2.1 (ix2 0 a) = rmax A σ a)
      ∧ (∀ a, rd A.arg7 σ' (ix3 0 0 a) = scE (silu (rmax A σ a))) ∧ ∀ b, b ≠ A.arg7.view.ref → σ' b = σ b) := by
  unfold k0_part133
  refine Runs.dite (fun hc => absurd hc hi) fun hc => ?_
  exact head_runs A i

end Cert.Proof.KernelIdeal
-- ==== Proof.KernelIdeal.WhileZ.lean ====
/-
  The head loop changes no row of a block that lies three or more tokens into its sequence.
-/
module

public import proofs.«01_k».proof.Proof.KernelIdeal.Init

public import proofs.«01_k».proof.Proof.KernelIdeal.While

@[expose] public section

set_option maxRecDepth 8000
set_option maxHeartbeats 400000

noncomputable section

namespace Cert.Proof.KernelIdeal

open Cert.KernelIdeal Cert.KernelIdeal.Gen Cert.Proof.Hoare Cert.Proof.Quant

open Idealize.ShloMosaic Idealize.SL.Sem Idealize.SL.RA

variable {U : Type} [URA U] {c : Dev nD} {bd : Option 𝒱₀.V} {L : Finset (Ref sig .tc)} {σ : St sig (Elt Ideal)}

/-- The row lies at no sequence's first three tokens. -/
def Good (i : grid0.Coords) (cu : S25.Idx → BitVec 32) (a : ℕ) : Prop :=
  ∀ (x : S25.Idx) (d : Fin 3), (Scalar.addi (Scalar.subi (cu x) (Scalar.muli (BitVec.ofNat 32 (i 0).val) 256#32)) (BitVec.ofNat 32 d.val)).toNat ≠ a

/-- The boundary's first three tokens are no such row. -/
def Far (i : grid0.Coords) (cu : S25.Idx → BitVec 32) (v : BitVec 32) : Prop :=
  ∀ (d : Fin 3) (a : ℕ), Good i cu a → (Scalar.addi (Scalar.subi v (Scalar.muli (BitVec.ofNat 32 (i 0).val) 256#32)) (BitVec.ofNat 32 d.val)).toNat ≠ a

/-- The pointer is in its range. -/
def Ptr (A : Bufs L) (σ : St sig (Elt Ideal)) : Prop := ∀ x, (rd A.arg21 σ x : BitVec 32).toNat ≤ 25

/-- What the head loop may do. -/
structure Kept (A : Bufs L) (i : grid0.Coords) (cu : S25.Idx → BitVec 32) (σ σ' : St sig (Elt Ideal)) : Prop where
  fr : ∀ b, b ≠ A.arg8.view.ref → b ≠ A.arg12.view.ref → b ≠ A.arg13.view.ref → b ≠ A.arg20.view.ref → b ≠ A.arg21.view.ref → σ' b = σ b
  ptr : Ptr A σ → Ptr A σ'
  z : rd A.arg1 σ = cu → ∀ (r : Fin 6656) (l : Fin 128), Good i cu (r.val % 256) → rd A.arg12 σ' (ix2 r l) = rd A.arg12 σ (ix2 r l)
  m : rd A.arg1 σ = cu → ∀ (a : Fin 256) (l : Fin 128), Good i cu a.val → rd A.arg13 σ' (ix2 a l) = rd A.arg13 σ (ix2 a l)

variable {A : Bufs L} {i : grid0.Coords} {cu : S25.Idx → BitVec 32}

theorem kept_refl : ∀ σ : St sig (Elt Ideal), Kept A i cu σ σ := fun σ => ⟨fun _ _ _ _ _ _ => rfl, id, fun _ _ _ _ => rfl, fun _ _ _ _ => rfl⟩

theorem kept_trans : ∀ a b d : St sig (Elt Ideal), Kept A i cu a b → Kept A i cu b d → Kept A i cu a d := fun a b d h h' => by
  have ne : ∀ {i j : Fin 21}, i ≠ j → _ := fun {i j} hij => A.inj.ne hij
  have e : rd A.arg1 b = rd A.arg1 a := rd_congr A.arg1 (h.fr _ (ne (i := 0) (j := 7) (by decide)) (ne (i := 0) (j := 11) (by decide)) (ne (i := 0) (j := 12) (by decide)) (ne (i := 0) (j := 19) (by decide)) (ne (i := 0) (j := 20) (by decide)))
  exact ⟨fun x h1 h2 h3 h4 h5 => (h'.fr x h1 h2 h3 h4 h5).trans (h.fr x h1 h2 h3 h4 h5), h'.ptr ∘ h.ptr,
    fun hc r l hg => (h'.z (e.trans hc) r l hg).trans (h.z hc r l hg), fun hc r l hg => (h'.m (e.trans hc) r l hg).trans (h.m hc r l hg)⟩

theorem kept_of_eq : ∀ σ σ' : St sig (Elt Ideal), (∀ b, b ∉ (∅ : Set (Ref sig .tc)) → σ' b = σ b) → Kept A i cu σ σ' := fun σ σ' h => by
  have : σ' = σ := funext fun b => h b (by simp)
  subst this
  exact kept_refl _

theorem kept_set (σ : St sig (Elt Ideal)) {r : Ref sig .tc} (x : r.ty.Contents (Elt Ideal)) (h12 : A.arg12.view.ref ≠ r) (h13 : A.arg13.view.ref ≠ r) (h21 : A.arg21.view.ref ≠ r)
    (hr : r = A.arg8.view.ref ∨ r = A.arg20.view.ref) : Kept A i cu σ (σ.set r x) := by
  refine ⟨fun b h8 _ _ h20 _ => St.set_ne _ (by rintro rfl; exact hr.elim h8 h20) _, fun h => ?_, fun _ r l _ => ?_, fun _ a l _ => ?_⟩
  · exact fun x => (congrArg BitVec.toNat (congrFun (rd_congr A.arg21 (St.set_ne _ h21 _)) x)).trans_le (h x)
  · exact congrFun (rd_congr A.arg12 (St.set_ne _ h12 _)) _
  · exact congrFun (rd_congr A.arg13 (St.set_ne _ h13 _)) _

theorem kept_8 (σ : St sig (Elt Ideal)) (x : A.arg8.view.ref.ty.Contents (Elt Ideal)) : Kept A i cu σ (σ.set A.arg8.view.ref x) := by
  have ne : ∀ {i j : Fin 21}, i ≠ j → _ := fun {i j} hij => A.inj.ne hij
  exact kept_set σ x (ne (i := 11) (j := 7) (by decide)) (ne (i := 12) (j := 7) (by decide)) (ne (i := 20) (j := 7) (by decide)) (.inl rfl)

theorem kept_20 (σ : St sig (Elt Ideal)) (x : A.arg20.view.ref.ty.Contents (Elt Ideal)) : Kept A i cu σ (σ.set A.arg20.view.ref x) := by
  have ne : ∀ {i j : Fin 21}, i ≠ j → _ := fun {i j} hij => A.inj.ne hij
  exact kept_set σ x (ne (i := 11) (j := 19) (by decide)) (ne (i := 12) (j := 19) (by decide)) (ne (i := 20) (j := 19) (by decide)) (.inr rfl)

theorem kept_ptr (σ : St sig (Elt Ideal)) (v : BitVec 32) (hv : v.toNat ≤ 25) :
    Kept A i cu σ (σ.set A.arg21.view.ref ((A.arg21.access (Rect.unit (s := S1) ![0] S1.size inb_S1_S1_0)).write (Elt Ideal) (σ A.arg21.view.ref) (fun _ => v) Finset.univ)) := by
  have ne : ∀ {i j : Fin 21}, i ≠ j → _ := fun {i j} hij => A.inj.ne hij
  refine ⟨fun b _ _ _ _ h21 => St.set_ne _ h21 _, fun _ x => ?_, fun _ r l _ => ?_, fun _ a l _ => ?_⟩
  · have e : rd A.arg21 (σ.set A.arg21.view.ref ((A.arg21.access (Rect.unit (s := S1) ![0] S1.size inb_S1_S1_0)).write (Elt Ideal) (σ A.arg21.view.ref) (fun _ => v) Finset.univ))
        = VecWindow.put (rd A.arg21 σ) ![0] S1.size fun _ => v := by
      unfold rd
      rw [St.set_self]
      exact View.read_writes_cons_put A.arg21.view (σ A.arg21.view.ref) inb_S1_S1_0 (fun _ => v) [] rfl
    rw [e]
    exact (congrArg BitVec.toNat (congrFun (put1_full (m := 1) (rd A.arg21 σ) fun _ => v) x)).trans_le hv
  · exact congrFun (rd_congr A.arg12 (St.set_ne _ (ne (i := 11) (j := 20) (by decide)) _)) _
  · exact congrFun (rd_congr A.arg13 (St.set_ne _ (ne (i := 12) (j := 20) (by decide)) _)) _

theorem kept_z (σ : St sig (Elt Ideal)) {o : ℕ} (hg : ∀ a, Good i cu a → o ≠ a) (hlt : o < 256) {off : Fin 2 → ℕ} (ho : off = ![o, 0])
    {inb : ∀ a, S26x128.size a = 0 ∨ off a + (![256, 1] : Fin 2 → Nat) a * (S26x128.size a - 1) < S6656x128.size a} {sp}
    {w : (⟨(⟨off, S26x128.size, ![256, 1], inb⟩ : LoadRect S6656x128), sp⟩ : Rect S6656x128).shape.Idx → Elt Ideal .f32} :
    Kept A i cu σ (σ.set A.arg12.view.ref ((A.arg12.access ⟨(⟨off, S26x128.size, ![256, 1], inb⟩ : LoadRect S6656x128), sp⟩).write (Elt Ideal) (σ A.arg12.view.ref) w Finset.univ)) := by
  have ne : ∀ {i j : Fin 21}, i ≠ j → _ := fun {i j} hij => A.inj.ne hij
  subst ho
  refine ⟨fun b _ h12 _ _ _ => St.set_ne _ h12 _, fun h => ?_, fun _ r l hr => ?_, fun _ a l _ => ?_⟩
  · exact fun x => (congrArg BitVec.toNat (congrFun (rd_congr A.arg21 (St.set_ne _ (ne (i := 20) (j := 11) (by decide)) _)) x)).trans_le (h x)
  · unfold rd
    rw [St.set_self]
    refine View.read_slice_write_of_not_mem _ _ _ _ fun hm => ?_
    obtain ⟨x, -, hx⟩ := Finset.mem_map.1 hm
    have h0 : o + 256 * (x (0 : Fin 2)).val = r.val := congrArg Fin.val (congrFun hx (0 : Fin 2))
    exact hg _ hr (by omega)
  · exact congrFun (rd_congr A.arg13 (St.set_ne _ (ne (i := 12) (j := 11) (by decide)) _)) _

theorem kept_m (σ : St sig (Elt Ideal)) {o : ℕ} (hg : ∀ a, Good i cu a → o ≠ a) (hlt : o < 256) {off : Fin 2 → ℕ} (ho : off = ![o, 0])
    {inb : ∀ a, off a + S1x128.size a ≤ S256x128.size a} {w : (Rect.unit (s := S256x128) off S1x128.size inb).shape.Idx → Elt Ideal .f32} :
    Kept A i cu σ (σ.set A.arg13.view.ref ((A.arg13.access (Rect.unit (s := S256x128) off S1x128.size inb)).write (Elt Ideal) (σ A.arg13.view.ref) w Finset.univ)) := by
  have ne : ∀ {i j : Fin 21}, i ≠ j → _ := fun {i j} hij => A.inj.ne hij
  subst ho
  refine ⟨fun b _ _ h13 _ _ => St.set_ne _ h13 _, fun h => ?_, fun _ r l _ => ?_, fun _ a l hr => ?_⟩
  · exact fun x => (congrArg BitVec.toNat (congrFun (rd_congr A.arg21 (St.set_ne _ (ne (i := 20) (j := 12) (by decide)) _)) x)).trans_le (h x)
  · exact congrFun (rd_congr A.arg12 (St.set_ne _ (ne (i := 11) (j := 12) (by decide)) _)) _
  · unfold rd
    rw [St.set_self]
    refine View.read_slice_write_of_not_mem _ _ _ _ fun hm => ?_
    obtain ⟨x, -, hx⟩ := Finset.mem_map.1 hm
    have h0 : o + 1 * (x (0 : Fin 2)).val = a.val := congrArg Fin.val (congrFun hx (0 : Fin 2))
    have h1 : (x (0 : Fin 2)).val < 1 := (x (0 : Fin 2)).isLt
    exact hg _ hr (by omega)

theorem keeps_k0_part135 (v43 : BitVec 1) (arg22 : BitVec 32) (v70 : Elt Ideal .i32) (k0_hw3 : k0_chk3 i arg22 v70) (v72 : BitVec 32) (k0_h4 : k0_cond4 i arg22 v70 = 1#1) (hv : Far i cu v70) :
    Keeps U defs₀ 𝒱₀ c bd L (Kept A i cu) (k0_part135 i v43 A.arg1 A.harg1 A.arg16 A.harg16 A.arg10 A.harg10 A.arg12 A.harg12 A.arg13 A.harg13 A.arg8 A.harg8 A.arg20 A.harg20 A.arg21 A.harg21 arg22 v70 k0_hw3 v72 k0_h4) := by
  unfold k0_part135
  refine Keeps.load A.h16 fun _ => ?_
  refine Keeps.load A.h16 fun _ => ?_
  refine Keeps.load A.h10 fun _ => ?_
  refine Keeps.load A.h12 fun _ => ?_
  refine Keeps.store kept_trans A.h12 (fun σ => kept_z σ (hv 0) (row_cond _ _ k0_h4).2 rfl) ?_
  refine Keeps.load A.h13 fun _ => ?_
  refine Keeps.store kept_trans A.h13 (fun σ => kept_m σ (hv 0) (row_cond _ _ k0_h4).2 rfl) ?_
  exact Keeps.pure kept_refl

theorem keeps_k0_part137 (v43 : BitVec 1) (arg22 : BitVec 32) (v70 : Elt Ideal .i32) (k0_hw3 : k0_chk3 i arg22 v70) (v80 : BitVec 32) (k0_h5 : k0_cond5 i arg22 v70 = 1#1) (v162 : FVec Ideal S26x128 .f32) (hv : Far i cu v70) :
    Keeps U defs₀ 𝒱₀ c bd L (Kept A i cu) (k0_part137 i v43 A.arg1 A.harg1 A.arg16 A.harg16 A.arg10 A.harg10 A.arg12 A.harg12 A.arg13 A.harg13 A.arg8 A.harg8 A.arg20 A.harg20 A.arg21 A.harg21 arg22 v70 k0_hw3 v80 k0_h5 v162) := by
  unfold k0_part137
  refine Keeps.load A.h12 fun _ => ?_
  refine Keeps.store kept_trans A.h12 (fun σ => kept_z σ (hv 1) (row_cond _ _ k0_h5).2 rfl) ?_
  refine Keeps.load A.h13 fun _ => ?_
  refine Keeps.store kept_trans A.h13 (fun σ => kept_m σ (hv 1) (row_cond _ _ k0_h5).2 rfl) ?_
  exact Keeps.pure kept_refl

theorem keeps_k0_part139 (v43 : BitVec 1) (arg22 : BitVec 32) (v70 : Elt Ideal .i32) (k0_hw3 : k0_chk3 i arg22 v70) (v88 : BitVec 32) (k0_h6 : k0_cond6 i arg22 v70 = 1#1) (v162 : FVec Ideal S26x128 .f32) (hv : Far i cu v70) :
    Keeps U defs₀ 𝒱₀ c bd L (Kept A i cu) (k0_part139 i v43 A.arg1 A.harg1 A.arg16 A.harg16 A.arg10 A.harg10 A.arg12 A.harg12 A.arg13 A.harg13 A.arg8 A.harg8 A.arg20 A.harg20 A.arg21 A.harg21 arg22 v70 k0_hw3 v88 k0_h6 v162) := by
  unfold k0_part139
  refine Keeps.load A.h16 fun _ => ?_
  refine Keeps.load A.h10 fun _ => ?_
  refine Keeps.load A.h12 fun _ => ?_
  refine Keeps.store kept_trans A.h12 (fun σ => kept_z σ (hv 2) (row_cond _ _ k0_h6).2 rfl) ?_
  refine Keeps.load A.h13 fun _ => ?_
  refine Keeps.store kept_trans A.h13 (fun σ => kept_m σ (hv 2) (row_cond _ _ k0_h6).2 rfl) ?_
  exact Keeps.pure kept_refl

theorem keeps_k0_part143 (v43 : BitVec 1) (arg22 : BitVec 32) (v63 : BitVec 32) (hb : arg22.toNat < 25) :
    Keeps U defs₀ 𝒱₀ c bd L (Kept A i cu) (k0_part143 i v43 A.arg1 A.harg1 A.arg16 A.harg16 A.arg10 A.harg10 A.arg12 A.harg12 A.arg13 A.harg13 A.arg8 A.harg8 A.arg20 A.harg20 A.arg21 A.harg21 arg22 v63) := by
  have ne : ∀ {i j : Fin 21}, i ≠ j → _ := fun {i j} hij => A.inj.ne hij
  intro σ
  by_cases hcu : rd A.arg1 σ = cu
  swap
  · refine Runs.mono (mods_k0_part143 (W := {A.arg8.view.ref, A.arg12.view.ref, A.arg13.view.ref}) v43 arg22 v63 A.h1 A.h8 A.h10 A.h12 A.h13 A.h16 (by simp) (by simp) (by simp) hb σ) fun _ σ' h =>
      ⟨fun b h8 h12 h13 _ _ => h b (by simp [h8, h12, h13]), fun hp => ?_, fun hc => absurd hc hcu, fun hc => absurd hc hcu⟩
    exact fun x => (congrArg BitVec.toNat (congrFun (rd_congr A.arg21 (h _ (by
      simp only [Set.mem_insert_iff, Set.mem_singleton_iff, not_or]
      exact ⟨ne (i := 20) (j := 7) (by decide), ne (i := 20) (j := 11) (by decide), ne (i := 20) (j := 12) (by decide)⟩))) x)).trans_le (hp x)
  unfold k0_part143
  refine Runs.assume (chk2_of _ hb) ?_
  refine Runs.smem A.h1 ?_
  have hv : Far i cu (A.arg1.view.readAt (Elt Ideal) (Rect.unit (s := S25) (k0_off28 arg22) S1.size (k0_off28_inb arg22 (chk2_of _ hb))).toLoadRect (σ A.arg1.view.ref) (Shape.Idx.first (numel1_S1.symm ▸ Nat.one_pos))) := by
    intro d a hg
    have := hg ((Rect.unit (s := S25) (k0_off28 arg22) S1.size (k0_off28_inb arg22 (chk2_of _ hb))).emb (Shape.Idx.first (numel1_S1.symm ▸ Nat.one_pos))) d
    rw [← hcu] at this
    exact this
  revert hv
  generalize A.arg1.view.readAt (Elt Ideal) (Rect.unit (s := S25) (k0_off28 arg22) S1.size (k0_off28_inb arg22 (chk2_of _ hb))).toLoadRect (σ A.arg1.view.ref) (Shape.Idx.first (numel1_S1.symm ▸ Nat.one_pos)) = v70
  intro hv
  refine Runs.assume (chk3_of _ _ _ hb) ?_
  refine (?_ : Keeps U defs₀ 𝒱₀ c bd L (Kept A i cu) _) σ
  refine Keeps.dite (fun _ => ?_) fun _ => ?_
  ·
    refine Keeps.bind kept_trans (keeps_k0_part135 _ _ _ _ _ _ hv) fun _ => ?_
    refine Keeps.load A.h8 fun _ => ?_
    refine Keeps.store kept_trans A.h8 (fun σ => kept_8 σ _) ?_
    refine Keeps.dite (fun _ => ?_) fun _ => ?_
    ·
      refine Keeps.bind kept_trans (Keeps.of_mods (W := ∅) (mods_k0_part136 _ _ _ _ _ _ A.h10 A.h16) kept_of_eq) fun _ => ?_
      refine Keeps.bind kept_trans (keeps_k0_part137 _ _ _ _ _ _ _ hv) fun _ => ?_
      refine Keeps.load A.h8 fun _ => ?_
      refine Keeps.store kept_trans A.h8 (fun σ => kept_8 σ _) ?_
      refine Keeps.dite (fun _ => ?_) fun _ => ?_
      ·
        refine Keeps.bind kept_trans (Keeps.of_mods (W := ∅) (mods_k0_part138 _ _ _ _ _ _ A.h10 A.h16) kept_of_eq) fun _ => ?_
        refine Keeps.bind kept_trans (keeps_k0_part139 _ _ _ _ _ _ _ hv) fun _ => ?_
        refine Keeps.load A.h8 fun _ => ?_
        refine Keeps.store kept_trans A.h8 (fun σ => kept_8 σ _) ?_
        exact Keeps.pure kept_refl
      ·
        exact Keeps.pure kept_refl
    ·
      refine Keeps.dite (fun _ => ?_) fun _ => ?_
      ·
        refine Keeps.bind kept_trans (Keeps.of_mods (W := ∅) (mods_k0_part138 _ _ _ _ _ _ A.h10 A.h16) kept_of_eq) fun _ => ?_
        refine Keeps.bind kept_trans (keeps_k0_part139 _ _ _ _ _ _ _ hv) fun _ => ?_
        refine Keeps.load A.h8 fun _ => ?_
        refine Keeps.store kept_trans A.h8 (fun σ => kept_8 σ _) ?_
        exact Keeps.pure kept_refl
      ·
        exact Keeps.pure kept_refl
  ·
    refine Keeps.dite (fun _ => ?_) fun _ => ?_
    ·
      refine Keeps.bind kept_trans (Keeps.of_mods (W := ∅) (mods_k0_part136 _ _ _ _ _ _ A.h10 A.h16) kept_of_eq) fun _ => ?_
      refine Keeps.bind kept_trans (keeps_k0_part137 _ _ _ _ _ _ _ hv) fun _ => ?_
      refine Keeps.load A.h8 fun _ => ?_
      refine Keeps.store kept_trans A.h8 (fun σ => kept_8 σ _) ?_
      refine Keeps.dite (fun _ => ?_) fun _ => ?_
      ·
        refine Keeps.bind kept_trans (Keeps.of_mods (W := ∅) (mods_k0_part138 _ _ _ _ _ _ A.h10 A.h16) kept_of_eq) fun _ => ?_
        refine Keeps.bind kept_trans (keeps_k0_part139 _ _ _ _ _ _ _ hv) fun _ => ?_
        refine Keeps.load A.h8 fun _ => ?_
        refine Keeps.store kept_trans A.h8 (fun σ => kept_8 σ _) ?_
        exact Keeps.pure kept_refl
      ·
        exact Keeps.pure kept_refl
    ·
      refine Keeps.dite (fun _ => ?_) fun _ => ?_
      ·
        refine Keeps.bind kept_trans (Keeps.of_mods (W := ∅) (mods_k0_part138 _ _ _ _ _ _ A.h10 A.h16) kept_of_eq) fun _ => ?_
        refine Keeps.bind kept_trans (keeps_k0_part139 _ _ _ _ _ _ _ hv) fun _ => ?_
        refine Keeps.load A.h8 fun _ => ?_
        refine Keeps.store kept_trans A.h8 (fun σ => kept_8 σ _) ?_
        exact Keeps.pure kept_refl
      ·
        exact Keeps.pure kept_refl

/-- The head loop: it runs, in at most `25 - arg22` trips. -/
theorem keepz_while (v43 : BitVec 1) :
    ∀ (k : ℕ) (arg22 : BitVec 32), arg22.toNat + k = 25 → Keeps U defs₀ 𝒱₀ c (some k) L (Kept A i cu) (cc0_while1 i v43 A.arg1 A.harg1 A.arg16 A.harg16 A.arg10 A.harg10 A.arg12 A.harg12 A.arg13 A.harg13 A.arg8 A.harg8 A.arg20 A.harg20 A.arg21 A.harg21 arg22)
  | k, arg22, hk => by
    have hv : arg22.toNat ≤ 25 := by omega
    have IH : ∀ hb : arg22.toNat < 25, Keeps U defs₀ 𝒱₀ c (some (k - 1)) L (Kept A i cu) (cc0_while1 i v43 A.arg1 A.harg1 A.arg16 A.harg16 A.arg10 A.harg10 A.arg12 A.harg12 A.arg13 A.harg13 A.arg8 A.harg8 A.arg20 A.harg20 A.arg21 A.harg21 (Scalar.addi arg22 1#32)) := fun hb =>
      keepz_while v43 (k - 1) _ (by rw [succ_toNat hb]; omega)
    unfold cc0_while1
    refine Keeps.assume (chk1_of _ (Nat.lt_succ_of_le hv)) ?_
    refine Keeps.smem A.h1 fun _ => ?_
    refine Keeps.ite (fun hif => ?_) fun _ => ?_
    · have hb := lt_of_more hv hif
      refine Keeps.bind kept_trans (keeps_k0_part143 _ _ _ hb) fun _ => ?_
      refine Keeps.dite (fun _ => ?_) fun _ => ?_
      ·
        refine Keeps.bind kept_trans (Keeps.of_mods (W := ∅) (mods_k0_part140 _ _ _ _ _ _ A.h10) kept_of_eq) fun _ => ?_
        refine Keeps.load A.h20 fun _ => ?_
        refine Keeps.store kept_trans A.h20 (fun σ => kept_20 σ _) ?_
        refine Keeps.dite (fun _ => ?_) fun _ => ?_
        ·
          refine Keeps.bind kept_trans (Keeps.of_mods (W := ∅) (mods_k0_part141 _ _ _ _ _ _ A.h10) kept_of_eq) fun _ => ?_
          refine Keeps.load A.h20 fun _ => ?_
          refine Keeps.store kept_trans A.h20 (fun σ => kept_20 σ _) ?_
          refine Keeps.dite (fun _ => ?_) fun _ => ?_
          ·
            refine Keeps.bind kept_trans (Keeps.of_mods (W := ∅) (mods_k0_part142 _ _ _ _ _ _ A.h10) kept_of_eq) fun _ => ?_
            refine Keeps.load A.h20 fun _ => ?_
            refine Keeps.store kept_trans A.h20 (fun σ => kept_20 σ _) ?_
            refine Keeps.ite (fun _ => ?_) fun _ => ?_
            ·
              refine Keeps.smem A.h21 fun _ => ?_
              refine Keeps.store kept_trans A.h21 (fun σ => kept_ptr σ _ (by rw [succ_toNat hb]; omega)) ?_
              refine Keeps.call (k - 1) (fun u hu => by cases hu; exact (by omega : k - 1 < k)) ?_
              exact IH hb
            ·
              refine Keeps.call (k - 1) (fun u hu => by cases hu; exact (by omega : k - 1 < k)) ?_
              exact IH hb
          ·
            refine Keeps.ite (fun _ => ?_) fun _ => ?_
            ·
              refine Keeps.smem A.h21 fun _ => ?_
              refine Keeps.store kept_trans A.h21 (fun σ => kept_ptr σ _ (by rw [succ_toNat hb]; omega)) ?_
              refine Keeps.call (k - 1) (fun u hu => by cases hu; exact (by omega : k - 1 < k)) ?_
              exact IH hb
            ·
              refine Keeps.call (k - 1) (fun u hu => by cases hu; exact (by omega : k - 1 < k)) ?_
              exact IH hb
        ·
          refine Keeps.dite (fun _ => ?_) fun _ => ?_
          ·
            refine Keeps.bind kept_trans (Keeps.of_mods (W := ∅) (mods_k0_part142 _ _ _ _ _ _ A.h10) kept_of_eq) fun _ => ?_
            refine Keeps.load A.h20 fun _ => ?_
            refine Keeps.store kept_trans A.h20 (fun σ => kept_20 σ _) ?_
            refine Keeps.ite (fun _ => ?_) fun _ => ?_
            ·
              refine Keeps.smem A.h21 fun _ => ?_
              refine Keeps.store kept_trans A.h21 (fun σ => kept_ptr σ _ (by rw [succ_toNat hb]; omega)) ?_
              refine Keeps.call (k - 1) (fun u hu => by cases hu; exact (by omega : k - 1 < k)) ?_
              exact IH hb
            ·
              refine Keeps.call (k - 1) (fun u hu => by cases hu; exact (by omega : k - 1 < k)) ?_
              exact IH hb
          ·
            refine Keeps.ite (fun _ => ?_) fun _ => ?_
            ·
              refine Keeps.smem A.h21 fun _ => ?_
              refine Keeps.store kept_trans A.h21 (fun σ => kept_ptr σ _ (by rw [succ_toNat hb]; omega)) ?_
              refine Keeps.call (k - 1) (fun u hu => by cases hu; exact (by omega : k - 1 < k)) ?_
              exact IH hb
            ·
              refine Keeps.call (k - 1) (fun u hu => by cases hu; exact (by omega : k - 1 < k)) ?_
              exact IH hb
      ·
        refine Keeps.dite (fun _ => ?_) fun _ => ?_
        ·
          refine Keeps.bind kept_trans (Keeps.of_mods (W := ∅) (mods_k0_part141 _ _ _ _ _ _ A.h10) kept_of_eq) fun _ => ?_
          refine Keeps.load A.h20 fun _ => ?_
          refine Keeps.store kept_trans A.h20 (fun σ => kept_20 σ _) ?_
          refine Keeps.dite (fun _ => ?_) fun _ => ?_
          ·
            refine Keeps.bind kept_trans (Keeps.of_mods (W := ∅) (mods_k0_part142 _ _ _ _ _ _ A.h10) kept_of_eq) fun _ => ?_
            refine Keeps.load A.h20 fun _ => ?_
            refine Keeps.store kept_trans A.h20 (fun σ => kept_20 σ _) ?_
            refine Keeps.ite (fun _ => ?_) fun _ => ?_
            ·
              refine Keeps.smem A.h21 fun _ => ?_
              refine Keeps.store kept_trans A.h21 (fun σ => kept_ptr σ _ (by rw [succ_toNat hb]; omega)) ?_
              refine Keeps.call (k - 1) (fun u hu => by cases hu; exact (by omega : k - 1 < k)) ?_
              exact IH hb
            ·
              refine Keeps.call (k - 1) (fun u hu => by cases hu; exact (by omega : k - 1 < k)) ?_
              exact IH hb
          ·
            refine Keeps.ite (fun _ => ?_) fun _ => ?_
            ·
              refine Keeps.smem A.h21 fun _ => ?_
              refine Keeps.store kept_trans A.h21 (fun σ => kept_ptr σ _ (by rw [succ_toNat hb]; omega)) ?_
              refine Keeps.call (k - 1) (fun u hu => by cases hu; exact (by omega : k - 1 < k)) ?_
              exact IH hb
            ·
              refine Keeps.call (k - 1) (fun u hu => by cases hu; exact (by omega : k - 1 < k)) ?_
              exact IH hb
        ·
          refine Keeps.dite (fun _ => ?_) fun _ => ?_
          ·
            refine Keeps.bind kept_trans (Keeps.of_mods (W := ∅) (mods_k0_part142 _ _ _ _ _ _ A.h10) kept_of_eq) fun _ => ?_
            refine Keeps.load A.h20 fun _ => ?_
            refine Keeps.store kept_trans A.h20 (fun σ => kept_20 σ _) ?_
            refine Keeps.ite (fun _ => ?_) fun _ => ?_
            ·
              refine Keeps.smem A.h21 fun _ => ?_
              refine Keeps.store kept_trans A.h21 (fun σ => kept_ptr σ _ (by rw [succ_toNat hb]; omega)) ?_
              refine Keeps.call (k - 1) (fun u hu => by cases hu; exact (by omega : k - 1 < k)) ?_
              exact IH hb
            ·
              refine Keeps.call (k - 1) (fun u hu => by cases hu; exact (by omega : k - 1 < k)) ?_
              exact IH hb
          ·
            refine Keeps.ite (fun _ => ?_) fun _ => ?_
            ·
              refine Keeps.smem A.h21 fun _ => ?_
              refine Keeps.store kept_trans A.h21 (fun σ => kept_ptr σ _ (by rw [succ_toNat hb]; omega)) ?_
              refine Keeps.call (k - 1) (fun u hu => by cases hu; exact (by omega : k - 1 < k)) ?_
              exact IH hb
            ·
              refine Keeps.call (k - 1) (fun u hu => by cases hu; exact (by omega : k - 1 < k)) ?_
              exact IH hb
    ·
      exact Keeps.pure kept_refl
termination_by k => k
decreasing_by omega

end Cert.Proof.KernelIdeal
-- ==== Proof.KernelIdeal.Step.lean ====
/-
  One grid point of the kernel: the blocks it leaves, from those it finds.
-/
module

public import proofs.«01_k».proof.Proof.KernelIdeal.Init
public import proofs.«01_k».proof.Proof.KernelIdeal.WhileZ
public import proofs.«01_k».proof.Proof.KernelIdeal.ModsTails

@[expose] public section

set_option maxRecDepth 8000
set_option maxHeartbeats 400000

noncomputable section

namespace Cert.Proof.KernelIdeal

open Cert.KernelIdeal Cert.KernelIdeal.Gen Cert.Proof.Hoare Cert.Proof.Quant

open Idealize.ShloMosaic Idealize.SL.Sem Idealize.SL.RA

variable {U : Type} [URA U] {c : Dev nD} {bd : Option 𝒱₀.V} {L : Finset (Ref sig .tc)} {σ : St sig (Elt Ideal)}

/-- What one point leaves: the outputs of the rows the head loop does not touch, the rows carried on, the pointer in its range. -/
structure Post (A : Bufs L) (i : grid0.Coords) (cu : S25.Idx → BitVec 32) (P : Par) (σ σ' : St sig (Elt Ideal)) : Prop where
  z : ∀ (a : Fin 6656) (l : Fin 128), Good i cu (a.val % 256) → rd A.arg12 σ' (ix2 a l) = P.zn (a.val % 256) (a.val / 256 * 128 + l)
  e : ∀ (a : Fin 3536) (b : Fin 2) (l : Fin 128), 128 ≤ a.val % 136 → rd A.arg10 σ' (ix3 a b l) = P.ex (256 + (2 * (a.val % 136 - 128) + b)) (a.val / 136 * 128 + l)
  b : ∀ (a : Fin 6864) (l : Fin 128), 256 ≤ a.val % 264 → rd A.arg11 σ' (ix2 a l) = P.bx (256 + (a.val % 264 - 256)) (a.val / 264 * 128 + l)
  m : ∀ (a : Fin 256) (l : Fin 128), Good i cu a.val → rd A.arg13 σ' (ix2 a l) = P.mx a l 26
  ptr : Ptr A σ'
  fr : ∀ b, b ≠ A.arg6.view.ref → b ≠ A.arg7.view.ref → b ≠ A.arg8.view.ref → b ≠ A.arg9.view.ref → b ≠ A.arg10.view.ref → b ≠ A.arg11.view.ref → b ≠ A.arg12.view.ref → b ≠ A.arg13.view.ref → b ≠ A.arg17.view.ref → b ≠ A.arg18.view.ref → b ≠ A.arg19.view.ref → b ≠ A.arg20.view.ref → b ≠ A.arg21.view.ref → σ' b = σ b

variable {A : Bufs L} {i : grid0.Coords} {cu : S25.Idx → BitVec 32}

/-- The three parts of a point put together. -/
theorem Post.mk' {P : Par} {σ1 σ2 σ3 σ4 : St sig (Elt Ideal)} (hcu : rd A.arg1 σ1 = cu) (hp : Ptr A σ1) (h2 : Nxt A P σ2)
    (hf : ∀ b, b ≠ A.arg6.view.ref → b ≠ A.arg7.view.ref → b ≠ A.arg10.view.ref → b ≠ A.arg11.view.ref → b ≠ A.arg12.view.ref → b ≠ A.arg13.view.ref → b ≠ A.arg17.view.ref → b ≠ A.arg18.view.ref → b ≠ A.arg19.view.ref → σ2 b = σ1 b)
    (h3 : Kept A i cu σ2 σ3) (h4 : ∀ b, b ≠ A.arg9.view.ref → σ4 b = σ3 b) : Post A i cu P σ1 σ4 := by
  have ne : ∀ {i j : Fin 21}, i ≠ j → _ := fun {i j} hij => A.inj.ne hij
  have e1 : rd A.arg1 σ2 = cu := (rd_congr A.arg1 (hf _ (ne (i := 0) (j := 5) (by decide)) (ne (i := 0) (j := 6) (by decide)) (ne (i := 0) (j := 9) (by decide)) (ne (i := 0) (j := 10) (by decide)) (ne (i := 0) (j := 11) (by decide)) (ne (i := 0) (j := 12) (by decide)) (ne (i := 0) (j := 16) (by decide)) (ne (i := 0) (j := 17) (by decide)) (ne (i := 0) (j := 18) (by decide)))).trans hcu
  have hp2 : Ptr A σ2 := fun x => by
    rw [rd_congr A.arg21 (hf _ (ne (i := 20) (j := 5) (by decide)) (ne (i := 20) (j := 6) (by decide)) (ne (i := 20) (j := 9) (by decide)) (ne (i := 20) (j := 10) (by decide)) (ne (i := 20) (j := 11) (by decide)) (ne (i := 20) (j := 12) (by decide)) (ne (i := 20) (j := 16) (by decide)) (ne (i := 20) (j := 17) (by decide)) (ne (i := 20) (j := 18) (by decide)))]
    exact hp x
  refine ⟨fun a l hg => ?_, fun a b l h => ?_, fun a l h => ?_, fun a l hg => ?_, fun x => ?_, fun b h6 h7 h8 h9 h10 h11 h12 h13 h17 h18 h19 h20 h21 => ?_⟩
  · rw [rd_congr A.arg12 (h4 _ (ne (i := 11) (j := 8) (by decide))), h3.z e1 a l hg]
    exact h2.z a l
  · rw [rd_congr A.arg10 (h4 _ (ne (i := 9) (j := 8) (by decide))), rd_congr A.arg10 (h3.fr _ (ne (i := 9) (j := 7) (by decide)) (ne (i := 9) (j := 11) (by decide)) (ne (i := 9) (j := 12) (by decide)) (ne (i := 9) (j := 19) (by decide)) (ne (i := 9) (j := 20) (by decide)))]
    exact h2.e a b l h
  · rw [rd_congr A.arg11 (h4 _ (ne (i := 10) (j := 8) (by decide))), rd_congr A.arg11 (h3.fr _ (ne (i := 10) (j := 7) (by decide)) (ne (i := 10) (j := 11) (by decide)) (ne (i := 10) (j := 12) (by decide)) (ne (i := 10) (j := 19) (by decide)) (ne (i := 10) (j := 20) (by decide)))]
    exact h2.b a l h
  · rw [rd_congr A.arg13 (h4 _ (ne (i := 12) (j := 8) (by decide))), h3.m e1 a l hg]
    exact h2.m a l
  · rw [rd_congr A.arg21 (h4 _ (ne (i := 20) (j := 8) (by decide)))]
    exact h3.ptr hp2 x
  · rw [h4 b h9, h3.fr b h8 h12 h13 h20 h21, hf b h6 h7 h10 h11 h12 h13 h17 h18 h19]

/-- What a point writes out of the block before. -/
def Wrote (A : Bufs L) (P : Par) (v6 : FVec Ideal S1x256 .f32) (σ1 σ' : St sig (Elt Ideal)) : Prop :=
  ((∀ a, rd A.arg7 σ' (ix3 0 0 a) = scE (amax P.z0 a)) ∧ ∀ (a : Fin 256) (b : Fin 3328), rd A.arg6 σ' (ix2 a b) = encE (P.z0 a b) (invE (amax P.z0 a)))
  ∨ ((∀ a, ((3 / 4 : ℝ) : EReal) ≤ v6 (ix2 0 a)) ∧ rd A.arg7 σ' = rd A.arg7 σ1 ∧ ∀ (a : Fin 256) (b : Fin 3328), rd A.arg6 σ' (ix2 a b) = encE (P.z0 a b) (P.inv a))

theorem Wrote.congr {P : Par} {v6 : FVec Ideal S1x256 .f32} {σ1 σ2 σ' : St sig (Elt Ideal)} (h6 : rd A.arg6 σ' = rd A.arg6 σ2)
    (h7 : rd A.arg7 σ' = rd A.arg7 σ2) (h : Wrote A P v6 σ1 σ2) : Wrote A P v6 σ1 σ' := by
  unfold Wrote at h ⊢
  rw [h6, h7]
  exact h

/-- The body, given its first part. -/
theorem body_runs (A : Bufs L) (i : grid0.Coords) (cu : S25.Idx → BitVec 32) (G : Par → St sig (Elt Ideal) → Prop) {Q1 : _ → St sig (Elt Ideal) → Prop}
    (h1 : Runs U defs₀ 𝒱₀ c none L σ (k0_part133 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21) Q1)
    (hQ : ∀ r σ1, Q1 r σ1 → ∃ P, G P σ1 ∧ Pre A P σ1 ∧ Ptr A σ1 ∧ rd A.arg1 σ1 = cu ∧ ∀ (a : Fin 256) (l : Fin 128), r.2.2 (ix2 a l) = P.inv a) :
    Runs U defs₀ 𝒱₀ c none L σ (cc0_conv_silu_quant i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21)
      (fun _ σ' => ∃ P r σ1, G P σ1 ∧ Q1 r σ1 ∧ Post A i cu P σ1 σ' ∧ Wrote A P r.2.1 σ1 σ') := by
  have ne : ∀ {i j : Fin 21}, i ≠ j → _ := fun {i j} hij => A.inj.ne hij
  unfold cc0_conv_silu_quant
  refine Runs.bind h1 fun r σ1 hq => ?_
  obtain ⟨P, hG, hP, hptr, hcu, hinv⟩ := hQ r σ1 hq
  refine Runs.bind (part134_runs A i P _ _ _ hP hinv) fun r2 σ2 h2 => ?_
  have hr : (r2.2 : BitVec 32).toNat ≤ 25 := by
    rw [h2.2.2.1, View.readAt_unit A.arg21.view (σ1 A.arg21.view.ref) inb_S1_S1_0 rfl inb_S1_S1_0]
    exact hptr _
  refine Runs.call (25 - (r2.2 : BitVec 32).toNat) (fun u hu => by cases hu) (keepz_while (A := A) (i := i) (cu := cu) _ _ _ (Nat.add_sub_cancel' hr) σ2) fun _ σ3 h3 => ?_
  have fin : ∀ σ4 : St sig (Elt Ideal), (∀ b, b ∉ ({A.arg9.view.ref} : Set (Ref sig .tc)) → σ4 b = σ3 b) → ∃ P r σ1, G P σ1 ∧ Q1 r σ1 ∧ Post A i cu P σ1 σ4 ∧ Wrote A P r.2.1 σ1 σ4 := fun σ4 h4 => by
    have h4' : ∀ b, b ≠ A.arg9.view.ref → σ4 b = σ3 b := fun b hb => h4 b hb
    exact ⟨P, r, σ1, hG, hq, Post.mk' hcu hptr h2.1 h2.2.1 h3 h4', Wrote.congr
      ((rd_congr A.arg6 (h4' _ (ne (i := 5) (j := 8) (by decide)))).trans (rd_congr A.arg6 (h3.fr _ (ne (i := 5) (j := 7) (by decide)) (ne (i := 5) (j := 11) (by decide)) (ne (i := 5) (j := 12) (by decide)) (ne (i := 5) (j := 19) (by decide)) (ne (i := 5) (j := 20) (by decide)))))
      ((rd_congr A.arg7 (h4' _ (ne (i := 6) (j := 8) (by decide)))).trans (rd_congr A.arg7 (h3.fr _ (ne (i := 6) (j := 7) (by decide)) (ne (i := 6) (j := 11) (by decide)) (ne (i := 6) (j := 12) (by decide)) (ne (i := 6) (j := 19) (by decide)) (ne (i := 6) (j := 20) (by decide))))) h2.2.2.2⟩
  have w9 : A.arg9.view.ref ∈ ({A.arg9.view.ref} : Set (Ref sig .tc)) := rfl
  refine Runs.dite (fun hc => ?_) fun hc => ?_
  · refine Runs.mono (show Runs U defs₀ 𝒱₀ c none L σ3 _ (fun _ σ4 => ∀ b, b ∉ ({A.arg9.view.ref} : Set (Ref sig .tc)) → σ4 b = σ3 b) from ?_) fun _ σ4 h4 => fin σ4 h4
    refine (?_ : Mods U defs₀ 𝒱₀ c none L {A.arg9.view.ref} _) σ3
    refine Mods.bind (mods_k0_part132 A.h9 A.h20 w9) fun _ => ?_
    refine Mods.store A.h9 w9 ?_
    refine Mods.load A.h20 fun _ => ?_
    refine Mods.load A.h9 fun _ => ?_
    refine Mods.store A.h9 w9 ?_
    refine Mods.load A.h20 fun _ => ?_
    refine Mods.load A.h9 fun _ => ?_
    refine Mods.store A.h9 w9 ?_
    exact Mods.pure
  · exact Runs.ret (fin σ3 fun _ _ => rfl)

/-- The greatest new output of a row, lane by lane, is the greatest over the row. -/
theorem mx_sup (P : Par) (a : ℕ) : (Finset.univ.sup fun l : Fin 128 => P.mx a l 26) = Finset.univ.sup fun b : Fin 3328 => P.zn a b := by
  have : ∀ (l n : ℕ), P.mx a l n = tiles ⊥ (P.zn a) l n := fun l n => by
    induction n with
    | zero => rfl
    | succ n ih => show max _ _ = max _ _; rw [ih]
  simp only [this]
  exact sup_tiles fun _ => bot_le

theorem Post.rmax {P : Par} {σ' : St sig (Elt Ideal)} (h : Post A i cu P σ σ') (a : Fin 256) (hg : Good i cu a.val) :
    rmax A σ' a = Finset.univ.sup fun b : Fin 3328 => P.zn a b := by
  refine Eq.trans ?_ (mx_sup P a)
  unfold Cert.Proof.KernelIdeal.rmax
  exact congrArg (Finset.univ.sup) (funext fun l => h.m a l hg)

/-- A point after the first: the block before is written with its exact scale in every row whose running maximum is its own. -/
theorem body_next (A : Bufs L) (i : grid0.Coords) (cu : S25.Idx → BitVec 32) (P : Par) (hi : ¬k0_cond1 i = 1#1) (hP : Pre A P σ)
    (hinv : ∀ a : Fin 256, P.inv a = invE (silu (rmax A σ a))) (hptr : Ptr A σ) (hcu : rd A.arg1 σ = cu) :
    Runs U defs₀ 𝒱₀ c none L σ (cc0_conv_silu_quant i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21)
      (fun _ σ' => Post A i cu P σ σ' ∧ ∀ a : Fin 256, rmax A σ a = (Finset.univ.sup fun b : Fin 3328 => P.z0 a b) →
        rd A.arg7 σ' (ix3 0 0 a) = scE (amax P.z0 a) ∧ ∀ b : Fin 3328, rd A.arg6 σ' (ix2 a b) = encE (P.z0 a b) (invE (amax P.z0 a))) := by
  have ne : ∀ {i j : Fin 21}, i ≠ j → _ := fun {i j} hij => A.inj.ne hij
  refine Runs.mono (body_runs A i cu (fun P' _ => P' = P) (part133_next A i hi) fun r σ1 h1 => ?_) fun _ σ' h' => ?_
  · refine ⟨P, rfl, ?_, ?_, ?_, fun a l => (h1.1 a l).trans (hinv a).symm⟩
    · exact hP.congr fun b h7 _ _ => h1.2.2.2 b h7
    · intro x
      rw [rd_congr A.arg21 (h1.2.2.2 _ (ne (i := 20) (j := 6) (by decide)))]
      exact hptr x
    · exact (rd_congr A.arg1 (h1.2.2.2 _ (ne (i := 0) (j := 6) (by decide)))).trans hcu
  · obtain ⟨P', r, σ1, rfl, h1, hpost, hw⟩ := h'
    refine ⟨⟨hpost.z, hpost.e, hpost.b, hpost.m, hpost.ptr, fun b h6 h7 h8 h9 h10 h11 h12 h13 h17 h18 h19 h20 h21 => (hpost.fr b h6 h7 h8 h9 h10 h11 h12 h13 h17 h18 h19 h20 h21).trans (h1.2.2.2 b h7)⟩, fun a ha => ?_⟩
    rcases hw with hw | hw
    · exact ⟨hw.1 a, hw.2 a⟩
    · have h34 := hw.1 a
      rw [h1.2.1 a, ha] at h34
      have hs : amax P'.z0 a = silu (rmax A σ a) := by
        rw [ha]
        exact sup_fast (fun b : Fin 3328 => P'.z0 a b) h34
      refine ⟨?_, fun b => ?_⟩
      · rw [hw.2.1, h1.2.2.1 a, hs]
      · rw [hw.2.2 a b, hinv a, hs]

/-- A function of two numbers in range, continued by zero. -/
def fn2 {n m : ℕ} (f : Fin n → Fin m → EReal) (r l : ℕ) : EReal := if h : r < n ∧ l < m then f ⟨r, h.1⟩ ⟨l, h.2⟩ else 0

theorem fn2_of {n m : ℕ} (f : Fin n → Fin m → EReal) {r l : ℕ} (a : Fin n) (b : Fin m) (hr : r = a.val) (hl : l = b.val) : fn2 f r l = f a b := by
  subst hr hl
  exact dif_pos ⟨a.isLt, b.isLt⟩

/-- The first point: whatever the buffers held, the new block's outputs are left. -/
theorem body_zero (A : Bufs L) (i : grid0.Coords) (cu : S25.Idx → BitVec 32) (w : ℕ → ℕ → EReal) (bias : ℕ → EReal) (x : ℕ → ℕ → EReal) (sc : ℕ → EReal)
    (hi : k0_cond1 i = 1#1) (h : Src A w bias σ) (hx : ∀ (a : Fin 256) (b : Fin 3328), rd A.arg2 σ (ix2 a b) = x a b)
    (hsc : ∀ a : Fin 256, rd A.arg3 σ (ix3 0 0 a) = sc a) (hcu : rd A.arg1 σ = cu) :
    Runs U defs₀ 𝒱₀ c none L σ (cc0_conv_silu_quant i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21)
      (fun _ σ' => ∃ (P : Par) (σ1 : St sig (Elt Ideal)), (P.x = x ∧ P.sc = sc ∧ P.w = w ∧ P.bias = bias) ∧ Post A i cu P σ1 σ' ∧ Pre A P σ1
        ∧ ∀ b, b ≠ A.arg7.view.ref → b ≠ A.arg10.view.ref → b ≠ A.arg11.view.ref → b ≠ A.arg12.view.ref → b ≠ A.arg13.view.ref → b ≠ A.arg14.view.ref → b ≠ A.arg15.view.ref → b ≠ A.arg16.view.ref → b ≠ A.arg21.view.ref → σ1 b = σ b) := by
  have ne : ∀ {i j : Fin 21}, i ≠ j → _ := fun {i j} hij => A.inj.ne hij
  refine Runs.mono (body_runs A i cu (fun P σ1 => (P.x = x ∧ P.sc = sc ∧ P.w = w ∧ P.bias = bias) ∧ Pre A P σ1
    ∧ ∀ b, b ≠ A.arg7.view.ref → b ≠ A.arg10.view.ref → b ≠ A.arg11.view.ref → b ≠ A.arg12.view.ref → b ≠ A.arg13.view.ref → b ≠ A.arg14.view.ref → b ≠ A.arg15.view.ref → b ≠ A.arg16.view.ref → b ≠ A.arg21.view.ref → σ1 b = σ b)
    (part133_zero A i hi h) fun r σ1 h1 => ?_) fun _ σ' h' => ?_
  · obtain ⟨σ0, h0, hinv, hf⟩ := h1
    let P : Par := {
      z0 := fun q col => fn2 (fun (a : Fin 6656) (l : Fin 128) => rd A.arg12 σ1 (ix2 a l)) (col / 128 * 256 + q) (col % 128)
      inv := fun a => fn2 (fun (a : Fin 256) (_ : Fin 1) => invE (silu (rmax A σ0 a))) a 0
      e0 := fun q col => fn2 (fun (a : Fin 3536) (n : Fin 256) => rd A.arg10 σ1 (ix3 a ⟨n.val / 128, by omega⟩ ⟨n.val % 128, by omega⟩)) (col / 128 * 136 + 128 + q / 2) (q % 2 * 128 + col % 128)
      b0 := fun q col => fn2 (fun (a : Fin 6864) (l : Fin 128) => rd A.arg11 σ1 (ix2 a l)) (col / 128 * 264 + 256 + q) (col % 128)
      x := x, sc := sc, w := w, bias := bias }
    have hPre : Pre A P σ1 := by
      refine ⟨fun a l => ?_, fun a b l ha => ?_, fun a l ha => ?_, fun a b => ?_, fun t k n => ?_, fun t s l => ?_, fun a => ?_⟩
      · exact (fn2_of (r := (a.val / 256 * 128 + l.val) / 128 * 256 + a.val % 256) (l := (a.val / 256 * 128 + l.val) % 128) (fun (a : Fin 6656) (l : Fin 128) => rd A.arg12 σ1 (ix2 a l)) a l (by omega) (by omega)).symm
      · refine ((fn2_of (r := (a.val / 136 * 128 + l.val) / 128 * 136 + 128 + (2 * (a.val % 136 - 128) + b.val) / 2) (l := (2 * (a.val % 136 - 128) + b.val) % 2 * 128 + (a.val / 136 * 128 + l.val) % 128) (fun (a : Fin 3536) (n : Fin 256) => rd A.arg10 σ1 (ix3 a ⟨n.val / 128, by omega⟩ ⟨n.val % 128, by omega⟩)) a (⟨b.val * 128 + l.val, by omega⟩ : Fin 256) (by omega) (by show (2 * (a.val % 136 - 128) + b.val) % 2 * 128 + (a.val / 136 * 128 + l.val) % 128 = b.val * 128 + l.val; omega)).trans ?_).symm
        have e1 : (⟨(b.val * 128 + l.val) / 128, by omega⟩ : Fin 2) = b := Fin.ext (by show (b.val * 128 + l.val) / 128 = b.val; omega)
        have e2 : (⟨(b.val * 128 + l.val) % 128, by omega⟩ : Fin 128) = l := Fin.ext (by show (b.val * 128 + l.val) % 128 = l.val; omega)
        show rd A.arg10 σ1 (ix3 a ⟨(b.val * 128 + l.val) / 128, _⟩ ⟨(b.val * 128 + l.val) % 128, _⟩) = _
        rw [e1, e2]
      · exact (fn2_of (r := (a.val / 264 * 128 + l.val) / 128 * 264 + 256 + (a.val % 264 - 256)) (l := (a.val / 264 * 128 + l.val) % 128) (fun (a : Fin 6864) (l : Fin 128) => rd A.arg11 σ1 (ix2 a l)) a l (by omega) (by omega)).symm
      · rw [rd_congr A.arg2 ((hf _ (ne (i := 1) (j := 6) (by decide))).trans (h0.fr _ (ne (i := 1) (j := 9) (by decide)) (ne (i := 1) (j := 10) (by decide)) (ne (i := 1) (j := 11) (by decide)) (ne (i := 1) (j := 12) (by decide)) (ne (i := 1) (j := 13) (by decide)) (ne (i := 1) (j := 14) (by decide)) (ne (i := 1) (j := 15) (by decide)) (ne (i := 1) (j := 20) (by decide))))]
        exact hx a b
      · rw [rd_congr A.arg14 (hf _ (ne (i := 13) (j := 6) (by decide)))]
        exact h0.rhs t k n
      · rw [rd_congr A.arg15 (hf _ (ne (i := 14) (j := 6) (by decide)))]
        exact h0.bias t s l
      · rw [rd_congr A.arg3 ((hf _ (ne (i := 2) (j := 6) (by decide))).trans (h0.fr _ (ne (i := 2) (j := 9) (by decide)) (ne (i := 2) (j := 10) (by decide)) (ne (i := 2) (j := 11) (by decide)) (ne (i := 2) (j := 12) (by decide)) (ne (i := 2) (j := 13) (by decide)) (ne (i := 2) (j := 14) (by decide)) (ne (i := 2) (j := 15) (by decide)) (ne (i := 2) (j := 20) (by decide))))]
        exact hsc a
    refine ⟨P, ⟨⟨rfl, rfl, rfl, rfl⟩, hPre, fun b h7 h10 h11 h12 h13 h14 h15 h16 h21 => (hf b h7).trans (h0.fr b h10 h11 h12 h13 h14 h15 h16 h21)⟩, hPre, fun y => ?_, ?_, fun a l => ?_⟩
    · rw [rd_congr A.arg21 (hf _ (ne (i := 20) (j := 6) (by decide))), h0.ptr y]
      exact Nat.zero_le _
    · exact (rd_congr A.arg1 ((hf _ (ne (i := 0) (j := 6) (by decide))).trans (h0.fr _ (ne (i := 0) (j := 9) (by decide)) (ne (i := 0) (j := 10) (by decide)) (ne (i := 0) (j := 11) (by decide)) (ne (i := 0) (j := 12) (by decide)) (ne (i := 0) (j := 13) (by decide)) (ne (i := 0) (j := 14) (by decide)) (ne (i := 0) (j := 15) (by decide)) (ne (i := 0) (j := 20) (by decide))))).trans hcu
    · rw [hinv a l]
      exact (fn2_of (fun (a : Fin 256) (_ : Fin 1) => invE (silu (rmax A σ0 a))) a 0 rfl rfl).symm
  · obtain ⟨P, r, σ1, ⟨hG, hPre, hf⟩, -, hpost, -⟩ := h'
    exact ⟨P, σ1, hG, hpost, hPre, hf⟩

end Cert.Proof.KernelIdeal
-- ==== Proof.KernelIdeal.Row.lean ====
/-
  What the kernel computes, row by row: the dequantised rows, the convolution at a row, and the row's codes and scale; and
  the rows for which the kernel's blocks are these: those with no sequence starting within the three rows up to them.
-/
module

public import proofs.«01_k».proof.Proof.KernelIdeal.Step

@[expose] public section

noncomputable section

namespace Cert.Proof.KernelIdeal

open Cert.KernelIdeal Cert.KernelIdeal.Gen Cert.Proof.Hoare Cert.Proof.Quant

open Idealize.ShloMosaic

/-- The inputs as functions of row and channel: codes, scales, taps, bias. -/
structure Ins where
  x : ℕ → ℕ → EReal
  s : ℕ → EReal
  w : ℕ → ℕ → EReal
  bias : ℕ → EReal

namespace Ins
variable (D : Ins)

/-- A dequantised element. -/
def X (r col : ℕ) : EReal := D.x r col * D.s r
/-- The even taps at a row. -/
def B (r col : ℕ) : EReal := D.X r col * D.w 2 col + D.X (r - 2) col * D.w 0 col
/-- The convolution at a row that has its three predecessors. -/
def Z (r col : ℕ) : EReal := D.X r col * D.w 3 col + D.X (r - 2) col * D.w 1 col + D.B (r - 1) col + D.bias col
/-- The row's codes. -/
def code (r col : ℕ) : EReal := encE (D.Z r col) (invE (amax D.Z r))
/-- The row's scale. -/
def scale (r : ℕ) : EReal := scE (amax D.Z r)

/-- The parameters of a point are the inputs' rows of block `n`. -/
structure At (P : Par) (n : ℕ) : Prop where
  x : ∀ q col, q < 256 → col < 3328 → P.x q col = D.x (256 * n + q) col
  sc : ∀ q, q < 256 → P.sc q = D.s (256 * n + q)
  w : P.w = D.w
  bias : P.bias = D.bias
  e : n ≠ 0 → ∀ q col, q < 16 → col < 3328 → P.e0 q col = D.X (256 * n + q - 16) col
  b : n ≠ 0 → ∀ q col, q < 8 → col < 3328 → P.b0 q col = D.B (256 * n + q - 8) col

variable {D} {P : Par} {n : ℕ}

theorem At.ex (h : D.At P n) (q col : ℕ) (hq : n ≠ 0 ∨ 16 ≤ q) (hq' : q < 272) (hc : col < 3328) : P.ex q col = D.X (256 * n + q - 16) col := by
  unfold Par.ex
  split
  · exact h.e (by omega) q col (by omega) hc
  · rw [h.x _ _ (by omega) hc, h.sc _ (by omega), show 256 * n + (q - 16) = 256 * n + q - 16 by omega]
    rfl

theorem At.bf (h : D.At P n) (r col : ℕ) (hr : n ≠ 0 ∨ 2 ≤ r) (hr' : r < 256) (hc : col < 3328) : P.bf r col = D.B (256 * n + r) col := by
  unfold Par.bf
  rw [h.ex (r + 16) col (by omega) (by omega) hc, h.ex (r + 14) col (by omega) (by omega) hc, h.w,
    show 256 * n + (r + 16) - 16 = 256 * n + r by omega, show 256 * n + (r + 14) - 16 = 256 * n + r - 2 by omega]
  rfl

theorem At.bx (h : D.At P n) (q col : ℕ) (hq : n ≠ 0 ∨ 10 ≤ q) (hq' : q < 264) (hc : col < 3328) : P.bx q col = D.B (256 * n + q - 8) col := by
  unfold Par.bx
  split
  · exact h.b (by omega) q col (by omega) hc
  · rw [h.bf _ _ (by omega) (by omega) hc, show 256 * n + (q - 8) = 256 * n + q - 8 by omega]

theorem At.zn (h : D.At P n) (r col : ℕ) (hr : 3 ≤ 256 * n + r) (hr' : r < 256) (hc : col < 3328) : P.zn r col = D.Z (256 * n + r) col := by
  unfold Par.zn Par.af
  rw [h.ex (r + 16) col (by omega) (by omega) hc, h.ex (r + 14) col (by omega) (by omega) hc, h.bx (r + 7) col (by omega) (by omega) hc, h.w, h.bias,
    show 256 * n + (r + 16) - 16 = 256 * n + r by omega, show 256 * n + (r + 14) - 16 = 256 * n + r - 2 by omega,
    show 256 * n + (r + 7) - 8 = 256 * n + r - 1 by omega]
  rfl

end Ins

/-- Row `r` has three rows before it, and no sequence starts at it or at the two rows before it. -/
def Ok (cu : S25.Idx → BitVec 32) (r : ℕ) : Prop :=
  3 ≤ r ∧ ∀ x, (BitVec.ofNat 32 r).toInt < (cu x).toInt ∨ 3 ≤ (BitVec.ofNat 32 r - cu x).toInt

/-- Such a row is none the head loop rewrites. -/
theorem Ok.good {cu : S25.Idx → BitVec 32} {i : grid0.Coords} {n a : ℕ} (hn : (i 0).val = n) (hn' : n < 129) (ha : a < 256) (h : Ok cu (256 * n + a)) : Good i cu a := by
  intro x d he
  have hx := h.2 x
  have h3 := h.1
  rw [hn] at he
  have hd := d.isLt
  generalize d.val = k at he hd
  generalize cu x = v at he hx
  have e : v = BitVec.ofNat 32 (256 * n + a - k) := by
    apply BitVec.eq_of_toNat_eq
    have he' : (v - BitVec.ofNat 32 n * 256#32 + BitVec.ofNat 32 k).toNat = a := he
    simp only [BitVec.toNat_add, BitVec.toNat_sub, BitVec.toNat_mul, BitVec.toNat_ofNat] at he' ⊢
    have := v.isLt
    omega
  subst e
  have e1 : (BitVec.ofNat 32 (256 * n + a)).toInt = ((256 * n + a : ℕ) : ℤ) := by
    rw [BitVec.toInt_eq_toNat_of_lt (by simp only [BitVec.toNat_ofNat]; omega), BitVec.toNat_ofNat, Nat.mod_eq_of_lt (by omega)]
  have e2 : (BitVec.ofNat 32 (256 * n + a - k)).toInt = ((256 * n + a - k : ℕ) : ℤ) := by
    rw [BitVec.toInt_eq_toNat_of_lt (by simp only [BitVec.toNat_ofNat]; omega), BitVec.toNat_ofNat, Nat.mod_eq_of_lt (by omega)]
  have e3 : BitVec.ofNat 32 (256 * n + a) - BitVec.ofNat 32 (256 * n + a - k) = BitVec.ofNat 32 k := by
    apply BitVec.eq_of_toNat_eq
    simp only [BitVec.toNat_sub, BitVec.toNat_ofNat]
    omega
  have e4 : (BitVec.ofNat 32 k).toInt = (k : ℤ) := by
    rw [BitVec.toInt_eq_toNat_of_lt (by simp only [BitVec.toNat_ofNat]; omega), BitVec.toNat_ofNat, Nat.mod_eq_of_lt (by omega)]
  rw [e3, e4, e1, e2] at hx
  omega

end Cert.Proof.KernelIdeal
-- ==== Proof.RI.Math.lean ====
/-
  The reference's arithmetic, element by element: the convolution at a row that has its three predecessors in its sequence,
  the row's greatest magnitude, its scale by doubling, and its codes.
-/
module

public import proofs.«01_k».proof.Proof.Gen.ReferenceIdeal.Skeleton
public import proofs.«01_k».proof.Proof.KernelIdeal.Row
public import Idealize.ShloMosaic.Lib.Pointwise.Tactic
public import Idealize.ShloMosaic.Lib.Pointwise.Contract
public import Idealize.ShloMosaic.Lib.Pipeline.Value
public import Idealize.ShloMosaic.Lib.ValueLayout
public import Idealize.ShloMosaic.Lib.ValueLayoutCasts
public import Idealize.ShloMosaic.Lib.Pipeline.Value
@[expose] public section

set_option maxRecDepth 16384

noncomputable section

namespace Cert.Proof.RI

open Cert.ReferenceIdeal Cert.ReferenceIdeal.Gen Cert.Proof.Quant
open Cert.Proof.KernelIdeal (Ins Ok amax encE fn2 fn2_of)

open Idealize.ShloMosaic

/-- The row indices. -/
def rowV : IVec S32768x1 32 := iota .tc S32768x1 32 [0] iota_S32768x1_d0_w32

/-- Each row's distance from the last start among `q` not after it. -/
def posV (q : Fin 25 → BitVec 32) : IVec S32768x1 32 :=
  k0_pay7 (F := Ideal) rowV (k0_pay6 (F := Ideal) rowV (k0_pay4 (F := Ideal) rowV (k0_pay3 (F := Ideal) (q 0) (q 0) (q 1) (q 1) (q 2) (q 2) (q 3) (q 3) (q 4) (q 4) (q 5) (q 5)) (q 6) (q 6) (q 7) (q 7) (q 8) (q 8) (q 9) (q 9) (q 10) (q 10) (q 11) (q 11) (q 12) (q 12)) (k0_pay5 (F := Ideal) rowV (q 13)) (q 13) (q 14) (q 14) (q 15) (q 15) (q 16) (q 16) (q 17) (q 17) (q 18) (q 18) (q 19) (q 19) (q 20) (q 20)) (q 21) (q 21) (q 22) (q 22) (q 23) (q 23) (q 24) (q 24)

/-- A start at least three rows back. -/
def Far (r : Fin 32768) (v : BitVec 32) : Prop := 3 ≤ (BitVec.ofNat 32 r.val - v).toInt

theorem rowV_apply (r : Fin 32768) : rowV (ix2 r 0) = BitVec.ofNat 32 r.val := by
  unfold rowV
  pointwise

theorem sle_iff (x y : BitVec 32) : IntOp.cmpi .sle x y = 1#1 ↔ x.toInt ≤ y.toInt := by
  unfold IntOp.cmpi
  by_cases h : x.toInt ≤ y.toInt <;> simp [BitVec.sle, h]

theorem sge_iff (x y : BitVec 32) : IntOp.cmpi .sge x y = 1#1 ↔ y.toInt ≤ x.toInt := by
  unfold IntOp.cmpi
  by_cases h : y.toInt ≤ x.toInt <;> simp [BitVec.sle, h]

theorem sel (r : Fin 32768) (a : BitVec 32) (p : IVec S32768x1 32) (ha : a.toInt ≤ (BitVec.ofNat 32 r.val).toInt → Far r a) (hp : Far r (p (ix2 r 0))) :
    Far r (select (cmpi .sle (broadcast S32768x1 a) rowV) (broadcast S32768x1 a) p (ix2 r 0)) := by
  show Far r (if IntOp.cmpi .sle a (rowV (ix2 r 0)) = 1#1 then a else p (ix2 r 0))
  rw [rowV_apply]
  split
  · exact ha ((sle_iff _ _).1 (by assumption))
  · exact hp

theorem pos_far (q : Fin 25 → BitVec 32) (r : Fin 32768) (h3 : 3 ≤ r.val) (h : ∀ k, (q k).toInt ≤ (BitVec.ofNat 32 r.val).toInt → Far r (q k)) :
    3 ≤ (posV q (ix2 r 0)).toInt := by
  have h0 : Far r 0#32 := by
    unfold Far
    have : (BitVec.ofNat 32 r.val - 0#32).toInt = r.val := by
      rw [BitVec.sub_zero, BitVec.toInt_ofNat', Int.bmod_eq_of_le (by omega) (by omega)]
    omega
  have e3 : Far r (k0_pay3 (F := Ideal) (q 0) (q 0) (q 1) (q 1) (q 2) (q 2) (q 3) (q 3) (q 4) (q 4) (q 5) (q 5) (ix2 r 0)) := by
    unfold k0_pay3
    (try dsimp only)
    iterate 6 refine sel r _ _ (h _) ?_
    exact h0
  have e4 : Far r (k0_pay4 (F := Ideal) rowV (k0_pay3 (F := Ideal) (q 0) (q 0) (q 1) (q 1) (q 2) (q 2) (q 3) (q 3) (q 4) (q 4) (q 5) (q 5)) (q 6) (q 6) (q 7) (q 7) (q 8) (q 8) (q 9) (q 9) (q 10) (q 10) (q 11) (q 11) (q 12) (q 12) (ix2 r 0)) := by
    generalize k0_pay3 (F := Ideal) (q 0) (q 0) (q 1) (q 1) (q 2) (q 2) (q 3) (q 3) (q 4) (q 4) (q 5) (q 5) = v at e3 ⊢
    unfold k0_pay4
    (try dsimp only)
    iterate 7 refine sel r _ _ (h _) ?_
    exact e3
  have e6 : Far r (k0_pay6 (F := Ideal) rowV (k0_pay4 (F := Ideal) rowV (k0_pay3 (F := Ideal) (q 0) (q 0) (q 1) (q 1) (q 2) (q 2) (q 3) (q 3) (q 4) (q 4) (q 5) (q 5)) (q 6) (q 6) (q 7) (q 7) (q 8) (q 8) (q 9) (q 9) (q 10) (q 10) (q 11) (q 11) (q 12) (q 12)) (k0_pay5 (F := Ideal) rowV (q 13)) (q 13) (q 14) (q 14) (q 15) (q 15) (q 16) (q 16) (q 17) (q 17) (q 18) (q 18) (q 19) (q 19) (q 20) (q 20) (ix2 r 0)) := by
    generalize k0_pay4 (F := Ideal) rowV (k0_pay3 (F := Ideal) (q 0) (q 0) (q 1) (q 1) (q 2) (q 2) (q 3) (q 3) (q 4) (q 4) (q 5) (q 5)) (q 6) (q 6) (q 7) (q 7) (q 8) (q 8) (q 9) (q 9) (q 10) (q 10) (q 11) (q 11) (q 12) (q 12) = v at e4 ⊢
    unfold k0_pay6 k0_pay5
    (try dsimp only)
    iterate 8 refine sel r _ _ (h _) ?_
    exact e4
  unfold posV
  generalize k0_pay6 (F := Ideal) rowV (k0_pay4 (F := Ideal) rowV (k0_pay3 (F := Ideal) (q 0) (q 0) (q 1) (q 1) (q 2) (q 2) (q 3) (q 3) (q 4) (q 4) (q 5) (q 5)) (q 6) (q 6) (q 7) (q 7) (q 8) (q 8) (q 9) (q 9) (q 10) (q 10) (q 11) (q 11) (q 12) (q 12)) (k0_pay5 (F := Ideal) rowV (q 13)) (q 13) (q 14) (q 14) (q 15) (q 15) (q 16) (q 16) (q 17) (q 17) (q 18) (q 18) (q 19) (q 19) (q 20) (q 20) = v at e6 ⊢
  have e7 : ∀ p : IVec S32768x1 32, Far r (p (ix2 r 0)) → 3 ≤ (subi rowV p (ix2 r 0)).toInt := by
    intro p hp
    show 3 ≤ (rowV (ix2 r 0) - p (ix2 r 0)).toInt
    rw [rowV_apply]
    exact hp
  unfold k0_pay7
  (try dsimp only)
  refine e7 _ ?_
  iterate 4 refine sel r _ _ (h _) ?_
  exact e6

/-- The activations. -/
def sV (x0 : Vec Ideal S32768x3328 .fp8e4m3) (x1 : Vec Ideal S32768x1 .f32) (x3 : Vec Ideal S3328x4 .bf16) (x4 : Vec Ideal S1x3328 .bf16) (pos : IVec S32768x1 32) : FVec Ideal S32768x3328 .f32 :=
  k0_pay12 (F := Ideal) (k0_pay2 x0 x1) pos (k0_pay8 x3) (k0_pay9 (k0_pay2 x0 x1) x3 x4) (k0_pay10 (k0_pay2 x0 x1) x3) (Scalar.ofBits .f32 0x00000000#32)
    (shapeCast S32768x1 (cmpi .sge pos (broadcast S32768x1 3#32)) shapeCasts_S32768x1_S32768x1)

theorem x_at (x0 : Vec Ideal S32768x3328 .fp8e4m3) (x1 : Vec Ideal S32768x1 .f32) (r : Fin 32768) (b : Fin 3328) :
    (k0_pay2 (F := Ideal) x0 x1 (ix2 r b) : EReal) = (x0 (ix2 r b) : EReal) * x1 (ix2 r 0) := by
  unfold k0_pay2
  (try dsimp only)
  pointwise

theorem w_at (x3 : Vec Ideal S3328x4 .bf16) (k : Fin 4) (b : Fin 3328) : (k0_pay8 (F := Ideal) x3 (ix2 k b) : EReal) = x3 (ix2 b k) := by
  unfold k0_pay8
  (try dsimp only)
  pointwise

theorem shift3 (z : FVec Ideal S3x3328 .f32) (v : FVec Ideal S32768x3328 .f32) (r : Fin 32768) (b : Fin 3328) (h : 3 ≤ r.val) :
    concatenate S32768x3328 0 [⟨S3x3328, z⟩, ⟨S32765x3328, extractStridedSlice S32765x3328 ![0, 0] v slices_S32768x3328_o0_0_S32765x3328⟩] concatenates_S3x3328_S32765x3328_S32768x3328_d0 (ix2 r b)
      = v (ix2 ⟨r.val - 3, by omega⟩ b) := by
  refine (Idealize.ShloMosaic.concatenate_pair_apply_right (t := S32768x3328) (s₁ := S3x3328) (s₂ := S32765x3328) 0 _ _ _ (ix2 r b) rfl rfl (ix2 ⟨r.val - 3, by omega⟩ b) (fun a ha => ?_) ?_).trans ?_
  · match a with
    | ⟨0, _⟩ => exact absurd rfl ha
    | ⟨1, _⟩ => rfl
  · show r.val - 3 + 3 = r.val
    omega
  · pointwise

theorem shift2 (z : FVec Ideal S2x3328 .f32) (v : FVec Ideal S32768x3328 .f32) (r : Fin 32768) (b : Fin 3328) (h : 3 ≤ r.val) :
    concatenate S32768x3328 0 [⟨S2x3328, z⟩, ⟨S32766x3328, extractStridedSlice S32766x3328 ![0, 0] v slices_S32768x3328_o0_0_S32766x3328⟩] concatenates_S2x3328_S32766x3328_S32768x3328_d0 (ix2 r b)
      = v (ix2 ⟨r.val - 2, by omega⟩ b) := by
  refine (Idealize.ShloMosaic.concatenate_pair_apply_right (t := S32768x3328) (s₁ := S2x3328) (s₂ := S32766x3328) 0 _ _ _ (ix2 r b) rfl rfl (ix2 ⟨r.val - 2, by omega⟩ b) (fun a ha => ?_) ?_).trans ?_
  · match a with
    | ⟨0, _⟩ => exact absurd rfl ha
    | ⟨1, _⟩ => rfl
  · show r.val - 2 + 2 = r.val
    omega
  · pointwise

theorem shift1 (z : FVec Ideal S1x3328 .f32) (v : FVec Ideal S32768x3328 .f32) (r : Fin 32768) (b : Fin 3328) (h : 3 ≤ r.val) :
    concatenate S32768x3328 0 [⟨S1x3328, z⟩, ⟨S32767x3328, extractStridedSlice S32767x3328 ![0, 0] v slices_S32768x3328_o0_0_S32767x3328⟩] concatenates_S1x3328_S32767x3328_S32768x3328_d0 (ix2 r b)
      = v (ix2 ⟨r.val - 1, by omega⟩ b) := by
  refine (Idealize.ShloMosaic.concatenate_pair_apply_right (t := S32768x3328) (s₁ := S1x3328) (s₂ := S32767x3328) 0 _ _ _ (ix2 r b) rfl rfl (ix2 ⟨r.val - 1, by omega⟩ b) (fun a ha => ?_) ?_).trans ?_
  · match a with
    | ⟨0, _⟩ => exact absurd rfl ha
    | ⟨1, _⟩ => rfl
  · show r.val - 1 + 1 = r.val
    omega
  · pointwise

theorem b_at (v : FVec Ideal S32768x3328 .f32) (x3 : Vec Ideal S3328x4 .bf16) (x4 : Vec Ideal S1x3328 .bf16) (r : Fin 32768) (b : Fin 3328) :
    (k0_pay9 (F := Ideal) v x3 x4 (ix2 r b) : EReal) = x4 (ix2 0 b) + (x3 (ix2 b 3) : EReal) * v (ix2 r b) := by
  unfold k0_pay9
  (try dsimp only)
  pointwise
  rw [w_at]

theorem t_at (v : FVec Ideal S32768x3328 .f32) (x3 : Vec Ideal S3328x4 .bf16) (r : Fin 32768) (b : Fin 3328) (h : 3 ≤ r.val) :
    (k0_pay10 (F := Ideal) v x3 (ix2 r b) : EReal) = (x3 (ix2 b 0) : EReal) * v (ix2 ⟨r.val - 3, by omega⟩ b) := by
  rw [← shift3 (broadcast S3x3328 (Scalar.ofBits .f32 0x00000000#32)) v r b h, ← w_at x3 0 b]
  unfold k0_pay10
  (try dsimp only)
  generalize k0_pay8 (F := Ideal) x3 = v8
  pointwise

theorem s_at (x0 : Vec Ideal S32768x3328 .fp8e4m3) (x1 : Vec Ideal S32768x1 .f32) (x3 : Vec Ideal S3328x4 .bf16) (x4 : Vec Ideal S1x3328 .bf16) (pos : IVec S32768x1 32)
    (r : Fin 32768) (b : Fin 3328) (h : 3 ≤ r.val) (hp : 3 ≤ (pos (ix2 r 0)).toInt) :
    (sV x0 x1 x3 x4 pos (ix2 r b) : EReal) = silu (x4 (ix2 0 b) + (x3 (ix2 b 3) : EReal) * k0_pay2 (F := Ideal) x0 x1 (ix2 r b) + (x3 (ix2 b 0) : EReal) * k0_pay2 (F := Ideal) x0 x1 (ix2 ⟨r.val - 3, by omega⟩ b)
      + (x3 (ix2 b 1) : EReal) * k0_pay2 (F := Ideal) x0 x1 (ix2 ⟨r.val - 2, by omega⟩ b) + (x3 (ix2 b 2) : EReal) * k0_pay2 (F := Ideal) x0 x1 (ix2 ⟨r.val - 1, by omega⟩ b)) := by
  have c3 : IntOp.cmpi .sge (pos (ix2 r 0)) 3#32 = 1#1 := (sge_iff _ _).2 hp
  have c2 : IntOp.cmpi .sge (pos (ix2 r 0)) 2#32 = 1#1 := (sge_iff _ _).2 (le_trans (by decide) hp)
  have c1 : IntOp.cmpi .sge (pos (ix2 r 0)) 1#32 = 1#1 := (sge_iff _ _).2 (le_trans (by decide) hp)
  unfold sV
  rw [← t_at _ x3 r b h, ← b_at _ x3 x4 r b, ← w_at x3 1 b, ← w_at x3 2 b]
  rw [← shift2 (broadcast S2x3328 (Scalar.ofBits .f32 0x00000000#32)) (k0_pay2 (F := Ideal) x0 x1) r b h, ← shift1 (broadcast S1x3328 (Scalar.ofBits .f32 0x00000000#32)) (k0_pay2 (F := Ideal) x0 x1) r b h]
  generalize k0_pay2 (F := Ideal) x0 x1 = v
  generalize k0_pay9 (F := Ideal) v x3 x4 = v9
  generalize k0_pay10 (F := Ideal) v x3 = v10
  generalize k0_pay8 (F := Ideal) x3 = v8
  unfold k0_pay12
  (try dsimp only)
  rw [shapeCast_self, shapeCast_self, shapeCast_self]
  pointwise
  rw [c3, c2, c1]
  rfl

/-- The rows' greatest magnitudes. -/
def magV (s : FVec Ideal S32768x3328 .f32) : FVec Ideal S32768x1 .f32 :=
  shapeCast S32768x1 (multiReduction .maximumf [1] S32768 (absf s) 0xFF800000#32 reduces_S32768x3328_S32768 (.inl rfl) rfl) shapeCasts_S32768_S32768x1

theorem magV_apply (s : FVec Ideal S32768x3328 .f32) (r : Fin 32768) : magV s (ix2 r 0) = Finset.univ.sup fun b : Fin 3328 => mag (s (ix2 r b)) := by
  unfold magV
  refine (ValueIdx.shapeCast_a_a1_apply _ _ _ _).trans ?_
  refine (Ideal.multiReduction_maximumf_single _ _ reduces_S32768x3328_S32768 _ _ _).trans ?_
  show (Finset.univ : Finset (Fin 3328)).fold max (Ideal.ofBits .f32 0xFF800000#32) _ = _
  rw [neg_inf]
  refine (Cert.Proof.KernelIdeal.fold_max _ _).trans (Finset.sup_congr rfl fun l _ => ?_)
  have e : reduces_S32768x3328_S32768.lift (ix1 r) l = ix2 r l := by
    funext i
    fin_cases i <;> rfl
  show absf s (reduces_S32768x3328_S32768.lift (ix1 r) l) = _
  rw [e]
  rfl

/-- One trip of the doubling loop. -/
def dblV (a p : FVec Ideal S32768x1 .f32) : FVec Ideal S32768x1 .f32 :=
  select (cmpf .oge (mulf a (broadcast S32768x1 (Scalar.ofBits .f32 0x3B124925#32))) p) (mulf p (broadcast S32768x1 (Scalar.ofBits .f32 0x40000000#32))) p

theorem dblV_apply (a p : FVec Ideal S32768x1 .f32) (i : S32768x1.Idx) (k : ℕ) (h : (p i : EReal) = dbl ((a i : EReal) * cq) k) :
    (dblV a p i : EReal) = dbl ((a i : EReal) * cq) (k + 1) := by
  show (if Ideal.cmp .oge ((a i : EReal) * Ideal.ofBits .f32 0x3B124925#32) (p i) = 1#1 then (p i : EReal) * Ideal.ofBits .f32 0x40000000#32 else p i) = _
  rw [two_bits, h]
  show _ = if dbl ((a i : EReal) * cq) k ≤ (a i : EReal) * cq then dbl ((a i : EReal) * cq) k * ((2 : ℝ) : EReal) else dbl ((a i : EReal) * cq) k
  by_cases hc : dbl ((a i : EReal) * cq) k ≤ (a i : EReal) * cq
  · rw [if_pos hc]
    exact if_pos ((cmp_oge _ _).2 hc)
  · rw [if_neg hc]
    exact if_neg fun e => hc ((cmp_oge _ _).1 e)

/-- The scales after the loop: one for a row of zeros. -/
def scaleV (a p : FVec Ideal S32768x1 .f32) : FVec Ideal S32768x1 .f32 :=
  select (cmpf .oeq a (broadcast S32768x1 (Scalar.ofBits .f32 0x00000000#32))) (broadcast S32768x1 (Scalar.ofBits .f32 0x3F800000#32)) p

theorem scaleV_apply (a p : FVec Ideal S32768x1 .f32) (i : S32768x1.Idx) (h : (p i : EReal) = dbl ((a i : EReal) * cq) 246) :
    (scaleV a p i : EReal) = scE (a i) := by
  show (if Ideal.cmp .oeq (a i : EReal) (Ideal.ofBits .f32 0x00000000#32) = 1#1 then Ideal.ofBits .f32 0x3F800000#32 else (p i : EReal)) = _
  rw [Cert.Proof.KernelIdeal.zero_bits, Cert.Proof.KernelIdeal.one_bits, h, dbl_eq]
  unfold scE
  by_cases hc : (a i : EReal) = 0
  · rw [if_pos hc]
    exact if_pos ((cmp_oeq _ _).2 hc)
  · rw [if_neg hc]
    exact if_neg fun e => hc ((cmp_oeq _ _).1 e)

/-- The first power. -/
theorem pay14_apply (i : S32768x1.Idx) : (k0_pay14 (F := Ideal) i : EReal) = pw 0 := by
  show Ideal.ofBits .f32 0x00800000#32 = _
  exact bits_pw 0 (by omega)

/-- The codes. -/
theorem code_apply (s : FVec Ideal S32768x3328 .f32) (sc : FVec Ideal S32768x1 .f32) (r : Fin 32768) (b : Fin 3328) (z a : EReal) (hs : (s (ix2 r b) : EReal) = silu z) (hc : (sc (ix2 r 0) : EReal) = scE a) :
    (k0_pay1 (F := Ideal) (divf s (broadcastTo S32768x3328 sc broadcasts_S32768x1_S32768x3328)) (ix2 r b) : EReal) = encE z (invE a) := by
  unfold k0_pay1
  (try dsimp only)
  pointwise
  rw [hs, hc, div_sc]
  rfl

end Cert.Proof.RI
-- ==== Proof.Mask.lean ====
/-
  The mask of the value claim, read at an index: a row where it is set is at least three, and every sequence start is either
  after the row or at least three rows before it. On the third and fourth results it is set nowhere.
-/
module

public import proofs.«01_k».proof.On_past_starts
public import proofs.«01_k».proof.Proof.RI.Math
public import Idealize.ShloMosaic.Lib.ReduceAll
public import Idealize.ShloMosaic.Lib.Pointwise.Tactic
@[expose] public section

set_option maxRecDepth 16384

noncomputable section

namespace Cert.Proof.Mask

open Cert.On_past_starts Idealize.ShloMosaic
open Cert.Proof.KernelIdeal (Ok)

/-- The mask's shape relations. -/
theorem onFacts : Facts where
  bcast_S25_S1x25_1 := by decide
  bcast_S32768_S32768x1_0 := by decide
  bcast_S1x25_S32768x25_0_1 := by decide
  bcast_S32768x1_S32768x25_0_1 := by decide
  bcast_S_S32768x25 := by decide
  bcast_S_S32768 := by decide
  reducesTo_S32768x25_S32768_d1 := by decide
  h_S_ := by decide
  bcast_S32768x1_S32768x3328_0_1 := by decide
  shapeCasts_S32768_S128x1x256 := by decide
  bcast_S_S24x3x3328 := by decide
  bcast_S_S24x3328x3 := by decide

variable [Facts]
open Facts

theorem sgt_iff (x y : BitVec 32) : IntOp.cmpi .sgt x y = 1#1 ↔ y.toInt < x.toInt := by
  unfold IntOp.cmpi
  by_cases h : y.toInt < x.toInt <;> simp [BitVec.slt, h]

theorem andi_iff (x y : BitVec 1) : IntOp.andi x y = 1#1 ↔ x = 1#1 ∧ y = 1#1 := by
  revert x y; decide

theorem ori_iff (x y : BitVec 1) : IntOp.ori x y = 1#1 ↔ x = 1#1 ∨ y = 1#1 := by
  revert x y; decide

/-- Start by start: after the row, or at least three rows before it. -/
def farV (cu : IVec S25 32) : IVec S32768x25 1 :=
  ori (cmpi .sgt (broadcastInDim S32768x25 ![0, 1] bcast_S1x25_S32768x25_0_1 (broadcastInDim S1x25 ![1] bcast_S25_S1x25_1 cu))
      (broadcastInDim S32768x25 ![0, 1] bcast_S32768x1_S32768x25_0_1 (broadcastInDim S32768x1 ![0] bcast_S32768_S32768x1_0 (iotaInDim S32768 32 0))))
    (cmpi .sge (subi (broadcastInDim S32768x25 ![0, 1] bcast_S32768x1_S32768x25_0_1 (broadcastInDim S32768x1 ![0] bcast_S32768_S32768x1_0 (iotaInDim S32768 32 0)))
      (broadcastInDim S32768x25 ![0, 1] bcast_S1x25_S32768x25_0_1 (broadcastInDim S1x25 ![1] bcast_S25_S1x25_1 cu)))
      (broadcastInDim S32768x25 ![] bcast_S_S32768x25 (constantI S_ 32 3#32)))

/-- The mask by rows. -/
def okV (cu : IVec S25 32) : IVec S32768 1 :=
  andi (cmpi .sge (iotaInDim S32768 32 0) (broadcastInDim S32768 ![] bcast_S_S32768 (constantI S_ 32 3#32)))
    (Host.reduce IntOp.andi (farV cu) (constantI S_ 1 1#1) reducesTo_S32768x25_S32768_d1 h_S_)

theorem farV_apply (cu : IVec S25 32) (r : Fin 32768) (x : Fin 25) :
    farV cu (ix2 r x) = IntOp.ori (IntOp.cmpi .sgt (cu (ix1 x)) (BitVec.ofNat 32 r.val)) (IntOp.cmpi .sge (IntOp.subi (BitVec.ofNat 32 r.val) (cu (ix1 x))) 3#32) := by
  unfold farV
  pointwise

theorem drop_eq (r : Fin 32768) (x : Fin 25) : (reducesTo_S32768x25_S32768_d1 : S32768x25.ReducesTo [1] S32768).drop (ix2 r x) = ix1 r := by
  funext a
  match a with
  | ⟨0, _⟩ => exact Fin.ext rfl

/-- A row where the mask is set. -/
theorem okV_ok (cu : IVec S25 32) (r : Fin 32768) (h : okV cu (ix1 r) = 1#1) : Ok cu r.val := by
  obtain ⟨h1, h2⟩ := (andi_iff _ _).1 (show IntOp.andi (IntOp.cmpi .sge (BitVec.ofNat 32 r.val) 3#32) (Host.reduce IntOp.andi (farV cu) (constantI S_ 1 1#1) reducesTo_S32768x25_S32768_d1 h_S_ (ix1 r)) = 1#1 from h)
  have h1 := (RI.sge_iff _ _).1 h1
  have hr := r.isLt
  refine ⟨?_, fun x => ?_⟩
  · simp only [BitVec.toInt_eq_toNat_cond, BitVec.toNat_ofNat] at h1
    omega
  · obtain ⟨y, rfl⟩ : ∃ y : Fin 25, x = ix1 y := ⟨x 0, by funext a; match a with | ⟨0, _⟩ => rfl⟩
    have e := Host.reduce_andi_eq_one _ _ _ _ _ h2 (ix2 r y) (drop_eq r y)
    rw [farV_apply, ori_iff, sgt_iff, RI.sge_iff] at e
    exact e

variable (a0 : FVec Ideal S32768x3328 .fp8e4m3) (a1 : FVec Ideal S32768x1 .f32) (a2 : IVec S25 32) (a3 : FVec Ideal S3328x4 .bf16) (a4 : FVec Ideal S3328 .bf16)

/-- The mask of the first result. -/
theorem fn1 (i : S32768x3328.Idx) (h : (fn (F := Ideal) a0 a1 a2 a3 a4).1 i = 1#1) : Ok a2 (i 0).val := by
  refine okV_ok a2 (i 0) (Eq.trans ?_ h)
  have e : (fn (F := Ideal) a0 a1 a2 a3 a4).1 = broadcastInDim S32768x3328 ![0, 1] bcast_S32768x1_S32768x3328_0_1 (broadcastInDim S32768x1 ![0] bcast_S32768_S32768x1_0 (okV a2)) := rfl
  rw [e]
  generalize okV a2 = v
  obtain ⟨r, b, rfl⟩ : ∃ r b, i = ix2 r b := ⟨i 0, i 1, by funext a; match a with | ⟨0, _⟩ => rfl | ⟨1, _⟩ => rfl⟩
  pointwise

/-- The mask of the second result. -/
theorem fn2 (k : Fin 128) (a : Fin 256) (h : (fn (F := Ideal) a0 a1 a2 a3 a4).2.1 (ix3 k 0 a) = 1#1) : Ok a2 (256 * k.val + a.val) := by
  refine okV_ok a2 ⟨256 * k.val + a.val, by omega⟩ (Eq.trans ?_ h)
  have e : (fn (F := Ideal) a0 a1 a2 a3 a4).2.1 = shapeCast S128x1x256 (okV a2) shapeCasts_S32768_S128x1x256 := rfl
  rw [e]
  generalize okV a2 = v
  pointwise
  congr 2
  exact Fin.ext (by show 256 * k.val + a.val = k.val * 256 + a.val; omega)

/-- The mask of the third result is set nowhere. -/
theorem fn3 (i : S24x3x3328.Idx) (h : (fn (F := Ideal) a0 a1 a2 a3 a4).2.2.1 i = 1#1) : False :=
  absurd (show (0#1 : BitVec 1) = 1#1 from h) (by decide)

/-- The mask of the fourth result is set nowhere. -/
theorem fn4 (i : S24x3328x3.Idx) (h : (fn (F := Ideal) a0 a1 a2 a3 a4).2.2.2 i = 1#1) : False :=
  absurd (show (0#1 : BitVec 1) = 1#1 from h) (by decide)

end Cert.Proof.Mask
-- ==== Proof.RI.Value.lean ====
/-
  What the reference's kernel leaves in its first two results, element by element.
-/
module

public import proofs.«01_k».proof.Proof.Gen.ReferenceIdeal.Frame
public import proofs.«01_k».proof.Proof.RI.Math
public import Idealize.ShloMosaic.Lib.StableHlo.Run
public import Idealize.ShloMosaic.Lib.Tactic

@[expose] public section

set_option maxRecDepth 16384

noncomputable section

namespace Cert.Proof.RI

open Cert.ReferenceIdeal Cert.ReferenceIdeal.Gen Cert.Proof.Quant
open Cert.Proof.KernelIdeal (Ins Ok amax encE fn2 fn2_of)

open Idealize.ShloMosaic Idealize.ShloMosaic.TcCoe
open Idealize.ShloMosaic.Pipeline (Dat Cfg Window)

theorem hz : (![0, 0] : Fin 2 → Nat) = fun _ => 0 := funext fun a => by fin_cases a <;> rfl

theorem ld_one (x : Vec Ideal S25 .i32) (k : ℕ) (hk : k < 25) (h) (h') : View.ld x (Rect.unit (s := S25) ![k] ![1] h) (Shape.Idx.first h') = x (ix1 ⟨k, hk⟩) := by
  refine congrArg x (funext fun a => ?_)
  fin_cases a
  rfl

/-- A fold that does the same at every trip is an iteration. -/
theorem fold_iter {σ : Type} (n : ℕ) (f : σ → σ) (x : σ) : Scf.fold (fun (_ : Fin n) => f) x = f^[n] x := by
  rw [Scf.fold_eq, List.foldl_const, List.length_finRange]

/-- The scales' loop. -/
theorem loop_apply (a : FVec Ideal S32768x1 .f32) (i : S32768x1.Idx) (n : ℕ) : ((dblV a)^[n] (k0_pay14 (F := Ideal)) i : EReal) = dbl ((a i : EReal) * cq) n := by
  induction n with
  | zero => exact pay14_apply i
  | succ n ih =>
    rw [Function.iterate_succ_apply']
    exact dblV_apply a _ i n ih

theorem p13 (v4 : FVec Ideal S32768x3328 .f32) (v157 : IVec S32768x1 32) (v160 : FVec Ideal S4x3328 .f32) (v168 : FVec Ideal S32768x3328 .f32) (v176 : FVec Ideal S32768x3328 .f32) (cst : Ideal .f32) (v177 : IVec S32768x1 1) : k0_pay13 (F := Ideal) v4 v157 v160 v168 v176 cst v177 = magV (k0_pay12 (F := Ideal) v4 v157 v160 v168 v176 cst v177) := rfl
theorem p15 (v4 : FVec Ideal S32768x3328 .f32) (v157 : IVec S32768x1 32) (v160 : FVec Ideal S4x3328 .f32) (v168 : FVec Ideal S32768x3328 .f32) (v176 : FVec Ideal S32768x3328 .f32) (cst : Ideal .f32) (v177 : IVec S32768x1 1) (p) : k0_pay15 (F := Ideal) v4 v157 v160 v168 v176 cst v177 p = dblV (k0_pay13 (F := Ideal) v4 v157 v160 v168 v176 cst v177) p := rfl
theorem p16 (v4 : FVec Ideal S32768x3328 .f32) (v157 : IVec S32768x1 32) (v160 : FVec Ideal S4x3328 .f32) (v168 : FVec Ideal S32768x3328 .f32) (v176 : FVec Ideal S32768x3328 .f32) (cst : Ideal .f32) (v177 : IVec S32768x1 1) (p) : k0_pay16 (F := Ideal) v4 v157 v160 v168 v176 cst v177 p = scaleV (k0_pay13 (F := Ideal) v4 v157 v160 v168 v176 cst v177) p := rfl
theorem p17 (v4 : FVec Ideal S32768x3328 .f32) (v157 : IVec S32768x1 32) (v160 : FVec Ideal S4x3328 .f32) (v168 : FVec Ideal S32768x3328 .f32) (v176 : FVec Ideal S32768x3328 .f32) (cst : Ideal .f32) (v177 : IVec S32768x1 1) (p) : k0_pay17 (F := Ideal) v4 v157 v160 v168 v176 cst v177 p = divf (k0_pay12 (F := Ideal) v4 v157 v160 v168 v176 cst v177) (broadcastTo S32768x3328 (k0_pay16 (F := Ideal) v4 v157 v160 v168 v176 cst v177 p) broadcasts_S32768x1_S32768x3328) := rfl
theorem p11 (v5 v132 : IVec S32768x1 32) (w0 : BitVec 32) (w1 : BitVec 32) (w2 : BitVec 32) (w3 : BitVec 32) (w4 : BitVec 32) (w5 : BitVec 32) (w6 : BitVec 32) (w7 : BitVec 32) : k0_pay11 (F := Ideal) v5 v132 w0 w1 w2 w3 w4 w5 w6 w7 = shapeCast S32768x1 (cmpi .sge (k0_pay7 (F := Ideal) v5 v132 w0 w1 w2 w3 w4 w5 w6 w7) (broadcast S32768x1 3#32)) shapeCasts_S32768x1_S32768x1 := rfl
theorem pos_eq (x2 : Vec Ideal S25 .i32) : k0_pay7 (F := Ideal) (iota .tc S32768x1 32 [0] iota_S32768x1_d0_w32) (k0_pay6 (F := Ideal) (iota .tc S32768x1 32 [0] iota_S32768x1_d0_w32) (k0_pay4 (F := Ideal) (iota .tc S32768x1 32 [0] iota_S32768x1_d0_w32) (k0_pay3 (F := Ideal) (x2 (ix1 ⟨0, by omega⟩)) (x2 (ix1 ⟨0, by omega⟩)) (x2 (ix1 ⟨1, by omega⟩)) (x2 (ix1 ⟨1, by omega⟩)) (x2 (ix1 ⟨2, by omega⟩)) (x2 (ix1 ⟨2, by omega⟩)) (x2 (ix1 ⟨3, by omega⟩)) (x2 (ix1 ⟨3, by omega⟩)) (x2 (ix1 ⟨4, by omega⟩)) (x2 (ix1 ⟨4, by omega⟩)) (x2 (ix1 ⟨5, by omega⟩)) (x2 (ix1 ⟨5, by omega⟩))) (x2 (ix1 ⟨6, by omega⟩)) (x2 (ix1 ⟨6, by omega⟩)) (x2 (ix1 ⟨7, by omega⟩)) (x2 (ix1 ⟨7, by omega⟩)) (x2 (ix1 ⟨8, by omega⟩)) (x2 (ix1 ⟨8, by omega⟩)) (x2 (ix1 ⟨9, by omega⟩)) (x2 (ix1 ⟨9, by omega⟩)) (x2 (ix1 ⟨10, by omega⟩)) (x2 (ix1 ⟨10, by omega⟩)) (x2 (ix1 ⟨11, by omega⟩)) (x2 (ix1 ⟨11, by omega⟩)) (x2 (ix1 ⟨12, by omega⟩)) (x2 (ix1 ⟨12, by omega⟩))) (k0_pay5 (F := Ideal) (iota .tc S32768x1 32 [0] iota_S32768x1_d0_w32) (x2 (ix1 ⟨13, by omega⟩))) (x2 (ix1 ⟨13, by omega⟩)) (x2 (ix1 ⟨14, by omega⟩)) (x2 (ix1 ⟨14, by omega⟩)) (x2 (ix1 ⟨15, by omega⟩)) (x2 (ix1 ⟨15, by omega⟩)) (x2 (ix1 ⟨16, by omega⟩)) (x2 (ix1 ⟨16, by omega⟩)) (x2 (ix1 ⟨17, by omega⟩)) (x2 (ix1 ⟨17, by omega⟩)) (x2 (ix1 ⟨18, by omega⟩)) (x2 (ix1 ⟨18, by omega⟩)) (x2 (ix1 ⟨19, by omega⟩)) (x2 (ix1 ⟨19, by omega⟩)) (x2 (ix1 ⟨20, by omega⟩)) (x2 (ix1 ⟨20, by omega⟩))) (x2 (ix1 ⟨21, by omega⟩)) (x2 (ix1 ⟨21, by omega⟩)) (x2 (ix1 ⟨22, by omega⟩)) (x2 (ix1 ⟨22, by omega⟩)) (x2 (ix1 ⟨23, by omega⟩)) (x2 (ix1 ⟨23, by omega⟩)) (x2 (ix1 ⟨24, by omega⟩)) (x2 (ix1 ⟨24, by omega⟩)) = posV fun k => x2 (ix1 k) := rfl

/-- The scales. -/
def scV (x0 : Vec Ideal S32768x3328 .fp8e4m3) (x1 : Vec Ideal S32768x1 .f32) (x2 : Vec Ideal S25 .i32) (x3 : Vec Ideal S3328x4 .bf16) (x4 : Vec Ideal S1x3328 .bf16) : FVec Ideal S32768x1 .f32 :=
  scaleV (magV (sV x0 x1 x3 x4 (posV fun k => x2 (ix1 k)))) (Scf.fold (fun (_ : Fin k0_t1_loop.trips) => dblV (magV (sV x0 x1 x3 x4 (posV fun k => x2 (ix1 k))))) (k0_pay14 (F := Ideal)))

theorem out5_eq (c : Dev nD) (arg0 : Memref sig .tc .vmem S32768x3328 .fp8e4m3) (harg0 : arg0.IsWhole) (arg1 : Memref sig .tc .vmem S32768x1 .f32) (harg1 : arg1.IsWhole) (arg2 : Memref sig .tc .smem S25 .i32) (harg2 : arg2.IsWhole) (arg3 : Memref sig .tc .vmem S3328x4 .bf16) (harg3 : arg3.IsWhole) (arg4 : Memref sig .tc .vmem S1x3328 .bf16) (harg4 : arg4.IsWhole) (arg5 : Memref sig .tc .vmem S32768x3328 .fp8e4m3) (harg5 : arg5.IsWhole) (arg6 : Memref sig .tc .vmem S32768x1 .f32) (harg6 : arg6.IsWhole) (arg7 : Memref sig .tc .vmem S32768x3328 .f32) (harg7 : arg7.IsWhole) (arg8 : Memref sig .tc .vmem S32768x3328 .f32) (harg8 : arg8.IsWhole) (x0 : Vec Ideal S32768x3328 .fp8e4m3) (x1 : Vec Ideal S32768x1 .f32) (x2 : Vec Ideal S25 .i32) (x3 : Vec Ideal S3328x4 .bf16) (x4 : Vec Ideal S1x3328 .bf16) :
    out0_A_5 c arg0 harg0 arg1 harg1 arg2 harg2 arg3 harg3 arg4 harg4 arg5 harg5 arg6 harg6 arg7 harg7 arg8 harg8 x0 x1 x2 x3 x4 = k0_pay1 (F := Ideal) (divf (sV x0 x1 x3 x4 (posV fun k => x2 (ix1 k))) (broadcastTo S32768x3328 (scV x0 x1 x2 x3 x4) broadcasts_S32768x1_S32768x3328)) := by
  unfold out0_A_5
  rw [View.read_writes_eq_canon _ _ _ (cover0_A_5 c arg0 harg0 arg1 harg1 arg2 harg2 arg3 harg3 arg4 harg4 arg5 harg5 arg6 harg6 arg7 harg7 arg8 harg8 x0 x1 x2 x3 x4)]
  unfold kernelRun0_A
  dsimp only
  rw [View.canon_unit_zero hz]
  sl_unfold_words
  simp only [View.readAt_eq_ld, harg0.read_unread, harg1.read_unread, harg2.read_unread, harg3.read_unread, harg4.read_unread, View.ld_unit_zero (S := S32768x3328) hz, View.ld_unit_zero (S := S32768x1) hz, View.ld_unit_zero (S := S3328x4) hz, View.ld_unit_zero (S := S1x3328) hz]
  simp only [ld_one x2 0 (by omega), ld_one x2 1 (by omega), ld_one x2 2 (by omega), ld_one x2 3 (by omega), ld_one x2 4 (by omega), ld_one x2 5 (by omega), ld_one x2 6 (by omega), ld_one x2 7 (by omega), ld_one x2 8 (by omega), ld_one x2 9 (by omega), ld_one x2 10 (by omega), ld_one x2 11 (by omega), ld_one x2 12 (by omega), ld_one x2 13 (by omega), ld_one x2 14 (by omega), ld_one x2 15 (by omega), ld_one x2 16 (by omega), ld_one x2 17 (by omega), ld_one x2 18 (by omega), ld_one x2 19 (by omega), ld_one x2 20 (by omega), ld_one x2 21 (by omega), ld_one x2 22 (by omega), ld_one x2 23 (by omega), ld_one x2 24 (by omega), p17, p16, p15, p13, p11]
  have e := pos_eq x2
  unfold scV sV
  rw [← e]

theorem out6_eq (c : Dev nD) (arg0 : Memref sig .tc .vmem S32768x3328 .fp8e4m3) (harg0 : arg0.IsWhole) (arg1 : Memref sig .tc .vmem S32768x1 .f32) (harg1 : arg1.IsWhole) (arg2 : Memref sig .tc .smem S25 .i32) (harg2 : arg2.IsWhole) (arg3 : Memref sig .tc .vmem S3328x4 .bf16) (harg3 : arg3.IsWhole) (arg4 : Memref sig .tc .vmem S1x3328 .bf16) (harg4 : arg4.IsWhole) (arg5 : Memref sig .tc .vmem S32768x3328 .fp8e4m3) (harg5 : arg5.IsWhole) (arg6 : Memref sig .tc .vmem S32768x1 .f32) (harg6 : arg6.IsWhole) (arg7 : Memref sig .tc .vmem S32768x3328 .f32) (harg7 : arg7.IsWhole) (arg8 : Memref sig .tc .vmem S32768x3328 .f32) (harg8 : arg8.IsWhole) (x0 : Vec Ideal S32768x3328 .fp8e4m3) (x1 : Vec Ideal S32768x1 .f32) (x2 : Vec Ideal S25 .i32) (x3 : Vec Ideal S3328x4 .bf16) (x4 : Vec Ideal S1x3328 .bf16) :
    out0_A_6 c arg0 harg0 arg1 harg1 arg2 harg2 arg3 harg3 arg4 harg4 arg5 harg5 arg6 harg6 arg7 harg7 arg8 harg8 x0 x1 x2 x3 x4 = scV x0 x1 x2 x3 x4 := by
  unfold out0_A_6
  rw [View.read_writes_eq_canon _ _ _ (cover0_A_6 c arg0 harg0 arg1 harg1 arg2 harg2 arg3 harg3 arg4 harg4 arg5 harg5 arg6 harg6 arg7 harg7 arg8 harg8 x0 x1 x2 x3 x4)]
  unfold kernelRun0_A
  dsimp only
  rw [View.canon_unit_zero hz]
  sl_unfold_words
  simp only [View.readAt_eq_ld, harg0.read_unread, harg1.read_unread, harg2.read_unread, harg3.read_unread, harg4.read_unread, View.ld_unit_zero (S := S32768x3328) hz, View.ld_unit_zero (S := S32768x1) hz, View.ld_unit_zero (S := S3328x4) hz, View.ld_unit_zero (S := S1x3328) hz]
  simp only [ld_one x2 0 (by omega), ld_one x2 1 (by omega), ld_one x2 2 (by omega), ld_one x2 3 (by omega), ld_one x2 4 (by omega), ld_one x2 5 (by omega), ld_one x2 6 (by omega), ld_one x2 7 (by omega), ld_one x2 8 (by omega), ld_one x2 9 (by omega), ld_one x2 10 (by omega), ld_one x2 11 (by omega), ld_one x2 12 (by omega), ld_one x2 13 (by omega), ld_one x2 14 (by omega), ld_one x2 15 (by omega), ld_one x2 16 (by omega), ld_one x2 17 (by omega), ld_one x2 18 (by omega), ld_one x2 19 (by omega), ld_one x2 20 (by omega), ld_one x2 21 (by omega), ld_one x2 22 (by omega), ld_one x2 23 (by omega), ld_one x2 24 (by omega), p17, p16, p15, p13, p11]
  have e := pos_eq x2
  unfold scV sV
  rw [← e]

section
variable (x0 : Vec Ideal S32768x3328 .fp8e4m3) (x1 : Vec Ideal S32768x1 .f32) (x2 : Vec Ideal S25 .i32) (x3 : Vec Ideal S3328x4 .bf16) (x4 : Vec Ideal S1x3328 .bf16) (D : Ins)
  (hx : ∀ (r : Fin 32768) (b : Fin 3328), (x0 (ix2 r b) : EReal) = D.x r b) (hs : ∀ r : Fin 32768, (x1 (ix2 r 0) : EReal) = D.s r)
  (hw : ∀ (k : Fin 4) (b : Fin 3328), (x3 (ix2 b k) : EReal) = D.w k b) (hb : ∀ b : Fin 3328, (x4 (ix2 0 b) : EReal) = D.bias b)

include hx hs in
theorem X_at (r : Fin 32768) (b : Fin 3328) : (k0_pay2 (F := Ideal) x0 x1 (ix2 r b) : EReal) = D.X r b := by
  rw [x_at, hx, hs]
  rfl

include hx hs hw hb in
/-- The activation at a row that has its three predecessors in its sequence. -/
theorem act_at (r : Fin 32768) (b : Fin 3328) (h : Ok x2 r.val) : (sV x0 x1 x3 x4 (posV fun k => x2 (ix1 k)) (ix2 r b) : EReal) = silu (D.Z r b) := by
  have hp := pos_far (fun k => x2 (ix1 k)) r h.1 fun k hk => ((h.2 (ix1 k)).resolve_left (by omega))
  rw [s_at x0 x1 x3 x4 _ r b h.1 hp]
  rw [X_at x0 x1 D hx hs, X_at x0 x1 D hx hs, X_at x0 x1 D hx hs, X_at x0 x1 D hx hs, hb, hw 3, hw 0, hw 1, hw 2]
  congr 1
  unfold Ins.Z Ins.B
  rw [mul_comm (D.w _ _), mul_comm (D.w _ _), mul_comm (D.w _ _), mul_comm (D.w _ _), Nat.sub_sub]
  show D.bias b + D.X r b * D.w 3 b + D.X (r.val - 3) b * D.w 0 b + D.X (r.val - 2) b * D.w 1 b + D.X (r.val - 1) b * D.w 2 b = D.X r b * D.w 3 b + D.X (r.val - 2) b * D.w 1 b + (D.X (r.val - 1) b * D.w 2 b + D.X (r.val - 3) b * D.w 0 b) + D.bias b
  abel

include hx hs hw hb in
/-- The row's scale. -/
theorem scale_at (r : Fin 32768) (h : Ok x2 r.val) : (scV x0 x1 x2 x3 x4 (ix2 r 0) : EReal) = D.scale r := by
  have hm : magV (sV x0 x1 x3 x4 (posV fun k => x2 (ix1 k))) (ix2 r 0) = amax D.Z r := by
    rw [magV_apply]
    exact Finset.sup_congr rfl fun b _ => congrArg mag (act_at x0 x1 x2 x3 x4 D hx hs hw hb r b h)
  unfold scV
  generalize magV (sV x0 x1 x3 x4 (posV fun k => x2 (ix1 k))) = a at hm ⊢
  rw [fold_iter]
  refine (scaleV_apply a _ _ ?_).trans (congrArg scE hm)
  exact loop_apply a _ _

include hx hs hw hb in
/-- The row's codes. -/
theorem code_at (r : Fin 32768) (b : Fin 3328) (h : Ok x2 r.val) :
    (k0_pay1 (F := Ideal) (divf (sV x0 x1 x3 x4 (posV fun k => x2 (ix1 k))) (broadcastTo S32768x3328 (scV x0 x1 x2 x3 x4) broadcasts_S32768x1_S32768x3328)) (ix2 r b) : EReal) = D.code r b :=
  code_apply _ _ r b _ _ (act_at x0 x1 x2 x3 x4 D hx hs hw hb r b h) (scale_at x0 x1 x2 x3 x4 D hx hs hw hb r h)
end

end Cert.Proof.RI
-- ==== Proof.RI.Run.lean ====
/-
  The reference's run: its first two results, element by element, at the rows that have their three predecessors in their
  sequence.
-/
module

public import proofs.«01_k».proof.Proof.RI.Value
public import Idealize.ShloMosaic.Lib.Pipeline.ValueKit
public import Idealize.ShloMosaic.Lib.StableHlo.RunRead

@[expose] public section

set_option maxRecDepth 16384

noncomputable section

namespace Cert.Proof.RI

open Cert.ReferenceIdeal Cert.ReferenceIdeal.Gen Cert.Proof.Quant
open Cert.Proof.KernelIdeal (Ins Ok amax encE fn2 fn2_of)

open Idealize.ShloMosaic Idealize.ShloMosaic.TcCoe
open Idealize.ShloMosaic.Pipeline (Dat Cfg Window)

variable (m : (ℓ : Loc nD τ sig) → Buf (Elt Ideal) ℓ) (g : Dev nD → PrngReg)

theorem index0 : ∀ t : Fin grid0.N, win0_0.index t = ![0, 0] := by decide +kernel
theorem index1 : ∀ t : Fin grid0.N, win0_1.index t = ![0, 0] := by decide +kernel
theorem index2 : ∀ t : Fin grid0.N, win0_2.index t = ![0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel

theorem v0_eq (c : Dev nD) : (V m c main_v0 : S1x3328.Idx → EReal) = shapeCast S1x3328 (m ((c : Thread nD τ).loc main_arg4) : S3328.Idx → EReal) shapeCasts_S3328_S1x3328 := by
  unfold V V0 hostOps0
  after_reads_simp
  rfl

theorem blk0 (c : Dev nD) (t : Fin cfg0.N) : (iblk m c 0 t : S32768x3328.Idx → EReal) = m ((c : Thread nD τ).loc main_arg0) := by
  funext i
  blk_simp [iblk]
  rw [V_main_arg0]
  congr 1

  blk_ext [index0]

theorem blk1 (c : Dev nD) (t : Fin cfg0.N) : (iblk m c 1 t : S32768x1.Idx → EReal) = m ((c : Thread nD τ).loc main_arg1) := by
  funext i
  blk_simp [iblk]
  rw [V_main_arg1]
  congr 1

  blk_ext [index1]

theorem blk2 (c : Dev nD) (t : Fin cfg0.N) : (iblk m c 2 t : S25.Idx → BitVec 32) = m ((c : Thread nD τ).loc main_arg2) := by
  funext i
  blk_simp [iblk]
  rw [V_main_arg2]
  congr 1

  blk_ext [index2]

theorem blk3 (c : Dev nD) (t : Fin cfg0.N) : (iblk m c 3 t : S3328x4.Idx → EReal) = m ((c : Thread nD τ).loc main_arg3) := by
  funext i
  blk_simp [iblk]
  rw [V_main_arg3]
  congr 1

  blk_ext [index3]

theorem blk4 (c : Dev nD) (t : Fin cfg0.N) : (iblk m c 4 t : S1x3328.Idx → EReal) = V m c main_v0 := by
  funext i
  blk_simp [iblk]

  congr 1

  blk_ext [index4]

theorem arr5 (c : Dev nD) (t : Fin cfg0.N) : ((dats m 0 c).arrAt 5 cfg0.N : S32768x3328.Idx → EReal) = (outsAt0 m c t).1 := by
  refine (dats m 0 c).arrAt_eq_of_covers 5 _ (by decide +kernel) fun t' hf y => ?_
  obtain rfl : t' = t := (fin_N0 t').trans (fin_N0 t).symm
  blk_simp
  rw [after0_5]
  refine congrArg (outsAt0 m c t').1 ?_
  blk_ext [index5]

theorem arr6 (c : Dev nD) (t : Fin cfg0.N) : ((dats m 0 c).arrAt 6 cfg0.N : S32768x1.Idx → EReal) = (outsAt0 m c t).2.1 := by
  refine (dats m 0 c).arrAt_eq_of_covers 6 _ (by decide +kernel) fun t' hf y => ?_
  obtain rfl : t' = t := (fin_N0 t').trans (fin_N0 t).symm
  blk_simp
  rw [after0_6]
  refine congrArg (outsAt0 m c t').2.1 ?_
  blk_ext [index6]

theorem v32_eq (c : Dev nD) : (Pipeline.afterTail₀ cfgs (dats m) 0 (V0 m) [hostOps1] c main_v32 : S128x1x256.Idx → EReal)
    = shapeCast S128x1x256 ((dats m 0 c).arrAt 6 cfg0.N : S32768x1.Idx → EReal) shapeCasts_S32768x1_S128x1x256 := by
  have e := Pipeline.withArrays_arr spec0 (by decide) c (V0 m c) (fun w => (dats m 0 c).arrAt w cfg0.N) 6
  unfold Pipeline.afterTail₀
  rw [← e]
  generalize Pipeline.withArrays _ _ _ _ = X
  simp only [List.flatten_cons, List.flatten_nil, List.append_nil]
  unfold hostOps1
  after_reads_simp

  rfl

/-- The run. -/
theorem run_val (D : Dev nD → Ins)
    (hx : ∀ c (r : Fin 32768) (b : Fin 3328), (m ((c : Thread nD τ).loc main_arg0) : S32768x3328.Idx → EReal) (ix2 r b) = (D c).x r b)
    (hs : ∀ c (r : Fin 32768), (m ((c : Thread nD τ).loc main_arg1) : S32768x1.Idx → EReal) (ix2 r 0) = (D c).s r)
    (hw : ∀ c (k : Fin 4) (b : Fin 3328), (m ((c : Thread nD τ).loc main_arg3) : S3328x4.Idx → EReal) (ix2 b k) = (D c).w k b)
    (hb : ∀ c (b : Fin 3328), (m ((c : Thread nD τ).loc main_arg4) : S3328.Idx → EReal) (ix1 b) = (D c).bias b) :
    θ_run (defs (F := Ideal)) (onTc (τ := τ) (main (F := Ideal))) ⟨m, fun _ => 0, g⟩ fun r => ∀ c : Dev nD,
      (∀ (a : Fin 32768) (b : Fin 3328), Ok (m ((c : Thread nD τ).loc main_arg2) : S25.Idx → BitVec 32) a → (r.2.mem ((c : Thread nD τ).loc main_v1_0) : S32768x3328.Idx → EReal) (ix2 a b) = (D c).code a b)
      ∧ (∀ (k : Fin 128) (a : Fin 256), Ok (m ((c : Thread nD τ).loc main_arg2) : S25.Idx → BitVec 32) (256 * k + a) → (r.2.mem ((c : Thread nD τ).loc main_v32) : S128x1x256.Idx → EReal) (ix3 k 0 a) = (D c).scale (256 * k + a))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run (defs (F := Ideal)) _ _).mono (fun r h c => ?_) (θ_run_and (run_main m g) (unchanged m g))
  have hb' : ∀ b : Fin 3328, (V m c main_v0 : S1x3328.Idx → EReal) (ix2 0 b) = (D c).bias b := fun b => by
    rw [v0_eq]
    exact (ValueIdx.shapeCast_a_1a_apply _ _ _ _).trans (hb c b)
  refine ⟨fun a b hok => ?_, fun k a hok => ?_, h.2 c⟩
  · rw [show r.2.mem ((c : Thread nD τ).loc main_v1_0) = _ from (h.1 c).1 5]
    refine (congrFun (arr5 m c t0_0) (ix2 a b)).trans ?_
    unfold outsAt0
    dsimp only
    rw [out5_eq, blk0, blk1, blk2, blk3, blk4]
    exact code_at _ _ _ _ _ (D c) (hx c) (hs c) (hw c) hb' a b hok
  · rw [show r.2.mem ((c : Thread nD τ).loc main_v32) = _ from (h.1 c).2 main_v32 (by decide), v32_eq]
    have e : shapeCast S128x1x256 ((dats m 0 c).arrAt 6 cfg0.N : S32768x1.Idx → EReal) shapeCasts_S32768x1_S128x1x256 (ix3 k 0 a) = ((dats m 0 c).arrAt 6 cfg0.N : S32768x1.Idx → EReal) (ix2 ⟨256 * k.val + a.val, by omega⟩ 0) := by
      generalize ((dats m 0 c).arrAt 6 cfg0.N : S32768x1.Idx → EReal) = v
      pointwise
      congr 2
      exact Fin.ext (by show k.val * 256 + a.val = 256 * k.val + a.val; omega)
    refine e.trans ((congrFun (arr6 m c t0_0) _).trans ?_)
    unfold outsAt0
    dsimp only
    rw [out6_eq, blk0, blk1, blk2, blk3, blk4]
    exact scale_at _ _ _ _ _ (D c) (hx c) (hs c) (hw c) hb' ⟨256 * k.val + a.val, by omega⟩ hok

end Cert.Proof.RI
-- ==== Proof.KernelIdeal.Points.lean ====
/-
  The grid points in order: what the carried buffers hold after each, in terms of the inputs' rows, and what each point but
  the first writes of the block before it.
-/
module

public import proofs.«01_k».proof.Proof.KernelIdeal.Row

@[expose] public section

set_option maxRecDepth 8000
set_option maxHeartbeats 400000

noncomputable section

namespace Cert.Proof.KernelIdeal

open Cert.KernelIdeal Cert.KernelIdeal.Gen Cert.Proof.Hoare Cert.Proof.Quant

open Idealize.ShloMosaic Idealize.SL.Sem Idealize.SL.RA

/-- What the carried buffers hold after `n` points: the tables of taps and bias; the block's last rows; and, in the rows with
    no sequence start near, the block's outputs and their greatest entries. -/
structure Inv (m10 : Memref sig .tc .vmem S3536x2x128 .bf16) (m11 : Memref sig .tc .vmem S6864x128 .f32) (m12 : Memref sig .tc .vmem S6656x128 .f32)
    (m13 : Memref sig .tc .vmem S256x128 .f32) (m14 : Memref sig .tc .vmem S26x256x256 .bf16) (m15 : Memref sig .tc .vmem S26x8x128 .f32) (m21 : Memref sig .tc .smem S1 .i32)
    (D : Ins) (cu : S25.Idx → BitVec 32) (n : ℕ) (σ : St sig (Elt Ideal)) : Prop where
  ptr : ∀ x, (rd m21 σ x : BitVec 32).toNat ≤ 25
  rhs : ∀ (t : Fin 26) (k n : Fin 256), rd m14 σ (ix3 t k n)
    = if k.val % 128 = n.val % 128 then D.w (3 - 2 * (k.val / 128) - n.val / 128) (t.val * 128 + n.val % 128) else 0
  bias : ∀ (t : Fin 26) (s : Fin 8) (l : Fin 128), rd m15 σ (ix3 t s l) = D.bias (t.val * 128 + l.val)
  e : n ≤ 128 → ∀ (a : Fin 3536) (b : Fin 2) (l : Fin 128), 128 ≤ a.val % 136 → rd m10 σ (ix3 a b l) = D.X (256 * n + (2 * (a.val % 136 - 128) + b) - 16) (a.val / 136 * 128 + l)
  b : n ≤ 128 → ∀ (a : Fin 6864) (l : Fin 128), 256 ≤ a.val % 264 → rd m11 σ (ix2 a l) = D.B (256 * n + (a.val % 264 - 256) - 8) (a.val / 264 * 128 + l)
  z : n ≤ 128 → ∀ (a : Fin 6656) (l : Fin 128), Ok cu (256 * (n - 1) + a.val % 256) → rd m12 σ (ix2 a l) = D.Z (256 * (n - 1) + a.val % 256) (a.val / 256 * 128 + l)
  m : n ≤ 128 → ∀ a : Fin 256, Ok cu (256 * (n - 1) + a.val) → (Finset.univ.sup fun l : Fin 128 => rd m13 σ (ix2 a l)) = Finset.univ.sup fun b : Fin 3328 => D.Z (256 * (n - 1) + a.val) b

variable {U : Type} [URA U] {c : Dev nD} {L : Finset (Ref sig .tc)} {σ : St sig (Elt Ideal)} {D : Ins} {cu : S25.Idx → BitVec 32} {n : ℕ}

/-- After a point the carried buffers are the next block's. -/
theorem Post.inv {A : Bufs L} {i : grid0.Coords} {P : Par} {σ1 σ' : St sig (Elt Ideal)} (hpost : Post A i cu P σ1 σ') (hP : Pre A P σ1) (hn : (i 0).val = n) (hn' : n < 129)
    (hw : P.w = D.w) (hb : P.bias = D.bias) (hat : n < 128 → D.At P n) : Inv A.arg10 A.arg11 A.arg12 A.arg13 A.arg14 A.arg15 A.arg21 D cu (n + 1) σ' := by
  have ne : ∀ {i j : Fin 21}, i ≠ j → _ := fun {i j} hij => A.inj.ne hij
  refine ⟨hpost.ptr, fun t k n => ?_, fun t s l => ?_, fun hn1 a b l ha => ?_, fun hn1 a l ha => ?_, fun hn1 a l hok => ?_, fun hn1 a hok => ?_⟩
  · rw [(rd_congr A.arg14 (hpost.fr _ (ne (i := 13) (j := 5) (by decide)) (ne (i := 13) (j := 6) (by decide)) (ne (i := 13) (j := 7) (by decide)) (ne (i := 13) (j := 8) (by decide)) (ne (i := 13) (j := 9) (by decide)) (ne (i := 13) (j := 10) (by decide)) (ne (i := 13) (j := 11) (by decide)) (ne (i := 13) (j := 12) (by decide)) (ne (i := 13) (j := 16) (by decide)) (ne (i := 13) (j := 17) (by decide)) (ne (i := 13) (j := 18) (by decide)) (ne (i := 13) (j := 19) (by decide)) (ne (i := 13) (j := 20) (by decide)))), hP.rhs, hw]
  · rw [(rd_congr A.arg15 (hpost.fr _ (ne (i := 14) (j := 5) (by decide)) (ne (i := 14) (j := 6) (by decide)) (ne (i := 14) (j := 7) (by decide)) (ne (i := 14) (j := 8) (by decide)) (ne (i := 14) (j := 9) (by decide)) (ne (i := 14) (j := 10) (by decide)) (ne (i := 14) (j := 11) (by decide)) (ne (i := 14) (j := 12) (by decide)) (ne (i := 14) (j := 16) (by decide)) (ne (i := 14) (j := 17) (by decide)) (ne (i := 14) (j := 18) (by decide)) (ne (i := 14) (j := 19) (by decide)) (ne (i := 14) (j := 20) (by decide)))), hP.bias, hb]
  · rw [hpost.e a b l ha, (hat (by omega)).ex _ _ (by omega) (by omega) (by omega)]
    congr 1
    omega
  · rw [hpost.b a l ha, (hat (by omega)).bx _ _ (by omega) (by omega) (by omega)]
    congr 1
    omega
  · rw [Nat.add_sub_cancel] at hok ⊢
    rw [hpost.z a l (hok.good hn hn' (by omega)), (hat (by omega)).zn _ _ hok.1 (by omega) (by omega)]
  · rw [Nat.add_sub_cancel] at hok ⊢
    refine (hpost.rmax a (hok.good hn hn' a.isLt)).trans ?_
    exact congrArg _ (funext fun b => (hat (by omega)).zn _ _ hok.1 (by omega) (by omega))

/-- A point after the first. -/
theorem step_next (A : Bufs L) (i : grid0.Coords) (hi : ¬k0_cond1 i = 1#1) (hn : (i 0).val = n) (hn' : n < 129) (h0 : n ≠ 0)
    (hI : Inv A.arg10 A.arg11 A.arg12 A.arg13 A.arg14 A.arg15 A.arg21 D cu n σ) (hx : n < 128 → ∀ (a : Fin 256) (b : Fin 3328), rd A.arg2 σ (ix2 a b) = D.x (256 * n + a) b)
    (hsc : n < 128 → ∀ a : Fin 256, rd A.arg3 σ (ix3 0 0 a) = D.s (256 * n + a)) (hcu : rd A.arg1 σ = cu) :
    Runs U defs₀ 𝒱₀ c none L σ (cc0_conv_silu_quant i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21)
      (fun _ σ' => Inv A.arg10 A.arg11 A.arg12 A.arg13 A.arg14 A.arg15 A.arg21 D cu (n + 1) σ' ∧ (rd A.arg1 σ' = rd A.arg1 σ ∧ rd A.arg2 σ' = rd A.arg2 σ ∧ rd A.arg3 σ' = rd A.arg3 σ ∧ rd A.arg4 σ' = rd A.arg4 σ ∧ rd A.arg5 σ' = rd A.arg5 σ)
        ∧ ∀ a : Fin 256, Ok cu (256 * (n - 1) + a) → rd A.arg7 σ' (ix3 0 0 a) = D.scale (256 * (n - 1) + a)
          ∧ ∀ b : Fin 3328, rd A.arg6 σ' (ix2 a b) = D.code (256 * (n - 1) + a) b) := by
  have ne : ∀ {i j : Fin 21}, i ≠ j → _ := fun {i j} hij => A.inj.ne hij
  let P : Par := {
    z0 := fun q col => fn2 (fun (a : Fin 6656) (l : Fin 128) => rd A.arg12 σ (ix2 a l)) (col / 128 * 256 + q) (col % 128)
    inv := fun a => fn2 (fun (a : Fin 256) (_ : Fin 1) => invE (silu (rmax A σ a))) a 0
    e0 := fun q col => D.X (256 * n + q - 16) col
    b0 := fun q col => D.B (256 * n + q - 8) col
    x := fn2 (fun (a : Fin 256) (b : Fin 3328) => rd A.arg2 σ (ix2 a b))
    sc := fun q => fn2 (fun (a : Fin 256) (_ : Fin 1) => rd A.arg3 σ (ix3 0 0 a)) q 0
    w := D.w, bias := D.bias }
  have hz0 : ∀ (a : Fin 6656) (l : Fin 128), rd A.arg12 σ (ix2 a l) = P.z0 (a.val % 256) (a.val / 256 * 128 + l) := fun a l =>
    (fn2_of (r := (a.val / 256 * 128 + l.val) / 128 * 256 + a.val % 256) (l := (a.val / 256 * 128 + l.val) % 128) (fun (a : Fin 6656) (l : Fin 128) => rd A.arg12 σ (ix2 a l)) a l (by omega) (by omega)).symm
  have hP : Pre A P σ := by
    refine ⟨hz0, hI.e (by omega), hI.b (by omega), fun a b => ?_, hI.rhs, hI.bias, fun a => ?_⟩
    · exact (fn2_of (r := a.val) (l := b.val) (fun (a : Fin 256) (b : Fin 3328) => rd A.arg2 σ (ix2 a b)) a b rfl rfl).symm
    · exact (fn2_of (r := a.val) (l := 0) (fun (a : Fin 256) (_ : Fin 1) => rd A.arg3 σ (ix3 0 0 a)) a 0 rfl rfl).symm
  have hat : n < 128 → D.At P n := fun hlt => by
    refine ⟨fun q col hq hc => ?_, fun q hq => ?_, rfl, rfl, fun _ q col _ _ => rfl, fun _ q col _ _ => rfl⟩
    · exact (fn2_of (r := q) (l := col) (fun (a : Fin 256) (b : Fin 3328) => rd A.arg2 σ (ix2 a b)) ⟨q, hq⟩ ⟨col, hc⟩ rfl rfl).trans (hx hlt _ _)
    · exact (fn2_of (r := q) (l := 0) (fun (a : Fin 256) (_ : Fin 1) => rd A.arg3 σ (ix3 0 0 a)) ⟨q, hq⟩ 0 rfl rfl).trans (hsc hlt _)
  refine Runs.mono (body_next A i cu P hi hP (fun a => fn2_of (fun (a : Fin 256) (_ : Fin 1) => invE (silu (rmax A σ a))) a 0 rfl rfl) hI.ptr hcu) fun _ σ' h => ?_
  obtain ⟨hpost, hwr⟩ := h
  refine ⟨hpost.inv hP hn hn' rfl rfl hat, ⟨rd_congr A.arg1 (hpost.fr _ (ne (i := 0) (j := 5) (by decide)) (ne (i := 0) (j := 6) (by decide)) (ne (i := 0) (j := 7) (by decide)) (ne (i := 0) (j := 8) (by decide)) (ne (i := 0) (j := 9) (by decide)) (ne (i := 0) (j := 10) (by decide)) (ne (i := 0) (j := 11) (by decide)) (ne (i := 0) (j := 12) (by decide)) (ne (i := 0) (j := 16) (by decide)) (ne (i := 0) (j := 17) (by decide)) (ne (i := 0) (j := 18) (by decide)) (ne (i := 0) (j := 19) (by decide)) (ne (i := 0) (j := 20) (by decide))), rd_congr A.arg2 (hpost.fr _ (ne (i := 1) (j := 5) (by decide)) (ne (i := 1) (j := 6) (by decide)) (ne (i := 1) (j := 7) (by decide)) (ne (i := 1) (j := 8) (by decide)) (ne (i := 1) (j := 9) (by decide)) (ne (i := 1) (j := 10) (by decide)) (ne (i := 1) (j := 11) (by decide)) (ne (i := 1) (j := 12) (by decide)) (ne (i := 1) (j := 16) (by decide)) (ne (i := 1) (j := 17) (by decide)) (ne (i := 1) (j := 18) (by decide)) (ne (i := 1) (j := 19) (by decide)) (ne (i := 1) (j := 20) (by decide))), rd_congr A.arg3 (hpost.fr _ (ne (i := 2) (j := 5) (by decide)) (ne (i := 2) (j := 6) (by decide)) (ne (i := 2) (j := 7) (by decide)) (ne (i := 2) (j := 8) (by decide)) (ne (i := 2) (j := 9) (by decide)) (ne (i := 2) (j := 10) (by decide)) (ne (i := 2) (j := 11) (by decide)) (ne (i := 2) (j := 12) (by decide)) (ne (i := 2) (j := 16) (by decide)) (ne (i := 2) (j := 17) (by decide)) (ne (i := 2) (j := 18) (by decide)) (ne (i := 2) (j := 19) (by decide)) (ne (i := 2) (j := 20) (by decide))), rd_congr A.arg4 (hpost.fr _ (ne (i := 3) (j := 5) (by decide)) (ne (i := 3) (j := 6) (by decide)) (ne (i := 3) (j := 7) (by decide)) (ne (i := 3) (j := 8) (by decide)) (ne (i := 3) (j := 9) (by decide)) (ne (i := 3) (j := 10) (by decide)) (ne (i := 3) (j := 11) (by decide)) (ne (i := 3) (j := 12) (by decide)) (ne (i := 3) (j := 16) (by decide)) (ne (i := 3) (j := 17) (by decide)) (ne (i := 3) (j := 18) (by decide)) (ne (i := 3) (j := 19) (by decide)) (ne (i := 3) (j := 20) (by decide))), rd_congr A.arg5 (hpost.fr _ (ne (i := 4) (j := 5) (by decide)) (ne (i := 4) (j := 6) (by decide)) (ne (i := 4) (j := 7) (by decide)) (ne (i := 4) (j := 8) (by decide)) (ne (i := 4) (j := 9) (by decide)) (ne (i := 4) (j := 10) (by decide)) (ne (i := 4) (j := 11) (by decide)) (ne (i := 4) (j := 12) (by decide)) (ne (i := 4) (j := 16) (by decide)) (ne (i := 4) (j := 17) (by decide)) (ne (i := 4) (j := 18) (by decide)) (ne (i := 4) (j := 19) (by decide)) (ne (i := 4) (j := 20) (by decide)))⟩, fun a hok => ?_⟩
  have hrow : ∀ b : Fin 3328, P.z0 a b = D.Z (256 * (n - 1) + a) b := fun b => by
    have ha := a.isLt
    have hb := b.isLt
    have h1 := hI.z (by omega) ⟨b.val / 128 * 256 + a.val, by omega⟩ ⟨b.val % 128, by omega⟩ (by
      show Ok cu (256 * (n - 1) + (b.val / 128 * 256 + a.val) % 256)
      rw [show (b.val / 128 * 256 + a.val) % 256 = a.val by omega]
      exact hok)
    rw [hz0] at h1
    dsimp only at h1
    rw [show (b.val / 128 * 256 + a.val) % 256 = a.val by omega, show (b.val / 128 * 256 + a.val) / 256 * 128 + b.val % 128 = b.val by omega] at h1
    exact h1
  have hmax : rmax A σ a = Finset.univ.sup fun b : Fin 3328 => P.z0 a b :=
    (hI.m (by omega) a hok).trans (congrArg _ (funext fun b => (hrow b).symm))
  have ham : amax P.z0 a = amax D.Z (256 * (n - 1) + a) := by
    unfold amax
    exact congrArg _ (funext fun b => by rw [hrow b])
  obtain ⟨h7, h6⟩ := hwr a hmax
  refine ⟨?_, fun b => ?_⟩
  · rw [h7, ham]; rfl
  · rw [h6, ham, hrow b]; rfl

/-- The first point. -/
theorem step_zero (A : Bufs L) (i : grid0.Coords) (hi : k0_cond1 i = 1#1) (hn : (i 0).val = 0)
    (hw : ∀ (k : Fin 4) (b : Fin 3328), rd A.arg4 σ (ix2 k b) = D.w k b) (hb : ∀ b : Fin 3328, rd A.arg5 σ (ix2 0 b) = D.bias b)
    (hx : ∀ (a : Fin 256) (b : Fin 3328), rd A.arg2 σ (ix2 a b) = D.x a b)
    (hsc : ∀ a : Fin 256, rd A.arg3 σ (ix3 0 0 a) = D.s a) (hcu : rd A.arg1 σ = cu) :
    Runs U defs₀ 𝒱₀ c none L σ (cc0_conv_silu_quant i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21)
      (fun _ σ' => Inv A.arg10 A.arg11 A.arg12 A.arg13 A.arg14 A.arg15 A.arg21 D cu 1 σ' ∧ (rd A.arg1 σ' = rd A.arg1 σ ∧ rd A.arg2 σ' = rd A.arg2 σ ∧ rd A.arg3 σ' = rd A.arg3 σ ∧ rd A.arg4 σ' = rd A.arg4 σ ∧ rd A.arg5 σ' = rd A.arg5 σ)) := by
  have ne : ∀ {i j : Fin 21}, i ≠ j → _ := fun {i j} hij => A.inj.ne hij
  refine Runs.mono (body_zero A i cu D.w D.bias D.x D.s hi ⟨hw, hb⟩ hx hsc hcu) fun _ σ' h => ?_
  obtain ⟨P, σ1, ⟨e1, e2, e3, e4⟩, hpost, hP, hf⟩ := h
  refine ⟨hpost.inv (n := 0) hP hn (by omega) e3 e4 (fun _ => ⟨fun q col _ _ => ?_, fun q _ => ?_, e3, e4, fun h => absurd rfl h, fun h => absurd rfl h⟩), ⟨rd_congr A.arg1 ((hpost.fr _ (ne (i := 0) (j := 5) (by decide)) (ne (i := 0) (j := 6) (by decide)) (ne (i := 0) (j := 7) (by decide)) (ne (i := 0) (j := 8) (by decide)) (ne (i := 0) (j := 9) (by decide)) (ne (i := 0) (j := 10) (by decide)) (ne (i := 0) (j := 11) (by decide)) (ne (i := 0) (j := 12) (by decide)) (ne (i := 0) (j := 16) (by decide)) (ne (i := 0) (j := 17) (by decide)) (ne (i := 0) (j := 18) (by decide)) (ne (i := 0) (j := 19) (by decide)) (ne (i := 0) (j := 20) (by decide))).trans (hf _ (ne (i := 0) (j := 6) (by decide)) (ne (i := 0) (j := 9) (by decide)) (ne (i := 0) (j := 10) (by decide)) (ne (i := 0) (j := 11) (by decide)) (ne (i := 0) (j := 12) (by decide)) (ne (i := 0) (j := 13) (by decide)) (ne (i := 0) (j := 14) (by decide)) (ne (i := 0) (j := 15) (by decide)) (ne (i := 0) (j := 20) (by decide)))), rd_congr A.arg2 ((hpost.fr _ (ne (i := 1) (j := 5) (by decide)) (ne (i := 1) (j := 6) (by decide)) (ne (i := 1) (j := 7) (by decide)) (ne (i := 1) (j := 8) (by decide)) (ne (i := 1) (j := 9) (by decide)) (ne (i := 1) (j := 10) (by decide)) (ne (i := 1) (j := 11) (by decide)) (ne (i := 1) (j := 12) (by decide)) (ne (i := 1) (j := 16) (by decide)) (ne (i := 1) (j := 17) (by decide)) (ne (i := 1) (j := 18) (by decide)) (ne (i := 1) (j := 19) (by decide)) (ne (i := 1) (j := 20) (by decide))).trans (hf _ (ne (i := 1) (j := 6) (by decide)) (ne (i := 1) (j := 9) (by decide)) (ne (i := 1) (j := 10) (by decide)) (ne (i := 1) (j := 11) (by decide)) (ne (i := 1) (j := 12) (by decide)) (ne (i := 1) (j := 13) (by decide)) (ne (i := 1) (j := 14) (by decide)) (ne (i := 1) (j := 15) (by decide)) (ne (i := 1) (j := 20) (by decide)))), rd_congr A.arg3 ((hpost.fr _ (ne (i := 2) (j := 5) (by decide)) (ne (i := 2) (j := 6) (by decide)) (ne (i := 2) (j := 7) (by decide)) (ne (i := 2) (j := 8) (by decide)) (ne (i := 2) (j := 9) (by decide)) (ne (i := 2) (j := 10) (by decide)) (ne (i := 2) (j := 11) (by decide)) (ne (i := 2) (j := 12) (by decide)) (ne (i := 2) (j := 16) (by decide)) (ne (i := 2) (j := 17) (by decide)) (ne (i := 2) (j := 18) (by decide)) (ne (i := 2) (j := 19) (by decide)) (ne (i := 2) (j := 20) (by decide))).trans (hf _ (ne (i := 2) (j := 6) (by decide)) (ne (i := 2) (j := 9) (by decide)) (ne (i := 2) (j := 10) (by decide)) (ne (i := 2) (j := 11) (by decide)) (ne (i := 2) (j := 12) (by decide)) (ne (i := 2) (j := 13) (by decide)) (ne (i := 2) (j := 14) (by decide)) (ne (i := 2) (j := 15) (by decide)) (ne (i := 2) (j := 20) (by decide)))), rd_congr A.arg4 ((hpost.fr _ (ne (i := 3) (j := 5) (by decide)) (ne (i := 3) (j := 6) (by decide)) (ne (i := 3) (j := 7) (by decide)) (ne (i := 3) (j := 8) (by decide)) (ne (i := 3) (j := 9) (by decide)) (ne (i := 3) (j := 10) (by decide)) (ne (i := 3) (j := 11) (by decide)) (ne (i := 3) (j := 12) (by decide)) (ne (i := 3) (j := 16) (by decide)) (ne (i := 3) (j := 17) (by decide)) (ne (i := 3) (j := 18) (by decide)) (ne (i := 3) (j := 19) (by decide)) (ne (i := 3) (j := 20) (by decide))).trans (hf _ (ne (i := 3) (j := 6) (by decide)) (ne (i := 3) (j := 9) (by decide)) (ne (i := 3) (j := 10) (by decide)) (ne (i := 3) (j := 11) (by decide)) (ne (i := 3) (j := 12) (by decide)) (ne (i := 3) (j := 13) (by decide)) (ne (i := 3) (j := 14) (by decide)) (ne (i := 3) (j := 15) (by decide)) (ne (i := 3) (j := 20) (by decide)))), rd_congr A.arg5 ((hpost.fr _ (ne (i := 4) (j := 5) (by decide)) (ne (i := 4) (j := 6) (by decide)) (ne (i := 4) (j := 7) (by decide)) (ne (i := 4) (j := 8) (by decide)) (ne (i := 4) (j := 9) (by decide)) (ne (i := 4) (j := 10) (by decide)) (ne (i := 4) (j := 11) (by decide)) (ne (i := 4) (j := 12) (by decide)) (ne (i := 4) (j := 16) (by decide)) (ne (i := 4) (j := 17) (by decide)) (ne (i := 4) (j := 18) (by decide)) (ne (i := 4) (j := 19) (by decide)) (ne (i := 4) (j := 20) (by decide))).trans (hf _ (ne (i := 4) (j := 6) (by decide)) (ne (i := 4) (j := 9) (by decide)) (ne (i := 4) (j := 10) (by decide)) (ne (i := 4) (j := 11) (by decide)) (ne (i := 4) (j := 12) (by decide)) (ne (i := 4) (j := 13) (by decide)) (ne (i := 4) (j := 14) (by decide)) (ne (i := 4) (j := 15) (by decide)) (ne (i := 4) (j := 20) (by decide))))⟩⟩
  · rw [e1, show 256 * 0 + q = q by omega]
  · rw [e2, show 256 * 0 + q = q by omega]

end Cert.Proof.KernelIdeal
-- ==== Proof.KernelIdeal.Grid.lean ====
/-
  The kernel's grid: the blocks each point reads, and what the whole run leaves in the arrays of codes and of scales.
-/
module

public import Idealize.ShloMosaic.Lib.ValueLayout
public import proofs.«01_k».proof.Proof.KernelIdeal.Points
public import proofs.«01_k».proof.Proof.KernelIdeal.Frame
public import Idealize.ShloMosaic.Lib.Pipeline.ValueKit.Geometry
public import Idealize.ShloMosaic.Lib.Pipeline.ArrRel
public import Idealize.ShloMosaic.Lib.StableHlo.RunRead
public import Idealize.ShloMosaic.Lib.Pipeline.FrameBody

@[expose] public section

set_option maxRecDepth 8000
set_option maxHeartbeats 400000

noncomputable section

namespace Cert.Proof.KernelIdeal

open Cert.KernelIdeal Cert.KernelIdeal.Gen Cert.Proof.Hoare Cert.Proof.Quant

open Idealize.ShloMosaic Idealize.ShloMosaic.TcCoe
open Idealize.SL.Sem Idealize.SL.RA
open Idealize.ShloMosaic.Pipeline (RDat Cfg Window Dat)

/-- The scratch buffers in order. -/
def scr : Fin 12 → Ref sig .tc := ![cc0_scratch0, cc0_scratch1, cc0_scratch2, cc0_scratch3, cc0_scratch4, cc0_scratch5, cc0_scratch6, cc0_scratch7, cc0_scratch8, cc0_scratch9, cc0_scratch10, cc0_scratch11]

theorem bufs_inj (t : Fin (cfg0 (F := Ideal)).N) : Function.Injective (Fin.append (fun w : Fin 9 => stR (F := Ideal) w t) scr) := by
  refine Fin.append_injective_iff.2 ⟨fun w w' h => by_contra fun hne => stR_ne t w w' hne h, by decide, ?_⟩
  intro w k h
  have key : ∀ k, scr k ∈ scratchL := by decide
  exact stR_notin t w (h ▸ key k)

/-- The buffers of a point. -/
def bufs (t : Fin (cfg0 (F := Ideal)).N) : Bufs (heldL t) where
  arg1 := win0_0.stage ((cfg0 (F := Ideal)).slots t 0)
  harg1 := hstage0_0 (((cfg0 (F := Ideal)).slots t 0).cast nbuf0_0)
  h1 := mem_stage t 0
  arg2 := win0_1.stage ((cfg0 (F := Ideal)).slots t 1)
  harg2 := hstage0_1 (((cfg0 (F := Ideal)).slots t 1).cast nbuf0_1)
  h2 := mem_stage t 1
  arg3 := win0_2.stage ((cfg0 (F := Ideal)).slots t 2)
  harg3 := hstage0_2 (((cfg0 (F := Ideal)).slots t 2).cast nbuf0_2)
  h3 := mem_stage t 2
  arg4 := win0_3.stage ((cfg0 (F := Ideal)).slots t 3)
  harg4 := hstage0_3 (((cfg0 (F := Ideal)).slots t 3).cast nbuf0_3)
  h4 := mem_stage t 3
  arg5 := win0_4.stage ((cfg0 (F := Ideal)).slots t 4)
  harg5 := hstage0_4 (((cfg0 (F := Ideal)).slots t 4).cast nbuf0_4)
  h5 := mem_stage t 4
  arg6 := win0_5.stage ((cfg0 (F := Ideal)).slots t 5)
  harg6 := hstage0_5 (((cfg0 (F := Ideal)).slots t 5).cast nbuf0_5)
  h6 := mem_stage t 5
  arg7 := win0_6.stage ((cfg0 (F := Ideal)).slots t 6)
  harg7 := hstage0_6 (((cfg0 (F := Ideal)).slots t 6).cast nbuf0_6)
  h7 := mem_stage t 6
  arg8 := win0_7.stage ((cfg0 (F := Ideal)).slots t 7)
  harg8 := hstage0_7 (((cfg0 (F := Ideal)).slots t 7).cast nbuf0_7)
  h8 := mem_stage t 7
  arg9 := win0_8.stage ((cfg0 (F := Ideal)).slots t 8)
  harg9 := hstage0_8 (((cfg0 (F := Ideal)).slots t 8).cast nbuf0_8)
  h9 := mem_stage t 8
  arg10 := Memref.whole cc0_scratch0
  harg10 := Memref.isWhole_whole _
  h10 := mem_scratch t (by decide)
  arg11 := Memref.whole cc0_scratch1
  harg11 := Memref.isWhole_whole _
  h11 := mem_scratch t (by decide)
  arg12 := Memref.whole cc0_scratch2
  harg12 := Memref.isWhole_whole _
  h12 := mem_scratch t (by decide)
  arg13 := Memref.whole cc0_scratch3
  harg13 := Memref.isWhole_whole _
  h13 := mem_scratch t (by decide)
  arg14 := Memref.whole cc0_scratch4
  harg14 := Memref.isWhole_whole _
  h14 := mem_scratch t (by decide)
  arg15 := Memref.whole cc0_scratch5
  harg15 := Memref.isWhole_whole _
  h15 := mem_scratch t (by decide)
  arg16 := Memref.whole cc0_scratch6
  harg16 := Memref.isWhole_whole _
  h16 := mem_scratch t (by decide)
  arg17 := Memref.whole cc0_scratch7
  harg17 := Memref.isWhole_whole _
  h17 := mem_scratch t (by decide)
  arg18 := Memref.whole cc0_scratch8
  harg18 := Memref.isWhole_whole _
  h18 := mem_scratch t (by decide)
  arg19 := Memref.whole cc0_scratch9
  harg19 := Memref.isWhole_whole _
  h19 := mem_scratch t (by decide)
  arg20 := Memref.whole cc0_scratch10
  harg20 := Memref.isWhole_whole _
  h20 := mem_scratch t (by decide)
  arg21 := Memref.whole cc0_scratch11
  harg21 := Memref.isWhole_whole _
  h21 := mem_scratch t (by decide)
  inj := by
    refine (congrArg Function.Injective ?_).mp (bufs_inj t)
    funext k
    fin_cases k <;> rfl

/-- The inputs from the arrays. -/
def insOf (a0 : S32768x3328.Idx → EReal) (a1 : S32768x1.Idx → EReal) (a3 : S3328x4.Idx → EReal) (a4 : S3328.Idx → EReal) : Ins where
  x := fn2 fun (a : Fin 32768) (b : Fin 3328) => a0 (ix2 a b)
  s := fun r => fn2 (fun (a : Fin 32768) (_ : Fin 1) => a1 (ix2 a 0)) r 0
  w := fn2 fun (k : Fin 4) (b : Fin 3328) => a3 (ix2 b k)
  bias := fun col => fn2 (fun (_ : Fin 1) (b : Fin 3328) => a4 (ix1 b)) 0 col

variable (m : (ℓ : Loc nD τ sig) → Buf (Elt Ideal) ℓ)

/-- The inputs of a core. -/
def D (c : Dev nD) : Ins := insOf (m ((c : Thread nD τ).loc main_arg0)) (m ((c : Thread nD τ).loc main_arg1)) (m ((c : Thread nD τ).loc main_arg3)) (m ((c : Thread nD τ).loc main_arg4))

/-- The sequence starts of a core. -/
def cuOf (c : Dev nD) : S25.Idx → BitVec 32 := m ((c : Thread nD τ).loc main_arg2)

/-- What carries over from point to point. -/
def I (k : ℕ) (σ : St sig (Elt Ideal)) : Prop := k = 0 ∨ ∀ c : Dev nD, Inv (Memref.whole cc0_scratch0) (Memref.whole cc0_scratch1) (Memref.whole cc0_scratch2) (Memref.whole cc0_scratch3) (Memref.whole cc0_scratch4) (Memref.whole cc0_scratch5) (Memref.whole cc0_scratch11) (D m c) (cuOf m c) k σ

/-- What a point does to a staging buffer: an input's stays, the outputs' rows are the block before's. -/
def aft (c : Dev nD) (w : Fin 9) (t : Fin (cfg0 (F := Ideal)).N) (Y X : ((cfg0 (F := Ideal)).win w).block.Idx → Elt Ideal ((cfg0 (F := Ideal)).win w).elt) : Prop :=
  (w.val < 5 → X = Y)
  ∧ (∀ h : w = 5, t.val ≠ 0 → ∀ (a : Fin 256) (b : Fin 3328), Ok (cuOf m c) (256 * (t.val - 1) + a) →
      (h ▸ X : ((cfg0 (F := Ideal)).win 5).block.Idx → Elt Ideal ((cfg0 (F := Ideal)).win 5).elt) (ix2 a b) = (D m c).code (256 * (t.val - 1) + a) b)
  ∧ (∀ h : w = 6, t.val ≠ 0 → ∀ (a : Fin 256), Ok (cuOf m c) (256 * (t.val - 1) + a) →
      (h ▸ X : ((cfg0 (F := Ideal)).win 6).block.Idx → Elt Ideal ((cfg0 (F := Ideal)).win 6).elt) (ix3 0 0 a) = (D m c).scale (256 * (t.val - 1) + a))

/-- The run's data. -/
abbrev rd₀ (c : Dev nD) := rdat (F := Ideal) (fun c b => V₀ m c (Proc.devRef .tc b)) (I m) (aft m) c

/-- An input's staging buffer holds its block. -/
theorem in_block (c : Dev nD) (t : Fin (cfg0 (F := Ideal)).N) (σ : St sig (Elt Ideal)) (w : Fin 9) (hw : ((cfg0 (F := Ideal)).win w).isOut = false)
    (hw' : w.val < 5) (hclip : ∀ t t' : Fin (cfg0 (F := Ideal)).N, ((cfg0 (F := Ideal)).win w).clip ((cfg0 (F := Ideal)).grid.coords t) = ((cfg0 (F := Ideal)).win w).clip ((cfg0 (F := Ideal)).grid.coords t'))
    (h : (rd₀ m c).Finds w t (rdW w t σ)) : ∃ d, rdW w t σ = (rd₀ m c).fetched w t d :=
  (rd₀ m c).finds_in_eq_fetched w hw (fun t t' _ => hclip t t') (fun t Y X hX => hX.1 hw') t _ h

theorem coord_eq : ∀ t : Fin grid0.N, (grid0.coords t 0).val = t.val := by decide +kernel
theorem cond1_pos : ∀ t : Fin grid0.N, t.val ≠ 0 → ¬k0_cond1 (grid0.coords t) = 1#1 := by decide +kernel
theorem index1 : ∀ t : Fin grid0.N, win0_1.index t = ![min t.val 127, 0] := by decide +kernel
theorem index2 : ∀ t : Fin grid0.N, win0_2.index t = ![min t.val 127, 0, 0] := by decide +kernel

theorem rd_x (c : Dev nD) (t : Fin (cfg0 (F := Ideal)).N) (σ : St sig (Elt Ideal)) (h : (rd₀ m c).Finds 1 t (rdW 1 t σ)) (ht : t.val < 128) (a : Fin 256) (b : Fin 3328) :
    rd (bufs t).arg2 σ (ix2 a b) = (D m c).x (256 * t.val + a) b := by
  obtain ⟨d, e⟩ := in_block m c t σ 1 rfl (by decide) (fun _ _ => rfl) h
  refine (congrFun e (ix2 a b)).trans ?_
  refine Eq.trans ?_ (fn2_of (r := 256 * t.val + a) (l := b) (fun (a : Fin 32768) (b : Fin 3328) => (m ((c : Thread nD τ).loc main_arg0) : S32768x3328.Idx → EReal) (ix2 a b)) ⟨256 * t.val + a, by omega⟩ b rfl rfl).symm
  show V₀ m c (Proc.devRef .tc main_arg0) (((win0_1).blk t).view.emb (ix2 a b)) = _
  rw [V₀_of_ne m c main_arg0 (by decide) (by decide) (by decide)]
  congr 1
  blk_ext [index1]

theorem v0_eq (c : Dev nD) : (V₀ m c (Proc.devRef .tc main_v0) : S128x1x256.Idx → EReal) = shapeCast S128x1x256 (m ((c : Thread nD τ).loc main_arg1) : S32768x1.Idx → EReal) shapeCasts_S32768x1_S128x1x256 := by
  unfold V₀ hostOps0
  after_reads_simp
  rfl

theorem v1_eq (c : Dev nD) (k : Fin 4) (b : Fin 3328) : (V₀ m c (Proc.devRef .tc main_v1) : S4x3328.Idx → EReal) (ix2 k b) = (m ((c : Thread nD τ).loc main_arg3) : S3328x4.Idx → EReal) (ix2 b k) := by
  unfold V₀ hostOps0
  after_reads_simp
  pointwise

theorem v2_eq (c : Dev nD) : (V₀ m c (Proc.devRef .tc main_v2) : S1x3328.Idx → EReal) = shapeCast S1x3328 (m ((c : Thread nD τ).loc main_arg4) : S3328.Idx → EReal) shapeCasts_S3328_S1x3328 := by
  unfold V₀ hostOps0
  after_reads_simp
  rfl

theorem rd_s (c : Dev nD) (t : Fin (cfg0 (F := Ideal)).N) (σ : St sig (Elt Ideal)) (h : (rd₀ m c).Finds 2 t (rdW 2 t σ)) (ht : t.val < 128) (a : Fin 256) :
    rd (bufs t).arg3 σ (ix3 0 0 a) = (D m c).s (256 * t.val + a) := by
  obtain ⟨d, e⟩ := in_block m c t σ 2 rfl (by decide) (fun _ _ => rfl) h
  refine (congrFun e (ix3 0 0 a)).trans ?_
  refine Eq.trans ?_ (fn2_of (r := 256 * t.val + a) (l := 0) (fun (a : Fin 32768) (_ : Fin 1) => (m ((c : Thread nD τ).loc main_arg1) : S32768x1.Idx → EReal) (ix2 a 0)) ⟨256 * t.val + a, by omega⟩ 0 rfl rfl).symm
  refine Eq.trans (b := (V₀ m c (Proc.devRef .tc main_v0) : S128x1x256.Idx → EReal) (ix3 ⟨t.val, ht⟩ 0 a)) ?_ ?_
  · show V₀ m c (Proc.devRef .tc main_v0) (((win0_2).blk t).view.emb (ix3 0 0 a)) = _
    congr 1
    blk_ext [index2]
  · rw [v0_eq]
    pointwise
    congr 2
    exact Fin.ext (by show t.val * 256 + a.val = 256 * t.val + a.val; omega)

theorem index3 : ∀ t : Fin grid0.N, win0_3.index t = ![0, 0] := by decide +kernel
theorem index4 : ∀ t : Fin grid0.N, win0_4.index t = ![0, 0] := by decide +kernel
theorem index0 : ∀ t : Fin grid0.N, win0_0.index t = ![0] := by decide +kernel

theorem rd_w (c : Dev nD) (t : Fin (cfg0 (F := Ideal)).N) (σ : St sig (Elt Ideal)) (h : (rd₀ m c).Finds 3 t (rdW 3 t σ)) (k : Fin 4) (b : Fin 3328) :
    rd (bufs t).arg4 σ (ix2 k b) = (D m c).w k b := by
  obtain ⟨d, e⟩ := in_block m c t σ 3 rfl (by decide) (fun _ _ => rfl) h
  refine (congrFun e (ix2 k b)).trans ?_
  refine Eq.trans ?_ (fn2_of (r := k) (l := b) (fun (k : Fin 4) (b : Fin 3328) => (m ((c : Thread nD τ).loc main_arg3) : S3328x4.Idx → EReal) (ix2 b k)) k b rfl rfl).symm
  refine Eq.trans ?_ (v1_eq m c k b)
  show V₀ m c (Proc.devRef .tc main_v1) (((win0_3).blk t).view.emb (ix2 k b)) = _
  congr 1
  blk_ext [index3]

theorem rd_b (c : Dev nD) (t : Fin (cfg0 (F := Ideal)).N) (σ : St sig (Elt Ideal)) (h : (rd₀ m c).Finds 4 t (rdW 4 t σ)) (b : Fin 3328) :
    rd (bufs t).arg5 σ (ix2 0 b) = (D m c).bias b := by
  obtain ⟨d, e⟩ := in_block m c t σ 4 rfl (by decide) (fun _ _ => rfl) h
  refine (congrFun e (ix2 0 b)).trans ?_
  refine Eq.trans ?_ (fn2_of (r := 0) (l := b) (fun (_ : Fin 1) (b : Fin 3328) => (m ((c : Thread nD τ).loc main_arg4) : S3328.Idx → EReal) (ix1 b)) 0 b rfl rfl).symm
  refine Eq.trans (b := (V₀ m c (Proc.devRef .tc main_v2) : S1x3328.Idx → EReal) (ix2 0 b)) ?_ ?_
  · show V₀ m c (Proc.devRef .tc main_v2) (((win0_4).blk t).view.emb (ix2 0 b)) = _
    congr 1
    blk_ext [index4]
  · rw [v2_eq]
    exact ValueIdx.shapeCast_a_1a_apply _ _ _ _

theorem rd_cu (c : Dev nD) (t : Fin (cfg0 (F := Ideal)).N) (σ : St sig (Elt Ideal)) (h : (rd₀ m c).Finds 0 t (rdW 0 t σ)) :
    rd (bufs t).arg1 σ = cuOf m c := by
  obtain ⟨d, e⟩ := in_block m c t σ 0 rfl (by decide) (fun _ _ => rfl) h
  refine Eq.trans e ?_
  funext x
  show V₀ m c (Proc.devRef .tc main_arg2) (((win0_0).blk t).view.emb x) = m ((c : Thread nD τ).loc main_arg2) x
  rw [V₀_of_ne m c main_arg2 (by decide) (by decide) (by decide)]
  congr 1
  blk_ext [index0]

theorem Inv.congr {D : Ins} {cu : S25.Idx → BitVec 32} {k : ℕ} {σ σ' : St sig (Elt Ideal)} (h : ∀ b ∈ scratchL, σ' b = σ b)
    (hI : Inv (Memref.whole cc0_scratch0) (Memref.whole cc0_scratch1) (Memref.whole cc0_scratch2) (Memref.whole cc0_scratch3) (Memref.whole cc0_scratch4) (Memref.whole cc0_scratch5) (Memref.whole cc0_scratch11) D cu k σ) : Inv (Memref.whole cc0_scratch0) (Memref.whole cc0_scratch1) (Memref.whole cc0_scratch2) (Memref.whole cc0_scratch3) (Memref.whole cc0_scratch4) (Memref.whole cc0_scratch5) (Memref.whole cc0_scratch11) D cu k σ' := by
  have e0 := rd_congr (Memref.whole cc0_scratch0) (h cc0_scratch0 (by decide))
  have e1 := rd_congr (Memref.whole cc0_scratch1) (h cc0_scratch1 (by decide))
  have e2 := rd_congr (Memref.whole cc0_scratch2) (h cc0_scratch2 (by decide))
  have e3 := rd_congr (Memref.whole cc0_scratch3) (h cc0_scratch3 (by decide))
  have e4 := rd_congr (Memref.whole cc0_scratch4) (h cc0_scratch4 (by decide))
  have e5 := rd_congr (Memref.whole cc0_scratch5) (h cc0_scratch5 (by decide))
  have e11 := rd_congr (Memref.whole cc0_scratch11) (h cc0_scratch11 (by decide))
  exact ⟨by rw [e11]; exact hI.ptr, by rw [e4]; exact hI.rhs, by rw [e5]; exact hI.bias, by rw [e0]; exact hI.e, by rw [e1]; exact hI.b, by rw [e2]; exact hI.z, by rw [e3]; exact hI.m⟩

theorem aft_of {c : Dev nD} {t : Fin (cfg0 (F := Ideal)).N} {σ σ' : St sig (Elt Ideal)}
    (hk : rd (bufs t).arg1 σ' = rd (bufs t).arg1 σ ∧ rd (bufs t).arg2 σ' = rd (bufs t).arg2 σ ∧ rd (bufs t).arg3 σ' = rd (bufs t).arg3 σ
      ∧ rd (bufs t).arg4 σ' = rd (bufs t).arg4 σ ∧ rd (bufs t).arg5 σ' = rd (bufs t).arg5 σ)
    (ho : t.val ≠ 0 → ∀ a : Fin 256, Ok (cuOf m c) (256 * (t.val - 1) + a) → rd (bufs t).arg7 σ' (ix3 0 0 a) = (D m c).scale (256 * (t.val - 1) + a)
      ∧ ∀ b : Fin 3328, rd (bufs t).arg6 σ' (ix2 a b) = (D m c).code (256 * (t.val - 1) + a) b) (w : Fin 9) :
    aft m c w t (rdW w t σ) (rdW w t σ') := by
  refine ⟨fun hw => ?_, ?_, ?_⟩
  · match w, hw with
    | ⟨0, _⟩, _ => exact hk.1
    | ⟨1, _⟩, _ => exact hk.2.1
    | ⟨2, _⟩, _ => exact hk.2.2.1
    | ⟨3, _⟩, _ => exact hk.2.2.2.1
    | ⟨4, _⟩, _ => exact hk.2.2.2.2
    | ⟨k + 5, _⟩, hw => exact absurd hw (by simp)
  · rintro rfl h0 a b hok
    exact (ho h0 a hok).2 b
  · rintro rfl h0 a hok
    exact (ho h0 a hok).1

/-- The body at any point. -/
theorem body_val (c : Dev nD) (t : Fin (cfg0 (F := Ideal)).N) (σ : St sig (Elt Ideal)) (hI : I m t.val σ)
    (hF : ∀ w, (rd₀ m c).Finds w t (rdW w t σ)) :
    Runs (UR sig nD τ) (defs₀ (F := Ideal)) 𝒱₀ c none (heldL t) σ (bodyAt0 t) fun _ σ' => I m (t.val + 1) σ' ∧ ∀ w, aft m c w t (rdW w t σ) (rdW w t σ') := by
  have hc : ∀ c' : Dev nD, c' = c := fun c' => Subsingleton.elim _ _
  by_cases h0 : t.val = 0
  · refine Runs.mono (step_zero (D := D m c) (cu := cuOf m c) (bufs t) (grid0.coords t) (cond1_zero t h0) ((coord_eq t).trans h0) (rd_w m c t σ (hF 3)) (rd_b m c t σ (hF 4))
      (fun a b => ?_) (fun a => ?_) (rd_cu m c t σ (hF 0))) fun _ σ' h => ⟨.inr fun c' => ?_, aft_of m h.2 fun hne => absurd h0 hne⟩
    · rw [rd_x m c t σ (hF 1) (by omega), h0, Nat.mul_zero, Nat.zero_add]
    · rw [rd_s m c t σ (hF 2) (by omega), h0, Nat.mul_zero, Nat.zero_add]
    · rw [hc c', h0]
      exact h.1
  · have ht : t.val < 129 := t.isLt
    refine Runs.mono (step_next (D := D m c) (cu := cuOf m c) (bufs t) (grid0.coords t) (cond1_pos t h0) (coord_eq t) ht h0 ((hI.resolve_left h0) c)
      (rd_x m c t σ (hF 1)) (rd_s m c t σ (hF 2)) (rd_cu m c t σ (hF 0))) fun _ σ' h => ⟨.inr fun c' => ?_, aft_of m h.2.1 fun _ => h.2.2⟩
    rw [hc c']
    exact h.1

theorem index5 : ∀ t : Fin grid0.N, win0_5.index t = ![t.val - 1, 0] := by decide +kernel
theorem index6 : ∀ t : Fin grid0.N, win0_6.index t = ![t.val - 1, 0, 0] := by decide +kernel
theorem flush5 : ∀ t : Fin grid0.N, win0_5.flush t = true → t.val ≠ 0 := by decide +kernel
theorem flush6 : ∀ t : Fin grid0.N, win0_6.flush t = true → t.val ≠ 0 := by decide +kernel

/-- The run: the arguments end as they began, and in every row with no sequence start near the first two results are the row's
    codes and its scale. -/
theorem run_val (g : Dev nD → PrngReg) :
    θ_run (defs (F := Ideal)) (onTc (τ := τ) (main (F := Ideal))) ⟨m, fun _ => 0, g⟩ fun r => ∀ c : Dev nD,
      (∀ (a : Fin 32768) (b : Fin 3328), Ok (cuOf m c) a → (r.2.mem ((c : Thread nD τ).loc main_v3_0) : S32768x3328.Idx → EReal) (ix2 a b) = (D m c).code a b)
      ∧ (∀ (k : Fin 128) (a : Fin 256), Ok (cuOf m c) (256 * k + a) → (r.2.mem ((c : Thread nD τ).loc main_v3_1) : S128x1x256.Idx → EReal) (ix3 k 0 a) = (D m c).scale (256 * k + a))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run (defs (F := Ideal)) _ _).mono (fun r h c => ?_)
    (run_main (I m) (fun _ => aft m) m g (fun k σ σ' h hi => hi.imp id fun hi c => (hi c).congr h) (fun _ => .inl rfl) (fun c t σ hI hF => body_val m c t σ hI hF))
  obtain ⟨after, hL, hA⟩ := RDat.FramePostR.exists_exact h.1 c
  have h5 : ∀ i : S32768x3328.Idx, Ok (cuOf m c) (i 0).val → (r.2.mem ((c : Thread nD τ).loc main_v3_0) : S32768x3328.Idx → EReal) i = (D m c).code (i 0).val (i 1).val := by
    intro i
    rw [show r.2.mem ((c : Thread nD τ).loc main_v3_0) = _ from hA 5]
    refine (RDat.withAfter (rd₀ m c) after).arrAt_forall_of_covers 5 (fun (i : S32768x3328.Idx) v => Ok (cuOf m c) (i 0).val → v = (D m c).code (i 0).val (i 1).val) (by decide +kernel) (fun t hf y => ?_) i
    have h0 := flush5 t hf
    obtain ⟨Y, -, hY⟩ := hL 5 t hf
    have hw := hY.2.1 rfl h0
    intro hok
    have e0 : ((((cfg0 (F := Ideal)).win 5).blk t).view.emb y 0).val = 256 * (t.val - 1) + (y 0).val := by
      blk_simp [index5]
      simp
      omega
    have e1 : ((((cfg0 (F := Ideal)).win 5).blk t).view.emb y 1).val = (y 1).val := by
      blk_simp [index5]
    rw [e0] at hok
    rw [e0, e1]
    refine Eq.trans ?_ (hw ⟨(y 0).val, (y 0).isLt⟩ ⟨(y 1).val, (y 1).isLt⟩ hok)
    refine congrArg (after 5 t : S256x3328.Idx → EReal) (funext fun a => ?_)
    match a with
    | ⟨0, _⟩ => rfl
    | ⟨1, _⟩ => rfl
  have h6 : ∀ i : S128x1x256.Idx, Ok (cuOf m c) (256 * (i 0).val + (i 2).val) → (r.2.mem ((c : Thread nD τ).loc main_v3_1) : S128x1x256.Idx → EReal) i = (D m c).scale (256 * (i 0).val + (i 2).val) := by
    intro i
    rw [show r.2.mem ((c : Thread nD τ).loc main_v3_1) = _ from hA 6]
    refine (RDat.withAfter (rd₀ m c) after).arrAt_forall_of_covers 6 (fun (i : S128x1x256.Idx) v => Ok (cuOf m c) (256 * (i 0).val + (i 2).val) → v = (D m c).scale (256 * (i 0).val + (i 2).val)) (by decide +kernel) (fun t hf y => ?_) i
    have h0 := flush6 t hf
    obtain ⟨Y, -, hY⟩ := hL 6 t hf
    have hw := hY.2.2 rfl h0
    intro hok
    have e0 : ((((cfg0 (F := Ideal)).win 6).blk t).view.emb y 0).val = t.val - 1 := by
      blk_simp [index6]
    have e2 : ((((cfg0 (F := Ideal)).win 6).blk t).view.emb y 2).val = (y 2).val := by
      blk_simp [index6]
    rw [e0, e2] at hok
    rw [e0, e2]
    refine Eq.trans ?_ (hw ⟨(y 2).val, (y 2).isLt⟩ hok)
    refine congrArg (after 6 t : S1x1x256.Idx → EReal) (funext fun a => ?_)
    match a with
    | ⟨0, _⟩ => exact Fin.ext (by have := (y 0).isLt; show (y 0).val = 0; exact Nat.lt_one_iff.1 this)
    | ⟨1, _⟩ => exact Fin.ext (by have := (y 1).isLt; show (y 1).val = 0; exact Nat.lt_one_iff.1 this)
    | ⟨2, _⟩ => rfl
  exact ⟨fun a b hok => h5 (ix2 a b) hok, fun k a hok => h6 (ix3 k 0 a) hok, args_of h.1 c⟩

end Cert.Proof.KernelIdeal
-- ==== Proof.Algebraic.lean ====
/-
  The value claim: the kernel over the extended reals and the reference give the same codes and the same scales in every row
  where the mask is set.
-/
module

public import proofs.«01_k».proof.Defs
public import proofs.«01_k».proof.Proof.Mask
public import proofs.«01_k».proof.Proof.RI.Run
public import proofs.«01_k».proof.Proof.KernelIdeal.Grid
@[expose] public section

noncomputable section

namespace Cert.Proof

open Idealize.ShloMosaic Idealize.SL.Sem Idealize.ShloMosaic.TcCoe
open Cert.Proof.KernelIdeal (Ins Ok insOf fn2 fn2_of D cuOf)

/-- From any memory, and for a reference run on the same arguments: both runs end with the same codes and scales where the
    mask is set, and leave their arguments as they were. -/
theorem algebraic : Cert.algebraic_KernelIdeal_ReferenceIdeal_on_past_starts (hKernelIdeal := Cert.KernelIdeal.Gen.facts)
    (hReferenceIdeal := Cert.ReferenceIdeal.Gen.facts) (hOn_past_starts := Mask.onFacts) := by
  letI := Mask.onFacts
  intro m g m' g' _ harg
  refine ⟨fun c => (fun i => (D m c).code (i 0).val (i 1).val : Cert.KernelIdeal.S32768x3328.Idx → EReal),
    fun c => (fun i => (D m c).scale (256 * (i 0).val + (i 2).val) : Cert.KernelIdeal.S128x1x256.Idx → EReal),
    fun c => m ((c.tc : Thread Cert.KernelIdeal.nD Cert.KernelIdeal.τ).loc Cert.KernelIdeal.main_v6),
    fun c => m ((c.tc : Thread Cert.KernelIdeal.nD Cert.KernelIdeal.τ).loc Cert.KernelIdeal.main_v7), ?_, ?_⟩
  · refine (θ_run _ _ _).mono (fun r h c => ?_) (KernelIdeal.run_val m g)
    obtain ⟨h0, h1, h2⟩ := h c
    refine ⟨fun i hi => ?_, fun i hi => ?_, fun i hi => (Mask.fn3 _ _ _ _ _ i hi).elim, fun i hi => (Mask.fn4 _ _ _ _ _ i hi).elim, h2⟩
    · obtain ⟨a, b, rfl⟩ : ∃ (a : Fin 32768) (b : Fin 3328), i = ix2 a b := ⟨i 0, i 1, by funext a; match a with | ⟨0, _⟩ => rfl | ⟨1, _⟩ => rfl⟩
      exact h0 a b (Mask.fn1 _ _ _ _ _ _ hi)
    · obtain ⟨k, a, rfl⟩ : ∃ (k : Fin 128) (a : Fin 256), i = ix3 k 0 a := ⟨i 0, i 2, by
        funext a; match a with | ⟨0, _⟩ => rfl | ⟨1, _⟩ => exact Fin.ext (Nat.lt_one_iff.1 (i 1).isLt) | ⟨2, _⟩ => rfl⟩
      exact h1 k a (Mask.fn2 _ _ _ _ _ _ _ hi)
  · refine (θ_run _ _ _).mono (fun r h c => ?_) (RI.run_val m' g' (fun c => D m c) ?_ ?_ ?_ ?_)
    · obtain ⟨h0, h1, h2⟩ := h c
      rw [(harg c).2.2.1] at h0 h1
      refine ⟨fun i hi => ?_, fun i hi => ?_, fun i hi => (Mask.fn3 _ _ _ _ _ i hi).elim, fun i hi => (Mask.fn4 _ _ _ _ _ i hi).elim, h2⟩
      · obtain ⟨a, b, rfl⟩ : ∃ (a : Fin 32768) (b : Fin 3328), i = ix2 a b := ⟨i 0, i 1, by funext a; match a with | ⟨0, _⟩ => rfl | ⟨1, _⟩ => rfl⟩
        exact h0 a b (Mask.fn1 _ _ _ _ _ _ hi)
      · obtain ⟨k, a, rfl⟩ : ∃ (k : Fin 128) (a : Fin 256), i = ix3 k 0 a := ⟨i 0, i 2, by
          funext a; match a with | ⟨0, _⟩ => rfl | ⟨1, _⟩ => exact Fin.ext (Nat.lt_one_iff.1 (i 1).isLt) | ⟨2, _⟩ => rfl⟩
        exact h1 k a (Mask.fn2 _ _ _ _ _ _ _ hi)
    · intro c r b
      rw [(harg c).1]
      exact (fn2_of (r := r.val) (l := b.val) (fun (a : Fin 32768) (b : Fin 3328) => (m (c.tc.loc Cert.KernelIdeal.main_arg0) : Cert.KernelIdeal.S32768x3328.Idx → EReal) (ix2 a b)) r b rfl rfl).symm
    · intro c r
      rw [(harg c).2.1]
      exact (fn2_of (r := r.val) (l := 0) (fun (a : Fin 32768) (_ : Fin 1) => (m (c.tc.loc Cert.KernelIdeal.main_arg1) : Cert.KernelIdeal.S32768x1.Idx → EReal) (ix2 a 0)) r (0 : Fin 1) rfl rfl).symm
    · intro c k b
      rw [(harg c).2.2.2.1]
      exact (fn2_of (r := k.val) (l := b.val) (fun (k : Fin 4) (b : Fin 3328) => (m (c.tc.loc Cert.KernelIdeal.main_arg3) : Cert.KernelIdeal.S3328x4.Idx → EReal) (ix2 b k)) k b rfl rfl).symm
    · intro c b
      rw [(harg c).2.2.2.2]
      exact (fn2_of (r := 0) (l := b.val) (fun (_ : Fin 1) (b : Fin 3328) => (m (c.tc.loc Cert.KernelIdeal.main_arg4) : Cert.KernelIdeal.S3328.Idx → EReal) (ix1 b)) (0 : Fin 1) b rfl rfl).symm

end Cert.Proof
-- ==== Proof.lean ====
/-
  The proof of the claim: the three programs' frames, the rewritings between the kernel and its reading over the reals, and
  that reading's agreement with the reference.
-/
module

public import proofs.«01_k».proof.Defs
public import proofs.«01_k».proof.Proof.Kernel.Frame
public import proofs.«01_k».proof.Proof.KernelIdeal.Frame
public import proofs.«01_k».proof.Proof.Algebraic
public import Idealize.ShloMosaic.Lib.Bf16PairInverse
public import proofs.«01_k».proof.Proof.Gen.ReferenceIdeal.Frame

@[expose] public section

noncomputable section

namespace Cert.Proof

open Idealize.ShloMosaic Idealize.SL.Sem

/-- Each place at which the two programs differ, as its rule's statement at the shapes of that place. -/
theorem preserves : Cert.preserves_Kernel_KernelIdeal :=
  open Cert.KernelIdeal IdealRules.bf16_pair in
  ⟨bufferStatement S3536x2x128 S3536x1x128, bufferStatement S128x2x128 S128x1x128, statement S8x2x128 S8x1x128,
    selectZeroStatement S8x128, statement S256x128 S128x128, statement S128x2x128 S128x1x128, statement S26x2x128 S26x1x128,
    statement S52x128 S26x128⟩

theorem claim : Cert.Claim :=
  ⟨Cert.Kernel.Gen.facts, Cert.KernelIdeal.Gen.facts, Cert.ReferenceIdeal.Gen.facts, Mask.onFacts, fun m g _ => Cert.Proof.Kernel.frame m g,
    fun m g _ => Cert.Proof.KernelIdeal.frame m g, fun m g _ => Cert.ReferenceIdeal.Gen.frame m g, preserves, algebraic⟩

end Cert.Proof

end
